-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_distinct_pages [hPre_distinct_pages : Cert.Pre_distinct_pages.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_pages.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_pages [hPre_distinct_pages : Cert.Pre_distinct_pages.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_pages.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_distinct_pages [hKernelIdeal : Cert.KernelIdeal.Facts] [hPre_distinct_pages : Cert.Pre_distinct_pages.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_pages m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_distinct_pages [hReferenceIdeal : Cert.ReferenceIdeal.Facts] [hPre_distinct_pages : Cert.Pre_distinct_pages.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_pages m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_distinct_pages [hKernelIdeal : Cert.KernelIdeal.Facts] [hReferenceIdeal : Cert.ReferenceIdeal.Facts] [hPre_distinct_pages : Cert.Pre_distinct_pages.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_pages m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_arg5)) (v3 : (c : Dev Cert.KernelIdeal.nD) → Buf (Elt Ideal) ((c.tc : Thread Cert.KernelIdeal.nD Cert.KernelIdeal.τ).loc Cert.KernelIdeal.main_v6_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_v6_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts) (hPre_distinct_pages : Cert.Pre_distinct_pages.Facts),
    quiescent_Kernel (hKernel := hKernel) (hPre_in_range := hPre_in_range)
    ∧ quiescent_KernelIdeal (hKernelIdeal := hKernelIdeal) (hPre_in_range := hPre_in_range)
    ∧ quiescent_KernelIdeal_pre_distinct_pages (hKernelIdeal := hKernelIdeal) (hPre_distinct_pages := hPre_distinct_pages)
    ∧ quiescent_ReferenceIdeal (hReferenceIdeal := hReferenceIdeal)
    ∧ quiescent_ReferenceIdeal_pre_distinct_pages (hReferenceIdeal := hReferenceIdeal) (hPre_distinct_pages := hPre_distinct_pages)
    ∧ preserves_Kernel_KernelIdeal
    ∧ algebraic_KernelIdeal_ReferenceIdeal_pre_distinct_pages (hKernelIdeal := hKernelIdeal) (hReferenceIdeal := hReferenceIdeal) (hPre_distinct_pages := hPre_distinct_pages)
-- ==== Pre_distinct_pages.lean ====
abbrev S1x4x8192 : Shape := ⟨3, ![1, 4, 8192]⟩
abbrev S1x4x2x256 : Shape := ⟨4, ![1, 4, 2, 256]⟩
abbrev S512x128x2x256 : Shape := ⟨4, ![512, 128, 2, 256]⟩
abbrev S2 : Shape := ⟨1, ![2]⟩
abbrev S1x512 : Shape := ⟨2, ![1, 512]⟩
abbrev S1 : Shape := ⟨1, ![1]⟩
abbrev S512 : Shape := ⟨1, ![512]⟩
abbrev S_ : Shape := ⟨0, ![]⟩
abbrev S512x1 : Shape := ⟨2, ![512, 1]⟩
abbrev S512x512 : Shape := ⟨2, ![512, 512]⟩

class Facts : Prop where
  shapeCasts_S1x512_S512 : S1x512.ShapeCasts S512
  bcast_S_S1x512 : S_.BroadcastsInDim S1x512 (![] : Fin 0 → Fin S1x512.rank)
  shapeCasts_S1_S_ : S1.ShapeCasts S_
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)

variable [Facts]

def fn_part1 {F : FTy → Type} [FloatOps F] (main_v1 : IVec S512 32) (main_v14 : IVec S1x512 1) (main_v19 : IVec S512x512 1) : IVec S512x512 1 :=
  let main_v20 : IVec S512x1 32 := broadcastInDim S512x1 ![0] bcast_S512_S512x1_0 main_v1
  let main_v21 : IVec S1x512 32 := broadcastInDim S1x512 ![1] bcast_S512_S1x512_1 main_v1
  let main_v22 : IVec S512x512 32 := broadcastInDim S512x512 ![0, 1] bcast_S512x1_S512x512_0_1 main_v20
  let main_v23 : IVec S512x512 32 := broadcastInDim S512x512 ![0, 1] bcast_S1x512_S512x512_0_1 main_v21
  let main_v24 : IVec S512x512 1 := cmpi .eq main_v22 main_v23
  let main_v25 : IVec S512x512 1 := ori main_v19 main_v24
  let main_v26 : IVec S512x512 1 := broadcastInDim S512x512 ![0, 1] bcast_S1x512_S512x512_0_1 main_v14
  let main_v27 : IVec S512x512 1 := andi main_v26 main_v25
  main_v27

def fn {F : FTy → Type} [FloatOps F] (main_arg0 : FVec F S1x4x8192 .bf16) (main_arg1 : FVec F S1x4x2x256 .bf16) (main_arg2 : FVec F S1x4x2x256 .bf16) (main_arg3 : FVec F S512x128x2x256 .fp8e4m3) (main_arg4 : FVec F S512x128x2x256 .fp8e4m3) (main_arg5 : FVec F S2 .f32) (main_arg6 : FVec F S2 .f32) (main_arg7 : IVec S1x512 32) (main_arg8 : IVec S1 32) : IVec S512x512 1 :=
  let main_v0 : IVec S512 32 := shapeCast S512 main_arg7 shapeCasts_S1x512_S512
  let main_v1 : IVec S512 32 := iotaInDim S512 32 0
  let main_c : IVec S_ 32 := constantI S_ 32 0#32
  let main_v2 : IVec S1x512 32 := broadcastInDim S1x512 ![] bcast_S_S1x512 main_c
  let main_v3 : IVec S1x512 1 := cmpi .sge main_arg7 main_v2
  let main_c_0 : IVec S_ 32 := constantI S_ 32 512#32
  let main_v4 : IVec S1x512 32 := broadcastInDim S1x512 ![] bcast_S_S1x512 main_c_0
  let main_v5 : IVec S1x512 1 := cmpi .slt main_arg7 main_v4
  let main_v6 : IVec S1x512 1 := andi main_v3 main_v5
  let main_v7 : IVec S_ 32 := shapeCast S_ main_arg8 shapeCasts_S1_S_
  let main_c_1 : IVec S_ 32 := constantI S_ 32 0#32
  let main_v8 : IVec S_ 1 := cmpi .sge main_v7 main_c_1
  let main_v9 : IVec S1x512 1 := broadcastInDim S1x512 ![] bcast_S_S1x512 main_v8
  let main_v10 : IVec S1x512 1 := andi main_v6 main_v9
  let main_v11 : IVec S_ 32 := shapeCast S_ main_arg8 shapeCasts_S1_S_
  let main_c_2 : IVec S_ 32 := constantI S_ 32 65532#32
  let main_v12 : IVec S_ 1 := cmpi .sle main_v11 main_c_2
  let main_v13 : IVec S1x512 1 := broadcastInDim S1x512 ![] bcast_S_S1x512 main_v12
  let main_v14 : IVec S1x512 1 := andi main_v10 main_v13
  let main_v15 : IVec S512x1 32 := broadcastInDim S512x1 ![0] bcast_S512_S512x1_0 main_v0
  let main_v16 : IVec S1x512 32 := broadcastInDim S1x512 ![1] bcast_S512_S1x512_1 main_v0
  let main_v17 : IVec S512x512 32 := broadcastInDim S512x512 ![0, 1] bcast_S512x1_S512x512_0_1 main_v15
  let main_v18 : IVec S512x512 32 := broadcastInDim S512x512 ![0, 1] bcast_S1x512_S512x512_0_1 main_v16
  let main_v19 : IVec S512x512 1 := cmpi .ne main_v17 main_v18
  fn_part1 (F := F) main_v1 main_v14 main_v19
-- ==== Pre_in_range.lean ====
abbrev S1x4x8192 : Shape := ⟨3, ![1, 4, 8192]⟩
abbrev S1x4x2x256 : Shape := ⟨4, ![1, 4, 2, 256]⟩
abbrev S512x128x2x256 : Shape := ⟨4, ![512, 128, 2, 256]⟩
abbrev S2 : Shape := ⟨1, ![2]⟩
abbrev S1x512 : Shape := ⟨2, ![1, 512]⟩
abbrev S1 : Shape := ⟨1, ![1]⟩
abbrev S_ : Shape := ⟨0, ![]⟩

class Facts : Prop where
  bcast_S_S1x512 : S_.BroadcastsInDim S1x512 (![] : Fin 0 → Fin S1x512.rank)
  shapeCasts_S1_S_ : S1.ShapeCasts S_

variable [Facts]

def fn {F : FTy → Type} [FloatOps F] (main_arg0 : FVec F S1x4x8192 .bf16) (main_arg1 : FVec F S1x4x2x256 .bf16) (main_arg2 : FVec F S1x4x2x256 .bf16) (main_arg3 : FVec F S512x128x2x256 .fp8e4m3) (main_arg4 : FVec F S512x128x2x256 .fp8e4m3) (main_arg5 : FVec F S2 .f32) (main_arg6 : FVec F S2 .f32) (main_arg7 : IVec S1x512 32) (main_arg8 : IVec S1 32) : IVec S1x512 1 :=
  let main_c : IVec S_ 32 := constantI S_ 32 0#32
  let main_v0 : IVec S1x512 32 := broadcastInDim S1x512 ![] bcast_S_S1x512 main_c
  let main_v1 : IVec S1x512 1 := cmpi .sge main_arg7 main_v0
  let main_c_0 : IVec S_ 32 := constantI S_ 32 512#32
  let main_v2 : IVec S1x512 32 := broadcastInDim S1x512 ![] bcast_S_S1x512 main_c_0
  let main_v3 : IVec S1x512 1 := cmpi .slt main_arg7 main_v2
  let main_v4 : IVec S1x512 1 := andi main_v1 main_v3
  let main_v5 : IVec S_ 32 := shapeCast S_ main_arg8 shapeCasts_S1_S_
  let main_c_1 : IVec S_ 32 := constantI S_ 32 0#32
  let main_v6 : IVec S_ 1 := cmpi .sge main_v5 main_c_1
  let main_v7 : IVec S1x512 1 := broadcastInDim S1x512 ![] bcast_S_S1x512 main_v6
  let main_v8 : IVec S1x512 1 := andi main_v4 main_v7
  let main_v9 : IVec S_ 32 := shapeCast S_ main_arg8 shapeCasts_S1_S_
  let main_c_2 : IVec S_ 32 := constantI S_ 32 65532#32
  let main_v10 : IVec S_ 1 := cmpi .sle main_v9 main_c_2
  let main_v11 : IVec S1x512 1 := broadcastInDim S1x512 ![] bcast_S_S1x512 main_v10
  let main_v12 : IVec S1x512 1 := andi main_v8 main_v11
  main_v12
-- ==== Kernel.lean ====
abbrev S1x4x8192 : Shape := ⟨3, ![1, 4, 8192]⟩
abbrev S1x4x2x256 : Shape := ⟨4, ![1, 4, 2, 256]⟩
abbrev S512x128x2x256 : Shape := ⟨4, ![512, 128, 2, 256]⟩
abbrev S2 : Shape := ⟨1, ![2]⟩
abbrev S1x512 : Shape := ⟨2, ![1, 512]⟩
abbrev S1 : Shape := ⟨1, ![1]⟩
abbrev S512 : Shape := ⟨1, ![512]⟩
abbrev S128x256 : Shape := ⟨2, ![128, 256]⟩
abbrev S8x256 : Shape := ⟨2, ![8, 256]⟩
abbrev S512x2x128x256 : Shape := ⟨4, ![512, 2, 128, 256]⟩
abbrev S4x8x2x128x256 : Shape := ⟨5, ![4, 8, 2, 128, 256]⟩
abbrev S2x64x1 : Shape := ⟨3, ![2, 64, 1]⟩
abbrev S2x64x256 : Shape := ⟨3, ![2, 64, 256]⟩
abbrev S4 : Shape := ⟨1, ![4]⟩
abbrev S_ : Shape := ⟨0, ![]⟩
abbrev S1x1x2x128x256 : Shape := ⟨5, ![1, 1, 2, 128, 256]⟩
abbrev S2x128x256 : Shape := ⟨3, ![2, 128, 256]⟩
abbrev S1x2x128x256 : Shape := ⟨4, ![1, 2, 128, 256]⟩
abbrev S8x1 : Shape := ⟨2, ![8, 1]⟩
abbrev S64x8 : Shape := ⟨2, ![64, 8]⟩
abbrev S16x256 : Shape := ⟨2, ![16, 256]⟩
abbrev S64x256 : Shape := ⟨2, ![64, 256]⟩
abbrev S1x64x1 : Shape := ⟨3, ![1, 64, 1]⟩
abbrev S64x1 : Shape := ⟨2, ![64, 1]⟩
abbrev S64 : Shape := ⟨1, ![64]⟩
abbrev S1x64x256 : Shape := ⟨3, ![1, 64, 256]⟩
abbrev S1x8x1x128x256 : Shape := ⟨5, ![1, 8, 1, 128, 256]⟩
abbrev S8x128x256 : Shape := ⟨3, ![8, 128, 256]⟩
abbrev S1024x256 : Shape := ⟨2, ![1024, 256]⟩
abbrev S1x256 : Shape := ⟨2, ![1, 256]⟩
abbrev S64x1024 : Shape := ⟨2, ![64, 1024]⟩
abbrev S1x1024 : Shape := ⟨2, ![1, 1024]⟩

abbrev nBuf : Space → Nat
  | .hbm => 18
  | .vmem => 11
  | .smem => 4
  | _ => 0

abbrev bufTy : (tb : Table) → Fin (tcTables nBuf tb) → BufTy
  | .hbm, ⟨0, _⟩ => ⟨S1x4x8192, .bf16⟩
  | .hbm, ⟨1, _⟩ => ⟨S1x4x2x256, .bf16⟩
  | .hbm, ⟨2, _⟩ => ⟨S1x4x2x256, .bf16⟩
  | .hbm, ⟨3, _⟩ => ⟨S512x128x2x256, .fp8e4m3⟩
  | .hbm, ⟨4, _⟩ => ⟨S512x128x2x256, .fp8e4m3⟩
  | .hbm, ⟨5, _⟩ => ⟨S2, .f32⟩
  | .hbm, ⟨6, _⟩ => ⟨S2, .f32⟩
  | .hbm, ⟨7, _⟩ => ⟨S1x512, .i32⟩
  | .hbm, ⟨8, _⟩ => ⟨S1, .i32⟩
  | .hbm, ⟨9, _⟩ => ⟨S512, .i32⟩
  | .hbm, ⟨10, _⟩ => ⟨S128x256, .bf16⟩
  | .hbm, ⟨11, _⟩ => ⟨S8x256, .bf16⟩
  | .hbm, ⟨12, _⟩ => ⟨S8x256, .bf16⟩
  | .hbm, ⟨13, _⟩ => ⟨S512x2x128x256, .fp8e4m3⟩
  | .hbm, ⟨14, _⟩ => ⟨S512x2x128x256, .fp8e4m3⟩
  | .hbm, ⟨15, _⟩ => ⟨S128x256, .bf16⟩
  | .hbm, ⟨16, _⟩ => ⟨S8x256, .fp8e4m3⟩
  | .hbm, ⟨17, _⟩ => ⟨S8x256, .fp8e4m3⟩
  | .local _ .vmem, ⟨0, _⟩ => ⟨S128x256, .bf16⟩
  | .local _ .vmem, ⟨1, _⟩ => ⟨S8x256, .bf16⟩
  | .local _ .vmem, ⟨2, _⟩ => ⟨S8x256, .bf16⟩
  | .local _ .vmem, ⟨3, _⟩ => ⟨S128x256, .bf16⟩
  | .local _ .vmem, ⟨4, _⟩ => ⟨S8x256, .fp8e4m3⟩
  | .local _ .vmem, ⟨5, _⟩ => ⟨S8x256, .fp8e4m3⟩
  | .local _ .vmem, ⟨6, _⟩ => ⟨S4x8x2x128x256, .fp8e4m3⟩
  | .local _ .vmem, ⟨7, _⟩ => ⟨S4x8x2x128x256, .fp8e4m3⟩
  | .local _ .vmem, ⟨8, _⟩ => ⟨S2x64x1, .f32⟩
  | .local _ .vmem, ⟨9, _⟩ => ⟨S2x64x1, .f32⟩
  | .local _ .vmem, ⟨10, _⟩ => ⟨S2x64x256, .f32⟩
  | .local _ .smem, ⟨0, _⟩ => ⟨S1, .i32⟩
  | .local _ .smem, ⟨1, _⟩ => ⟨S512, .i32⟩
  | .local _ .smem, ⟨2, _⟩ => ⟨S2, .f32⟩
  | .local _ .smem, ⟨3, _⟩ => ⟨S2, .f32⟩
  | _, _ => ⟨S1x4x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

def k0_off1 : Fin 1 → Nat :=
  let c0_i32_5 : BitVec 32 := 0#32
  let c8_i32_381 : BitVec 32 := 8#32
  let v620 : BitVec 32 := Scalar.muli c0_i32_5 c8_i32_381
  let c0_i32_382 : BitVec 32 := 0#32
  let v621 : BitVec 32 := Scalar.addi v620 c0_i32_382
  let v622 : Index := Scalar.indexCast v621
  ![v622.toNat]
def k0_off2 : Fin 1 → Nat :=
  let c0_i32_5 : BitVec 32 := 0#32
  let c4_i32_380 : BitVec 32 := 4#32
  let v619 : BitVec 32 := Scalar.remsi c0_i32_5 c4_i32_380
  ![v619.toNat]
def k0_off3 : Fin 5 → Nat :=
  let c0_i32_5 : BitVec 32 := 0#32
  let c4_i32_380 : BitVec 32 := 4#32
  let v619 : BitVec 32 := Scalar.remsi c0_i32_5 c4_i32_380
  let c0_i32_383 : BitVec 32 := 0#32
  let c0_i32_384 : BitVec 32 := 0#32
  let c0_i32_385 : BitVec 32 := 0#32
  let c0_i32_386 : BitVec 32 := 0#32
  ![v619.toNat, 0, 0, 0, 0]
def k0_off4 (v623 : BitVec 32) : Fin 4 → Nat :=
  let c0_i32_387 : BitVec 32 := 0#32
  let c0_i32_388 : BitVec 32 := 0#32
  let c0_i32_389 : BitVec 32 := 0#32
  ![v623.toNat, 0, 0, 0]
def k0_cond1 (v0 : BitVec 32) : BitVec 1 :=
  let c0_i32_4 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v18 : BitVec 1 := Scalar.cmpi .sle c0_i32_4 v17
  let v19 : BitVec 32 := Scalar.extui v18
  let c0_i32_6 : BitVec 32 := 0#32
  let v20 : BitVec 1 := Scalar.cmpi .ne v19 c0_i32_6
  v20

def k0_chk1 (v0 : BitVec 32) (v623 : BitVec 32) : Prop :=
  (∀ (k0_h1 : k0_cond1 v0 = 1#1), ∀ a, (k0_off4 v623) a + S1x2x128x256.size a ≤ S512x2x128x256.size a) ∧
  (∀ (k0_h1 : k0_cond1 v0 = 1#1), ∀ (hinb : ∀ a, (k0_off4 v623) a + S1x2x128x256.size a ≤ S512x2x128x256.size a), (Rect.unit (s := S512x2x128x256) (k0_off4 v623) S1x2x128x256.size hinb).WholeWords (EltTy.packing .fp8e4m3))
theorem k0_off4_inb : ∀ (v0 : BitVec 32) (v623 : BitVec 32) (k0_hw1 : k0_chk1 v0 v623), ∀ (k0_h1 : k0_cond1 v0 = 1#1), ∀ a, (k0_off4 v623) a + S1x2x128x256.size a ≤ S512x2x128x256.size a := fun v0 v623 k0_hw1 k0_h1 => k0_hw1.1 k0_h1
theorem k0_off4_wordsfp8e4m3 : ∀ (v0 : BitVec 32) (v623 : BitVec 32) (k0_hw1 : k0_chk1 v0 v623), ∀ (k0_h1 : k0_cond1 v0 = 1#1), (Rect.unit (s := S512x2x128x256) (k0_off4 v623) S1x2x128x256.size (k0_off4_inb v0 v623 k0_hw1 k0_h1)).WholeWords (EltTy.packing .fp8e4m3) := fun v0 v623 k0_hw1 k0_h1 => k0_hw1.2 k0_h1 (k0_off4_inb v0 v623 k0_hw1 k0_h1)

def k0_off5 : Fin 1 → Nat :=
  let c0_i32_5 : BitVec 32 := 0#32
  let c4_i32_380 : BitVec 32 := 4#32
  let v619 : BitVec 32 := Scalar.remsi c0_i32_5 c4_i32_380
  ![v619.toNat]
def k0_off6 : Fin 5 → Nat :=
  let c0_i32_5 : BitVec 32 := 0#32
  let c4_i32_380 : BitVec 32 := 4#32
  let v619 : BitVec 32 := Scalar.remsi c0_i32_5 c4_i32_380
  let c0_i32_390 : BitVec 32 := 0#32
  let c0_i32_391 : BitVec 32 := 0#32
  let c0_i32_392 : BitVec 32 := 0#32
  let c0_i32_393 : BitVec 32 := 0#32
  ![v619.toNat, 0, 0, 0, 0]
def k0_off7 : Fin 1 → Nat :=
  let c0_i32_5 : BitVec 32 := 0#32
  let c8_i32_397 : BitVec 32 := 8#32
  let v636 : BitVec 32 := Scalar.muli c0_i32_5 c8_i32_397
  let c1_i32_398 : BitVec 32 := 1#32
  let v637 : BitVec 32 := Scalar.addi v636 c1_i32_398
  let v638 : Index := Scalar.indexCast v637
  ![v638.toNat]
def k0_off8 : Fin 5 → Nat :=
  let c0_i32_5 : BitVec 32 := 0#32
  let c4_i32_380 : BitVec 32 := 4#32
  let v619 : BitVec 32 := Scalar.remsi c0_i32_5 c4_i32_380
  let c1_i32_399 : BitVec 32 := 1#32
  let c0_i32_400 : BitVec 32 := 0#32
  let c0_i32_401 : BitVec 32 := 0#32
  let c0_i32_402 : BitVec 32 := 0#32
  ![v619.toNat, 1, 0, 0, 0]
def k0_off9 (v639 : BitVec 32) : Fin 4 → Nat :=
  let c0_i32_403 : BitVec 32 := 0#32
  let c0_i32_404 : BitVec 32 := 0#32
  let c0_i32_405 : BitVec 32 := 0#32
  ![v639.toNat, 0, 0, 0]

def k0_chk2 (v0 : BitVec 32) (v639 : BitVec 32) : Prop :=
  (∀ (k0_h1 : k0_cond1 v0 = 1#1), ∀ a, (k0_off9 v639) a + S1x2x128x256.size a ≤ S512x2x128x256.size a) ∧
  (∀ (k0_h1 : k0_cond1 v0 = 1#1), ∀ (hinb : ∀ a, (k0_off9 v639) a + S1x2x128x256.size a ≤ S512x2x128x256.size a), (Rect.unit (s := S512x2x128x256) (k0_off9 v639) S1x2x128x256.size hinb).WholeWords (EltTy.packing .fp8e4m3))
theorem k0_off9_inb : ∀ (v0 : BitVec 32) (v639 : BitVec 32) (k0_hw2 : k0_chk2 v0 v639), ∀ (k0_h1 : k0_cond1 v0 = 1#1), ∀ a, (k0_off9 v639) a + S1x2x128x256.size a ≤ S512x2x128x256.size a := fun v0 v639 k0_hw2 k0_h1 => k0_hw2.1 k0_h1
theorem k0_off9_wordsfp8e4m3 : ∀ (v0 : BitVec 32) (v639 : BitVec 32) (k0_hw2 : k0_chk2 v0 v639), ∀ (k0_h1 : k0_cond1 v0 = 1#1), (Rect.unit (s := S512x2x128x256) (k0_off9 v639) S1x2x128x256.size (k0_off9_inb v0 v639 k0_hw2 k0_h1)).WholeWords (EltTy.packing .fp8e4m3) := fun v0 v639 k0_hw2 k0_h1 => k0_hw2.2 k0_h1 (k0_off9_inb v0 v639 k0_hw2 k0_h1)

def k0_off10 : Fin 1 → Nat :=
  let c0_i32_5 : BitVec 32 := 0#32
  let c4_i32_380 : BitVec 32 := 4#32
  let v619 : BitVec 32 := Scalar.remsi c0_i32_5 c4_i32_380
  ![v619.toNat]
def k0_off11 : Fin 5 → Nat :=
  let c0_i32_5 : BitVec 32 := 0#32
  let c4_i32_380 : BitVec 32 := 4#32
  let v619 : BitVec 32 := Scalar.remsi c0_i32_5 c4_i32_380
  let c1_i32_406 : BitVec 32 := 1#32
  let c0_i32_407 : BitVec 32 := 0#32
  let c0_i32_408 : BitVec 32 := 0#32
  let c0_i32_409 : BitVec 32 := 0#32
  ![v619.toNat, 1, 0, 0, 0]
def k0_off12 : Fin 1 → Nat :=
  let c0_i32_5 : BitVec 32 := 0#32
  let c8_i32_413 : BitVec 32 := 8#32
  let v652 : BitVec 32 := Scalar.muli c0_i32_5 c8_i32_413
  let c2_i32_414 : BitVec 32 := 2#32
  let v653 : BitVec 32 := Scalar.addi v652 c2_i32_414
  let v654 : Index := Scalar.indexCast v653
  ![v654.toNat]
def k0_off13 : Fin 5 → Nat :=
  let c0_i32_5 : BitVec 32 := 0#32
  let c4_i32_380 : BitVec 32 := 4#32
  let v619 : BitVec 32 := Scalar.remsi c0_i32_5 c4_i32_380
  let c2_i32_415 : BitVec 32 := 2#32
  let c0_i32_416 : BitVec 32 := 0#32
  let c0_i32_417 : BitVec 32 := 0#32
  let c0_i32_418 : BitVec 32 := 0#32
  ![v619.toNat, 2, 0, 0, 0]
def k0_off14 (v655 : BitVec 32) : Fin 4 → Nat :=
  let c0_i32_419 : BitVec 32 := 0#32
  let c0_i32_420 : BitVec 32 := 0#32
  let c0_i32_421 : BitVec 32 := 0#32
  ![v655.toNat, 0, 0, 0]

def k0_chk3 (v0 : BitVec 32) (v655 : BitVec 32) : Prop :=
  (∀ (k0_h1 : k0_cond1 v0 = 1#1), ∀ a, (k0_off14 v655) a + S1x2x128x256.size a ≤ S512x2x128x256.size a) ∧
  (∀ (k0_h1 : k0_cond1 v0 = 1#1), ∀ (hinb : ∀ a, (k0_off14 v655) a + S1x2x128x256.size a ≤ S512x2x128x256.size a), (Rect.unit (s := S512x2x128x256) (k0_off14 v655) S1x2x128x256.size hinb).WholeWords (EltTy.packing .fp8e4m3))
theorem k0_off14_inb : ∀ (v0 : BitVec 32) (v655 : BitVec 32) (k0_hw3 : k0_chk3 v0 v655), ∀ (k0_h1 : k0_cond1 v0 = 1#1), ∀ a, (k0_off14 v655) a + S1x2x128x256.size a ≤ S512x2x128x256.size a := fun v0 v655 k0_hw3 k0_h1 => k0_hw3.1 k0_h1
theorem k0_off14_wordsfp8e4m3 : ∀ (v0 : BitVec 32) (v655 : BitVec 32) (k0_hw3 : k0_chk3 v0 v655), ∀ (k0_h1 : k0_cond1 v0 = 1#1), (Rect.unit (s := S512x2x128x256) (k0_off14 v655) S1x2x128x256.size (k0_off14_inb v0 v655 k0_hw3 k0_h1)).WholeWords (EltTy.packing .fp8e4m3) := fun v0 v655 k0_hw3 k0_h1 => k0_hw3.2 k0_h1 (k0_off14_inb v0 v655 k0_hw3 k0_h1)

def k0_off15 : Fin 1 → Nat :=
  let c0_i32_5 : BitVec 32 := 0#32
  let c4_i32_380 : BitVec 32 := 4#32
  let v619 : BitVec 32 := Scalar.remsi c0_i32_5 c4_i32_380
  ![v619.toNat]
def k0_off16 : Fin 5 → Nat :=
  let c0_i32_5 : BitVec 32 := 0#32
  let c4_i32_380 : BitVec 32 := 4#32
  let v619 : BitVec 32 := Scalar.remsi c0_i32_5 c4_i32_380
  let c2_i32_422 : BitVec 32 := 2#32
  let c0_i32_423 : BitVec 32 := 0#32
  let c0_i32_424 : BitVec 32 := 0#32
  let c0_i32_425 : BitVec 32 := 0#32
  ![v619.toNat, 2, 0, 0, 0]
def k0_off17 : Fin 1 → Nat :=
  let c0_i32_5 : BitVec 32 := 0#32
  let c8_i32_429 : BitVec 32 := 8#32
  let v668 : BitVec 32 := Scalar.muli c0_i32_5 c8_i32_429
  let c3_i32_430 : BitVec 32 := 3#32
  let v669 : BitVec 32 := Scalar.addi v668 c3_i32_430
  let v670 : Index := Scalar.indexCast v669
  ![v670.toNat]
def k0_off18 : Fin 5 → Nat :=
  let c0_i32_5 : BitVec 32 := 0#32
  let c4_i32_380 : BitVec 32 := 4#32
  let v619 : BitVec 32 := Scalar.remsi c0_i32_5 c4_i32_380
  let c3_i32_431 : BitVec 32 := 3#32
  let c0_i32_432 : BitVec 32 := 0#32
  let c0_i32_433 : BitVec 32 := 0#32
  let c0_i32_434 : BitVec 32 := 0#32
  ![v619.toNat, 3, 0, 0, 0]
def k0_off19 (v671 : BitVec 32) : Fin 4 → Nat :=
  let c0_i32_435 : BitVec 32 := 0#32
  let c0_i32_436 : BitVec 32 := 0#32
  let c0_i32_437 : BitVec 32 := 0#32
  ![v671.toNat, 0, 0, 0]

def k0_chk4 (v0 : BitVec 32) (v671 : BitVec 32) : Prop :=
  (∀ (k0_h1 : k0_cond1 v0 = 1#1), ∀ a, (k0_off19 v671) a + S1x2x128x256.size a ≤ S512x2x128x256.size a) ∧
  (∀ (k0_h1 : k0_cond1 v0 = 1#1), ∀ (hinb : ∀ a, (k0_off19 v671) a + S1x2x128x256.size a ≤ S512x2x128x256.size a), (Rect.unit (s := S512x2x128x256) (k0_off19 v671) S1x2x128x256.size hinb).WholeWords (EltTy.packing .fp8e4m3))
theorem k0_off19_inb : ∀ (v0 : BitVec 32) (v671 : BitVec 32) (k0_hw4 : k0_chk4 v0 v671), ∀ (k0_h1 : k0_cond1 v0 = 1#1), ∀ a, (k0_off19 v671) a + S1x2x128x256.size a ≤ S512x2x128x256.size a := fun v0 v671 k0_hw4 k0_h1 => k0_hw4.1 k0_h1
theorem k0_off19_wordsfp8e4m3 : ∀ (v0 : BitVec 32) (v671 : BitVec 32) (k0_hw4 : k0_chk4 v0 v671), ∀ (k0_h1 : k0_cond1 v0 = 1#1), (Rect.unit (s := S512x2x128x256) (k0_off19 v671) S1x2x128x256.size (k0_off19_inb v0 v671 k0_hw4 k0_h1)).WholeWords (EltTy.packing .fp8e4m3) := fun v0 v671 k0_hw4 k0_h1 => k0_hw4.2 k0_h1 (k0_off19_inb v0 v671 k0_hw4 k0_h1)

def k0_off20 : Fin 1 → Nat :=
  let c0_i32_5 : BitVec 32 := 0#32
  let c4_i32_380 : BitVec 32 := 4#32
  let v619 : BitVec 32 := Scalar.remsi c0_i32_5 c4_i32_380
  ![v619.toNat]
def k0_off21 : Fin 5 → Nat :=
  let c0_i32_5 : BitVec 32 := 0#32
  let c4_i32_380 : BitVec 32 := 4#32
  let v619 : BitVec 32 := Scalar.remsi c0_i32_5 c4_i32_380
  let c3_i32_438 : BitVec 32 := 3#32
  let c0_i32_439 : BitVec 32 := 0#32
  let c0_i32_440 : BitVec 32 := 0#32
  let c0_i32_441 : BitVec 32 := 0#32
  ![v619.toNat, 3, 0, 0, 0]
def k0_off22 : Fin 1 → Nat :=
  let c0_i32_5 : BitVec 32 := 0#32
  let c8_i32_445 : BitVec 32 := 8#32
  let v684 : BitVec 32 := Scalar.muli c0_i32_5 c8_i32_445
  let c4_i32_446 : BitVec 32 := 4#32
  let v685 : BitVec 32 := Scalar.addi v684 c4_i32_446
  let v686 : Index := Scalar.indexCast v685
  ![v686.toNat]
def k0_off23 : Fin 5 → Nat :=
  let c0_i32_5 : BitVec 32 := 0#32
  let c4_i32_380 : BitVec 32 := 4#32
  let v619 : BitVec 32 := Scalar.remsi c0_i32_5 c4_i32_380
  let c4_i32_447 : BitVec 32 := 4#32
  let c0_i32_448 : BitVec 32 := 0#32
  let c0_i32_449 : BitVec 32 := 0#32
  let c0_i32_450 : BitVec 32 := 0#32
  ![v619.toNat, 4, 0, 0, 0]
def k0_off24 (v687 : BitVec 32) : Fin 4 → Nat :=
  let c0_i32_451 : BitVec 32 := 0#32
  let c0_i32_452 : BitVec 32 := 0#32
  let c0_i32_453 : BitVec 32 := 0#32
  ![v687.toNat, 0, 0, 0]

def k0_chk5 (v0 : BitVec 32) (v687 : BitVec 32) : Prop :=
  (∀ (k0_h1 : k0_cond1 v0 = 1#1), ∀ a, (k0_off24 v687) a + S1x2x128x256.size a ≤ S512x2x128x256.size a) ∧
  (∀ (k0_h1 : k0_cond1 v0 = 1#1), ∀ (hinb : ∀ a, (k0_off24 v687) a + S1x2x128x256.size a ≤ S512x2x128x256.size a), (Rect.unit (s := S512x2x128x256) (k0_off24 v687) S1x2x128x256.size hinb).WholeWords (EltTy.packing .fp8e4m3))
theorem k0_off24_inb : ∀ (v0 : BitVec 32) (v687 : BitVec 32) (k0_hw5 : k0_chk5 v0 v687), ∀ (k0_h1 : k0_cond1 v0 = 1#1), ∀ a, (k0_off24 v687) a + S1x2x128x256.size a ≤ S512x2x128x256.size a := fun v0 v687 k0_hw5 k0_h1 => k0_hw5.1 k0_h1
theorem k0_off24_wordsfp8e4m3 : ∀ (v0 : BitVec 32) (v687 : BitVec 32) (k0_hw5 : k0_chk5 v0 v687), ∀ (k0_h1 : k0_cond1 v0 = 1#1), (Rect.unit (s := S512x2x128x256) (k0_off24 v687) S1x2x128x256.size (k0_off24_inb v0 v687 k0_hw5 k0_h1)).WholeWords (EltTy.packing .fp8e4m3) := fun v0 v687 k0_hw5 k0_h1 => k0_hw5.2 k0_h1 (k0_off24_inb v0 v687 k0_hw5 k0_h1)

def k0_off25 : Fin 1 → Nat :=
  let c0_i32_5 : BitVec 32 := 0#32
  let c4_i32_380 : BitVec 32 := 4#32
  let v619 : BitVec 32 := Scalar.remsi c0_i32_5 c4_i32_380
  ![v619.toNat]
def k0_off26 : Fin 5 → Nat :=
  let c0_i32_5 : BitVec 32 := 0#32
  let c4_i32_380 : BitVec 32 := 4#32
  let v619 : BitVec 32 := Scalar.remsi c0_i32_5 c4_i32_380
  let c4_i32_454 : BitVec 32 := 4#32
  let c0_i32_455 : BitVec 32 := 0#32
  let c0_i32_456 : BitVec 32 := 0#32
  let c0_i32_457 : BitVec 32 := 0#32
  ![v619.toNat, 4, 0, 0, 0]
def k0_off27 : Fin 1 → Nat :=
  let c0_i32_5 : BitVec 32 := 0#32
  let c8_i32_461 : BitVec 32 := 8#32
  let v700 : BitVec 32 := Scalar.muli c0_i32_5 c8_i32_461
  let c5_i32_462 : BitVec 32 := 5#32
  let v701 : BitVec 32 := Scalar.addi v700 c5_i32_462
  let v702 : Index := Scalar.indexCast v701
  ![v702.toNat]
def k0_off28 : Fin 5 → Nat :=
  let c0_i32_5 : BitVec 32 := 0#32
  let c4_i32_380 : BitVec 32 := 4#32
  let v619 : BitVec 32 := Scalar.remsi c0_i32_5 c4_i32_380
  let c5_i32_463 : BitVec 32 := 5#32
  let c0_i32_464 : BitVec 32 := 0#32
  let c0_i32_465 : BitVec 32 := 0#32
  let c0_i32_466 : BitVec 32 := 0#32
  ![v619.toNat, 5, 0, 0, 0]
def k0_off29 (v703 : BitVec 32) : Fin 4 → Nat :=
  let c0_i32_467 : BitVec 32 := 0#32
  let c0_i32_468 : BitVec 32 := 0#32
  let c0_i32_469 : BitVec 32 := 0#32
  ![v703.toNat, 0, 0, 0]

def k0_chk6 (v0 : BitVec 32) (v703 : BitVec 32) : Prop :=
  (∀ (k0_h1 : k0_cond1 v0 = 1#1), ∀ a, (k0_off29 v703) a + S1x2x128x256.size a ≤ S512x2x128x256.size a) ∧
  (∀ (k0_h1 : k0_cond1 v0 = 1#1), ∀ (hinb : ∀ a, (k0_off29 v703) a + S1x2x128x256.size a ≤ S512x2x128x256.size a), (Rect.unit (s := S512x2x128x256) (k0_off29 v703) S1x2x128x256.size hinb).WholeWords (EltTy.packing .fp8e4m3))
theorem k0_off29_inb : ∀ (v0 : BitVec 32) (v703 : BitVec 32) (k0_hw6 : k0_chk6 v0 v703), ∀ (k0_h1 : k0_cond1 v0 = 1#1), ∀ a, (k0_off29 v703) a + S1x2x128x256.size a ≤ S512x2x128x256.size a := fun v0 v703 k0_hw6 k0_h1 => k0_hw6.1 k0_h1
theorem k0_off29_wordsfp8e4m3 : ∀ (v0 : BitVec 32) (v703 : BitVec 32) (k0_hw6 : k0_chk6 v0 v703), ∀ (k0_h1 : k0_cond1 v0 = 1#1), (Rect.unit (s := S512x2x128x256) (k0_off29 v703) S1x2x128x256.size (k0_off29_inb v0 v703 k0_hw6 k0_h1)).WholeWords (EltTy.packing .fp8e4m3) := fun v0 v703 k0_hw6 k0_h1 => k0_hw6.2 k0_h1 (k0_off29_inb v0 v703 k0_hw6 k0_h1)

def k0_off30 : Fin 1 → Nat :=
  let c0_i32_5 : BitVec 32 := 0#32
  let c4_i32_380 : BitVec 32 := 4#32
  let v619 : BitVec 32 := Scalar.remsi c0_i32_5 c4_i32_380
  ![v619.toNat]
def k0_off31 : Fin 5 → Nat :=
  let c0_i32_5 : BitVec 32 := 0#32
  let c4_i32_380 : BitVec 32 := 4#32
  let v619 : BitVec 32 := Scalar.remsi c0_i32_5 c4_i32_380
  let c5_i32_470 : BitVec 32 := 5#32
  let c0_i32_471 : BitVec 32 := 0#32
  let c0_i32_472 : BitVec 32 := 0#32
  let c0_i32_473 : BitVec 32 := 0#32
  ![v619.toNat, 5, 0, 0, 0]
def k0_off32 : Fin 1 → Nat :=
  let c0_i32_5 : BitVec 32 := 0#32
  let c8_i32_477 : BitVec 32 := 8#32
  let v716 : BitVec 32 := Scalar.muli c0_i32_5 c8_i32_477
  let c6_i32_478 : BitVec 32 := 6#32
  let v717 : BitVec 32 := Scalar.addi v716 c6_i32_478
  let v718 : Index := Scalar.indexCast v717
  ![v718.toNat]
def k0_off33 : Fin 5 → Nat :=
  let c0_i32_5 : BitVec 32 := 0#32
  let c4_i32_380 : BitVec 32 := 4#32
  let v619 : BitVec 32 := Scalar.remsi c0_i32_5 c4_i32_380
  let c6_i32_479 : BitVec 32 := 6#32
  let c0_i32_480 : BitVec 32 := 0#32
  let c0_i32_481 : BitVec 32 := 0#32
  let c0_i32_482 : BitVec 32 := 0#32
  ![v619.toNat, 6, 0, 0, 0]
def k0_off34 (v719 : BitVec 32) : Fin 4 → Nat :=
  let c0_i32_483 : BitVec 32 := 0#32
  let c0_i32_484 : BitVec 32 := 0#32
  let c0_i32_485 : BitVec 32 := 0#32
  ![v719.toNat, 0, 0, 0]

def k0_chk7 (v0 : BitVec 32) (v719 : BitVec 32) : Prop :=
  (∀ (k0_h1 : k0_cond1 v0 = 1#1), ∀ a, (k0_off34 v719) a + S1x2x128x256.size a ≤ S512x2x128x256.size a) ∧
  (∀ (k0_h1 : k0_cond1 v0 = 1#1), ∀ (hinb : ∀ a, (k0_off34 v719) a + S1x2x128x256.size a ≤ S512x2x128x256.size a), (Rect.unit (s := S512x2x128x256) (k0_off34 v719) S1x2x128x256.size hinb).WholeWords (EltTy.packing .fp8e4m3))
theorem k0_off34_inb : ∀ (v0 : BitVec 32) (v719 : BitVec 32) (k0_hw7 : k0_chk7 v0 v719), ∀ (k0_h1 : k0_cond1 v0 = 1#1), ∀ a, (k0_off34 v719) a + S1x2x128x256.size a ≤ S512x2x128x256.size a := fun v0 v719 k0_hw7 k0_h1 => k0_hw7.1 k0_h1
theorem k0_off34_wordsfp8e4m3 : ∀ (v0 : BitVec 32) (v719 : BitVec 32) (k0_hw7 : k0_chk7 v0 v719), ∀ (k0_h1 : k0_cond1 v0 = 1#1), (Rect.unit (s := S512x2x128x256) (k0_off34 v719) S1x2x128x256.size (k0_off34_inb v0 v719 k0_hw7 k0_h1)).WholeWords (EltTy.packing .fp8e4m3) := fun v0 v719 k0_hw7 k0_h1 => k0_hw7.2 k0_h1 (k0_off34_inb v0 v719 k0_hw7 k0_h1)

def k0_off35 : Fin 1 → Nat :=
  let c0_i32_5 : BitVec 32 := 0#32
  let c4_i32_380 : BitVec 32 := 4#32
  let v619 : BitVec 32 := Scalar.remsi c0_i32_5 c4_i32_380
  ![v619.toNat]
def k0_off36 : Fin 5 → Nat :=
  let c0_i32_5 : BitVec 32 := 0#32
  let c4_i32_380 : BitVec 32 := 4#32
  let v619 : BitVec 32 := Scalar.remsi c0_i32_5 c4_i32_380
  let c6_i32_486 : BitVec 32 := 6#32
  let c0_i32_487 : BitVec 32 := 0#32
  let c0_i32_488 : BitVec 32 := 0#32
  let c0_i32_489 : BitVec 32 := 0#32
  ![v619.toNat, 6, 0, 0, 0]
def k0_off37 : Fin 1 → Nat :=
  let c0_i32_5 : BitVec 32 := 0#32
  let c8_i32_493 : BitVec 32 := 8#32
  let v732 : BitVec 32 := Scalar.muli c0_i32_5 c8_i32_493
  let c7_i32_494 : BitVec 32 := 7#32
  let v733 : BitVec 32 := Scalar.addi v732 c7_i32_494
  let v734 : Index := Scalar.indexCast v733
  ![v734.toNat]
def k0_off38 : Fin 5 → Nat :=
  let c0_i32_5 : BitVec 32 := 0#32
  let c4_i32_380 : BitVec 32 := 4#32
  let v619 : BitVec 32 := Scalar.remsi c0_i32_5 c4_i32_380
  let c7_i32_495 : BitVec 32 := 7#32
  let c0_i32_496 : BitVec 32 := 0#32
  let c0_i32_497 : BitVec 32 := 0#32
  let c0_i32_498 : BitVec 32 := 0#32
  ![v619.toNat, 7, 0, 0, 0]
def k0_off39 (v735 : BitVec 32) : Fin 4 → Nat :=
  let c0_i32_499 : BitVec 32 := 0#32
  let c0_i32_500 : BitVec 32 := 0#32
  let c0_i32_501 : BitVec 32 := 0#32
  ![v735.toNat, 0, 0, 0]

def k0_chk8 (v0 : BitVec 32) (v735 : BitVec 32) : Prop :=
  (∀ (k0_h1 : k0_cond1 v0 = 1#1), ∀ a, (k0_off39 v735) a + S1x2x128x256.size a ≤ S512x2x128x256.size a) ∧
  (∀ (k0_h1 : k0_cond1 v0 = 1#1), ∀ (hinb : ∀ a, (k0_off39 v735) a + S1x2x128x256.size a ≤ S512x2x128x256.size a), (Rect.unit (s := S512x2x128x256) (k0_off39 v735) S1x2x128x256.size hinb).WholeWords (EltTy.packing .fp8e4m3))
theorem k0_off39_inb : ∀ (v0 : BitVec 32) (v735 : BitVec 32) (k0_hw8 : k0_chk8 v0 v735), ∀ (k0_h1 : k0_cond1 v0 = 1#1), ∀ a, (k0_off39 v735) a + S1x2x128x256.size a ≤ S512x2x128x256.size a := fun v0 v735 k0_hw8 k0_h1 => k0_hw8.1 k0_h1
theorem k0_off39_wordsfp8e4m3 : ∀ (v0 : BitVec 32) (v735 : BitVec 32) (k0_hw8 : k0_chk8 v0 v735), ∀ (k0_h1 : k0_cond1 v0 = 1#1), (Rect.unit (s := S512x2x128x256) (k0_off39 v735) S1x2x128x256.size (k0_off39_inb v0 v735 k0_hw8 k0_h1)).WholeWords (EltTy.packing .fp8e4m3) := fun v0 v735 k0_hw8 k0_h1 => k0_hw8.2 k0_h1 (k0_off39_inb v0 v735 k0_hw8 k0_h1)

def k0_off40 : Fin 1 → Nat :=
  let c0_i32_5 : BitVec 32 := 0#32
  let c4_i32_380 : BitVec 32 := 4#32
  let v619 : BitVec 32 := Scalar.remsi c0_i32_5 c4_i32_380
  ![v619.toNat]
def k0_off41 : Fin 5 → Nat :=
  let c0_i32_5 : BitVec 32 := 0#32
  let c4_i32_380 : BitVec 32 := 4#32
  let v619 : BitVec 32 := Scalar.remsi c0_i32_5 c4_i32_380
  let c7_i32_502 : BitVec 32 := 7#32
  let c0_i32_503 : BitVec 32 := 0#32
  let c0_i32_504 : BitVec 32 := 0#32
  let c0_i32_505 : BitVec 32 := 0#32
  ![v619.toNat, 7, 0, 0, 0]
def k0_off42 : Fin 1 → Nat :=
  let c1_i32_8 : BitVec 32 := 1#32
  let c8_i32_381 : BitVec 32 := 8#32
  let v620 : BitVec 32 := Scalar.muli c1_i32_8 c8_i32_381
  let c0_i32_382 : BitVec 32 := 0#32
  let v621 : BitVec 32 := Scalar.addi v620 c0_i32_382
  let v622 : Index := Scalar.indexCast v621
  ![v622.toNat]
def k0_off43 : Fin 1 → Nat :=
  let c1_i32_8 : BitVec 32 := 1#32
  let c4_i32_380 : BitVec 32 := 4#32
  let v619 : BitVec 32 := Scalar.remsi c1_i32_8 c4_i32_380
  ![v619.toNat]
def k0_off44 : Fin 5 → Nat :=
  let c1_i32_8 : BitVec 32 := 1#32
  let c4_i32_380 : BitVec 32 := 4#32
  let v619 : BitVec 32 := Scalar.remsi c1_i32_8 c4_i32_380
  let c0_i32_383 : BitVec 32 := 0#32
  let c0_i32_384 : BitVec 32 := 0#32
  let c0_i32_385 : BitVec 32 := 0#32
  let c0_i32_386 : BitVec 32 := 0#32
  ![v619.toNat, 0, 0, 0, 0]
def k0_off45 (v623 : BitVec 32) : Fin 4 → Nat :=
  let c0_i32_387 : BitVec 32 := 0#32
  let c0_i32_388 : BitVec 32 := 0#32
  let c0_i32_389 : BitVec 32 := 0#32
  ![v623.toNat, 0, 0, 0]
def k0_cond2 (v0 : BitVec 32) : BitVec 1 :=
  let c1_i32_7 : BitVec 32 := 1#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v21 : BitVec 1 := Scalar.cmpi .sle c1_i32_7 v17
  let v22 : BitVec 32 := Scalar.extui v21
  let c0_i32_9 : BitVec 32 := 0#32
  let v23 : BitVec 1 := Scalar.cmpi .ne v22 c0_i32_9
  v23

def k0_chk9 (v0 : BitVec 32) (v623 : BitVec 32) : Prop :=
  (∀ (k0_h2 : k0_cond2 v0 = 1#1), ∀ a, (k0_off45 v623) a + S1x2x128x256.size a ≤ S512x2x128x256.size a) ∧
  (∀ (k0_h2 : k0_cond2 v0 = 1#1), ∀ (hinb : ∀ a, (k0_off45 v623) a + S1x2x128x256.size a ≤ S512x2x128x256.size a), (Rect.unit (s := S512x2x128x256) (k0_off45 v623) S1x2x128x256.size hinb).WholeWords (EltTy.packing .fp8e4m3))
theorem k0_off45_inb : ∀ (v0 : BitVec 32) (v623 : BitVec 32) (k0_hw9 : k0_chk9 v0 v623), ∀ (k0_h2 : k0_cond2 v0 = 1#1), ∀ a, (k0_off45 v623) a + S1x2x128x256.size a ≤ S512x2x128x256.size a := fun v0 v623 k0_hw9 k0_h2 => k0_hw9.1 k0_h2
theorem k0_off45_wordsfp8e4m3 : ∀ (v0 : BitVec 32) (v623 : BitVec 32) (k0_hw9 : k0_chk9 v0 v623), ∀ (k0_h2 : k0_cond2 v0 = 1#1), (Rect.unit (s := S512x2x128x256) (k0_off45 v623) S1x2x128x256.size (k0_off45_inb v0 v623 k0_hw9 k0_h2)).WholeWords (EltTy.packing .fp8e4m3) := fun v0 v623 k0_hw9 k0_h2 => k0_hw9.2 k0_h2 (k0_off45_inb v0 v623 k0_hw9 k0_h2)

def k0_off46 : Fin 1 → Nat :=
  let c1_i32_8 : BitVec 32 := 1#32
  let c4_i32_380 : BitVec 32 := 4#32
  let v619 : BitVec 32 := Scalar.remsi c1_i32_8 c4_i32_380
  ![v619.toNat]
def k0_off47 : Fin 5 → Nat :=
  let c1_i32_8 : BitVec 32 := 1#32
  let c4_i32_380 : BitVec 32 := 4#32
  let v619 : BitVec 32 := Scalar.remsi c1_i32_8 c4_i32_380
  let c0_i32_390 : BitVec 32 := 0#32
  let c0_i32_391 : BitVec 32 := 0#32
  let c0_i32_392 : BitVec 32 := 0#32
  let c0_i32_393 : BitVec 32 := 0#32
  ![v619.toNat, 0, 0, 0, 0]
def k0_off48 : Fin 1 → Nat :=
  let c1_i32_8 : BitVec 32 := 1#32
  let c8_i32_397 : BitVec 32 := 8#32
  let v636 : BitVec 32 := Scalar.muli c1_i32_8 c8_i32_397
  let c1_i32_398 : BitVec 32 := 1#32
  let v637 : BitVec 32 := Scalar.addi v636 c1_i32_398
  let v638 : Index := Scalar.indexCast v637
  ![v638.toNat]
def k0_off49 : Fin 5 → Nat :=
  let c1_i32_8 : BitVec 32 := 1#32
  let c4_i32_380 : BitVec 32 := 4#32
  let v619 : BitVec 32 := Scalar.remsi c1_i32_8 c4_i32_380
  let c1_i32_399 : BitVec 32 := 1#32
  let c0_i32_400 : BitVec 32 := 0#32
  let c0_i32_401 : BitVec 32 := 0#32
  let c0_i32_402 : BitVec 32 := 0#32
  ![v619.toNat, 1, 0, 0, 0]
def k0_off50 (v639 : BitVec 32) : Fin 4 → Nat :=
  let c0_i32_403 : BitVec 32 := 0#32
  let c0_i32_404 : BitVec 32 := 0#32
  let c0_i32_405 : BitVec 32 := 0#32
  ![v639.toNat, 0, 0, 0]

def k0_chk10 (v0 : BitVec 32) (v639 : BitVec 32) : Prop :=
  (∀ (k0_h2 : k0_cond2 v0 = 1#1), ∀ a, (k0_off50 v639) a + S1x2x128x256.size a ≤ S512x2x128x256.size a) ∧
  (∀ (k0_h2 : k0_cond2 v0 = 1#1), ∀ (hinb : ∀ a, (k0_off50 v639) a + S1x2x128x256.size a ≤ S512x2x128x256.size a), (Rect.unit (s := S512x2x128x256) (k0_off50 v639) S1x2x128x256.size hinb).WholeWords (EltTy.packing .fp8e4m3))
theorem k0_off50_inb : ∀ (v0 : BitVec 32) (v639 : BitVec 32) (k0_hw10 : k0_chk10 v0 v639), ∀ (k0_h2 : k0_cond2 v0 = 1#1), ∀ a, (k0_off50 v639) a + S1x2x128x256.size a ≤ S512x2x128x256.size a := fun v0 v639 k0_hw10 k0_h2 => k0_hw10.1 k0_h2
theorem k0_off50_wordsfp8e4m3 : ∀ (v0 : BitVec 32) (v639 : BitVec 32) (k0_hw10 : k0_chk10 v0 v639), ∀ (k0_h2 : k0_cond2 v0 = 1#1), (Rect.unit (s := S512x2x128x256) (k0_off50 v639) S1x2x128x256.size (k0_off50_inb v0 v639 k0_hw10 k0_h2)).WholeWords (EltTy.packing .fp8e4m3) := fun v0 v639 k0_hw10 k0_h2 => k0_hw10.2 k0_h2 (k0_off50_inb v0 v639 k0_hw10 k0_h2)

def k0_off51 : Fin 1 → Nat :=
  let c1_i32_8 : BitVec 32 := 1#32
  let c4_i32_380 : BitVec 32 := 4#32
  let v619 : BitVec 32 := Scalar.remsi c1_i32_8 c4_i32_380
  ![v619.toNat]
def k0_off52 : Fin 5 → Nat :=
  let c1_i32_8 : BitVec 32 := 1#32
  let c4_i32_380 : BitVec 32 := 4#32
  let v619 : BitVec 32 := Scalar.remsi c1_i32_8 c4_i32_380
  let c1_i32_406 : BitVec 32 := 1#32
  let c0_i32_407 : BitVec 32 := 0#32
  let c0_i32_408 : BitVec 32 := 0#32
  let c0_i32_409 : BitVec 32 := 0#32
  ![v619.toNat, 1, 0, 0, 0]
def k0_off53 : Fin 1 → Nat :=
  let c1_i32_8 : BitVec 32 := 1#32
  let c8_i32_413 : BitVec 32 := 8#32
  let v652 : BitVec 32 := Scalar.muli c1_i32_8 c8_i32_413
  let c2_i32_414 : BitVec 32 := 2#32
  let v653 : BitVec 32 := Scalar.addi v652 c2_i32_414
  let v654 : Index := Scalar.indexCast v653
  ![v654.toNat]
def k0_off54 : Fin 5 → Nat :=
  let c1_i32_8 : BitVec 32 := 1#32
  let c4_i32_380 : BitVec 32 := 4#32
  let v619 : BitVec 32 := Scalar.remsi c1_i32_8 c4_i32_380
  let c2_i32_415 : BitVec 32 := 2#32
  let c0_i32_416 : BitVec 32 := 0#32
  let c0_i32_417 : BitVec 32 := 0#32
  let c0_i32_418 : BitVec 32 := 0#32
  ![v619.toNat, 2, 0, 0, 0]
def k0_off55 (v655 : BitVec 32) : Fin 4 → Nat :=
  let c0_i32_419 : BitVec 32 := 0#32
  let c0_i32_420 : BitVec 32 := 0#32
  let c0_i32_421 : BitVec 32 := 0#32
  ![v655.toNat, 0, 0, 0]

def k0_chk11 (v0 : BitVec 32) (v655 : BitVec 32) : Prop :=
  (∀ (k0_h2 : k0_cond2 v0 = 1#1), ∀ a, (k0_off55 v655) a + S1x2x128x256.size a ≤ S512x2x128x256.size a) ∧
  (∀ (k0_h2 : k0_cond2 v0 = 1#1), ∀ (hinb : ∀ a, (k0_off55 v655) a + S1x2x128x256.size a ≤ S512x2x128x256.size a), (Rect.unit (s := S512x2x128x256) (k0_off55 v655) S1x2x128x256.size hinb).WholeWords (EltTy.packing .fp8e4m3))
theorem k0_off55_inb : ∀ (v0 : BitVec 32) (v655 : BitVec 32) (k0_hw11 : k0_chk11 v0 v655), ∀ (k0_h2 : k0_cond2 v0 = 1#1), ∀ a, (k0_off55 v655) a + S1x2x128x256.size a ≤ S512x2x128x256.size a := fun v0 v655 k0_hw11 k0_h2 => k0_hw11.1 k0_h2
theorem k0_off55_wordsfp8e4m3 : ∀ (v0 : BitVec 32) (v655 : BitVec 32) (k0_hw11 : k0_chk11 v0 v655), ∀ (k0_h2 : k0_cond2 v0 = 1#1), (Rect.unit (s := S512x2x128x256) (k0_off55 v655) S1x2x128x256.size (k0_off55_inb v0 v655 k0_hw11 k0_h2)).WholeWords (EltTy.packing .fp8e4m3) := fun v0 v655 k0_hw11 k0_h2 => k0_hw11.2 k0_h2 (k0_off55_inb v0 v655 k0_hw11 k0_h2)

def k0_off56 : Fin 1 → Nat :=
  let c1_i32_8 : BitVec 32 := 1#32
  let c4_i32_380 : BitVec 32 := 4#32
  let v619 : BitVec 32 := Scalar.remsi c1_i32_8 c4_i32_380
  ![v619.toNat]
def k0_off57 : Fin 5 → Nat :=
  let c1_i32_8 : BitVec 32 := 1#32
  let c4_i32_380 : BitVec 32 := 4#32
  let v619 : BitVec 32 := Scalar.remsi c1_i32_8 c4_i32_380
  let c2_i32_422 : BitVec 32 := 2#32
  let c0_i32_423 : BitVec 32 := 0#32
  let c0_i32_424 : BitVec 32 := 0#32
  let c0_i32_425 : BitVec 32 := 0#32
  ![v619.toNat, 2, 0, 0, 0]
def k0_off58 : Fin 1 → Nat :=
  let c1_i32_8 : BitVec 32 := 1#32
  let c8_i32_429 : BitVec 32 := 8#32
  let v668 : BitVec 32 := Scalar.muli c1_i32_8 c8_i32_429
  let c3_i32_430 : BitVec 32 := 3#32
  let v669 : BitVec 32 := Scalar.addi v668 c3_i32_430
  let v670 : Index := Scalar.indexCast v669
  ![v670.toNat]
def k0_off59 : Fin 5 → Nat :=
  let c1_i32_8 : BitVec 32 := 1#32
  let c4_i32_380 : BitVec 32 := 4#32
  let v619 : BitVec 32 := Scalar.remsi c1_i32_8 c4_i32_380
  let c3_i32_431 : BitVec 32 := 3#32
  let c0_i32_432 : BitVec 32 := 0#32
  let c0_i32_433 : BitVec 32 := 0#32
  let c0_i32_434 : BitVec 32 := 0#32
  ![v619.toNat, 3, 0, 0, 0]
def k0_off60 (v671 : BitVec 32) : Fin 4 → Nat :=
  let c0_i32_435 : BitVec 32 := 0#32
  let c0_i32_436 : BitVec 32 := 0#32
  let c0_i32_437 : BitVec 32 := 0#32
  ![v671.toNat, 0, 0, 0]

def k0_chk12 (v0 : BitVec 32) (v671 : BitVec 32) : Prop :=
  (∀ (k0_h2 : k0_cond2 v0 = 1#1), ∀ a, (k0_off60 v671) a + S1x2x128x256.size a ≤ S512x2x128x256.size a) ∧
  (∀ (k0_h2 : k0_cond2 v0 = 1#1), ∀ (hinb : ∀ a, (k0_off60 v671) a + S1x2x128x256.size a ≤ S512x2x128x256.size a), (Rect.unit (s := S512x2x128x256) (k0_off60 v671) S1x2x128x256.size hinb).WholeWords (EltTy.packing .fp8e4m3))
theorem k0_off60_inb : ∀ (v0 : BitVec 32) (v671 : BitVec 32) (k0_hw12 : k0_chk12 v0 v671), ∀ (k0_h2 : k0_cond2 v0 = 1#1), ∀ a, (k0_off60 v671) a + S1x2x128x256.size a ≤ S512x2x128x256.size a := fun v0 v671 k0_hw12 k0_h2 => k0_hw12.1 k0_h2
theorem k0_off60_wordsfp8e4m3 : ∀ (v0 : BitVec 32) (v671 : BitVec 32) (k0_hw12 : k0_chk12 v0 v671), ∀ (k0_h2 : k0_cond2 v0 = 1#1), (Rect.unit (s := S512x2x128x256) (k0_off60 v671) S1x2x128x256.size (k0_off60_inb v0 v671 k0_hw12 k0_h2)).WholeWords (EltTy.packing .fp8e4m3) := fun v0 v671 k0_hw12 k0_h2 => k0_hw12.2 k0_h2 (k0_off60_inb v0 v671 k0_hw12 k0_h2)

def k0_off61 : Fin 1 → Nat :=
  let c1_i32_8 : BitVec 32 := 1#32
  let c4_i32_380 : BitVec 32 := 4#32
  let v619 : BitVec 32 := Scalar.remsi c1_i32_8 c4_i32_380
  ![v619.toNat]
def k0_off62 : Fin 5 → Nat :=
  let c1_i32_8 : BitVec 32 := 1#32
  let c4_i32_380 : BitVec 32 := 4#32
  let v619 : BitVec 32 := Scalar.remsi c1_i32_8 c4_i32_380
  let c3_i32_438 : BitVec 32 := 3#32
  let c0_i32_439 : BitVec 32 := 0#32
  let c0_i32_440 : BitVec 32 := 0#32
  let c0_i32_441 : BitVec 32 := 0#32
  ![v619.toNat, 3, 0, 0, 0]
def k0_off63 : Fin 1 → Nat :=
  let c1_i32_8 : BitVec 32 := 1#32
  let c8_i32_445 : BitVec 32 := 8#32
  let v684 : BitVec 32 := Scalar.muli c1_i32_8 c8_i32_445
  let c4_i32_446 : BitVec 32 := 4#32
  let v685 : BitVec 32 := Scalar.addi v684 c4_i32_446
  let v686 : Index := Scalar.indexCast v685
  ![v686.toNat]
def k0_off64 : Fin 5 → Nat :=
  let c1_i32_8 : BitVec 32 := 1#32
  let c4_i32_380 : BitVec 32 := 4#32
  let v619 : BitVec 32 := Scalar.remsi c1_i32_8 c4_i32_380
  let c4_i32_447 : BitVec 32 := 4#32
  let c0_i32_448 : BitVec 32 := 0#32
  let c0_i32_449 : BitVec 32 := 0#32
  let c0_i32_450 : BitVec 32 := 0#32
  ![v619.toNat, 4, 0, 0, 0]
def k0_off65 (v687 : BitVec 32) : Fin 4 → Nat :=
  let c0_i32_451 : BitVec 32 := 0#32
  let c0_i32_452 : BitVec 32 := 0#32
  let c0_i32_453 : BitVec 32 := 0#32
  ![v687.toNat, 0, 0, 0]

def k0_chk13 (v0 : BitVec 32) (v687 : BitVec 32) : Prop :=
  (∀ (k0_h2 : k0_cond2 v0 = 1#1), ∀ a, (k0_off65 v687) a + S1x2x128x256.size a ≤ S512x2x128x256.size a) ∧
  (∀ (k0_h2 : k0_cond2 v0 = 1#1), ∀ (hinb : ∀ a, (k0_off65 v687) a + S1x2x128x256.size a ≤ S512x2x128x256.size a), (Rect.unit (s := S512x2x128x256) (k0_off65 v687) S1x2x128x256.size hinb).WholeWords (EltTy.packing .fp8e4m3))
theorem k0_off65_inb : ∀ (v0 : BitVec 32) (v687 : BitVec 32) (k0_hw13 : k0_chk13 v0 v687), ∀ (k0_h2 : k0_cond2 v0 = 1#1), ∀ a, (k0_off65 v687) a + S1x2x128x256.size a ≤ S512x2x128x256.size a := fun v0 v687 k0_hw13 k0_h2 => k0_hw13.1 k0_h2
theorem k0_off65_wordsfp8e4m3 : ∀ (v0 : BitVec 32) (v687 : BitVec 32) (k0_hw13 : k0_chk13 v0 v687), ∀ (k0_h2 : k0_cond2 v0 = 1#1), (Rect.unit (s := S512x2x128x256) (k0_off65 v687) S1x2x128x256.size (k0_off65_inb v0 v687 k0_hw13 k0_h2)).WholeWords (EltTy.packing .fp8e4m3) := fun v0 v687 k0_hw13 k0_h2 => k0_hw13.2 k0_h2 (k0_off65_inb v0 v687 k0_hw13 k0_h2)

def k0_off66 : Fin 1 → Nat :=
  let c1_i32_8 : BitVec 32 := 1#32
  let c4_i32_380 : BitVec 32 := 4#32
  let v619 : BitVec 32 := Scalar.remsi c1_i32_8 c4_i32_380
  ![v619.toNat]
def k0_off67 : Fin 5 → Nat :=
  let c1_i32_8 : BitVec 32 := 1#32
  let c4_i32_380 : BitVec 32 := 4#32
  let v619 : BitVec 32 := Scalar.remsi c1_i32_8 c4_i32_380
  let c4_i32_454 : BitVec 32 := 4#32
  let c0_i32_455 : BitVec 32 := 0#32
  let c0_i32_456 : BitVec 32 := 0#32
  let c0_i32_457 : BitVec 32 := 0#32
  ![v619.toNat, 4, 0, 0, 0]
def k0_off68 : Fin 1 → Nat :=
  let c1_i32_8 : BitVec 32 := 1#32
  let c8_i32_461 : BitVec 32 := 8#32
  let v700 : BitVec 32 := Scalar.muli c1_i32_8 c8_i32_461
  let c5_i32_462 : BitVec 32 := 5#32
  let v701 : BitVec 32 := Scalar.addi v700 c5_i32_462
  let v702 : Index := Scalar.indexCast v701
  ![v702.toNat]
def k0_off69 : Fin 5 → Nat :=
  let c1_i32_8 : BitVec 32 := 1#32
  let c4_i32_380 : BitVec 32 := 4#32
  let v619 : BitVec 32 := Scalar.remsi c1_i32_8 c4_i32_380
  let c5_i32_463 : BitVec 32 := 5#32
  let c0_i32_464 : BitVec 32 := 0#32
  let c0_i32_465 : BitVec 32 := 0#32
  let c0_i32_466 : BitVec 32 := 0#32
  ![v619.toNat, 5, 0, 0, 0]
def k0_off70 (v703 : BitVec 32) : Fin 4 → Nat :=
  let c0_i32_467 : BitVec 32 := 0#32
  let c0_i32_468 : BitVec 32 := 0#32
  let c0_i32_469 : BitVec 32 := 0#32
  ![v703.toNat, 0, 0, 0]

def k0_chk14 (v0 : BitVec 32) (v703 : BitVec 32) : Prop :=
  (∀ (k0_h2 : k0_cond2 v0 = 1#1), ∀ a, (k0_off70 v703) a + S1x2x128x256.size a ≤ S512x2x128x256.size a) ∧
  (∀ (k0_h2 : k0_cond2 v0 = 1#1), ∀ (hinb : ∀ a, (k0_off70 v703) a + S1x2x128x256.size a ≤ S512x2x128x256.size a), (Rect.unit (s := S512x2x128x256) (k0_off70 v703) S1x2x128x256.size hinb).WholeWords (EltTy.packing .fp8e4m3))
theorem k0_off70_inb : ∀ (v0 : BitVec 32) (v703 : BitVec 32) (k0_hw14 : k0_chk14 v0 v703), ∀ (k0_h2 : k0_cond2 v0 = 1#1), ∀ a, (k0_off70 v703) a + S1x2x128x256.size a ≤ S512x2x128x256.size a := fun v0 v703 k0_hw14 k0_h2 => k0_hw14.1 k0_h2
theorem k0_off70_wordsfp8e4m3 : ∀ (v0 : BitVec 32) (v703 : BitVec 32) (k0_hw14 : k0_chk14 v0 v703), ∀ (k0_h2 : k0_cond2 v0 = 1#1), (Rect.unit (s := S512x2x128x256) (k0_off70 v703) S1x2x128x256.size (k0_off70_inb v0 v703 k0_hw14 k0_h2)).WholeWords (EltTy.packing .fp8e4m3) := fun v0 v703 k0_hw14 k0_h2 => k0_hw14.2 k0_h2 (k0_off70_inb v0 v703 k0_hw14 k0_h2)

def k0_off71 : Fin 1 → Nat :=
  let c1_i32_8 : BitVec 32 := 1#32
  let c4_i32_380 : BitVec 32 := 4#32
  let v619 : BitVec 32 := Scalar.remsi c1_i32_8 c4_i32_380
  ![v619.toNat]
def k0_off72 : Fin 5 → Nat :=
  let c1_i32_8 : BitVec 32 := 1#32
  let c4_i32_380 : BitVec 32 := 4#32
  let v619 : BitVec 32 := Scalar.remsi c1_i32_8 c4_i32_380
  let c5_i32_470 : BitVec 32 := 5#32
  let c0_i32_471 : BitVec 32 := 0#32
  let c0_i32_472 : BitVec 32 := 0#32
  let c0_i32_473 : BitVec 32 := 0#32
  ![v619.toNat, 5, 0, 0, 0]
def k0_off73 : Fin 1 → Nat :=
  let c1_i32_8 : BitVec 32 := 1#32
  let c8_i32_477 : BitVec 32 := 8#32
  let v716 : BitVec 32 := Scalar.muli c1_i32_8 c8_i32_477
  let c6_i32_478 : BitVec 32 := 6#32
  let v717 : BitVec 32 := Scalar.addi v716 c6_i32_478
  let v718 : Index := Scalar.indexCast v717
  ![v718.toNat]
def k0_off74 : Fin 5 → Nat :=
  let c1_i32_8 : BitVec 32 := 1#32
  let c4_i32_380 : BitVec 32 := 4#32
  let v619 : BitVec 32 := Scalar.remsi c1_i32_8 c4_i32_380
  let c6_i32_479 : BitVec 32 := 6#32
  let c0_i32_480 : BitVec 32 := 0#32
  let c0_i32_481 : BitVec 32 := 0#32
  let c0_i32_482 : BitVec 32 := 0#32
  ![v619.toNat, 6, 0, 0, 0]
def k0_off75 (v719 : BitVec 32) : Fin 4 → Nat :=
  let c0_i32_483 : BitVec 32 := 0#32
  let c0_i32_484 : BitVec 32 := 0#32
  let c0_i32_485 : BitVec 32 := 0#32
  ![v719.toNat, 0, 0, 0]

def k0_chk15 (v0 : BitVec 32) (v719 : BitVec 32) : Prop :=
  (∀ (k0_h2 : k0_cond2 v0 = 1#1), ∀ a, (k0_off75 v719) a + S1x2x128x256.size a ≤ S512x2x128x256.size a) ∧
  (∀ (k0_h2 : k0_cond2 v0 = 1#1), ∀ (hinb : ∀ a, (k0_off75 v719) a + S1x2x128x256.size a ≤ S512x2x128x256.size a), (Rect.unit (s := S512x2x128x256) (k0_off75 v719) S1x2x128x256.size hinb).WholeWords (EltTy.packing .fp8e4m3))
theorem k0_off75_inb : ∀ (v0 : BitVec 32) (v719 : BitVec 32) (k0_hw15 : k0_chk15 v0 v719), ∀ (k0_h2 : k0_cond2 v0 = 1#1), ∀ a, (k0_off75 v719) a + S1x2x128x256.size a ≤ S512x2x128x256.size a := fun v0 v719 k0_hw15 k0_h2 => k0_hw15.1 k0_h2
theorem k0_off75_wordsfp8e4m3 : ∀ (v0 : BitVec 32) (v719 : BitVec 32) (k0_hw15 : k0_chk15 v0 v719), ∀ (k0_h2 : k0_cond2 v0 = 1#1), (Rect.unit (s := S512x2x128x256) (k0_off75 v719) S1x2x128x256.size (k0_off75_inb v0 v719 k0_hw15 k0_h2)).WholeWords (EltTy.packing .fp8e4m3) := fun v0 v719 k0_hw15 k0_h2 => k0_hw15.2 k0_h2 (k0_off75_inb v0 v719 k0_hw15 k0_h2)

def k0_off76 : Fin 1 → Nat :=
  let c1_i32_8 : BitVec 32 := 1#32
  let c4_i32_380 : BitVec 32 := 4#32
  let v619 : BitVec 32 := Scalar.remsi c1_i32_8 c4_i32_380
  ![v619.toNat]
def k0_off77 : Fin 5 → Nat :=
  let c1_i32_8 : BitVec 32 := 1#32
  let c4_i32_380 : BitVec 32 := 4#32
  let v619 : BitVec 32 := Scalar.remsi c1_i32_8 c4_i32_380
  let c6_i32_486 : BitVec 32 := 6#32
  let c0_i32_487 : BitVec 32 := 0#32
  let c0_i32_488 : BitVec 32 := 0#32
  let c0_i32_489 : BitVec 32 := 0#32
  ![v619.toNat, 6, 0, 0, 0]
def k0_off78 : Fin 1 → Nat :=
  let c1_i32_8 : BitVec 32 := 1#32
  let c8_i32_493 : BitVec 32 := 8#32
  let v732 : BitVec 32 := Scalar.muli c1_i32_8 c8_i32_493
  let c7_i32_494 : BitVec 32 := 7#32
  let v733 : BitVec 32 := Scalar.addi v732 c7_i32_494
  let v734 : Index := Scalar.indexCast v733
  ![v734.toNat]
def k0_off79 : Fin 5 → Nat :=
  let c1_i32_8 : BitVec 32 := 1#32
  let c4_i32_380 : BitVec 32 := 4#32
  let v619 : BitVec 32 := Scalar.remsi c1_i32_8 c4_i32_380
  let c7_i32_495 : BitVec 32 := 7#32
  let c0_i32_496 : BitVec 32 := 0#32
  let c0_i32_497 : BitVec 32 := 0#32
  let c0_i32_498 : BitVec 32 := 0#32
  ![v619.toNat, 7, 0, 0, 0]
def k0_off80 (v735 : BitVec 32) : Fin 4 → Nat :=
  let c0_i32_499 : BitVec 32 := 0#32
  let c0_i32_500 : BitVec 32 := 0#32
  let c0_i32_501 : BitVec 32 := 0#32
  ![v735.toNat, 0, 0, 0]

def k0_chk16 (v0 : BitVec 32) (v735 : BitVec 32) : Prop :=
  (∀ (k0_h2 : k0_cond2 v0 = 1#1), ∀ a, (k0_off80 v735) a + S1x2x128x256.size a ≤ S512x2x128x256.size a) ∧
  (∀ (k0_h2 : k0_cond2 v0 = 1#1), ∀ (hinb : ∀ a, (k0_off80 v735) a + S1x2x128x256.size a ≤ S512x2x128x256.size a), (Rect.unit (s := S512x2x128x256) (k0_off80 v735) S1x2x128x256.size hinb).WholeWords (EltTy.packing .fp8e4m3))
theorem k0_off80_inb : ∀ (v0 : BitVec 32) (v735 : BitVec 32) (k0_hw16 : k0_chk16 v0 v735), ∀ (k0_h2 : k0_cond2 v0 = 1#1), ∀ a, (k0_off80 v735) a + S1x2x128x256.size a ≤ S512x2x128x256.size a := fun v0 v735 k0_hw16 k0_h2 => k0_hw16.1 k0_h2
theorem k0_off80_wordsfp8e4m3 : ∀ (v0 : BitVec 32) (v735 : BitVec 32) (k0_hw16 : k0_chk16 v0 v735), ∀ (k0_h2 : k0_cond2 v0 = 1#1), (Rect.unit (s := S512x2x128x256) (k0_off80 v735) S1x2x128x256.size (k0_off80_inb v0 v735 k0_hw16 k0_h2)).WholeWords (EltTy.packing .fp8e4m3) := fun v0 v735 k0_hw16 k0_h2 => k0_hw16.2 k0_h2 (k0_off80_inb v0 v735 k0_hw16 k0_h2)

def k0_off81 : Fin 1 → Nat :=
  let c1_i32_8 : BitVec 32 := 1#32
  let c4_i32_380 : BitVec 32 := 4#32
  let v619 : BitVec 32 := Scalar.remsi c1_i32_8 c4_i32_380
  ![v619.toNat]
def k0_off82 : Fin 5 → Nat :=
  let c1_i32_8 : BitVec 32 := 1#32
  let c4_i32_380 : BitVec 32 := 4#32
  let v619 : BitVec 32 := Scalar.remsi c1_i32_8 c4_i32_380
  let c7_i32_502 : BitVec 32 := 7#32
  let c0_i32_503 : BitVec 32 := 0#32
  let c0_i32_504 : BitVec 32 := 0#32
  let c0_i32_505 : BitVec 32 := 0#32
  ![v619.toNat, 7, 0, 0, 0]
def k0_off83 : Fin 1 → Nat :=
  let c2_i32_10 : BitVec 32 := 2#32
  let c8_i32_381 : BitVec 32 := 8#32
  let v620 : BitVec 32 := Scalar.muli c2_i32_10 c8_i32_381
  let c0_i32_382 : BitVec 32 := 0#32
  let v621 : BitVec 32 := Scalar.addi v620 c0_i32_382
  let v622 : Index := Scalar.indexCast v621
  ![v622.toNat]
def k0_off84 : Fin 1 → Nat :=
  let c2_i32_10 : BitVec 32 := 2#32
  let c4_i32_380 : BitVec 32 := 4#32
  let v619 : BitVec 32 := Scalar.remsi c2_i32_10 c4_i32_380
  ![v619.toNat]
def k0_off85 : Fin 5 → Nat :=
  let c2_i32_10 : BitVec 32 := 2#32
  let c4_i32_380 : BitVec 32 := 4#32
  let v619 : BitVec 32 := Scalar.remsi c2_i32_10 c4_i32_380
  let c0_i32_383 : BitVec 32 := 0#32
  let c0_i32_384 : BitVec 32 := 0#32
  let c0_i32_385 : BitVec 32 := 0#32
  let c0_i32_386 : BitVec 32 := 0#32
  ![v619.toNat, 0, 0, 0, 0]
def k0_off86 (v623 : BitVec 32) : Fin 4 → Nat :=
  let c0_i32_387 : BitVec 32 := 0#32
  let c0_i32_388 : BitVec 32 := 0#32
  let c0_i32_389 : BitVec 32 := 0#32
  ![v623.toNat, 0, 0, 0]
def k0_cond3 (v0 : BitVec 32) : BitVec 1 :=
  let c2_i32 : BitVec 32 := 2#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v24 : BitVec 1 := Scalar.cmpi .sle c2_i32 v17
  let v25 : BitVec 32 := Scalar.extui v24
  let c0_i32_11 : BitVec 32 := 0#32
  let v26 : BitVec 1 := Scalar.cmpi .ne v25 c0_i32_11
  v26

def k0_chk17 (v0 : BitVec 32) (v623 : BitVec 32) : Prop :=
  (∀ (k0_h3 : k0_cond3 v0 = 1#1), ∀ a, (k0_off86 v623) a + S1x2x128x256.size a ≤ S512x2x128x256.size a) ∧
  (∀ (k0_h3 : k0_cond3 v0 = 1#1), ∀ (hinb : ∀ a, (k0_off86 v623) a + S1x2x128x256.size a ≤ S512x2x128x256.size a), (Rect.unit (s := S512x2x128x256) (k0_off86 v623) S1x2x128x256.size hinb).WholeWords (EltTy.packing .fp8e4m3))
theorem k0_off86_inb : ∀ (v0 : BitVec 32) (v623 : BitVec 32) (k0_hw17 : k0_chk17 v0 v623), ∀ (k0_h3 : k0_cond3 v0 = 1#1), ∀ a, (k0_off86 v623) a + S1x2x128x256.size a ≤ S512x2x128x256.size a := fun v0 v623 k0_hw17 k0_h3 => k0_hw17.1 k0_h3
theorem k0_off86_wordsfp8e4m3 : ∀ (v0 : BitVec 32) (v623 : BitVec 32) (k0_hw17 : k0_chk17 v0 v623), ∀ (k0_h3 : k0_cond3 v0 = 1#1), (Rect.unit (s := S512x2x128x256) (k0_off86 v623) S1x2x128x256.size (k0_off86_inb v0 v623 k0_hw17 k0_h3)).WholeWords (EltTy.packing .fp8e4m3) := fun v0 v623 k0_hw17 k0_h3 => k0_hw17.2 k0_h3 (k0_off86_inb v0 v623 k0_hw17 k0_h3)

def k0_off87 : Fin 1 → Nat :=
  let c2_i32_10 : BitVec 32 := 2#32
  let c4_i32_380 : BitVec 32 := 4#32
  let v619 : BitVec 32 := Scalar.remsi c2_i32_10 c4_i32_380
  ![v619.toNat]
def k0_off88 : Fin 5 → Nat :=
  let c2_i32_10 : BitVec 32 := 2#32
  let c4_i32_380 : BitVec 32 := 4#32
  let v619 : BitVec 32 := Scalar.remsi c2_i32_10 c4_i32_380
  let c0_i32_390 : BitVec 32 := 0#32
  let c0_i32_391 : BitVec 32 := 0#32
  let c0_i32_392 : BitVec 32 := 0#32
  let c0_i32_393 : BitVec 32 := 0#32
  ![v619.toNat, 0, 0, 0, 0]
def k0_off89 : Fin 1 → Nat :=
  let c2_i32_10 : BitVec 32 := 2#32
  let c8_i32_397 : BitVec 32 := 8#32
  let v636 : BitVec 32 := Scalar.muli c2_i32_10 c8_i32_397
  let c1_i32_398 : BitVec 32 := 1#32
  let v637 : BitVec 32 := Scalar.addi v636 c1_i32_398
  let v638 : Index := Scalar.indexCast v637
  ![v638.toNat]
def k0_off90 : Fin 5 → Nat :=
  let c2_i32_10 : BitVec 32 := 2#32
  let c4_i32_380 : BitVec 32 := 4#32
  let v619 : BitVec 32 := Scalar.remsi c2_i32_10 c4_i32_380
  let c1_i32_399 : BitVec 32 := 1#32
  let c0_i32_400 : BitVec 32 := 0#32
  let c0_i32_401 : BitVec 32 := 0#32
  let c0_i32_402 : BitVec 32 := 0#32
  ![v619.toNat, 1, 0, 0, 0]
def k0_off91 (v639 : BitVec 32) : Fin 4 → Nat :=
  let c0_i32_403 : BitVec 32 := 0#32
  let c0_i32_404 : BitVec 32 := 0#32
  let c0_i32_405 : BitVec 32 := 0#32
  ![v639.toNat, 0, 0, 0]

def k0_chk18 (v0 : BitVec 32) (v639 : BitVec 32) : Prop :=
  (∀ (k0_h3 : k0_cond3 v0 = 1#1), ∀ a, (k0_off91 v639) a + S1x2x128x256.size a ≤ S512x2x128x256.size a) ∧
  (∀ (k0_h3 : k0_cond3 v0 = 1#1), ∀ (hinb : ∀ a, (k0_off91 v639) a + S1x2x128x256.size a ≤ S512x2x128x256.size a), (Rect.unit (s := S512x2x128x256) (k0_off91 v639) S1x2x128x256.size hinb).WholeWords (EltTy.packing .fp8e4m3))
theorem k0_off91_inb : ∀ (v0 : BitVec 32) (v639 : BitVec 32) (k0_hw18 : k0_chk18 v0 v639), ∀ (k0_h3 : k0_cond3 v0 = 1#1), ∀ a, (k0_off91 v639) a + S1x2x128x256.size a ≤ S512x2x128x256.size a := fun v0 v639 k0_hw18 k0_h3 => k0_hw18.1 k0_h3
theorem k0_off91_wordsfp8e4m3 : ∀ (v0 : BitVec 32) (v639 : BitVec 32) (k0_hw18 : k0_chk18 v0 v639), ∀ (k0_h3 : k0_cond3 v0 = 1#1), (Rect.unit (s := S512x2x128x256) (k0_off91 v639) S1x2x128x256.size (k0_off91_inb v0 v639 k0_hw18 k0_h3)).WholeWords (EltTy.packing .fp8e4m3) := fun v0 v639 k0_hw18 k0_h3 => k0_hw18.2 k0_h3 (k0_off91_inb v0 v639 k0_hw18 k0_h3)

def k0_off92 : Fin 1 → Nat :=
  let c2_i32_10 : BitVec 32 := 2#32
  let c4_i32_380 : BitVec 32 := 4#32
  let v619 : BitVec 32 := Scalar.remsi c2_i32_10 c4_i32_380
  ![v619.toNat]
def k0_off93 : Fin 5 → Nat :=
  let c2_i32_10 : BitVec 32 := 2#32
  let c4_i32_380 : BitVec 32 := 4#32
  let v619 : BitVec 32 := Scalar.remsi c2_i32_10 c4_i32_380
  let c1_i32_406 : BitVec 32 := 1#32
  let c0_i32_407 : BitVec 32 := 0#32
  let c0_i32_408 : BitVec 32 := 0#32
  let c0_i32_409 : BitVec 32 := 0#32
  ![v619.toNat, 1, 0, 0, 0]
def k0_off94 : Fin 1 → Nat :=
  let c2_i32_10 : BitVec 32 := 2#32
  let c8_i32_413 : BitVec 32 := 8#32
  let v652 : BitVec 32 := Scalar.muli c2_i32_10 c8_i32_413
  let c2_i32_414 : BitVec 32 := 2#32
  let v653 : BitVec 32 := Scalar.addi v652 c2_i32_414
  let v654 : Index := Scalar.indexCast v653
  ![v654.toNat]
def k0_off95 : Fin 5 → Nat :=
  let c2_i32_10 : BitVec 32 := 2#32
  let c4_i32_380 : BitVec 32 := 4#32
  let v619 : BitVec 32 := Scalar.remsi c2_i32_10 c4_i32_380
  let c2_i32_415 : BitVec 32 := 2#32
  let c0_i32_416 : BitVec 32 := 0#32
  let c0_i32_417 : BitVec 32 := 0#32
  let c0_i32_418 : BitVec 32 := 0#32
  ![v619.toNat, 2, 0, 0, 0]
def k0_off96 (v655 : BitVec 32) : Fin 4 → Nat :=
  let c0_i32_419 : BitVec 32 := 0#32
  let c0_i32_420 : BitVec 32 := 0#32
  let c0_i32_421 : BitVec 32 := 0#32
  ![v655.toNat, 0, 0, 0]

def k0_chk19 (v0 : BitVec 32) (v655 : BitVec 32) : Prop :=
  (∀ (k0_h3 : k0_cond3 v0 = 1#1), ∀ a, (k0_off96 v655) a + S1x2x128x256.size a ≤ S512x2x128x256.size a) ∧
  (∀ (k0_h3 : k0_cond3 v0 = 1#1), ∀ (hinb : ∀ a, (k0_off96 v655) a + S1x2x128x256.size a ≤ S512x2x128x256.size a), (Rect.unit (s := S512x2x128x256) (k0_off96 v655) S1x2x128x256.size hinb).WholeWords (EltTy.packing .fp8e4m3))
theorem k0_off96_inb : ∀ (v0 : BitVec 32) (v655 : BitVec 32) (k0_hw19 : k0_chk19 v0 v655), ∀ (k0_h3 : k0_cond3 v0 = 1#1), ∀ a, (k0_off96 v655) a + S1x2x128x256.size a ≤ S512x2x128x256.size a := fun v0 v655 k0_hw19 k0_h3 => k0_hw19.1 k0_h3
theorem k0_off96_wordsfp8e4m3 : ∀ (v0 : BitVec 32) (v655 : BitVec 32) (k0_hw19 : k0_chk19 v0 v655), ∀ (k0_h3 : k0_cond3 v0 = 1#1), (Rect.unit (s := S512x2x128x256) (k0_off96 v655) S1x2x128x256.size (k0_off96_inb v0 v655 k0_hw19 k0_h3)).WholeWords (EltTy.packing .fp8e4m3) := fun v0 v655 k0_hw19 k0_h3 => k0_hw19.2 k0_h3 (k0_off96_inb v0 v655 k0_hw19 k0_h3)

def k0_off97 : Fin 1 → Nat :=
  let c2_i32_10 : BitVec 32 := 2#32
  let c4_i32_380 : BitVec 32 := 4#32
  let v619 : BitVec 32 := Scalar.remsi c2_i32_10 c4_i32_380
  ![v619.toNat]
def k0_off98 : Fin 5 → Nat :=
  let c2_i32_10 : BitVec 32 := 2#32
  let c4_i32_380 : BitVec 32 := 4#32
  let v619 : BitVec 32 := Scalar.remsi c2_i32_10 c4_i32_380
  let c2_i32_422 : BitVec 32 := 2#32
  let c0_i32_423 : BitVec 32 := 0#32
  let c0_i32_424 : BitVec 32 := 0#32
  let c0_i32_425 : BitVec 32 := 0#32
  ![v619.toNat, 2, 0, 0, 0]
def k0_off99 : Fin 1 → Nat :=
  let c2_i32_10 : BitVec 32 := 2#32
  let c8_i32_429 : BitVec 32 := 8#32
  let v668 : BitVec 32 := Scalar.muli c2_i32_10 c8_i32_429
  let c3_i32_430 : BitVec 32 := 3#32
  let v669 : BitVec 32 := Scalar.addi v668 c3_i32_430
  let v670 : Index := Scalar.indexCast v669
  ![v670.toNat]
def k0_off100 : Fin 5 → Nat :=
  let c2_i32_10 : BitVec 32 := 2#32
  let c4_i32_380 : BitVec 32 := 4#32
  let v619 : BitVec 32 := Scalar.remsi c2_i32_10 c4_i32_380
  let c3_i32_431 : BitVec 32 := 3#32
  let c0_i32_432 : BitVec 32 := 0#32
  let c0_i32_433 : BitVec 32 := 0#32
  let c0_i32_434 : BitVec 32 := 0#32
  ![v619.toNat, 3, 0, 0, 0]
def k0_off101 (v671 : BitVec 32) : Fin 4 → Nat :=
  let c0_i32_435 : BitVec 32 := 0#32
  let c0_i32_436 : BitVec 32 := 0#32
  let c0_i32_437 : BitVec 32 := 0#32
  ![v671.toNat, 0, 0, 0]

def k0_chk20 (v0 : BitVec 32) (v671 : BitVec 32) : Prop :=
  (∀ (k0_h3 : k0_cond3 v0 = 1#1), ∀ a, (k0_off101 v671) a + S1x2x128x256.size a ≤ S512x2x128x256.size a) ∧
  (∀ (k0_h3 : k0_cond3 v0 = 1#1), ∀ (hinb : ∀ a, (k0_off101 v671) a + S1x2x128x256.size a ≤ S512x2x128x256.size a), (Rect.unit (s := S512x2x128x256) (k0_off101 v671) S1x2x128x256.size hinb).WholeWords (EltTy.packing .fp8e4m3))
theorem k0_off101_inb : ∀ (v0 : BitVec 32) (v671 : BitVec 32) (k0_hw20 : k0_chk20 v0 v671), ∀ (k0_h3 : k0_cond3 v0 = 1#1), ∀ a, (k0_off101 v671) a + S1x2x128x256.size a ≤ S512x2x128x256.size a := fun v0 v671 k0_hw20 k0_h3 => k0_hw20.1 k0_h3
theorem k0_off101_wordsfp8e4m3 : ∀ (v0 : BitVec 32) (v671 : BitVec 32) (k0_hw20 : k0_chk20 v0 v671), ∀ (k0_h3 : k0_cond3 v0 = 1#1), (Rect.unit (s := S512x2x128x256) (k0_off101 v671) S1x2x128x256.size (k0_off101_inb v0 v671 k0_hw20 k0_h3)).WholeWords (EltTy.packing .fp8e4m3) := fun v0 v671 k0_hw20 k0_h3 => k0_hw20.2 k0_h3 (k0_off101_inb v0 v671 k0_hw20 k0_h3)

def k0_off102 : Fin 1 → Nat :=
  let c2_i32_10 : BitVec 32 := 2#32
  let c4_i32_380 : BitVec 32 := 4#32
  let v619 : BitVec 32 := Scalar.remsi c2_i32_10 c4_i32_380
  ![v619.toNat]
def k0_off103 : Fin 5 → Nat :=
  let c2_i32_10 : BitVec 32 := 2#32
  let c4_i32_380 : BitVec 32 := 4#32
  let v619 : BitVec 32 := Scalar.remsi c2_i32_10 c4_i32_380
  let c3_i32_438 : BitVec 32 := 3#32
  let c0_i32_439 : BitVec 32 := 0#32
  let c0_i32_440 : BitVec 32 := 0#32
  let c0_i32_441 : BitVec 32 := 0#32
  ![v619.toNat, 3, 0, 0, 0]
def k0_off104 : Fin 1 → Nat :=
  let c2_i32_10 : BitVec 32 := 2#32
  let c8_i32_445 : BitVec 32 := 8#32
  let v684 : BitVec 32 := Scalar.muli c2_i32_10 c8_i32_445
  let c4_i32_446 : BitVec 32 := 4#32
  let v685 : BitVec 32 := Scalar.addi v684 c4_i32_446
  let v686 : Index := Scalar.indexCast v685
  ![v686.toNat]
def k0_off105 : Fin 5 → Nat :=
  let c2_i32_10 : BitVec 32 := 2#32
  let c4_i32_380 : BitVec 32 := 4#32
  let v619 : BitVec 32 := Scalar.remsi c2_i32_10 c4_i32_380
  let c4_i32_447 : BitVec 32 := 4#32
  let c0_i32_448 : BitVec 32 := 0#32
  let c0_i32_449 : BitVec 32 := 0#32
  let c0_i32_450 : BitVec 32 := 0#32
  ![v619.toNat, 4, 0, 0, 0]
def k0_off106 (v687 : BitVec 32) : Fin 4 → Nat :=
  let c0_i32_451 : BitVec 32 := 0#32
  let c0_i32_452 : BitVec 32 := 0#32
  let c0_i32_453 : BitVec 32 := 0#32
  ![v687.toNat, 0, 0, 0]

def k0_chk21 (v0 : BitVec 32) (v687 : BitVec 32) : Prop :=
  (∀ (k0_h3 : k0_cond3 v0 = 1#1), ∀ a, (k0_off106 v687) a + S1x2x128x256.size a ≤ S512x2x128x256.size a) ∧
  (∀ (k0_h3 : k0_cond3 v0 = 1#1), ∀ (hinb : ∀ a, (k0_off106 v687) a + S1x2x128x256.size a ≤ S512x2x128x256.size a), (Rect.unit (s := S512x2x128x256) (k0_off106 v687) S1x2x128x256.size hinb).WholeWords (EltTy.packing .fp8e4m3))
theorem k0_off106_inb : ∀ (v0 : BitVec 32) (v687 : BitVec 32) (k0_hw21 : k0_chk21 v0 v687), ∀ (k0_h3 : k0_cond3 v0 = 1#1), ∀ a, (k0_off106 v687) a + S1x2x128x256.size a ≤ S512x2x128x256.size a := fun v0 v687 k0_hw21 k0_h3 => k0_hw21.1 k0_h3
theorem k0_off106_wordsfp8e4m3 : ∀ (v0 : BitVec 32) (v687 : BitVec 32) (k0_hw21 : k0_chk21 v0 v687), ∀ (k0_h3 : k0_cond3 v0 = 1#1), (Rect.unit (s := S512x2x128x256) (k0_off106 v687) S1x2x128x256.size (k0_off106_inb v0 v687 k0_hw21 k0_h3)).WholeWords (EltTy.packing .fp8e4m3) := fun v0 v687 k0_hw21 k0_h3 => k0_hw21.2 k0_h3 (k0_off106_inb v0 v687 k0_hw21 k0_h3)

def k0_off107 : Fin 1 → Nat :=
  let c2_i32_10 : BitVec 32 := 2#32
  let c4_i32_380 : BitVec 32 := 4#32
  let v619 : BitVec 32 := Scalar.remsi c2_i32_10 c4_i32_380
  ![v619.toNat]
def k0_off108 : Fin 5 → Nat :=
  let c2_i32_10 : BitVec 32 := 2#32
  let c4_i32_380 : BitVec 32 := 4#32
  let v619 : BitVec 32 := Scalar.remsi c2_i32_10 c4_i32_380
  let c4_i32_454 : BitVec 32 := 4#32
  let c0_i32_455 : BitVec 32 := 0#32
  let c0_i32_456 : BitVec 32 := 0#32
  let c0_i32_457 : BitVec 32 := 0#32
  ![v619.toNat, 4, 0, 0, 0]
def k0_off109 : Fin 1 → Nat :=
  let c2_i32_10 : BitVec 32 := 2#32
  let c8_i32_461 : BitVec 32 := 8#32
  let v700 : BitVec 32 := Scalar.muli c2_i32_10 c8_i32_461
  let c5_i32_462 : BitVec 32 := 5#32
  let v701 : BitVec 32 := Scalar.addi v700 c5_i32_462
  let v702 : Index := Scalar.indexCast v701
  ![v702.toNat]
def k0_off110 : Fin 5 → Nat :=
  let c2_i32_10 : BitVec 32 := 2#32
  let c4_i32_380 : BitVec 32 := 4#32
  let v619 : BitVec 32 := Scalar.remsi c2_i32_10 c4_i32_380
  let c5_i32_463 : BitVec 32 := 5#32
  let c0_i32_464 : BitVec 32 := 0#32
  let c0_i32_465 : BitVec 32 := 0#32
  let c0_i32_466 : BitVec 32 := 0#32
  ![v619.toNat, 5, 0, 0, 0]
def k0_off111 (v703 : BitVec 32) : Fin 4 → Nat :=
  let c0_i32_467 : BitVec 32 := 0#32
  let c0_i32_468 : BitVec 32 := 0#32
  let c0_i32_469 : BitVec 32 := 0#32
  ![v703.toNat, 0, 0, 0]

def k0_chk22 (v0 : BitVec 32) (v703 : BitVec 32) : Prop :=
  (∀ (k0_h3 : k0_cond3 v0 = 1#1), ∀ a, (k0_off111 v703) a + S1x2x128x256.size a ≤ S512x2x128x256.size a) ∧
  (∀ (k0_h3 : k0_cond3 v0 = 1#1), ∀ (hinb : ∀ a, (k0_off111 v703) a + S1x2x128x256.size a ≤ S512x2x128x256.size a), (Rect.unit (s := S512x2x128x256) (k0_off111 v703) S1x2x128x256.size hinb).WholeWords (EltTy.packing .fp8e4m3))
theorem k0_off111_inb : ∀ (v0 : BitVec 32) (v703 : BitVec 32) (k0_hw22 : k0_chk22 v0 v703), ∀ (k0_h3 : k0_cond3 v0 = 1#1), ∀ a, (k0_off111 v703) a + S1x2x128x256.size a ≤ S512x2x128x256.size a := fun v0 v703 k0_hw22 k0_h3 => k0_hw22.1 k0_h3
theorem k0_off111_wordsfp8e4m3 : ∀ (v0 : BitVec 32) (v703 : BitVec 32) (k0_hw22 : k0_chk22 v0 v703), ∀ (k0_h3 : k0_cond3 v0 = 1#1), (Rect.unit (s := S512x2x128x256) (k0_off111 v703) S1x2x128x256.size (k0_off111_inb v0 v703 k0_hw22 k0_h3)).WholeWords (EltTy.packing .fp8e4m3) := fun v0 v703 k0_hw22 k0_h3 => k0_hw22.2 k0_h3 (k0_off111_inb v0 v703 k0_hw22 k0_h3)

def k0_off112 : Fin 1 → Nat :=
  let c2_i32_10 : BitVec 32 := 2#32
  let c4_i32_380 : BitVec 32 := 4#32
  let v619 : BitVec 32 := Scalar.remsi c2_i32_10 c4_i32_380
  ![v619.toNat]
def k0_off113 : Fin 5 → Nat :=
  let c2_i32_10 : BitVec 32 := 2#32
  let c4_i32_380 : BitVec 32 := 4#32
  let v619 : BitVec 32 := Scalar.remsi c2_i32_10 c4_i32_380
  let c5_i32_470 : BitVec 32 := 5#32
  let c0_i32_471 : BitVec 32 := 0#32
  let c0_i32_472 : BitVec 32 := 0#32
  let c0_i32_473 : BitVec 32 := 0#32
  ![v619.toNat, 5, 0, 0, 0]
def k0_off114 : Fin 1 → Nat :=
  let c2_i32_10 : BitVec 32 := 2#32
  let c8_i32_477 : BitVec 32 := 8#32
  let v716 : BitVec 32 := Scalar.muli c2_i32_10 c8_i32_477
  let c6_i32_478 : BitVec 32 := 6#32
  let v717 : BitVec 32 := Scalar.addi v716 c6_i32_478
  let v718 : Index := Scalar.indexCast v717
  ![v718.toNat]
def k0_off115 : Fin 5 → Nat :=
  let c2_i32_10 : BitVec 32 := 2#32
  let c4_i32_380 : BitVec 32 := 4#32
  let v619 : BitVec 32 := Scalar.remsi c2_i32_10 c4_i32_380
  let c6_i32_479 : BitVec 32 := 6#32
  let c0_i32_480 : BitVec 32 := 0#32
  let c0_i32_481 : BitVec 32 := 0#32
  let c0_i32_482 : BitVec 32 := 0#32
  ![v619.toNat, 6, 0, 0, 0]
def k0_off116 (v719 : BitVec 32) : Fin 4 → Nat :=
  let c0_i32_483 : BitVec 32 := 0#32
  let c0_i32_484 : BitVec 32 := 0#32
  let c0_i32_485 : BitVec 32 := 0#32
  ![v719.toNat, 0, 0, 0]

def k0_chk23 (v0 : BitVec 32) (v719 : BitVec 32) : Prop :=
  (∀ (k0_h3 : k0_cond3 v0 = 1#1), ∀ a, (k0_off116 v719) a + S1x2x128x256.size a ≤ S512x2x128x256.size a) ∧
  (∀ (k0_h3 : k0_cond3 v0 = 1#1), ∀ (hinb : ∀ a, (k0_off116 v719) a + S1x2x128x256.size a ≤ S512x2x128x256.size a), (Rect.unit (s := S512x2x128x256) (k0_off116 v719) S1x2x128x256.size hinb).WholeWords (EltTy.packing .fp8e4m3))
theorem k0_off116_inb : ∀ (v0 : BitVec 32) (v719 : BitVec 32) (k0_hw23 : k0_chk23 v0 v719), ∀ (k0_h3 : k0_cond3 v0 = 1#1), ∀ a, (k0_off116 v719) a + S1x2x128x256.size a ≤ S512x2x128x256.size a := fun v0 v719 k0_hw23 k0_h3 => k0_hw23.1 k0_h3
theorem k0_off116_wordsfp8e4m3 : ∀ (v0 : BitVec 32) (v719 : BitVec 32) (k0_hw23 : k0_chk23 v0 v719), ∀ (k0_h3 : k0_cond3 v0 = 1#1), (Rect.unit (s := S512x2x128x256) (k0_off116 v719) S1x2x128x256.size (k0_off116_inb v0 v719 k0_hw23 k0_h3)).WholeWords (EltTy.packing .fp8e4m3) := fun v0 v719 k0_hw23 k0_h3 => k0_hw23.2 k0_h3 (k0_off116_inb v0 v719 k0_hw23 k0_h3)

def k0_off117 : Fin 1 → Nat :=
  let c2_i32_10 : BitVec 32 := 2#32
  let c4_i32_380 : BitVec 32 := 4#32
  let v619 : BitVec 32 := Scalar.remsi c2_i32_10 c4_i32_380
  ![v619.toNat]
def k0_off118 : Fin 5 → Nat :=
  let c2_i32_10 : BitVec 32 := 2#32
  let c4_i32_380 : BitVec 32 := 4#32
  let v619 : BitVec 32 := Scalar.remsi c2_i32_10 c4_i32_380
  let c6_i32_486 : BitVec 32 := 6#32
  let c0_i32_487 : BitVec 32 := 0#32
  let c0_i32_488 : BitVec 32 := 0#32
  let c0_i32_489 : BitVec 32 := 0#32
  ![v619.toNat, 6, 0, 0, 0]
def k0_off119 : Fin 1 → Nat :=
  let c2_i32_10 : BitVec 32 := 2#32
  let c8_i32_493 : BitVec 32 := 8#32
  let v732 : BitVec 32 := Scalar.muli c2_i32_10 c8_i32_493
  let c7_i32_494 : BitVec 32 := 7#32
  let v733 : BitVec 32 := Scalar.addi v732 c7_i32_494
  let v734 : Index := Scalar.indexCast v733
  ![v734.toNat]
def k0_off120 : Fin 5 → Nat :=
  let c2_i32_10 : BitVec 32 := 2#32
  let c4_i32_380 : BitVec 32 := 4#32
  let v619 : BitVec 32 := Scalar.remsi c2_i32_10 c4_i32_380
  let c7_i32_495 : BitVec 32 := 7#32
  let c0_i32_496 : BitVec 32 := 0#32
  let c0_i32_497 : BitVec 32 := 0#32
  let c0_i32_498 : BitVec 32 := 0#32
  ![v619.toNat, 7, 0, 0, 0]
def k0_off121 (v735 : BitVec 32) : Fin 4 → Nat :=
  let c0_i32_499 : BitVec 32 := 0#32
  let c0_i32_500 : BitVec 32 := 0#32
  let c0_i32_501 : BitVec 32 := 0#32
  ![v735.toNat, 0, 0, 0]

def k0_chk24 (v0 : BitVec 32) (v735 : BitVec 32) : Prop :=
  (∀ (k0_h3 : k0_cond3 v0 = 1#1), ∀ a, (k0_off121 v735) a + S1x2x128x256.size a ≤ S512x2x128x256.size a) ∧
  (∀ (k0_h3 : k0_cond3 v0 = 1#1), ∀ (hinb : ∀ a, (k0_off121 v735) a + S1x2x128x256.size a ≤ S512x2x128x256.size a), (Rect.unit (s := S512x2x128x256) (k0_off121 v735) S1x2x128x256.size hinb).WholeWords (EltTy.packing .fp8e4m3))
theorem k0_off121_inb : ∀ (v0 : BitVec 32) (v735 : BitVec 32) (k0_hw24 : k0_chk24 v0 v735), ∀ (k0_h3 : k0_cond3 v0 = 1#1), ∀ a, (k0_off121 v735) a + S1x2x128x256.size a ≤ S512x2x128x256.size a := fun v0 v735 k0_hw24 k0_h3 => k0_hw24.1 k0_h3
theorem k0_off121_wordsfp8e4m3 : ∀ (v0 : BitVec 32) (v735 : BitVec 32) (k0_hw24 : k0_chk24 v0 v735), ∀ (k0_h3 : k0_cond3 v0 = 1#1), (Rect.unit (s := S512x2x128x256) (k0_off121 v735) S1x2x128x256.size (k0_off121_inb v0 v735 k0_hw24 k0_h3)).WholeWords (EltTy.packing .fp8e4m3) := fun v0 v735 k0_hw24 k0_h3 => k0_hw24.2 k0_h3 (k0_off121_inb v0 v735 k0_hw24 k0_h3)

def k0_off122 : Fin 1 → Nat :=
  let c2_i32_10 : BitVec 32 := 2#32
  let c4_i32_380 : BitVec 32 := 4#32
  let v619 : BitVec 32 := Scalar.remsi c2_i32_10 c4_i32_380
  ![v619.toNat]
def k0_off123 : Fin 5 → Nat :=
  let c2_i32_10 : BitVec 32 := 2#32
  let c4_i32_380 : BitVec 32 := 4#32
  let v619 : BitVec 32 := Scalar.remsi c2_i32_10 c4_i32_380
  let c7_i32_502 : BitVec 32 := 7#32
  let c0_i32_503 : BitVec 32 := 0#32
  let c0_i32_504 : BitVec 32 := 0#32
  let c0_i32_505 : BitVec 32 := 0#32
  ![v619.toNat, 7, 0, 0, 0]
@[reducible] def k0_t1_loop (v0 : BitVec 32) : Scf.Loop 32 :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_140 : BitVec 32 := 1#32
  ⟨c0_i32_138, v310, c1_i32_140⟩

def k0_off124 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c8_i32_381 : BitVec 32 := 8#32
  let v620 : BitVec 32 := Scalar.muli arg19 c8_i32_381
  let c0_i32_382 : BitVec 32 := 0#32
  let v621 : BitVec 32 := Scalar.addi v620 c0_i32_382
  let v622 : Index := Scalar.indexCast v621
  ![v622.toNat]
def k0_off125 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  ![v619.toNat]
def k0_off126 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c0_i32_383 : BitVec 32 := 0#32
  let c0_i32_384 : BitVec 32 := 0#32
  let c0_i32_385 : BitVec 32 := 0#32
  let c0_i32_386 : BitVec 32 := 0#32
  ![v619.toNat, 0, 0, 0, 0]
def k0_off127 (v623 : BitVec 32) : Fin 4 → Nat :=
  let c0_i32_387 : BitVec 32 := 0#32
  let c0_i32_388 : BitVec 32 := 0#32
  let c0_i32_389 : BitVec 32 := 0#32
  ![v623.toNat, 0, 0, 0]

def k0_chk26 (v623 : BitVec 32) : Prop :=
  (∀ a, (k0_off127 v623) a + S1x2x128x256.size a ≤ S512x2x128x256.size a) ∧
  (∀ (hinb : ∀ a, (k0_off127 v623) a + S1x2x128x256.size a ≤ S512x2x128x256.size a), (Rect.unit (s := S512x2x128x256) (k0_off127 v623) S1x2x128x256.size hinb).WholeWords (EltTy.packing .fp8e4m3))
theorem k0_off127_inb : ∀ (v623 : BitVec 32) (k0_hw26 : k0_chk26 v623), ∀ a, (k0_off127 v623) a + S1x2x128x256.size a ≤ S512x2x128x256.size a := fun v623 k0_hw26 => k0_hw26.1
theorem k0_off127_wordsfp8e4m3 : ∀ (v623 : BitVec 32) (k0_hw26 : k0_chk26 v623), (Rect.unit (s := S512x2x128x256) (k0_off127 v623) S1x2x128x256.size (k0_off127_inb v623 k0_hw26)).WholeWords (EltTy.packing .fp8e4m3) := fun v623 k0_hw26 => k0_hw26.2 (k0_off127_inb v623 k0_hw26)

def k0_off128 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  ![v619.toNat]
def k0_off129 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c0_i32_390 : BitVec 32 := 0#32
  let c0_i32_391 : BitVec 32 := 0#32
  let c0_i32_392 : BitVec 32 := 0#32
  let c0_i32_393 : BitVec 32 := 0#32
  ![v619.toNat, 0, 0, 0, 0]
def k0_off130 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c8_i32_397 : BitVec 32 := 8#32
  let v636 : BitVec 32 := Scalar.muli arg19 c8_i32_397
  let c1_i32_398 : BitVec 32 := 1#32
  let v637 : BitVec 32 := Scalar.addi v636 c1_i32_398
  let v638 : Index := Scalar.indexCast v637
  ![v638.toNat]
def k0_off131 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c1_i32_399 : BitVec 32 := 1#32
  let c0_i32_400 : BitVec 32 := 0#32
  let c0_i32_401 : BitVec 32 := 0#32
  let c0_i32_402 : BitVec 32 := 0#32
  ![v619.toNat, 1, 0, 0, 0]
def k0_off132 (v639 : BitVec 32) : Fin 4 → Nat :=
  let c0_i32_403 : BitVec 32 := 0#32
  let c0_i32_404 : BitVec 32 := 0#32
  let c0_i32_405 : BitVec 32 := 0#32
  ![v639.toNat, 0, 0, 0]

def k0_chk27 (v639 : BitVec 32) : Prop :=
  (∀ a, (k0_off132 v639) a + S1x2x128x256.size a ≤ S512x2x128x256.size a) ∧
  (∀ (hinb : ∀ a, (k0_off132 v639) a + S1x2x128x256.size a ≤ S512x2x128x256.size a), (Rect.unit (s := S512x2x128x256) (k0_off132 v639) S1x2x128x256.size hinb).WholeWords (EltTy.packing .fp8e4m3))
theorem k0_off132_inb : ∀ (v639 : BitVec 32) (k0_hw27 : k0_chk27 v639), ∀ a, (k0_off132 v639) a + S1x2x128x256.size a ≤ S512x2x128x256.size a := fun v639 k0_hw27 => k0_hw27.1
theorem k0_off132_wordsfp8e4m3 : ∀ (v639 : BitVec 32) (k0_hw27 : k0_chk27 v639), (Rect.unit (s := S512x2x128x256) (k0_off132 v639) S1x2x128x256.size (k0_off132_inb v639 k0_hw27)).WholeWords (EltTy.packing .fp8e4m3) := fun v639 k0_hw27 => k0_hw27.2 (k0_off132_inb v639 k0_hw27)

def k0_off133 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  ![v619.toNat]
def k0_off134 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c1_i32_406 : BitVec 32 := 1#32
  let c0_i32_407 : BitVec 32 := 0#32
  let c0_i32_408 : BitVec 32 := 0#32
  let c0_i32_409 : BitVec 32 := 0#32
  ![v619.toNat, 1, 0, 0, 0]
def k0_off135 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c8_i32_413 : BitVec 32 := 8#32
  let v652 : BitVec 32 := Scalar.muli arg19 c8_i32_413
  let c2_i32_414 : BitVec 32 := 2#32
  let v653 : BitVec 32 := Scalar.addi v652 c2_i32_414
  let v654 : Index := Scalar.indexCast v653
  ![v654.toNat]
def k0_off136 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c2_i32_415 : BitVec 32 := 2#32
  let c0_i32_416 : BitVec 32 := 0#32
  let c0_i32_417 : BitVec 32 := 0#32
  let c0_i32_418 : BitVec 32 := 0#32
  ![v619.toNat, 2, 0, 0, 0]
def k0_off137 (v655 : BitVec 32) : Fin 4 → Nat :=
  let c0_i32_419 : BitVec 32 := 0#32
  let c0_i32_420 : BitVec 32 := 0#32
  let c0_i32_421 : BitVec 32 := 0#32
  ![v655.toNat, 0, 0, 0]

def k0_chk28 (v655 : BitVec 32) : Prop :=
  (∀ a, (k0_off137 v655) a + S1x2x128x256.size a ≤ S512x2x128x256.size a) ∧
  (∀ (hinb : ∀ a, (k0_off137 v655) a + S1x2x128x256.size a ≤ S512x2x128x256.size a), (Rect.unit (s := S512x2x128x256) (k0_off137 v655) S1x2x128x256.size hinb).WholeWords (EltTy.packing .fp8e4m3))
theorem k0_off137_inb : ∀ (v655 : BitVec 32) (k0_hw28 : k0_chk28 v655), ∀ a, (k0_off137 v655) a + S1x2x128x256.size a ≤ S512x2x128x256.size a := fun v655 k0_hw28 => k0_hw28.1
theorem k0_off137_wordsfp8e4m3 : ∀ (v655 : BitVec 32) (k0_hw28 : k0_chk28 v655), (Rect.unit (s := S512x2x128x256) (k0_off137 v655) S1x2x128x256.size (k0_off137_inb v655 k0_hw28)).WholeWords (EltTy.packing .fp8e4m3) := fun v655 k0_hw28 => k0_hw28.2 (k0_off137_inb v655 k0_hw28)

def k0_off138 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  ![v619.toNat]
def k0_off139 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c2_i32_422 : BitVec 32 := 2#32
  let c0_i32_423 : BitVec 32 := 0#32
  let c0_i32_424 : BitVec 32 := 0#32
  let c0_i32_425 : BitVec 32 := 0#32
  ![v619.toNat, 2, 0, 0, 0]
def k0_off140 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c8_i32_429 : BitVec 32 := 8#32
  let v668 : BitVec 32 := Scalar.muli arg19 c8_i32_429
  let c3_i32_430 : BitVec 32 := 3#32
  let v669 : BitVec 32 := Scalar.addi v668 c3_i32_430
  let v670 : Index := Scalar.indexCast v669
  ![v670.toNat]
def k0_off141 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c3_i32_431 : BitVec 32 := 3#32
  let c0_i32_432 : BitVec 32 := 0#32
  let c0_i32_433 : BitVec 32 := 0#32
  let c0_i32_434 : BitVec 32 := 0#32
  ![v619.toNat, 3, 0, 0, 0]
def k0_off142 (v671 : BitVec 32) : Fin 4 → Nat :=
  let c0_i32_435 : BitVec 32 := 0#32
  let c0_i32_436 : BitVec 32 := 0#32
  let c0_i32_437 : BitVec 32 := 0#32
  ![v671.toNat, 0, 0, 0]

def k0_chk29 (v671 : BitVec 32) : Prop :=
  (∀ a, (k0_off142 v671) a + S1x2x128x256.size a ≤ S512x2x128x256.size a) ∧
  (∀ (hinb : ∀ a, (k0_off142 v671) a + S1x2x128x256.size a ≤ S512x2x128x256.size a), (Rect.unit (s := S512x2x128x256) (k0_off142 v671) S1x2x128x256.size hinb).WholeWords (EltTy.packing .fp8e4m3))
theorem k0_off142_inb : ∀ (v671 : BitVec 32) (k0_hw29 : k0_chk29 v671), ∀ a, (k0_off142 v671) a + S1x2x128x256.size a ≤ S512x2x128x256.size a := fun v671 k0_hw29 => k0_hw29.1
theorem k0_off142_wordsfp8e4m3 : ∀ (v671 : BitVec 32) (k0_hw29 : k0_chk29 v671), (Rect.unit (s := S512x2x128x256) (k0_off142 v671) S1x2x128x256.size (k0_off142_inb v671 k0_hw29)).WholeWords (EltTy.packing .fp8e4m3) := fun v671 k0_hw29 => k0_hw29.2 (k0_off142_inb v671 k0_hw29)

def k0_off143 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  ![v619.toNat]
def k0_off144 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c3_i32_438 : BitVec 32 := 3#32
  let c0_i32_439 : BitVec 32 := 0#32
  let c0_i32_440 : BitVec 32 := 0#32
  let c0_i32_441 : BitVec 32 := 0#32
  ![v619.toNat, 3, 0, 0, 0]
def k0_off145 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c8_i32_445 : BitVec 32 := 8#32
  let v684 : BitVec 32 := Scalar.muli arg19 c8_i32_445
  let c4_i32_446 : BitVec 32 := 4#32
  let v685 : BitVec 32 := Scalar.addi v684 c4_i32_446
  let v686 : Index := Scalar.indexCast v685
  ![v686.toNat]
def k0_off146 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c4_i32_447 : BitVec 32 := 4#32
  let c0_i32_448 : BitVec 32 := 0#32
  let c0_i32_449 : BitVec 32 := 0#32
  let c0_i32_450 : BitVec 32 := 0#32
  ![v619.toNat, 4, 0, 0, 0]
def k0_off147 (v687 : BitVec 32) : Fin 4 → Nat :=
  let c0_i32_451 : BitVec 32 := 0#32
  let c0_i32_452 : BitVec 32 := 0#32
  let c0_i32_453 : BitVec 32 := 0#32
  ![v687.toNat, 0, 0, 0]

def k0_chk30 (v687 : BitVec 32) : Prop :=
  (∀ a, (k0_off147 v687) a + S1x2x128x256.size a ≤ S512x2x128x256.size a) ∧
  (∀ (hinb : ∀ a, (k0_off147 v687) a + S1x2x128x256.size a ≤ S512x2x128x256.size a), (Rect.unit (s := S512x2x128x256) (k0_off147 v687) S1x2x128x256.size hinb).WholeWords (EltTy.packing .fp8e4m3))
theorem k0_off147_inb : ∀ (v687 : BitVec 32) (k0_hw30 : k0_chk30 v687), ∀ a, (k0_off147 v687) a + S1x2x128x256.size a ≤ S512x2x128x256.size a := fun v687 k0_hw30 => k0_hw30.1
theorem k0_off147_wordsfp8e4m3 : ∀ (v687 : BitVec 32) (k0_hw30 : k0_chk30 v687), (Rect.unit (s := S512x2x128x256) (k0_off147 v687) S1x2x128x256.size (k0_off147_inb v687 k0_hw30)).WholeWords (EltTy.packing .fp8e4m3) := fun v687 k0_hw30 => k0_hw30.2 (k0_off147_inb v687 k0_hw30)

def k0_off148 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  ![v619.toNat]
def k0_off149 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c4_i32_454 : BitVec 32 := 4#32
  let c0_i32_455 : BitVec 32 := 0#32
  let c0_i32_456 : BitVec 32 := 0#32
  let c0_i32_457 : BitVec 32 := 0#32
  ![v619.toNat, 4, 0, 0, 0]
def k0_off150 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c8_i32_461 : BitVec 32 := 8#32
  let v700 : BitVec 32 := Scalar.muli arg19 c8_i32_461
  let c5_i32_462 : BitVec 32 := 5#32
  let v701 : BitVec 32 := Scalar.addi v700 c5_i32_462
  let v702 : Index := Scalar.indexCast v701
  ![v702.toNat]
def k0_off151 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c5_i32_463 : BitVec 32 := 5#32
  let c0_i32_464 : BitVec 32 := 0#32
  let c0_i32_465 : BitVec 32 := 0#32
  let c0_i32_466 : BitVec 32 := 0#32
  ![v619.toNat, 5, 0, 0, 0]
def k0_off152 (v703 : BitVec 32) : Fin 4 → Nat :=
  let c0_i32_467 : BitVec 32 := 0#32
  let c0_i32_468 : BitVec 32 := 0#32
  let c0_i32_469 : BitVec 32 := 0#32
  ![v703.toNat, 0, 0, 0]

def k0_chk31 (v703 : BitVec 32) : Prop :=
  (∀ a, (k0_off152 v703) a + S1x2x128x256.size a ≤ S512x2x128x256.size a) ∧
  (∀ (hinb : ∀ a, (k0_off152 v703) a + S1x2x128x256.size a ≤ S512x2x128x256.size a), (Rect.unit (s := S512x2x128x256) (k0_off152 v703) S1x2x128x256.size hinb).WholeWords (EltTy.packing .fp8e4m3))
theorem k0_off152_inb : ∀ (v703 : BitVec 32) (k0_hw31 : k0_chk31 v703), ∀ a, (k0_off152 v703) a + S1x2x128x256.size a ≤ S512x2x128x256.size a := fun v703 k0_hw31 => k0_hw31.1
theorem k0_off152_wordsfp8e4m3 : ∀ (v703 : BitVec 32) (k0_hw31 : k0_chk31 v703), (Rect.unit (s := S512x2x128x256) (k0_off152 v703) S1x2x128x256.size (k0_off152_inb v703 k0_hw31)).WholeWords (EltTy.packing .fp8e4m3) := fun v703 k0_hw31 => k0_hw31.2 (k0_off152_inb v703 k0_hw31)

def k0_off153 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  ![v619.toNat]
def k0_off154 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c5_i32_470 : BitVec 32 := 5#32
  let c0_i32_471 : BitVec 32 := 0#32
  let c0_i32_472 : BitVec 32 := 0#32
  let c0_i32_473 : BitVec 32 := 0#32
  ![v619.toNat, 5, 0, 0, 0]
def k0_off155 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c8_i32_477 : BitVec 32 := 8#32
  let v716 : BitVec 32 := Scalar.muli arg19 c8_i32_477
  let c6_i32_478 : BitVec 32 := 6#32
  let v717 : BitVec 32 := Scalar.addi v716 c6_i32_478
  let v718 : Index := Scalar.indexCast v717
  ![v718.toNat]
def k0_off156 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c6_i32_479 : BitVec 32 := 6#32
  let c0_i32_480 : BitVec 32 := 0#32
  let c0_i32_481 : BitVec 32 := 0#32
  let c0_i32_482 : BitVec 32 := 0#32
  ![v619.toNat, 6, 0, 0, 0]
def k0_off157 (v719 : BitVec 32) : Fin 4 → Nat :=
  let c0_i32_483 : BitVec 32 := 0#32
  let c0_i32_484 : BitVec 32 := 0#32
  let c0_i32_485 : BitVec 32 := 0#32
  ![v719.toNat, 0, 0, 0]

def k0_chk32 (v719 : BitVec 32) : Prop :=
  (∀ a, (k0_off157 v719) a + S1x2x128x256.size a ≤ S512x2x128x256.size a) ∧
  (∀ (hinb : ∀ a, (k0_off157 v719) a + S1x2x128x256.size a ≤ S512x2x128x256.size a), (Rect.unit (s := S512x2x128x256) (k0_off157 v719) S1x2x128x256.size hinb).WholeWords (EltTy.packing .fp8e4m3))
theorem k0_off157_inb : ∀ (v719 : BitVec 32) (k0_hw32 : k0_chk32 v719), ∀ a, (k0_off157 v719) a + S1x2x128x256.size a ≤ S512x2x128x256.size a := fun v719 k0_hw32 => k0_hw32.1
theorem k0_off157_wordsfp8e4m3 : ∀ (v719 : BitVec 32) (k0_hw32 : k0_chk32 v719), (Rect.unit (s := S512x2x128x256) (k0_off157 v719) S1x2x128x256.size (k0_off157_inb v719 k0_hw32)).WholeWords (EltTy.packing .fp8e4m3) := fun v719 k0_hw32 => k0_hw32.2 (k0_off157_inb v719 k0_hw32)

def k0_off158 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  ![v619.toNat]
def k0_off159 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c6_i32_486 : BitVec 32 := 6#32
  let c0_i32_487 : BitVec 32 := 0#32
  let c0_i32_488 : BitVec 32 := 0#32
  let c0_i32_489 : BitVec 32 := 0#32
  ![v619.toNat, 6, 0, 0, 0]
def k0_off160 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c8_i32_493 : BitVec 32 := 8#32
  let v732 : BitVec 32 := Scalar.muli arg19 c8_i32_493
  let c7_i32_494 : BitVec 32 := 7#32
  let v733 : BitVec 32 := Scalar.addi v732 c7_i32_494
  let v734 : Index := Scalar.indexCast v733
  ![v734.toNat]
def k0_off161 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c7_i32_495 : BitVec 32 := 7#32
  let c0_i32_496 : BitVec 32 := 0#32
  let c0_i32_497 : BitVec 32 := 0#32
  let c0_i32_498 : BitVec 32 := 0#32
  ![v619.toNat, 7, 0, 0, 0]
def k0_off162 (v735 : BitVec 32) : Fin 4 → Nat :=
  let c0_i32_499 : BitVec 32 := 0#32
  let c0_i32_500 : BitVec 32 := 0#32
  let c0_i32_501 : BitVec 32 := 0#32
  ![v735.toNat, 0, 0, 0]

def k0_chk33 (v735 : BitVec 32) : Prop :=
  (∀ a, (k0_off162 v735) a + S1x2x128x256.size a ≤ S512x2x128x256.size a) ∧
  (∀ (hinb : ∀ a, (k0_off162 v735) a + S1x2x128x256.size a ≤ S512x2x128x256.size a), (Rect.unit (s := S512x2x128x256) (k0_off162 v735) S1x2x128x256.size hinb).WholeWords (EltTy.packing .fp8e4m3))
theorem k0_off162_inb : ∀ (v735 : BitVec 32) (k0_hw33 : k0_chk33 v735), ∀ a, (k0_off162 v735) a + S1x2x128x256.size a ≤ S512x2x128x256.size a := fun v735 k0_hw33 => k0_hw33.1
theorem k0_off162_wordsfp8e4m3 : ∀ (v735 : BitVec 32) (k0_hw33 : k0_chk33 v735), (Rect.unit (s := S512x2x128x256) (k0_off162 v735) S1x2x128x256.size (k0_off162_inb v735 k0_hw33)).WholeWords (EltTy.packing .fp8e4m3) := fun v735 k0_hw33 => k0_hw33.2 (k0_off162_inb v735 k0_hw33)

def k0_off163 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  ![v619.toNat]
def k0_off164 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_380 : BitVec 32 := 4#32
  let v619 : BitVec 32 := Scalar.remsi arg19 c4_i32_380
  let c7_i32_502 : BitVec 32 := 7#32
  let c0_i32_503 : BitVec 32 := 0#32
  let c0_i32_504 : BitVec 32 := 0#32
  let c0_i32_505 : BitVec 32 := 0#32
  ![v619.toNat, 7, 0, 0, 0]
def k0_off165 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c8_i32_596 : BitVec 32 := 8#32
  let v883 : BitVec 32 := Scalar.muli v749 c8_i32_596
  let c0_i32_597 : BitVec 32 := 0#32
  let v884 : BitVec 32 := Scalar.addi v883 c0_i32_597
  let v885 : Index := Scalar.indexCast v884
  ![v885.toNat]
def k0_cond4 (v0 : BitVec 32) (k0_t1 : Fin (k0_t1_loop v0).trips) : BitVec 1 :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v750 : BitVec 1 := Scalar.cmpi .sle v749 v17
  let v751 : BitVec 32 := Scalar.extui v750
  let c0_i32_511 : BitVec 32 := 0#32
  let v752 : BitVec 1 := Scalar.cmpi .ne v751 c0_i32_511
  v752

def k0_off166 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off167 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c0_i32_598 : BitVec 32 := 0#32
  let c0_i32_599 : BitVec 32 := 0#32
  let c0_i32_600 : BitVec 32 := 0#32
  let c0_i32_601 : BitVec 32 := 0#32
  ![v882.toNat, 0, 0, 0, 0]
def k0_off168 (v886 : BitVec 32) : Fin 4 → Nat :=
  let c0_i32_602 : BitVec 32 := 0#32
  let c0_i32_603 : BitVec 32 := 0#32
  let c0_i32_604 : BitVec 32 := 0#32
  ![v886.toNat, 0, 0, 0]

def k0_chk34 (v0 : BitVec 32) (k0_t1 : Fin (k0_t1_loop v0).trips) (v886 : BitVec 32) : Prop :=
  (∀ (k0_h4 : k0_cond4 v0 k0_t1 = 1#1), ∀ a, (k0_off168 v886) a + S1x2x128x256.size a ≤ S512x2x128x256.size a) ∧
  (∀ (k0_h4 : k0_cond4 v0 k0_t1 = 1#1), ∀ (hinb : ∀ a, (k0_off168 v886) a + S1x2x128x256.size a ≤ S512x2x128x256.size a), (Rect.unit (s := S512x2x128x256) (k0_off168 v886) S1x2x128x256.size hinb).WholeWords (EltTy.packing .fp8e4m3))
theorem k0_off168_inb : ∀ (v0 : BitVec 32) (k0_t1 : Fin (k0_t1_loop v0).trips) (v886 : BitVec 32) (k0_hw34 : k0_chk34 v0 k0_t1 v886), ∀ (k0_h4 : k0_cond4 v0 k0_t1 = 1#1), ∀ a, (k0_off168 v886) a + S1x2x128x256.size a ≤ S512x2x128x256.size a := fun v0 k0_t1 v886 k0_hw34 k0_h4 => k0_hw34.1 k0_h4
theorem k0_off168_wordsfp8e4m3 : ∀ (v0 : BitVec 32) (k0_t1 : Fin (k0_t1_loop v0).trips) (v886 : BitVec 32) (k0_hw34 : k0_chk34 v0 k0_t1 v886), ∀ (k0_h4 : k0_cond4 v0 k0_t1 = 1#1), (Rect.unit (s := S512x2x128x256) (k0_off168 v886) S1x2x128x256.size (k0_off168_inb v0 k0_t1 v886 k0_hw34 k0_h4)).WholeWords (EltTy.packing .fp8e4m3) := fun v0 k0_t1 v886 k0_hw34 k0_h4 => k0_hw34.2 k0_h4 (k0_off168_inb v0 k0_t1 v886 k0_hw34 k0_h4)

def k0_off169 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off170 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c0_i32_605 : BitVec 32 := 0#32
  let c0_i32_606 : BitVec 32 := 0#32
  let c0_i32_607 : BitVec 32 := 0#32
  let c0_i32_608 : BitVec 32 := 0#32
  ![v882.toNat, 0, 0, 0, 0]
def k0_off171 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c8_i32_612 : BitVec 32 := 8#32
  let v899 : BitVec 32 := Scalar.muli v749 c8_i32_612
  let c1_i32_613 : BitVec 32 := 1#32
  let v900 : BitVec 32 := Scalar.addi v899 c1_i32_613
  let v901 : Index := Scalar.indexCast v900
  ![v901.toNat]
def k0_off172 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c1_i32_614 : BitVec 32 := 1#32
  let c0_i32_615 : BitVec 32 := 0#32
  let c0_i32_616 : BitVec 32 := 0#32
  let c0_i32_617 : BitVec 32 := 0#32
  ![v882.toNat, 1, 0, 0, 0]
def k0_off173 (v902 : BitVec 32) : Fin 4 → Nat :=
  let c0_i32_618 : BitVec 32 := 0#32
  let c0_i32_619 : BitVec 32 := 0#32
  let c0_i32_620 : BitVec 32 := 0#32
  ![v902.toNat, 0, 0, 0]

def k0_chk35 (v0 : BitVec 32) (k0_t1 : Fin (k0_t1_loop v0).trips) (v902 : BitVec 32) : Prop :=
  (∀ (k0_h4 : k0_cond4 v0 k0_t1 = 1#1), ∀ a, (k0_off173 v902) a + S1x2x128x256.size a ≤ S512x2x128x256.size a) ∧
  (∀ (k0_h4 : k0_cond4 v0 k0_t1 = 1#1), ∀ (hinb : ∀ a, (k0_off173 v902) a + S1x2x128x256.size a ≤ S512x2x128x256.size a), (Rect.unit (s := S512x2x128x256) (k0_off173 v902) S1x2x128x256.size hinb).WholeWords (EltTy.packing .fp8e4m3))
theorem k0_off173_inb : ∀ (v0 : BitVec 32) (k0_t1 : Fin (k0_t1_loop v0).trips) (v902 : BitVec 32) (k0_hw35 : k0_chk35 v0 k0_t1 v902), ∀ (k0_h4 : k0_cond4 v0 k0_t1 = 1#1), ∀ a, (k0_off173 v902) a + S1x2x128x256.size a ≤ S512x2x128x256.size a := fun v0 k0_t1 v902 k0_hw35 k0_h4 => k0_hw35.1 k0_h4
theorem k0_off173_wordsfp8e4m3 : ∀ (v0 : BitVec 32) (k0_t1 : Fin (k0_t1_loop v0).trips) (v902 : BitVec 32) (k0_hw35 : k0_chk35 v0 k0_t1 v902), ∀ (k0_h4 : k0_cond4 v0 k0_t1 = 1#1), (Rect.unit (s := S512x2x128x256) (k0_off173 v902) S1x2x128x256.size (k0_off173_inb v0 k0_t1 v902 k0_hw35 k0_h4)).WholeWords (EltTy.packing .fp8e4m3) := fun v0 k0_t1 v902 k0_hw35 k0_h4 => k0_hw35.2 k0_h4 (k0_off173_inb v0 k0_t1 v902 k0_hw35 k0_h4)

def k0_off174 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off175 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c1_i32_621 : BitVec 32 := 1#32
  let c0_i32_622 : BitVec 32 := 0#32
  let c0_i32_623 : BitVec 32 := 0#32
  let c0_i32_624 : BitVec 32 := 0#32
  ![v882.toNat, 1, 0, 0, 0]
def k0_off176 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c8_i32_628 : BitVec 32 := 8#32
  let v915 : BitVec 32 := Scalar.muli v749 c8_i32_628
  let c2_i32_629 : BitVec 32 := 2#32
  let v916 : BitVec 32 := Scalar.addi v915 c2_i32_629
  let v917 : Index := Scalar.indexCast v916
  ![v917.toNat]
def k0_off177 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c2_i32_630 : BitVec 32 := 2#32
  let c0_i32_631 : BitVec 32 := 0#32
  let c0_i32_632 : BitVec 32 := 0#32
  let c0_i32_633 : BitVec 32 := 0#32
  ![v882.toNat, 2, 0, 0, 0]
def k0_off178 (v918 : BitVec 32) : Fin 4 → Nat :=
  let c0_i32_634 : BitVec 32 := 0#32
  let c0_i32_635 : BitVec 32 := 0#32
  let c0_i32_636 : BitVec 32 := 0#32
  ![v918.toNat, 0, 0, 0]

def k0_chk36 (v0 : BitVec 32) (k0_t1 : Fin (k0_t1_loop v0).trips) (v918 : BitVec 32) : Prop :=
  (∀ (k0_h4 : k0_cond4 v0 k0_t1 = 1#1), ∀ a, (k0_off178 v918) a + S1x2x128x256.size a ≤ S512x2x128x256.size a) ∧
  (∀ (k0_h4 : k0_cond4 v0 k0_t1 = 1#1), ∀ (hinb : ∀ a, (k0_off178 v918) a + S1x2x128x256.size a ≤ S512x2x128x256.size a), (Rect.unit (s := S512x2x128x256) (k0_off178 v918) S1x2x128x256.size hinb).WholeWords (EltTy.packing .fp8e4m3))
theorem k0_off178_inb : ∀ (v0 : BitVec 32) (k0_t1 : Fin (k0_t1_loop v0).trips) (v918 : BitVec 32) (k0_hw36 : k0_chk36 v0 k0_t1 v918), ∀ (k0_h4 : k0_cond4 v0 k0_t1 = 1#1), ∀ a, (k0_off178 v918) a + S1x2x128x256.size a ≤ S512x2x128x256.size a := fun v0 k0_t1 v918 k0_hw36 k0_h4 => k0_hw36.1 k0_h4
theorem k0_off178_wordsfp8e4m3 : ∀ (v0 : BitVec 32) (k0_t1 : Fin (k0_t1_loop v0).trips) (v918 : BitVec 32) (k0_hw36 : k0_chk36 v0 k0_t1 v918), ∀ (k0_h4 : k0_cond4 v0 k0_t1 = 1#1), (Rect.unit (s := S512x2x128x256) (k0_off178 v918) S1x2x128x256.size (k0_off178_inb v0 k0_t1 v918 k0_hw36 k0_h4)).WholeWords (EltTy.packing .fp8e4m3) := fun v0 k0_t1 v918 k0_hw36 k0_h4 => k0_hw36.2 k0_h4 (k0_off178_inb v0 k0_t1 v918 k0_hw36 k0_h4)

def k0_off179 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off180 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c2_i32_637 : BitVec 32 := 2#32
  let c0_i32_638 : BitVec 32 := 0#32
  let c0_i32_639 : BitVec 32 := 0#32
  let c0_i32_640 : BitVec 32 := 0#32
  ![v882.toNat, 2, 0, 0, 0]
def k0_off181 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c8_i32_644 : BitVec 32 := 8#32
  let v931 : BitVec 32 := Scalar.muli v749 c8_i32_644
  let c3_i32_645 : BitVec 32 := 3#32
  let v932 : BitVec 32 := Scalar.addi v931 c3_i32_645
  let v933 : Index := Scalar.indexCast v932
  ![v933.toNat]
def k0_off182 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c3_i32_646 : BitVec 32 := 3#32
  let c0_i32_647 : BitVec 32 := 0#32
  let c0_i32_648 : BitVec 32 := 0#32
  let c0_i32_649 : BitVec 32 := 0#32
  ![v882.toNat, 3, 0, 0, 0]
def k0_off183 (v934 : BitVec 32) : Fin 4 → Nat :=
  let c0_i32_650 : BitVec 32 := 0#32
  let c0_i32_651 : BitVec 32 := 0#32
  let c0_i32_652 : BitVec 32 := 0#32
  ![v934.toNat, 0, 0, 0]

def k0_chk37 (v0 : BitVec 32) (k0_t1 : Fin (k0_t1_loop v0).trips) (v934 : BitVec 32) : Prop :=
  (∀ (k0_h4 : k0_cond4 v0 k0_t1 = 1#1), ∀ a, (k0_off183 v934) a + S1x2x128x256.size a ≤ S512x2x128x256.size a) ∧
  (∀ (k0_h4 : k0_cond4 v0 k0_t1 = 1#1), ∀ (hinb : ∀ a, (k0_off183 v934) a + S1x2x128x256.size a ≤ S512x2x128x256.size a), (Rect.unit (s := S512x2x128x256) (k0_off183 v934) S1x2x128x256.size hinb).WholeWords (EltTy.packing .fp8e4m3))
theorem k0_off183_inb : ∀ (v0 : BitVec 32) (k0_t1 : Fin (k0_t1_loop v0).trips) (v934 : BitVec 32) (k0_hw37 : k0_chk37 v0 k0_t1 v934), ∀ (k0_h4 : k0_cond4 v0 k0_t1 = 1#1), ∀ a, (k0_off183 v934) a + S1x2x128x256.size a ≤ S512x2x128x256.size a := fun v0 k0_t1 v934 k0_hw37 k0_h4 => k0_hw37.1 k0_h4
theorem k0_off183_wordsfp8e4m3 : ∀ (v0 : BitVec 32) (k0_t1 : Fin (k0_t1_loop v0).trips) (v934 : BitVec 32) (k0_hw37 : k0_chk37 v0 k0_t1 v934), ∀ (k0_h4 : k0_cond4 v0 k0_t1 = 1#1), (Rect.unit (s := S512x2x128x256) (k0_off183 v934) S1x2x128x256.size (k0_off183_inb v0 k0_t1 v934 k0_hw37 k0_h4)).WholeWords (EltTy.packing .fp8e4m3) := fun v0 k0_t1 v934 k0_hw37 k0_h4 => k0_hw37.2 k0_h4 (k0_off183_inb v0 k0_t1 v934 k0_hw37 k0_h4)

def k0_off184 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off185 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c3_i32_653 : BitVec 32 := 3#32
  let c0_i32_654 : BitVec 32 := 0#32
  let c0_i32_655 : BitVec 32 := 0#32
  let c0_i32_656 : BitVec 32 := 0#32
  ![v882.toNat, 3, 0, 0, 0]
def k0_off186 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c8_i32_660 : BitVec 32 := 8#32
  let v947 : BitVec 32 := Scalar.muli v749 c8_i32_660
  let c4_i32_661 : BitVec 32 := 4#32
  let v948 : BitVec 32 := Scalar.addi v947 c4_i32_661
  let v949 : Index := Scalar.indexCast v948
  ![v949.toNat]
def k0_off187 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c4_i32_662 : BitVec 32 := 4#32
  let c0_i32_663 : BitVec 32 := 0#32
  let c0_i32_664 : BitVec 32 := 0#32
  let c0_i32_665 : BitVec 32 := 0#32
  ![v882.toNat, 4, 0, 0, 0]
def k0_off188 (v950 : BitVec 32) : Fin 4 → Nat :=
  let c0_i32_666 : BitVec 32 := 0#32
  let c0_i32_667 : BitVec 32 := 0#32
  let c0_i32_668 : BitVec 32 := 0#32
  ![v950.toNat, 0, 0, 0]

def k0_chk38 (v0 : BitVec 32) (k0_t1 : Fin (k0_t1_loop v0).trips) (v950 : BitVec 32) : Prop :=
  (∀ (k0_h4 : k0_cond4 v0 k0_t1 = 1#1), ∀ a, (k0_off188 v950) a + S1x2x128x256.size a ≤ S512x2x128x256.size a) ∧
  (∀ (k0_h4 : k0_cond4 v0 k0_t1 = 1#1), ∀ (hinb : ∀ a, (k0_off188 v950) a + S1x2x128x256.size a ≤ S512x2x128x256.size a), (Rect.unit (s := S512x2x128x256) (k0_off188 v950) S1x2x128x256.size hinb).WholeWords (EltTy.packing .fp8e4m3))
theorem k0_off188_inb : ∀ (v0 : BitVec 32) (k0_t1 : Fin (k0_t1_loop v0).trips) (v950 : BitVec 32) (k0_hw38 : k0_chk38 v0 k0_t1 v950), ∀ (k0_h4 : k0_cond4 v0 k0_t1 = 1#1), ∀ a, (k0_off188 v950) a + S1x2x128x256.size a ≤ S512x2x128x256.size a := fun v0 k0_t1 v950 k0_hw38 k0_h4 => k0_hw38.1 k0_h4
theorem k0_off188_wordsfp8e4m3 : ∀ (v0 : BitVec 32) (k0_t1 : Fin (k0_t1_loop v0).trips) (v950 : BitVec 32) (k0_hw38 : k0_chk38 v0 k0_t1 v950), ∀ (k0_h4 : k0_cond4 v0 k0_t1 = 1#1), (Rect.unit (s := S512x2x128x256) (k0_off188 v950) S1x2x128x256.size (k0_off188_inb v0 k0_t1 v950 k0_hw38 k0_h4)).WholeWords (EltTy.packing .fp8e4m3) := fun v0 k0_t1 v950 k0_hw38 k0_h4 => k0_hw38.2 k0_h4 (k0_off188_inb v0 k0_t1 v950 k0_hw38 k0_h4)

def k0_off189 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off190 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c4_i32_669 : BitVec 32 := 4#32
  let c0_i32_670 : BitVec 32 := 0#32
  let c0_i32_671 : BitVec 32 := 0#32
  let c0_i32_672 : BitVec 32 := 0#32
  ![v882.toNat, 4, 0, 0, 0]
def k0_off191 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c8_i32_676 : BitVec 32 := 8#32
  let v963 : BitVec 32 := Scalar.muli v749 c8_i32_676
  let c5_i32_677 : BitVec 32 := 5#32
  let v964 : BitVec 32 := Scalar.addi v963 c5_i32_677
  let v965 : Index := Scalar.indexCast v964
  ![v965.toNat]
def k0_off192 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c5_i32_678 : BitVec 32 := 5#32
  let c0_i32_679 : BitVec 32 := 0#32
  let c0_i32_680 : BitVec 32 := 0#32
  let c0_i32_681 : BitVec 32 := 0#32
  ![v882.toNat, 5, 0, 0, 0]
def k0_off193 (v966 : BitVec 32) : Fin 4 → Nat :=
  let c0_i32_682 : BitVec 32 := 0#32
  let c0_i32_683 : BitVec 32 := 0#32
  let c0_i32_684 : BitVec 32 := 0#32
  ![v966.toNat, 0, 0, 0]

def k0_chk39 (v0 : BitVec 32) (k0_t1 : Fin (k0_t1_loop v0).trips) (v966 : BitVec 32) : Prop :=
  (∀ (k0_h4 : k0_cond4 v0 k0_t1 = 1#1), ∀ a, (k0_off193 v966) a + S1x2x128x256.size a ≤ S512x2x128x256.size a) ∧
  (∀ (k0_h4 : k0_cond4 v0 k0_t1 = 1#1), ∀ (hinb : ∀ a, (k0_off193 v966) a + S1x2x128x256.size a ≤ S512x2x128x256.size a), (Rect.unit (s := S512x2x128x256) (k0_off193 v966) S1x2x128x256.size hinb).WholeWords (EltTy.packing .fp8e4m3))
theorem k0_off193_inb : ∀ (v0 : BitVec 32) (k0_t1 : Fin (k0_t1_loop v0).trips) (v966 : BitVec 32) (k0_hw39 : k0_chk39 v0 k0_t1 v966), ∀ (k0_h4 : k0_cond4 v0 k0_t1 = 1#1), ∀ a, (k0_off193 v966) a + S1x2x128x256.size a ≤ S512x2x128x256.size a := fun v0 k0_t1 v966 k0_hw39 k0_h4 => k0_hw39.1 k0_h4
theorem k0_off193_wordsfp8e4m3 : ∀ (v0 : BitVec 32) (k0_t1 : Fin (k0_t1_loop v0).trips) (v966 : BitVec 32) (k0_hw39 : k0_chk39 v0 k0_t1 v966), ∀ (k0_h4 : k0_cond4 v0 k0_t1 = 1#1), (Rect.unit (s := S512x2x128x256) (k0_off193 v966) S1x2x128x256.size (k0_off193_inb v0 k0_t1 v966 k0_hw39 k0_h4)).WholeWords (EltTy.packing .fp8e4m3) := fun v0 k0_t1 v966 k0_hw39 k0_h4 => k0_hw39.2 k0_h4 (k0_off193_inb v0 k0_t1 v966 k0_hw39 k0_h4)

def k0_off194 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off195 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c5_i32_685 : BitVec 32 := 5#32
  let c0_i32_686 : BitVec 32 := 0#32
  let c0_i32_687 : BitVec 32 := 0#32
  let c0_i32_688 : BitVec 32 := 0#32
  ![v882.toNat, 5, 0, 0, 0]
def k0_off196 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c8_i32_692 : BitVec 32 := 8#32
  let v979 : BitVec 32 := Scalar.muli v749 c8_i32_692
  let c6_i32_693 : BitVec 32 := 6#32
  let v980 : BitVec 32 := Scalar.addi v979 c6_i32_693
  let v981 : Index := Scalar.indexCast v980
  ![v981.toNat]
def k0_off197 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c6_i32_694 : BitVec 32 := 6#32
  let c0_i32_695 : BitVec 32 := 0#32
  let c0_i32_696 : BitVec 32 := 0#32
  let c0_i32_697 : BitVec 32 := 0#32
  ![v882.toNat, 6, 0, 0, 0]
def k0_off198 (v982 : BitVec 32) : Fin 4 → Nat :=
  let c0_i32_698 : BitVec 32 := 0#32
  let c0_i32_699 : BitVec 32 := 0#32
  let c0_i32_700 : BitVec 32 := 0#32
  ![v982.toNat, 0, 0, 0]

def k0_chk40 (v0 : BitVec 32) (k0_t1 : Fin (k0_t1_loop v0).trips) (v982 : BitVec 32) : Prop :=
  (∀ (k0_h4 : k0_cond4 v0 k0_t1 = 1#1), ∀ a, (k0_off198 v982) a + S1x2x128x256.size a ≤ S512x2x128x256.size a) ∧
  (∀ (k0_h4 : k0_cond4 v0 k0_t1 = 1#1), ∀ (hinb : ∀ a, (k0_off198 v982) a + S1x2x128x256.size a ≤ S512x2x128x256.size a), (Rect.unit (s := S512x2x128x256) (k0_off198 v982) S1x2x128x256.size hinb).WholeWords (EltTy.packing .fp8e4m3))
theorem k0_off198_inb : ∀ (v0 : BitVec 32) (k0_t1 : Fin (k0_t1_loop v0).trips) (v982 : BitVec 32) (k0_hw40 : k0_chk40 v0 k0_t1 v982), ∀ (k0_h4 : k0_cond4 v0 k0_t1 = 1#1), ∀ a, (k0_off198 v982) a + S1x2x128x256.size a ≤ S512x2x128x256.size a := fun v0 k0_t1 v982 k0_hw40 k0_h4 => k0_hw40.1 k0_h4
theorem k0_off198_wordsfp8e4m3 : ∀ (v0 : BitVec 32) (k0_t1 : Fin (k0_t1_loop v0).trips) (v982 : BitVec 32) (k0_hw40 : k0_chk40 v0 k0_t1 v982), ∀ (k0_h4 : k0_cond4 v0 k0_t1 = 1#1), (Rect.unit (s := S512x2x128x256) (k0_off198 v982) S1x2x128x256.size (k0_off198_inb v0 k0_t1 v982 k0_hw40 k0_h4)).WholeWords (EltTy.packing .fp8e4m3) := fun v0 k0_t1 v982 k0_hw40 k0_h4 => k0_hw40.2 k0_h4 (k0_off198_inb v0 k0_t1 v982 k0_hw40 k0_h4)

def k0_off199 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off200 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c6_i32_701 : BitVec 32 := 6#32
  let c0_i32_702 : BitVec 32 := 0#32
  let c0_i32_703 : BitVec 32 := 0#32
  let c0_i32_704 : BitVec 32 := 0#32
  ![v882.toNat, 6, 0, 0, 0]
def k0_off201 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c8_i32_708 : BitVec 32 := 8#32
  let v995 : BitVec 32 := Scalar.muli v749 c8_i32_708
  let c7_i32_709 : BitVec 32 := 7#32
  let v996 : BitVec 32 := Scalar.addi v995 c7_i32_709
  let v997 : Index := Scalar.indexCast v996
  ![v997.toNat]
def k0_off202 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c7_i32_710 : BitVec 32 := 7#32
  let c0_i32_711 : BitVec 32 := 0#32
  let c0_i32_712 : BitVec 32 := 0#32
  let c0_i32_713 : BitVec 32 := 0#32
  ![v882.toNat, 7, 0, 0, 0]
def k0_off203 (v998 : BitVec 32) : Fin 4 → Nat :=
  let c0_i32_714 : BitVec 32 := 0#32
  let c0_i32_715 : BitVec 32 := 0#32
  let c0_i32_716 : BitVec 32 := 0#32
  ![v998.toNat, 0, 0, 0]

def k0_chk41 (v0 : BitVec 32) (k0_t1 : Fin (k0_t1_loop v0).trips) (v998 : BitVec 32) : Prop :=
  (∀ (k0_h4 : k0_cond4 v0 k0_t1 = 1#1), ∀ a, (k0_off203 v998) a + S1x2x128x256.size a ≤ S512x2x128x256.size a) ∧
  (∀ (k0_h4 : k0_cond4 v0 k0_t1 = 1#1), ∀ (hinb : ∀ a, (k0_off203 v998) a + S1x2x128x256.size a ≤ S512x2x128x256.size a), (Rect.unit (s := S512x2x128x256) (k0_off203 v998) S1x2x128x256.size hinb).WholeWords (EltTy.packing .fp8e4m3))
theorem k0_off203_inb : ∀ (v0 : BitVec 32) (k0_t1 : Fin (k0_t1_loop v0).trips) (v998 : BitVec 32) (k0_hw41 : k0_chk41 v0 k0_t1 v998), ∀ (k0_h4 : k0_cond4 v0 k0_t1 = 1#1), ∀ a, (k0_off203 v998) a + S1x2x128x256.size a ≤ S512x2x128x256.size a := fun v0 k0_t1 v998 k0_hw41 k0_h4 => k0_hw41.1 k0_h4
theorem k0_off203_wordsfp8e4m3 : ∀ (v0 : BitVec 32) (k0_t1 : Fin (k0_t1_loop v0).trips) (v998 : BitVec 32) (k0_hw41 : k0_chk41 v0 k0_t1 v998), ∀ (k0_h4 : k0_cond4 v0 k0_t1 = 1#1), (Rect.unit (s := S512x2x128x256) (k0_off203 v998) S1x2x128x256.size (k0_off203_inb v0 k0_t1 v998 k0_hw41 k0_h4)).WholeWords (EltTy.packing .fp8e4m3) := fun v0 k0_t1 v998 k0_hw41 k0_h4 => k0_hw41.2 k0_h4 (k0_off203_inb v0 k0_t1 v998 k0_hw41 k0_h4)

def k0_off204 (v0 : BitVec 32) (k0_t1 : Fin (k0_t1_loop v0).trips) : Fin 1 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off205 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c7_i32_717 : BitVec 32 := 7#32
  let c0_i32_718 : BitVec 32 := 0#32
  let c0_i32_719 : BitVec 32 := 0#32
  let c0_i32_720 : BitVec 32 := 0#32
  ![v882.toNat, 7, 0, 0, 0]
def k0_off206 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_512 : BitVec 32 := 4#32
  let v753 : BitVec 32 := Scalar.remsi arg19 c4_i32_512
  let v754 : Index := Scalar.indexCast v753
  let c0_513 : Index := 0#32
  let c0_514 : Index := 0#32
  let c0_515 : Index := 0#32
  let c0_516 : Index := 0#32
  ![v754.toNat, 0, 0, 0, 0]
def k0_off207 (v0 : BitVec 32) (k0_t1 : Fin (k0_t1_loop v0).trips) : Fin 5 → Nat :=
  let c0_i32_138 : BitVec 32 := 0#32
  let c1_i32_140 : BitVec 32 := 1#32
  let arg19 : BitVec 32 := Scf.iv c0_i32_138 c1_i32_140 k0_t1
  let c4_i32_512 : BitVec 32 := 4#32
  let v753 : BitVec 32 := Scalar.remsi arg19 c4_i32_512
  let v818 : Index := Scalar.indexCast v753
  let c0_554 : Index := 0#32
  let c1_555 : Index := 1#32
  let c0_556 : Index := 0#32
  let c0_557 : Index := 0#32
  ![v818.toNat, 0, 1, 0, 0]
@[reducible] def k0_t2_loop (v0 : BitVec 32) : Scf.Loop 32 :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let v307 : BitVec 32 := Scalar.addi c0_i32_138 v306
  let c1_i32_141 : BitVec 32 := 1#32
  ⟨v310, v307, c1_i32_141⟩
def k0_off208 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c8_i32_381 : BitVec 32 := 8#32
  let v620 : BitVec 32 := Scalar.muli arg19 c8_i32_381
  let c0_i32_382 : BitVec 32 := 0#32
  let v621 : BitVec 32 := Scalar.addi v620 c0_i32_382
  let v622 : Index := Scalar.indexCast v621
  ![v622.toNat]
def k0_off209 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  ![v619.toNat]
def k0_off210 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c0_i32_383 : BitVec 32 := 0#32
  let c0_i32_384 : BitVec 32 := 0#32
  let c0_i32_385 : BitVec 32 := 0#32
  let c0_i32_386 : BitVec 32 := 0#32
  ![v619.toNat, 0, 0, 0, 0]
def k0_off211 (v623 : BitVec 32) : Fin 4 → Nat :=
  let c0_i32_387 : BitVec 32 := 0#32
  let c0_i32_388 : BitVec 32 := 0#32
  let c0_i32_389 : BitVec 32 := 0#32
  ![v623.toNat, 0, 0, 0]

def k0_chk42 (v623 : BitVec 32) : Prop :=
  (∀ a, (k0_off211 v623) a + S1x2x128x256.size a ≤ S512x2x128x256.size a) ∧
  (∀ (hinb : ∀ a, (k0_off211 v623) a + S1x2x128x256.size a ≤ S512x2x128x256.size a), (Rect.unit (s := S512x2x128x256) (k0_off211 v623) S1x2x128x256.size hinb).WholeWords (EltTy.packing .fp8e4m3))
theorem k0_off211_inb : ∀ (v623 : BitVec 32) (k0_hw42 : k0_chk42 v623), ∀ a, (k0_off211 v623) a + S1x2x128x256.size a ≤ S512x2x128x256.size a := fun v623 k0_hw42 => k0_hw42.1
theorem k0_off211_wordsfp8e4m3 : ∀ (v623 : BitVec 32) (k0_hw42 : k0_chk42 v623), (Rect.unit (s := S512x2x128x256) (k0_off211 v623) S1x2x128x256.size (k0_off211_inb v623 k0_hw42)).WholeWords (EltTy.packing .fp8e4m3) := fun v623 k0_hw42 => k0_hw42.2 (k0_off211_inb v623 k0_hw42)

def k0_off212 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  ![v619.toNat]
def k0_off213 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c0_i32_390 : BitVec 32 := 0#32
  let c0_i32_391 : BitVec 32 := 0#32
  let c0_i32_392 : BitVec 32 := 0#32
  let c0_i32_393 : BitVec 32 := 0#32
  ![v619.toNat, 0, 0, 0, 0]
def k0_off214 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c8_i32_397 : BitVec 32 := 8#32
  let v636 : BitVec 32 := Scalar.muli arg19 c8_i32_397
  let c1_i32_398 : BitVec 32 := 1#32
  let v637 : BitVec 32 := Scalar.addi v636 c1_i32_398
  let v638 : Index := Scalar.indexCast v637
  ![v638.toNat]
def k0_off215 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c1_i32_399 : BitVec 32 := 1#32
  let c0_i32_400 : BitVec 32 := 0#32
  let c0_i32_401 : BitVec 32 := 0#32
  let c0_i32_402 : BitVec 32 := 0#32
  ![v619.toNat, 1, 0, 0, 0]
def k0_off216 (v639 : BitVec 32) : Fin 4 → Nat :=
  let c0_i32_403 : BitVec 32 := 0#32
  let c0_i32_404 : BitVec 32 := 0#32
  let c0_i32_405 : BitVec 32 := 0#32
  ![v639.toNat, 0, 0, 0]

def k0_chk43 (v639 : BitVec 32) : Prop :=
  (∀ a, (k0_off216 v639) a + S1x2x128x256.size a ≤ S512x2x128x256.size a) ∧
  (∀ (hinb : ∀ a, (k0_off216 v639) a + S1x2x128x256.size a ≤ S512x2x128x256.size a), (Rect.unit (s := S512x2x128x256) (k0_off216 v639) S1x2x128x256.size hinb).WholeWords (EltTy.packing .fp8e4m3))
theorem k0_off216_inb : ∀ (v639 : BitVec 32) (k0_hw43 : k0_chk43 v639), ∀ a, (k0_off216 v639) a + S1x2x128x256.size a ≤ S512x2x128x256.size a := fun v639 k0_hw43 => k0_hw43.1
theorem k0_off216_wordsfp8e4m3 : ∀ (v639 : BitVec 32) (k0_hw43 : k0_chk43 v639), (Rect.unit (s := S512x2x128x256) (k0_off216 v639) S1x2x128x256.size (k0_off216_inb v639 k0_hw43)).WholeWords (EltTy.packing .fp8e4m3) := fun v639 k0_hw43 => k0_hw43.2 (k0_off216_inb v639 k0_hw43)

def k0_off217 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  ![v619.toNat]
def k0_off218 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c1_i32_406 : BitVec 32 := 1#32
  let c0_i32_407 : BitVec 32 := 0#32
  let c0_i32_408 : BitVec 32 := 0#32
  let c0_i32_409 : BitVec 32 := 0#32
  ![v619.toNat, 1, 0, 0, 0]
def k0_off219 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c8_i32_413 : BitVec 32 := 8#32
  let v652 : BitVec 32 := Scalar.muli arg19 c8_i32_413
  let c2_i32_414 : BitVec 32 := 2#32
  let v653 : BitVec 32 := Scalar.addi v652 c2_i32_414
  let v654 : Index := Scalar.indexCast v653
  ![v654.toNat]
def k0_off220 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c2_i32_415 : BitVec 32 := 2#32
  let c0_i32_416 : BitVec 32 := 0#32
  let c0_i32_417 : BitVec 32 := 0#32
  let c0_i32_418 : BitVec 32 := 0#32
  ![v619.toNat, 2, 0, 0, 0]
def k0_off221 (v655 : BitVec 32) : Fin 4 → Nat :=
  let c0_i32_419 : BitVec 32 := 0#32
  let c0_i32_420 : BitVec 32 := 0#32
  let c0_i32_421 : BitVec 32 := 0#32
  ![v655.toNat, 0, 0, 0]

def k0_chk44 (v655 : BitVec 32) : Prop :=
  (∀ a, (k0_off221 v655) a + S1x2x128x256.size a ≤ S512x2x128x256.size a) ∧
  (∀ (hinb : ∀ a, (k0_off221 v655) a + S1x2x128x256.size a ≤ S512x2x128x256.size a), (Rect.unit (s := S512x2x128x256) (k0_off221 v655) S1x2x128x256.size hinb).WholeWords (EltTy.packing .fp8e4m3))
theorem k0_off221_inb : ∀ (v655 : BitVec 32) (k0_hw44 : k0_chk44 v655), ∀ a, (k0_off221 v655) a + S1x2x128x256.size a ≤ S512x2x128x256.size a := fun v655 k0_hw44 => k0_hw44.1
theorem k0_off221_wordsfp8e4m3 : ∀ (v655 : BitVec 32) (k0_hw44 : k0_chk44 v655), (Rect.unit (s := S512x2x128x256) (k0_off221 v655) S1x2x128x256.size (k0_off221_inb v655 k0_hw44)).WholeWords (EltTy.packing .fp8e4m3) := fun v655 k0_hw44 => k0_hw44.2 (k0_off221_inb v655 k0_hw44)

def k0_off222 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  ![v619.toNat]
def k0_off223 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c2_i32_422 : BitVec 32 := 2#32
  let c0_i32_423 : BitVec 32 := 0#32
  let c0_i32_424 : BitVec 32 := 0#32
  let c0_i32_425 : BitVec 32 := 0#32
  ![v619.toNat, 2, 0, 0, 0]
def k0_off224 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c8_i32_429 : BitVec 32 := 8#32
  let v668 : BitVec 32 := Scalar.muli arg19 c8_i32_429
  let c3_i32_430 : BitVec 32 := 3#32
  let v669 : BitVec 32 := Scalar.addi v668 c3_i32_430
  let v670 : Index := Scalar.indexCast v669
  ![v670.toNat]
def k0_off225 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c3_i32_431 : BitVec 32 := 3#32
  let c0_i32_432 : BitVec 32 := 0#32
  let c0_i32_433 : BitVec 32 := 0#32
  let c0_i32_434 : BitVec 32 := 0#32
  ![v619.toNat, 3, 0, 0, 0]
def k0_off226 (v671 : BitVec 32) : Fin 4 → Nat :=
  let c0_i32_435 : BitVec 32 := 0#32
  let c0_i32_436 : BitVec 32 := 0#32
  let c0_i32_437 : BitVec 32 := 0#32
  ![v671.toNat, 0, 0, 0]

def k0_chk45 (v671 : BitVec 32) : Prop :=
  (∀ a, (k0_off226 v671) a + S1x2x128x256.size a ≤ S512x2x128x256.size a) ∧
  (∀ (hinb : ∀ a, (k0_off226 v671) a + S1x2x128x256.size a ≤ S512x2x128x256.size a), (Rect.unit (s := S512x2x128x256) (k0_off226 v671) S1x2x128x256.size hinb).WholeWords (EltTy.packing .fp8e4m3))
theorem k0_off226_inb : ∀ (v671 : BitVec 32) (k0_hw45 : k0_chk45 v671), ∀ a, (k0_off226 v671) a + S1x2x128x256.size a ≤ S512x2x128x256.size a := fun v671 k0_hw45 => k0_hw45.1
theorem k0_off226_wordsfp8e4m3 : ∀ (v671 : BitVec 32) (k0_hw45 : k0_chk45 v671), (Rect.unit (s := S512x2x128x256) (k0_off226 v671) S1x2x128x256.size (k0_off226_inb v671 k0_hw45)).WholeWords (EltTy.packing .fp8e4m3) := fun v671 k0_hw45 => k0_hw45.2 (k0_off226_inb v671 k0_hw45)

def k0_off227 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  ![v619.toNat]
def k0_off228 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c3_i32_438 : BitVec 32 := 3#32
  let c0_i32_439 : BitVec 32 := 0#32
  let c0_i32_440 : BitVec 32 := 0#32
  let c0_i32_441 : BitVec 32 := 0#32
  ![v619.toNat, 3, 0, 0, 0]
def k0_off229 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c8_i32_445 : BitVec 32 := 8#32
  let v684 : BitVec 32 := Scalar.muli arg19 c8_i32_445
  let c4_i32_446 : BitVec 32 := 4#32
  let v685 : BitVec 32 := Scalar.addi v684 c4_i32_446
  let v686 : Index := Scalar.indexCast v685
  ![v686.toNat]
def k0_off230 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c4_i32_447 : BitVec 32 := 4#32
  let c0_i32_448 : BitVec 32 := 0#32
  let c0_i32_449 : BitVec 32 := 0#32
  let c0_i32_450 : BitVec 32 := 0#32
  ![v619.toNat, 4, 0, 0, 0]
def k0_off231 (v687 : BitVec 32) : Fin 4 → Nat :=
  let c0_i32_451 : BitVec 32 := 0#32
  let c0_i32_452 : BitVec 32 := 0#32
  let c0_i32_453 : BitVec 32 := 0#32
  ![v687.toNat, 0, 0, 0]

def k0_chk46 (v687 : BitVec 32) : Prop :=
  (∀ a, (k0_off231 v687) a + S1x2x128x256.size a ≤ S512x2x128x256.size a) ∧
  (∀ (hinb : ∀ a, (k0_off231 v687) a + S1x2x128x256.size a ≤ S512x2x128x256.size a), (Rect.unit (s := S512x2x128x256) (k0_off231 v687) S1x2x128x256.size hinb).WholeWords (EltTy.packing .fp8e4m3))
theorem k0_off231_inb : ∀ (v687 : BitVec 32) (k0_hw46 : k0_chk46 v687), ∀ a, (k0_off231 v687) a + S1x2x128x256.size a ≤ S512x2x128x256.size a := fun v687 k0_hw46 => k0_hw46.1
theorem k0_off231_wordsfp8e4m3 : ∀ (v687 : BitVec 32) (k0_hw46 : k0_chk46 v687), (Rect.unit (s := S512x2x128x256) (k0_off231 v687) S1x2x128x256.size (k0_off231_inb v687 k0_hw46)).WholeWords (EltTy.packing .fp8e4m3) := fun v687 k0_hw46 => k0_hw46.2 (k0_off231_inb v687 k0_hw46)

def k0_off232 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  ![v619.toNat]
def k0_off233 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c4_i32_454 : BitVec 32 := 4#32
  let c0_i32_455 : BitVec 32 := 0#32
  let c0_i32_456 : BitVec 32 := 0#32
  let c0_i32_457 : BitVec 32 := 0#32
  ![v619.toNat, 4, 0, 0, 0]
def k0_off234 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c8_i32_461 : BitVec 32 := 8#32
  let v700 : BitVec 32 := Scalar.muli arg19 c8_i32_461
  let c5_i32_462 : BitVec 32 := 5#32
  let v701 : BitVec 32 := Scalar.addi v700 c5_i32_462
  let v702 : Index := Scalar.indexCast v701
  ![v702.toNat]
def k0_off235 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c5_i32_463 : BitVec 32 := 5#32
  let c0_i32_464 : BitVec 32 := 0#32
  let c0_i32_465 : BitVec 32 := 0#32
  let c0_i32_466 : BitVec 32 := 0#32
  ![v619.toNat, 5, 0, 0, 0]
def k0_off236 (v703 : BitVec 32) : Fin 4 → Nat :=
  let c0_i32_467 : BitVec 32 := 0#32
  let c0_i32_468 : BitVec 32 := 0#32
  let c0_i32_469 : BitVec 32 := 0#32
  ![v703.toNat, 0, 0, 0]

def k0_chk47 (v703 : BitVec 32) : Prop :=
  (∀ a, (k0_off236 v703) a + S1x2x128x256.size a ≤ S512x2x128x256.size a) ∧
  (∀ (hinb : ∀ a, (k0_off236 v703) a + S1x2x128x256.size a ≤ S512x2x128x256.size a), (Rect.unit (s := S512x2x128x256) (k0_off236 v703) S1x2x128x256.size hinb).WholeWords (EltTy.packing .fp8e4m3))
theorem k0_off236_inb : ∀ (v703 : BitVec 32) (k0_hw47 : k0_chk47 v703), ∀ a, (k0_off236 v703) a + S1x2x128x256.size a ≤ S512x2x128x256.size a := fun v703 k0_hw47 => k0_hw47.1
theorem k0_off236_wordsfp8e4m3 : ∀ (v703 : BitVec 32) (k0_hw47 : k0_chk47 v703), (Rect.unit (s := S512x2x128x256) (k0_off236 v703) S1x2x128x256.size (k0_off236_inb v703 k0_hw47)).WholeWords (EltTy.packing .fp8e4m3) := fun v703 k0_hw47 => k0_hw47.2 (k0_off236_inb v703 k0_hw47)

def k0_off237 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  ![v619.toNat]
def k0_off238 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c5_i32_470 : BitVec 32 := 5#32
  let c0_i32_471 : BitVec 32 := 0#32
  let c0_i32_472 : BitVec 32 := 0#32
  let c0_i32_473 : BitVec 32 := 0#32
  ![v619.toNat, 5, 0, 0, 0]
def k0_off239 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c8_i32_477 : BitVec 32 := 8#32
  let v716 : BitVec 32 := Scalar.muli arg19 c8_i32_477
  let c6_i32_478 : BitVec 32 := 6#32
  let v717 : BitVec 32 := Scalar.addi v716 c6_i32_478
  let v718 : Index := Scalar.indexCast v717
  ![v718.toNat]
def k0_off240 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c6_i32_479 : BitVec 32 := 6#32
  let c0_i32_480 : BitVec 32 := 0#32
  let c0_i32_481 : BitVec 32 := 0#32
  let c0_i32_482 : BitVec 32 := 0#32
  ![v619.toNat, 6, 0, 0, 0]
def k0_off241 (v719 : BitVec 32) : Fin 4 → Nat :=
  let c0_i32_483 : BitVec 32 := 0#32
  let c0_i32_484 : BitVec 32 := 0#32
  let c0_i32_485 : BitVec 32 := 0#32
  ![v719.toNat, 0, 0, 0]

def k0_chk48 (v719 : BitVec 32) : Prop :=
  (∀ a, (k0_off241 v719) a + S1x2x128x256.size a ≤ S512x2x128x256.size a) ∧
  (∀ (hinb : ∀ a, (k0_off241 v719) a + S1x2x128x256.size a ≤ S512x2x128x256.size a), (Rect.unit (s := S512x2x128x256) (k0_off241 v719) S1x2x128x256.size hinb).WholeWords (EltTy.packing .fp8e4m3))
theorem k0_off241_inb : ∀ (v719 : BitVec 32) (k0_hw48 : k0_chk48 v719), ∀ a, (k0_off241 v719) a + S1x2x128x256.size a ≤ S512x2x128x256.size a := fun v719 k0_hw48 => k0_hw48.1
theorem k0_off241_wordsfp8e4m3 : ∀ (v719 : BitVec 32) (k0_hw48 : k0_chk48 v719), (Rect.unit (s := S512x2x128x256) (k0_off241 v719) S1x2x128x256.size (k0_off241_inb v719 k0_hw48)).WholeWords (EltTy.packing .fp8e4m3) := fun v719 k0_hw48 => k0_hw48.2 (k0_off241_inb v719 k0_hw48)

def k0_off242 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  ![v619.toNat]
def k0_off243 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c6_i32_486 : BitVec 32 := 6#32
  let c0_i32_487 : BitVec 32 := 0#32
  let c0_i32_488 : BitVec 32 := 0#32
  let c0_i32_489 : BitVec 32 := 0#32
  ![v619.toNat, 6, 0, 0, 0]
def k0_off244 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c8_i32_493 : BitVec 32 := 8#32
  let v732 : BitVec 32 := Scalar.muli arg19 c8_i32_493
  let c7_i32_494 : BitVec 32 := 7#32
  let v733 : BitVec 32 := Scalar.addi v732 c7_i32_494
  let v734 : Index := Scalar.indexCast v733
  ![v734.toNat]
def k0_off245 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c7_i32_495 : BitVec 32 := 7#32
  let c0_i32_496 : BitVec 32 := 0#32
  let c0_i32_497 : BitVec 32 := 0#32
  let c0_i32_498 : BitVec 32 := 0#32
  ![v619.toNat, 7, 0, 0, 0]
def k0_off246 (v735 : BitVec 32) : Fin 4 → Nat :=
  let c0_i32_499 : BitVec 32 := 0#32
  let c0_i32_500 : BitVec 32 := 0#32
  let c0_i32_501 : BitVec 32 := 0#32
  ![v735.toNat, 0, 0, 0]

def k0_chk49 (v735 : BitVec 32) : Prop :=
  (∀ a, (k0_off246 v735) a + S1x2x128x256.size a ≤ S512x2x128x256.size a) ∧
  (∀ (hinb : ∀ a, (k0_off246 v735) a + S1x2x128x256.size a ≤ S512x2x128x256.size a), (Rect.unit (s := S512x2x128x256) (k0_off246 v735) S1x2x128x256.size hinb).WholeWords (EltTy.packing .fp8e4m3))
theorem k0_off246_inb : ∀ (v735 : BitVec 32) (k0_hw49 : k0_chk49 v735), ∀ a, (k0_off246 v735) a + S1x2x128x256.size a ≤ S512x2x128x256.size a := fun v735 k0_hw49 => k0_hw49.1
theorem k0_off246_wordsfp8e4m3 : ∀ (v735 : BitVec 32) (k0_hw49 : k0_chk49 v735), (Rect.unit (s := S512x2x128x256) (k0_off246 v735) S1x2x128x256.size (k0_off246_inb v735 k0_hw49)).WholeWords (EltTy.packing .fp8e4m3) := fun v735 k0_hw49 => k0_hw49.2 (k0_off246_inb v735 k0_hw49)

def k0_off247 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  ![v619.toNat]
def k0_off248 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_380 : BitVec 32 := 4#32
  let v619 : BitVec 32 := Scalar.remsi arg19 c4_i32_380
  let c7_i32_502 : BitVec 32 := 7#32
  let c0_i32_503 : BitVec 32 := 0#32
  let c0_i32_504 : BitVec 32 := 0#32
  let c0_i32_505 : BitVec 32 := 0#32
  ![v619.toNat, 7, 0, 0, 0]
def k0_off249 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c8_i32_596 : BitVec 32 := 8#32
  let v883 : BitVec 32 := Scalar.muli v749 c8_i32_596
  let c0_i32_597 : BitVec 32 := 0#32
  let v884 : BitVec 32 := Scalar.addi v883 c0_i32_597
  let v885 : Index := Scalar.indexCast v884
  ![v885.toNat]
def k0_cond5 (v0 : BitVec 32) (k0_t2 : Fin (k0_t2_loop v0).trips) : BitVec 1 :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let v750 : BitVec 1 := Scalar.cmpi .sle v749 v17
  let v751 : BitVec 32 := Scalar.extui v750
  let c0_i32_511 : BitVec 32 := 0#32
  let v752 : BitVec 1 := Scalar.cmpi .ne v751 c0_i32_511
  v752

def k0_off250 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off251 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c0_i32_598 : BitVec 32 := 0#32
  let c0_i32_599 : BitVec 32 := 0#32
  let c0_i32_600 : BitVec 32 := 0#32
  let c0_i32_601 : BitVec 32 := 0#32
  ![v882.toNat, 0, 0, 0, 0]
def k0_off252 (v886 : BitVec 32) : Fin 4 → Nat :=
  let c0_i32_602 : BitVec 32 := 0#32
  let c0_i32_603 : BitVec 32 := 0#32
  let c0_i32_604 : BitVec 32 := 0#32
  ![v886.toNat, 0, 0, 0]

def k0_chk50 (v0 : BitVec 32) (k0_t2 : Fin (k0_t2_loop v0).trips) (v886 : BitVec 32) : Prop :=
  (∀ (k0_h5 : k0_cond5 v0 k0_t2 = 1#1), ∀ a, (k0_off252 v886) a + S1x2x128x256.size a ≤ S512x2x128x256.size a) ∧
  (∀ (k0_h5 : k0_cond5 v0 k0_t2 = 1#1), ∀ (hinb : ∀ a, (k0_off252 v886) a + S1x2x128x256.size a ≤ S512x2x128x256.size a), (Rect.unit (s := S512x2x128x256) (k0_off252 v886) S1x2x128x256.size hinb).WholeWords (EltTy.packing .fp8e4m3))
theorem k0_off252_inb : ∀ (v0 : BitVec 32) (k0_t2 : Fin (k0_t2_loop v0).trips) (v886 : BitVec 32) (k0_hw50 : k0_chk50 v0 k0_t2 v886), ∀ (k0_h5 : k0_cond5 v0 k0_t2 = 1#1), ∀ a, (k0_off252 v886) a + S1x2x128x256.size a ≤ S512x2x128x256.size a := fun v0 k0_t2 v886 k0_hw50 k0_h5 => k0_hw50.1 k0_h5
theorem k0_off252_wordsfp8e4m3 : ∀ (v0 : BitVec 32) (k0_t2 : Fin (k0_t2_loop v0).trips) (v886 : BitVec 32) (k0_hw50 : k0_chk50 v0 k0_t2 v886), ∀ (k0_h5 : k0_cond5 v0 k0_t2 = 1#1), (Rect.unit (s := S512x2x128x256) (k0_off252 v886) S1x2x128x256.size (k0_off252_inb v0 k0_t2 v886 k0_hw50 k0_h5)).WholeWords (EltTy.packing .fp8e4m3) := fun v0 k0_t2 v886 k0_hw50 k0_h5 => k0_hw50.2 k0_h5 (k0_off252_inb v0 k0_t2 v886 k0_hw50 k0_h5)

def k0_off253 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off254 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c0_i32_605 : BitVec 32 := 0#32
  let c0_i32_606 : BitVec 32 := 0#32
  let c0_i32_607 : BitVec 32 := 0#32
  let c0_i32_608 : BitVec 32 := 0#32
  ![v882.toNat, 0, 0, 0, 0]
def k0_off255 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c8_i32_612 : BitVec 32 := 8#32
  let v899 : BitVec 32 := Scalar.muli v749 c8_i32_612
  let c1_i32_613 : BitVec 32 := 1#32
  let v900 : BitVec 32 := Scalar.addi v899 c1_i32_613
  let v901 : Index := Scalar.indexCast v900
  ![v901.toNat]
def k0_off256 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c1_i32_614 : BitVec 32 := 1#32
  let c0_i32_615 : BitVec 32 := 0#32
  let c0_i32_616 : BitVec 32 := 0#32
  let c0_i32_617 : BitVec 32 := 0#32
  ![v882.toNat, 1, 0, 0, 0]
def k0_off257 (v902 : BitVec 32) : Fin 4 → Nat :=
  let c0_i32_618 : BitVec 32 := 0#32
  let c0_i32_619 : BitVec 32 := 0#32
  let c0_i32_620 : BitVec 32 := 0#32
  ![v902.toNat, 0, 0, 0]

def k0_chk51 (v0 : BitVec 32) (k0_t2 : Fin (k0_t2_loop v0).trips) (v902 : BitVec 32) : Prop :=
  (∀ (k0_h5 : k0_cond5 v0 k0_t2 = 1#1), ∀ a, (k0_off257 v902) a + S1x2x128x256.size a ≤ S512x2x128x256.size a) ∧
  (∀ (k0_h5 : k0_cond5 v0 k0_t2 = 1#1), ∀ (hinb : ∀ a, (k0_off257 v902) a + S1x2x128x256.size a ≤ S512x2x128x256.size a), (Rect.unit (s := S512x2x128x256) (k0_off257 v902) S1x2x128x256.size hinb).WholeWords (EltTy.packing .fp8e4m3))
theorem k0_off257_inb : ∀ (v0 : BitVec 32) (k0_t2 : Fin (k0_t2_loop v0).trips) (v902 : BitVec 32) (k0_hw51 : k0_chk51 v0 k0_t2 v902), ∀ (k0_h5 : k0_cond5 v0 k0_t2 = 1#1), ∀ a, (k0_off257 v902) a + S1x2x128x256.size a ≤ S512x2x128x256.size a := fun v0 k0_t2 v902 k0_hw51 k0_h5 => k0_hw51.1 k0_h5
theorem k0_off257_wordsfp8e4m3 : ∀ (v0 : BitVec 32) (k0_t2 : Fin (k0_t2_loop v0).trips) (v902 : BitVec 32) (k0_hw51 : k0_chk51 v0 k0_t2 v902), ∀ (k0_h5 : k0_cond5 v0 k0_t2 = 1#1), (Rect.unit (s := S512x2x128x256) (k0_off257 v902) S1x2x128x256.size (k0_off257_inb v0 k0_t2 v902 k0_hw51 k0_h5)).WholeWords (EltTy.packing .fp8e4m3) := fun v0 k0_t2 v902 k0_hw51 k0_h5 => k0_hw51.2 k0_h5 (k0_off257_inb v0 k0_t2 v902 k0_hw51 k0_h5)

def k0_off258 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off259 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c1_i32_621 : BitVec 32 := 1#32
  let c0_i32_622 : BitVec 32 := 0#32
  let c0_i32_623 : BitVec 32 := 0#32
  let c0_i32_624 : BitVec 32 := 0#32
  ![v882.toNat, 1, 0, 0, 0]
def k0_off260 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c8_i32_628 : BitVec 32 := 8#32
  let v915 : BitVec 32 := Scalar.muli v749 c8_i32_628
  let c2_i32_629 : BitVec 32 := 2#32
  let v916 : BitVec 32 := Scalar.addi v915 c2_i32_629
  let v917 : Index := Scalar.indexCast v916
  ![v917.toNat]
def k0_off261 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c2_i32_630 : BitVec 32 := 2#32
  let c0_i32_631 : BitVec 32 := 0#32
  let c0_i32_632 : BitVec 32 := 0#32
  let c0_i32_633 : BitVec 32 := 0#32
  ![v882.toNat, 2, 0, 0, 0]
def k0_off262 (v918 : BitVec 32) : Fin 4 → Nat :=
  let c0_i32_634 : BitVec 32 := 0#32
  let c0_i32_635 : BitVec 32 := 0#32
  let c0_i32_636 : BitVec 32 := 0#32
  ![v918.toNat, 0, 0, 0]

def k0_chk52 (v0 : BitVec 32) (k0_t2 : Fin (k0_t2_loop v0).trips) (v918 : BitVec 32) : Prop :=
  (∀ (k0_h5 : k0_cond5 v0 k0_t2 = 1#1), ∀ a, (k0_off262 v918) a + S1x2x128x256.size a ≤ S512x2x128x256.size a) ∧
  (∀ (k0_h5 : k0_cond5 v0 k0_t2 = 1#1), ∀ (hinb : ∀ a, (k0_off262 v918) a + S1x2x128x256.size a ≤ S512x2x128x256.size a), (Rect.unit (s := S512x2x128x256) (k0_off262 v918) S1x2x128x256.size hinb).WholeWords (EltTy.packing .fp8e4m3))
theorem k0_off262_inb : ∀ (v0 : BitVec 32) (k0_t2 : Fin (k0_t2_loop v0).trips) (v918 : BitVec 32) (k0_hw52 : k0_chk52 v0 k0_t2 v918), ∀ (k0_h5 : k0_cond5 v0 k0_t2 = 1#1), ∀ a, (k0_off262 v918) a + S1x2x128x256.size a ≤ S512x2x128x256.size a := fun v0 k0_t2 v918 k0_hw52 k0_h5 => k0_hw52.1 k0_h5
theorem k0_off262_wordsfp8e4m3 : ∀ (v0 : BitVec 32) (k0_t2 : Fin (k0_t2_loop v0).trips) (v918 : BitVec 32) (k0_hw52 : k0_chk52 v0 k0_t2 v918), ∀ (k0_h5 : k0_cond5 v0 k0_t2 = 1#1), (Rect.unit (s := S512x2x128x256) (k0_off262 v918) S1x2x128x256.size (k0_off262_inb v0 k0_t2 v918 k0_hw52 k0_h5)).WholeWords (EltTy.packing .fp8e4m3) := fun v0 k0_t2 v918 k0_hw52 k0_h5 => k0_hw52.2 k0_h5 (k0_off262_inb v0 k0_t2 v918 k0_hw52 k0_h5)

def k0_off263 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off264 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c2_i32_637 : BitVec 32 := 2#32
  let c0_i32_638 : BitVec 32 := 0#32
  let c0_i32_639 : BitVec 32 := 0#32
  let c0_i32_640 : BitVec 32 := 0#32
  ![v882.toNat, 2, 0, 0, 0]
def k0_off265 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c8_i32_644 : BitVec 32 := 8#32
  let v931 : BitVec 32 := Scalar.muli v749 c8_i32_644
  let c3_i32_645 : BitVec 32 := 3#32
  let v932 : BitVec 32 := Scalar.addi v931 c3_i32_645
  let v933 : Index := Scalar.indexCast v932
  ![v933.toNat]
def k0_off266 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c3_i32_646 : BitVec 32 := 3#32
  let c0_i32_647 : BitVec 32 := 0#32
  let c0_i32_648 : BitVec 32 := 0#32
  let c0_i32_649 : BitVec 32 := 0#32
  ![v882.toNat, 3, 0, 0, 0]
def k0_off267 (v934 : BitVec 32) : Fin 4 → Nat :=
  let c0_i32_650 : BitVec 32 := 0#32
  let c0_i32_651 : BitVec 32 := 0#32
  let c0_i32_652 : BitVec 32 := 0#32
  ![v934.toNat, 0, 0, 0]

def k0_chk53 (v0 : BitVec 32) (k0_t2 : Fin (k0_t2_loop v0).trips) (v934 : BitVec 32) : Prop :=
  (∀ (k0_h5 : k0_cond5 v0 k0_t2 = 1#1), ∀ a, (k0_off267 v934) a + S1x2x128x256.size a ≤ S512x2x128x256.size a) ∧
  (∀ (k0_h5 : k0_cond5 v0 k0_t2 = 1#1), ∀ (hinb : ∀ a, (k0_off267 v934) a + S1x2x128x256.size a ≤ S512x2x128x256.size a), (Rect.unit (s := S512x2x128x256) (k0_off267 v934) S1x2x128x256.size hinb).WholeWords (EltTy.packing .fp8e4m3))
theorem k0_off267_inb : ∀ (v0 : BitVec 32) (k0_t2 : Fin (k0_t2_loop v0).trips) (v934 : BitVec 32) (k0_hw53 : k0_chk53 v0 k0_t2 v934), ∀ (k0_h5 : k0_cond5 v0 k0_t2 = 1#1), ∀ a, (k0_off267 v934) a + S1x2x128x256.size a ≤ S512x2x128x256.size a := fun v0 k0_t2 v934 k0_hw53 k0_h5 => k0_hw53.1 k0_h5
theorem k0_off267_wordsfp8e4m3 : ∀ (v0 : BitVec 32) (k0_t2 : Fin (k0_t2_loop v0).trips) (v934 : BitVec 32) (k0_hw53 : k0_chk53 v0 k0_t2 v934), ∀ (k0_h5 : k0_cond5 v0 k0_t2 = 1#1), (Rect.unit (s := S512x2x128x256) (k0_off267 v934) S1x2x128x256.size (k0_off267_inb v0 k0_t2 v934 k0_hw53 k0_h5)).WholeWords (EltTy.packing .fp8e4m3) := fun v0 k0_t2 v934 k0_hw53 k0_h5 => k0_hw53.2 k0_h5 (k0_off267_inb v0 k0_t2 v934 k0_hw53 k0_h5)

def k0_off268 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off269 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c3_i32_653 : BitVec 32 := 3#32
  let c0_i32_654 : BitVec 32 := 0#32
  let c0_i32_655 : BitVec 32 := 0#32
  let c0_i32_656 : BitVec 32 := 0#32
  ![v882.toNat, 3, 0, 0, 0]
def k0_off270 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c8_i32_660 : BitVec 32 := 8#32
  let v947 : BitVec 32 := Scalar.muli v749 c8_i32_660
  let c4_i32_661 : BitVec 32 := 4#32
  let v948 : BitVec 32 := Scalar.addi v947 c4_i32_661
  let v949 : Index := Scalar.indexCast v948
  ![v949.toNat]
def k0_off271 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c4_i32_662 : BitVec 32 := 4#32
  let c0_i32_663 : BitVec 32 := 0#32
  let c0_i32_664 : BitVec 32 := 0#32
  let c0_i32_665 : BitVec 32 := 0#32
  ![v882.toNat, 4, 0, 0, 0]
def k0_off272 (v950 : BitVec 32) : Fin 4 → Nat :=
  let c0_i32_666 : BitVec 32 := 0#32
  let c0_i32_667 : BitVec 32 := 0#32
  let c0_i32_668 : BitVec 32 := 0#32
  ![v950.toNat, 0, 0, 0]

def k0_chk54 (v0 : BitVec 32) (k0_t2 : Fin (k0_t2_loop v0).trips) (v950 : BitVec 32) : Prop :=
  (∀ (k0_h5 : k0_cond5 v0 k0_t2 = 1#1), ∀ a, (k0_off272 v950) a + S1x2x128x256.size a ≤ S512x2x128x256.size a) ∧
  (∀ (k0_h5 : k0_cond5 v0 k0_t2 = 1#1), ∀ (hinb : ∀ a, (k0_off272 v950) a + S1x2x128x256.size a ≤ S512x2x128x256.size a), (Rect.unit (s := S512x2x128x256) (k0_off272 v950) S1x2x128x256.size hinb).WholeWords (EltTy.packing .fp8e4m3))
theorem k0_off272_inb : ∀ (v0 : BitVec 32) (k0_t2 : Fin (k0_t2_loop v0).trips) (v950 : BitVec 32) (k0_hw54 : k0_chk54 v0 k0_t2 v950), ∀ (k0_h5 : k0_cond5 v0 k0_t2 = 1#1), ∀ a, (k0_off272 v950) a + S1x2x128x256.size a ≤ S512x2x128x256.size a := fun v0 k0_t2 v950 k0_hw54 k0_h5 => k0_hw54.1 k0_h5
theorem k0_off272_wordsfp8e4m3 : ∀ (v0 : BitVec 32) (k0_t2 : Fin (k0_t2_loop v0).trips) (v950 : BitVec 32) (k0_hw54 : k0_chk54 v0 k0_t2 v950), ∀ (k0_h5 : k0_cond5 v0 k0_t2 = 1#1), (Rect.unit (s := S512x2x128x256) (k0_off272 v950) S1x2x128x256.size (k0_off272_inb v0 k0_t2 v950 k0_hw54 k0_h5)).WholeWords (EltTy.packing .fp8e4m3) := fun v0 k0_t2 v950 k0_hw54 k0_h5 => k0_hw54.2 k0_h5 (k0_off272_inb v0 k0_t2 v950 k0_hw54 k0_h5)

def k0_off273 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off274 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c4_i32_669 : BitVec 32 := 4#32
  let c0_i32_670 : BitVec 32 := 0#32
  let c0_i32_671 : BitVec 32 := 0#32
  let c0_i32_672 : BitVec 32 := 0#32
  ![v882.toNat, 4, 0, 0, 0]
def k0_off275 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c8_i32_676 : BitVec 32 := 8#32
  let v963 : BitVec 32 := Scalar.muli v749 c8_i32_676
  let c5_i32_677 : BitVec 32 := 5#32
  let v964 : BitVec 32 := Scalar.addi v963 c5_i32_677
  let v965 : Index := Scalar.indexCast v964
  ![v965.toNat]
def k0_off276 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c5_i32_678 : BitVec 32 := 5#32
  let c0_i32_679 : BitVec 32 := 0#32
  let c0_i32_680 : BitVec 32 := 0#32
  let c0_i32_681 : BitVec 32 := 0#32
  ![v882.toNat, 5, 0, 0, 0]
def k0_off277 (v966 : BitVec 32) : Fin 4 → Nat :=
  let c0_i32_682 : BitVec 32 := 0#32
  let c0_i32_683 : BitVec 32 := 0#32
  let c0_i32_684 : BitVec 32 := 0#32
  ![v966.toNat, 0, 0, 0]

def k0_chk55 (v0 : BitVec 32) (k0_t2 : Fin (k0_t2_loop v0).trips) (v966 : BitVec 32) : Prop :=
  (∀ (k0_h5 : k0_cond5 v0 k0_t2 = 1#1), ∀ a, (k0_off277 v966) a + S1x2x128x256.size a ≤ S512x2x128x256.size a) ∧
  (∀ (k0_h5 : k0_cond5 v0 k0_t2 = 1#1), ∀ (hinb : ∀ a, (k0_off277 v966) a + S1x2x128x256.size a ≤ S512x2x128x256.size a), (Rect.unit (s := S512x2x128x256) (k0_off277 v966) S1x2x128x256.size hinb).WholeWords (EltTy.packing .fp8e4m3))
theorem k0_off277_inb : ∀ (v0 : BitVec 32) (k0_t2 : Fin (k0_t2_loop v0).trips) (v966 : BitVec 32) (k0_hw55 : k0_chk55 v0 k0_t2 v966), ∀ (k0_h5 : k0_cond5 v0 k0_t2 = 1#1), ∀ a, (k0_off277 v966) a + S1x2x128x256.size a ≤ S512x2x128x256.size a := fun v0 k0_t2 v966 k0_hw55 k0_h5 => k0_hw55.1 k0_h5
theorem k0_off277_wordsfp8e4m3 : ∀ (v0 : BitVec 32) (k0_t2 : Fin (k0_t2_loop v0).trips) (v966 : BitVec 32) (k0_hw55 : k0_chk55 v0 k0_t2 v966), ∀ (k0_h5 : k0_cond5 v0 k0_t2 = 1#1), (Rect.unit (s := S512x2x128x256) (k0_off277 v966) S1x2x128x256.size (k0_off277_inb v0 k0_t2 v966 k0_hw55 k0_h5)).WholeWords (EltTy.packing .fp8e4m3) := fun v0 k0_t2 v966 k0_hw55 k0_h5 => k0_hw55.2 k0_h5 (k0_off277_inb v0 k0_t2 v966 k0_hw55 k0_h5)

def k0_off278 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off279 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c5_i32_685 : BitVec 32 := 5#32
  let c0_i32_686 : BitVec 32 := 0#32
  let c0_i32_687 : BitVec 32 := 0#32
  let c0_i32_688 : BitVec 32 := 0#32
  ![v882.toNat, 5, 0, 0, 0]
def k0_off280 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c8_i32_692 : BitVec 32 := 8#32
  let v979 : BitVec 32 := Scalar.muli v749 c8_i32_692
  let c6_i32_693 : BitVec 32 := 6#32
  let v980 : BitVec 32 := Scalar.addi v979 c6_i32_693
  let v981 : Index := Scalar.indexCast v980
  ![v981.toNat]
def k0_off281 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c6_i32_694 : BitVec 32 := 6#32
  let c0_i32_695 : BitVec 32 := 0#32
  let c0_i32_696 : BitVec 32 := 0#32
  let c0_i32_697 : BitVec 32 := 0#32
  ![v882.toNat, 6, 0, 0, 0]
def k0_off282 (v982 : BitVec 32) : Fin 4 → Nat :=
  let c0_i32_698 : BitVec 32 := 0#32
  let c0_i32_699 : BitVec 32 := 0#32
  let c0_i32_700 : BitVec 32 := 0#32
  ![v982.toNat, 0, 0, 0]

def k0_chk56 (v0 : BitVec 32) (k0_t2 : Fin (k0_t2_loop v0).trips) (v982 : BitVec 32) : Prop :=
  (∀ (k0_h5 : k0_cond5 v0 k0_t2 = 1#1), ∀ a, (k0_off282 v982) a + S1x2x128x256.size a ≤ S512x2x128x256.size a) ∧
  (∀ (k0_h5 : k0_cond5 v0 k0_t2 = 1#1), ∀ (hinb : ∀ a, (k0_off282 v982) a + S1x2x128x256.size a ≤ S512x2x128x256.size a), (Rect.unit (s := S512x2x128x256) (k0_off282 v982) S1x2x128x256.size hinb).WholeWords (EltTy.packing .fp8e4m3))
theorem k0_off282_inb : ∀ (v0 : BitVec 32) (k0_t2 : Fin (k0_t2_loop v0).trips) (v982 : BitVec 32) (k0_hw56 : k0_chk56 v0 k0_t2 v982), ∀ (k0_h5 : k0_cond5 v0 k0_t2 = 1#1), ∀ a, (k0_off282 v982) a + S1x2x128x256.size a ≤ S512x2x128x256.size a := fun v0 k0_t2 v982 k0_hw56 k0_h5 => k0_hw56.1 k0_h5
theorem k0_off282_wordsfp8e4m3 : ∀ (v0 : BitVec 32) (k0_t2 : Fin (k0_t2_loop v0).trips) (v982 : BitVec 32) (k0_hw56 : k0_chk56 v0 k0_t2 v982), ∀ (k0_h5 : k0_cond5 v0 k0_t2 = 1#1), (Rect.unit (s := S512x2x128x256) (k0_off282 v982) S1x2x128x256.size (k0_off282_inb v0 k0_t2 v982 k0_hw56 k0_h5)).WholeWords (EltTy.packing .fp8e4m3) := fun v0 k0_t2 v982 k0_hw56 k0_h5 => k0_hw56.2 k0_h5 (k0_off282_inb v0 k0_t2 v982 k0_hw56 k0_h5)

def k0_off283 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off284 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c6_i32_701 : BitVec 32 := 6#32
  let c0_i32_702 : BitVec 32 := 0#32
  let c0_i32_703 : BitVec 32 := 0#32
  let c0_i32_704 : BitVec 32 := 0#32
  ![v882.toNat, 6, 0, 0, 0]
def k0_off285 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c8_i32_708 : BitVec 32 := 8#32
  let v995 : BitVec 32 := Scalar.muli v749 c8_i32_708
  let c7_i32_709 : BitVec 32 := 7#32
  let v996 : BitVec 32 := Scalar.addi v995 c7_i32_709
  let v997 : Index := Scalar.indexCast v996
  ![v997.toNat]
def k0_off286 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c7_i32_710 : BitVec 32 := 7#32
  let c0_i32_711 : BitVec 32 := 0#32
  let c0_i32_712 : BitVec 32 := 0#32
  let c0_i32_713 : BitVec 32 := 0#32
  ![v882.toNat, 7, 0, 0, 0]
def k0_off287 (v998 : BitVec 32) : Fin 4 → Nat :=
  let c0_i32_714 : BitVec 32 := 0#32
  let c0_i32_715 : BitVec 32 := 0#32
  let c0_i32_716 : BitVec 32 := 0#32
  ![v998.toNat, 0, 0, 0]

def k0_chk57 (v0 : BitVec 32) (k0_t2 : Fin (k0_t2_loop v0).trips) (v998 : BitVec 32) : Prop :=
  (∀ (k0_h5 : k0_cond5 v0 k0_t2 = 1#1), ∀ a, (k0_off287 v998) a + S1x2x128x256.size a ≤ S512x2x128x256.size a) ∧
  (∀ (k0_h5 : k0_cond5 v0 k0_t2 = 1#1), ∀ (hinb : ∀ a, (k0_off287 v998) a + S1x2x128x256.size a ≤ S512x2x128x256.size a), (Rect.unit (s := S512x2x128x256) (k0_off287 v998) S1x2x128x256.size hinb).WholeWords (EltTy.packing .fp8e4m3))
theorem k0_off287_inb : ∀ (v0 : BitVec 32) (k0_t2 : Fin (k0_t2_loop v0).trips) (v998 : BitVec 32) (k0_hw57 : k0_chk57 v0 k0_t2 v998), ∀ (k0_h5 : k0_cond5 v0 k0_t2 = 1#1), ∀ a, (k0_off287 v998) a + S1x2x128x256.size a ≤ S512x2x128x256.size a := fun v0 k0_t2 v998 k0_hw57 k0_h5 => k0_hw57.1 k0_h5
theorem k0_off287_wordsfp8e4m3 : ∀ (v0 : BitVec 32) (k0_t2 : Fin (k0_t2_loop v0).trips) (v998 : BitVec 32) (k0_hw57 : k0_chk57 v0 k0_t2 v998), ∀ (k0_h5 : k0_cond5 v0 k0_t2 = 1#1), (Rect.unit (s := S512x2x128x256) (k0_off287 v998) S1x2x128x256.size (k0_off287_inb v0 k0_t2 v998 k0_hw57 k0_h5)).WholeWords (EltTy.packing .fp8e4m3) := fun v0 k0_t2 v998 k0_hw57 k0_h5 => k0_hw57.2 k0_h5 (k0_off287_inb v0 k0_t2 v998 k0_hw57 k0_h5)

def k0_off288 (v0 : BitVec 32) (k0_t2 : Fin (k0_t2_loop v0).trips) : Fin 1 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  ![v882.toNat]
def k0_off289 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_509 : BitVec 32 := 4#32
  let v748 : BitVec 32 := Scalar.addi arg19 c4_i32_509
  let c1_i32_510 : BitVec 32 := 1#32
  let v749 : BitVec 32 := Scalar.subi v748 c1_i32_510
  let c4_i32_595 : BitVec 32 := 4#32
  let v882 : BitVec 32 := Scalar.remsi v749 c4_i32_595
  let c7_i32_717 : BitVec 32 := 7#32
  let c0_i32_718 : BitVec 32 := 0#32
  let c0_i32_719 : BitVec 32 := 0#32
  let c0_i32_720 : BitVec 32 := 0#32
  ![v882.toNat, 7, 0, 0, 0]
def k0_off290 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_512 : BitVec 32 := 4#32
  let v753 : BitVec 32 := Scalar.remsi arg19 c4_i32_512
  let v754 : Index := Scalar.indexCast v753
  let c0_513 : Index := 0#32
  let c0_514 : Index := 0#32
  let c0_515 : Index := 0#32
  let c0_516 : Index := 0#32
  ![v754.toNat, 0, 0, 0, 0]
def k0_off291 (v0 : BitVec 32) (k0_t2 : Fin (k0_t2_loop v0).trips) : Fin 5 → Nat :=
  let c0_i32_138 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v306 : BitVec 32 := Scalar.subi v17 c0_i32_138
  let c1_i32_139 : BitVec 32 := 1#32
  let v308 : BitVec 32 := Scalar.divsi v306 c1_i32_139
  let v309 : BitVec 32 := Scalar.muli v308 c1_i32_139
  let v310 : BitVec 32 := Scalar.addi c0_i32_138 v309
  let c1_i32_141 : BitVec 32 := 1#32
  let arg19 : BitVec 32 := Scf.iv v310 c1_i32_141 k0_t2
  let c4_i32_512 : BitVec 32 := 4#32
  let v753 : BitVec 32 := Scalar.remsi arg19 c4_i32_512
  let v818 : Index := Scalar.indexCast v753
  let c0_554 : Index := 0#32
  let c1_555 : Index := 1#32
  let c0_556 : Index := 0#32
  let c0_557 : Index := 0#32
  ![v818.toNat, 0, 1, 0, 0]
def k0_off292 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c8_i32 : BitVec 32 := 8#32
  let v312 : BitVec 32 := Scalar.muli v17 c8_i32
  let c0_i32_142 : BitVec 32 := 0#32
  let v313 : BitVec 32 := Scalar.addi v312 c0_i32_142
  let v314 : Index := Scalar.indexCast v313
  ![v314.toNat]
def k0_off293 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  ![v311.toNat]
def k0_off294 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c0_i32_143 : BitVec 32 := 0#32
  let c0_i32_144 : BitVec 32 := 0#32
  let c0_i32_145 : BitVec 32 := 0#32
  let c0_i32_146 : BitVec 32 := 0#32
  ![v311.toNat, 0, 0, 0, 0]
def k0_off295 (v315 : BitVec 32) : Fin 4 → Nat :=
  let c0_i32_147 : BitVec 32 := 0#32
  let c0_i32_148 : BitVec 32 := 0#32
  let c0_i32_149 : BitVec 32 := 0#32
  ![v315.toNat, 0, 0, 0]

def k0_chk58 (v315 : BitVec 32) : Prop :=
  (∀ a, (k0_off295 v315) a + S1x2x128x256.size a ≤ S512x2x128x256.size a) ∧
  (∀ (hinb : ∀ a, (k0_off295 v315) a + S1x2x128x256.size a ≤ S512x2x128x256.size a), (Rect.unit (s := S512x2x128x256) (k0_off295 v315) S1x2x128x256.size hinb).WholeWords (EltTy.packing .fp8e4m3))
theorem k0_off295_inb : ∀ (v315 : BitVec 32) (k0_hw58 : k0_chk58 v315), ∀ a, (k0_off295 v315) a + S1x2x128x256.size a ≤ S512x2x128x256.size a := fun v315 k0_hw58 => k0_hw58.1
theorem k0_off295_wordsfp8e4m3 : ∀ (v315 : BitVec 32) (k0_hw58 : k0_chk58 v315), (Rect.unit (s := S512x2x128x256) (k0_off295 v315) S1x2x128x256.size (k0_off295_inb v315 k0_hw58)).WholeWords (EltTy.packing .fp8e4m3) := fun v315 k0_hw58 => k0_hw58.2 (k0_off295_inb v315 k0_hw58)

def k0_off296 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  ![v311.toNat]
def k0_off297 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c0_i32_150 : BitVec 32 := 0#32
  let c0_i32_151 : BitVec 32 := 0#32
  let c0_i32_152 : BitVec 32 := 0#32
  let c0_i32_153 : BitVec 32 := 0#32
  ![v311.toNat, 0, 0, 0, 0]
def k0_off298 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c8_i32_157 : BitVec 32 := 8#32
  let v328 : BitVec 32 := Scalar.muli v17 c8_i32_157
  let c1_i32_158 : BitVec 32 := 1#32
  let v329 : BitVec 32 := Scalar.addi v328 c1_i32_158
  let v330 : Index := Scalar.indexCast v329
  ![v330.toNat]
def k0_off299 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c1_i32_159 : BitVec 32 := 1#32
  let c0_i32_160 : BitVec 32 := 0#32
  let c0_i32_161 : BitVec 32 := 0#32
  let c0_i32_162 : BitVec 32 := 0#32
  ![v311.toNat, 1, 0, 0, 0]
def k0_off300 (v331 : BitVec 32) : Fin 4 → Nat :=
  let c0_i32_163 : BitVec 32 := 0#32
  let c0_i32_164 : BitVec 32 := 0#32
  let c0_i32_165 : BitVec 32 := 0#32
  ![v331.toNat, 0, 0, 0]

def k0_chk59 (v331 : BitVec 32) : Prop :=
  (∀ a, (k0_off300 v331) a + S1x2x128x256.size a ≤ S512x2x128x256.size a) ∧
  (∀ (hinb : ∀ a, (k0_off300 v331) a + S1x2x128x256.size a ≤ S512x2x128x256.size a), (Rect.unit (s := S512x2x128x256) (k0_off300 v331) S1x2x128x256.size hinb).WholeWords (EltTy.packing .fp8e4m3))
theorem k0_off300_inb : ∀ (v331 : BitVec 32) (k0_hw59 : k0_chk59 v331), ∀ a, (k0_off300 v331) a + S1x2x128x256.size a ≤ S512x2x128x256.size a := fun v331 k0_hw59 => k0_hw59.1
theorem k0_off300_wordsfp8e4m3 : ∀ (v331 : BitVec 32) (k0_hw59 : k0_chk59 v331), (Rect.unit (s := S512x2x128x256) (k0_off300 v331) S1x2x128x256.size (k0_off300_inb v331 k0_hw59)).WholeWords (EltTy.packing .fp8e4m3) := fun v331 k0_hw59 => k0_hw59.2 (k0_off300_inb v331 k0_hw59)

def k0_off301 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  ![v311.toNat]
def k0_off302 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c1_i32_166 : BitVec 32 := 1#32
  let c0_i32_167 : BitVec 32 := 0#32
  let c0_i32_168 : BitVec 32 := 0#32
  let c0_i32_169 : BitVec 32 := 0#32
  ![v311.toNat, 1, 0, 0, 0]
def k0_off303 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c8_i32_173 : BitVec 32 := 8#32
  let v344 : BitVec 32 := Scalar.muli v17 c8_i32_173
  let c2_i32_174 : BitVec 32 := 2#32
  let v345 : BitVec 32 := Scalar.addi v344 c2_i32_174
  let v346 : Index := Scalar.indexCast v345
  ![v346.toNat]
def k0_off304 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c2_i32_175 : BitVec 32 := 2#32
  let c0_i32_176 : BitVec 32 := 0#32
  let c0_i32_177 : BitVec 32 := 0#32
  let c0_i32_178 : BitVec 32 := 0#32
  ![v311.toNat, 2, 0, 0, 0]
def k0_off305 (v347 : BitVec 32) : Fin 4 → Nat :=
  let c0_i32_179 : BitVec 32 := 0#32
  let c0_i32_180 : BitVec 32 := 0#32
  let c0_i32_181 : BitVec 32 := 0#32
  ![v347.toNat, 0, 0, 0]

def k0_chk60 (v347 : BitVec 32) : Prop :=
  (∀ a, (k0_off305 v347) a + S1x2x128x256.size a ≤ S512x2x128x256.size a) ∧
  (∀ (hinb : ∀ a, (k0_off305 v347) a + S1x2x128x256.size a ≤ S512x2x128x256.size a), (Rect.unit (s := S512x2x128x256) (k0_off305 v347) S1x2x128x256.size hinb).WholeWords (EltTy.packing .fp8e4m3))
theorem k0_off305_inb : ∀ (v347 : BitVec 32) (k0_hw60 : k0_chk60 v347), ∀ a, (k0_off305 v347) a + S1x2x128x256.size a ≤ S512x2x128x256.size a := fun v347 k0_hw60 => k0_hw60.1
theorem k0_off305_wordsfp8e4m3 : ∀ (v347 : BitVec 32) (k0_hw60 : k0_chk60 v347), (Rect.unit (s := S512x2x128x256) (k0_off305 v347) S1x2x128x256.size (k0_off305_inb v347 k0_hw60)).WholeWords (EltTy.packing .fp8e4m3) := fun v347 k0_hw60 => k0_hw60.2 (k0_off305_inb v347 k0_hw60)

def k0_off306 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  ![v311.toNat]
def k0_off307 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c2_i32_182 : BitVec 32 := 2#32
  let c0_i32_183 : BitVec 32 := 0#32
  let c0_i32_184 : BitVec 32 := 0#32
  let c0_i32_185 : BitVec 32 := 0#32
  ![v311.toNat, 2, 0, 0, 0]
def k0_off308 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c8_i32_189 : BitVec 32 := 8#32
  let v360 : BitVec 32 := Scalar.muli v17 c8_i32_189
  let c3_i32 : BitVec 32 := 3#32
  let v361 : BitVec 32 := Scalar.addi v360 c3_i32
  let v362 : Index := Scalar.indexCast v361
  ![v362.toNat]
def k0_off309 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c3_i32_190 : BitVec 32 := 3#32
  let c0_i32_191 : BitVec 32 := 0#32
  let c0_i32_192 : BitVec 32 := 0#32
  let c0_i32_193 : BitVec 32 := 0#32
  ![v311.toNat, 3, 0, 0, 0]
def k0_off310 (v363 : BitVec 32) : Fin 4 → Nat :=
  let c0_i32_194 : BitVec 32 := 0#32
  let c0_i32_195 : BitVec 32 := 0#32
  let c0_i32_196 : BitVec 32 := 0#32
  ![v363.toNat, 0, 0, 0]

def k0_chk61 (v363 : BitVec 32) : Prop :=
  (∀ a, (k0_off310 v363) a + S1x2x128x256.size a ≤ S512x2x128x256.size a) ∧
  (∀ (hinb : ∀ a, (k0_off310 v363) a + S1x2x128x256.size a ≤ S512x2x128x256.size a), (Rect.unit (s := S512x2x128x256) (k0_off310 v363) S1x2x128x256.size hinb).WholeWords (EltTy.packing .fp8e4m3))
theorem k0_off310_inb : ∀ (v363 : BitVec 32) (k0_hw61 : k0_chk61 v363), ∀ a, (k0_off310 v363) a + S1x2x128x256.size a ≤ S512x2x128x256.size a := fun v363 k0_hw61 => k0_hw61.1
theorem k0_off310_wordsfp8e4m3 : ∀ (v363 : BitVec 32) (k0_hw61 : k0_chk61 v363), (Rect.unit (s := S512x2x128x256) (k0_off310 v363) S1x2x128x256.size (k0_off310_inb v363 k0_hw61)).WholeWords (EltTy.packing .fp8e4m3) := fun v363 k0_hw61 => k0_hw61.2 (k0_off310_inb v363 k0_hw61)

def k0_off311 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  ![v311.toNat]
def k0_off312 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c3_i32_197 : BitVec 32 := 3#32
  let c0_i32_198 : BitVec 32 := 0#32
  let c0_i32_199 : BitVec 32 := 0#32
  let c0_i32_200 : BitVec 32 := 0#32
  ![v311.toNat, 3, 0, 0, 0]
def k0_off313 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c8_i32_204 : BitVec 32 := 8#32
  let v376 : BitVec 32 := Scalar.muli v17 c8_i32_204
  let c4_i32_205 : BitVec 32 := 4#32
  let v377 : BitVec 32 := Scalar.addi v376 c4_i32_205
  let v378 : Index := Scalar.indexCast v377
  ![v378.toNat]
def k0_off314 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c4_i32_206 : BitVec 32 := 4#32
  let c0_i32_207 : BitVec 32 := 0#32
  let c0_i32_208 : BitVec 32 := 0#32
  let c0_i32_209 : BitVec 32 := 0#32
  ![v311.toNat, 4, 0, 0, 0]
def k0_off315 (v379 : BitVec 32) : Fin 4 → Nat :=
  let c0_i32_210 : BitVec 32 := 0#32
  let c0_i32_211 : BitVec 32 := 0#32
  let c0_i32_212 : BitVec 32 := 0#32
  ![v379.toNat, 0, 0, 0]

def k0_chk62 (v379 : BitVec 32) : Prop :=
  (∀ a, (k0_off315 v379) a + S1x2x128x256.size a ≤ S512x2x128x256.size a) ∧
  (∀ (hinb : ∀ a, (k0_off315 v379) a + S1x2x128x256.size a ≤ S512x2x128x256.size a), (Rect.unit (s := S512x2x128x256) (k0_off315 v379) S1x2x128x256.size hinb).WholeWords (EltTy.packing .fp8e4m3))
theorem k0_off315_inb : ∀ (v379 : BitVec 32) (k0_hw62 : k0_chk62 v379), ∀ a, (k0_off315 v379) a + S1x2x128x256.size a ≤ S512x2x128x256.size a := fun v379 k0_hw62 => k0_hw62.1
theorem k0_off315_wordsfp8e4m3 : ∀ (v379 : BitVec 32) (k0_hw62 : k0_chk62 v379), (Rect.unit (s := S512x2x128x256) (k0_off315 v379) S1x2x128x256.size (k0_off315_inb v379 k0_hw62)).WholeWords (EltTy.packing .fp8e4m3) := fun v379 k0_hw62 => k0_hw62.2 (k0_off315_inb v379 k0_hw62)

def k0_off316 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  ![v311.toNat]
def k0_off317 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c4_i32_213 : BitVec 32 := 4#32
  let c0_i32_214 : BitVec 32 := 0#32
  let c0_i32_215 : BitVec 32 := 0#32
  let c0_i32_216 : BitVec 32 := 0#32
  ![v311.toNat, 4, 0, 0, 0]
def k0_off318 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c8_i32_220 : BitVec 32 := 8#32
  let v392 : BitVec 32 := Scalar.muli v17 c8_i32_220
  let c5_i32 : BitVec 32 := 5#32
  let v393 : BitVec 32 := Scalar.addi v392 c5_i32
  let v394 : Index := Scalar.indexCast v393
  ![v394.toNat]
def k0_off319 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c5_i32_221 : BitVec 32 := 5#32
  let c0_i32_222 : BitVec 32 := 0#32
  let c0_i32_223 : BitVec 32 := 0#32
  let c0_i32_224 : BitVec 32 := 0#32
  ![v311.toNat, 5, 0, 0, 0]
def k0_off320 (v395 : BitVec 32) : Fin 4 → Nat :=
  let c0_i32_225 : BitVec 32 := 0#32
  let c0_i32_226 : BitVec 32 := 0#32
  let c0_i32_227 : BitVec 32 := 0#32
  ![v395.toNat, 0, 0, 0]

def k0_chk63 (v395 : BitVec 32) : Prop :=
  (∀ a, (k0_off320 v395) a + S1x2x128x256.size a ≤ S512x2x128x256.size a) ∧
  (∀ (hinb : ∀ a, (k0_off320 v395) a + S1x2x128x256.size a ≤ S512x2x128x256.size a), (Rect.unit (s := S512x2x128x256) (k0_off320 v395) S1x2x128x256.size hinb).WholeWords (EltTy.packing .fp8e4m3))
theorem k0_off320_inb : ∀ (v395 : BitVec 32) (k0_hw63 : k0_chk63 v395), ∀ a, (k0_off320 v395) a + S1x2x128x256.size a ≤ S512x2x128x256.size a := fun v395 k0_hw63 => k0_hw63.1
theorem k0_off320_wordsfp8e4m3 : ∀ (v395 : BitVec 32) (k0_hw63 : k0_chk63 v395), (Rect.unit (s := S512x2x128x256) (k0_off320 v395) S1x2x128x256.size (k0_off320_inb v395 k0_hw63)).WholeWords (EltTy.packing .fp8e4m3) := fun v395 k0_hw63 => k0_hw63.2 (k0_off320_inb v395 k0_hw63)

def k0_off321 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  ![v311.toNat]
def k0_off322 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c5_i32_228 : BitVec 32 := 5#32
  let c0_i32_229 : BitVec 32 := 0#32
  let c0_i32_230 : BitVec 32 := 0#32
  let c0_i32_231 : BitVec 32 := 0#32
  ![v311.toNat, 5, 0, 0, 0]
def k0_off323 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c8_i32_235 : BitVec 32 := 8#32
  let v408 : BitVec 32 := Scalar.muli v17 c8_i32_235
  let c6_i32 : BitVec 32 := 6#32
  let v409 : BitVec 32 := Scalar.addi v408 c6_i32
  let v410 : Index := Scalar.indexCast v409
  ![v410.toNat]
def k0_off324 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c6_i32_236 : BitVec 32 := 6#32
  let c0_i32_237 : BitVec 32 := 0#32
  let c0_i32_238 : BitVec 32 := 0#32
  let c0_i32_239 : BitVec 32 := 0#32
  ![v311.toNat, 6, 0, 0, 0]
def k0_off325 (v411 : BitVec 32) : Fin 4 → Nat :=
  let c0_i32_240 : BitVec 32 := 0#32
  let c0_i32_241 : BitVec 32 := 0#32
  let c0_i32_242 : BitVec 32 := 0#32
  ![v411.toNat, 0, 0, 0]

def k0_chk64 (v411 : BitVec 32) : Prop :=
  (∀ a, (k0_off325 v411) a + S1x2x128x256.size a ≤ S512x2x128x256.size a) ∧
  (∀ (hinb : ∀ a, (k0_off325 v411) a + S1x2x128x256.size a ≤ S512x2x128x256.size a), (Rect.unit (s := S512x2x128x256) (k0_off325 v411) S1x2x128x256.size hinb).WholeWords (EltTy.packing .fp8e4m3))
theorem k0_off325_inb : ∀ (v411 : BitVec 32) (k0_hw64 : k0_chk64 v411), ∀ a, (k0_off325 v411) a + S1x2x128x256.size a ≤ S512x2x128x256.size a := fun v411 k0_hw64 => k0_hw64.1
theorem k0_off325_wordsfp8e4m3 : ∀ (v411 : BitVec 32) (k0_hw64 : k0_chk64 v411), (Rect.unit (s := S512x2x128x256) (k0_off325 v411) S1x2x128x256.size (k0_off325_inb v411 k0_hw64)).WholeWords (EltTy.packing .fp8e4m3) := fun v411 k0_hw64 => k0_hw64.2 (k0_off325_inb v411 k0_hw64)

def k0_off326 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  ![v311.toNat]
def k0_off327 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c6_i32_243 : BitVec 32 := 6#32
  let c0_i32_244 : BitVec 32 := 0#32
  let c0_i32_245 : BitVec 32 := 0#32
  let c0_i32_246 : BitVec 32 := 0#32
  ![v311.toNat, 6, 0, 0, 0]
def k0_off328 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c8_i32_250 : BitVec 32 := 8#32
  let v424 : BitVec 32 := Scalar.muli v17 c8_i32_250
  let c7_i32 : BitVec 32 := 7#32
  let v425 : BitVec 32 := Scalar.addi v424 c7_i32
  let v426 : Index := Scalar.indexCast v425
  ![v426.toNat]
def k0_off329 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c7_i32_251 : BitVec 32 := 7#32
  let c0_i32_252 : BitVec 32 := 0#32
  let c0_i32_253 : BitVec 32 := 0#32
  let c0_i32_254 : BitVec 32 := 0#32
  ![v311.toNat, 7, 0, 0, 0]
def k0_off330 (v427 : BitVec 32) : Fin 4 → Nat :=
  let c0_i32_255 : BitVec 32 := 0#32
  let c0_i32_256 : BitVec 32 := 0#32
  let c0_i32_257 : BitVec 32 := 0#32
  ![v427.toNat, 0, 0, 0]

def k0_chk65 (v427 : BitVec 32) : Prop :=
  (∀ a, (k0_off330 v427) a + S1x2x128x256.size a ≤ S512x2x128x256.size a) ∧
  (∀ (hinb : ∀ a, (k0_off330 v427) a + S1x2x128x256.size a ≤ S512x2x128x256.size a), (Rect.unit (s := S512x2x128x256) (k0_off330 v427) S1x2x128x256.size hinb).WholeWords (EltTy.packing .fp8e4m3))
theorem k0_off330_inb : ∀ (v427 : BitVec 32) (k0_hw65 : k0_chk65 v427), ∀ a, (k0_off330 v427) a + S1x2x128x256.size a ≤ S512x2x128x256.size a := fun v427 k0_hw65 => k0_hw65.1
theorem k0_off330_wordsfp8e4m3 : ∀ (v427 : BitVec 32) (k0_hw65 : k0_chk65 v427), (Rect.unit (s := S512x2x128x256) (k0_off330 v427) S1x2x128x256.size (k0_off330_inb v427 k0_hw65)).WholeWords (EltTy.packing .fp8e4m3) := fun v427 k0_hw65 => k0_hw65.2 (k0_off330_inb v427 k0_hw65)

def k0_off331 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  ![v311.toNat]
def k0_off332 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32 : BitVec 32 := 4#32
  let v311 : BitVec 32 := Scalar.remsi v17 c4_i32
  let c7_i32_258 : BitVec 32 := 7#32
  let c0_i32_259 : BitVec 32 := 0#32
  let c0_i32_260 : BitVec 32 := 0#32
  let c0_i32_261 : BitVec 32 := 0#32
  ![v311.toNat, 7, 0, 0, 0]
def k0_off333 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32_265 : BitVec 32 := 4#32
  let v440 : BitVec 32 := Scalar.remsi v17 c4_i32_265
  let v441 : Index := Scalar.indexCast v440
  let c0_266 : Index := 0#32
  let c0_267 : Index := 0#32
  let c0_268 : Index := 0#32
  let c0_269 : Index := 0#32
  ![v441.toNat, 0, 0, 0, 0]
def k0_off334 (v0 : BitVec 32) : Fin 5 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c4_i32_265 : BitVec 32 := 4#32
  let v440 : BitVec 32 := Scalar.remsi v17 c4_i32_265
  let v515 : Index := Scalar.indexCast v440
  let c0_309 : Index := 0#32
  let c1_310 : Index := 1#32
  let c0_311 : Index := 0#32
  let c0_312 : Index := 0#32
  ![v515.toNat, 0, 1, 0, 0]

def k0_chk25_0 (v0 : BitVec 32) : Prop :=
  ((k0_t1_loop v0).OK) ∧
  (∀ k0_t1 : Fin (k0_t1_loop v0).trips, ∀ a, (k0_off124 v0 k0_t1) a + S1.size a ≤ S512.size a) ∧
  (∀ k0_t1 : Fin (k0_t1_loop v0).trips, ∀ a, (k0_off125 v0 k0_t1) a + S1.size a ≤ S4.size a) ∧
  (∀ k0_t1 : Fin (k0_t1_loop v0).trips, ∀ a, (k0_off126 v0 k0_t1) a + S1x1x2x128x256.size a ≤ S4x8x2x128x256.size a) ∧
  (∀ k0_t1 : Fin (k0_t1_loop v0).trips, ∀ (hinb : ∀ a, (k0_off126 v0 k0_t1) a + S1x1x2x128x256.size a ≤ S4x8x2x128x256.size a), (Rect.unit (s := S4x8x2x128x256) (k0_off126 v0 k0_t1) S1x1x2x128x256.size hinb).WholeWords (EltTy.packing .fp8e4m3)) ∧
  (∀ k0_t1 : Fin (k0_t1_loop v0).trips, ∀ a, (k0_off128 v0 k0_t1) a + S1.size a ≤ S4.size a) ∧
  (∀ k0_t1 : Fin (k0_t1_loop v0).trips, ∀ a, (k0_off129 v0 k0_t1) a + S1x1x2x128x256.size a ≤ S4x8x2x128x256.size a) ∧
  (∀ k0_t1 : Fin (k0_t1_loop v0).trips, ∀ (hinb : ∀ a, (k0_off129 v0 k0_t1) a + S1x1x2x128x256.size a ≤ S4x8x2x128x256.size a), (Rect.unit (s := S4x8x2x128x256) (k0_off129 v0 k0_t1) S1x1x2x128x256.size hinb).WholeWords (EltTy.packing .fp8e4m3)) ∧
  (∀ k0_t1 : Fin (k0_t1_loop v0).trips, ∀ a, (k0_off130 v0 k0_t1) a + S1.size a ≤ S512.size a) ∧
  (∀ k0_t1 : Fin (k0_t1_loop v0).trips, ∀ a, (k0_off131 v0 k0_t1) a + S1x1x2x128x256.size a ≤ S4x8x2x128x256.size a) ∧
  (∀ k0_t1 : Fin (k0_t1_loop v0).trips, ∀ (hinb : ∀ a, (k0_off131 v0 k0_t1) a + S1x1x2x128x256.size a ≤ S4x8x2x128x256.size a), (Rect.unit (s := S4x8x2x128x256) (k0_off131 v0 k0_t1) S1x1x2x128x256.size hinb).WholeWords (EltTy.packing .fp8e4m3)) ∧
  (∀ k0_t1 : Fin (k0_t1_loop v0).trips, ∀ a, (k0_off133 v0 k0_t1) a + S1.size a ≤ S4.size a) ∧
  (∀ k0_t1 : Fin (k0_t1_loop v0).trips, ∀ a, (k0_off134 v0 k0_t1) a + S1x1x2x128x256.size a ≤ S4x8x2x128x256.size a) ∧
  (∀ k0_t1 : Fin (k0_t1_loop v0).trips, ∀ (hinb : ∀ a, (k0_off134 v0 k0_t1) a + S1x1x2x128x256.size a ≤ S4x8x2x128x256.size a), (Rect.unit (s := S4x8x2x128x256) (k0_off134 v0 k0_t1) S1x1x2x128x256.size hinb).WholeWords (EltTy.packing .fp8e4m3)) ∧
  (∀ k0_t1 : Fin (k0_t1_loop v0).trips, ∀ a, (k0_off135 v0 k0_t1) a + S1.size a ≤ S512.size a) ∧
  (∀ k0_t1 : Fin (k0_t1_loop v0).trips, ∀ a, (k0_off136 v0 k0_t1) a + S1x1x2x128x256.size a ≤ S4x8x2x128x256.size a) ∧
  (∀ k0_t1 : Fin (k0_t1_loop v0).trips, ∀ (hinb : ∀ a, (k0_off136 v0 k0_t1) a + S1x1x2x128x256.size a ≤ S4x8x2x128x256.size a), (Rect.unit (s := S4x8x2x128x256) (k0_off136 v0 k0_t1) S1x1x2x128x256.size hinb).WholeWords (EltTy.packing .fp8e4m3)) ∧
  (∀ k0_t1 : Fin (k0_t1_loop v0).trips, ∀ a, (k0_off138 v0 k0_t1) a + S1.size a ≤ S4.size a) ∧
  (∀ k0_t1 : Fin (k0_t1_loop v0).trips, ∀ a, (k0_off139 v0 k0_t1) a + S1x1x2x128x256.size a ≤ S4x8x2x128x256.size a) ∧
  (∀ k0_t1 : Fin (k0_t1_loop v0).trips, ∀ (hinb : ∀ a, (k0_off139 v0 k0_t1) a + S1x1x2x128x256.size a ≤ S4x8x2x128x256.size a), (Rect.unit (s := S4x8x2x128x256) (k0_off139 v0 k0_t1) S1x1x2x128x256.size hinb).WholeWords (EltTy.packing .fp8e4m3)) ∧
  (∀ k0_t1 : Fin (k0_t1_loop v0).trips, ∀ a, (k0_off140 v0 k0_t1) a + S1.size a ≤ S512.size a) ∧
  (∀ k0_t1 : Fin (k0_t1_loop v0).trips, ∀ a, (k0_off141 v0 k0_t1) a + S1x1x2x128x256.size a ≤ S4x8x2x128x256.size a) ∧
  (∀ k0_t1 : Fin (k0_t1_loop v0).trips, ∀ (hinb : ∀ a, (k0_off141 v0 k0_t1) a + S1x1x2x128x256.size a ≤ S4x8x2x128x256.size a), (Rect.unit (s := S4x8x2x128x256) (k0_off141 v0 k0_t1) S1x1x2x128x256.size hinb).WholeWords (EltTy.packing .fp8e4m3)) ∧
  (∀ k0_t1 : Fin (k0_t1_loop v0).trips, ∀ a, (k0_off143 v0 k0_t1) a + S1.size a ≤ S4.size a) ∧
  (∀ k0_t1 : Fin (k0_t1_loop v0).trips, ∀ a, (k0_off144 v0 k0_t1) a + S1x1x2x128x256.size a ≤ S4x8x2x128x256.size a) ∧
  (∀ k0_t1 : Fin (k0_t1_loop v0).trips, ∀ (hinb : ∀ a, (k0_off144 v0 k0_t1) a + S1x1x2x128x256.size a ≤ S4x8x2x128x256.size a), (Rect.unit (s := S4x8x2x128x256) (k0_off144 v0 k0_t1) S1x1x2x128x256.size hinb).WholeWords (EltTy.packing .fp8e4m3)) ∧
  (∀ k0_t1 : Fin (k0_t1_loop v0).trips, ∀ a, (k0_off145 v0 k0_t1) a + S1.size a ≤ S512.size a) ∧
  (∀ k0_t1 : Fin (k0_t1_loop v0).trips, ∀ a, (k0_off146 v0 k0_t1) a + S1x1x2x128x256.size a ≤ S4x8x2x128x256.size a) ∧
  (∀ k0_t1 : Fin (k0_t1_loop v0).trips, ∀ (hinb : ∀ a, (k0_off146 v0 k0_t1) a + S1x1x2x128x256.size a ≤ S4x8x2x128x256.size a), (Rect.unit (s := S4x8x2x128x256) (k0_off146 v0 k0_t1) S1x1x2x128x256.size hinb).WholeWords (EltTy.packing .fp8e4m3)) ∧
  (∀ k0_t1 : Fin (k0_t1_loop v0).trips, ∀ a, (k0_off148 v0 k0_t1) a + S1.size a ≤ S4.size a) ∧
  (∀ k0_t1 : Fin (k0_t1_loop v0).trips, ∀ a, (k0_off149 v0 k0_t1) a + S1x1x2x128x256.size a ≤ S4x8x2x128x256.size a) ∧
  (∀ k0_t1 : Fin (k0_t1_loop v0).trips, ∀ (hinb : ∀ a, (k0_off149 v0 k0_t1) a + S1x1x2x128x256.size a ≤ S4x8x2x128x256.size a), (Rect.unit (s := S4x8x2x128x256) (k0_off149 v0 k0_t1) S1x1x2x128x256.size hinb).WholeWords (EltTy.packing .fp8e4m3))
def k0_chk25_1 (v0 : BitVec 32) : Prop :=
  (∀ k0_t1 : Fin (k0_t1_loop v0).trips, ∀ a, (k0_off150 v0 k0_t1) a + S1.size a ≤ S512.size a) ∧
  (∀ k0_t1 : Fin (k0_t1_loop v0).trips, ∀ a, (k0_off151 v0 k0_t1) a + S1x1x2x128x256.size a ≤ S4x8x2x128x256.size a) ∧
  (∀ k0_t1 : Fin (k0_t1_loop v0).trips, ∀ (hinb : ∀ a, (k0_off151 v0 k0_t1) a + S1x1x2x128x256.size a ≤ S4x8x2x128x256.size a), (Rect.unit (s := S4x8x2x128x256) (k0_off151 v0 k0_t1) S1x1x2x128x256.size hinb).WholeWords (EltTy.packing .fp8e4m3)) ∧
  (∀ k0_t1 : Fin (k0_t1_loop v0).trips, ∀ a, (k0_off153 v0 k0_t1) a + S1.size a ≤ S4.size a) ∧
  (∀ k0_t1 : Fin (k0_t1_loop v0).trips, ∀ a, (k0_off154 v0 k0_t1) a + S1x1x2x128x256.size a ≤ S4x8x2x128x256.size a) ∧
  (∀ k0_t1 : Fin (k0_t1_loop v0).trips, ∀ (hinb : ∀ a, (k0_off154 v0 k0_t1) a + S1x1x2x128x256.size a ≤ S4x8x2x128x256.size a), (Rect.unit (s := S4x8x2x128x256) (k0_off154 v0 k0_t1) S1x1x2x128x256.size hinb).WholeWords (EltTy.packing .fp8e4m3)) ∧
  (∀ k0_t1 : Fin (k0_t1_loop v0).trips, ∀ a, (k0_off155 v0 k0_t1) a + S1.size a ≤ S512.size a) ∧
  (∀ k0_t1 : Fin (k0_t1_loop v0).trips, ∀ a, (k0_off156 v0 k0_t1) a + S1x1x2x128x256.size a ≤ S4x8x2x128x256.size a) ∧
  (∀ k0_t1 : Fin (k0_t1_loop v0).trips, ∀ (hinb : ∀ a, (k0_off156 v0 k0_t1) a + S1x1x2x128x256.size a ≤ S4x8x2x128x256.size a), (Rect.unit (s := S4x8x2x128x256) (k0_off156 v0 k0_t1) S1x1x2x128x256.size hinb).WholeWords (EltTy.packing .fp8e4m3)) ∧
  (∀ k0_t1 : Fin (k0_t1_loop v0).trips, ∀ a, (k0_off158 v0 k0_t1) a + S1.size a ≤ S4.size a) ∧
  (∀ k0_t1 : Fin (k0_t1_loop v0).trips, ∀ a, (k0_off159 v0 k0_t1) a + S1x1x2x128x256.size a ≤ S4x8x2x128x256.size a) ∧
  (∀ k0_t1 : Fin (k0_t1_loop v0).trips, ∀ (hinb : ∀ a, (k0_off159 v0 k0_t1) a + S1x1x2x128x256.size a ≤ S4x8x2x128x256.size a), (Rect.unit (s := S4x8x2x128x256) (k0_off159 v0 k0_t1) S1x1x2x128x256.size hinb).WholeWords (EltTy.packing .fp8e4m3)) ∧
  (∀ k0_t1 : Fin (k0_t1_loop v0).trips, ∀ a, (k0_off160 v0 k0_t1) a + S1.size a ≤ S512.size a) ∧
  (∀ k0_t1 : Fin (k0_t1_loop v0).trips, ∀ a, (k0_off161 v0 k0_t1) a + S1x1x2x128x256.size a ≤ S4x8x2x128x256.size a) ∧
  (∀ k0_t1 : Fin (k0_t1_loop v0).trips, ∀ (hinb : ∀ a, (k0_off161 v0 k0_t1) a + S1x1x2x128x256.size a ≤ S4x8x2x128x256.size a), (Rect.unit (s := S4x8x2x128x256) (k0_off161 v0 k0_t1) S1x1x2x128x256.size hinb).WholeWords (EltTy.packing .fp8e4m3)) ∧
  (∀ k0_t1 : Fin (k0_t1_loop v0).trips, ∀ a, (k0_off163 v0 k0_t1) a + S1.size a ≤ S4.size a) ∧
  (∀ k0_t1 : Fin (k0_t1_loop v0).trips, ∀ a, (k0_off164 v0 k0_t1) a + S1x1x2x128x256.size a ≤ S4x8x2x128x256.size a) ∧
  (∀ k0_t1 : Fin (k0_t1_loop v0).trips, ∀ (hinb : ∀ a, (k0_off164 v0 k0_t1) a + S1x1x2x128x256.size a ≤ S4x8x2x128x256.size a), (Rect.unit (s := S4x8x2x128x256) (k0_off164 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off165 v0 k0_t1) a + S1.size a ≤ S512.size a) ∧
  (∀ k0_t1 : Fin (k0_t1_loop v0).trips, ∀ (k0_h4 : k0_cond4 v0 k0_t1 = 1#1), ∀ a, (k0_off166 v0 k0_t1) a + S1.size a ≤ S4.size a) ∧
  (∀ k0_t1 : Fin (k0_t1_loop v0).trips, ∀ (k0_h4 : k0_cond4 v0 k0_t1 = 1#1), ∀ a, (k0_off167 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off167 v0 k0_t1) a + S1x1x2x128x256.size a ≤ S4x8x2x128x256.size a), (Rect.unit (s := S4x8x2x128x256) (k0_off167 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off169 v0 k0_t1) a + S1.size a ≤ S4.size a) ∧
  (∀ k0_t1 : Fin (k0_t1_loop v0).trips, ∀ (k0_h4 : k0_cond4 v0 k0_t1 = 1#1), ∀ a, (k0_off170 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off170 v0 k0_t1) a + S1x1x2x128x256.size a ≤ S4x8x2x128x256.size a), (Rect.unit (s := S4x8x2x128x256) (k0_off170 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off171 v0 k0_t1) a + S1.size a ≤ S512.size a) ∧
  (∀ k0_t1 : Fin (k0_t1_loop v0).trips, ∀ (k0_h4 : k0_cond4 v0 k0_t1 = 1#1), ∀ a, (k0_off172 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off172 v0 k0_t1) a + S1x1x2x128x256.size a ≤ S4x8x2x128x256.size a), (Rect.unit (s := S4x8x2x128x256) (k0_off172 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off174 v0 k0_t1) a + S1.size a ≤ S4.size a) ∧
  (∀ k0_t1 : Fin (k0_t1_loop v0).trips, ∀ (k0_h4 : k0_cond4 v0 k0_t1 = 1#1), ∀ a, (k0_off175 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off175 v0 k0_t1) a + S1x1x2x128x256.size a ≤ S4x8x2x128x256.size a), (Rect.unit (s := S4x8x2x128x256) (k0_off175 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off176 v0 k0_t1) a + S1.size a ≤ S512.size a)
def k0_chk25_2 (v0 : BitVec 32) : Prop :=
  (∀ k0_t1 : Fin (k0_t1_loop v0).trips, ∀ (k0_h4 : k0_cond4 v0 k0_t1 = 1#1), ∀ a, (k0_off177 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off177 v0 k0_t1) a + S1x1x2x128x256.size a ≤ S4x8x2x128x256.size a), (Rect.unit (s := S4x8x2x128x256) (k0_off177 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off179 v0 k0_t1) a + S1.size a ≤ S4.size a) ∧
  (∀ k0_t1 : Fin (k0_t1_loop v0).trips, ∀ (k0_h4 : k0_cond4 v0 k0_t1 = 1#1), ∀ a, (k0_off180 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off180 v0 k0_t1) a + S1x1x2x128x256.size a ≤ S4x8x2x128x256.size a), (Rect.unit (s := S4x8x2x128x256) (k0_off180 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off181 v0 k0_t1) a + S1.size a ≤ S512.size a) ∧
  (∀ k0_t1 : Fin (k0_t1_loop v0).trips, ∀ (k0_h4 : k0_cond4 v0 k0_t1 = 1#1), ∀ a, (k0_off182 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off182 v0 k0_t1) a + S1x1x2x128x256.size a ≤ S4x8x2x128x256.size a), (Rect.unit (s := S4x8x2x128x256) (k0_off182 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off184 v0 k0_t1) a + S1.size a ≤ S4.size a) ∧
  (∀ k0_t1 : Fin (k0_t1_loop v0).trips, ∀ (k0_h4 : k0_cond4 v0 k0_t1 = 1#1), ∀ a, (k0_off185 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off185 v0 k0_t1) a + S1x1x2x128x256.size a ≤ S4x8x2x128x256.size a), (Rect.unit (s := S4x8x2x128x256) (k0_off185 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off186 v0 k0_t1) a + S1.size a ≤ S512.size a) ∧
  (∀ k0_t1 : Fin (k0_t1_loop v0).trips, ∀ (k0_h4 : k0_cond4 v0 k0_t1 = 1#1), ∀ a, (k0_off187 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off187 v0 k0_t1) a + S1x1x2x128x256.size a ≤ S4x8x2x128x256.size a), (Rect.unit (s := S4x8x2x128x256) (k0_off187 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off189 v0 k0_t1) a + S1.size a ≤ S4.size a) ∧
  (∀ k0_t1 : Fin (k0_t1_loop v0).trips, ∀ (k0_h4 : k0_cond4 v0 k0_t1 = 1#1), ∀ a, (k0_off190 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off190 v0 k0_t1) a + S1x1x2x128x256.size a ≤ S4x8x2x128x256.size a), (Rect.unit (s := S4x8x2x128x256) (k0_off190 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off191 v0 k0_t1) a + S1.size a ≤ S512.size a) ∧
  (∀ k0_t1 : Fin (k0_t1_loop v0).trips, ∀ (k0_h4 : k0_cond4 v0 k0_t1 = 1#1), ∀ a, (k0_off192 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off192 v0 k0_t1) a + S1x1x2x128x256.size a ≤ S4x8x2x128x256.size a), (Rect.unit (s := S4x8x2x128x256) (k0_off192 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off194 v0 k0_t1) a + S1.size a ≤ S4.size a) ∧
  (∀ k0_t1 : Fin (k0_t1_loop v0).trips, ∀ (k0_h4 : k0_cond4 v0 k0_t1 = 1#1), ∀ a, (k0_off195 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off195 v0 k0_t1) a + S1x1x2x128x256.size a ≤ S4x8x2x128x256.size a), (Rect.unit (s := S4x8x2x128x256) (k0_off195 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off196 v0 k0_t1) a + S1.size a ≤ S512.size a) ∧
  (∀ k0_t1 : Fin (k0_t1_loop v0).trips, ∀ (k0_h4 : k0_cond4 v0 k0_t1 = 1#1), ∀ a, (k0_off197 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off197 v0 k0_t1) a + S1x1x2x128x256.size a ≤ S4x8x2x128x256.size a), (Rect.unit (s := S4x8x2x128x256) (k0_off197 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off199 v0 k0_t1) a + S1.size a ≤ S4.size a) ∧
  (∀ k0_t1 : Fin (k0_t1_loop v0).trips, ∀ (k0_h4 : k0_cond4 v0 k0_t1 = 1#1), ∀ a, (k0_off200 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off200 v0 k0_t1) a + S1x1x2x128x256.size a ≤ S4x8x2x128x256.size a), (Rect.unit (s := S4x8x2x128x256) (k0_off200 v0 k0_t1) S1x1x2x128x256.size hinb).WholeWords (EltTy.packing .fp8e4m3)) ∧
  (∀ k0_t1 : Fin (k0_t1_loop v0).trips, ∀ (k0_h4 : k0_cond4 v0 k0_t1 = 1#1), ∀ a, (k0_off201 v0 k0_t1) a + S1.size a ≤ S512.size a) ∧
  (∀ k0_t1 : Fin (k0_t1_loop v0).trips, ∀ (k0_h4 : k0_cond4 v0 k0_t1 = 1#1), ∀ a, (k0_off202 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off202 v0 k0_t1) a + S1x1x2x128x256.size a ≤ S4x8x2x128x256.size a), (Rect.unit (s := S4x8x2x128x256) (k0_off202 v0 k0_t1) S1x1x2x128x256.size hinb).WholeWords (EltTy.packing .fp8e4m3))
def k0_chk25_3 (v0 : BitVec 32) : Prop :=
  (∀ k0_t1 : Fin (k0_t1_loop v0).trips, ∀ (k0_h4 : k0_cond4 v0 k0_t1 = 1#1), ∀ a, (k0_off204 v0 k0_t1) a + S1.size a ≤ S4.size a) ∧
  (∀ k0_t1 : Fin (k0_t1_loop v0).trips, ∀ (k0_h4 : k0_cond4 v0 k0_t1 = 1#1), ∀ a, (k0_off205 v0 k0_t1) a + S1x1x2x128x256.size a ≤ S4x8x2x128x256.size a) ∧
  (∀ k0_t1 : Fin (k0_t1_loop v0).trips, ∀ (k0_h4 : k0_cond4 v0 k0_t1 = 1#1), ∀ (hinb : ∀ a, (k0_off205 v0 k0_t1) a + S1x1x2x128x256.size a ≤ S4x8x2x128x256.size a), (Rect.unit (s := S4x8x2x128x256) (k0_off205 v0 k0_t1) S1x1x2x128x256.size hinb).WholeWords (EltTy.packing .fp8e4m3)) ∧
  (∀ k0_t1 : Fin (k0_t1_loop v0).trips, ∀ a, (k0_off206 v0 k0_t1) a + S1x8x1x128x256.size a ≤ S4x8x2x128x256.size a) ∧
  (∀ k0_t1 : Fin (k0_t1_loop v0).trips, ∀ a, (k0_off207 v0 k0_t1) a + S1x8x1x128x256.size a ≤ S4x8x2x128x256.size a) ∧
  ((k0_t2_loop v0).OK) ∧
  (∀ k0_t2 : Fin (k0_t2_loop v0).trips, ∀ a, (k0_off208 v0 k0_t2) a + S1.size a ≤ S512.size a) ∧
  (∀ k0_t2 : Fin (k0_t2_loop v0).trips, ∀ a, (k0_off209 v0 k0_t2) a + S1.size a ≤ S4.size a) ∧
  (∀ k0_t2 : Fin (k0_t2_loop v0).trips, ∀ a, (k0_off210 v0 k0_t2) a + S1x1x2x128x256.size a ≤ S4x8x2x128x256.size a) ∧
  (∀ k0_t2 : Fin (k0_t2_loop v0).trips, ∀ (hinb : ∀ a, (k0_off210 v0 k0_t2) a + S1x1x2x128x256.size a ≤ S4x8x2x128x256.size a), (Rect.unit (s := S4x8x2x128x256) (k0_off210 v0 k0_t2) S1x1x2x128x256.size hinb).WholeWords (EltTy.packing .fp8e4m3)) ∧
  (∀ k0_t2 : Fin (k0_t2_loop v0).trips, ∀ a, (k0_off212 v0 k0_t2) a + S1.size a ≤ S4.size a) ∧
  (∀ k0_t2 : Fin (k0_t2_loop v0).trips, ∀ a, (k0_off213 v0 k0_t2) a + S1x1x2x128x256.size a ≤ S4x8x2x128x256.size a) ∧
  (∀ k0_t2 : Fin (k0_t2_loop v0).trips, ∀ (hinb : ∀ a, (k0_off213 v0 k0_t2) a + S1x1x2x128x256.size a ≤ S4x8x2x128x256.size a), (Rect.unit (s := S4x8x2x128x256) (k0_off213 v0 k0_t2) S1x1x2x128x256.size hinb).WholeWords (EltTy.packing .fp8e4m3)) ∧
  (∀ k0_t2 : Fin (k0_t2_loop v0).trips, ∀ a, (k0_off214 v0 k0_t2) a + S1.size a ≤ S512.size a) ∧
  (∀ k0_t2 : Fin (k0_t2_loop v0).trips, ∀ a, (k0_off215 v0 k0_t2) a + S1x1x2x128x256.size a ≤ S4x8x2x128x256.size a) ∧
  (∀ k0_t2 : Fin (k0_t2_loop v0).trips, ∀ (hinb : ∀ a, (k0_off215 v0 k0_t2) a + S1x1x2x128x256.size a ≤ S4x8x2x128x256.size a), (Rect.unit (s := S4x8x2x128x256) (k0_off215 v0 k0_t2) S1x1x2x128x256.size hinb).WholeWords (EltTy.packing .fp8e4m3)) ∧
  (∀ k0_t2 : Fin (k0_t2_loop v0).trips, ∀ a, (k0_off217 v0 k0_t2) a + S1.size a ≤ S4.size a) ∧
  (∀ k0_t2 : Fin (k0_t2_loop v0).trips, ∀ a, (k0_off218 v0 k0_t2) a + S1x1x2x128x256.size a ≤ S4x8x2x128x256.size a) ∧
  (∀ k0_t2 : Fin (k0_t2_loop v0).trips, ∀ (hinb : ∀ a, (k0_off218 v0 k0_t2) a + S1x1x2x128x256.size a ≤ S4x8x2x128x256.size a), (Rect.unit (s := S4x8x2x128x256) (k0_off218 v0 k0_t2) S1x1x2x128x256.size hinb).WholeWords (EltTy.packing .fp8e4m3)) ∧
  (∀ k0_t2 : Fin (k0_t2_loop v0).trips, ∀ a, (k0_off219 v0 k0_t2) a + S1.size a ≤ S512.size a) ∧
  (∀ k0_t2 : Fin (k0_t2_loop v0).trips, ∀ a, (k0_off220 v0 k0_t2) a + S1x1x2x128x256.size a ≤ S4x8x2x128x256.size a) ∧
  (∀ k0_t2 : Fin (k0_t2_loop v0).trips, ∀ (hinb : ∀ a, (k0_off220 v0 k0_t2) a + S1x1x2x128x256.size a ≤ S4x8x2x128x256.size a), (Rect.unit (s := S4x8x2x128x256) (k0_off220 v0 k0_t2) S1x1x2x128x256.size hinb).WholeWords (EltTy.packing .fp8e4m3)) ∧
  (∀ k0_t2 : Fin (k0_t2_loop v0).trips, ∀ a, (k0_off222 v0 k0_t2) a + S1.size a ≤ S4.size a) ∧
  (∀ k0_t2 : Fin (k0_t2_loop v0).trips, ∀ a, (k0_off223 v0 k0_t2) a + S1x1x2x128x256.size a ≤ S4x8x2x128x256.size a) ∧
  (∀ k0_t2 : Fin (k0_t2_loop v0).trips, ∀ (hinb : ∀ a, (k0_off223 v0 k0_t2) a + S1x1x2x128x256.size a ≤ S4x8x2x128x256.size a), (Rect.unit (s := S4x8x2x128x256) (k0_off223 v0 k0_t2) S1x1x2x128x256.size hinb).WholeWords (EltTy.packing .fp8e4m3)) ∧
  (∀ k0_t2 : Fin (k0_t2_loop v0).trips, ∀ a, (k0_off224 v0 k0_t2) a + S1.size a ≤ S512.size a) ∧
  (∀ k0_t2 : Fin (k0_t2_loop v0).trips, ∀ a, (k0_off225 v0 k0_t2) a + S1x1x2x128x256.size a ≤ S4x8x2x128x256.size a) ∧
  (∀ k0_t2 : Fin (k0_t2_loop v0).trips, ∀ (hinb : ∀ a, (k0_off225 v0 k0_t2) a + S1x1x2x128x256.size a ≤ S4x8x2x128x256.size a), (Rect.unit (s := S4x8x2x128x256) (k0_off225 v0 k0_t2) S1x1x2x128x256.size hinb).WholeWords (EltTy.packing .fp8e4m3)) ∧
  (∀ k0_t2 : Fin (k0_t2_loop v0).trips, ∀ a, (k0_off227 v0 k0_t2) a + S1.size a ≤ S4.size a) ∧
  (∀ k0_t2 : Fin (k0_t2_loop v0).trips, ∀ a, (k0_off228 v0 k0_t2) a + S1x1x2x128x256.size a ≤ S4x8x2x128x256.size a) ∧
  (∀ k0_t2 : Fin (k0_t2_loop v0).trips, ∀ (hinb : ∀ a, (k0_off228 v0 k0_t2) a + S1x1x2x128x256.size a ≤ S4x8x2x128x256.size a), (Rect.unit (s := S4x8x2x128x256) (k0_off228 v0 k0_t2) S1x1x2x128x256.size hinb).WholeWords (EltTy.packing .fp8e4m3)) ∧
  (∀ k0_t2 : Fin (k0_t2_loop v0).trips, ∀ a, (k0_off229 v0 k0_t2) a + S1.size a ≤ S512.size a)
def k0_chk25_4 (v0 : BitVec 32) : Prop :=
  (∀ k0_t2 : Fin (k0_t2_loop v0).trips, ∀ a, (k0_off230 v0 k0_t2) a + S1x1x2x128x256.size a ≤ S4x8x2x128x256.size a) ∧
  (∀ k0_t2 : Fin (k0_t2_loop v0).trips, ∀ (hinb : ∀ a, (k0_off230 v0 k0_t2) a + S1x1x2x128x256.size a ≤ S4x8x2x128x256.size a), (Rect.unit (s := S4x8x2x128x256) (k0_off230 v0 k0_t2) S1x1x2x128x256.size hinb).WholeWords (EltTy.packing .fp8e4m3)) ∧
  (∀ k0_t2 : Fin (k0_t2_loop v0).trips, ∀ a, (k0_off232 v0 k0_t2) a + S1.size a ≤ S4.size a) ∧
  (∀ k0_t2 : Fin (k0_t2_loop v0).trips, ∀ a, (k0_off233 v0 k0_t2) a + S1x1x2x128x256.size a ≤ S4x8x2x128x256.size a) ∧
  (∀ k0_t2 : Fin (k0_t2_loop v0).trips, ∀ (hinb : ∀ a, (k0_off233 v0 k0_t2) a + S1x1x2x128x256.size a ≤ S4x8x2x128x256.size a), (Rect.unit (s := S4x8x2x128x256) (k0_off233 v0 k0_t2) S1x1x2x128x256.size hinb).WholeWords (EltTy.packing .fp8e4m3)) ∧
  (∀ k0_t2 : Fin (k0_t2_loop v0).trips, ∀ a, (k0_off234 v0 k0_t2) a + S1.size a ≤ S512.size a) ∧
  (∀ k0_t2 : Fin (k0_t2_loop v0).trips, ∀ a, (k0_off235 v0 k0_t2) a + S1x1x2x128x256.size a ≤ S4x8x2x128x256.size a) ∧
  (∀ k0_t2 : Fin (k0_t2_loop v0).trips, ∀ (hinb : ∀ a, (k0_off235 v0 k0_t2) a + S1x1x2x128x256.size a ≤ S4x8x2x128x256.size a), (Rect.unit (s := S4x8x2x128x256) (k0_off235 v0 k0_t2) S1x1x2x128x256.size hinb).WholeWords (EltTy.packing .fp8e4m3)) ∧
  (∀ k0_t2 : Fin (k0_t2_loop v0).trips, ∀ a, (k0_off237 v0 k0_t2) a + S1.size a ≤ S4.size a) ∧
  (∀ k0_t2 : Fin (k0_t2_loop v0).trips, ∀ a, (k0_off238 v0 k0_t2) a + S1x1x2x128x256.size a ≤ S4x8x2x128x256.size a) ∧
  (∀ k0_t2 : Fin (k0_t2_loop v0).trips, ∀ (hinb : ∀ a, (k0_off238 v0 k0_t2) a + S1x1x2x128x256.size a ≤ S4x8x2x128x256.size a), (Rect.unit (s := S4x8x2x128x256) (k0_off238 v0 k0_t2) S1x1x2x128x256.size hinb).WholeWords (EltTy.packing .fp8e4m3)) ∧
  (∀ k0_t2 : Fin (k0_t2_loop v0).trips, ∀ a, (k0_off239 v0 k0_t2) a + S1.size a ≤ S512.size a) ∧
  (∀ k0_t2 : Fin (k0_t2_loop v0).trips, ∀ a, (k0_off240 v0 k0_t2) a + S1x1x2x128x256.size a ≤ S4x8x2x128x256.size a) ∧
  (∀ k0_t2 : Fin (k0_t2_loop v0).trips, ∀ (hinb : ∀ a, (k0_off240 v0 k0_t2) a + S1x1x2x128x256.size a ≤ S4x8x2x128x256.size a), (Rect.unit (s := S4x8x2x128x256) (k0_off240 v0 k0_t2) S1x1x2x128x256.size hinb).WholeWords (EltTy.packing .fp8e4m3)) ∧
  (∀ k0_t2 : Fin (k0_t2_loop v0).trips, ∀ a, (k0_off242 v0 k0_t2) a + S1.size a ≤ S4.size a) ∧
  (∀ k0_t2 : Fin (k0_t2_loop v0).trips, ∀ a, (k0_off243 v0 k0_t2) a + S1x1x2x128x256.size a ≤ S4x8x2x128x256.size a) ∧
  (∀ k0_t2 : Fin (k0_t2_loop v0).trips, ∀ (hinb : ∀ a, (k0_off243 v0 k0_t2) a + S1x1x2x128x256.size a ≤ S4x8x2x128x256.size a), (Rect.unit (s := S4x8x2x128x256) (k0_off243 v0 k0_t2) S1x1x2x128x256.size hinb).WholeWords (EltTy.packing .fp8e4m3)) ∧
  (∀ k0_t2 : Fin (k0_t2_loop v0).trips, ∀ a, (k0_off244 v0 k0_t2) a + S1.size a ≤ S512.size a) ∧
  (∀ k0_t2 : Fin (k0_t2_loop v0).trips, ∀ a, (k0_off245 v0 k0_t2) a + S1x1x2x128x256.size a ≤ S4x8x2x128x256.size a) ∧
  (∀ k0_t2 : Fin (k0_t2_loop v0).trips, ∀ (hinb : ∀ a, (k0_off245 v0 k0_t2) a + S1x1x2x128x256.size a ≤ S4x8x2x128x256.size a), (Rect.unit (s := S4x8x2x128x256) (k0_off245 v0 k0_t2) S1x1x2x128x256.size hinb).WholeWords (EltTy.packing .fp8e4m3)) ∧
  (∀ k0_t2 : Fin (k0_t2_loop v0).trips, ∀ a, (k0_off247 v0 k0_t2) a + S1.size a ≤ S4.size a) ∧
  (∀ k0_t2 : Fin (k0_t2_loop v0).trips, ∀ a, (k0_off248 v0 k0_t2) a + S1x1x2x128x256.size a ≤ S4x8x2x128x256.size a) ∧
  (∀ k0_t2 : Fin (k0_t2_loop v0).trips, ∀ (hinb : ∀ a, (k0_off248 v0 k0_t2) a + S1x1x2x128x256.size a ≤ S4x8x2x128x256.size a), (Rect.unit (s := S4x8x2x128x256) (k0_off248 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off249 v0 k0_t2) a + S1.size a ≤ S512.size a) ∧
  (∀ k0_t2 : Fin (k0_t2_loop v0).trips, ∀ (k0_h5 : k0_cond5 v0 k0_t2 = 1#1), ∀ a, (k0_off250 v0 k0_t2) a + S1.size a ≤ S4.size a) ∧
  (∀ k0_t2 : Fin (k0_t2_loop v0).trips, ∀ (k0_h5 : k0_cond5 v0 k0_t2 = 1#1), ∀ a, (k0_off251 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off251 v0 k0_t2) a + S1x1x2x128x256.size a ≤ S4x8x2x128x256.size a), (Rect.unit (s := S4x8x2x128x256) (k0_off251 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off253 v0 k0_t2) a + S1.size a ≤ S4.size a) ∧
  (∀ k0_t2 : Fin (k0_t2_loop v0).trips, ∀ (k0_h5 : k0_cond5 v0 k0_t2 = 1#1), ∀ a, (k0_off254 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off254 v0 k0_t2) a + S1x1x2x128x256.size a ≤ S4x8x2x128x256.size a), (Rect.unit (s := S4x8x2x128x256) (k0_off254 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off255 v0 k0_t2) a + S1.size a ≤ S512.size a) ∧
  (∀ k0_t2 : Fin (k0_t2_loop v0).trips, ∀ (k0_h5 : k0_cond5 v0 k0_t2 = 1#1), ∀ a, (k0_off256 v0 k0_t2) a + S1x1x2x128x256.size a ≤ S4x8x2x128x256.size a)
def k0_chk25_5 (v0 : BitVec 32) : Prop :=
  (∀ k0_t2 : Fin (k0_t2_loop v0).trips, ∀ (k0_h5 : k0_cond5 v0 k0_t2 = 1#1), ∀ (hinb : ∀ a, (k0_off256 v0 k0_t2) a + S1x1x2x128x256.size a ≤ S4x8x2x128x256.size a), (Rect.unit (s := S4x8x2x128x256) (k0_off256 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off258 v0 k0_t2) a + S1.size a ≤ S4.size a) ∧
  (∀ k0_t2 : Fin (k0_t2_loop v0).trips, ∀ (k0_h5 : k0_cond5 v0 k0_t2 = 1#1), ∀ a, (k0_off259 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off259 v0 k0_t2) a + S1x1x2x128x256.size a ≤ S4x8x2x128x256.size a), (Rect.unit (s := S4x8x2x128x256) (k0_off259 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off260 v0 k0_t2) a + S1.size a ≤ S512.size a) ∧
  (∀ k0_t2 : Fin (k0_t2_loop v0).trips, ∀ (k0_h5 : k0_cond5 v0 k0_t2 = 1#1), ∀ a, (k0_off261 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off261 v0 k0_t2) a + S1x1x2x128x256.size a ≤ S4x8x2x128x256.size a), (Rect.unit (s := S4x8x2x128x256) (k0_off261 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off263 v0 k0_t2) a + S1.size a ≤ S4.size a) ∧
  (∀ k0_t2 : Fin (k0_t2_loop v0).trips, ∀ (k0_h5 : k0_cond5 v0 k0_t2 = 1#1), ∀ a, (k0_off264 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off264 v0 k0_t2) a + S1x1x2x128x256.size a ≤ S4x8x2x128x256.size a), (Rect.unit (s := S4x8x2x128x256) (k0_off264 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off265 v0 k0_t2) a + S1.size a ≤ S512.size a) ∧
  (∀ k0_t2 : Fin (k0_t2_loop v0).trips, ∀ (k0_h5 : k0_cond5 v0 k0_t2 = 1#1), ∀ a, (k0_off266 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off266 v0 k0_t2) a + S1x1x2x128x256.size a ≤ S4x8x2x128x256.size a), (Rect.unit (s := S4x8x2x128x256) (k0_off266 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off268 v0 k0_t2) a + S1.size a ≤ S4.size a) ∧
  (∀ k0_t2 : Fin (k0_t2_loop v0).trips, ∀ (k0_h5 : k0_cond5 v0 k0_t2 = 1#1), ∀ a, (k0_off269 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off269 v0 k0_t2) a + S1x1x2x128x256.size a ≤ S4x8x2x128x256.size a), (Rect.unit (s := S4x8x2x128x256) (k0_off269 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off270 v0 k0_t2) a + S1.size a ≤ S512.size a) ∧
  (∀ k0_t2 : Fin (k0_t2_loop v0).trips, ∀ (k0_h5 : k0_cond5 v0 k0_t2 = 1#1), ∀ a, (k0_off271 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off271 v0 k0_t2) a + S1x1x2x128x256.size a ≤ S4x8x2x128x256.size a), (Rect.unit (s := S4x8x2x128x256) (k0_off271 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off273 v0 k0_t2) a + S1.size a ≤ S4.size a) ∧
  (∀ k0_t2 : Fin (k0_t2_loop v0).trips, ∀ (k0_h5 : k0_cond5 v0 k0_t2 = 1#1), ∀ a, (k0_off274 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off274 v0 k0_t2) a + S1x1x2x128x256.size a ≤ S4x8x2x128x256.size a), (Rect.unit (s := S4x8x2x128x256) (k0_off274 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off275 v0 k0_t2) a + S1.size a ≤ S512.size a) ∧
  (∀ k0_t2 : Fin (k0_t2_loop v0).trips, ∀ (k0_h5 : k0_cond5 v0 k0_t2 = 1#1), ∀ a, (k0_off276 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off276 v0 k0_t2) a + S1x1x2x128x256.size a ≤ S4x8x2x128x256.size a), (Rect.unit (s := S4x8x2x128x256) (k0_off276 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off278 v0 k0_t2) a + S1.size a ≤ S4.size a) ∧
  (∀ k0_t2 : Fin (k0_t2_loop v0).trips, ∀ (k0_h5 : k0_cond5 v0 k0_t2 = 1#1), ∀ a, (k0_off279 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off279 v0 k0_t2) a + S1x1x2x128x256.size a ≤ S4x8x2x128x256.size a), (Rect.unit (s := S4x8x2x128x256) (k0_off279 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off280 v0 k0_t2) a + S1.size a ≤ S512.size a) ∧
  (∀ k0_t2 : Fin (k0_t2_loop v0).trips, ∀ (k0_h5 : k0_cond5 v0 k0_t2 = 1#1), ∀ a, (k0_off281 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off281 v0 k0_t2) a + S1x1x2x128x256.size a ≤ S4x8x2x128x256.size a), (Rect.unit (s := S4x8x2x128x256) (k0_off281 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off283 v0 k0_t2) a + S1.size a ≤ S4.size a)
def k0_chk25_6 (v0 : BitVec 32) : Prop :=
  (∀ k0_t2 : Fin (k0_t2_loop v0).trips, ∀ (k0_h5 : k0_cond5 v0 k0_t2 = 1#1), ∀ a, (k0_off284 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off284 v0 k0_t2) a + S1x1x2x128x256.size a ≤ S4x8x2x128x256.size a), (Rect.unit (s := S4x8x2x128x256) (k0_off284 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off285 v0 k0_t2) a + S1.size a ≤ S512.size a) ∧
  (∀ k0_t2 : Fin (k0_t2_loop v0).trips, ∀ (k0_h5 : k0_cond5 v0 k0_t2 = 1#1), ∀ a, (k0_off286 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off286 v0 k0_t2) a + S1x1x2x128x256.size a ≤ S4x8x2x128x256.size a), (Rect.unit (s := S4x8x2x128x256) (k0_off286 v0 k0_t2) S1x1x2x128x256.size hinb).WholeWords (EltTy.packing .fp8e4m3)) ∧
  (∀ k0_t2 : Fin (k0_t2_loop v0).trips, ∀ (k0_h5 : k0_cond5 v0 k0_t2 = 1#1), ∀ a, (k0_off288 v0 k0_t2) a + S1.size a ≤ S4.size a) ∧
  (∀ k0_t2 : Fin (k0_t2_loop v0).trips, ∀ (k0_h5 : k0_cond5 v0 k0_t2 = 1#1), ∀ a, (k0_off289 v0 k0_t2) a + S1x1x2x128x256.size a ≤ S4x8x2x128x256.size a) ∧
  (∀ k0_t2 : Fin (k0_t2_loop v0).trips, ∀ (k0_h5 : k0_cond5 v0 k0_t2 = 1#1), ∀ (hinb : ∀ a, (k0_off289 v0 k0_t2) a + S1x1x2x128x256.size a ≤ S4x8x2x128x256.size a), (Rect.unit (s := S4x8x2x128x256) (k0_off289 v0 k0_t2) S1x1x2x128x256.size hinb).WholeWords (EltTy.packing .fp8e4m3)) ∧
  (∀ k0_t2 : Fin (k0_t2_loop v0).trips, ∀ a, (k0_off290 v0 k0_t2) a + S1x8x1x128x256.size a ≤ S4x8x2x128x256.size a) ∧
  (∀ k0_t2 : Fin (k0_t2_loop v0).trips, ∀ a, (k0_off291 v0 k0_t2) a + S1x8x1x128x256.size a ≤ S4x8x2x128x256.size a) ∧
  (∀ a, (k0_off292 v0) a + S1.size a ≤ S512.size a) ∧
  (∀ a, (k0_off293 v0) a + S1.size a ≤ S4.size a) ∧
  (∀ a, (k0_off294 v0) a + S1x1x2x128x256.size a ≤ S4x8x2x128x256.size a) ∧
  (∀ (hinb : ∀ a, (k0_off294 v0) a + S1x1x2x128x256.size a ≤ S4x8x2x128x256.size a), (Rect.unit (s := S4x8x2x128x256) (k0_off294 v0) S1x1x2x128x256.size hinb).WholeWords (EltTy.packing .fp8e4m3)) ∧
  (∀ a, (k0_off296 v0) a + S1.size a ≤ S4.size a) ∧
  (∀ a, (k0_off297 v0) a + S1x1x2x128x256.size a ≤ S4x8x2x128x256.size a) ∧
  (∀ (hinb : ∀ a, (k0_off297 v0) a + S1x1x2x128x256.size a ≤ S4x8x2x128x256.size a), (Rect.unit (s := S4x8x2x128x256) (k0_off297 v0) S1x1x2x128x256.size hinb).WholeWords (EltTy.packing .fp8e4m3)) ∧
  (∀ a, (k0_off298 v0) a + S1.size a ≤ S512.size a) ∧
  (∀ a, (k0_off299 v0) a + S1x1x2x128x256.size a ≤ S4x8x2x128x256.size a) ∧
  (∀ (hinb : ∀ a, (k0_off299 v0) a + S1x1x2x128x256.size a ≤ S4x8x2x128x256.size a), (Rect.unit (s := S4x8x2x128x256) (k0_off299 v0) S1x1x2x128x256.size hinb).WholeWords (EltTy.packing .fp8e4m3)) ∧
  (∀ a, (k0_off301 v0) a + S1.size a ≤ S4.size a) ∧
  (∀ a, (k0_off302 v0) a + S1x1x2x128x256.size a ≤ S4x8x2x128x256.size a) ∧
  (∀ (hinb : ∀ a, (k0_off302 v0) a + S1x1x2x128x256.size a ≤ S4x8x2x128x256.size a), (Rect.unit (s := S4x8x2x128x256) (k0_off302 v0) S1x1x2x128x256.size hinb).WholeWords (EltTy.packing .fp8e4m3)) ∧
  (∀ a, (k0_off303 v0) a + S1.size a ≤ S512.size a) ∧
  (∀ a, (k0_off304 v0) a + S1x1x2x128x256.size a ≤ S4x8x2x128x256.size a) ∧
  (∀ (hinb : ∀ a, (k0_off304 v0) a + S1x1x2x128x256.size a ≤ S4x8x2x128x256.size a), (Rect.unit (s := S4x8x2x128x256) (k0_off304 v0) S1x1x2x128x256.size hinb).WholeWords (EltTy.packing .fp8e4m3)) ∧
  (∀ a, (k0_off306 v0) a + S1.size a ≤ S4.size a) ∧
  (∀ a, (k0_off307 v0) a + S1x1x2x128x256.size a ≤ S4x8x2x128x256.size a) ∧
  (∀ (hinb : ∀ a, (k0_off307 v0) a + S1x1x2x128x256.size a ≤ S4x8x2x128x256.size a), (Rect.unit (s := S4x8x2x128x256) (k0_off307 v0) S1x1x2x128x256.size hinb).WholeWords (EltTy.packing .fp8e4m3)) ∧
  (∀ a, (k0_off308 v0) a + S1.size a ≤ S512.size a) ∧
  (∀ a, (k0_off309 v0) a + S1x1x2x128x256.size a ≤ S4x8x2x128x256.size a) ∧
  (∀ (hinb : ∀ a, (k0_off309 v0) a + S1x1x2x128x256.size a ≤ S4x8x2x128x256.size a), (Rect.unit (s := S4x8x2x128x256) (k0_off309 v0) S1x1x2x128x256.size hinb).WholeWords (EltTy.packing .fp8e4m3))
def k0_chk25_7 (v0 : BitVec 32) : Prop :=
  (∀ a, (k0_off311 v0) a + S1.size a ≤ S4.size a) ∧
  (∀ a, (k0_off312 v0) a + S1x1x2x128x256.size a ≤ S4x8x2x128x256.size a) ∧
  (∀ (hinb : ∀ a, (k0_off312 v0) a + S1x1x2x128x256.size a ≤ S4x8x2x128x256.size a), (Rect.unit (s := S4x8x2x128x256) (k0_off312 v0) S1x1x2x128x256.size hinb).WholeWords (EltTy.packing .fp8e4m3)) ∧
  (∀ a, (k0_off313 v0) a + S1.size a ≤ S512.size a) ∧
  (∀ a, (k0_off314 v0) a + S1x1x2x128x256.size a ≤ S4x8x2x128x256.size a) ∧
  (∀ (hinb : ∀ a, (k0_off314 v0) a + S1x1x2x128x256.size a ≤ S4x8x2x128x256.size a), (Rect.unit (s := S4x8x2x128x256) (k0_off314 v0) S1x1x2x128x256.size hinb).WholeWords (EltTy.packing .fp8e4m3)) ∧
  (∀ a, (k0_off316 v0) a + S1.size a ≤ S4.size a) ∧
  (∀ a, (k0_off317 v0) a + S1x1x2x128x256.size a ≤ S4x8x2x128x256.size a) ∧
  (∀ (hinb : ∀ a, (k0_off317 v0) a + S1x1x2x128x256.size a ≤ S4x8x2x128x256.size a), (Rect.unit (s := S4x8x2x128x256) (k0_off317 v0) S1x1x2x128x256.size hinb).WholeWords (EltTy.packing .fp8e4m3)) ∧
  (∀ a, (k0_off318 v0) a + S1.size a ≤ S512.size a) ∧
  (∀ a, (k0_off319 v0) a + S1x1x2x128x256.size a ≤ S4x8x2x128x256.size a) ∧
  (∀ (hinb : ∀ a, (k0_off319 v0) a + S1x1x2x128x256.size a ≤ S4x8x2x128x256.size a), (Rect.unit (s := S4x8x2x128x256) (k0_off319 v0) S1x1x2x128x256.size hinb).WholeWords (EltTy.packing .fp8e4m3)) ∧
  (∀ a, (k0_off321 v0) a + S1.size a ≤ S4.size a) ∧
  (∀ a, (k0_off322 v0) a + S1x1x2x128x256.size a ≤ S4x8x2x128x256.size a) ∧
  (∀ (hinb : ∀ a, (k0_off322 v0) a + S1x1x2x128x256.size a ≤ S4x8x2x128x256.size a), (Rect.unit (s := S4x8x2x128x256) (k0_off322 v0) S1x1x2x128x256.size hinb).WholeWords (EltTy.packing .fp8e4m3)) ∧
  (∀ a, (k0_off323 v0) a + S1.size a ≤ S512.size a) ∧
  (∀ a, (k0_off324 v0) a + S1x1x2x128x256.size a ≤ S4x8x2x128x256.size a) ∧
  (∀ (hinb : ∀ a, (k0_off324 v0) a + S1x1x2x128x256.size a ≤ S4x8x2x128x256.size a), (Rect.unit (s := S4x8x2x128x256) (k0_off324 v0) S1x1x2x128x256.size hinb).WholeWords (EltTy.packing .fp8e4m3)) ∧
  (∀ a, (k0_off326 v0) a + S1.size a ≤ S4.size a) ∧
  (∀ a, (k0_off327 v0) a + S1x1x2x128x256.size a ≤ S4x8x2x128x256.size a) ∧
  (∀ (hinb : ∀ a, (k0_off327 v0) a + S1x1x2x128x256.size a ≤ S4x8x2x128x256.size a), (Rect.unit (s := S4x8x2x128x256) (k0_off327 v0) S1x1x2x128x256.size hinb).WholeWords (EltTy.packing .fp8e4m3)) ∧
  (∀ a, (k0_off328 v0) a + S1.size a ≤ S512.size a) ∧
  (∀ a, (k0_off329 v0) a + S1x1x2x128x256.size a ≤ S4x8x2x128x256.size a) ∧
  (∀ (hinb : ∀ a, (k0_off329 v0) a + S1x1x2x128x256.size a ≤ S4x8x2x128x256.size a), (Rect.unit (s := S4x8x2x128x256) (k0_off329 v0) S1x1x2x128x256.size hinb).WholeWords (EltTy.packing .fp8e4m3)) ∧
  (∀ a, (k0_off331 v0) a + S1.size a ≤ S4.size a) ∧
  (∀ a, (k0_off332 v0) a + S1x1x2x128x256.size a ≤ S4x8x2x128x256.size a) ∧
  (∀ (hinb : ∀ a, (k0_off332 v0) a + S1x1x2x128x256.size a ≤ S4x8x2x128x256.size a), (Rect.unit (s := S4x8x2x128x256) (k0_off332 v0) S1x1x2x128x256.size hinb).WholeWords (EltTy.packing .fp8e4m3)) ∧
  (∀ a, (k0_off333 v0) a + S1x8x1x128x256.size a ≤ S4x8x2x128x256.size a) ∧
  (∀ a, (k0_off334 v0) a + S1x8x1x128x256.size a ≤ S4x8x2x128x256.size a)
def k0_chk25 (v0 : BitVec 32) : Prop :=
  k0_chk25_0 v0 ∧
  k0_chk25_1 v0 ∧
  k0_chk25_2 v0 ∧
  k0_chk25_3 v0 ∧
  k0_chk25_4 v0 ∧
  k0_chk25_5 v0 ∧
  k0_chk25_6 v0 ∧
  k0_chk25_7 v0
theorem k0_t1_ok : ∀ (v0 : BitVec 32) (k0_hw25 : k0_chk25 v0), (k0_t1_loop v0).OK := fun v0 k0_hw25 => k0_hw25.1.1
theorem k0_off124_inb : ∀ (v0 : BitVec 32) (k0_hw25 : k0_chk25 v0) (k0_t1 : Fin (k0_t1_loop v0).trips), ∀ a, (k0_off124 v0 k0_t1) a + S1.size a ≤ S512.size a := fun v0 k0_hw25 k0_t1 => k0_hw25.1.2.1 k0_t1
theorem k0_off125_inb : ∀ (v0 : BitVec 32) (k0_hw25 : k0_chk25 v0) (k0_t1 : Fin (k0_t1_loop v0).trips), ∀ a, (k0_off125 v0 k0_t1) a + S1.size a ≤ S4.size a := fun v0 k0_hw25 k0_t1 => k0_hw25.1.2.2.1 k0_t1
theorem k0_off126_inb : ∀ (v0 : BitVec 32) (k0_hw25 : k0_chk25 v0) (k0_t1 : Fin (k0_t1_loop v0).trips), ∀ a, (k0_off126 v0 k0_t1) a + S1x1x2x128x256.size a ≤ S4x8x2x128x256.size a := fun v0 k0_hw25 k0_t1 => k0_hw25.1.2.2.2.1 k0_t1
theorem k0_off126_wordsfp8e4m3 : ∀ (v0 : BitVec 32) (k0_hw25 : k0_chk25 v0) (k0_t1 : Fin (k0_t1_loop v0).trips), (Rect.unit (s := S4x8x2x128x256) (k0_off126 v0 k0_t1) S1x1x2x128x256.size (k0_off126_inb v0 k0_hw25 k0_t1)).WholeWords (EltTy.packing .fp8e4m3) := fun v0 k0_hw25 k0_t1 => k0_hw25.1.2.2.2.2.1 k0_t1 (k0_off126_inb v0 k0_hw25 k0_t1)
theorem k0_off128_inb : ∀ (v0 : BitVec 32) (k0_hw25 : k0_chk25 v0) (k0_t1 : Fin (k0_t1_loop v0).trips), ∀ a, (k0_off128 v0 k0_t1) a + S1.size a ≤ S4.size a := fun v0 k0_hw25 k0_t1 => k0_hw25.1.2.2.2.2.2.1 k0_t1
theorem k0_off129_inb : ∀ (v0 : BitVec 32) (k0_hw25 : k0_chk25 v0) (k0_t1 : Fin (k0_t1_loop v0).trips), ∀ a, (k0_off129 v0 k0_t1) a + S1x1x2x128x256.size a ≤ S4x8x2x128x256.size a := fun v0 k0_hw25 k0_t1 => k0_hw25.1.2.2.2.2.2.2.1 k0_t1
theorem k0_off129_wordsfp8e4m3 : ∀ (v0 : BitVec 32) (k0_hw25 : k0_chk25 v0) (k0_t1 : Fin (k0_t1_loop v0).trips), (Rect.unit (s := S4x8x2x128x256) (k0_off129 v0 k0_t1) S1x1x2x128x256.size (k0_off129_inb v0 k0_hw25 k0_t1)).WholeWords (EltTy.packing .fp8e4m3) := fun v0 k0_hw25 k0_t1 => k0_hw25.1.2.2.2.2.2.2.2.1 k0_t1 (k0_off129_inb v0 k0_hw25 k0_t1)
theorem k0_off130_inb : ∀ (v0 : BitVec 32) (k0_hw25 : k0_chk25 v0) (k0_t1 : Fin (k0_t1_loop v0).trips), ∀ a, (k0_off130 v0 k0_t1) a + S1.size a ≤ S512.size a := fun v0 k0_hw25 k0_t1 => k0_hw25.1.2.2.2.2.2.2.2.2.1 k0_t1
theorem k0_off131_inb : ∀ (v0 : BitVec 32) (k0_hw25 : k0_chk25 v0) (k0_t1 : Fin (k0_t1_loop v0).trips), ∀ a, (k0_off131 v0 k0_t1) a + S1x1x2x128x256.size a ≤ S4x8x2x128x256.size a := fun v0 k0_hw25 k0_t1 => k0_hw25.1.2.2.2.2.2.2.2.2.2.1 k0_t1
theorem k0_off131_wordsfp8e4m3 : ∀ (v0 : BitVec 32) (k0_hw25 : k0_chk25 v0) (k0_t1 : Fin (k0_t1_loop v0).trips), (Rect.unit (s := S4x8x2x128x256) (k0_off131 v0 k0_t1) S1x1x2x128x256.size (k0_off131_inb v0 k0_hw25 k0_t1)).WholeWords (EltTy.packing .fp8e4m3) := fun v0 k0_hw25 k0_t1 => k0_hw25.1.2.2.2.2.2.2.2.2.2.2.1 k0_t1 (k0_off131_inb v0 k0_hw25 k0_t1)
theorem k0_off133_inb : ∀ (v0 : BitVec 32) (k0_hw25 : k0_chk25 v0) (k0_t1 : Fin (k0_t1_loop v0).trips), ∀ a, (k0_off133 v0 k0_t1) a + S1.size a ≤ S4.size a := fun v0 k0_hw25 k0_t1 => k0_hw25.1.2.2.2.2.2.2.2.2.2.2.2.1 k0_t1
theorem k0_off134_inb : ∀ (v0 : BitVec 32) (k0_hw25 : k0_chk25 v0) (k0_t1 : Fin (k0_t1_loop v0).trips), ∀ a, (k0_off134 v0 k0_t1) a + S1x1x2x128x256.size a ≤ S4x8x2x128x256.size a := fun v0 k0_hw25 k0_t1 => k0_hw25.1.2.2.2.2.2.2.2.2.2.2.2.2.1 k0_t1
theorem k0_off134_wordsfp8e4m3 : ∀ (v0 : BitVec 32) (k0_hw25 : k0_chk25 v0) (k0_t1 : Fin (k0_t1_loop v0).trips), (Rect.unit (s := S4x8x2x128x256) (k0_off134 v0 k0_t1) S1x1x2x128x256.size (k0_off134_inb v0 k0_hw25 k0_t1)).WholeWords (EltTy.packing .fp8e4m3) := fun v0 k0_hw25 k0_t1 => k0_hw25.1.2.2.2.2.2.2.2.2.2.2.2.2.2.1 k0_t1 (k0_off134_inb v0 k0_hw25 k0_t1)
theorem k0_off135_inb : ∀ (v0 : BitVec 32) (k0_hw25 : k0_chk25 v0) (k0_t1 : Fin (k0_t1_loop v0).trips), ∀ a, (k0_off135 v0 k0_t1) a + S1.size a ≤ S512.size a := fun v0 k0_hw25 k0_t1 => k0_hw25.1.2.2.2.2.2.2.2.2.2.2.2.2.2.2.1 k0_t1
theorem k0_off136_inb : ∀ (v0 : BitVec 32) (k0_hw25 : k0_chk25 v0) (k0_t1 : Fin (k0_t1_loop v0).trips), ∀ a, (k0_off136 v0 k0_t1) a + S1x1x2x128x256.size a ≤ S4x8x2x128x256.size a := fun v0 k0_hw25 k0_t1 => k0_hw25.1.2.2.2.2.2.2.2.2.2.2.2.2.2.2.2.1 k0_t1
theorem k0_off136_wordsfp8e4m3 : ∀ (v0 : BitVec 32) (k0_hw25 : k0_chk25 v0) (k0_t1 : Fin (k0_t1_loop v0).trips), (Rect.unit (s := S4x8x2x128x256) (k0_off136 v0 k0_t1) S1x1x2x128x256.size (k0_off136_inb v0 k0_hw25 k0_t1)).WholeWords (EltTy.packing .fp8e4m3) := fun v0 k0_hw25 k0_t1 => k0_hw25.1.2.2.2.2.2.2.2.2.2.2.2.2.2.2.2.2.1 k0_t1 (k0_off136_inb v0 k0_hw25 k0_t1)
theorem k0_off138_inb : ∀ (v0 : BitVec 32) (k0_hw25 : k0_chk25 v0) (k0_t1 : Fin (k0_t1_loop v0).trips), ∀ a, (k0_off138 v0 k0_t1) a + S1.size a ≤ S4.size a := fun v0 k0_hw25 k0_t1 => k0_hw25.1.2.2.2.2.2.2.2.2.2.2.2.2.2.2.2.2.2.1 k0_t1
theorem k0_off139_inb : ∀ (v0 : BitVec 32) (k0_hw25 : k0_chk25 v0) (k0_t1 : Fin (k0_t1_loop v0).trips), ∀ a, (k0_off139 v0 k0_t1) a + S1x1x2x128x256.size a ≤ S4x8x2x128x256.size a := fun v0 k0_hw25 k0_t1 => k0_hw25.1.2.2.2.2.2.2.2.2.2.2.2.2.2.2.2.2.2.2.1 k0_t1
theorem k0_off139_wordsfp8e4m3 : ∀ (v0 : BitVec 32) (k0_hw25 : k0_chk25 v0) (k0_t1 : Fin (k0_t1_loop v0).trips), (Rect.unit (s := S4x8x2x128x256) (k0_off139 v0 k0_t1) S1x1x2x128x256.size (k0_off139_inb v0 k0_hw25 k0_t1)).WholeWords (EltTy.packing .fp8e4m3) := fun v0 k0_hw25 k0_t1 => k0_hw25.1.2.2.2.2.2.2.2.2.2.2.2.2.2.2.2.2.2.2.2.1 k0_t1 (k0_off139_inb v0 k0_hw25 k0_t1)
theorem k0_off140_inb : ∀ (v0 : BitVec 32) (k0_hw25 : k0_chk25 v0) (k0_t1 : Fin (k0_t1_loop v0).trips), ∀ a, (k0_off140 v0 k0_t1) a + S1.size a ≤ S512.size a := fun v0 k0_hw25 k0_t1 => k0_hw25.1.2.2.2.2.2.2.2.2.2.2.2.2.2.2.2.2.2.2.2.2.1 k0_t1
theorem k0_off141_inb : ∀ (v0 : BitVec 32) (k0_hw25 : k0_chk25 v0) (k0_t1 : Fin (k0_t1_loop v0).trips), ∀ a, (k0_off141 v0 k0_t1) a + S1x1x2x128x256.size a ≤ S4x8x2x128x256.size a := fun v0 k0_hw25 k0_t1 => k0_hw25.1.2.2.2.2.2.2.2.2.2.2.2.2.2.2.2.2.2.2.2.2.2.1 k0_t1
theorem k0_off141_wordsfp8e4m3 : ∀ (v0 : BitVec 32) (k0_hw25 : k0_chk25 v0) (k0_t1 : Fin (k0_t1_loop v0).trips), (Rect.unit (s := S4x8x2x128x256) (k0_off141 v0 k0_t1) S1x1x2x128x256.size (k0_off141_inb v0 k0_hw25 k0_t1)).WholeWords (EltTy.packing .fp8e4m3) := fun v0 k0_hw25 k0_t1 => k0_hw25.1.2.2.2.2.2.2.2.2.2.2.2.2.2.2.2.2.2.2.2.2.2.2.1 k0_t1 (k0_off141_inb v0 k0_hw25 k0_t1)
theorem k0_off143_inb : ∀ (v0 : BitVec 32) (k0_hw25 : k0_chk25 v0) (k0_t1 : Fin (k0_t1_loop v0).trips), ∀ a, (k0_off143 v0 k0_t1) a + S1.size a ≤ S4.size a := fun v0 k0_hw25 k0_t1 => k0_hw25.1.2.2.2.2.2.2.2.2.2.2.2.2.2.2.2.2.2.2.2.2.2.2.2.1 k0_t1
theorem k0_off144_inb : ∀ (v0 : BitVec 32) (k0_hw25 : k0_chk25 v0) (k0_t1 : Fin (k0_t1_loop v0).trips), ∀ a, (k0_off144 v0 k0_t1) a + S1x1x2x128x256.size a ≤ S4x8x2x128x256.size a := fun v0 k0_hw25 k0_t1 => k0_hw25.1.2.2.2.2.2.2.2.2.2.2.2.2.2.2.2.2.2.2.2.2.2.2.2.2.1 k0_t1
theorem k0_off144_wordsfp8e4m3 : ∀ (v0 : BitVec 32) (k0_hw25 : k0_chk25 v0) (k0_t1 : Fin (k0_t1_loop v0).trips), (Rect.unit (s := S4x8x2x128x256) (k0_off144 v0 k0_t1) S1x1x2x128x256.size (k0_off144_inb v0 k0_hw25 k0_t1)).WholeWords (EltTy.packing .fp8e4m3) := fun v0 k0_hw25 k0_t1 => k0_hw25.1.2.2.2.2.2.2.2.2.2.2.2.2.2.2.2.2.2.2.2.2.2.2.2.2.2.1 k0_t1 (k0_off144_inb v0 k0_hw25 k0_t1)
theorem k0_off145_inb : ∀ (v0 : BitVec 32) (k0_hw25 : k0_chk25 v0) (k0_t1 : Fin (k0_t1_loop v0).trips), ∀ a, (k0_off145 v0 k0_t1) a + S1.size a ≤ S512.size a := fun v0 k0_hw25 k0_t1 => k0_hw25.1.2.2.2.2.2.2.2.2.2.2.2.2.2.2.2.2.2.2.2.2.2.2.2.2.2.2.1 k0_t1
theorem k0_off146_inb : ∀ (v0 : BitVec 32) (k0_hw25 : k0_chk25 v0) (k0_t1 : Fin (k0_t1_loop v0).trips), ∀ a, (k0_off146 v0 k0_t1) a + S1x1x2x128x256.size a ≤ S4x8x2x128x256.size a := fun v0 k0_hw25 k0_t1 => k0_hw25.1.2.2.2.2.2.2.2.2.2.2.2.2.2.2.2.2.2.2.2.2.2.2.2.2.2.2.2.1 k0_t1
theorem k0_off146_wordsfp8e4m3 : ∀ (v0 : BitVec 32) (k0_hw25 : k0_chk25 v0) (k0_t1 : Fin (k0_t1_loop v0).trips), (Rect.unit (s := S4x8x2x128x256) (k0_off146 v0 k0_t1) S1x1x2x128x256.size (k0_off146_inb v0 k0_hw25 k0_t1)).WholeWords (EltTy.packing .fp8e4m3) := fun v0 k0_hw25 k0_t1 => k0_hw25.1.2.2.2.2.2.2.2.2.2.2.2.2.2.2.2.2.2.2.2.2.2.2.2.2.2.2.2.2.1 k0_t1 (k0_off146_inb v0 k0_hw25 k0_t1)
theorem k0_off148_inb : ∀ (v0 : BitVec 32) (k0_hw25 : k0_chk25 v0) (k0_t1 : Fin (k0_t1_loop v0).trips), ∀ a, (k0_off148 v0 k0_t1) a + S1.size a ≤ S4.size a := fun v0 k0_hw25 k0_t1 => k0_hw25.1.2.2.2.2.2.2.2.2.2.2.2.2.2.2.2.2.2.2.2.2.2.2.2.2.2.2.2.2.2.1 k0_t1
theorem k0_off149_inb : ∀ (v0 : BitVec 32) (k0_hw25 : k0_chk25 v0) (k0_t1 : Fin (k0_t1_loop v0).trips), ∀ a, (k0_off149 v0 k0_t1) a + S1x1x2x128x256.size a ≤ S4x8x2x128x256.size a := fun v0 k0_hw25 k0_t1 => k0_hw25.1.2.2.2.2.2.2.2.2.2.2.2.2.2.2.2.2.2.2.2.2.2.2.2.2.2.2.2.2.2.2.1 k0_t1
theorem k0_off149_wordsfp8e4m3 : ∀ (v0 : BitVec 32) (k0_hw25 : k0_chk25 v0) (k0_t1 : Fin (k0_t1_loop v0).trips), (Rect.unit (s := S4x8x2x128x256) (k0_off149 v0 k0_t1) S1x1x2x128x256.size (k0_off149_inb v0 k0_hw25 k0_t1)).WholeWords (EltTy.packing .fp8e4m3) := fun v0 k0_hw25 k0_t1 => k0_hw25.1.2.2.2.2.2.2.2.2.2.2.2.2.2.2.2.2.2.2.2.2.2.2.2.2.2.2.2.2.2.2.2 k0_t1 (k0_off149_inb v0 k0_hw25 k0_t1)
theorem k0_off150_inb : ∀ (v0 : BitVec 32) (k0_hw25 : k0_chk25 v0) (k0_t1 : Fin (k0_t1_loop v0).trips), ∀ a, (k0_off150 v0 k0_t1) a + S1.size a ≤ S512.size a := fun v0 k0_hw25 k0_t1 => k0_hw25.2.1.1 k0_t1
theorem k0_off151_inb : ∀ (v0 : BitVec 32) (k0_hw25 : k0_chk25 v0) (k0_t1 : Fin (k0_t1_loop v0).trips), ∀ a, (k0_off151 v0 k0_t1) a + S1x1x2x128x256.size a ≤ S4x8x2x128x256.size a := fun v0 k0_hw25 k0_t1 => k0_hw25.2.1.2.1 k0_t1
theorem k0_off151_wordsfp8e4m3 : ∀ (v0 : BitVec 32) (k0_hw25 : k0_chk25 v0) (k0_t1 : Fin (k0_t1_loop v0).trips), (Rect.unit (s := S4x8x2x128x256) (k0_off151 v0 k0_t1) S1x1x2x128x256.size (k0_off151_inb v0 k0_hw25 k0_t1)).WholeWords (EltTy.packing .fp8e4m3) := fun v0 k0_hw25 k0_t1 => k0_hw25.2.1.2.2.1 k0_t1 (k0_off151_inb v0 k0_hw25 k0_t1)
theorem k0_off153_inb : ∀ (v0 : BitVec 32) (k0_hw25 : k0_chk25 v0) (k0_t1 : Fin (k0_t1_loop v0).trips), ∀ a, (k0_off153 v0 k0_t1) a + S1.size a ≤ S4.size a := fun v0 k0_hw25 k0_t1 => k0_hw25.2.1.2.2.2.1 k0_t1
theorem k0_off154_inb : ∀ (v0 : BitVec 32) (k0_hw25 : k0_chk25 v0) (k0_t1 : Fin (k0_t1_loop v0).trips), ∀ a, (k0_off154 v0 k0_t1) a + S1x1x2x128x256.size a ≤ S4x8x2x128x256.size a := fun v0 k0_hw25 k0_t1 => k0_hw25.2.1.2.2.2.2.1 k0_t1
theorem k0_off154_wordsfp8e4m3 : ∀ (v0 : BitVec 32) (k0_hw25 : k0_chk25 v0) (k0_t1 : Fin (k0_t1_loop v0).trips), (Rect.unit (s := S4x8x2x128x256) (k0_off154 v0 k0_t1) S1x1x2x128x256.size (k0_off154_inb v0 k0_hw25 k0_t1)).WholeWords (EltTy.packing .fp8e4m3) := fun v0 k0_hw25 k0_t1 => k0_hw25.2.1.2.2.2.2.2.1 k0_t1 (k0_off154_inb v0 k0_hw25 k0_t1)
theorem k0_off155_inb : ∀ (v0 : BitVec 32) (k0_hw25 : k0_chk25 v0) (k0_t1 : Fin (k0_t1_loop v0).trips), ∀ a, (k0_off155 v0 k0_t1) a + S1.size a ≤ S512.size a := fun v0 k0_hw25 k0_t1 => k0_hw25.2.1.2.2.2.2.2.2.1 k0_t1
theorem k0_off156_inb : ∀ (v0 : BitVec 32) (k0_hw25 : k0_chk25 v0) (k0_t1 : Fin (k0_t1_loop v0).trips), ∀ a, (k0_off156 v0 k0_t1) a + S1x1x2x128x256.size a ≤ S4x8x2x128x256.size a := fun v0 k0_hw25 k0_t1 => k0_hw25.2.1.2.2.2.2.2.2.2.1 k0_t1
theorem k0_off156_wordsfp8e4m3 : ∀ (v0 : BitVec 32) (k0_hw25 : k0_chk25 v0) (k0_t1 : Fin (k0_t1_loop v0).trips), (Rect.unit (s := S4x8x2x128x256) (k0_off156 v0 k0_t1) S1x1x2x128x256.size (k0_off156_inb v0 k0_hw25 k0_t1)).WholeWords (EltTy.packing .fp8e4m3) := fun v0 k0_hw25 k0_t1 => k0_hw25.2.1.2.2.2.2.2.2.2.2.1 k0_t1 (k0_off156_inb v0 k0_hw25 k0_t1)
theorem k0_off158_inb : ∀ (v0 : BitVec 32) (k0_hw25 : k0_chk25 v0) (k0_t1 : Fin (k0_t1_loop v0).trips), ∀ a, (k0_off158 v0 k0_t1) a + S1.size a ≤ S4.size a := fun v0 k0_hw25 k0_t1 => k0_hw25.2.1.2.2.2.2.2.2.2.2.2.1 k0_t1
theorem k0_off159_inb : ∀ (v0 : BitVec 32) (k0_hw25 : k0_chk25 v0) (k0_t1 : Fin (k0_t1_loop v0).trips), ∀ a, (k0_off159 v0 k0_t1) a + S1x1x2x128x256.size a ≤ S4x8x2x128x256.size a := fun v0 k0_hw25 k0_t1 => k0_hw25.2.1.2.2.2.2.2.2.2.2.2.2.1 k0_t1
theorem k0_off159_wordsfp8e4m3 : ∀ (v0 : BitVec 32) (k0_hw25 : k0_chk25 v0) (k0_t1 : Fin (k0_t1_loop v0).trips), (Rect.unit (s := S4x8x2x128x256) (k0_off159 v0 k0_t1) S1x1x2x128x256.size (k0_off159_inb v0 k0_hw25 k0_t1)).WholeWords (EltTy.packing .fp8e4m3) := fun v0 k0_hw25 k0_t1 => k0_hw25.2.1.2.2.2.2.2.2.2.2.2.2.2.1 k0_t1 (k0_off159_inb v0 k0_hw25 k0_t1)
theorem k0_off160_inb : ∀ (v0 : BitVec 32) (k0_hw25 : k0_chk25 v0) (k0_t1 : Fin (k0_t1_loop v0).trips), ∀ a, (k0_off160 v0 k0_t1) a + S1.size a ≤ S512.size a := fun v0 k0_hw25 k0_t1 => k0_hw25.2.1.2.2.2.2.2.2.2.2.2.2.2.2.1 k0_t1
theorem k0_off161_inb : ∀ (v0 : BitVec 32) (k0_hw25 : k0_chk25 v0) (k0_t1 : Fin (k0_t1_loop v0).trips), ∀ a, (k0_off161 v0 k0_t1) a + S1x1x2x128x256.size a ≤ S4x8x2x128x256.size a := fun v0 k0_hw25 k0_t1 => k0_hw25.2.1.2.2.2.2.2.2.2.2.2.2.2.2.2.1 k0_t1
theorem k0_off161_wordsfp8e4m3 : ∀ (v0 : BitVec 32) (k0_hw25 : k0_chk25 v0) (k0_t1 : Fin (k0_t1_loop v0).trips), (Rect.unit (s := S4x8x2x128x256) (k0_off161 v0 k0_t1) S1x1x2x128x256.size (k0_off161_inb v0 k0_hw25 k0_t1)).WholeWords (EltTy.packing .fp8e4m3) := fun v0 k0_hw25 k0_t1 => k0_hw25.2.1.2.2.2.2.2.2.2.2.2.2.2.2.2.2.1 k0_t1 (k0_off161_inb v0 k0_hw25 k0_t1)
theorem k0_off163_inb : ∀ (v0 : BitVec 32) (k0_hw25 : k0_chk25 v0) (k0_t1 : Fin (k0_t1_loop v0).trips), ∀ a, (k0_off163 v0 k0_t1) a + S1.size a ≤ S4.size a := fun v0 k0_hw25 k0_t1 => k0_hw25.2.1.2.2.2.2.2.2.2.2.2.2.2.2.2.2.2.1 k0_t1
theorem k0_off164_inb : ∀ (v0 : BitVec 32) (k0_hw25 : k0_chk25 v0) (k0_t1 : Fin (k0_t1_loop v0).trips), ∀ a, (k0_off164 v0 k0_t1) a + S1x1x2x128x256.size a ≤ S4x8x2x128x256.size a := fun v0 k0_hw25 k0_t1 => k0_hw25.2.1.2.2.2.2.2.2.2.2.2.2.2.2.2.2.2.2.1 k0_t1
theorem k0_off164_wordsfp8e4m3 : ∀ (v0 : BitVec 32) (k0_hw25 : k0_chk25 v0) (k0_t1 : Fin (k0_t1_loop v0).trips), (Rect.unit (s := S4x8x2x128x256) (k0_off164 v0 k0_t1) S1x1x2x128x256.size (k0_off164_inb v0 k0_hw25 k0_t1)).WholeWords (EltTy.packing .fp8e4m3) := fun v0 k0_hw25 k0_t1 => k0_hw25.2.1.2.2.2.2.2.2.2.2.2.2.2.2.2.2.2.2.2.1 k0_t1 (k0_off164_inb v0 k0_hw25 k0_t1)
theorem k0_off165_inb : ∀ (v0 : BitVec 32) (k0_hw25 : k0_chk25 v0) (k0_t1 : Fin (k0_t1_loop v0).trips), ∀ (k0_h4 : k0_cond4 v0 k0_t1 = 1#1), ∀ a, (k0_off165 v0 k0_t1) a + S1.size a ≤ S512.size a := fun v0 k0_hw25 k0_t1 k0_h4 => k0_hw25.2.1.2.2.2.2.2.2.2.2.2.2.2.2.2.2.2.2.2.2.1 k0_t1 k0_h4
theorem k0_off166_inb : ∀ (v0 : BitVec 32) (k0_hw25 : k0_chk25 v0) (k0_t1 : Fin (k0_t1_loop v0).trips), ∀ (k0_h4 : k0_cond4 v0 k0_t1 = 1#1), ∀ a, (k0_off166 v0 k0_t1) a + S1.size a ≤ S4.size a := fun v0 k0_hw25 k0_t1 k0_h4 => k0_hw25.2.1.2.2.2.2.2.2.2.2.2.2.2.2.2.2.2.2.2.2.2.1 k0_t1 k0_h4
theorem k0_off167_inb : ∀ (v0 : BitVec 32) (k0_hw25 : k0_chk25 v0) (k0_t1 : Fin (k0_t1_loop v0).trips), ∀ (k0_h4 : k0_cond4 v0 k0_t1 = 1#1), ∀ a, (k0_off167 v0 k0_t1) a + S1x1x2x128x256.size a ≤ S4x8x2x128x256.size a := fun v0 k0_hw25 k0_t1 k0_h4 => k0_hw25.2.1.2.2.2.2.2.2.2.2.2.2.2.2.2.2.2.2.2.2.2.2.1 k0_t1 k0_h4
theorem k0_off167_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off167 v0 k0_t1) S1x1x2x128x256.size (k0_off167_inb v0 k0_hw25 k0_t1 k0_h4)).WholeWords (EltTy.packing .fp8e4m3) := fun v0 k0_hw25 k0_t1 k0_h4 => k0_hw25.2.1.2.2.2.2.2.2.2.2.2.2.2.2.2.2.2.2.2.2.2.2.2.1 k0_t1 k0_h4 (k0_off167_inb v0 k0_hw25 k0_t1 k0_h4)
theorem k0_off169_inb : ∀ (v0 : BitVec 32) (k0_hw25 : k0_chk25 v0) (k0_t1 : Fin (k0_t1_loop v0).trips), ∀ (k0_h4 : k0_cond4 v0 k0_t1 = 1#1), ∀ a, (k0_off169 v0 k0_t1) a + S1.size a ≤ S4.size a := fun v0 k0_hw25 k0_t1 k0_h4 => k0_hw25.2.1.2.2.2.2.2.2.2.2.2.2.2.2.2.2.2.2.2.2.2.2.2.2.1 k0_t1 k0_h4
theorem k0_off170_inb : ∀ (v0 : BitVec 32) (k0_hw25 : k0_chk25 v0) (k0_t1 : Fin (k0_t1_loop v0).trips), ∀ (k0_h4 : k0_cond4 v0 k0_t1 = 1#1), ∀ a, (k0_off170 v0 k0_t1) a + S1x1x2x128x256.size a ≤ S4x8x2x128x256.size a := fun v0 k0_hw25 k0_t1 k0_h4 => k0_hw25.2.1.2.2.2.2.2.2.2.2.2.2.2.2.2.2.2.2.2.2.2.2.2.2.2.1 k0_t1 k0_h4
theorem k0_off170_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off170 v0 k0_t1) S1x1x2x128x256.size (k0_off170_inb v0 k0_hw25 k0_t1 k0_h4)).WholeWords (EltTy.packing .fp8e4m3) := fun v0 k0_hw25 k0_t1 k0_h4 => k0_hw25.2.1.2.2.2.2.2.2.2.2.2.2.2.2.2.2.2.2.2.2.2.2.2.2.2.2.1 k0_t1 k0_h4 (k0_off170_inb v0 k0_hw25 k0_t1 k0_h4)
theorem k0_off171_inb : ∀ (v0 : BitVec 32) (k0_hw25 : k0_chk25 v0) (k0_t1 : Fin (k0_t1_loop v0).trips), ∀ (k0_h4 : k0_cond4 v0 k0_t1 = 1#1), ∀ a, (k0_off171 v0 k0_t1) a + S1.size a ≤ S512.size a := fun v0 k0_hw25 k0_t1 k0_h4 => k0_hw25.2.1.2.2.2.2.2.2.2.2.2.2.2.2.2.2.2.2.2.2.2.2.2.2.2.2.2.1 k0_t1 k0_h4
theorem k0_off172_inb : ∀ (v0 : BitVec 32) (k0_hw25 : k0_chk25 v0) (k0_t1 : Fin (k0_t1_loop v0).trips), ∀ (k0_h4 : k0_cond4 v0 k0_t1 = 1#1), ∀ a, (k0_off172 v0 k0_t1) a + S1x1x2x128x256.size a ≤ S4x8x2x128x256.size a := fun v0 k0_hw25 k0_t1 k0_h4 => k0_hw25.2.1.2.2.2.2.2.2.2.2.2.2.2.2.2.2.2.2.2.2.2.2.2.2.2.2.2.2.1 k0_t1 k0_h4
theorem k0_off172_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off172 v0 k0_t1) S1x1x2x128x256.size (k0_off172_inb v0 k0_hw25 k0_t1 k0_h4)).WholeWords (EltTy.packing .fp8e4m3) := fun v0 k0_hw25 k0_t1 k0_h4 => k0_hw25.2.1.2.2.2.2.2.2.2.2.2.2.2.2.2.2.2.2.2.2.2.2.2.2.2.2.2.2.2.1 k0_t1 k0_h4 (k0_off172_inb v0 k0_hw25 k0_t1 k0_h4)
theorem k0_off174_inb : ∀ (v0 : BitVec 32) (k0_hw25 : k0_chk25 v0) (k0_t1 : Fin (k0_t1_loop v0).trips), ∀ (k0_h4 : k0_cond4 v0 k0_t1 = 1#1), ∀ a, (k0_off174 v0 k0_t1) a + S1.size a ≤ S4.size a := fun v0 k0_hw25 k0_t1 k0_h4 => k0_hw25.2.1.2.2.2.2.2.2.2.2.2.2.2.2.2.2.2.2.2.2.2.2.2.2.2.2.2.2.2.2.1 k0_t1 k0_h4
theorem k0_off175_inb : ∀ (v0 : BitVec 32) (k0_hw25 : k0_chk25 v0) (k0_t1 : Fin (k0_t1_loop v0).trips), ∀ (k0_h4 : k0_cond4 v0 k0_t1 = 1#1), ∀ a, (k0_off175 v0 k0_t1) a + S1x1x2x128x256.size a ≤ S4x8x2x128x256.size a := fun v0 k0_hw25 k0_t1 k0_h4 => k0_hw25.2.1.2.2.2.2.2.2.2.2.2.2.2.2.2.2.2.2.2.2.2.2.2.2.2.2.2.2.2.2.2.1 k0_t1 k0_h4
theorem k0_off175_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off175 v0 k0_t1) S1x1x2x128x256.size (k0_off175_inb v0 k0_hw25 k0_t1 k0_h4)).WholeWords (EltTy.packing .fp8e4m3) := fun v0 k0_hw25 k0_t1 k0_h4 => k0_hw25.2.1.2.2.2.2.2.2.2.2.2.2.2.2.2.2.2.2.2.2.2.2.2.2.2.2.2.2.2.2.2.2.1 k0_t1 k0_h4 (k0_off175_inb v0 k0_hw25 k0_t1 k0_h4)
theorem k0_off176_inb : ∀ (v0 : BitVec 32) (k0_hw25 : k0_chk25 v0) (k0_t1 : Fin (k0_t1_loop v0).trips), ∀ (k0_h4 : k0_cond4 v0 k0_t1 = 1#1), ∀ a, (k0_off176 v0 k0_t1) a + S1.size a ≤ S512.size a := fun v0 k0_hw25 k0_t1 k0_h4 => k0_hw25.2.1.2.2.2.2.2.2.2.2.2.2.2.2.2.2.2.2.2.2.2.2.2.2.2.2.2.2.2.2.2.2.2 k0_t1 k0_h4
theorem k0_off177_inb : ∀ (v0 : BitVec 32) (k0_hw25 : k0_chk25 v0) (k0_t1 : Fin (k0_t1_loop v0).trips), ∀ (k0_h4 : k0_cond4 v0 k0_t1 = 1#1), ∀ a, (k0_off177 v0 k0_t1) a + S1x1x2x128x256.size a ≤ S4x8x2x128x256.size a := fun v0 k0_hw25 k0_t1 k0_h4 => k0_hw25.2.2.1.1 k0_t1 k0_h4
theorem k0_off177_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off177 v0 k0_t1) S1x1x2x128x256.size (k0_off177_inb v0 k0_hw25 k0_t1 k0_h4)).WholeWords (EltTy.packing .fp8e4m3) := fun v0 k0_hw25 k0_t1 k0_h4 => k0_hw25.2.2.1.2.1 k0_t1 k0_h4 (k0_off177_inb v0 k0_hw25 k0_t1 k0_h4)
theorem k0_off179_inb : ∀ (v0 : BitVec 32) (k0_hw25 : k0_chk25 v0) (k0_t1 : Fin (k0_t1_loop v0).trips), ∀ (k0_h4 : k0_cond4 v0 k0_t1 = 1#1), ∀ a, (k0_off179 v0 k0_t1) a + S1.size a ≤ S4.size a := fun v0 k0_hw25 k0_t1 k0_h4 => k0_hw25.2.2.1.2.2.1 k0_t1 k0_h4
theorem k0_off180_inb : ∀ (v0 : BitVec 32) (k0_hw25 : k0_chk25 v0) (k0_t1 : Fin (k0_t1_loop v0).trips), ∀ (k0_h4 : k0_cond4 v0 k0_t1 = 1#1), ∀ a, (k0_off180 v0 k0_t1) a + S1x1x2x128x256.size a ≤ S4x8x2x128x256.size a := fun v0 k0_hw25 k0_t1 k0_h4 => k0_hw25.2.2.1.2.2.2.1 k0_t1 k0_h4
theorem k0_off180_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off180 v0 k0_t1) S1x1x2x128x256.size (k0_off180_inb v0 k0_hw25 k0_t1 k0_h4)).WholeWords (EltTy.packing .fp8e4m3) := fun v0 k0_hw25 k0_t1 k0_h4 => k0_hw25.2.2.1.2.2.2.2.1 k0_t1 k0_h4 (k0_off180_inb v0 k0_hw25 k0_t1 k0_h4)
theorem k0_off181_inb : ∀ (v0 : BitVec 32) (k0_hw25 : k0_chk25 v0) (k0_t1 : Fin (k0_t1_loop v0).trips), ∀ (k0_h4 : k0_cond4 v0 k0_t1 = 1#1), ∀ a, (k0_off181 v0 k0_t1) a + S1.size a ≤ S512.size a := fun v0 k0_hw25 k0_t1 k0_h4 => k0_hw25.2.2.1.2.2.2.2.2.1 k0_t1 k0_h4
theorem k0_off182_inb : ∀ (v0 : BitVec 32) (k0_hw25 : k0_chk25 v0) (k0_t1 : Fin (k0_t1_loop v0).trips), ∀ (k0_h4 : k0_cond4 v0 k0_t1 = 1#1), ∀ a, (k0_off182 v0 k0_t1) a + S1x1x2x128x256.size a ≤ S4x8x2x128x256.size a := fun v0 k0_hw25 k0_t1 k0_h4 => k0_hw25.2.2.1.2.2.2.2.2.2.1 k0_t1 k0_h4
theorem k0_off182_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off182 v0 k0_t1) S1x1x2x128x256.size (k0_off182_inb v0 k0_hw25 k0_t1 k0_h4)).WholeWords (EltTy.packing .fp8e4m3) := fun v0 k0_hw25 k0_t1 k0_h4 => k0_hw25.2.2.1.2.2.2.2.2.2.2.1 k0_t1 k0_h4 (k0_off182_inb v0 k0_hw25 k0_t1 k0_h4)
theorem k0_off184_inb : ∀ (v0 : BitVec 32) (k0_hw25 : k0_chk25 v0) (k0_t1 : Fin (k0_t1_loop v0).trips), ∀ (k0_h4 : k0_cond4 v0 k0_t1 = 1#1), ∀ a, (k0_off184 v0 k0_t1) a + S1.size a ≤ S4.size a := fun v0 k0_hw25 k0_t1 k0_h4 => k0_hw25.2.2.1.2.2.2.2.2.2.2.2.1 k0_t1 k0_h4
theorem k0_off185_inb : ∀ (v0 : BitVec 32) (k0_hw25 : k0_chk25 v0) (k0_t1 : Fin (k0_t1_loop v0).trips), ∀ (k0_h4 : k0_cond4 v0 k0_t1 = 1#1), ∀ a, (k0_off185 v0 k0_t1) a + S1x1x2x128x256.size a ≤ S4x8x2x128x256.size a := fun v0 k0_hw25 k0_t1 k0_h4 => k0_hw25.2.2.1.2.2.2.2.2.2.2.2.2.1 k0_t1 k0_h4
theorem k0_off185_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off185 v0 k0_t1) S1x1x2x128x256.size (k0_off185_inb v0 k0_hw25 k0_t1 k0_h4)).WholeWords (EltTy.packing .fp8e4m3) := fun v0 k0_hw25 k0_t1 k0_h4 => k0_hw25.2.2.1.2.2.2.2.2.2.2.2.2.2.1 k0_t1 k0_h4 (k0_off185_inb v0 k0_hw25 k0_t1 k0_h4)
theorem k0_off186_inb : ∀ (v0 : BitVec 32) (k0_hw25 : k0_chk25 v0) (k0_t1 : Fin (k0_t1_loop v0).trips), ∀ (k0_h4 : k0_cond4 v0 k0_t1 = 1#1), ∀ a, (k0_off186 v0 k0_t1) a + S1.size a ≤ S512.size a := fun v0 k0_hw25 k0_t1 k0_h4 => k0_hw25.2.2.1.2.2.2.2.2.2.2.2.2.2.2.1 k0_t1 k0_h4
theorem k0_off187_inb : ∀ (v0 : BitVec 32) (k0_hw25 : k0_chk25 v0) (k0_t1 : Fin (k0_t1_loop v0).trips), ∀ (k0_h4 : k0_cond4 v0 k0_t1 = 1#1), ∀ a, (k0_off187 v0 k0_t1) a + S1x1x2x128x256.size a ≤ S4x8x2x128x256.size a := fun v0 k0_hw25 k0_t1 k0_h4 => k0_hw25.2.2.1.2.2.2.2.2.2.2.2.2.2.2.2.1 k0_t1 k0_h4
theorem k0_off187_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off187 v0 k0_t1) S1x1x2x128x256.size (k0_off187_inb v0 k0_hw25 k0_t1 k0_h4)).WholeWords (EltTy.packing .fp8e4m3) := fun v0 k0_hw25 k0_t1 k0_h4 => k0_hw25.2.2.1.2.2.2.2.2.2.2.2.2.2.2.2.2.1 k0_t1 k0_h4 (k0_off187_inb v0 k0_hw25 k0_t1 k0_h4)
theorem k0_off189_inb : ∀ (v0 : BitVec 32) (k0_hw25 : k0_chk25 v0) (k0_t1 : Fin (k0_t1_loop v0).trips), ∀ (k0_h4 : k0_cond4 v0 k0_t1 = 1#1), ∀ a, (k0_off189 v0 k0_t1) a + S1.size a ≤ S4.size a := fun v0 k0_hw25 k0_t1 k0_h4 => k0_hw25.2.2.1.2.2.2.2.2.2.2.2.2.2.2.2.2.2.1 k0_t1 k0_h4
theorem k0_off190_inb : ∀ (v0 : BitVec 32) (k0_hw25 : k0_chk25 v0) (k0_t1 : Fin (k0_t1_loop v0).trips), ∀ (k0_h4 : k0_cond4 v0 k0_t1 = 1#1), ∀ a, (k0_off190 v0 k0_t1) a + S1x1x2x128x256.size a ≤ S4x8x2x128x256.size a := fun v0 k0_hw25 k0_t1 k0_h4 => k0_hw25.2.2.1.2.2.2.2.2.2.2.2.2.2.2.2.2.2.2.1 k0_t1 k0_h4
theorem k0_off190_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off190 v0 k0_t1) S1x1x2x128x256.size (k0_off190_inb v0 k0_hw25 k0_t1 k0_h4)).WholeWords (EltTy.packing .fp8e4m3) := fun v0 k0_hw25 k0_t1 k0_h4 => k0_hw25.2.2.1.2.2.2.2.2.2.2.2.2.2.2.2.2.2.2.2.1 k0_t1 k0_h4 (k0_off190_inb v0 k0_hw25 k0_t1 k0_h4)
theorem k0_off191_inb : ∀ (v0 : BitVec 32) (k0_hw25 : k0_chk25 v0) (k0_t1 : Fin (k0_t1_loop v0).trips), ∀ (k0_h4 : k0_cond4 v0 k0_t1 = 1#1), ∀ a, (k0_off191 v0 k0_t1) a + S1.size a ≤ S512.size a := fun v0 k0_hw25 k0_t1 k0_h4 => k0_hw25.2.2.1.2.2.2.2.2.2.2.2.2.2.2.2.2.2.2.2.2.1 k0_t1 k0_h4
theorem k0_off192_inb : ∀ (v0 : BitVec 32) (k0_hw25 : k0_chk25 v0) (k0_t1 : Fin (k0_t1_loop v0).trips), ∀ (k0_h4 : k0_cond4 v0 k0_t1 = 1#1), ∀ a, (k0_off192 v0 k0_t1) a + S1x1x2x128x256.size a ≤ S4x8x2x128x256.size a := fun v0 k0_hw25 k0_t1 k0_h4 => k0_hw25.2.2.1.2.2.2.2.2.2.2.2.2.2.2.2.2.2.2.2.2.2.1 k0_t1 k0_h4
theorem k0_off192_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off192 v0 k0_t1) S1x1x2x128x256.size (k0_off192_inb v0 k0_hw25 k0_t1 k0_h4)).WholeWords (EltTy.packing .fp8e4m3) := fun v0 k0_hw25 k0_t1 k0_h4 => k0_hw25.2.2.1.2.2.2.2.2.2.2.2.2.2.2.2.2.2.2.2.2.2.2.1 k0_t1 k0_h4 (k0_off192_inb v0 k0_hw25 k0_t1 k0_h4)
theorem k0_off194_inb : ∀ (v0 : BitVec 32) (k0_hw25 : k0_chk25 v0) (k0_t1 : Fin (k0_t1_loop v0).trips), ∀ (k0_h4 : k0_cond4 v0 k0_t1 = 1#1), ∀ a, (k0_off194 v0 k0_t1) a + S1.size a ≤ S4.size a := fun v0 k0_hw25 k0_t1 k0_h4 => k0_hw25.2.2.1.2.2.2.2.2.2.2.2.2.2.2.2.2.2.2.2.2.2.2.2.1 k0_t1 k0_h4
theorem k0_off195_inb : ∀ (v0 : BitVec 32) (k0_hw25 : k0_chk25 v0) (k0_t1 : Fin (k0_t1_loop v0).trips), ∀ (k0_h4 : k0_cond4 v0 k0_t1 = 1#1), ∀ a, (k0_off195 v0 k0_t1) a + S1x1x2x128x256.size a ≤ S4x8x2x128x256.size a := fun v0 k0_hw25 k0_t1 k0_h4 => k0_hw25.2.2.1.2.2.2.2.2.2.2.2.2.2.2.2.2.2.2.2.2.2.2.2.2.1 k0_t1 k0_h4
theorem k0_off195_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off195 v0 k0_t1) S1x1x2x128x256.size (k0_off195_inb v0 k0_hw25 k0_t1 k0_h4)).WholeWords (EltTy.packing .fp8e4m3) := fun v0 k0_hw25 k0_t1 k0_h4 => k0_hw25.2.2.1.2.2.2.2.2.2.2.2.2.2.2.2.2.2.2.2.2.2.2.2.2.2.1 k0_t1 k0_h4 (k0_off195_inb v0 k0_hw25 k0_t1 k0_h4)
theorem k0_off196_inb : ∀ (v0 : BitVec 32) (k0_hw25 : k0_chk25 v0) (k0_t1 : Fin (k0_t1_loop v0).trips), ∀ (k0_h4 : k0_cond4 v0 k0_t1 = 1#1), ∀ a, (k0_off196 v0 k0_t1) a + S1.size a ≤ S512.size a := fun v0 k0_hw25 k0_t1 k0_h4 => k0_hw25.2.2.1.2.2.2.2.2.2.2.2.2.2.2.2.2.2.2.2.2.2.2.2.2.2.2.1 k0_t1 k0_h4
theorem k0_off197_inb : ∀ (v0 : BitVec 32) (k0_hw25 : k0_chk25 v0) (k0_t1 : Fin (k0_t1_loop v0).trips), ∀ (k0_h4 : k0_cond4 v0 k0_t1 = 1#1), ∀ a, (k0_off197 v0 k0_t1) a + S1x1x2x128x256.size a ≤ S4x8x2x128x256.size a := fun v0 k0_hw25 k0_t1 k0_h4 => k0_hw25.2.2.1.2.2.2.2.2.2.2.2.2.2.2.2.2.2.2.2.2.2.2.2.2.2.2.2.1 k0_t1 k0_h4
theorem k0_off197_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off197 v0 k0_t1) S1x1x2x128x256.size (k0_off197_inb v0 k0_hw25 k0_t1 k0_h4)).WholeWords (EltTy.packing .fp8e4m3) := fun v0 k0_hw25 k0_t1 k0_h4 => k0_hw25.2.2.1.2.2.2.2.2.2.2.2.2.2.2.2.2.2.2.2.2.2.2.2.2.2.2.2.2.1 k0_t1 k0_h4 (k0_off197_inb v0 k0_hw25 k0_t1 k0_h4)
theorem k0_off199_inb : ∀ (v0 : BitVec 32) (k0_hw25 : k0_chk25 v0) (k0_t1 : Fin (k0_t1_loop v0).trips), ∀ (k0_h4 : k0_cond4 v0 k0_t1 = 1#1), ∀ a, (k0_off199 v0 k0_t1) a + S1.size a ≤ S4.size a := fun v0 k0_hw25 k0_t1 k0_h4 => k0_hw25.2.2.1.2.2.2.2.2.2.2.2.2.2.2.2.2.2.2.2.2.2.2.2.2.2.2.2.2.2.1 k0_t1 k0_h4
theorem k0_off200_inb : ∀ (v0 : BitVec 32) (k0_hw25 : k0_chk25 v0) (k0_t1 : Fin (k0_t1_loop v0).trips), ∀ (k0_h4 : k0_cond4 v0 k0_t1 = 1#1), ∀ a, (k0_off200 v0 k0_t1) a + S1x1x2x128x256.size a ≤ S4x8x2x128x256.size a := fun v0 k0_hw25 k0_t1 k0_h4 => k0_hw25.2.2.1.2.2.2.2.2.2.2.2.2.2.2.2.2.2.2.2.2.2.2.2.2.2.2.2.2.2.2.1 k0_t1 k0_h4
theorem k0_off200_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off200 v0 k0_t1) S1x1x2x128x256.size (k0_off200_inb v0 k0_hw25 k0_t1 k0_h4)).WholeWords (EltTy.packing .fp8e4m3) := fun v0 k0_hw25 k0_t1 k0_h4 => k0_hw25.2.2.1.2.2.2.2.2.2.2.2.2.2.2.2.2.2.2.2.2.2.2.2.2.2.2.2.2.2.2.2.1 k0_t1 k0_h4 (k0_off200_inb v0 k0_hw25 k0_t1 k0_h4)
theorem k0_off201_inb : ∀ (v0 : BitVec 32) (k0_hw25 : k0_chk25 v0) (k0_t1 : Fin (k0_t1_loop v0).trips), ∀ (k0_h4 : k0_cond4 v0 k0_t1 = 1#1), ∀ a, (k0_off201 v0 k0_t1) a + S1.size a ≤ S512.size a := fun v0 k0_hw25 k0_t1 k0_h4 => k0_hw25.2.2.1.2.2.2.2.2.2.2.2.2.2.2.2.2.2.2.2.2.2.2.2.2.2.2.2.2.2.2.2.2.1 k0_t1 k0_h4
theorem k0_off202_inb : ∀ (v0 : BitVec 32) (k0_hw25 : k0_chk25 v0) (k0_t1 : Fin (k0_t1_loop v0).trips), ∀ (k0_h4 : k0_cond4 v0 k0_t1 = 1#1), ∀ a, (k0_off202 v0 k0_t1) a + S1x1x2x128x256.size a ≤ S4x8x2x128x256.size a := fun v0 k0_hw25 k0_t1 k0_h4 => k0_hw25.2.2.1.2.2.2.2.2.2.2.2.2.2.2.2.2.2.2.2.2.2.2.2.2.2.2.2.2.2.2.2.2.2.1 k0_t1 k0_h4
theorem k0_off202_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off202 v0 k0_t1) S1x1x2x128x256.size (k0_off202_inb v0 k0_hw25 k0_t1 k0_h4)).WholeWords (EltTy.packing .fp8e4m3) := fun v0 k0_hw25 k0_t1 k0_h4 => k0_hw25.2.2.1.2.2.2.2.2.2.2.2.2.2.2.2.2.2.2.2.2.2.2.2.2.2.2.2.2.2.2.2.2.2.2 k0_t1 k0_h4 (k0_off202_inb v0 k0_hw25 k0_t1 k0_h4)
theorem k0_off204_inb : ∀ (v0 : BitVec 32) (k0_hw25 : k0_chk25 v0) (k0_t1 : Fin (k0_t1_loop v0).trips), ∀ (k0_h4 : k0_cond4 v0 k0_t1 = 1#1), ∀ a, (k0_off204 v0 k0_t1) a + S1.size a ≤ S4.size a := fun v0 k0_hw25 k0_t1 k0_h4 => k0_hw25.2.2.2.1.1 k0_t1 k0_h4
theorem k0_off205_inb : ∀ (v0 : BitVec 32) (k0_hw25 : k0_chk25 v0) (k0_t1 : Fin (k0_t1_loop v0).trips), ∀ (k0_h4 : k0_cond4 v0 k0_t1 = 1#1), ∀ a, (k0_off205 v0 k0_t1) a + S1x1x2x128x256.size a ≤ S4x8x2x128x256.size a := fun v0 k0_hw25 k0_t1 k0_h4 => k0_hw25.2.2.2.1.2.1 k0_t1 k0_h4
theorem k0_off205_wordsfp8e4m3 : ∀ (v0 : BitVec 32) (k0_hw25 : k0_chk25 v0) (k0_t1 : Fin (k0_t1_loop v0).trips), ∀ (k0_h4 : k0_cond4 v0 k0_t1 = 1#1), (Rect.unit (s := S4x8x2x128x256) (k0_off205 v0 k0_t1) S1x1x2x128x256.size (k0_off205_inb v0 k0_hw25 k0_t1 k0_h4)).WholeWords (EltTy.packing .fp8e4m3) := fun v0 k0_hw25 k0_t1 k0_h4 => k0_hw25.2.2.2.1.2.2.1 k0_t1 k0_h4 (k0_off205_inb v0 k0_hw25 k0_t1 k0_h4)
theorem k0_off206_inb : ∀ (v0 : BitVec 32) (k0_hw25 : k0_chk25 v0) (k0_t1 : Fin (k0_t1_loop v0).trips), ∀ a, (k0_off206 v0 k0_t1) a + S1x8x1x128x256.size a ≤ S4x8x2x128x256.size a := fun v0 k0_hw25 k0_t1 => k0_hw25.2.2.2.1.2.2.2.1 k0_t1
theorem k0_off207_inb : ∀ (v0 : BitVec 32) (k0_hw25 : k0_chk25 v0) (k0_t1 : Fin (k0_t1_loop v0).trips), ∀ a, (k0_off207 v0 k0_t1) a + S1x8x1x128x256.size a ≤ S4x8x2x128x256.size a := fun v0 k0_hw25 k0_t1 => k0_hw25.2.2.2.1.2.2.2.2.1 k0_t1
theorem k0_t2_ok : ∀ (v0 : BitVec 32) (k0_hw25 : k0_chk25 v0), (k0_t2_loop v0).OK := fun v0 k0_hw25 => k0_hw25.2.2.2.1.2.2.2.2.2.1
theorem k0_off208_inb : ∀ (v0 : BitVec 32) (k0_hw25 : k0_chk25 v0) (k0_t2 : Fin (k0_t2_loop v0).trips), ∀ a, (k0_off208 v0 k0_t2) a + S1.size a ≤ S512.size a := fun v0 k0_hw25 k0_t2 => k0_hw25.2.2.2.1.2.2.2.2.2.2.1 k0_t2
theorem k0_off209_inb : ∀ (v0 : BitVec 32) (k0_hw25 : k0_chk25 v0) (k0_t2 : Fin (k0_t2_loop v0).trips), ∀ a, (k0_off209 v0 k0_t2) a + S1.size a ≤ S4.size a := fun v0 k0_hw25 k0_t2 => k0_hw25.2.2.2.1.2.2.2.2.2.2.2.1 k0_t2
theorem k0_off210_inb : ∀ (v0 : BitVec 32) (k0_hw25 : k0_chk25 v0) (k0_t2 : Fin (k0_t2_loop v0).trips), ∀ a, (k0_off210 v0 k0_t2) a + S1x1x2x128x256.size a ≤ S4x8x2x128x256.size a := fun v0 k0_hw25 k0_t2 => k0_hw25.2.2.2.1.2.2.2.2.2.2.2.2.1 k0_t2
theorem k0_off210_wordsfp8e4m3 : ∀ (v0 : BitVec 32) (k0_hw25 : k0_chk25 v0) (k0_t2 : Fin (k0_t2_loop v0).trips), (Rect.unit (s := S4x8x2x128x256) (k0_off210 v0 k0_t2) S1x1x2x128x256.size (k0_off210_inb v0 k0_hw25 k0_t2)).WholeWords (EltTy.packing .fp8e4m3) := fun v0 k0_hw25 k0_t2 => k0_hw25.2.2.2.1.2.2.2.2.2.2.2.2.2.1 k0_t2 (k0_off210_inb v0 k0_hw25 k0_t2)
theorem k0_off212_inb : ∀ (v0 : BitVec 32) (k0_hw25 : k0_chk25 v0) (k0_t2 : Fin (k0_t2_loop v0).trips), ∀ a, (k0_off212 v0 k0_t2) a + S1.size a ≤ S4.size a := fun v0 k0_hw25 k0_t2 => k0_hw25.2.2.2.1.2.2.2.2.2.2.2.2.2.2.1 k0_t2
theorem k0_off213_inb : ∀ (v0 : BitVec 32) (k0_hw25 : k0_chk25 v0) (k0_t2 : Fin (k0_t2_loop v0).trips), ∀ a, (k0_off213 v0 k0_t2) a + S1x1x2x128x256.size a ≤ S4x8x2x128x256.size a := fun v0 k0_hw25 k0_t2 => k0_hw25.2.2.2.1.2.2.2.2.2.2.2.2.2.2.2.1 k0_t2
theorem k0_off213_wordsfp8e4m3 : ∀ (v0 : BitVec 32) (k0_hw25 : k0_chk25 v0) (k0_t2 : Fin (k0_t2_loop v0).trips), (Rect.unit (s := S4x8x2x128x256) (k0_off213 v0 k0_t2) S1x1x2x128x256.size (k0_off213_inb v0 k0_hw25 k0_t2)).WholeWords (EltTy.packing .fp8e4m3) := fun v0 k0_hw25 k0_t2 => k0_hw25.2.2.2.1.2.2.2.2.2.2.2.2.2.2.2.2.1 k0_t2 (k0_off213_inb v0 k0_hw25 k0_t2)
theorem k0_off214_inb : ∀ (v0 : BitVec 32) (k0_hw25 : k0_chk25 v0) (k0_t2 : Fin (k0_t2_loop v0).trips), ∀ a, (k0_off214 v0 k0_t2) a + S1.size a ≤ S512.size a := fun v0 k0_hw25 k0_t2 => k0_hw25.2.2.2.1.2.2.2.2.2.2.2.2.2.2.2.2.2.1 k0_t2
theorem k0_off215_inb : ∀ (v0 : BitVec 32) (k0_hw25 : k0_chk25 v0) (k0_t2 : Fin (k0_t2_loop v0).trips), ∀ a, (k0_off215 v0 k0_t2) a + S1x1x2x128x256.size a ≤ S4x8x2x128x256.size a := fun v0 k0_hw25 k0_t2 => k0_hw25.2.2.2.1.2.2.2.2.2.2.2.2.2.2.2.2.2.2.1 k0_t2
theorem k0_off215_wordsfp8e4m3 : ∀ (v0 : BitVec 32) (k0_hw25 : k0_chk25 v0) (k0_t2 : Fin (k0_t2_loop v0).trips), (Rect.unit (s := S4x8x2x128x256) (k0_off215 v0 k0_t2) S1x1x2x128x256.size (k0_off215_inb v0 k0_hw25 k0_t2)).WholeWords (EltTy.packing .fp8e4m3) := fun v0 k0_hw25 k0_t2 => k0_hw25.2.2.2.1.2.2.2.2.2.2.2.2.2.2.2.2.2.2.2.1 k0_t2 (k0_off215_inb v0 k0_hw25 k0_t2)
theorem k0_off217_inb : ∀ (v0 : BitVec 32) (k0_hw25 : k0_chk25 v0) (k0_t2 : Fin (k0_t2_loop v0).trips), ∀ a, (k0_off217 v0 k0_t2) a + S1.size a ≤ S4.size a := fun v0 k0_hw25 k0_t2 => k0_hw25.2.2.2.1.2.2.2.2.2.2.2.2.2.2.2.2.2.2.2.2.1 k0_t2
theorem k0_off218_inb : ∀ (v0 : BitVec 32) (k0_hw25 : k0_chk25 v0) (k0_t2 : Fin (k0_t2_loop v0).trips), ∀ a, (k0_off218 v0 k0_t2) a + S1x1x2x128x256.size a ≤ S4x8x2x128x256.size a := fun v0 k0_hw25 k0_t2 => k0_hw25.2.2.2.1.2.2.2.2.2.2.2.2.2.2.2.2.2.2.2.2.2.1 k0_t2
theorem k0_off218_wordsfp8e4m3 : ∀ (v0 : BitVec 32) (k0_hw25 : k0_chk25 v0) (k0_t2 : Fin (k0_t2_loop v0).trips), (Rect.unit (s := S4x8x2x128x256) (k0_off218 v0 k0_t2) S1x1x2x128x256.size (k0_off218_inb v0 k0_hw25 k0_t2)).WholeWords (EltTy.packing .fp8e4m3) := fun v0 k0_hw25 k0_t2 => k0_hw25.2.2.2.1.2.2.2.2.2.2.2.2.2.2.2.2.2.2.2.2.2.2.1 k0_t2 (k0_off218_inb v0 k0_hw25 k0_t2)
theorem k0_off219_inb : ∀ (v0 : BitVec 32) (k0_hw25 : k0_chk25 v0) (k0_t2 : Fin (k0_t2_loop v0).trips), ∀ a, (k0_off219 v0 k0_t2) a + S1.size a ≤ S512.size a := fun v0 k0_hw25 k0_t2 => k0_hw25.2.2.2.1.2.2.2.2.2.2.2.2.2.2.2.2.2.2.2.2.2.2.2.1 k0_t2
theorem k0_off220_inb : ∀ (v0 : BitVec 32) (k0_hw25 : k0_chk25 v0) (k0_t2 : Fin (k0_t2_loop v0).trips), ∀ a, (k0_off220 v0 k0_t2) a + S1x1x2x128x256.size a ≤ S4x8x2x128x256.size a := fun v0 k0_hw25 k0_t2 => k0_hw25.2.2.2.1.2.2.2.2.2.2.2.2.2.2.2.2.2.2.2.2.2.2.2.2.1 k0_t2
theorem k0_off220_wordsfp8e4m3 : ∀ (v0 : BitVec 32) (k0_hw25 : k0_chk25 v0) (k0_t2 : Fin (k0_t2_loop v0).trips), (Rect.unit (s := S4x8x2x128x256) (k0_off220 v0 k0_t2) S1x1x2x128x256.size (k0_off220_inb v0 k0_hw25 k0_t2)).WholeWords (EltTy.packing .fp8e4m3) := fun v0 k0_hw25 k0_t2 => k0_hw25.2.2.2.1.2.2.2.2.2.2.2.2.2.2.2.2.2.2.2.2.2.2.2.2.2.1 k0_t2 (k0_off220_inb v0 k0_hw25 k0_t2)
theorem k0_off222_inb : ∀ (v0 : BitVec 32) (k0_hw25 : k0_chk25 v0) (k0_t2 : Fin (k0_t2_loop v0).trips), ∀ a, (k0_off222 v0 k0_t2) a + S1.size a ≤ S4.size a := fun v0 k0_hw25 k0_t2 => k0_hw25.2.2.2.1.2.2.2.2.2.2.2.2.2.2.2.2.2.2.2.2.2.2.2.2.2.2.1 k0_t2
theorem k0_off223_inb : ∀ (v0 : BitVec 32) (k0_hw25 : k0_chk25 v0) (k0_t2 : Fin (k0_t2_loop v0).trips), ∀ a, (k0_off223 v0 k0_t2) a + S1x1x2x128x256.size a ≤ S4x8x2x128x256.size a := fun v0 k0_hw25 k0_t2 => k0_hw25.2.2.2.1.2.2.2.2.2.2.2.2.2.2.2.2.2.2.2.2.2.2.2.2.2.2.2.1 k0_t2
theorem k0_off223_wordsfp8e4m3 : ∀ (v0 : BitVec 32) (k0_hw25 : k0_chk25 v0) (k0_t2 : Fin (k0_t2_loop v0).trips), (Rect.unit (s := S4x8x2x128x256) (k0_off223 v0 k0_t2) S1x1x2x128x256.size (k0_off223_inb v0 k0_hw25 k0_t2)).WholeWords (EltTy.packing .fp8e4m3) := fun v0 k0_hw25 k0_t2 => k0_hw25.2.2.2.1.2.2.2.2.2.2.2.2.2.2.2.2.2.2.2.2.2.2.2.2.2.2.2.2.1 k0_t2 (k0_off223_inb v0 k0_hw25 k0_t2)
theorem k0_off224_inb : ∀ (v0 : BitVec 32) (k0_hw25 : k0_chk25 v0) (k0_t2 : Fin (k0_t2_loop v0).trips), ∀ a, (k0_off224 v0 k0_t2) a + S1.size a ≤ S512.size a := fun v0 k0_hw25 k0_t2 => k0_hw25.2.2.2.1.2.2.2.2.2.2.2.2.2.2.2.2.2.2.2.2.2.2.2.2.2.2.2.2.2.1 k0_t2
theorem k0_off225_inb : ∀ (v0 : BitVec 32) (k0_hw25 : k0_chk25 v0) (k0_t2 : Fin (k0_t2_loop v0).trips), ∀ a, (k0_off225 v0 k0_t2) a + S1x1x2x128x256.size a ≤ S4x8x2x128x256.size a := fun v0 k0_hw25 k0_t2 => k0_hw25.2.2.2.1.2.2.2.2.2.2.2.2.2.2.2.2.2.2.2.2.2.2.2.2.2.2.2.2.2.2.1 k0_t2
theorem k0_off225_wordsfp8e4m3 : ∀ (v0 : BitVec 32) (k0_hw25 : k0_chk25 v0) (k0_t2 : Fin (k0_t2_loop v0).trips), (Rect.unit (s := S4x8x2x128x256) (k0_off225 v0 k0_t2) S1x1x2x128x256.size (k0_off225_inb v0 k0_hw25 k0_t2)).WholeWords (EltTy.packing .fp8e4m3) := fun v0 k0_hw25 k0_t2 => k0_hw25.2.2.2.1.2.2.2.2.2.2.2.2.2.2.2.2.2.2.2.2.2.2.2.2.2.2.2.2.2.2.2.1 k0_t2 (k0_off225_inb v0 k0_hw25 k0_t2)
theorem k0_off227_inb : ∀ (v0 : BitVec 32) (k0_hw25 : k0_chk25 v0) (k0_t2 : Fin (k0_t2_loop v0).trips), ∀ a, (k0_off227 v0 k0_t2) a + S1.size a ≤ S4.size a := fun v0 k0_hw25 k0_t2 => k0_hw25.2.2.2.1.2.2.2.2.2.2.2.2.2.2.2.2.2.2.2.2.2.2.2.2.2.2.2.2.2.2.2.2.1 k0_t2
theorem k0_off228_inb : ∀ (v0 : BitVec 32) (k0_hw25 : k0_chk25 v0) (k0_t2 : Fin (k0_t2_loop v0).trips), ∀ a, (k0_off228 v0 k0_t2) a + S1x1x2x128x256.size a ≤ S4x8x2x128x256.size a := fun v0 k0_hw25 k0_t2 => k0_hw25.2.2.2.1.2.2.2.2.2.2.2.2.2.2.2.2.2.2.2.2.2.2.2.2.2.2.2.2.2.2.2.2.2.1 k0_t2
theorem k0_off228_wordsfp8e4m3 : ∀ (v0 : BitVec 32) (k0_hw25 : k0_chk25 v0) (k0_t2 : Fin (k0_t2_loop v0).trips), (Rect.unit (s := S4x8x2x128x256) (k0_off228 v0 k0_t2) S1x1x2x128x256.size (k0_off228_inb v0 k0_hw25 k0_t2)).WholeWords (EltTy.packing .fp8e4m3) := fun v0 k0_hw25 k0_t2 => k0_hw25.2.2.2.1.2.2.2.2.2.2.2.2.2.2.2.2.2.2.2.2.2.2.2.2.2.2.2.2.2.2.2.2.2.2.1 k0_t2 (k0_off228_inb v0 k0_hw25 k0_t2)
theorem k0_off229_inb : ∀ (v0 : BitVec 32) (k0_hw25 : k0_chk25 v0) (k0_t2 : Fin (k0_t2_loop v0).trips), ∀ a, (k0_off229 v0 k0_t2) a + S1.size a ≤ S512.size a := fun v0 k0_hw25 k0_t2 => k0_hw25.2.2.2.1.2.2.2.2.2.2.2.2.2.2.2.2.2.2.2.2.2.2.2.2.2.2.2.2.2.2.2.2.2.2.2 k0_t2
theorem k0_off230_inb : ∀ (v0 : BitVec 32) (k0_hw25 : k0_chk25 v0) (k0_t2 : Fin (k0_t2_loop v0).trips), ∀ a, (k0_off230 v0 k0_t2) a + S1x1x2x128x256.size a ≤ S4x8x2x128x256.size a := fun v0 k0_hw25 k0_t2 => k0_hw25.2.2.2.2.1.1 k0_t2
theorem k0_off230_wordsfp8e4m3 : ∀ (v0 : BitVec 32) (k0_hw25 : k0_chk25 v0) (k0_t2 : Fin (k0_t2_loop v0).trips), (Rect.unit (s := S4x8x2x128x256) (k0_off230 v0 k0_t2) S1x1x2x128x256.size (k0_off230_inb v0 k0_hw25 k0_t2)).WholeWords (EltTy.packing .fp8e4m3) := fun v0 k0_hw25 k0_t2 => k0_hw25.2.2.2.2.1.2.1 k0_t2 (k0_off230_inb v0 k0_hw25 k0_t2)
theorem k0_off232_inb : ∀ (v0 : BitVec 32) (k0_hw25 : k0_chk25 v0) (k0_t2 : Fin (k0_t2_loop v0).trips), ∀ a, (k0_off232 v0 k0_t2) a + S1.size a ≤ S4.size a := fun v0 k0_hw25 k0_t2 => k0_hw25.2.2.2.2.1.2.2.1 k0_t2
theorem k0_off233_inb : ∀ (v0 : BitVec 32) (k0_hw25 : k0_chk25 v0) (k0_t2 : Fin (k0_t2_loop v0).trips), ∀ a, (k0_off233 v0 k0_t2) a + S1x1x2x128x256.size a ≤ S4x8x2x128x256.size a := fun v0 k0_hw25 k0_t2 => k0_hw25.2.2.2.2.1.2.2.2.1 k0_t2
theorem k0_off233_wordsfp8e4m3 : ∀ (v0 : BitVec 32) (k0_hw25 : k0_chk25 v0) (k0_t2 : Fin (k0_t2_loop v0).trips), (Rect.unit (s := S4x8x2x128x256) (k0_off233 v0 k0_t2) S1x1x2x128x256.size (k0_off233_inb v0 k0_hw25 k0_t2)).WholeWords (EltTy.packing .fp8e4m3) := fun v0 k0_hw25 k0_t2 => k0_hw25.2.2.2.2.1.2.2.2.2.1 k0_t2 (k0_off233_inb v0 k0_hw25 k0_t2)
theorem k0_off234_inb : ∀ (v0 : BitVec 32) (k0_hw25 : k0_chk25 v0) (k0_t2 : Fin (k0_t2_loop v0).trips), ∀ a, (k0_off234 v0 k0_t2) a + S1.size a ≤ S512.size a := fun v0 k0_hw25 k0_t2 => k0_hw25.2.2.2.2.1.2.2.2.2.2.1 k0_t2
theorem k0_off235_inb : ∀ (v0 : BitVec 32) (k0_hw25 : k0_chk25 v0) (k0_t2 : Fin (k0_t2_loop v0).trips), ∀ a, (k0_off235 v0 k0_t2) a + S1x1x2x128x256.size a ≤ S4x8x2x128x256.size a := fun v0 k0_hw25 k0_t2 => k0_hw25.2.2.2.2.1.2.2.2.2.2.2.1 k0_t2
theorem k0_off235_wordsfp8e4m3 : ∀ (v0 : BitVec 32) (k0_hw25 : k0_chk25 v0) (k0_t2 : Fin (k0_t2_loop v0).trips), (Rect.unit (s := S4x8x2x128x256) (k0_off235 v0 k0_t2) S1x1x2x128x256.size (k0_off235_inb v0 k0_hw25 k0_t2)).WholeWords (EltTy.packing .fp8e4m3) := fun v0 k0_hw25 k0_t2 => k0_hw25.2.2.2.2.1.2.2.2.2.2.2.2.1 k0_t2 (k0_off235_inb v0 k0_hw25 k0_t2)
theorem k0_off237_inb : ∀ (v0 : BitVec 32) (k0_hw25 : k0_chk25 v0) (k0_t2 : Fin (k0_t2_loop v0).trips), ∀ a, (k0_off237 v0 k0_t2) a + S1.size a ≤ S4.size a := fun v0 k0_hw25 k0_t2 => k0_hw25.2.2.2.2.1.2.2.2.2.2.2.2.2.1 k0_t2
theorem k0_off238_inb : ∀ (v0 : BitVec 32) (k0_hw25 : k0_chk25 v0) (k0_t2 : Fin (k0_t2_loop v0).trips), ∀ a, (k0_off238 v0 k0_t2) a + S1x1x2x128x256.size a ≤ S4x8x2x128x256.size a := fun v0 k0_hw25 k0_t2 => k0_hw25.2.2.2.2.1.2.2.2.2.2.2.2.2.2.1 k0_t2
theorem k0_off238_wordsfp8e4m3 : ∀ (v0 : BitVec 32) (k0_hw25 : k0_chk25 v0) (k0_t2 : Fin (k0_t2_loop v0).trips), (Rect.unit (s := S4x8x2x128x256) (k0_off238 v0 k0_t2) S1x1x2x128x256.size (k0_off238_inb v0 k0_hw25 k0_t2)).WholeWords (EltTy.packing .fp8e4m3) := fun v0 k0_hw25 k0_t2 => k0_hw25.2.2.2.2.1.2.2.2.2.2.2.2.2.2.2.1 k0_t2 (k0_off238_inb v0 k0_hw25 k0_t2)
theorem k0_off239_inb : ∀ (v0 : BitVec 32) (k0_hw25 : k0_chk25 v0) (k0_t2 : Fin (k0_t2_loop v0).trips), ∀ a, (k0_off239 v0 k0_t2) a + S1.size a ≤ S512.size a := fun v0 k0_hw25 k0_t2 => k0_hw25.2.2.2.2.1.2.2.2.2.2.2.2.2.2.2.2.1 k0_t2
theorem k0_off240_inb : ∀ (v0 : BitVec 32) (k0_hw25 : k0_chk25 v0) (k0_t2 : Fin (k0_t2_loop v0).trips), ∀ a, (k0_off240 v0 k0_t2) a + S1x1x2x128x256.size a ≤ S4x8x2x128x256.size a := fun v0 k0_hw25 k0_t2 => k0_hw25.2.2.2.2.1.2.2.2.2.2.2.2.2.2.2.2.2.1 k0_t2
theorem k0_off240_wordsfp8e4m3 : ∀ (v0 : BitVec 32) (k0_hw25 : k0_chk25 v0) (k0_t2 : Fin (k0_t2_loop v0).trips), (Rect.unit (s := S4x8x2x128x256) (k0_off240 v0 k0_t2) S1x1x2x128x256.size (k0_off240_inb v0 k0_hw25 k0_t2)).WholeWords (EltTy.packing .fp8e4m3) := fun v0 k0_hw25 k0_t2 => k0_hw25.2.2.2.2.1.2.2.2.2.2.2.2.2.2.2.2.2.2.1 k0_t2 (k0_off240_inb v0 k0_hw25 k0_t2)
theorem k0_off242_inb : ∀ (v0 : BitVec 32) (k0_hw25 : k0_chk25 v0) (k0_t2 : Fin (k0_t2_loop v0).trips), ∀ a, (k0_off242 v0 k0_t2) a + S1.size a ≤ S4.size a := fun v0 k0_hw25 k0_t2 => k0_hw25.2.2.2.2.1.2.2.2.2.2.2.2.2.2.2.2.2.2.2.1 k0_t2
theorem k0_off243_inb : ∀ (v0 : BitVec 32) (k0_hw25 : k0_chk25 v0) (k0_t2 : Fin (k0_t2_loop v0).trips), ∀ a, (k0_off243 v0 k0_t2) a + S1x1x2x128x256.size a ≤ S4x8x2x128x256.size a := fun v0 k0_hw25 k0_t2 => k0_hw25.2.2.2.2.1.2.2.2.2.2.2.2.2.2.2.2.2.2.2.2.1 k0_t2
theorem k0_off243_wordsfp8e4m3 : ∀ (v0 : BitVec 32) (k0_hw25 : k0_chk25 v0) (k0_t2 : Fin (k0_t2_loop v0).trips), (Rect.unit (s := S4x8x2x128x256) (k0_off243 v0 k0_t2) S1x1x2x128x256.size (k0_off243_inb v0 k0_hw25 k0_t2)).WholeWords (EltTy.packing .fp8e4m3) := fun v0 k0_hw25 k0_t2 => k0_hw25.2.2.2.2.1.2.2.2.2.2.2.2.2.2.2.2.2.2.2.2.2.1 k0_t2 (k0_off243_inb v0 k0_hw25 k0_t2)
theorem k0_off244_inb : ∀ (v0 : BitVec 32) (k0_hw25 : k0_chk25 v0) (k0_t2 : Fin (k0_t2_loop v0).trips), ∀ a, (k0_off244 v0 k0_t2) a + S1.size a ≤ S512.size a := fun v0 k0_hw25 k0_t2 => k0_hw25.2.2.2.2.1.2.2.2.2.2.2.2.2.2.2.2.2.2.2.2.2.2.1 k0_t2
theorem k0_off245_inb : ∀ (v0 : BitVec 32) (k0_hw25 : k0_chk25 v0) (k0_t2 : Fin (k0_t2_loop v0).trips), ∀ a, (k0_off245 v0 k0_t2) a + S1x1x2x128x256.size a ≤ S4x8x2x128x256.size a := fun v0 k0_hw25 k0_t2 => k0_hw25.2.2.2.2.1.2.2.2.2.2.2.2.2.2.2.2.2.2.2.2.2.2.2.1 k0_t2
theorem k0_off245_wordsfp8e4m3 : ∀ (v0 : BitVec 32) (k0_hw25 : k0_chk25 v0) (k0_t2 : Fin (k0_t2_loop v0).trips), (Rect.unit (s := S4x8x2x128x256) (k0_off245 v0 k0_t2) S1x1x2x128x256.size (k0_off245_inb v0 k0_hw25 k0_t2)).WholeWords (EltTy.packing .fp8e4m3) := fun v0 k0_hw25 k0_t2 => k0_hw25.2.2.2.2.1.2.2.2.2.2.2.2.2.2.2.2.2.2.2.2.2.2.2.2.1 k0_t2 (k0_off245_inb v0 k0_hw25 k0_t2)
theorem k0_off247_inb : ∀ (v0 : BitVec 32) (k0_hw25 : k0_chk25 v0) (k0_t2 : Fin (k0_t2_loop v0).trips), ∀ a, (k0_off247 v0 k0_t2) a + S1.size a ≤ S4.size a := fun v0 k0_hw25 k0_t2 => k0_hw25.2.2.2.2.1.2.2.2.2.2.2.2.2.2.2.2.2.2.2.2.2.2.2.2.2.1 k0_t2
theorem k0_off248_inb : ∀ (v0 : BitVec 32) (k0_hw25 : k0_chk25 v0) (k0_t2 : Fin (k0_t2_loop v0).trips), ∀ a, (k0_off248 v0 k0_t2) a + S1x1x2x128x256.size a ≤ S4x8x2x128x256.size a := fun v0 k0_hw25 k0_t2 => k0_hw25.2.2.2.2.1.2.2.2.2.2.2.2.2.2.2.2.2.2.2.2.2.2.2.2.2.2.1 k0_t2
theorem k0_off248_wordsfp8e4m3 : ∀ (v0 : BitVec 32) (k0_hw25 : k0_chk25 v0) (k0_t2 : Fin (k0_t2_loop v0).trips), (Rect.unit (s := S4x8x2x128x256) (k0_off248 v0 k0_t2) S1x1x2x128x256.size (k0_off248_inb v0 k0_hw25 k0_t2)).WholeWords (EltTy.packing .fp8e4m3) := fun v0 k0_hw25 k0_t2 => k0_hw25.2.2.2.2.1.2.2.2.2.2.2.2.2.2.2.2.2.2.2.2.2.2.2.2.2.2.2.1 k0_t2 (k0_off248_inb v0 k0_hw25 k0_t2)
theorem k0_off249_inb : ∀ (v0 : BitVec 32) (k0_hw25 : k0_chk25 v0) (k0_t2 : Fin (k0_t2_loop v0).trips), ∀ (k0_h5 : k0_cond5 v0 k0_t2 = 1#1), ∀ a, (k0_off249 v0 k0_t2) a + S1.size a ≤ S512.size a := fun v0 k0_hw25 k0_t2 k0_h5 => k0_hw25.2.2.2.2.1.2.2.2.2.2.2.2.2.2.2.2.2.2.2.2.2.2.2.2.2.2.2.2.1 k0_t2 k0_h5
theorem k0_off250_inb : ∀ (v0 : BitVec 32) (k0_hw25 : k0_chk25 v0) (k0_t2 : Fin (k0_t2_loop v0).trips), ∀ (k0_h5 : k0_cond5 v0 k0_t2 = 1#1), ∀ a, (k0_off250 v0 k0_t2) a + S1.size a ≤ S4.size a := fun v0 k0_hw25 k0_t2 k0_h5 => k0_hw25.2.2.2.2.1.2.2.2.2.2.2.2.2.2.2.2.2.2.2.2.2.2.2.2.2.2.2.2.2.1 k0_t2 k0_h5
theorem k0_off251_inb : ∀ (v0 : BitVec 32) (k0_hw25 : k0_chk25 v0) (k0_t2 : Fin (k0_t2_loop v0).trips), ∀ (k0_h5 : k0_cond5 v0 k0_t2 = 1#1), ∀ a, (k0_off251 v0 k0_t2) a + S1x1x2x128x256.size a ≤ S4x8x2x128x256.size a := fun v0 k0_hw25 k0_t2 k0_h5 => k0_hw25.2.2.2.2.1.2.2.2.2.2.2.2.2.2.2.2.2.2.2.2.2.2.2.2.2.2.2.2.2.2.1 k0_t2 k0_h5
theorem k0_off251_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off251 v0 k0_t2) S1x1x2x128x256.size (k0_off251_inb v0 k0_hw25 k0_t2 k0_h5)).WholeWords (EltTy.packing .fp8e4m3) := fun v0 k0_hw25 k0_t2 k0_h5 => k0_hw25.2.2.2.2.1.2.2.2.2.2.2.2.2.2.2.2.2.2.2.2.2.2.2.2.2.2.2.2.2.2.2.1 k0_t2 k0_h5 (k0_off251_inb v0 k0_hw25 k0_t2 k0_h5)
theorem k0_off253_inb : ∀ (v0 : BitVec 32) (k0_hw25 : k0_chk25 v0) (k0_t2 : Fin (k0_t2_loop v0).trips), ∀ (k0_h5 : k0_cond5 v0 k0_t2 = 1#1), ∀ a, (k0_off253 v0 k0_t2) a + S1.size a ≤ S4.size a := fun v0 k0_hw25 k0_t2 k0_h5 => k0_hw25.2.2.2.2.1.2.2.2.2.2.2.2.2.2.2.2.2.2.2.2.2.2.2.2.2.2.2.2.2.2.2.2.1 k0_t2 k0_h5
theorem k0_off254_inb : ∀ (v0 : BitVec 32) (k0_hw25 : k0_chk25 v0) (k0_t2 : Fin (k0_t2_loop v0).trips), ∀ (k0_h5 : k0_cond5 v0 k0_t2 = 1#1), ∀ a, (k0_off254 v0 k0_t2) a + S1x1x2x128x256.size a ≤ S4x8x2x128x256.size a := fun v0 k0_hw25 k0_t2 k0_h5 => k0_hw25.2.2.2.2.1.2.2.2.2.2.2.2.2.2.2.2.2.2.2.2.2.2.2.2.2.2.2.2.2.2.2.2.2.1 k0_t2 k0_h5
theorem k0_off254_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off254 v0 k0_t2) S1x1x2x128x256.size (k0_off254_inb v0 k0_hw25 k0_t2 k0_h5)).WholeWords (EltTy.packing .fp8e4m3) := fun v0 k0_hw25 k0_t2 k0_h5 => k0_hw25.2.2.2.2.1.2.2.2.2.2.2.2.2.2.2.2.2.2.2.2.2.2.2.2.2.2.2.2.2.2.2.2.2.2.1 k0_t2 k0_h5 (k0_off254_inb v0 k0_hw25 k0_t2 k0_h5)
theorem k0_off255_inb : ∀ (v0 : BitVec 32) (k0_hw25 : k0_chk25 v0) (k0_t2 : Fin (k0_t2_loop v0).trips), ∀ (k0_h5 : k0_cond5 v0 k0_t2 = 1#1), ∀ a, (k0_off255 v0 k0_t2) a + S1.size a ≤ S512.size a := fun v0 k0_hw25 k0_t2 k0_h5 => k0_hw25.2.2.2.2.1.2.2.2.2.2.2.2.2.2.2.2.2.2.2.2.2.2.2.2.2.2.2.2.2.2.2.2.2.2.2.1 k0_t2 k0_h5
theorem k0_off256_inb : ∀ (v0 : BitVec 32) (k0_hw25 : k0_chk25 v0) (k0_t2 : Fin (k0_t2_loop v0).trips), ∀ (k0_h5 : k0_cond5 v0 k0_t2 = 1#1), ∀ a, (k0_off256 v0 k0_t2) a + S1x1x2x128x256.size a ≤ S4x8x2x128x256.size a := fun v0 k0_hw25 k0_t2 k0_h5 => k0_hw25.2.2.2.2.1.2.2.2.2.2.2.2.2.2.2.2.2.2.2.2.2.2.2.2.2.2.2.2.2.2.2.2.2.2.2.2 k0_t2 k0_h5
theorem k0_off256_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off256 v0 k0_t2) S1x1x2x128x256.size (k0_off256_inb v0 k0_hw25 k0_t2 k0_h5)).WholeWords (EltTy.packing .fp8e4m3) := fun v0 k0_hw25 k0_t2 k0_h5 => k0_hw25.2.2.2.2.2.1.1 k0_t2 k0_h5 (k0_off256_inb v0 k0_hw25 k0_t2 k0_h5)
theorem k0_off258_inb : ∀ (v0 : BitVec 32) (k0_hw25 : k0_chk25 v0) (k0_t2 : Fin (k0_t2_loop v0).trips), ∀ (k0_h5 : k0_cond5 v0 k0_t2 = 1#1), ∀ a, (k0_off258 v0 k0_t2) a + S1.size a ≤ S4.size a := fun v0 k0_hw25 k0_t2 k0_h5 => k0_hw25.2.2.2.2.2.1.2.1 k0_t2 k0_h5
theorem k0_off259_inb : ∀ (v0 : BitVec 32) (k0_hw25 : k0_chk25 v0) (k0_t2 : Fin (k0_t2_loop v0).trips), ∀ (k0_h5 : k0_cond5 v0 k0_t2 = 1#1), ∀ a, (k0_off259 v0 k0_t2) a + S1x1x2x128x256.size a ≤ S4x8x2x128x256.size a := fun v0 k0_hw25 k0_t2 k0_h5 => k0_hw25.2.2.2.2.2.1.2.2.1 k0_t2 k0_h5
theorem k0_off259_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off259 v0 k0_t2) S1x1x2x128x256.size (k0_off259_inb v0 k0_hw25 k0_t2 k0_h5)).WholeWords (EltTy.packing .fp8e4m3) := fun v0 k0_hw25 k0_t2 k0_h5 => k0_hw25.2.2.2.2.2.1.2.2.2.1 k0_t2 k0_h5 (k0_off259_inb v0 k0_hw25 k0_t2 k0_h5)
theorem k0_off260_inb : ∀ (v0 : BitVec 32) (k0_hw25 : k0_chk25 v0) (k0_t2 : Fin (k0_t2_loop v0).trips), ∀ (k0_h5 : k0_cond5 v0 k0_t2 = 1#1), ∀ a, (k0_off260 v0 k0_t2) a + S1.size a ≤ S512.size a := fun v0 k0_hw25 k0_t2 k0_h5 => k0_hw25.2.2.2.2.2.1.2.2.2.2.1 k0_t2 k0_h5
theorem k0_off261_inb : ∀ (v0 : BitVec 32) (k0_hw25 : k0_chk25 v0) (k0_t2 : Fin (k0_t2_loop v0).trips), ∀ (k0_h5 : k0_cond5 v0 k0_t2 = 1#1), ∀ a, (k0_off261 v0 k0_t2) a + S1x1x2x128x256.size a ≤ S4x8x2x128x256.size a := fun v0 k0_hw25 k0_t2 k0_h5 => k0_hw25.2.2.2.2.2.1.2.2.2.2.2.1 k0_t2 k0_h5
theorem k0_off261_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off261 v0 k0_t2) S1x1x2x128x256.size (k0_off261_inb v0 k0_hw25 k0_t2 k0_h5)).WholeWords (EltTy.packing .fp8e4m3) := fun v0 k0_hw25 k0_t2 k0_h5 => k0_hw25.2.2.2.2.2.1.2.2.2.2.2.2.1 k0_t2 k0_h5 (k0_off261_inb v0 k0_hw25 k0_t2 k0_h5)
theorem k0_off263_inb : ∀ (v0 : BitVec 32) (k0_hw25 : k0_chk25 v0) (k0_t2 : Fin (k0_t2_loop v0).trips), ∀ (k0_h5 : k0_cond5 v0 k0_t2 = 1#1), ∀ a, (k0_off263 v0 k0_t2) a + S1.size a ≤ S4.size a := fun v0 k0_hw25 k0_t2 k0_h5 => k0_hw25.2.2.2.2.2.1.2.2.2.2.2.2.2.1 k0_t2 k0_h5
theorem k0_off264_inb : ∀ (v0 : BitVec 32) (k0_hw25 : k0_chk25 v0) (k0_t2 : Fin (k0_t2_loop v0).trips), ∀ (k0_h5 : k0_cond5 v0 k0_t2 = 1#1), ∀ a, (k0_off264 v0 k0_t2) a + S1x1x2x128x256.size a ≤ S4x8x2x128x256.size a := fun v0 k0_hw25 k0_t2 k0_h5 => k0_hw25.2.2.2.2.2.1.2.2.2.2.2.2.2.2.1 k0_t2 k0_h5
theorem k0_off264_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off264 v0 k0_t2) S1x1x2x128x256.size (k0_off264_inb v0 k0_hw25 k0_t2 k0_h5)).WholeWords (EltTy.packing .fp8e4m3) := fun v0 k0_hw25 k0_t2 k0_h5 => k0_hw25.2.2.2.2.2.1.2.2.2.2.2.2.2.2.2.1 k0_t2 k0_h5 (k0_off264_inb v0 k0_hw25 k0_t2 k0_h5)
theorem k0_off265_inb : ∀ (v0 : BitVec 32) (k0_hw25 : k0_chk25 v0) (k0_t2 : Fin (k0_t2_loop v0).trips), ∀ (k0_h5 : k0_cond5 v0 k0_t2 = 1#1), ∀ a, (k0_off265 v0 k0_t2) a + S1.size a ≤ S512.size a := fun v0 k0_hw25 k0_t2 k0_h5 => k0_hw25.2.2.2.2.2.1.2.2.2.2.2.2.2.2.2.2.1 k0_t2 k0_h5
theorem k0_off266_inb : ∀ (v0 : BitVec 32) (k0_hw25 : k0_chk25 v0) (k0_t2 : Fin (k0_t2_loop v0).trips), ∀ (k0_h5 : k0_cond5 v0 k0_t2 = 1#1), ∀ a, (k0_off266 v0 k0_t2) a + S1x1x2x128x256.size a ≤ S4x8x2x128x256.size a := fun v0 k0_hw25 k0_t2 k0_h5 => k0_hw25.2.2.2.2.2.1.2.2.2.2.2.2.2.2.2.2.2.1 k0_t2 k0_h5
theorem k0_off266_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off266 v0 k0_t2) S1x1x2x128x256.size (k0_off266_inb v0 k0_hw25 k0_t2 k0_h5)).WholeWords (EltTy.packing .fp8e4m3) := fun v0 k0_hw25 k0_t2 k0_h5 => k0_hw25.2.2.2.2.2.1.2.2.2.2.2.2.2.2.2.2.2.2.1 k0_t2 k0_h5 (k0_off266_inb v0 k0_hw25 k0_t2 k0_h5)
theorem k0_off268_inb : ∀ (v0 : BitVec 32) (k0_hw25 : k0_chk25 v0) (k0_t2 : Fin (k0_t2_loop v0).trips), ∀ (k0_h5 : k0_cond5 v0 k0_t2 = 1#1), ∀ a, (k0_off268 v0 k0_t2) a + S1.size a ≤ S4.size a := fun v0 k0_hw25 k0_t2 k0_h5 => k0_hw25.2.2.2.2.2.1.2.2.2.2.2.2.2.2.2.2.2.2.2.1 k0_t2 k0_h5
theorem k0_off269_inb : ∀ (v0 : BitVec 32) (k0_hw25 : k0_chk25 v0) (k0_t2 : Fin (k0_t2_loop v0).trips), ∀ (k0_h5 : k0_cond5 v0 k0_t2 = 1#1), ∀ a, (k0_off269 v0 k0_t2) a + S1x1x2x128x256.size a ≤ S4x8x2x128x256.size a := fun v0 k0_hw25 k0_t2 k0_h5 => k0_hw25.2.2.2.2.2.1.2.2.2.2.2.2.2.2.2.2.2.2.2.2.1 k0_t2 k0_h5
theorem k0_off269_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off269 v0 k0_t2) S1x1x2x128x256.size (k0_off269_inb v0 k0_hw25 k0_t2 k0_h5)).WholeWords (EltTy.packing .fp8e4m3) := fun v0 k0_hw25 k0_t2 k0_h5 => k0_hw25.2.2.2.2.2.1.2.2.2.2.2.2.2.2.2.2.2.2.2.2.2.1 k0_t2 k0_h5 (k0_off269_inb v0 k0_hw25 k0_t2 k0_h5)
theorem k0_off270_inb : ∀ (v0 : BitVec 32) (k0_hw25 : k0_chk25 v0) (k0_t2 : Fin (k0_t2_loop v0).trips), ∀ (k0_h5 : k0_cond5 v0 k0_t2 = 1#1), ∀ a, (k0_off270 v0 k0_t2) a + S1.size a ≤ S512.size a := fun v0 k0_hw25 k0_t2 k0_h5 => k0_hw25.2.2.2.2.2.1.2.2.2.2.2.2.2.2.2.2.2.2.2.2.2.2.1 k0_t2 k0_h5
theorem k0_off271_inb : ∀ (v0 : BitVec 32) (k0_hw25 : k0_chk25 v0) (k0_t2 : Fin (k0_t2_loop v0).trips), ∀ (k0_h5 : k0_cond5 v0 k0_t2 = 1#1), ∀ a, (k0_off271 v0 k0_t2) a + S1x1x2x128x256.size a ≤ S4x8x2x128x256.size a := fun v0 k0_hw25 k0_t2 k0_h5 => k0_hw25.2.2.2.2.2.1.2.2.2.2.2.2.2.2.2.2.2.2.2.2.2.2.2.1 k0_t2 k0_h5
theorem k0_off271_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off271 v0 k0_t2) S1x1x2x128x256.size (k0_off271_inb v0 k0_hw25 k0_t2 k0_h5)).WholeWords (EltTy.packing .fp8e4m3) := fun v0 k0_hw25 k0_t2 k0_h5 => k0_hw25.2.2.2.2.2.1.2.2.2.2.2.2.2.2.2.2.2.2.2.2.2.2.2.2.1 k0_t2 k0_h5 (k0_off271_inb v0 k0_hw25 k0_t2 k0_h5)
theorem k0_off273_inb : ∀ (v0 : BitVec 32) (k0_hw25 : k0_chk25 v0) (k0_t2 : Fin (k0_t2_loop v0).trips), ∀ (k0_h5 : k0_cond5 v0 k0_t2 = 1#1), ∀ a, (k0_off273 v0 k0_t2) a + S1.size a ≤ S4.size a := fun v0 k0_hw25 k0_t2 k0_h5 => k0_hw25.2.2.2.2.2.1.2.2.2.2.2.2.2.2.2.2.2.2.2.2.2.2.2.2.2.1 k0_t2 k0_h5
theorem k0_off274_inb : ∀ (v0 : BitVec 32) (k0_hw25 : k0_chk25 v0) (k0_t2 : Fin (k0_t2_loop v0).trips), ∀ (k0_h5 : k0_cond5 v0 k0_t2 = 1#1), ∀ a, (k0_off274 v0 k0_t2) a + S1x1x2x128x256.size a ≤ S4x8x2x128x256.size a := fun v0 k0_hw25 k0_t2 k0_h5 => k0_hw25.2.2.2.2.2.1.2.2.2.2.2.2.2.2.2.2.2.2.2.2.2.2.2.2.2.2.1 k0_t2 k0_h5
theorem k0_off274_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off274 v0 k0_t2) S1x1x2x128x256.size (k0_off274_inb v0 k0_hw25 k0_t2 k0_h5)).WholeWords (EltTy.packing .fp8e4m3) := fun v0 k0_hw25 k0_t2 k0_h5 => k0_hw25.2.2.2.2.2.1.2.2.2.2.2.2.2.2.2.2.2.2.2.2.2.2.2.2.2.2.2.1 k0_t2 k0_h5 (k0_off274_inb v0 k0_hw25 k0_t2 k0_h5)
theorem k0_off275_inb : ∀ (v0 : BitVec 32) (k0_hw25 : k0_chk25 v0) (k0_t2 : Fin (k0_t2_loop v0).trips), ∀ (k0_h5 : k0_cond5 v0 k0_t2 = 1#1), ∀ a, (k0_off275 v0 k0_t2) a + S1.size a ≤ S512.size a := fun v0 k0_hw25 k0_t2 k0_h5 => k0_hw25.2.2.2.2.2.1.2.2.2.2.2.2.2.2.2.2.2.2.2.2.2.2.2.2.2.2.2.2.1 k0_t2 k0_h5
theorem k0_off276_inb : ∀ (v0 : BitVec 32) (k0_hw25 : k0_chk25 v0) (k0_t2 : Fin (k0_t2_loop v0).trips), ∀ (k0_h5 : k0_cond5 v0 k0_t2 = 1#1), ∀ a, (k0_off276 v0 k0_t2) a + S1x1x2x128x256.size a ≤ S4x8x2x128x256.size a := fun v0 k0_hw25 k0_t2 k0_h5 => k0_hw25.2.2.2.2.2.1.2.2.2.2.2.2.2.2.2.2.2.2.2.2.2.2.2.2.2.2.2.2.2.1 k0_t2 k0_h5
theorem k0_off276_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off276 v0 k0_t2) S1x1x2x128x256.size (k0_off276_inb v0 k0_hw25 k0_t2 k0_h5)).WholeWords (EltTy.packing .fp8e4m3) := fun v0 k0_hw25 k0_t2 k0_h5 => k0_hw25.2.2.2.2.2.1.2.2.2.2.2.2.2.2.2.2.2.2.2.2.2.2.2.2.2.2.2.2.2.2.1 k0_t2 k0_h5 (k0_off276_inb v0 k0_hw25 k0_t2 k0_h5)
theorem k0_off278_inb : ∀ (v0 : BitVec 32) (k0_hw25 : k0_chk25 v0) (k0_t2 : Fin (k0_t2_loop v0).trips), ∀ (k0_h5 : k0_cond5 v0 k0_t2 = 1#1), ∀ a, (k0_off278 v0 k0_t2) a + S1.size a ≤ S4.size a := fun v0 k0_hw25 k0_t2 k0_h5 => k0_hw25.2.2.2.2.2.1.2.2.2.2.2.2.2.2.2.2.2.2.2.2.2.2.2.2.2.2.2.2.2.2.2.1 k0_t2 k0_h5
theorem k0_off279_inb : ∀ (v0 : BitVec 32) (k0_hw25 : k0_chk25 v0) (k0_t2 : Fin (k0_t2_loop v0).trips), ∀ (k0_h5 : k0_cond5 v0 k0_t2 = 1#1), ∀ a, (k0_off279 v0 k0_t2) a + S1x1x2x128x256.size a ≤ S4x8x2x128x256.size a := fun v0 k0_hw25 k0_t2 k0_h5 => k0_hw25.2.2.2.2.2.1.2.2.2.2.2.2.2.2.2.2.2.2.2.2.2.2.2.2.2.2.2.2.2.2.2.2.1 k0_t2 k0_h5
theorem k0_off279_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off279 v0 k0_t2) S1x1x2x128x256.size (k0_off279_inb v0 k0_hw25 k0_t2 k0_h5)).WholeWords (EltTy.packing .fp8e4m3) := fun v0 k0_hw25 k0_t2 k0_h5 => k0_hw25.2.2.2.2.2.1.2.2.2.2.2.2.2.2.2.2.2.2.2.2.2.2.2.2.2.2.2.2.2.2.2.2.2.1 k0_t2 k0_h5 (k0_off279_inb v0 k0_hw25 k0_t2 k0_h5)
theorem k0_off280_inb : ∀ (v0 : BitVec 32) (k0_hw25 : k0_chk25 v0) (k0_t2 : Fin (k0_t2_loop v0).trips), ∀ (k0_h5 : k0_cond5 v0 k0_t2 = 1#1), ∀ a, (k0_off280 v0 k0_t2) a + S1.size a ≤ S512.size a := fun v0 k0_hw25 k0_t2 k0_h5 => k0_hw25.2.2.2.2.2.1.2.2.2.2.2.2.2.2.2.2.2.2.2.2.2.2.2.2.2.2.2.2.2.2.2.2.2.2.1 k0_t2 k0_h5
theorem k0_off281_inb : ∀ (v0 : BitVec 32) (k0_hw25 : k0_chk25 v0) (k0_t2 : Fin (k0_t2_loop v0).trips), ∀ (k0_h5 : k0_cond5 v0 k0_t2 = 1#1), ∀ a, (k0_off281 v0 k0_t2) a + S1x1x2x128x256.size a ≤ S4x8x2x128x256.size a := fun v0 k0_hw25 k0_t2 k0_h5 => k0_hw25.2.2.2.2.2.1.2.2.2.2.2.2.2.2.2.2.2.2.2.2.2.2.2.2.2.2.2.2.2.2.2.2.2.2.2.1 k0_t2 k0_h5
theorem k0_off281_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off281 v0 k0_t2) S1x1x2x128x256.size (k0_off281_inb v0 k0_hw25 k0_t2 k0_h5)).WholeWords (EltTy.packing .fp8e4m3) := fun v0 k0_hw25 k0_t2 k0_h5 => k0_hw25.2.2.2.2.2.1.2.2.2.2.2.2.2.2.2.2.2.2.2.2.2.2.2.2.2.2.2.2.2.2.2.2.2.2.2.2.1 k0_t2 k0_h5 (k0_off281_inb v0 k0_hw25 k0_t2 k0_h5)
theorem k0_off283_inb : ∀ (v0 : BitVec 32) (k0_hw25 : k0_chk25 v0) (k0_t2 : Fin (k0_t2_loop v0).trips), ∀ (k0_h5 : k0_cond5 v0 k0_t2 = 1#1), ∀ a, (k0_off283 v0 k0_t2) a + S1.size a ≤ S4.size a := fun v0 k0_hw25 k0_t2 k0_h5 => k0_hw25.2.2.2.2.2.1.2.2.2.2.2.2.2.2.2.2.2.2.2.2.2.2.2.2.2.2.2.2.2.2.2.2.2.2.2.2.2 k0_t2 k0_h5
theorem k0_off284_inb : ∀ (v0 : BitVec 32) (k0_hw25 : k0_chk25 v0) (k0_t2 : Fin (k0_t2_loop v0).trips), ∀ (k0_h5 : k0_cond5 v0 k0_t2 = 1#1), ∀ a, (k0_off284 v0 k0_t2) a + S1x1x2x128x256.size a ≤ S4x8x2x128x256.size a := fun v0 k0_hw25 k0_t2 k0_h5 => k0_hw25.2.2.2.2.2.2.1.1 k0_t2 k0_h5
theorem k0_off284_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off284 v0 k0_t2) S1x1x2x128x256.size (k0_off284_inb v0 k0_hw25 k0_t2 k0_h5)).WholeWords (EltTy.packing .fp8e4m3) := fun v0 k0_hw25 k0_t2 k0_h5 => k0_hw25.2.2.2.2.2.2.1.2.1 k0_t2 k0_h5 (k0_off284_inb v0 k0_hw25 k0_t2 k0_h5)
theorem k0_off285_inb : ∀ (v0 : BitVec 32) (k0_hw25 : k0_chk25 v0) (k0_t2 : Fin (k0_t2_loop v0).trips), ∀ (k0_h5 : k0_cond5 v0 k0_t2 = 1#1), ∀ a, (k0_off285 v0 k0_t2) a + S1.size a ≤ S512.size a := fun v0 k0_hw25 k0_t2 k0_h5 => k0_hw25.2.2.2.2.2.2.1.2.2.1 k0_t2 k0_h5
theorem k0_off286_inb : ∀ (v0 : BitVec 32) (k0_hw25 : k0_chk25 v0) (k0_t2 : Fin (k0_t2_loop v0).trips), ∀ (k0_h5 : k0_cond5 v0 k0_t2 = 1#1), ∀ a, (k0_off286 v0 k0_t2) a + S1x1x2x128x256.size a ≤ S4x8x2x128x256.size a := fun v0 k0_hw25 k0_t2 k0_h5 => k0_hw25.2.2.2.2.2.2.1.2.2.2.1 k0_t2 k0_h5
theorem k0_off286_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off286 v0 k0_t2) S1x1x2x128x256.size (k0_off286_inb v0 k0_hw25 k0_t2 k0_h5)).WholeWords (EltTy.packing .fp8e4m3) := fun v0 k0_hw25 k0_t2 k0_h5 => k0_hw25.2.2.2.2.2.2.1.2.2.2.2.1 k0_t2 k0_h5 (k0_off286_inb v0 k0_hw25 k0_t2 k0_h5)
theorem k0_off288_inb : ∀ (v0 : BitVec 32) (k0_hw25 : k0_chk25 v0) (k0_t2 : Fin (k0_t2_loop v0).trips), ∀ (k0_h5 : k0_cond5 v0 k0_t2 = 1#1), ∀ a, (k0_off288 v0 k0_t2) a + S1.size a ≤ S4.size a := fun v0 k0_hw25 k0_t2 k0_h5 => k0_hw25.2.2.2.2.2.2.1.2.2.2.2.2.1 k0_t2 k0_h5
theorem k0_off289_inb : ∀ (v0 : BitVec 32) (k0_hw25 : k0_chk25 v0) (k0_t2 : Fin (k0_t2_loop v0).trips), ∀ (k0_h5 : k0_cond5 v0 k0_t2 = 1#1), ∀ a, (k0_off289 v0 k0_t2) a + S1x1x2x128x256.size a ≤ S4x8x2x128x256.size a := fun v0 k0_hw25 k0_t2 k0_h5 => k0_hw25.2.2.2.2.2.2.1.2.2.2.2.2.2.1 k0_t2 k0_h5
theorem k0_off289_wordsfp8e4m3 : ∀ (v0 : BitVec 32) (k0_hw25 : k0_chk25 v0) (k0_t2 : Fin (k0_t2_loop v0).trips), ∀ (k0_h5 : k0_cond5 v0 k0_t2 = 1#1), (Rect.unit (s := S4x8x2x128x256) (k0_off289 v0 k0_t2) S1x1x2x128x256.size (k0_off289_inb v0 k0_hw25 k0_t2 k0_h5)).WholeWords (EltTy.packing .fp8e4m3) := fun v0 k0_hw25 k0_t2 k0_h5 => k0_hw25.2.2.2.2.2.2.1.2.2.2.2.2.2.2.1 k0_t2 k0_h5 (k0_off289_inb v0 k0_hw25 k0_t2 k0_h5)
theorem k0_off290_inb : ∀ (v0 : BitVec 32) (k0_hw25 : k0_chk25 v0) (k0_t2 : Fin (k0_t2_loop v0).trips), ∀ a, (k0_off290 v0 k0_t2) a + S1x8x1x128x256.size a ≤ S4x8x2x128x256.size a := fun v0 k0_hw25 k0_t2 => k0_hw25.2.2.2.2.2.2.1.2.2.2.2.2.2.2.2.1 k0_t2
theorem k0_off291_inb : ∀ (v0 : BitVec 32) (k0_hw25 : k0_chk25 v0) (k0_t2 : Fin (k0_t2_loop v0).trips), ∀ a, (k0_off291 v0 k0_t2) a + S1x8x1x128x256.size a ≤ S4x8x2x128x256.size a := fun v0 k0_hw25 k0_t2 => k0_hw25.2.2.2.2.2.2.1.2.2.2.2.2.2.2.2.2.1 k0_t2
theorem k0_off292_inb : ∀ (v0 : BitVec 32) (k0_hw25 : k0_chk25 v0), ∀ a, (k0_off292 v0) a + S1.size a ≤ S512.size a := fun v0 k0_hw25 => k0_hw25.2.2.2.2.2.2.1.2.2.2.2.2.2.2.2.2.2.1
theorem k0_off293_inb : ∀ (v0 : BitVec 32) (k0_hw25 : k0_chk25 v0), ∀ a, (k0_off293 v0) a + S1.size a ≤ S4.size a := fun v0 k0_hw25 => k0_hw25.2.2.2.2.2.2.1.2.2.2.2.2.2.2.2.2.2.2.1
theorem k0_off294_inb : ∀ (v0 : BitVec 32) (k0_hw25 : k0_chk25 v0), ∀ a, (k0_off294 v0) a + S1x1x2x128x256.size a ≤ S4x8x2x128x256.size a := fun v0 k0_hw25 => k0_hw25.2.2.2.2.2.2.1.2.2.2.2.2.2.2.2.2.2.2.2.1
theorem k0_off294_wordsfp8e4m3 : ∀ (v0 : BitVec 32) (k0_hw25 : k0_chk25 v0), (Rect.unit (s := S4x8x2x128x256) (k0_off294 v0) S1x1x2x128x256.size (k0_off294_inb v0 k0_hw25)).WholeWords (EltTy.packing .fp8e4m3) := fun v0 k0_hw25 => k0_hw25.2.2.2.2.2.2.1.2.2.2.2.2.2.2.2.2.2.2.2.2.1 (k0_off294_inb v0 k0_hw25)
theorem k0_off296_inb : ∀ (v0 : BitVec 32) (k0_hw25 : k0_chk25 v0), ∀ a, (k0_off296 v0) a + S1.size a ≤ S4.size a := fun v0 k0_hw25 => k0_hw25.2.2.2.2.2.2.1.2.2.2.2.2.2.2.2.2.2.2.2.2.2.1
theorem k0_off297_inb : ∀ (v0 : BitVec 32) (k0_hw25 : k0_chk25 v0), ∀ a, (k0_off297 v0) a + S1x1x2x128x256.size a ≤ S4x8x2x128x256.size a := fun v0 k0_hw25 => k0_hw25.2.2.2.2.2.2.1.2.2.2.2.2.2.2.2.2.2.2.2.2.2.2.1
theorem k0_off297_wordsfp8e4m3 : ∀ (v0 : BitVec 32) (k0_hw25 : k0_chk25 v0), (Rect.unit (s := S4x8x2x128x256) (k0_off297 v0) S1x1x2x128x256.size (k0_off297_inb v0 k0_hw25)).WholeWords (EltTy.packing .fp8e4m3) := fun v0 k0_hw25 => k0_hw25.2.2.2.2.2.2.1.2.2.2.2.2.2.2.2.2.2.2.2.2.2.2.2.1 (k0_off297_inb v0 k0_hw25)
theorem k0_off298_inb : ∀ (v0 : BitVec 32) (k0_hw25 : k0_chk25 v0), ∀ a, (k0_off298 v0) a + S1.size a ≤ S512.size a := fun v0 k0_hw25 => k0_hw25.2.2.2.2.2.2.1.2.2.2.2.2.2.2.2.2.2.2.2.2.2.2.2.2.1
theorem k0_off299_inb : ∀ (v0 : BitVec 32) (k0_hw25 : k0_chk25 v0), ∀ a, (k0_off299 v0) a + S1x1x2x128x256.size a ≤ S4x8x2x128x256.size a := fun v0 k0_hw25 => k0_hw25.2.2.2.2.2.2.1.2.2.2.2.2.2.2.2.2.2.2.2.2.2.2.2.2.2.1
theorem k0_off299_wordsfp8e4m3 : ∀ (v0 : BitVec 32) (k0_hw25 : k0_chk25 v0), (Rect.unit (s := S4x8x2x128x256) (k0_off299 v0) S1x1x2x128x256.size (k0_off299_inb v0 k0_hw25)).WholeWords (EltTy.packing .fp8e4m3) := fun v0 k0_hw25 => k0_hw25.2.2.2.2.2.2.1.2.2.2.2.2.2.2.2.2.2.2.2.2.2.2.2.2.2.2.1 (k0_off299_inb v0 k0_hw25)
theorem k0_off301_inb : ∀ (v0 : BitVec 32) (k0_hw25 : k0_chk25 v0), ∀ a, (k0_off301 v0) a + S1.size a ≤ S4.size a := fun v0 k0_hw25 => k0_hw25.2.2.2.2.2.2.1.2.2.2.2.2.2.2.2.2.2.2.2.2.2.2.2.2.2.2.2.1
theorem k0_off302_inb : ∀ (v0 : BitVec 32) (k0_hw25 : k0_chk25 v0), ∀ a, (k0_off302 v0) a + S1x1x2x128x256.size a ≤ S4x8x2x128x256.size a := fun v0 k0_hw25 => k0_hw25.2.2.2.2.2.2.1.2.2.2.2.2.2.2.2.2.2.2.2.2.2.2.2.2.2.2.2.2.1
theorem k0_off302_wordsfp8e4m3 : ∀ (v0 : BitVec 32) (k0_hw25 : k0_chk25 v0), (Rect.unit (s := S4x8x2x128x256) (k0_off302 v0) S1x1x2x128x256.size (k0_off302_inb v0 k0_hw25)).WholeWords (EltTy.packing .fp8e4m3) := fun v0 k0_hw25 => k0_hw25.2.2.2.2.2.2.1.2.2.2.2.2.2.2.2.2.2.2.2.2.2.2.2.2.2.2.2.2.2.1 (k0_off302_inb v0 k0_hw25)
theorem k0_off303_inb : ∀ (v0 : BitVec 32) (k0_hw25 : k0_chk25 v0), ∀ a, (k0_off303 v0) a + S1.size a ≤ S512.size a := fun v0 k0_hw25 => k0_hw25.2.2.2.2.2.2.1.2.2.2.2.2.2.2.2.2.2.2.2.2.2.2.2.2.2.2.2.2.2.2.1
theorem k0_off304_inb : ∀ (v0 : BitVec 32) (k0_hw25 : k0_chk25 v0), ∀ a, (k0_off304 v0) a + S1x1x2x128x256.size a ≤ S4x8x2x128x256.size a := fun v0 k0_hw25 => k0_hw25.2.2.2.2.2.2.1.2.2.2.2.2.2.2.2.2.2.2.2.2.2.2.2.2.2.2.2.2.2.2.2.1
theorem k0_off304_wordsfp8e4m3 : ∀ (v0 : BitVec 32) (k0_hw25 : k0_chk25 v0), (Rect.unit (s := S4x8x2x128x256) (k0_off304 v0) S1x1x2x128x256.size (k0_off304_inb v0 k0_hw25)).WholeWords (EltTy.packing .fp8e4m3) := fun v0 k0_hw25 => k0_hw25.2.2.2.2.2.2.1.2.2.2.2.2.2.2.2.2.2.2.2.2.2.2.2.2.2.2.2.2.2.2.2.2.1 (k0_off304_inb v0 k0_hw25)
theorem k0_off306_inb : ∀ (v0 : BitVec 32) (k0_hw25 : k0_chk25 v0), ∀ a, (k0_off306 v0) a + S1.size a ≤ S4.size a := fun v0 k0_hw25 => k0_hw25.2.2.2.2.2.2.1.2.2.2.2.2.2.2.2.2.2.2.2.2.2.2.2.2.2.2.2.2.2.2.2.2.2.1
theorem k0_off307_inb : ∀ (v0 : BitVec 32) (k0_hw25 : k0_chk25 v0), ∀ a, (k0_off307 v0) a + S1x1x2x128x256.size a ≤ S4x8x2x128x256.size a := fun v0 k0_hw25 => k0_hw25.2.2.2.2.2.2.1.2.2.2.2.2.2.2.2.2.2.2.2.2.2.2.2.2.2.2.2.2.2.2.2.2.2.2.1
theorem k0_off307_wordsfp8e4m3 : ∀ (v0 : BitVec 32) (k0_hw25 : k0_chk25 v0), (Rect.unit (s := S4x8x2x128x256) (k0_off307 v0) S1x1x2x128x256.size (k0_off307_inb v0 k0_hw25)).WholeWords (EltTy.packing .fp8e4m3) := fun v0 k0_hw25 => k0_hw25.2.2.2.2.2.2.1.2.2.2.2.2.2.2.2.2.2.2.2.2.2.2.2.2.2.2.2.2.2.2.2.2.2.2.2.1 (k0_off307_inb v0 k0_hw25)
theorem k0_off308_inb : ∀ (v0 : BitVec 32) (k0_hw25 : k0_chk25 v0), ∀ a, (k0_off308 v0) a + S1.size a ≤ S512.size a := fun v0 k0_hw25 => k0_hw25.2.2.2.2.2.2.1.2.2.2.2.2.2.2.2.2.2.2.2.2.2.2.2.2.2.2.2.2.2.2.2.2.2.2.2.2.1
theorem k0_off309_inb : ∀ (v0 : BitVec 32) (k0_hw25 : k0_chk25 v0), ∀ a, (k0_off309 v0) a + S1x1x2x128x256.size a ≤ S4x8x2x128x256.size a := fun v0 k0_hw25 => k0_hw25.2.2.2.2.2.2.1.2.2.2.2.2.2.2.2.2.2.2.2.2.2.2.2.2.2.2.2.2.2.2.2.2.2.2.2.2.2.1
theorem k0_off309_wordsfp8e4m3 : ∀ (v0 : BitVec 32) (k0_hw25 : k0_chk25 v0), (Rect.unit (s := S4x8x2x128x256) (k0_off309 v0) S1x1x2x128x256.size (k0_off309_inb v0 k0_hw25)).WholeWords (EltTy.packing .fp8e4m3) := fun v0 k0_hw25 => k0_hw25.2.2.2.2.2.2.1.2.2.2.2.2.2.2.2.2.2.2.2.2.2.2.2.2.2.2.2.2.2.2.2.2.2.2.2.2.2.2 (k0_off309_inb v0 k0_hw25)
theorem k0_off311_inb : ∀ (v0 : BitVec 32) (k0_hw25 : k0_chk25 v0), ∀ a, (k0_off311 v0) a + S1.size a ≤ S4.size a := fun v0 k0_hw25 => k0_hw25.2.2.2.2.2.2.2.1
theorem k0_off312_inb : ∀ (v0 : BitVec 32) (k0_hw25 : k0_chk25 v0), ∀ a, (k0_off312 v0) a + S1x1x2x128x256.size a ≤ S4x8x2x128x256.size a := fun v0 k0_hw25 => k0_hw25.2.2.2.2.2.2.2.2.1
theorem k0_off312_wordsfp8e4m3 : ∀ (v0 : BitVec 32) (k0_hw25 : k0_chk25 v0), (Rect.unit (s := S4x8x2x128x256) (k0_off312 v0) S1x1x2x128x256.size (k0_off312_inb v0 k0_hw25)).WholeWords (EltTy.packing .fp8e4m3) := fun v0 k0_hw25 => k0_hw25.2.2.2.2.2.2.2.2.2.1 (k0_off312_inb v0 k0_hw25)
theorem k0_off313_inb : ∀ (v0 : BitVec 32) (k0_hw25 : k0_chk25 v0), ∀ a, (k0_off313 v0) a + S1.size a ≤ S512.size a := fun v0 k0_hw25 => k0_hw25.2.2.2.2.2.2.2.2.2.2.1
theorem k0_off314_inb : ∀ (v0 : BitVec 32) (k0_hw25 : k0_chk25 v0), ∀ a, (k0_off314 v0) a + S1x1x2x128x256.size a ≤ S4x8x2x128x256.size a := fun v0 k0_hw25 => k0_hw25.2.2.2.2.2.2.2.2.2.2.2.1
theorem k0_off314_wordsfp8e4m3 : ∀ (v0 : BitVec 32) (k0_hw25 : k0_chk25 v0), (Rect.unit (s := S4x8x2x128x256) (k0_off314 v0) S1x1x2x128x256.size (k0_off314_inb v0 k0_hw25)).WholeWords (EltTy.packing .fp8e4m3) := fun v0 k0_hw25 => k0_hw25.2.2.2.2.2.2.2.2.2.2.2.2.1 (k0_off314_inb v0 k0_hw25)
theorem k0_off316_inb : ∀ (v0 : BitVec 32) (k0_hw25 : k0_chk25 v0), ∀ a, (k0_off316 v0) a + S1.size a ≤ S4.size a := fun v0 k0_hw25 => k0_hw25.2.2.2.2.2.2.2.2.2.2.2.2.2.1
theorem k0_off317_inb : ∀ (v0 : BitVec 32) (k0_hw25 : k0_chk25 v0), ∀ a, (k0_off317 v0) a + S1x1x2x128x256.size a ≤ S4x8x2x128x256.size a := fun v0 k0_hw25 => k0_hw25.2.2.2.2.2.2.2.2.2.2.2.2.2.2.1
theorem k0_off317_wordsfp8e4m3 : ∀ (v0 : BitVec 32) (k0_hw25 : k0_chk25 v0), (Rect.unit (s := S4x8x2x128x256) (k0_off317 v0) S1x1x2x128x256.size (k0_off317_inb v0 k0_hw25)).WholeWords (EltTy.packing .fp8e4m3) := fun v0 k0_hw25 => k0_hw25.2.2.2.2.2.2.2.2.2.2.2.2.2.2.2.1 (k0_off317_inb v0 k0_hw25)
theorem k0_off318_inb : ∀ (v0 : BitVec 32) (k0_hw25 : k0_chk25 v0), ∀ a, (k0_off318 v0) a + S1.size a ≤ S512.size a := fun v0 k0_hw25 => k0_hw25.2.2.2.2.2.2.2.2.2.2.2.2.2.2.2.2.1
theorem k0_off319_inb : ∀ (v0 : BitVec 32) (k0_hw25 : k0_chk25 v0), ∀ a, (k0_off319 v0) a + S1x1x2x128x256.size a ≤ S4x8x2x128x256.size a := fun v0 k0_hw25 => k0_hw25.2.2.2.2.2.2.2.2.2.2.2.2.2.2.2.2.2.1
theorem k0_off319_wordsfp8e4m3 : ∀ (v0 : BitVec 32) (k0_hw25 : k0_chk25 v0), (Rect.unit (s := S4x8x2x128x256) (k0_off319 v0) S1x1x2x128x256.size (k0_off319_inb v0 k0_hw25)).WholeWords (EltTy.packing .fp8e4m3) := fun v0 k0_hw25 => k0_hw25.2.2.2.2.2.2.2.2.2.2.2.2.2.2.2.2.2.2.1 (k0_off319_inb v0 k0_hw25)
theorem k0_off321_inb : ∀ (v0 : BitVec 32) (k0_hw25 : k0_chk25 v0), ∀ a, (k0_off321 v0) a + S1.size a ≤ S4.size a := fun v0 k0_hw25 => k0_hw25.2.2.2.2.2.2.2.2.2.2.2.2.2.2.2.2.2.2.2.1
theorem k0_off322_inb : ∀ (v0 : BitVec 32) (k0_hw25 : k0_chk25 v0), ∀ a, (k0_off322 v0) a + S1x1x2x128x256.size a ≤ S4x8x2x128x256.size a := fun v0 k0_hw25 => k0_hw25.2.2.2.2.2.2.2.2.2.2.2.2.2.2.2.2.2.2.2.2.1
theorem k0_off322_wordsfp8e4m3 : ∀ (v0 : BitVec 32) (k0_hw25 : k0_chk25 v0), (Rect.unit (s := S4x8x2x128x256) (k0_off322 v0) S1x1x2x128x256.size (k0_off322_inb v0 k0_hw25)).WholeWords (EltTy.packing .fp8e4m3) := fun v0 k0_hw25 => k0_hw25.2.2.2.2.2.2.2.2.2.2.2.2.2.2.2.2.2.2.2.2.2.1 (k0_off322_inb v0 k0_hw25)
theorem k0_off323_inb : ∀ (v0 : BitVec 32) (k0_hw25 : k0_chk25 v0), ∀ a, (k0_off323 v0) a + S1.size a ≤ S512.size a := fun v0 k0_hw25 => k0_hw25.2.2.2.2.2.2.2.2.2.2.2.2.2.2.2.2.2.2.2.2.2.2.1
theorem k0_off324_inb : ∀ (v0 : BitVec 32) (k0_hw25 : k0_chk25 v0), ∀ a, (k0_off324 v0) a + S1x1x2x128x256.size a ≤ S4x8x2x128x256.size a := fun v0 k0_hw25 => k0_hw25.2.2.2.2.2.2.2.2.2.2.2.2.2.2.2.2.2.2.2.2.2.2.2.1
theorem k0_off324_wordsfp8e4m3 : ∀ (v0 : BitVec 32) (k0_hw25 : k0_chk25 v0), (Rect.unit (s := S4x8x2x128x256) (k0_off324 v0) S1x1x2x128x256.size (k0_off324_inb v0 k0_hw25)).WholeWords (EltTy.packing .fp8e4m3) := fun v0 k0_hw25 => k0_hw25.2.2.2.2.2.2.2.2.2.2.2.2.2.2.2.2.2.2.2.2.2.2.2.2.1 (k0_off324_inb v0 k0_hw25)
theorem k0_off326_inb : ∀ (v0 : BitVec 32) (k0_hw25 : k0_chk25 v0), ∀ a, (k0_off326 v0) a + S1.size a ≤ S4.size a := fun v0 k0_hw25 => k0_hw25.2.2.2.2.2.2.2.2.2.2.2.2.2.2.2.2.2.2.2.2.2.2.2.2.2.1
theorem k0_off327_inb : ∀ (v0 : BitVec 32) (k0_hw25 : k0_chk25 v0), ∀ a, (k0_off327 v0) a + S1x1x2x128x256.size a ≤ S4x8x2x128x256.size a := fun v0 k0_hw25 => k0_hw25.2.2.2.2.2.2.2.2.2.2.2.2.2.2.2.2.2.2.2.2.2.2.2.2.2.2.1
theorem k0_off327_wordsfp8e4m3 : ∀ (v0 : BitVec 32) (k0_hw25 : k0_chk25 v0), (Rect.unit (s := S4x8x2x128x256) (k0_off327 v0) S1x1x2x128x256.size (k0_off327_inb v0 k0_hw25)).WholeWords (EltTy.packing .fp8e4m3) := fun v0 k0_hw25 => k0_hw25.2.2.2.2.2.2.2.2.2.2.2.2.2.2.2.2.2.2.2.2.2.2.2.2.2.2.2.1 (k0_off327_inb v0 k0_hw25)
theorem k0_off328_inb : ∀ (v0 : BitVec 32) (k0_hw25 : k0_chk25 v0), ∀ a, (k0_off328 v0) a + S1.size a ≤ S512.size a := fun v0 k0_hw25 => k0_hw25.2.2.2.2.2.2.2.2.2.2.2.2.2.2.2.2.2.2.2.2.2.2.2.2.2.2.2.2.1
theorem k0_off329_inb : ∀ (v0 : BitVec 32) (k0_hw25 : k0_chk25 v0), ∀ a, (k0_off329 v0) a + S1x1x2x128x256.size a ≤ S4x8x2x128x256.size a := fun v0 k0_hw25 => k0_hw25.2.2.2.2.2.2.2.2.2.2.2.2.2.2.2.2.2.2.2.2.2.2.2.2.2.2.2.2.2.1
theorem k0_off329_wordsfp8e4m3 : ∀ (v0 : BitVec 32) (k0_hw25 : k0_chk25 v0), (Rect.unit (s := S4x8x2x128x256) (k0_off329 v0) S1x1x2x128x256.size (k0_off329_inb v0 k0_hw25)).WholeWords (EltTy.packing .fp8e4m3) := fun v0 k0_hw25 => k0_hw25.2.2.2.2.2.2.2.2.2.2.2.2.2.2.2.2.2.2.2.2.2.2.2.2.2.2.2.2.2.2.1 (k0_off329_inb v0 k0_hw25)
theorem k0_off331_inb : ∀ (v0 : BitVec 32) (k0_hw25 : k0_chk25 v0), ∀ a, (k0_off331 v0) a + S1.size a ≤ S4.size a := fun v0 k0_hw25 => k0_hw25.2.2.2.2.2.2.2.2.2.2.2.2.2.2.2.2.2.2.2.2.2.2.2.2.2.2.2.2.2.2.2.1
theorem k0_off332_inb : ∀ (v0 : BitVec 32) (k0_hw25 : k0_chk25 v0), ∀ a, (k0_off332 v0) a + S1x1x2x128x256.size a ≤ S4x8x2x128x256.size a := fun v0 k0_hw25 => k0_hw25.2.2.2.2.2.2.2.2.2.2.2.2.2.2.2.2.2.2.2.2.2.2.2.2.2.2.2.2.2.2.2.2.1
theorem k0_off332_wordsfp8e4m3 : ∀ (v0 : BitVec 32) (k0_hw25 : k0_chk25 v0), (Rect.unit (s := S4x8x2x128x256) (k0_off332 v0) S1x1x2x128x256.size (k0_off332_inb v0 k0_hw25)).WholeWords (EltTy.packing .fp8e4m3) := fun v0 k0_hw25 => k0_hw25.2.2.2.2.2.2.2.2.2.2.2.2.2.2.2.2.2.2.2.2.2.2.2.2.2.2.2.2.2.2.2.2.2.1 (k0_off332_inb v0 k0_hw25)
theorem k0_off333_inb : ∀ (v0 : BitVec 32) (k0_hw25 : k0_chk25 v0), ∀ a, (k0_off333 v0) a + S1x8x1x128x256.size a ≤ S4x8x2x128x256.size a := fun v0 k0_hw25 => k0_hw25.2.2.2.2.2.2.2.2.2.2.2.2.2.2.2.2.2.2.2.2.2.2.2.2.2.2.2.2.2.2.2.2.2.2.1
theorem k0_off334_inb : ∀ (v0 : BitVec 32) (k0_hw25 : k0_chk25 v0), ∀ a, (k0_off334 v0) a + S1x8x1x128x256.size a ≤ S4x8x2x128x256.size a := fun v0 k0_hw25 => k0_hw25.2.2.2.2.2.2.2.2.2.2.2.2.2.2.2.2.2.2.2.2.2.2.2.2.2.2.2.2.2.2.2.2.2.2.2

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S1x4x8192 : Shape := ⟨3, ![1, 4, 8192]⟩
abbrev S1x4x2x256 : Shape := ⟨4, ![1, 4, 2, 256]⟩
abbrev S512x128x2x256 : Shape := ⟨4, ![512, 128, 2, 256]⟩
abbrev S2 : Shape := ⟨1, ![2]⟩
abbrev S1x512 : Shape := ⟨2, ![1, 512]⟩
abbrev S1 : Shape := ⟨1, ![1]⟩
abbrev S1x1x2x1 : Shape := ⟨4, ![1, 1, 2, 1]⟩
abbrev S1x2x1 : Shape := ⟨3, ![1, 2, 1]⟩
abbrev S1x1 : Shape := ⟨2, ![1, 1]⟩
abbrev S4 : Shape := ⟨1, ![4]⟩
abbrev S1x4 : Shape := ⟨2, ![1, 4]⟩
abbrev S_ : Shape := ⟨0, ![]⟩
abbrev S4x1 : Shape := ⟨2, ![4, 1]⟩
abbrev S1x4x1 : Shape := ⟨3, ![1, 4, 1]⟩
abbrev S1x4x2 : Shape := ⟨3, ![1, 4, 2]⟩
abbrev S1x512x1 : Shape := ⟨3, ![1, 512, 1]⟩
abbrev S1x512x128x2x256 : Shape := ⟨5, ![1, 512, 128, 2, 256]⟩
abbrev S1x65536x2x256 : Shape := ⟨4, ![1, 65536, 2, 256]⟩
abbrev S1x4x2x16x256 : Shape := ⟨5, ![1, 4, 2, 16, 256]⟩
abbrev S1x2x65536x4x16 : Shape := ⟨5, ![1, 2, 65536, 4, 16]⟩
abbrev S1x2x16x4x65536 : Shape := ⟨5, ![1, 2, 16, 4, 65536]⟩
abbrev S65536 : Shape := ⟨1, ![65536]⟩
abbrev S1x1x65536 : Shape := ⟨3, ![1, 1, 65536]⟩
abbrev S1x4x65536 : Shape := ⟨3, ![1, 4, 65536]⟩
abbrev S1x1x1x4x65536 : Shape := ⟨5, ![1, 1, 1, 4, 65536]⟩
abbrev S1x2x16x4 : Shape := ⟨4, ![1, 2, 16, 4]⟩
abbrev S1x2x16x4x1 : Shape := ⟨5, ![1, 2, 16, 4, 1]⟩
abbrev S1x2x16x4x256 : Shape := ⟨5, ![1, 2, 16, 4, 256]⟩
abbrev S128x256 : Shape := ⟨2, ![128, 256]⟩
abbrev S8x256 : Shape := ⟨2, ![8, 256]⟩

abbrev nBuf : Space → Nat
  | .hbm => 141
  | .vmem => 12
  | .smem => 0
  | _ => 0

abbrev hbmTy0_0 (i : Nat) : BufTy := match i % 128 with
  | 0 => ⟨S1x4x8192, .bf16⟩
  | 1 => ⟨S1x4x2x256, .bf16⟩
  | 2 => ⟨S1x4x2x256, .bf16⟩
  | 3 => ⟨S512x128x2x256, .fp8e4m3⟩
  | 4 => ⟨S512x128x2x256, .fp8e4m3⟩
  | 5 => ⟨S2, .f32⟩
  | 6 => ⟨S2, .f32⟩
  | 7 => ⟨S1x512, .i32⟩
  | 8 => ⟨S1, .i32⟩
  | 9 => ⟨S1x4x2x256, .fp8e4m3⟩
  | 10 => ⟨S1x4x2x256, .fp8e4m3⟩
  | 11 => ⟨S1x4x2x256, .bf16⟩
  | 12 => ⟨S1x4x2x256, .bf16⟩
  | 13 => ⟨S512x128x2x256, .bf16⟩
  | 14 => ⟨S512x128x2x256, .bf16⟩
  | 15 => ⟨S1x1, .i32⟩
  | 16 => ⟨S4, .i32⟩
  | 17 => ⟨S1x4, .i32⟩
  | 18 => ⟨S1x4, .i32⟩
  | 19 => ⟨S1x4, .i32⟩
  | 20 => ⟨S_, .i32⟩
  | 21 => ⟨S1x4, .i32⟩
  | 22 => ⟨S1x4, .i32⟩
  | 23 => ⟨S_, .i32⟩
  | 24 => ⟨S1x4, .i32⟩
  | 25 => ⟨S1x4, .i1⟩
  | 26 => ⟨S_, .i32⟩
  | 27 => ⟨S1x4, .i32⟩
  | 28 => ⟨S1x4, .i32⟩
  | 29 => ⟨S1x4, .i32⟩
  | 30 => ⟨S4x1, .i32⟩
  | 31 => ⟨S1, .i32⟩
  | 32 => ⟨S_, .i32⟩
  | 33 => ⟨S4x1, .i32⟩
  | 34 => ⟨S4x1, .i1⟩
  | 35 => ⟨S1x1, .i32⟩
  | 36 => ⟨S4x1, .i32⟩
  | 37 => ⟨S4x1, .i1⟩
  | 38 => ⟨S4x1, .i1⟩
  | 39 => ⟨S_, .i1⟩
  | 40 => ⟨S4, .i1⟩
  | 41 => ⟨S1x4, .i32⟩
  | 42 => ⟨S1x4, .i1⟩
  | 43 => ⟨S_, .i32⟩
  | 44 => ⟨S1x4, .i32⟩
  | 45 => ⟨S1x4, .i32⟩
  | 46 => ⟨S_, .i32⟩
  | 47 => ⟨S1x4, .i32⟩
  | 48 => ⟨S1x4, .i32⟩
  | 49 => ⟨S_, .i32⟩
  | 50 => ⟨S1x4, .i32⟩
  | 51 => ⟨S1x4, .i1⟩
  | 52 => ⟨S_, .i32⟩
  | 53 => ⟨S1x4, .i32⟩
  | 54 => ⟨S1x4, .i32⟩
  | 55 => ⟨S1x4, .i32⟩
  | 56 => ⟨S_, .i32⟩
  | 57 => ⟨S1x4, .i32⟩
  | 58 => ⟨S1x4, .i1⟩
  | 59 => ⟨S_, .i32⟩
  | 60 => ⟨S1x4, .i32⟩
  | 61 => ⟨S1x4, .i32⟩
  | 62 => ⟨S1x4, .i32⟩
  | 63 => ⟨S1x4x1, .i32⟩
  | 64 => ⟨S1x4x1, .i32⟩
  | 65 => ⟨S1x4x2, .i32⟩
  | 66 => ⟨S512x128x2x256, .bf16⟩
  | 67 => ⟨S_, .i32⟩
  | 68 => ⟨S1x4, .i32⟩
  | 69 => ⟨S1x4, .i1⟩
  | 70 => ⟨S_, .i32⟩
  | 71 => ⟨S1x4, .i32⟩
  | 72 => ⟨S1x4, .i32⟩
  | 73 => ⟨S1x4, .i32⟩
  | 74 => ⟨S_, .i32⟩
  | 75 => ⟨S1x4, .i32⟩
  | 76 => ⟨S1x4, .i1⟩
  | 77 => ⟨S_, .i32⟩
  | 78 => ⟨S1x4, .i32⟩
  | 79 => ⟨S1x4, .i32⟩
  | 80 => ⟨S1x4, .i32⟩
  | 81 => ⟨S1x4x1, .i32⟩
  | 82 => ⟨S1x4x1, .i32⟩
  | 83 => ⟨S1x4x2, .i32⟩
  | 84 => ⟨S512x128x2x256, .bf16⟩
  | 85 => ⟨S_, .i32⟩
  | 86 => ⟨S1x512, .i32⟩
  | 87 => ⟨S1x512, .i1⟩
  | 88 => ⟨S_, .i32⟩
  | 89 => ⟨S1x512, .i32⟩
  | 90 => ⟨S1x512, .i32⟩
  | 91 => ⟨S1x512, .i32⟩
  | 92 => ⟨S1x512x1, .i32⟩
  | 93 => ⟨S1x512x128x2x256, .bf16⟩
  | 94 => ⟨S1x65536x2x256, .bf16⟩
  | 95 => ⟨S_, .i32⟩
  | 96 => ⟨S1x512, .i32⟩
  | 97 => ⟨S1x512, .i1⟩
  | 98 => ⟨S_, .i32⟩
  | 99 => ⟨S1x512, .i32⟩
  | 100 => ⟨S1x512, .i32⟩
  | 101 => ⟨S1x512, .i32⟩
  | 102 => ⟨S1x512x1, .i32⟩
  | 103 => ⟨S1x512x128x2x256, .bf16⟩
  | 104 => ⟨S1x65536x2x256, .bf16⟩
  | 105 => ⟨S1x4x2x16x256, .bf16⟩
  | 106 => ⟨S1x2x65536x4x16, .f32⟩
  | 107 => ⟨S1x2x16x4x65536, .f32⟩
  | 108 => ⟨S_, .f32⟩
  | 109 => ⟨S1x2x16x4x65536, .f32⟩
  | 110 => ⟨S1x2x16x4x65536, .f32⟩
  | 111 => ⟨S65536, .i32⟩
  | 112 => ⟨S1x1x65536, .i32⟩
  | 113 => ⟨S1x4x1, .i32⟩
  | 114 => ⟨S1x4x65536, .i32⟩
  | 115 => ⟨S1x4x65536, .i32⟩
  | 116 => ⟨S1x4x65536, .i1⟩
  | 117 => ⟨S1x1x1x4x65536, .i1⟩
  | 118 => ⟨S_, .f32⟩
  | 119 => ⟨S_, .f32⟩
  | 120 => ⟨S1x2x16x4x65536, .i1⟩
  | 121 => ⟨S1x2x16x4x65536, .f32⟩
  | 122 => ⟨S1x2x16x4x65536, .f32⟩
  | 123 => ⟨S_, .f32⟩
  | 124 => ⟨S1x2x16x4, .f32⟩
  | 125 => ⟨S1x2x16x4x1, .f32⟩
  | 126 => ⟨S1x2x16x4x65536, .f32⟩
  | 127 => ⟨S1x2x16x4x65536, .f32⟩
  | _ => ⟨S1x4x8192, .bf16⟩

abbrev hbmTy0_1 (i : Nat) : BufTy := match i % 128 with
  | 0 => ⟨S1x2x16x4x65536, .f32⟩
  | 1 => ⟨S1x65536x2x256, .f32⟩
  | 2 => ⟨S1x2x16x4x256, .f32⟩
  | 3 => ⟨S_, .f32⟩
  | 4 => ⟨S1x2x16x4, .f32⟩
  | 5 => ⟨S1x2x16x4x1, .f32⟩
  | 6 => ⟨S1x2x16x4x256, .f32⟩
  | 7 => ⟨S1x2x16x4x256, .f32⟩
  | 8 => ⟨S1x4x2x16x256, .f32⟩
  | 9 => ⟨S128x256, .f32⟩
  | 10 => ⟨S128x256, .bf16⟩
  | 11 => ⟨S8x256, .fp8e4m3⟩
  | 12 => ⟨S8x256, .fp8e4m3⟩
  | _ => ⟨S1x4x8192, .bf16⟩

abbrev hbmTy (i : Nat) : BufTy := match i / 128 with
  | 0 => hbmTy0_0 i
  | 1 => hbmTy0_1 i
  | _ => ⟨S1x4x8192, .bf16⟩

abbrev bufTy : (tb : Table) → Fin (tcTables nBuf tb) → BufTy
  | .hbm, ⟨i, _⟩ => hbmTy i
  | .local _ .vmem, ⟨0, _⟩ => ⟨S1x4x2x256, .bf16⟩
  | .local _ .vmem, ⟨1, _⟩ => ⟨S1x4x2x256, .bf16⟩
  | .local _ .vmem, ⟨2, _⟩ => ⟨S512x128x2x256, .fp8e4m3⟩
  | .local _ .vmem, ⟨3, _⟩ => ⟨S512x128x2x256, .fp8e4m3⟩
  | .local _ .vmem, ⟨4, _⟩ => ⟨S2, .f32⟩
  | .local _ .vmem, ⟨5, _⟩ => ⟨S2, .f32⟩
  | .local _ .vmem, ⟨6, _⟩ => ⟨S1x4x2x256, .fp8e4m3⟩
  | .local _ .vmem, ⟨7, _⟩ => ⟨S1x4x2x256, .fp8e4m3⟩
  | .local _ .vmem, ⟨8, _⟩ => ⟨S1x4x2x256, .bf16⟩
  | .local _ .vmem, ⟨9, _⟩ => ⟨S1x4x2x256, .bf16⟩
  | .local _ .vmem, ⟨10, _⟩ => ⟨S512x128x2x256, .bf16⟩
  | .local _ .vmem, ⟨11, _⟩ => ⟨S512x128x2x256, .bf16⟩
  | _, _ => ⟨S1x4x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_c_4 : Ref sig .tc := ⟨.hbm, 43, rfl⟩
abbrev main_call0_v15 : Ref sig .tc := ⟨.hbm, 44, rfl⟩
abbrev main_v8 : Ref sig .tc := ⟨.hbm, 45, rfl⟩
abbrev main_c_0 : Ref sig .tc := ⟨.hbm, 46, rfl⟩
abbrev main_v9 : Ref sig .tc := ⟨.hbm, 47, rfl⟩
abbrev main_v10 : Ref sig .tc := ⟨.hbm, 48, rfl⟩
abbrev main_c_1 : Ref sig .tc := ⟨.hbm, 49, rfl⟩
abbrev main_v11 : Ref sig .tc := ⟨.hbm, 50, rfl⟩
abbrev main_v12 : Ref sig .tc := ⟨.hbm, 51, rfl⟩
abbrev main_c_2 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_c_3 : Ref sig .tc := ⟨.hbm, 56, rfl⟩
abbrev main_v16 : Ref sig .tc := ⟨.hbm, 57, rfl⟩
abbrev main_v17 : Ref sig .tc := ⟨.hbm, 58, rfl⟩
abbrev main_c_4 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_c_5 : Ref sig .tc := ⟨.hbm, 67, rfl⟩
abbrev main_v25 : Ref sig .tc := ⟨.hbm, 68, rfl⟩
abbrev main_v26 : Ref sig .tc := ⟨.hbm, 69, rfl⟩
abbrev main_c_6 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_7 : Ref sig .tc := ⟨.hbm, 74, rfl⟩
abbrev main_v30 : Ref sig .tc := ⟨.hbm, 75, rfl⟩
abbrev main_v31 : Ref sig .tc := ⟨.hbm, 76, rfl⟩
abbrev main_c_8 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_c_9 : Ref sig .tc := ⟨.hbm, 85, rfl⟩
abbrev main_v39 : Ref sig .tc := ⟨.hbm, 86, rfl⟩
abbrev main_v40 : Ref sig .tc := ⟨.hbm, 87, rfl⟩
abbrev main_c_10 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_c_11 : Ref sig .tc := ⟨.hbm, 95, rfl⟩
abbrev main_v47 : Ref sig .tc := ⟨.hbm, 96, rfl⟩
abbrev main_v48 : Ref sig .tc := ⟨.hbm, 97, rfl⟩
abbrev main_c_12 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_13 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v67 : Ref sig .tc := ⟨.hbm, 122, rfl⟩
abbrev main_cst_14 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_15 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x4x2x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4x2x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128x2x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128x2x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4x2x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x2x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4x2x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4x2x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x128x2x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x128x2x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Pre.lean ====
/-
  What the precondition says of the page table and the length.
-/
module

public import proofs.«01_k».proof.Proof.Gen.Pre_in_range
public import Idealize.ShloMosaic.Lib.ValueIdx
public import Idealize.ShloMosaic.Lib.WordCmp

@[expose] public section

noncomputable section

namespace Cert.Hand

open Idealize.ShloMosaic
open Idealize.ShloMosaic.ValueIdx

variable {F : FTy → Type} [FloatOps F]

theorem andi_one (p q : BitVec 1) : IntOp.andi p q = 1#1 ↔ p = 1#1 ∧ q = 1#1 := by
  revert p q; decide
theorem ori_one (p q : BitVec 1) : IntOp.ori p q = 1#1 ↔ p = 1#1 ∨ q = 1#1 := by
  revert p q; decide
theorem ofBool_one (p : Bool) : (BitVec.ofBool p = 1#1) ↔ p = true := by cases p <;> decide

theorem sge_sound (x : BitVec 32) (h : IntOp.cmpi .sge x 0#32 = 1#1) : x.toNat < 2147483648 := by
  simp only [IntOp.cmpi, ofBool_one, BitVec.sle, decide_eq_true_eq, BitVec.toInt, BitVec.toNat_ofNat] at h
  omega
theorem slt_sound (x : BitVec 32) (h0 : x.toNat < 2147483648) (h : IntOp.cmpi .slt x 512#32 = 1#1) : x.toNat < 512 := by
  simp only [IntOp.cmpi, ofBool_one, BitVec.slt, decide_eq_true_eq, BitVec.toInt, BitVec.toNat_ofNat] at h
  omega
theorem sle_sound (x : BitVec 32) (h0 : x.toNat < 2147483648) (h : IntOp.cmpi .sle x 65532#32 = 1#1) : x.toNat ≤ 65532 := by
  simp only [IntOp.cmpi, ofBool_one, BitVec.sle, decide_eq_true_eq, BitVec.toInt, BitVec.toNat_ofNat] at h
  omega

theorem eq_zero1 (i : (⟨1, ![1]⟩ : Shape).Idx) : i = ix1 0 := by
  funext a
  match a with
  | ⟨0, _⟩ => exact Fin.ext (by have : (i 0).val < 1 := (i 0).isLt; show (i 0).val = 0; omega)

theorem in_range_good {a0 : FVec F ⟨3, ![1, 4, 8192]⟩ .bf16} {a1 a2 : FVec F ⟨4, ![1, 4, 2, 256]⟩ .bf16} {a3 a4 : FVec F ⟨4, ![512, 128, 2, 256]⟩ .fp8e4m3}
    {a5 a6 : FVec F ⟨1, ![2]⟩ .f32} {a7 : IVec ⟨2, ![1, 512]⟩ 32} {a8 : IVec ⟨1, ![1]⟩ 32}
    (h : Cert.Pre_in_range.fn (F := F) a0 a1 a2 a3 a4 a5 a6 a7 a8 = fun _ => 1#1) :
    (∀ i, (a7 i).toNat < 512) ∧ ∀ i, (a8 i).toNat ≤ 65532 := by
  have key : ∀ i, ((IntOp.cmpi .sge (a7 i) 0#32 = 1#1 ∧ IntOp.cmpi .slt (a7 i) 512#32 = 1#1)
      ∧ IntOp.cmpi .sge (a8 (ix1 0)) 0#32 = 1#1) ∧ IntOp.cmpi .sle (a8 (ix1 0)) 65532#32 = 1#1 := fun i => by
    have e := congrFun h i
    simp only [Cert.Pre_in_range.fn, andi, cmpi, broadcastInDim, constantI, shapeCast, andi_one] at e
    rw [eq_zero1 (Shape.reshapeEquiv _ _)] at e
    exact e
  refine ⟨fun i => slt_sound _ (sge_sound _ (key i).1.1.1) (key i).1.1.2, fun i => ?_⟩
  rw [eq_zero1 i]
  have k := key (ix2 0 0)
  exact sle_sound _ (sge_sound _ k.1.2) k.2

end Cert.Hand

end
-- ==== Proof.Distinct.lean ====
/-
  What the second precondition says: the table's entries are pages of the pool, no two the same, and the four new tokens fit.
-/
module

public import proofs.«01_k».proof.Proof.Pre
public import proofs.«01_k».proof.Proof.Gen.Pre_distinct_pages
public import Idealize.ShloMosaic.Lib.Pointwise

@[expose] public section

set_option maxRecDepth 16384

namespace Cert.Hand

open Idealize.ShloMosaic
variable {F : FTy → Type} [FloatOps F]

theorem distinct_good {a0 : FVec F ⟨3, ![1, 4, 8192]⟩ .bf16} {a1 a2 : FVec F ⟨4, ![1, 4, 2, 256]⟩ .bf16} {a3 a4 : FVec F ⟨4, ![512, 128, 2, 256]⟩ .fp8e4m3}
    {a5 a6 : FVec F ⟨1, ![2]⟩ .f32} {a7 : IVec ⟨2, ![1, 512]⟩ 32} {a8 : IVec ⟨1, ![1]⟩ 32}
    (h : Cert.Pre_distinct_pages.fn (F := F) a0 a1 a2 a3 a4 a5 a6 a7 a8 = fun _ => 1#1) :
    ((∀ i, (a7 i).toNat < 512) ∧ ∀ i, (a8 i).toNat ≤ 65532) ∧ ∀ i j : Fin 512, a7 (ix2 0 i) = a7 (ix2 0 j) → i = j := by
  have key : ∀ i j : Fin 512, (((IntOp.cmpi .sge (a7 (ix2 0 j)) 0#32 = 1#1 ∧ IntOp.cmpi .slt (a7 (ix2 0 j)) 512#32 = 1#1)
      ∧ IntOp.cmpi .sge (a8 (ix1 0)) 0#32 = 1#1) ∧ IntOp.cmpi .sle (a8 (ix1 0)) 65532#32 = 1#1)
      ∧ (IntOp.cmpi .ne (a7 (ix2 0 i)) (a7 (ix2 0 j)) = 1#1 ∨ IntOp.cmpi .eq (BitVec.ofNat 32 i.val) (BitVec.ofNat 32 j.val) = 1#1) := fun i j => by
    have e := congrFun h (ix2 i j)
    have e' : Cert.Pre_distinct_pages.fn (F := F) a0 a1 a2 a3 a4 a5 a6 a7 a8 (ix2 i j)
      = IntOp.andi (IntOp.andi (IntOp.andi (IntOp.andi (IntOp.cmpi .sge (a7 (ix2 0 j)) 0#32) (IntOp.cmpi .slt (a7 (ix2 0 j)) 512#32))
        (IntOp.cmpi .sge (a8 (ix1 0)) 0#32)) (IntOp.cmpi .sle (a8 (ix1 0)) 65532#32))
        (IntOp.ori (IntOp.cmpi .ne (a7 (ix2 0 i)) (a7 (ix2 0 j))) (IntOp.cmpi .eq (BitVec.ofNat 32 i.val) (BitVec.ofNat 32 j.val))) := by
      pointwise [Cert.Pre_distinct_pages.fn, Cert.Pre_distinct_pages.fn_part1]
    have q := e'.symm.trans e
    rwa [IntOp.andi_eq_one, IntOp.andi_eq_one, IntOp.andi_eq_one, IntOp.andi_eq_one, IntOp.ori_eq_one] at q
  have row : ∀ i : (⟨2, ![1, 512]⟩ : Shape).Idx, i = ix2 0 (i 1) := fun i => by
    funext a
    match a with
    | ⟨0, _⟩ => exact Fin.ext (Nat.lt_one_iff.1 (i 0).isLt)
    | ⟨1, _⟩ => rfl
  have one : ∀ i : (⟨1, ![1]⟩ : Shape).Idx, i = ix1 0 := fun i => by
    funext a
    match a with
    | ⟨0, _⟩ => exact Fin.ext (Nat.lt_one_iff.1 (i 0).isLt)
  have small : ∀ w : BitVec 32, ∀ n : ℕ, n < 2 ^ 31 → 0 ≤ w.toInt → w.toInt ≤ n → w.toNat ≤ n := fun w n hn h0 h1 => by
    rw [BitVec.toInt_eq_toNat_cond] at h0 h1
    split at h0 <;> omega
  refine ⟨⟨fun i => ?_, fun i => ?_⟩, fun i j e => ?_⟩
  · rw [row i]
    have k := (key 0 (i 1)).1.1.1
    have k1 := IntOp.cmpi_sge.1 k.1
    have k2 := IntOp.cmpi_slt.1 k.2
    have z : (0#32 : BitVec 32).toInt = 0 := rfl
    have z' : (512#32 : BitVec 32).toInt = 512 := rfl
    have := small (a7 (ix2 0 (i 1))) 511 (by norm_num) (by omega) (by omega)
    exact Nat.lt_succ_of_le this
  · rw [one i]
    have k1 := IntOp.cmpi_sge.1 (key 0 0).1.1.2
    have k2 := IntOp.cmpi_sle.1 (key 0 0).1.2
    have z : (0#32 : BitVec 32).toInt = 0 := rfl
    have z' : (65532#32 : BitVec 32).toInt = 65532 := rfl
    exact small (a8 (ix1 0)) 65532 (by norm_num) (by omega) (by omega)
  · rcases (key i j).2 with k | k
    · exact absurd e (IntOp.cmpi_ne.1 k)
    · have k := congrArg BitVec.toNat (IntOp.cmpi_eq.1 k)
      rw [BitVec.toNat_ofNat, BitVec.toNat_ofNat] at k
      have hi := i.isLt
      have hj := j.isLt
      exact Fin.ext (by omega)

end Cert.Hand
-- ==== Proof.Ideal.Words.lean ====
/-
  The words the kernel computes: the number of whole 1024-position blocks in the sequence, the four conditions under
  which a block's pages are started, and the offsets of every page copy, in closed form.
-/
module

public import proofs.«01_k».proof.Proof.Gen.KernelIdeal.Skeleton
public import Idealize.ShloMosaic.Lib.Tactic
public import Idealize.ShloMosaic.Lib.WordCmp
public import Idealize.ShloMosaic.Lib.Affine

@[expose] public section

set_option maxRecDepth 8192

namespace Cert.KernelIdeal.Hand

open Cert.KernelIdeal Cert.KernelIdeal.Gen
open Idealize.ShloMosaic

theorem inb512 {x : Nat} (h : x < 512) : ∀ a, (![x] : Fin 1 → Nat) a + S1.size a ≤ S512.size a := by
  intro a; fin_cases a; show x + 1 ≤ 512; omega
theorem inb4 {x : Nat} (h : x < 4) : ∀ a, (![x] : Fin 1 → Nat) a + S1.size a ≤ S4.size a := by
  intro a; fin_cases a; show x + 1 ≤ 4; omega
theorem inbM {s j : Nat} (h : s < 4) (hj : j < 8) : ∀ a, (![s, j, 0, 0, 0] : Fin 5 → Nat) a + S1x1x2x128x256.size a ≤ S4x8x2x128x256.size a := by
  intro a; fin_cases a
  · show s + 1 ≤ 4; omega
  · show j + 1 ≤ 8; omega
  · show 0 + 2 ≤ 2; omega
  · show 0 + 128 ≤ 128; omega
  · show 0 + 256 ≤ 256; omega
theorem inbL {s j : Nat} (h : s < 4) (hj : j < 2) : ∀ a, (![s, 0, j, 0, 0] : Fin 5 → Nat) a + S1x8x1x128x256.size a ≤ S4x8x2x128x256.size a := by
  intro a; fin_cases a
  · show s + 1 ≤ 4; omega
  · show 0 + 8 ≤ 8; omega
  · show j + 1 ≤ 2; omega
  · show 0 + 128 ≤ 128; omega
  · show 0 + 256 ≤ 256; omega
theorem inbP {w : BitVec 32} (h : w.toNat < 512) : ∀ a, (![w.toNat, 0, 0, 0] : Fin 4 → Nat) a + S1x2x128x256.size a ≤ S512x2x128x256.size a := by
  intro a; fin_cases a
  · show w.toNat + 1 ≤ 512; omega
  · show 0 + 2 ≤ 2; omega
  · show 0 + 128 ≤ 128; omega
  · show 0 + 256 ≤ 256; omega

/-- Floor division by 1024 as the kernel computes it: the truncated quotient, less one when the signs differ and the
    remainder is not zero. -/
def v17 (v0 : BitVec 32) : BitVec 32 :=
  let v6 : BitVec 32 := Scalar.subi (Scalar.extui (Scalar.cmpi .sgt v0 0#32)) (Scalar.extui (Scalar.cmpi .slt v0 0#32))
  let v11 : BitVec 32 := Scalar.subi (Scalar.extui (Scalar.cmpi .sgt 1024#32 0#32)) (Scalar.extui (Scalar.cmpi .slt 1024#32 0#32))
  let v15 : BitVec 1 := Scalar.andi (Scalar.cmpi .ne v6 v11) (Scalar.cmpi .ne (Scalar.remsi v0 1024#32) 0#32)
  let v1 : BitVec 32 := Scalar.divsi v0 1024#32
  Scalar.select v15 (Scalar.subi v1 1#32) v1

/-- How many whole blocks the sequence has. -/
def NF (v0 : BitVec 32) : Nat := v0.toNat / 1024

theorem NF_lt {v0 : BitVec 32} (hv : v0.toNat ≤ 65532) : NF v0 < 64 := by unfold NF; omega

theorem v17_eq {v0 : BitVec 32} (hv : v0.toNat ≤ 65532) : v17 v0 = BitVec.ofNat 32 (NF v0) := by
  have hd : Scalar.divsi v0 1024#32 = BitVec.ofNat 32 (NF v0) := by
    show IntOp.divsi .scalar v0 1024#32 = _
    unfold IntOp.divsi
    rw [if_neg (IntOp.not_corner_of_pos (by decide)), BitVec.sdiv_eq]
    have h1 : v0.msb = false := by rw [BitVec.msb_eq_false_iff_two_mul_lt]; omega
    rw [h1, show (1024#32 : BitVec 32).msb = false from rfl]
    apply BitVec.eq_of_toNat_eq
    show (v0.udiv 1024#32).toNat = _
    rw [BitVec.udiv_eq, BitVec.toNat_udiv, BitVec.toNat_ofNat, BitVec.toNat_ofNat]
    show v0.toNat / 1024 = v0.toNat / 1024 % 2 ^ 32
    omega
  have hc : Scalar.andi (Scalar.cmpi .ne (Scalar.subi (Scalar.extui (Scalar.cmpi .sgt v0 0#32)) (Scalar.extui (Scalar.cmpi .slt v0 0#32)))
      (Scalar.subi (Scalar.extui (Scalar.cmpi .sgt 1024#32 0#32)) (Scalar.extui (Scalar.cmpi .slt 1024#32 0#32))))
      (Scalar.cmpi .ne (Scalar.remsi v0 1024#32) 0#32) = 0#1 := by
    by_cases h0 : v0 = 0#32
    · subst h0; decide +kernel
    · have hp : 0 < v0.toNat := Nat.pos_of_ne_zero fun h => h0 (BitVec.eq_of_toNat_eq (by simpa using h))
      have hI : v0.toInt = (v0.toNat : Int) := WordCmp.toInt_eq_toNat_of_lt_half (by omega)
      have h1 : Scalar.cmpi .sgt v0 0#32 = 1#1 := by
        show IntOp.cmpi .sgt v0 0#32 = 1#1
        rw [WordCmp.cmpi_sgt_eq, hI, show (0#32 : BitVec 32).toInt = 0 from rfl, decide_eq_true (by omega)]; rfl
      have h2 : Scalar.cmpi .slt v0 0#32 = 0#1 := by
        show IntOp.cmpi .slt v0 0#32 = 0#1
        rw [WordCmp.cmpi_slt_eq, hI, show (0#32 : BitVec 32).toInt = 0 from rfl, decide_eq_false (by omega)]; rfl
      rw [h1, h2]
      have : ∀ x : BitVec 1, Scalar.andi (Scalar.cmpi .ne (Scalar.subi (Scalar.extui 1#1) (Scalar.extui 0#1))
        (Scalar.subi (Scalar.extui (Scalar.cmpi .sgt 1024#32 0#32)) (Scalar.extui (Scalar.cmpi .slt 1024#32 0#32)))) x = 0#1 := by decide +kernel
      exact this _
  unfold v17
  dsimp only
  rw [hc, hd]
  rfl

theorem trips_eq {v0 : BitVec 32} (hv : v0.toNat ≤ 65532) : (k0_t1_loop v0).trips = NF v0 := by
  show Scf.trips 0#32 (Scalar.addi 0#32 (Scalar.muli (Scalar.divsi (Scalar.subi (v17 v0) 0#32) 1#32) 1#32)) 1#32 = _
  rw [v17_eq hv]
  exact (by decide +kernel : ∀ n : Fin 64, Scf.trips 0#32 (Scalar.addi 0#32 (Scalar.muli (Scalar.divsi (Scalar.subi (BitVec.ofNat 32 n) 0#32) 1#32) 1#32)) 1#32 = n) ⟨NF v0, NF_lt hv⟩

theorem t1_ok {v0 : BitVec 32} (hv : v0.toNat ≤ 65532) : (k0_t1_loop v0).OK := by
  show Scf.Loop.OK ⟨0#32, (Scalar.addi 0#32 (Scalar.muli (Scalar.divsi (Scalar.subi (v17 v0) 0#32) 1#32) 1#32)), 1#32⟩
  rw [v17_eq hv]
  exact (by decide +kernel : ∀ n : Fin 64, Scf.Loop.OK ⟨0#32, (Scalar.addi 0#32 (Scalar.muli (Scalar.divsi (Scalar.subi (BitVec.ofNat 32 n) 0#32) 1#32) 1#32)), 1#32⟩) ⟨NF v0, NF_lt hv⟩

theorem trips2_eq {v0 : BitVec 32} (hv : v0.toNat ≤ 65532) : (k0_t2_loop v0).trips = 0 := by
  show Scf.trips (Scalar.addi 0#32 (Scalar.muli (Scalar.divsi (Scalar.subi (v17 v0) 0#32) 1#32) 1#32)) (Scalar.addi 0#32 (Scalar.subi (v17 v0) 0#32)) 1#32 = 0
  rw [v17_eq hv]
  exact (by decide +kernel : ∀ n : Fin 64, Scf.trips (Scalar.addi 0#32 (Scalar.muli (Scalar.divsi (Scalar.subi (BitVec.ofNat 32 n) 0#32) 1#32) 1#32)) (Scalar.addi 0#32 (Scalar.subi (BitVec.ofNat 32 n) 0#32)) 1#32 = 0) ⟨NF v0, NF_lt hv⟩

theorem t2_none {v0 : BitVec 32} (hv : v0.toNat ≤ 65532) (t : Fin (k0_t2_loop v0).trips) : False :=
  absurd (lt_of_lt_of_eq t.isLt (trips2_eq hv)) (Nat.not_lt_zero _)

theorem t2_ok {v0 : BitVec 32} (hv : v0.toNat ≤ 65532) : (k0_t2_loop v0).OK := by
  show Scf.Loop.OK ⟨(Scalar.addi 0#32 (Scalar.muli (Scalar.divsi (Scalar.subi (v17 v0) 0#32) 1#32) 1#32)), (Scalar.addi 0#32 (Scalar.subi (v17 v0) 0#32)), 1#32⟩
  rw [v17_eq hv]
  exact (by decide +kernel : ∀ n : Fin 64, Scf.Loop.OK ⟨(Scalar.addi 0#32 (Scalar.muli (Scalar.divsi (Scalar.subi (BitVec.ofNat 32 n) 0#32) 1#32) 1#32)), (Scalar.addi 0#32 (Scalar.subi (BitVec.ofNat 32 n) 0#32)), 1#32⟩) ⟨NF v0, NF_lt hv⟩

theorem cond1_eq {v0 : BitVec 32} (hv : v0.toNat ≤ 65532) : k0_cond1 v0 = 1#1 ↔ 0 ≤ NF v0 := by
  show Scalar.cmpi .ne (Scalar.extui (Scalar.cmpi .sle 0#32 (v17 v0))) 0#32 = 1#1 ↔ _
  rw [v17_eq hv]
  exact (by decide +kernel : ∀ n : Fin 64, Scalar.cmpi .ne (Scalar.extui (Scalar.cmpi .sle 0#32 (BitVec.ofNat 32 n))) 0#32 = 1#1 ↔ 0 ≤ n.val) ⟨NF v0, NF_lt hv⟩

theorem cond2_eq {v0 : BitVec 32} (hv : v0.toNat ≤ 65532) : k0_cond2 v0 = 1#1 ↔ 1 ≤ NF v0 := by
  show Scalar.cmpi .ne (Scalar.extui (Scalar.cmpi .sle 1#32 (v17 v0))) 0#32 = 1#1 ↔ _
  rw [v17_eq hv]
  exact (by decide +kernel : ∀ n : Fin 64, Scalar.cmpi .ne (Scalar.extui (Scalar.cmpi .sle 1#32 (BitVec.ofNat 32 n))) 0#32 = 1#1 ↔ 1 ≤ n.val) ⟨NF v0, NF_lt hv⟩

theorem cond3_eq {v0 : BitVec 32} (hv : v0.toNat ≤ 65532) : k0_cond3 v0 = 1#1 ↔ 2 ≤ NF v0 := by
  show Scalar.cmpi .ne (Scalar.extui (Scalar.cmpi .sle 2#32 (v17 v0))) 0#32 = 1#1 ↔ _
  rw [v17_eq hv]
  exact (by decide +kernel : ∀ n : Fin 64, Scalar.cmpi .ne (Scalar.extui (Scalar.cmpi .sle 2#32 (BitVec.ofNat 32 n))) 0#32 = 1#1 ↔ 2 ≤ n.val) ⟨NF v0, NF_lt hv⟩

theorem trip_lt {v0 : BitVec 32} (hv : v0.toNat ≤ 65532) (t : Fin (k0_t1_loop v0).trips) : t.val < NF v0 := by
  exact lt_of_lt_of_eq t.isLt (trips_eq hv)

theorem trip_lt64 {v0 : BitVec 32} (hv : v0.toNat ≤ 65532) (t : Fin (k0_t1_loop v0).trips) : t.val < 64 :=
  (trip_lt hv t).trans (NF_lt hv)

theorem cond4_eq {v0 : BitVec 32} (hv : v0.toNat ≤ 65532) (t : Fin (k0_t1_loop v0).trips) : k0_cond4 v0 t = 1#1 ↔ t.val + 3 ≤ NF v0 := by
  show Scalar.cmpi .ne (Scalar.extui (Scalar.cmpi .sle (Scalar.subi (Scalar.addi (Scf.iv 0#32 1#32 t) 4#32) 1#32) (v17 v0))) 0#32 = 1#1 ↔ _
  rw [v17_eq hv]
  exact (by decide +kernel : ∀ k n : Fin 64, Scalar.cmpi .ne (Scalar.extui (Scalar.cmpi .sle (Scalar.subi (Scalar.addi (Scf.iv 0#32 1#32 k) 4#32) 1#32) (BitVec.ofNat 32 n))) 0#32 = 1#1 ↔ k.val + 3 ≤ n.val)
    ⟨t.val, trip_lt64 hv t⟩ ⟨NF v0, NF_lt hv⟩

/-! The table index and the ring slot of block `t`, of block `t + 3`, and of the last block. -/

theorem tblT (j : Fin 8) (t : Fin 64) : (Scalar.indexCast (Scalar.addi (Scalar.muli (Scf.iv 0#32 1#32 t) 8#32) (BitVec.ofNat 32 j))).toNat = 8 * t.val + j.val := by
  revert j t; decide +kernel
theorem tblS (j : Fin 8) (t : Fin 64) : (Scalar.indexCast (Scalar.addi (Scalar.muli (Scalar.subi (Scalar.addi (Scf.iv 0#32 1#32 t) 4#32) 1#32) 8#32) (BitVec.ofNat 32 j))).toNat = 8 * (t.val + 3) + j.val := by
  revert j t; decide +kernel
theorem tblN (j : Fin 8) (n : Fin 64) : (Scalar.indexCast (Scalar.addi (Scalar.muli (BitVec.ofNat 32 n) 8#32) (BitVec.ofNat 32 j))).toNat = 8 * n.val + j.val := by
  revert j n; decide +kernel
theorem slotT (t : Fin 64) : (Scalar.remsi (Scf.iv 0#32 1#32 t) 4#32).toNat = t.val % 4 := by revert t; decide +kernel
theorem slotS (t : Fin 64) : (Scalar.remsi (Scalar.subi (Scalar.addi (Scf.iv 0#32 1#32 t) 4#32) 1#32) 4#32).toNat = (t.val + 3) % 4 := by revert t; decide +kernel
theorem slotN (n : Fin 64) : (Scalar.remsi (BitVec.ofNat 32 n) 4#32).toNat = n.val % 4 := by revert n; decide +kernel

theorem off1_eq : k0_off1 = ![0] := by decide +kernel
theorem off2_eq : k0_off2 = ![0] := by decide +kernel
theorem off3_eq : k0_off3 = ![0, 0, 0, 0, 0] := by decide +kernel
theorem off4_eq (w : BitVec 32) : k0_off4 w = ![w.toNat, 0, 0, 0] := rfl
theorem off5_eq : k0_off5 = ![0] := by decide +kernel
theorem off6_eq : k0_off6 = ![0, 0, 0, 0, 0] := by decide +kernel
theorem off7_eq : k0_off7 = ![1] := by decide +kernel
theorem off8_eq : k0_off8 = ![0, 1, 0, 0, 0] := by decide +kernel
theorem off9_eq (w : BitVec 32) : k0_off9 w = ![w.toNat, 0, 0, 0] := rfl
theorem off10_eq : k0_off10 = ![0] := by decide +kernel
theorem off11_eq : k0_off11 = ![0, 1, 0, 0, 0] := by decide +kernel
theorem off12_eq : k0_off12 = ![2] := by decide +kernel
theorem off13_eq : k0_off13 = ![0, 2, 0, 0, 0] := by decide +kernel
theorem off14_eq (w : BitVec 32) : k0_off14 w = ![w.toNat, 0, 0, 0] := rfl
theorem off15_eq : k0_off15 = ![0] := by decide +kernel
theorem off16_eq : k0_off16 = ![0, 2, 0, 0, 0] := by decide +kernel
theorem off17_eq : k0_off17 = ![3] := by decide +kernel
theorem off18_eq : k0_off18 = ![0, 3, 0, 0, 0] := by decide +kernel
theorem off19_eq (w : BitVec 32) : k0_off19 w = ![w.toNat, 0, 0, 0] := rfl
theorem off20_eq : k0_off20 = ![0] := by decide +kernel
theorem off21_eq : k0_off21 = ![0, 3, 0, 0, 0] := by decide +kernel
theorem off22_eq : k0_off22 = ![4] := by decide +kernel
theorem off23_eq : k0_off23 = ![0, 4, 0, 0, 0] := by decide +kernel
theorem off24_eq (w : BitVec 32) : k0_off24 w = ![w.toNat, 0, 0, 0] := rfl
theorem off25_eq : k0_off25 = ![0] := by decide +kernel
theorem off26_eq : k0_off26 = ![0, 4, 0, 0, 0] := by decide +kernel
theorem off27_eq : k0_off27 = ![5] := by decide +kernel
theorem off28_eq : k0_off28 = ![0, 5, 0, 0, 0] := by decide +kernel
theorem off29_eq (w : BitVec 32) : k0_off29 w = ![w.toNat, 0, 0, 0] := rfl
theorem off30_eq : k0_off30 = ![0] := by decide +kernel
theorem off31_eq : k0_off31 = ![0, 5, 0, 0, 0] := by decide +kernel
theorem off32_eq : k0_off32 = ![6] := by decide +kernel
theorem off33_eq : k0_off33 = ![0, 6, 0, 0, 0] := by decide +kernel
theorem off34_eq (w : BitVec 32) : k0_off34 w = ![w.toNat, 0, 0, 0] := rfl
theorem off35_eq : k0_off35 = ![0] := by decide +kernel
theorem off36_eq : k0_off36 = ![0, 6, 0, 0, 0] := by decide +kernel
theorem off37_eq : k0_off37 = ![7] := by decide +kernel
theorem off38_eq : k0_off38 = ![0, 7, 0, 0, 0] := by decide +kernel
theorem off39_eq (w : BitVec 32) : k0_off39 w = ![w.toNat, 0, 0, 0] := rfl
theorem off40_eq : k0_off40 = ![0] := by decide +kernel
theorem off41_eq : k0_off41 = ![0, 7, 0, 0, 0] := by decide +kernel
theorem off42_eq : k0_off42 = ![8] := by decide +kernel
theorem off43_eq : k0_off43 = ![1] := by decide +kernel
theorem off44_eq : k0_off44 = ![1, 0, 0, 0, 0] := by decide +kernel
theorem off45_eq (w : BitVec 32) : k0_off45 w = ![w.toNat, 0, 0, 0] := rfl
theorem off46_eq : k0_off46 = ![1] := by decide +kernel
theorem off47_eq : k0_off47 = ![1, 0, 0, 0, 0] := by decide +kernel
theorem off48_eq : k0_off48 = ![9] := by decide +kernel
theorem off49_eq : k0_off49 = ![1, 1, 0, 0, 0] := by decide +kernel
theorem off50_eq (w : BitVec 32) : k0_off50 w = ![w.toNat, 0, 0, 0] := rfl
theorem off51_eq : k0_off51 = ![1] := by decide +kernel
theorem off52_eq : k0_off52 = ![1, 1, 0, 0, 0] := by decide +kernel
theorem off53_eq : k0_off53 = ![10] := by decide +kernel
theorem off54_eq : k0_off54 = ![1, 2, 0, 0, 0] := by decide +kernel
theorem off55_eq (w : BitVec 32) : k0_off55 w = ![w.toNat, 0, 0, 0] := rfl
theorem off56_eq : k0_off56 = ![1] := by decide +kernel
theorem off57_eq : k0_off57 = ![1, 2, 0, 0, 0] := by decide +kernel
theorem off58_eq : k0_off58 = ![11] := by decide +kernel
theorem off59_eq : k0_off59 = ![1, 3, 0, 0, 0] := by decide +kernel
theorem off60_eq (w : BitVec 32) : k0_off60 w = ![w.toNat, 0, 0, 0] := rfl
theorem off61_eq : k0_off61 = ![1] := by decide +kernel
theorem off62_eq : k0_off62 = ![1, 3, 0, 0, 0] := by decide +kernel
theorem off63_eq : k0_off63 = ![12] := by decide +kernel
theorem off64_eq : k0_off64 = ![1, 4, 0, 0, 0] := by decide +kernel
theorem off65_eq (w : BitVec 32) : k0_off65 w = ![w.toNat, 0, 0, 0] := rfl
theorem off66_eq : k0_off66 = ![1] := by decide +kernel
theorem off67_eq : k0_off67 = ![1, 4, 0, 0, 0] := by decide +kernel
theorem off68_eq : k0_off68 = ![13] := by decide +kernel
theorem off69_eq : k0_off69 = ![1, 5, 0, 0, 0] := by decide +kernel
theorem off70_eq (w : BitVec 32) : k0_off70 w = ![w.toNat, 0, 0, 0] := rfl
theorem off71_eq : k0_off71 = ![1] := by decide +kernel
theorem off72_eq : k0_off72 = ![1, 5, 0, 0, 0] := by decide +kernel
theorem off73_eq : k0_off73 = ![14] := by decide +kernel
theorem off74_eq : k0_off74 = ![1, 6, 0, 0, 0] := by decide +kernel
theorem off75_eq (w : BitVec 32) : k0_off75 w = ![w.toNat, 0, 0, 0] := rfl
theorem off76_eq : k0_off76 = ![1] := by decide +kernel
theorem off77_eq : k0_off77 = ![1, 6, 0, 0, 0] := by decide +kernel
theorem off78_eq : k0_off78 = ![15] := by decide +kernel
theorem off79_eq : k0_off79 = ![1, 7, 0, 0, 0] := by decide +kernel
theorem off80_eq (w : BitVec 32) : k0_off80 w = ![w.toNat, 0, 0, 0] := rfl
theorem off81_eq : k0_off81 = ![1] := by decide +kernel
theorem off82_eq : k0_off82 = ![1, 7, 0, 0, 0] := by decide +kernel
theorem off83_eq : k0_off83 = ![16] := by decide +kernel
theorem off84_eq : k0_off84 = ![2] := by decide +kernel
theorem off85_eq : k0_off85 = ![2, 0, 0, 0, 0] := by decide +kernel
theorem off86_eq (w : BitVec 32) : k0_off86 w = ![w.toNat, 0, 0, 0] := rfl
theorem off87_eq : k0_off87 = ![2] := by decide +kernel
theorem off88_eq : k0_off88 = ![2, 0, 0, 0, 0] := by decide +kernel
theorem off89_eq : k0_off89 = ![17] := by decide +kernel
theorem off90_eq : k0_off90 = ![2, 1, 0, 0, 0] := by decide +kernel
theorem off91_eq (w : BitVec 32) : k0_off91 w = ![w.toNat, 0, 0, 0] := rfl
theorem off92_eq : k0_off92 = ![2] := by decide +kernel
theorem off93_eq : k0_off93 = ![2, 1, 0, 0, 0] := by decide +kernel
theorem off94_eq : k0_off94 = ![18] := by decide +kernel
theorem off95_eq : k0_off95 = ![2, 2, 0, 0, 0] := by decide +kernel
theorem off96_eq (w : BitVec 32) : k0_off96 w = ![w.toNat, 0, 0, 0] := rfl
theorem off97_eq : k0_off97 = ![2] := by decide +kernel
theorem off98_eq : k0_off98 = ![2, 2, 0, 0, 0] := by decide +kernel
theorem off99_eq : k0_off99 = ![19] := by decide +kernel
theorem off100_eq : k0_off100 = ![2, 3, 0, 0, 0] := by decide +kernel
theorem off101_eq (w : BitVec 32) : k0_off101 w = ![w.toNat, 0, 0, 0] := rfl
theorem off102_eq : k0_off102 = ![2] := by decide +kernel
theorem off103_eq : k0_off103 = ![2, 3, 0, 0, 0] := by decide +kernel
theorem off104_eq : k0_off104 = ![20] := by decide +kernel
theorem off105_eq : k0_off105 = ![2, 4, 0, 0, 0] := by decide +kernel
theorem off106_eq (w : BitVec 32) : k0_off106 w = ![w.toNat, 0, 0, 0] := rfl
theorem off107_eq : k0_off107 = ![2] := by decide +kernel
theorem off108_eq : k0_off108 = ![2, 4, 0, 0, 0] := by decide +kernel
theorem off109_eq : k0_off109 = ![21] := by decide +kernel
theorem off110_eq : k0_off110 = ![2, 5, 0, 0, 0] := by decide +kernel
theorem off111_eq (w : BitVec 32) : k0_off111 w = ![w.toNat, 0, 0, 0] := rfl
theorem off112_eq : k0_off112 = ![2] := by decide +kernel
theorem off113_eq : k0_off113 = ![2, 5, 0, 0, 0] := by decide +kernel
theorem off114_eq : k0_off114 = ![22] := by decide +kernel
theorem off115_eq : k0_off115 = ![2, 6, 0, 0, 0] := by decide +kernel
theorem off116_eq (w : BitVec 32) : k0_off116 w = ![w.toNat, 0, 0, 0] := rfl
theorem off117_eq : k0_off117 = ![2] := by decide +kernel
theorem off118_eq : k0_off118 = ![2, 6, 0, 0, 0] := by decide +kernel
theorem off119_eq : k0_off119 = ![23] := by decide +kernel
theorem off120_eq : k0_off120 = ![2, 7, 0, 0, 0] := by decide +kernel
theorem off121_eq (w : BitVec 32) : k0_off121 w = ![w.toNat, 0, 0, 0] := rfl
theorem off122_eq : k0_off122 = ![2] := by decide +kernel
theorem off123_eq : k0_off123 = ![2, 7, 0, 0, 0] := by decide +kernel
theorem off124_eq {v0 : BitVec 32} (hv : v0.toNat ≤ 65532) (t : Fin (k0_t1_loop v0).trips) : k0_off124 v0 t = ![8 * t.val + 0] :=
  congrArg (fun x => ![x]) (tblT 0 ⟨t.val, trip_lt64 hv t⟩)
theorem off125_eq {v0 : BitVec 32} (hv : v0.toNat ≤ 65532) (t : Fin (k0_t1_loop v0).trips) : k0_off125 v0 t = ![t.val % 4] :=
  congrArg (fun x => ![x]) (slotT ⟨t.val, trip_lt64 hv t⟩)
theorem off126_eq {v0 : BitVec 32} (hv : v0.toNat ≤ 65532) (t : Fin (k0_t1_loop v0).trips) : k0_off126 v0 t = ![t.val % 4, 0, 0, 0, 0] :=
  congrArg (fun x => ![x, 0, 0, 0, 0]) (slotT ⟨t.val, trip_lt64 hv t⟩)
theorem off127_eq (w : BitVec 32) : k0_off127 w = ![w.toNat, 0, 0, 0] := rfl
theorem off128_eq {v0 : BitVec 32} (hv : v0.toNat ≤ 65532) (t : Fin (k0_t1_loop v0).trips) : k0_off128 v0 t = ![t.val % 4] :=
  congrArg (fun x => ![x]) (slotT ⟨t.val, trip_lt64 hv t⟩)
theorem off129_eq {v0 : BitVec 32} (hv : v0.toNat ≤ 65532) (t : Fin (k0_t1_loop v0).trips) : k0_off129 v0 t = ![t.val % 4, 0, 0, 0, 0] :=
  congrArg (fun x => ![x, 0, 0, 0, 0]) (slotT ⟨t.val, trip_lt64 hv t⟩)
theorem off130_eq {v0 : BitVec 32} (hv : v0.toNat ≤ 65532) (t : Fin (k0_t1_loop v0).trips) : k0_off130 v0 t = ![8 * t.val + 1] :=
  congrArg (fun x => ![x]) (tblT 1 ⟨t.val, trip_lt64 hv t⟩)
theorem off131_eq {v0 : BitVec 32} (hv : v0.toNat ≤ 65532) (t : Fin (k0_t1_loop v0).trips) : k0_off131 v0 t = ![t.val % 4, 1, 0, 0, 0] :=
  congrArg (fun x => ![x, 1, 0, 0, 0]) (slotT ⟨t.val, trip_lt64 hv t⟩)
theorem off132_eq (w : BitVec 32) : k0_off132 w = ![w.toNat, 0, 0, 0] := rfl
theorem off133_eq {v0 : BitVec 32} (hv : v0.toNat ≤ 65532) (t : Fin (k0_t1_loop v0).trips) : k0_off133 v0 t = ![t.val % 4] :=
  congrArg (fun x => ![x]) (slotT ⟨t.val, trip_lt64 hv t⟩)
theorem off134_eq {v0 : BitVec 32} (hv : v0.toNat ≤ 65532) (t : Fin (k0_t1_loop v0).trips) : k0_off134 v0 t = ![t.val % 4, 1, 0, 0, 0] :=
  congrArg (fun x => ![x, 1, 0, 0, 0]) (slotT ⟨t.val, trip_lt64 hv t⟩)
theorem off135_eq {v0 : BitVec 32} (hv : v0.toNat ≤ 65532) (t : Fin (k0_t1_loop v0).trips) : k0_off135 v0 t = ![8 * t.val + 2] :=
  congrArg (fun x => ![x]) (tblT 2 ⟨t.val, trip_lt64 hv t⟩)
theorem off136_eq {v0 : BitVec 32} (hv : v0.toNat ≤ 65532) (t : Fin (k0_t1_loop v0).trips) : k0_off136 v0 t = ![t.val % 4, 2, 0, 0, 0] :=
  congrArg (fun x => ![x, 2, 0, 0, 0]) (slotT ⟨t.val, trip_lt64 hv t⟩)
theorem off137_eq (w : BitVec 32) : k0_off137 w = ![w.toNat, 0, 0, 0] := rfl
theorem off138_eq {v0 : BitVec 32} (hv : v0.toNat ≤ 65532) (t : Fin (k0_t1_loop v0).trips) : k0_off138 v0 t = ![t.val % 4] :=
  congrArg (fun x => ![x]) (slotT ⟨t.val, trip_lt64 hv t⟩)
theorem off139_eq {v0 : BitVec 32} (hv : v0.toNat ≤ 65532) (t : Fin (k0_t1_loop v0).trips) : k0_off139 v0 t = ![t.val % 4, 2, 0, 0, 0] :=
  congrArg (fun x => ![x, 2, 0, 0, 0]) (slotT ⟨t.val, trip_lt64 hv t⟩)
theorem off140_eq {v0 : BitVec 32} (hv : v0.toNat ≤ 65532) (t : Fin (k0_t1_loop v0).trips) : k0_off140 v0 t = ![8 * t.val + 3] :=
  congrArg (fun x => ![x]) (tblT 3 ⟨t.val, trip_lt64 hv t⟩)
theorem off141_eq {v0 : BitVec 32} (hv : v0.toNat ≤ 65532) (t : Fin (k0_t1_loop v0).trips) : k0_off141 v0 t = ![t.val % 4, 3, 0, 0, 0] :=
  congrArg (fun x => ![x, 3, 0, 0, 0]) (slotT ⟨t.val, trip_lt64 hv t⟩)
theorem off142_eq (w : BitVec 32) : k0_off142 w = ![w.toNat, 0, 0, 0] := rfl
theorem off143_eq {v0 : BitVec 32} (hv : v0.toNat ≤ 65532) (t : Fin (k0_t1_loop v0).trips) : k0_off143 v0 t = ![t.val % 4] :=
  congrArg (fun x => ![x]) (slotT ⟨t.val, trip_lt64 hv t⟩)
theorem off144_eq {v0 : BitVec 32} (hv : v0.toNat ≤ 65532) (t : Fin (k0_t1_loop v0).trips) : k0_off144 v0 t = ![t.val % 4, 3, 0, 0, 0] :=
  congrArg (fun x => ![x, 3, 0, 0, 0]) (slotT ⟨t.val, trip_lt64 hv t⟩)
theorem off145_eq {v0 : BitVec 32} (hv : v0.toNat ≤ 65532) (t : Fin (k0_t1_loop v0).trips) : k0_off145 v0 t = ![8 * t.val + 4] :=
  congrArg (fun x => ![x]) (tblT 4 ⟨t.val, trip_lt64 hv t⟩)
theorem off146_eq {v0 : BitVec 32} (hv : v0.toNat ≤ 65532) (t : Fin (k0_t1_loop v0).trips) : k0_off146 v0 t = ![t.val % 4, 4, 0, 0, 0] :=
  congrArg (fun x => ![x, 4, 0, 0, 0]) (slotT ⟨t.val, trip_lt64 hv t⟩)
theorem off147_eq (w : BitVec 32) : k0_off147 w = ![w.toNat, 0, 0, 0] := rfl
theorem off148_eq {v0 : BitVec 32} (hv : v0.toNat ≤ 65532) (t : Fin (k0_t1_loop v0).trips) : k0_off148 v0 t = ![t.val % 4] :=
  congrArg (fun x => ![x]) (slotT ⟨t.val, trip_lt64 hv t⟩)
theorem off149_eq {v0 : BitVec 32} (hv : v0.toNat ≤ 65532) (t : Fin (k0_t1_loop v0).trips) : k0_off149 v0 t = ![t.val % 4, 4, 0, 0, 0] :=
  congrArg (fun x => ![x, 4, 0, 0, 0]) (slotT ⟨t.val, trip_lt64 hv t⟩)
theorem off150_eq {v0 : BitVec 32} (hv : v0.toNat ≤ 65532) (t : Fin (k0_t1_loop v0).trips) : k0_off150 v0 t = ![8 * t.val + 5] :=
  congrArg (fun x => ![x]) (tblT 5 ⟨t.val, trip_lt64 hv t⟩)
theorem off151_eq {v0 : BitVec 32} (hv : v0.toNat ≤ 65532) (t : Fin (k0_t1_loop v0).trips) : k0_off151 v0 t = ![t.val % 4, 5, 0, 0, 0] :=
  congrArg (fun x => ![x, 5, 0, 0, 0]) (slotT ⟨t.val, trip_lt64 hv t⟩)
theorem off152_eq (w : BitVec 32) : k0_off152 w = ![w.toNat, 0, 0, 0] := rfl
theorem off153_eq {v0 : BitVec 32} (hv : v0.toNat ≤ 65532) (t : Fin (k0_t1_loop v0).trips) : k0_off153 v0 t = ![t.val % 4] :=
  congrArg (fun x => ![x]) (slotT ⟨t.val, trip_lt64 hv t⟩)
theorem off154_eq {v0 : BitVec 32} (hv : v0.toNat ≤ 65532) (t : Fin (k0_t1_loop v0).trips) : k0_off154 v0 t = ![t.val % 4, 5, 0, 0, 0] :=
  congrArg (fun x => ![x, 5, 0, 0, 0]) (slotT ⟨t.val, trip_lt64 hv t⟩)
theorem off155_eq {v0 : BitVec 32} (hv : v0.toNat ≤ 65532) (t : Fin (k0_t1_loop v0).trips) : k0_off155 v0 t = ![8 * t.val + 6] :=
  congrArg (fun x => ![x]) (tblT 6 ⟨t.val, trip_lt64 hv t⟩)
theorem off156_eq {v0 : BitVec 32} (hv : v0.toNat ≤ 65532) (t : Fin (k0_t1_loop v0).trips) : k0_off156 v0 t = ![t.val % 4, 6, 0, 0, 0] :=
  congrArg (fun x => ![x, 6, 0, 0, 0]) (slotT ⟨t.val, trip_lt64 hv t⟩)
theorem off157_eq (w : BitVec 32) : k0_off157 w = ![w.toNat, 0, 0, 0] := rfl
theorem off158_eq {v0 : BitVec 32} (hv : v0.toNat ≤ 65532) (t : Fin (k0_t1_loop v0).trips) : k0_off158 v0 t = ![t.val % 4] :=
  congrArg (fun x => ![x]) (slotT ⟨t.val, trip_lt64 hv t⟩)
theorem off159_eq {v0 : BitVec 32} (hv : v0.toNat ≤ 65532) (t : Fin (k0_t1_loop v0).trips) : k0_off159 v0 t = ![t.val % 4, 6, 0, 0, 0] :=
  congrArg (fun x => ![x, 6, 0, 0, 0]) (slotT ⟨t.val, trip_lt64 hv t⟩)
theorem off160_eq {v0 : BitVec 32} (hv : v0.toNat ≤ 65532) (t : Fin (k0_t1_loop v0).trips) : k0_off160 v0 t = ![8 * t.val + 7] :=
  congrArg (fun x => ![x]) (tblT 7 ⟨t.val, trip_lt64 hv t⟩)
theorem off161_eq {v0 : BitVec 32} (hv : v0.toNat ≤ 65532) (t : Fin (k0_t1_loop v0).trips) : k0_off161 v0 t = ![t.val % 4, 7, 0, 0, 0] :=
  congrArg (fun x => ![x, 7, 0, 0, 0]) (slotT ⟨t.val, trip_lt64 hv t⟩)
theorem off162_eq (w : BitVec 32) : k0_off162 w = ![w.toNat, 0, 0, 0] := rfl
theorem off163_eq {v0 : BitVec 32} (hv : v0.toNat ≤ 65532) (t : Fin (k0_t1_loop v0).trips) : k0_off163 v0 t = ![t.val % 4] :=
  congrArg (fun x => ![x]) (slotT ⟨t.val, trip_lt64 hv t⟩)
theorem off164_eq {v0 : BitVec 32} (hv : v0.toNat ≤ 65532) (t : Fin (k0_t1_loop v0).trips) : k0_off164 v0 t = ![t.val % 4, 7, 0, 0, 0] :=
  congrArg (fun x => ![x, 7, 0, 0, 0]) (slotT ⟨t.val, trip_lt64 hv t⟩)
theorem off165_eq {v0 : BitVec 32} (hv : v0.toNat ≤ 65532) (t : Fin (k0_t1_loop v0).trips) : k0_off165 v0 t = ![8 * (t.val + 3) + 0] :=
  congrArg (fun x => ![x]) (tblS 0 ⟨t.val, trip_lt64 hv t⟩)
theorem off166_eq {v0 : BitVec 32} (hv : v0.toNat ≤ 65532) (t : Fin (k0_t1_loop v0).trips) : k0_off166 v0 t = ![(t.val + 3) % 4] :=
  congrArg (fun x => ![x]) (slotS ⟨t.val, trip_lt64 hv t⟩)
theorem off167_eq {v0 : BitVec 32} (hv : v0.toNat ≤ 65532) (t : Fin (k0_t1_loop v0).trips) : k0_off167 v0 t = ![(t.val + 3) % 4, 0, 0, 0, 0] :=
  congrArg (fun x => ![x, 0, 0, 0, 0]) (slotS ⟨t.val, trip_lt64 hv t⟩)
theorem off168_eq (w : BitVec 32) : k0_off168 w = ![w.toNat, 0, 0, 0] := rfl
theorem off169_eq {v0 : BitVec 32} (hv : v0.toNat ≤ 65532) (t : Fin (k0_t1_loop v0).trips) : k0_off169 v0 t = ![(t.val + 3) % 4] :=
  congrArg (fun x => ![x]) (slotS ⟨t.val, trip_lt64 hv t⟩)
theorem off170_eq {v0 : BitVec 32} (hv : v0.toNat ≤ 65532) (t : Fin (k0_t1_loop v0).trips) : k0_off170 v0 t = ![(t.val + 3) % 4, 0, 0, 0, 0] :=
  congrArg (fun x => ![x, 0, 0, 0, 0]) (slotS ⟨t.val, trip_lt64 hv t⟩)
theorem off171_eq {v0 : BitVec 32} (hv : v0.toNat ≤ 65532) (t : Fin (k0_t1_loop v0).trips) : k0_off171 v0 t = ![8 * (t.val + 3) + 1] :=
  congrArg (fun x => ![x]) (tblS 1 ⟨t.val, trip_lt64 hv t⟩)
theorem off172_eq {v0 : BitVec 32} (hv : v0.toNat ≤ 65532) (t : Fin (k0_t1_loop v0).trips) : k0_off172 v0 t = ![(t.val + 3) % 4, 1, 0, 0, 0] :=
  congrArg (fun x => ![x, 1, 0, 0, 0]) (slotS ⟨t.val, trip_lt64 hv t⟩)
theorem off173_eq (w : BitVec 32) : k0_off173 w = ![w.toNat, 0, 0, 0] := rfl
theorem off174_eq {v0 : BitVec 32} (hv : v0.toNat ≤ 65532) (t : Fin (k0_t1_loop v0).trips) : k0_off174 v0 t = ![(t.val + 3) % 4] :=
  congrArg (fun x => ![x]) (slotS ⟨t.val, trip_lt64 hv t⟩)
theorem off175_eq {v0 : BitVec 32} (hv : v0.toNat ≤ 65532) (t : Fin (k0_t1_loop v0).trips) : k0_off175 v0 t = ![(t.val + 3) % 4, 1, 0, 0, 0] :=
  congrArg (fun x => ![x, 1, 0, 0, 0]) (slotS ⟨t.val, trip_lt64 hv t⟩)
theorem off176_eq {v0 : BitVec 32} (hv : v0.toNat ≤ 65532) (t : Fin (k0_t1_loop v0).trips) : k0_off176 v0 t = ![8 * (t.val + 3) + 2] :=
  congrArg (fun x => ![x]) (tblS 2 ⟨t.val, trip_lt64 hv t⟩)
theorem off177_eq {v0 : BitVec 32} (hv : v0.toNat ≤ 65532) (t : Fin (k0_t1_loop v0).trips) : k0_off177 v0 t = ![(t.val + 3) % 4, 2, 0, 0, 0] :=
  congrArg (fun x => ![x, 2, 0, 0, 0]) (slotS ⟨t.val, trip_lt64 hv t⟩)
theorem off178_eq (w : BitVec 32) : k0_off178 w = ![w.toNat, 0, 0, 0] := rfl
theorem off179_eq {v0 : BitVec 32} (hv : v0.toNat ≤ 65532) (t : Fin (k0_t1_loop v0).trips) : k0_off179 v0 t = ![(t.val + 3) % 4] :=
  congrArg (fun x => ![x]) (slotS ⟨t.val, trip_lt64 hv t⟩)
theorem off180_eq {v0 : BitVec 32} (hv : v0.toNat ≤ 65532) (t : Fin (k0_t1_loop v0).trips) : k0_off180 v0 t = ![(t.val + 3) % 4, 2, 0, 0, 0] :=
  congrArg (fun x => ![x, 2, 0, 0, 0]) (slotS ⟨t.val, trip_lt64 hv t⟩)
theorem off181_eq {v0 : BitVec 32} (hv : v0.toNat ≤ 65532) (t : Fin (k0_t1_loop v0).trips) : k0_off181 v0 t = ![8 * (t.val + 3) + 3] :=
  congrArg (fun x => ![x]) (tblS 3 ⟨t.val, trip_lt64 hv t⟩)
theorem off182_eq {v0 : BitVec 32} (hv : v0.toNat ≤ 65532) (t : Fin (k0_t1_loop v0).trips) : k0_off182 v0 t = ![(t.val + 3) % 4, 3, 0, 0, 0] :=
  congrArg (fun x => ![x, 3, 0, 0, 0]) (slotS ⟨t.val, trip_lt64 hv t⟩)
theorem off183_eq (w : BitVec 32) : k0_off183 w = ![w.toNat, 0, 0, 0] := rfl
theorem off184_eq {v0 : BitVec 32} (hv : v0.toNat ≤ 65532) (t : Fin (k0_t1_loop v0).trips) : k0_off184 v0 t = ![(t.val + 3) % 4] :=
  congrArg (fun x => ![x]) (slotS ⟨t.val, trip_lt64 hv t⟩)
theorem off185_eq {v0 : BitVec 32} (hv : v0.toNat ≤ 65532) (t : Fin (k0_t1_loop v0).trips) : k0_off185 v0 t = ![(t.val + 3) % 4, 3, 0, 0, 0] :=
  congrArg (fun x => ![x, 3, 0, 0, 0]) (slotS ⟨t.val, trip_lt64 hv t⟩)
theorem off186_eq {v0 : BitVec 32} (hv : v0.toNat ≤ 65532) (t : Fin (k0_t1_loop v0).trips) : k0_off186 v0 t = ![8 * (t.val + 3) + 4] :=
  congrArg (fun x => ![x]) (tblS 4 ⟨t.val, trip_lt64 hv t⟩)
theorem off187_eq {v0 : BitVec 32} (hv : v0.toNat ≤ 65532) (t : Fin (k0_t1_loop v0).trips) : k0_off187 v0 t = ![(t.val + 3) % 4, 4, 0, 0, 0] :=
  congrArg (fun x => ![x, 4, 0, 0, 0]) (slotS ⟨t.val, trip_lt64 hv t⟩)
theorem off188_eq (w : BitVec 32) : k0_off188 w = ![w.toNat, 0, 0, 0] := rfl
theorem off189_eq {v0 : BitVec 32} (hv : v0.toNat ≤ 65532) (t : Fin (k0_t1_loop v0).trips) : k0_off189 v0 t = ![(t.val + 3) % 4] :=
  congrArg (fun x => ![x]) (slotS ⟨t.val, trip_lt64 hv t⟩)
theorem off190_eq {v0 : BitVec 32} (hv : v0.toNat ≤ 65532) (t : Fin (k0_t1_loop v0).trips) : k0_off190 v0 t = ![(t.val + 3) % 4, 4, 0, 0, 0] :=
  congrArg (fun x => ![x, 4, 0, 0, 0]) (slotS ⟨t.val, trip_lt64 hv t⟩)
theorem off191_eq {v0 : BitVec 32} (hv : v0.toNat ≤ 65532) (t : Fin (k0_t1_loop v0).trips) : k0_off191 v0 t = ![8 * (t.val + 3) + 5] :=
  congrArg (fun x => ![x]) (tblS 5 ⟨t.val, trip_lt64 hv t⟩)
theorem off192_eq {v0 : BitVec 32} (hv : v0.toNat ≤ 65532) (t : Fin (k0_t1_loop v0).trips) : k0_off192 v0 t = ![(t.val + 3) % 4, 5, 0, 0, 0] :=
  congrArg (fun x => ![x, 5, 0, 0, 0]) (slotS ⟨t.val, trip_lt64 hv t⟩)
theorem off193_eq (w : BitVec 32) : k0_off193 w = ![w.toNat, 0, 0, 0] := rfl
theorem off194_eq {v0 : BitVec 32} (hv : v0.toNat ≤ 65532) (t : Fin (k0_t1_loop v0).trips) : k0_off194 v0 t = ![(t.val + 3) % 4] :=
  congrArg (fun x => ![x]) (slotS ⟨t.val, trip_lt64 hv t⟩)
theorem off195_eq {v0 : BitVec 32} (hv : v0.toNat ≤ 65532) (t : Fin (k0_t1_loop v0).trips) : k0_off195 v0 t = ![(t.val + 3) % 4, 5, 0, 0, 0] :=
  congrArg (fun x => ![x, 5, 0, 0, 0]) (slotS ⟨t.val, trip_lt64 hv t⟩)
theorem off196_eq {v0 : BitVec 32} (hv : v0.toNat ≤ 65532) (t : Fin (k0_t1_loop v0).trips) : k0_off196 v0 t = ![8 * (t.val + 3) + 6] :=
  congrArg (fun x => ![x]) (tblS 6 ⟨t.val, trip_lt64 hv t⟩)
theorem off197_eq {v0 : BitVec 32} (hv : v0.toNat ≤ 65532) (t : Fin (k0_t1_loop v0).trips) : k0_off197 v0 t = ![(t.val + 3) % 4, 6, 0, 0, 0] :=
  congrArg (fun x => ![x, 6, 0, 0, 0]) (slotS ⟨t.val, trip_lt64 hv t⟩)
theorem off198_eq (w : BitVec 32) : k0_off198 w = ![w.toNat, 0, 0, 0] := rfl
theorem off199_eq {v0 : BitVec 32} (hv : v0.toNat ≤ 65532) (t : Fin (k0_t1_loop v0).trips) : k0_off199 v0 t = ![(t.val + 3) % 4] :=
  congrArg (fun x => ![x]) (slotS ⟨t.val, trip_lt64 hv t⟩)
theorem off200_eq {v0 : BitVec 32} (hv : v0.toNat ≤ 65532) (t : Fin (k0_t1_loop v0).trips) : k0_off200 v0 t = ![(t.val + 3) % 4, 6, 0, 0, 0] :=
  congrArg (fun x => ![x, 6, 0, 0, 0]) (slotS ⟨t.val, trip_lt64 hv t⟩)
theorem off201_eq {v0 : BitVec 32} (hv : v0.toNat ≤ 65532) (t : Fin (k0_t1_loop v0).trips) : k0_off201 v0 t = ![8 * (t.val + 3) + 7] :=
  congrArg (fun x => ![x]) (tblS 7 ⟨t.val, trip_lt64 hv t⟩)
theorem off202_eq {v0 : BitVec 32} (hv : v0.toNat ≤ 65532) (t : Fin (k0_t1_loop v0).trips) : k0_off202 v0 t = ![(t.val + 3) % 4, 7, 0, 0, 0] :=
  congrArg (fun x => ![x, 7, 0, 0, 0]) (slotS ⟨t.val, trip_lt64 hv t⟩)
theorem off203_eq (w : BitVec 32) : k0_off203 w = ![w.toNat, 0, 0, 0] := rfl
theorem off204_eq {v0 : BitVec 32} (hv : v0.toNat ≤ 65532) (t : Fin (k0_t1_loop v0).trips) : k0_off204 v0 t = ![(t.val + 3) % 4] :=
  congrArg (fun x => ![x]) (slotS ⟨t.val, trip_lt64 hv t⟩)
theorem off205_eq {v0 : BitVec 32} (hv : v0.toNat ≤ 65532) (t : Fin (k0_t1_loop v0).trips) : k0_off205 v0 t = ![(t.val + 3) % 4, 7, 0, 0, 0] :=
  congrArg (fun x => ![x, 7, 0, 0, 0]) (slotS ⟨t.val, trip_lt64 hv t⟩)
theorem off206_eq {v0 : BitVec 32} (hv : v0.toNat ≤ 65532) (t : Fin (k0_t1_loop v0).trips) : k0_off206 v0 t = ![t.val % 4, 0, 0, 0, 0] :=
  congrArg (fun x => ![x, 0, 0, 0, 0]) (slotT ⟨t.val, trip_lt64 hv t⟩)
theorem off207_eq {v0 : BitVec 32} (hv : v0.toNat ≤ 65532) (t : Fin (k0_t1_loop v0).trips) : k0_off207 v0 t = ![t.val % 4, 0, 1, 0, 0] :=
  congrArg (fun x => ![x, 0, 1, 0, 0]) (slotT ⟨t.val, trip_lt64 hv t⟩)
theorem off211_eq (w : BitVec 32) : k0_off211 w = ![w.toNat, 0, 0, 0] := rfl
theorem off216_eq (w : BitVec 32) : k0_off216 w = ![w.toNat, 0, 0, 0] := rfl
theorem off221_eq (w : BitVec 32) : k0_off221 w = ![w.toNat, 0, 0, 0] := rfl
theorem off226_eq (w : BitVec 32) : k0_off226 w = ![w.toNat, 0, 0, 0] := rfl
theorem off231_eq (w : BitVec 32) : k0_off231 w = ![w.toNat, 0, 0, 0] := rfl
theorem off236_eq (w : BitVec 32) : k0_off236 w = ![w.toNat, 0, 0, 0] := rfl
theorem off241_eq (w : BitVec 32) : k0_off241 w = ![w.toNat, 0, 0, 0] := rfl
theorem off246_eq (w : BitVec 32) : k0_off246 w = ![w.toNat, 0, 0, 0] := rfl
theorem off252_eq (w : BitVec 32) : k0_off252 w = ![w.toNat, 0, 0, 0] := rfl
theorem off257_eq (w : BitVec 32) : k0_off257 w = ![w.toNat, 0, 0, 0] := rfl
theorem off262_eq (w : BitVec 32) : k0_off262 w = ![w.toNat, 0, 0, 0] := rfl
theorem off267_eq (w : BitVec 32) : k0_off267 w = ![w.toNat, 0, 0, 0] := rfl
theorem off272_eq (w : BitVec 32) : k0_off272 w = ![w.toNat, 0, 0, 0] := rfl
theorem off277_eq (w : BitVec 32) : k0_off277 w = ![w.toNat, 0, 0, 0] := rfl
theorem off282_eq (w : BitVec 32) : k0_off282 w = ![w.toNat, 0, 0, 0] := rfl
theorem off287_eq (w : BitVec 32) : k0_off287 w = ![w.toNat, 0, 0, 0] := rfl
theorem off292_eq {v0 : BitVec 32} (hv : v0.toNat ≤ 65532) : k0_off292 v0 = ![8 * (NF v0) + 0] := by
  show ![(Scalar.indexCast (Scalar.addi (Scalar.muli (v17 v0) 8#32) 0#32)).toNat] = _
  rw [v17_eq hv]; exact congrArg (fun x => ![x]) (tblN 0 ⟨NF v0, NF_lt hv⟩)
theorem off293_eq {v0 : BitVec 32} (hv : v0.toNat ≤ 65532) : k0_off293 v0 = ![(NF v0) % 4] := by
  show ![(Scalar.remsi (v17 v0) 4#32).toNat] = _
  rw [v17_eq hv]; exact congrArg (fun x => ![x]) (slotN ⟨NF v0, NF_lt hv⟩)
theorem off294_eq {v0 : BitVec 32} (hv : v0.toNat ≤ 65532) : k0_off294 v0 = ![(NF v0) % 4, 0, 0, 0, 0] := by
  show ![(Scalar.remsi (v17 v0) 4#32).toNat, 0, 0, 0, 0] = _
  rw [v17_eq hv]; exact congrArg (fun x => ![x, 0, 0, 0, 0]) (slotN ⟨NF v0, NF_lt hv⟩)
theorem off295_eq (w : BitVec 32) : k0_off295 w = ![w.toNat, 0, 0, 0] := rfl
theorem off296_eq {v0 : BitVec 32} (hv : v0.toNat ≤ 65532) : k0_off296 v0 = ![(NF v0) % 4] := by
  show ![(Scalar.remsi (v17 v0) 4#32).toNat] = _
  rw [v17_eq hv]; exact congrArg (fun x => ![x]) (slotN ⟨NF v0, NF_lt hv⟩)
theorem off297_eq {v0 : BitVec 32} (hv : v0.toNat ≤ 65532) : k0_off297 v0 = ![(NF v0) % 4, 0, 0, 0, 0] := by
  show ![(Scalar.remsi (v17 v0) 4#32).toNat, 0, 0, 0, 0] = _
  rw [v17_eq hv]; exact congrArg (fun x => ![x, 0, 0, 0, 0]) (slotN ⟨NF v0, NF_lt hv⟩)
theorem off298_eq {v0 : BitVec 32} (hv : v0.toNat ≤ 65532) : k0_off298 v0 = ![8 * (NF v0) + 1] := by
  show ![(Scalar.indexCast (Scalar.addi (Scalar.muli (v17 v0) 8#32) 1#32)).toNat] = _
  rw [v17_eq hv]; exact congrArg (fun x => ![x]) (tblN 1 ⟨NF v0, NF_lt hv⟩)
theorem off299_eq {v0 : BitVec 32} (hv : v0.toNat ≤ 65532) : k0_off299 v0 = ![(NF v0) % 4, 1, 0, 0, 0] := by
  show ![(Scalar.remsi (v17 v0) 4#32).toNat, 1, 0, 0, 0] = _
  rw [v17_eq hv]; exact congrArg (fun x => ![x, 1, 0, 0, 0]) (slotN ⟨NF v0, NF_lt hv⟩)
theorem off300_eq (w : BitVec 32) : k0_off300 w = ![w.toNat, 0, 0, 0] := rfl
theorem off301_eq {v0 : BitVec 32} (hv : v0.toNat ≤ 65532) : k0_off301 v0 = ![(NF v0) % 4] := by
  show ![(Scalar.remsi (v17 v0) 4#32).toNat] = _
  rw [v17_eq hv]; exact congrArg (fun x => ![x]) (slotN ⟨NF v0, NF_lt hv⟩)
theorem off302_eq {v0 : BitVec 32} (hv : v0.toNat ≤ 65532) : k0_off302 v0 = ![(NF v0) % 4, 1, 0, 0, 0] := by
  show ![(Scalar.remsi (v17 v0) 4#32).toNat, 1, 0, 0, 0] = _
  rw [v17_eq hv]; exact congrArg (fun x => ![x, 1, 0, 0, 0]) (slotN ⟨NF v0, NF_lt hv⟩)
theorem off303_eq {v0 : BitVec 32} (hv : v0.toNat ≤ 65532) : k0_off303 v0 = ![8 * (NF v0) + 2] := by
  show ![(Scalar.indexCast (Scalar.addi (Scalar.muli (v17 v0) 8#32) 2#32)).toNat] = _
  rw [v17_eq hv]; exact congrArg (fun x => ![x]) (tblN 2 ⟨NF v0, NF_lt hv⟩)
theorem off304_eq {v0 : BitVec 32} (hv : v0.toNat ≤ 65532) : k0_off304 v0 = ![(NF v0) % 4, 2, 0, 0, 0] := by
  show ![(Scalar.remsi (v17 v0) 4#32).toNat, 2, 0, 0, 0] = _
  rw [v17_eq hv]; exact congrArg (fun x => ![x, 2, 0, 0, 0]) (slotN ⟨NF v0, NF_lt hv⟩)
theorem off305_eq (w : BitVec 32) : k0_off305 w = ![w.toNat, 0, 0, 0] := rfl
theorem off306_eq {v0 : BitVec 32} (hv : v0.toNat ≤ 65532) : k0_off306 v0 = ![(NF v0) % 4] := by
  show ![(Scalar.remsi (v17 v0) 4#32).toNat] = _
  rw [v17_eq hv]; exact congrArg (fun x => ![x]) (slotN ⟨NF v0, NF_lt hv⟩)
theorem off307_eq {v0 : BitVec 32} (hv : v0.toNat ≤ 65532) : k0_off307 v0 = ![(NF v0) % 4, 2, 0, 0, 0] := by
  show ![(Scalar.remsi (v17 v0) 4#32).toNat, 2, 0, 0, 0] = _
  rw [v17_eq hv]; exact congrArg (fun x => ![x, 2, 0, 0, 0]) (slotN ⟨NF v0, NF_lt hv⟩)
theorem off308_eq {v0 : BitVec 32} (hv : v0.toNat ≤ 65532) : k0_off308 v0 = ![8 * (NF v0) + 3] := by
  show ![(Scalar.indexCast (Scalar.addi (Scalar.muli (v17 v0) 8#32) 3#32)).toNat] = _
  rw [v17_eq hv]; exact congrArg (fun x => ![x]) (tblN 3 ⟨NF v0, NF_lt hv⟩)
theorem off309_eq {v0 : BitVec 32} (hv : v0.toNat ≤ 65532) : k0_off309 v0 = ![(NF v0) % 4, 3, 0, 0, 0] := by
  show ![(Scalar.remsi (v17 v0) 4#32).toNat, 3, 0, 0, 0] = _
  rw [v17_eq hv]; exact congrArg (fun x => ![x, 3, 0, 0, 0]) (slotN ⟨NF v0, NF_lt hv⟩)
theorem off310_eq (w : BitVec 32) : k0_off310 w = ![w.toNat, 0, 0, 0] := rfl
theorem off311_eq {v0 : BitVec 32} (hv : v0.toNat ≤ 65532) : k0_off311 v0 = ![(NF v0) % 4] := by
  show ![(Scalar.remsi (v17 v0) 4#32).toNat] = _
  rw [v17_eq hv]; exact congrArg (fun x => ![x]) (slotN ⟨NF v0, NF_lt hv⟩)
theorem off312_eq {v0 : BitVec 32} (hv : v0.toNat ≤ 65532) : k0_off312 v0 = ![(NF v0) % 4, 3, 0, 0, 0] := by
  show ![(Scalar.remsi (v17 v0) 4#32).toNat, 3, 0, 0, 0] = _
  rw [v17_eq hv]; exact congrArg (fun x => ![x, 3, 0, 0, 0]) (slotN ⟨NF v0, NF_lt hv⟩)
theorem off313_eq {v0 : BitVec 32} (hv : v0.toNat ≤ 65532) : k0_off313 v0 = ![8 * (NF v0) + 4] := by
  show ![(Scalar.indexCast (Scalar.addi (Scalar.muli (v17 v0) 8#32) 4#32)).toNat] = _
  rw [v17_eq hv]; exact congrArg (fun x => ![x]) (tblN 4 ⟨NF v0, NF_lt hv⟩)
theorem off314_eq {v0 : BitVec 32} (hv : v0.toNat ≤ 65532) : k0_off314 v0 = ![(NF v0) % 4, 4, 0, 0, 0] := by
  show ![(Scalar.remsi (v17 v0) 4#32).toNat, 4, 0, 0, 0] = _
  rw [v17_eq hv]; exact congrArg (fun x => ![x, 4, 0, 0, 0]) (slotN ⟨NF v0, NF_lt hv⟩)
theorem off315_eq (w : BitVec 32) : k0_off315 w = ![w.toNat, 0, 0, 0] := rfl
theorem off316_eq {v0 : BitVec 32} (hv : v0.toNat ≤ 65532) : k0_off316 v0 = ![(NF v0) % 4] := by
  show ![(Scalar.remsi (v17 v0) 4#32).toNat] = _
  rw [v17_eq hv]; exact congrArg (fun x => ![x]) (slotN ⟨NF v0, NF_lt hv⟩)
theorem off317_eq {v0 : BitVec 32} (hv : v0.toNat ≤ 65532) : k0_off317 v0 = ![(NF v0) % 4, 4, 0, 0, 0] := by
  show ![(Scalar.remsi (v17 v0) 4#32).toNat, 4, 0, 0, 0] = _
  rw [v17_eq hv]; exact congrArg (fun x => ![x, 4, 0, 0, 0]) (slotN ⟨NF v0, NF_lt hv⟩)
theorem off318_eq {v0 : BitVec 32} (hv : v0.toNat ≤ 65532) : k0_off318 v0 = ![8 * (NF v0) + 5] := by
  show ![(Scalar.indexCast (Scalar.addi (Scalar.muli (v17 v0) 8#32) 5#32)).toNat] = _
  rw [v17_eq hv]; exact congrArg (fun x => ![x]) (tblN 5 ⟨NF v0, NF_lt hv⟩)
theorem off319_eq {v0 : BitVec 32} (hv : v0.toNat ≤ 65532) : k0_off319 v0 = ![(NF v0) % 4, 5, 0, 0, 0] := by
  show ![(Scalar.remsi (v17 v0) 4#32).toNat, 5, 0, 0, 0] = _
  rw [v17_eq hv]; exact congrArg (fun x => ![x, 5, 0, 0, 0]) (slotN ⟨NF v0, NF_lt hv⟩)
theorem off320_eq (w : BitVec 32) : k0_off320 w = ![w.toNat, 0, 0, 0] := rfl
theorem off321_eq {v0 : BitVec 32} (hv : v0.toNat ≤ 65532) : k0_off321 v0 = ![(NF v0) % 4] := by
  show ![(Scalar.remsi (v17 v0) 4#32).toNat] = _
  rw [v17_eq hv]; exact congrArg (fun x => ![x]) (slotN ⟨NF v0, NF_lt hv⟩)
theorem off322_eq {v0 : BitVec 32} (hv : v0.toNat ≤ 65532) : k0_off322 v0 = ![(NF v0) % 4, 5, 0, 0, 0] := by
  show ![(Scalar.remsi (v17 v0) 4#32).toNat, 5, 0, 0, 0] = _
  rw [v17_eq hv]; exact congrArg (fun x => ![x, 5, 0, 0, 0]) (slotN ⟨NF v0, NF_lt hv⟩)
theorem off323_eq {v0 : BitVec 32} (hv : v0.toNat ≤ 65532) : k0_off323 v0 = ![8 * (NF v0) + 6] := by
  show ![(Scalar.indexCast (Scalar.addi (Scalar.muli (v17 v0) 8#32) 6#32)).toNat] = _
  rw [v17_eq hv]; exact congrArg (fun x => ![x]) (tblN 6 ⟨NF v0, NF_lt hv⟩)
theorem off324_eq {v0 : BitVec 32} (hv : v0.toNat ≤ 65532) : k0_off324 v0 = ![(NF v0) % 4, 6, 0, 0, 0] := by
  show ![(Scalar.remsi (v17 v0) 4#32).toNat, 6, 0, 0, 0] = _
  rw [v17_eq hv]; exact congrArg (fun x => ![x, 6, 0, 0, 0]) (slotN ⟨NF v0, NF_lt hv⟩)
theorem off325_eq (w : BitVec 32) : k0_off325 w = ![w.toNat, 0, 0, 0] := rfl
theorem off326_eq {v0 : BitVec 32} (hv : v0.toNat ≤ 65532) : k0_off326 v0 = ![(NF v0) % 4] := by
  show ![(Scalar.remsi (v17 v0) 4#32).toNat] = _
  rw [v17_eq hv]; exact congrArg (fun x => ![x]) (slotN ⟨NF v0, NF_lt hv⟩)
theorem off327_eq {v0 : BitVec 32} (hv : v0.toNat ≤ 65532) : k0_off327 v0 = ![(NF v0) % 4, 6, 0, 0, 0] := by
  show ![(Scalar.remsi (v17 v0) 4#32).toNat, 6, 0, 0, 0] = _
  rw [v17_eq hv]; exact congrArg (fun x => ![x, 6, 0, 0, 0]) (slotN ⟨NF v0, NF_lt hv⟩)
theorem off328_eq {v0 : BitVec 32} (hv : v0.toNat ≤ 65532) : k0_off328 v0 = ![8 * (NF v0) + 7] := by
  show ![(Scalar.indexCast (Scalar.addi (Scalar.muli (v17 v0) 8#32) 7#32)).toNat] = _
  rw [v17_eq hv]; exact congrArg (fun x => ![x]) (tblN 7 ⟨NF v0, NF_lt hv⟩)
theorem off329_eq {v0 : BitVec 32} (hv : v0.toNat ≤ 65532) : k0_off329 v0 = ![(NF v0) % 4, 7, 0, 0, 0] := by
  show ![(Scalar.remsi (v17 v0) 4#32).toNat, 7, 0, 0, 0] = _
  rw [v17_eq hv]; exact congrArg (fun x => ![x, 7, 0, 0, 0]) (slotN ⟨NF v0, NF_lt hv⟩)
theorem off330_eq (w : BitVec 32) : k0_off330 w = ![w.toNat, 0, 0, 0] := rfl
theorem off331_eq {v0 : BitVec 32} (hv : v0.toNat ≤ 65532) : k0_off331 v0 = ![(NF v0) % 4] := by
  show ![(Scalar.remsi (v17 v0) 4#32).toNat] = _
  rw [v17_eq hv]; exact congrArg (fun x => ![x]) (slotN ⟨NF v0, NF_lt hv⟩)
theorem off332_eq {v0 : BitVec 32} (hv : v0.toNat ≤ 65532) : k0_off332 v0 = ![(NF v0) % 4, 7, 0, 0, 0] := by
  show ![(Scalar.remsi (v17 v0) 4#32).toNat, 7, 0, 0, 0] = _
  rw [v17_eq hv]; exact congrArg (fun x => ![x, 7, 0, 0, 0]) (slotN ⟨NF v0, NF_lt hv⟩)
theorem off333_eq {v0 : BitVec 32} (hv : v0.toNat ≤ 65532) : k0_off333 v0 = ![(NF v0) % 4, 0, 0, 0, 0] := by
  show ![(Scalar.remsi (v17 v0) 4#32).toNat, 0, 0, 0, 0] = _
  rw [v17_eq hv]; exact congrArg (fun x => ![x, 0, 0, 0, 0]) (slotN ⟨NF v0, NF_lt hv⟩)
theorem off334_eq {v0 : BitVec 32} (hv : v0.toNat ≤ 65532) : k0_off334 v0 = ![(NF v0) % 4, 0, 1, 0, 0] := by
  show ![(Scalar.remsi (v17 v0) 4#32).toNat, 0, 1, 0, 0] = _
  rw [v17_eq hv]; exact congrArg (fun x => ![x, 0, 1, 0, 0]) (slotN ⟨NF v0, NF_lt hv⟩)
theorem chk25_0 {v0 : BitVec 32} (hv : v0.toNat ≤ 65532) : k0_chk25_0 v0 :=
  ⟨t1_ok hv,
   fun t => by rw [off124_eq hv t]; exact inb512 (by have := trip_lt64 hv t; omega),
   fun t => by rw [off125_eq hv t]; exact inb4 (Nat.mod_lt _ (by decide)),
   fun t => by rw [off126_eq hv t]; exact inbM (Nat.mod_lt _ (by decide)) (by decide),
   fun t hinb => Affine.words_rows (by decide) rfl rfl,
   fun t => by rw [off128_eq hv t]; exact inb4 (Nat.mod_lt _ (by decide)),
   fun t => by rw [off129_eq hv t]; exact inbM (Nat.mod_lt _ (by decide)) (by decide),
   fun t hinb => Affine.words_rows (by decide) rfl rfl,
   fun t => by rw [off130_eq hv t]; exact inb512 (by have := trip_lt64 hv t; omega),
   fun t => by rw [off131_eq hv t]; exact inbM (Nat.mod_lt _ (by decide)) (by decide),
   fun t hinb => Affine.words_rows (by decide) rfl rfl,
   fun t => by rw [off133_eq hv t]; exact inb4 (Nat.mod_lt _ (by decide)),
   fun t => by rw [off134_eq hv t]; exact inbM (Nat.mod_lt _ (by decide)) (by decide),
   fun t hinb => Affine.words_rows (by decide) rfl rfl,
   fun t => by rw [off135_eq hv t]; exact inb512 (by have := trip_lt64 hv t; omega),
   fun t => by rw [off136_eq hv t]; exact inbM (Nat.mod_lt _ (by decide)) (by decide),
   fun t hinb => Affine.words_rows (by decide) rfl rfl,
   fun t => by rw [off138_eq hv t]; exact inb4 (Nat.mod_lt _ (by decide)),
   fun t => by rw [off139_eq hv t]; exact inbM (Nat.mod_lt _ (by decide)) (by decide),
   fun t hinb => Affine.words_rows (by decide) rfl rfl,
   fun t => by rw [off140_eq hv t]; exact inb512 (by have := trip_lt64 hv t; omega),
   fun t => by rw [off141_eq hv t]; exact inbM (Nat.mod_lt _ (by decide)) (by decide),
   fun t hinb => Affine.words_rows (by decide) rfl rfl,
   fun t => by rw [off143_eq hv t]; exact inb4 (Nat.mod_lt _ (by decide)),
   fun t => by rw [off144_eq hv t]; exact inbM (Nat.mod_lt _ (by decide)) (by decide),
   fun t hinb => Affine.words_rows (by decide) rfl rfl,
   fun t => by rw [off145_eq hv t]; exact inb512 (by have := trip_lt64 hv t; omega),
   fun t => by rw [off146_eq hv t]; exact inbM (Nat.mod_lt _ (by decide)) (by decide),
   fun t hinb => Affine.words_rows (by decide) rfl rfl,
   fun t => by rw [off148_eq hv t]; exact inb4 (Nat.mod_lt _ (by decide)),
   fun t => by rw [off149_eq hv t]; exact inbM (Nat.mod_lt _ (by decide)) (by decide),
   fun t hinb => Affine.words_rows (by decide) rfl rfl⟩
theorem chk25_1 {v0 : BitVec 32} (hv : v0.toNat ≤ 65532) : k0_chk25_1 v0 :=
  ⟨fun t => by rw [off150_eq hv t]; exact inb512 (by have := trip_lt64 hv t; omega),
   fun t => by rw [off151_eq hv t]; exact inbM (Nat.mod_lt _ (by decide)) (by decide),
   fun t hinb => Affine.words_rows (by decide) rfl rfl,
   fun t => by rw [off153_eq hv t]; exact inb4 (Nat.mod_lt _ (by decide)),
   fun t => by rw [off154_eq hv t]; exact inbM (Nat.mod_lt _ (by decide)) (by decide),
   fun t hinb => Affine.words_rows (by decide) rfl rfl,
   fun t => by rw [off155_eq hv t]; exact inb512 (by have := trip_lt64 hv t; omega),
   fun t => by rw [off156_eq hv t]; exact inbM (Nat.mod_lt _ (by decide)) (by decide),
   fun t hinb => Affine.words_rows (by decide) rfl rfl,
   fun t => by rw [off158_eq hv t]; exact inb4 (Nat.mod_lt _ (by decide)),
   fun t => by rw [off159_eq hv t]; exact inbM (Nat.mod_lt _ (by decide)) (by decide),
   fun t hinb => Affine.words_rows (by decide) rfl rfl,
   fun t => by rw [off160_eq hv t]; exact inb512 (by have := trip_lt64 hv t; omega),
   fun t => by rw [off161_eq hv t]; exact inbM (Nat.mod_lt _ (by decide)) (by decide),
   fun t hinb => Affine.words_rows (by decide) rfl rfl,
   fun t => by rw [off163_eq hv t]; exact inb4 (Nat.mod_lt _ (by decide)),
   fun t => by rw [off164_eq hv t]; exact inbM (Nat.mod_lt _ (by decide)) (by decide),
   fun t hinb => Affine.words_rows (by decide) rfl rfl,
   fun t h4 => by rw [off165_eq hv t]; exact inb512 (by have := (cond4_eq hv t).1 h4; have := NF_lt hv; omega),
   fun t h4 => by rw [off166_eq hv t]; exact inb4 (Nat.mod_lt _ (by decide)),
   fun t h4 => by rw [off167_eq hv t]; exact inbM (Nat.mod_lt _ (by decide)) (by decide),
   fun t h4 hinb => Affine.words_rows (by decide) rfl rfl,
   fun t h4 => by rw [off169_eq hv t]; exact inb4 (Nat.mod_lt _ (by decide)),
   fun t h4 => by rw [off170_eq hv t]; exact inbM (Nat.mod_lt _ (by decide)) (by decide),
   fun t h4 hinb => Affine.words_rows (by decide) rfl rfl,
   fun t h4 => by rw [off171_eq hv t]; exact inb512 (by have := (cond4_eq hv t).1 h4; have := NF_lt hv; omega),
   fun t h4 => by rw [off172_eq hv t]; exact inbM (Nat.mod_lt _ (by decide)) (by decide),
   fun t h4 hinb => Affine.words_rows (by decide) rfl rfl,
   fun t h4 => by rw [off174_eq hv t]; exact inb4 (Nat.mod_lt _ (by decide)),
   fun t h4 => by rw [off175_eq hv t]; exact inbM (Nat.mod_lt _ (by decide)) (by decide),
   fun t h4 hinb => Affine.words_rows (by decide) rfl rfl,
   fun t h4 => by rw [off176_eq hv t]; exact inb512 (by have := (cond4_eq hv t).1 h4; have := NF_lt hv; omega)⟩
theorem chk25_2 {v0 : BitVec 32} (hv : v0.toNat ≤ 65532) : k0_chk25_2 v0 :=
  ⟨fun t h4 => by rw [off177_eq hv t]; exact inbM (Nat.mod_lt _ (by decide)) (by decide),
   fun t h4 hinb => Affine.words_rows (by decide) rfl rfl,
   fun t h4 => by rw [off179_eq hv t]; exact inb4 (Nat.mod_lt _ (by decide)),
   fun t h4 => by rw [off180_eq hv t]; exact inbM (Nat.mod_lt _ (by decide)) (by decide),
   fun t h4 hinb => Affine.words_rows (by decide) rfl rfl,
   fun t h4 => by rw [off181_eq hv t]; exact inb512 (by have := (cond4_eq hv t).1 h4; have := NF_lt hv; omega),
   fun t h4 => by rw [off182_eq hv t]; exact inbM (Nat.mod_lt _ (by decide)) (by decide),
   fun t h4 hinb => Affine.words_rows (by decide) rfl rfl,
   fun t h4 => by rw [off184_eq hv t]; exact inb4 (Nat.mod_lt _ (by decide)),
   fun t h4 => by rw [off185_eq hv t]; exact inbM (Nat.mod_lt _ (by decide)) (by decide),
   fun t h4 hinb => Affine.words_rows (by decide) rfl rfl,
   fun t h4 => by rw [off186_eq hv t]; exact inb512 (by have := (cond4_eq hv t).1 h4; have := NF_lt hv; omega),
   fun t h4 => by rw [off187_eq hv t]; exact inbM (Nat.mod_lt _ (by decide)) (by decide),
   fun t h4 hinb => Affine.words_rows (by decide) rfl rfl,
   fun t h4 => by rw [off189_eq hv t]; exact inb4 (Nat.mod_lt _ (by decide)),
   fun t h4 => by rw [off190_eq hv t]; exact inbM (Nat.mod_lt _ (by decide)) (by decide),
   fun t h4 hinb => Affine.words_rows (by decide) rfl rfl,
   fun t h4 => by rw [off191_eq hv t]; exact inb512 (by have := (cond4_eq hv t).1 h4; have := NF_lt hv; omega),
   fun t h4 => by rw [off192_eq hv t]; exact inbM (Nat.mod_lt _ (by decide)) (by decide),
   fun t h4 hinb => Affine.words_rows (by decide) rfl rfl,
   fun t h4 => by rw [off194_eq hv t]; exact inb4 (Nat.mod_lt _ (by decide)),
   fun t h4 => by rw [off195_eq hv t]; exact inbM (Nat.mod_lt _ (by decide)) (by decide),
   fun t h4 hinb => Affine.words_rows (by decide) rfl rfl,
   fun t h4 => by rw [off196_eq hv t]; exact inb512 (by have := (cond4_eq hv t).1 h4; have := NF_lt hv; omega),
   fun t h4 => by rw [off197_eq hv t]; exact inbM (Nat.mod_lt _ (by decide)) (by decide),
   fun t h4 hinb => Affine.words_rows (by decide) rfl rfl,
   fun t h4 => by rw [off199_eq hv t]; exact inb4 (Nat.mod_lt _ (by decide)),
   fun t h4 => by rw [off200_eq hv t]; exact inbM (Nat.mod_lt _ (by decide)) (by decide),
   fun t h4 hinb => Affine.words_rows (by decide) rfl rfl,
   fun t h4 => by rw [off201_eq hv t]; exact inb512 (by have := (cond4_eq hv t).1 h4; have := NF_lt hv; omega),
   fun t h4 => by rw [off202_eq hv t]; exact inbM (Nat.mod_lt _ (by decide)) (by decide),
   fun t h4 hinb => Affine.words_rows (by decide) rfl rfl⟩
theorem chk25_3 {v0 : BitVec 32} (hv : v0.toNat ≤ 65532) : k0_chk25_3 v0 :=
  ⟨fun t h4 => by rw [off204_eq hv t]; exact inb4 (Nat.mod_lt _ (by decide)),
   fun t h4 => by rw [off205_eq hv t]; exact inbM (Nat.mod_lt _ (by decide)) (by decide),
   fun t h4 hinb => Affine.words_rows (by decide) rfl rfl,
   fun t => by rw [off206_eq hv t]; exact inbL (Nat.mod_lt _ (by decide)) (by decide),
   fun t => by rw [off207_eq hv t]; exact inbL (Nat.mod_lt _ (by decide)) (by decide),
   t2_ok hv,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim⟩
theorem chk25_4 {v0 : BitVec 32} (hv : v0.toNat ≤ 65532) : k0_chk25_4 v0 :=
  ⟨fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim⟩
theorem chk25_5 {v0 : BitVec 32} (hv : v0.toNat ≤ 65532) : k0_chk25_5 v0 :=
  ⟨fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim⟩
theorem chk25_6 {v0 : BitVec 32} (hv : v0.toNat ≤ 65532) : k0_chk25_6 v0 :=
  ⟨fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   by rw [off292_eq hv]; exact inb512 (by have := NF_lt hv; omega),
   by rw [off293_eq hv]; exact inb4 (Nat.mod_lt _ (by decide)),
   by rw [off294_eq hv]; exact inbM (Nat.mod_lt _ (by decide)) (by decide),
   fun hinb => Affine.words_rows (by decide) rfl rfl,
   by rw [off296_eq hv]; exact inb4 (Nat.mod_lt _ (by decide)),
   by rw [off297_eq hv]; exact inbM (Nat.mod_lt _ (by decide)) (by decide),
   fun hinb => Affine.words_rows (by decide) rfl rfl,
   by rw [off298_eq hv]; exact inb512 (by have := NF_lt hv; omega),
   by rw [off299_eq hv]; exact inbM (Nat.mod_lt _ (by decide)) (by decide),
   fun hinb => Affine.words_rows (by decide) rfl rfl,
   by rw [off301_eq hv]; exact inb4 (Nat.mod_lt _ (by decide)),
   by rw [off302_eq hv]; exact inbM (Nat.mod_lt _ (by decide)) (by decide),
   fun hinb => Affine.words_rows (by decide) rfl rfl,
   by rw [off303_eq hv]; exact inb512 (by have := NF_lt hv; omega),
   by rw [off304_eq hv]; exact inbM (Nat.mod_lt _ (by decide)) (by decide),
   fun hinb => Affine.words_rows (by decide) rfl rfl,
   by rw [off306_eq hv]; exact inb4 (Nat.mod_lt _ (by decide)),
   by rw [off307_eq hv]; exact inbM (Nat.mod_lt _ (by decide)) (by decide),
   fun hinb => Affine.words_rows (by decide) rfl rfl,
   by rw [off308_eq hv]; exact inb512 (by have := NF_lt hv; omega),
   by rw [off309_eq hv]; exact inbM (Nat.mod_lt _ (by decide)) (by decide),
   fun hinb => Affine.words_rows (by decide) rfl rfl⟩
theorem chk25_7 {v0 : BitVec 32} (hv : v0.toNat ≤ 65532) : k0_chk25_7 v0 :=
  ⟨by rw [off311_eq hv]; exact inb4 (Nat.mod_lt _ (by decide)),
   by rw [off312_eq hv]; exact inbM (Nat.mod_lt _ (by decide)) (by decide),
   fun hinb => Affine.words_rows (by decide) rfl rfl,
   by rw [off313_eq hv]; exact inb512 (by have := NF_lt hv; omega),
   by rw [off314_eq hv]; exact inbM (Nat.mod_lt _ (by decide)) (by decide),
   fun hinb => Affine.words_rows (by decide) rfl rfl,
   by rw [off316_eq hv]; exact inb4 (Nat.mod_lt _ (by decide)),
   by rw [off317_eq hv]; exact inbM (Nat.mod_lt _ (by decide)) (by decide),
   fun hinb => Affine.words_rows (by decide) rfl rfl,
   by rw [off318_eq hv]; exact inb512 (by have := NF_lt hv; omega),
   by rw [off319_eq hv]; exact inbM (Nat.mod_lt _ (by decide)) (by decide),
   fun hinb => Affine.words_rows (by decide) rfl rfl,
   by rw [off321_eq hv]; exact inb4 (Nat.mod_lt _ (by decide)),
   by rw [off322_eq hv]; exact inbM (Nat.mod_lt _ (by decide)) (by decide),
   fun hinb => Affine.words_rows (by decide) rfl rfl,
   by rw [off323_eq hv]; exact inb512 (by have := NF_lt hv; omega),
   by rw [off324_eq hv]; exact inbM (Nat.mod_lt _ (by decide)) (by decide),
   fun hinb => Affine.words_rows (by decide) rfl rfl,
   by rw [off326_eq hv]; exact inb4 (Nat.mod_lt _ (by decide)),
   by rw [off327_eq hv]; exact inbM (Nat.mod_lt _ (by decide)) (by decide),
   fun hinb => Affine.words_rows (by decide) rfl rfl,
   by rw [off328_eq hv]; exact inb512 (by have := NF_lt hv; omega),
   by rw [off329_eq hv]; exact inbM (Nat.mod_lt _ (by decide)) (by decide),
   fun hinb => Affine.words_rows (by decide) rfl rfl,
   by rw [off331_eq hv]; exact inb4 (Nat.mod_lt _ (by decide)),
   by rw [off332_eq hv]; exact inbM (Nat.mod_lt _ (by decide)) (by decide),
   fun hinb => Affine.words_rows (by decide) rfl rfl,
   by rw [off333_eq hv]; exact inbL (Nat.mod_lt _ (by decide)) (by decide),
   by rw [off334_eq hv]; exact inbL (Nat.mod_lt _ (by decide)) (by decide)⟩
/-- Every offset computed from the sequence length is in bounds. -/
theorem chk25 {v0 : BitVec 32} (hv : v0.toNat ≤ 65532) : k0_chk25 v0 :=
  ⟨chk25_0 hv, chk25_1 hv, chk25_2 hv, chk25_3 hv, chk25_4 hv, chk25_5 hv, chk25_6 hv, chk25_7 hv⟩

theorem chk1 (v0 : BitVec 32) (v623 : BitVec 32) (h : v623.toNat < 512) : k0_chk1 v0 v623 :=
  ⟨fun _ => inbP h, fun _ _ => Affine.words_rows (by decide) rfl rfl⟩
theorem chk2 (v0 : BitVec 32) (v639 : BitVec 32) (h : v639.toNat < 512) : k0_chk2 v0 v639 :=
  ⟨fun _ => inbP h, fun _ _ => Affine.words_rows (by decide) rfl rfl⟩
theorem chk3 (v0 : BitVec 32) (v655 : BitVec 32) (h : v655.toNat < 512) : k0_chk3 v0 v655 :=
  ⟨fun _ => inbP h, fun _ _ => Affine.words_rows (by decide) rfl rfl⟩
theorem chk4 (v0 : BitVec 32) (v671 : BitVec 32) (h : v671.toNat < 512) : k0_chk4 v0 v671 :=
  ⟨fun _ => inbP h, fun _ _ => Affine.words_rows (by decide) rfl rfl⟩
theorem chk5 (v0 : BitVec 32) (v687 : BitVec 32) (h : v687.toNat < 512) : k0_chk5 v0 v687 :=
  ⟨fun _ => inbP h, fun _ _ => Affine.words_rows (by decide) rfl rfl⟩
theorem chk6 (v0 : BitVec 32) (v703 : BitVec 32) (h : v703.toNat < 512) : k0_chk6 v0 v703 :=
  ⟨fun _ => inbP h, fun _ _ => Affine.words_rows (by decide) rfl rfl⟩
theorem chk7 (v0 : BitVec 32) (v719 : BitVec 32) (h : v719.toNat < 512) : k0_chk7 v0 v719 :=
  ⟨fun _ => inbP h, fun _ _ => Affine.words_rows (by decide) rfl rfl⟩
theorem chk8 (v0 : BitVec 32) (v735 : BitVec 32) (h : v735.toNat < 512) : k0_chk8 v0 v735 :=
  ⟨fun _ => inbP h, fun _ _ => Affine.words_rows (by decide) rfl rfl⟩
theorem chk9 (v0 : BitVec 32) (v623 : BitVec 32) (h : v623.toNat < 512) : k0_chk9 v0 v623 :=
  ⟨fun _ => inbP h, fun _ _ => Affine.words_rows (by decide) rfl rfl⟩
theorem chk10 (v0 : BitVec 32) (v639 : BitVec 32) (h : v639.toNat < 512) : k0_chk10 v0 v639 :=
  ⟨fun _ => inbP h, fun _ _ => Affine.words_rows (by decide) rfl rfl⟩
theorem chk11 (v0 : BitVec 32) (v655 : BitVec 32) (h : v655.toNat < 512) : k0_chk11 v0 v655 :=
  ⟨fun _ => inbP h, fun _ _ => Affine.words_rows (by decide) rfl rfl⟩
theorem chk12 (v0 : BitVec 32) (v671 : BitVec 32) (h : v671.toNat < 512) : k0_chk12 v0 v671 :=
  ⟨fun _ => inbP h, fun _ _ => Affine.words_rows (by decide) rfl rfl⟩
theorem chk13 (v0 : BitVec 32) (v687 : BitVec 32) (h : v687.toNat < 512) : k0_chk13 v0 v687 :=
  ⟨fun _ => inbP h, fun _ _ => Affine.words_rows (by decide) rfl rfl⟩
theorem chk14 (v0 : BitVec 32) (v703 : BitVec 32) (h : v703.toNat < 512) : k0_chk14 v0 v703 :=
  ⟨fun _ => inbP h, fun _ _ => Affine.words_rows (by decide) rfl rfl⟩
theorem chk15 (v0 : BitVec 32) (v719 : BitVec 32) (h : v719.toNat < 512) : k0_chk15 v0 v719 :=
  ⟨fun _ => inbP h, fun _ _ => Affine.words_rows (by decide) rfl rfl⟩
theorem chk16 (v0 : BitVec 32) (v735 : BitVec 32) (h : v735.toNat < 512) : k0_chk16 v0 v735 :=
  ⟨fun _ => inbP h, fun _ _ => Affine.words_rows (by decide) rfl rfl⟩
theorem chk17 (v0 : BitVec 32) (v623 : BitVec 32) (h : v623.toNat < 512) : k0_chk17 v0 v623 :=
  ⟨fun _ => inbP h, fun _ _ => Affine.words_rows (by decide) rfl rfl⟩
theorem chk18 (v0 : BitVec 32) (v639 : BitVec 32) (h : v639.toNat < 512) : k0_chk18 v0 v639 :=
  ⟨fun _ => inbP h, fun _ _ => Affine.words_rows (by decide) rfl rfl⟩
theorem chk19 (v0 : BitVec 32) (v655 : BitVec 32) (h : v655.toNat < 512) : k0_chk19 v0 v655 :=
  ⟨fun _ => inbP h, fun _ _ => Affine.words_rows (by decide) rfl rfl⟩
theorem chk20 (v0 : BitVec 32) (v671 : BitVec 32) (h : v671.toNat < 512) : k0_chk20 v0 v671 :=
  ⟨fun _ => inbP h, fun _ _ => Affine.words_rows (by decide) rfl rfl⟩
theorem chk21 (v0 : BitVec 32) (v687 : BitVec 32) (h : v687.toNat < 512) : k0_chk21 v0 v687 :=
  ⟨fun _ => inbP h, fun _ _ => Affine.words_rows (by decide) rfl rfl⟩
theorem chk22 (v0 : BitVec 32) (v703 : BitVec 32) (h : v703.toNat < 512) : k0_chk22 v0 v703 :=
  ⟨fun _ => inbP h, fun _ _ => Affine.words_rows (by decide) rfl rfl⟩
theorem chk23 (v0 : BitVec 32) (v719 : BitVec 32) (h : v719.toNat < 512) : k0_chk23 v0 v719 :=
  ⟨fun _ => inbP h, fun _ _ => Affine.words_rows (by decide) rfl rfl⟩
theorem chk24 (v0 : BitVec 32) (v735 : BitVec 32) (h : v735.toNat < 512) : k0_chk24 v0 v735 :=
  ⟨fun _ => inbP h, fun _ _ => Affine.words_rows (by decide) rfl rfl⟩
theorem chk26 (v623 : BitVec 32) (h : v623.toNat < 512) : k0_chk26 v623 :=
  ⟨inbP h, fun _ => Affine.words_rows (by decide) rfl rfl⟩
theorem chk27 (v639 : BitVec 32) (h : v639.toNat < 512) : k0_chk27 v639 :=
  ⟨inbP h, fun _ => Affine.words_rows (by decide) rfl rfl⟩
theorem chk28 (v655 : BitVec 32) (h : v655.toNat < 512) : k0_chk28 v655 :=
  ⟨inbP h, fun _ => Affine.words_rows (by decide) rfl rfl⟩
theorem chk29 (v671 : BitVec 32) (h : v671.toNat < 512) : k0_chk29 v671 :=
  ⟨inbP h, fun _ => Affine.words_rows (by decide) rfl rfl⟩
theorem chk30 (v687 : BitVec 32) (h : v687.toNat < 512) : k0_chk30 v687 :=
  ⟨inbP h, fun _ => Affine.words_rows (by decide) rfl rfl⟩
theorem chk31 (v703 : BitVec 32) (h : v703.toNat < 512) : k0_chk31 v703 :=
  ⟨inbP h, fun _ => Affine.words_rows (by decide) rfl rfl⟩
theorem chk32 (v719 : BitVec 32) (h : v719.toNat < 512) : k0_chk32 v719 :=
  ⟨inbP h, fun _ => Affine.words_rows (by decide) rfl rfl⟩
theorem chk33 (v735 : BitVec 32) (h : v735.toNat < 512) : k0_chk33 v735 :=
  ⟨inbP h, fun _ => Affine.words_rows (by decide) rfl rfl⟩
theorem chk34 (v0 : BitVec 32) (k0_t1 : Fin (k0_t1_loop v0).trips) (v886 : BitVec 32) (h : v886.toNat < 512) : k0_chk34 v0 k0_t1 v886 :=
  ⟨fun _ => inbP h, fun _ _ => Affine.words_rows (by decide) rfl rfl⟩
theorem chk35 (v0 : BitVec 32) (k0_t1 : Fin (k0_t1_loop v0).trips) (v902 : BitVec 32) (h : v902.toNat < 512) : k0_chk35 v0 k0_t1 v902 :=
  ⟨fun _ => inbP h, fun _ _ => Affine.words_rows (by decide) rfl rfl⟩
theorem chk36 (v0 : BitVec 32) (k0_t1 : Fin (k0_t1_loop v0).trips) (v918 : BitVec 32) (h : v918.toNat < 512) : k0_chk36 v0 k0_t1 v918 :=
  ⟨fun _ => inbP h, fun _ _ => Affine.words_rows (by decide) rfl rfl⟩
theorem chk37 (v0 : BitVec 32) (k0_t1 : Fin (k0_t1_loop v0).trips) (v934 : BitVec 32) (h : v934.toNat < 512) : k0_chk37 v0 k0_t1 v934 :=
  ⟨fun _ => inbP h, fun _ _ => Affine.words_rows (by decide) rfl rfl⟩
theorem chk38 (v0 : BitVec 32) (k0_t1 : Fin (k0_t1_loop v0).trips) (v950 : BitVec 32) (h : v950.toNat < 512) : k0_chk38 v0 k0_t1 v950 :=
  ⟨fun _ => inbP h, fun _ _ => Affine.words_rows (by decide) rfl rfl⟩
theorem chk39 (v0 : BitVec 32) (k0_t1 : Fin (k0_t1_loop v0).trips) (v966 : BitVec 32) (h : v966.toNat < 512) : k0_chk39 v0 k0_t1 v966 :=
  ⟨fun _ => inbP h, fun _ _ => Affine.words_rows (by decide) rfl rfl⟩
theorem chk40 (v0 : BitVec 32) (k0_t1 : Fin (k0_t1_loop v0).trips) (v982 : BitVec 32) (h : v982.toNat < 512) : k0_chk40 v0 k0_t1 v982 :=
  ⟨fun _ => inbP h, fun _ _ => Affine.words_rows (by decide) rfl rfl⟩
theorem chk41 (v0 : BitVec 32) (k0_t1 : Fin (k0_t1_loop v0).trips) (v998 : BitVec 32) (h : v998.toNat < 512) : k0_chk41 v0 k0_t1 v998 :=
  ⟨fun _ => inbP h, fun _ _ => Affine.words_rows (by decide) rfl rfl⟩
theorem chk42 (v623 : BitVec 32) (h : v623.toNat < 512) : k0_chk42 v623 :=
  ⟨inbP h, fun _ => Affine.words_rows (by decide) rfl rfl⟩
theorem chk43 (v639 : BitVec 32) (h : v639.toNat < 512) : k0_chk43 v639 :=
  ⟨inbP h, fun _ => Affine.words_rows (by decide) rfl rfl⟩
theorem chk44 (v655 : BitVec 32) (h : v655.toNat < 512) : k0_chk44 v655 :=
  ⟨inbP h, fun _ => Affine.words_rows (by decide) rfl rfl⟩
theorem chk45 (v671 : BitVec 32) (h : v671.toNat < 512) : k0_chk45 v671 :=
  ⟨inbP h, fun _ => Affine.words_rows (by decide) rfl rfl⟩
theorem chk46 (v687 : BitVec 32) (h : v687.toNat < 512) : k0_chk46 v687 :=
  ⟨inbP h, fun _ => Affine.words_rows (by decide) rfl rfl⟩
theorem chk47 (v703 : BitVec 32) (h : v703.toNat < 512) : k0_chk47 v703 :=
  ⟨inbP h, fun _ => Affine.words_rows (by decide) rfl rfl⟩
theorem chk48 (v719 : BitVec 32) (h : v719.toNat < 512) : k0_chk48 v719 :=
  ⟨inbP h, fun _ => Affine.words_rows (by decide) rfl rfl⟩
theorem chk49 (v735 : BitVec 32) (h : v735.toNat < 512) : k0_chk49 v735 :=
  ⟨inbP h, fun _ => Affine.words_rows (by decide) rfl rfl⟩
theorem chk58 (v315 : BitVec 32) (h : v315.toNat < 512) : k0_chk58 v315 :=
  ⟨inbP h, fun _ => Affine.words_rows (by decide) rfl rfl⟩
theorem chk59 (v331 : BitVec 32) (h : v331.toNat < 512) : k0_chk59 v331 :=
  ⟨inbP h, fun _ => Affine.words_rows (by decide) rfl rfl⟩
theorem chk60 (v347 : BitVec 32) (h : v347.toNat < 512) : k0_chk60 v347 :=
  ⟨inbP h, fun _ => Affine.words_rows (by decide) rfl rfl⟩
theorem chk61 (v363 : BitVec 32) (h : v363.toNat < 512) : k0_chk61 v363 :=
  ⟨inbP h, fun _ => Affine.words_rows (by decide) rfl rfl⟩
theorem chk62 (v379 : BitVec 32) (h : v379.toNat < 512) : k0_chk62 v379 :=
  ⟨inbP h, fun _ => Affine.words_rows (by decide) rfl rfl⟩
theorem chk63 (v395 : BitVec 32) (h : v395.toNat < 512) : k0_chk63 v395 :=
  ⟨inbP h, fun _ => Affine.words_rows (by decide) rfl rfl⟩
theorem chk64 (v411 : BitVec 32) (h : v411.toNat < 512) : k0_chk64 v411 :=
  ⟨inbP h, fun _ => Affine.words_rows (by decide) rfl rfl⟩
theorem chk65 (v427 : BitVec 32) (h : v427.toNat < 512) : k0_chk65 v427 :=
  ⟨inbP h, fun _ => Affine.words_rows (by decide) rfl rfl⟩

end Cert.KernelIdeal.Hand

end
-- ==== Proof.Ideal.Pages.lean ====
/-
  One slot of the ring of page buffers. A slot is eight pages of one of the two scratch buffers (keys or values) and one
  semaphore cell; a block of eight pages is copied into it, each page from a page of the pool in HBM, all eight on the
  slot's cell. The slot is free (its pages at anything, its cell at zero, its eight read shares of the pool at home) or
  in flight (some of the copies issued, some of the waits taken), and the last wait gives back the pages holding what
  the pool's pages hold.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Words
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

/-- A family of pairs is a pair of families. -/
theorem bigSep_pair {I : Type} (s : Finset I) (Φ Ψ : I → sProp 𝕄) :
    bigSep s (fun i => iprop(Φ i ∗ Ψ i)) = iprop(bigSep s Φ ∗ bigSep s Ψ) := bigSep_sep s Φ Ψ

/-! ## The two ends of a page copy -/

/-- One page of a scratch buffer, at the printed offsets; -/
abbrev dstAt (M : Memref sig .tc .vmem S4x8x2x128x256 .fp8e4m3) (r : Fin 5 → ℕ)
    (h : ∀ a, r a + S1x1x2x128x256.size a ≤ S4x8x2x128x256.size a) : Memref sig .tc .vmem S2x128x256 .fp8e4m3 :=
  (M.slice (Rect.unit (s := S4x8x2x128x256) r S1x1x2x128x256.size h) (fun _ => rfl)).squeeze S2x128x256 squeezes_S1x1x2x128x256_S2x128x256
/-- one page of a pool; -/
abbrev srcAt (A : Memref sig .tc .hbm S512x2x128x256 .fp8e4m3) (r : Fin 4 → ℕ)
    (h : ∀ a, r a + S1x2x128x256.size a ≤ S512x2x128x256.size a) : Memref sig .tc .hbm S2x128x256 .fp8e4m3 :=
  (A.slice (Rect.unit (s := S512x2x128x256) r S1x2x128x256.size h) (fun _ => rfl)).squeeze S2x128x256 squeezes_S1x2x128x256_S2x128x256
/-- one cell of the semaphores. -/
abbrev semAt (S : DmaSems sig S4) (r : Fin 1 → ℕ) (h : ∀ a, r a + S1.size a ≤ S4.size a) : DmaSem sig :=
  ((S.slice (Rect.unit (s := S4) r S1.size h)).squeeze S_ squeezes_S1_S_).sem

theorem inbS {p : ℕ} (h : p < 512) : ∀ a, (![p, 0, 0, 0] : Fin 4 → Nat) a + S1x2x128x256.size a ≤ S512x2x128x256.size a := by
  intro a; fin_cases a
  · show p + 1 ≤ 512; omega
  · show 0 + 2 ≤ 2; omega
  · show 0 + 128 ≤ 128; omega
  · show 0 + 256 ≤ 256; omega

/-- The same at a slot, a page of the slot, a page of the pool. -/
abbrev dstP (M : Memref sig .tc .vmem S4x8x2x128x256 .fp8e4m3) (s : Fin 4) (j : Fin 8) : Memref sig .tc .vmem S2x128x256 .fp8e4m3 :=
  dstAt M ![s.val, j.val, 0, 0, 0] (inbM s.isLt j.isLt)
abbrev srcP (A : Memref sig .tc .hbm S512x2x128x256 .fp8e4m3) (p : Fin 512) : Memref sig .tc .hbm S2x128x256 .fp8e4m3 :=
  srcAt A ![p.val, 0, 0, 0] (inbS p.isLt)
abbrev semP (S : DmaSems sig S4) (s : Fin 4) : DmaSem sig := semAt S ![s.val] (inb4 s.isLt)

section Side

variable (c : Dev nD) (M : Memref sig .tc .vmem S4x8x2x128x256 .fp8e4m3) (A : Memref sig .tc .hbm S512x2x128x256 .fp8e4m3)
  (S : DmaSems sig S4) (fA : Buf (Elt F) (A.view.loc (c : Thread nD τ)))

/-- The elements of one page of a scratch buffer. -/
def pageSet (s : Fin 4) (j : Fin 8) : Finset (Idx (M.view.loc (c : Thread nD τ))) := (dstP M s j).view.set
/-- The elements of one slot: its eight pages'. -/
def slotSet (s : Fin 4) : Finset (Idx (M.view.loc (c : Thread nD τ))) := Finset.univ.biUnion fun j => pageSet c M s j
/-- The elements of one page of the pool. -/
def srcSet (p : Fin 512) : Finset (Idx (A.view.loc (c : Thread nD τ))) := (srcP A p).view.set

/-- A page's index placed in the scratch buffer; -/
theorem dst_emb (s : Fin 4) (j : Fin 8) (h : Fin 2) (r : Fin 128) (d : Fin 256) :
    (dstP M s j).view.emb (ix3 h r d) = M.view.emb (ix5 s j h r d) := by
  show M.view.emb ((Rect.unit (s := S4x8x2x128x256) ![s.val, j.val, 0, 0, 0] S1x1x2x128x256.size (inbM s.isLt j.isLt)).emb
    (Shape.reshapeEquiv _ (ix3 h r d))) = _
  congr 1
  rw [reshapeEquiv_ix3_11abc]
  funext a; apply Fin.ext; rw [Rect.emb_apply]
  fin_cases a
  · show s.val + 1 * 0 = s.val; omega
  · show j.val + 1 * 0 = j.val; omega
  · show 0 + 1 * h.val = h.val; omega
  · show 0 + 1 * r.val = r.val; omega
  · show 0 + 1 * d.val = d.val; omega
/-- in the pool. -/
theorem src_emb (p : Fin 512) (h : Fin 2) (r : Fin 128) (d : Fin 256) :
    (srcP A p).view.emb (ix3 h r d) = A.view.emb (ix4 p h r d) := by
  show A.view.emb ((Rect.unit (s := S512x2x128x256) ![p.val, 0, 0, 0] S1x2x128x256.size (inbS p.isLt)).emb
    (Shape.reshapeEquiv _ (ix3 h r d))) = _
  congr 1
  rw [reshapeEquiv_ix3_1abc]
  funext a; apply Fin.ext; rw [Rect.emb_apply]
  fin_cases a
  · show p.val + 1 * 0 = p.val; omega
  · show 0 + 1 * h.val = h.val; omega
  · show 0 + 1 * r.val = r.val; omega
  · show 0 + 1 * d.val = d.val; omega

theorem ix3_eta (x : S2x128x256.Idx) : x = ix3 (x 0) (x 1) (x 2) := by
  funext a; fin_cases a <;> rfl
theorem ix5_eta (x : S4x8x2x128x256.Idx) : x = ix5 (x 0) (x 1) (x 2) (x 3) (x 4) := by
  funext a; fin_cases a <;> rfl

theorem mem_pageSet {s : Fin 4} {j : Fin 8} {i : Idx (M.view.loc (c : Thread nD τ))} :
    i ∈ pageSet c M s j ↔ ∃ h r d, M.view.emb (ix5 s j h r d) = i := by
  unfold pageSet View.set
  simp only [Finset.mem_map, Finset.mem_univ, true_and]
  constructor
  · rintro ⟨x, rfl⟩
    exact ⟨x 0, x 1, x 2, (dst_emb M s j (x 0) (x 1) (x 2)).symm.trans (congrArg _ (ix3_eta x).symm)⟩
  · rintro ⟨h, r, d, rfl⟩
    exact ⟨ix3 h r d, dst_emb M s j h r d⟩

theorem page_disjoint {s s' : Fin 4} {j j' : Fin 8} (h : s ≠ s' ∨ j ≠ j') : Disjoint (pageSet c M s j) (pageSet c M s' j') := by
  rw [Finset.disjoint_left]
  intro i hi hi'
  obtain ⟨h1, r, d, e⟩ := (mem_pageSet c M).1 hi
  obtain ⟨h2, r', d', e'⟩ := (mem_pageSet c M).1 hi'
  have := M.view.emb.injective (e.trans e'.symm)
  rcases h with h | h
  · exact h (congrFun this 0)
  · exact h (congrFun this 1)

theorem slot_disjoint {s s' : Fin 4} (h : s ≠ s') : Disjoint (slotSet c M s) (slotSet c M s') := by
  unfold slotSet
  simp only [Finset.disjoint_biUnion_left, Finset.disjoint_biUnion_right]
  intro j _ j' _; exact page_disjoint c M (.inl h)

theorem mem_slotSet {s : Fin 4} {i : Idx (M.view.loc (c : Thread nD τ))} :
    i ∈ slotSet c M s ↔ ∃ j h r d, M.view.emb (ix5 s j h r d) = i := by
  unfold slotSet; simp only [Finset.mem_biUnion, Finset.mem_univ, true_and, mem_pageSet]

/-- The four slots are the whole buffer. -/
theorem slots_univ : Finset.univ.biUnion (fun s => slotSet c M s) = M.view.set := by
  ext i
  rw [Finset.mem_biUnion]
  simp only [Finset.mem_univ, true_and, mem_slotSet, View.set, Finset.mem_map]
  constructor
  · rintro ⟨s, j, h, r, d, e⟩; exact ⟨_, e⟩
  · rintro ⟨x, e⟩; exact ⟨x 0, x 1, x 2, x 3, x 4, (congrArg M.view.emb (ix5_eta x).symm).trans e⟩

theorem srcSet_subset (p : Fin 512) : srcSet c A p ⊆ A.view.set := by
  unfold srcSet
  show ((A.view.slice (Rect.unit (s := S512x2x128x256) ![p.val, 0, 0, 0] S1x2x128x256.size (inbS p.isLt))).reshape S2x128x256
    squeezes_S1x2x128x256_S2x128x256.numel_eq).set ⊆ _
  rw [View.set_reshape]
  exact View.set_slice_subset _ _

/-- The units a page copy pays its cell. -/
def NP : ℕ := (dstP M 0 0).view.dmaCredit
theorem NP_pos : 0 < NP M := View.dmaCredit_pos _ (by decide)

variable (tk : Fin 4 → Fin 8 → PosShare TreeShare)

/-- What page `j`'s copy lands: the scratch page written with the pool's page, and the pool's page back. -/
def Dl (s : Fin 4) (f : Buf (Elt F) (M.view.loc (c : Thread nD τ))) (pg : Fin 8 → Fin 512) (j : Fin 8) : sProp 𝕄 :=
  iprop((M.view.loc (c : Thread nD τ) ↦[pageSet c M s j]{fullShare}
      View.write (Elt F) (dstP M s j).view f (ReadAs.same.apply ((srcP A (pg j)).view.read (Elt F) fA)) Finset.univ)
    ∗ (A.view.loc (c : Thread nD τ) ↦[srcSet c A (pg j)]{tk s j} fA))

instance Dl_storable (s : Fin 4) (f : Buf (Elt F) (M.view.loc (c : Thread nD τ))) (pg : Fin 8 → Fin 512) (j : Fin 8) :
    Storable (upEmb : UEmb _ 𝕄) (Dl c M A fA tk s f pg j) := by unfold Dl; infer_instance

/-- A free slot. -/
def Free (s : Fin 4) : sProp 𝕄 :=
  iprop((∃ f, M.view.loc (c : Thread nD τ) ↦[slotSet c M s]{fullShare} f)
    ∗ semVal ((c : Thread nD τ), SemLoc.dma (semP S s)) 0
    ∗ bigSep Finset.univ (fun j : Fin 8 => A.view.loc (c : Thread nD τ) ↦[A.view.set]{tk s j} fA))

/-- A slot in flight: `k` of its eight copies issued, `u` waits taken. -/
def Fl (s : Fin 4) (pg : Fin 8 → Fin 512) (k u : ℕ) : sProp 𝕄 :=
  iprop(∃ f, Batch (Lvl := ℕ) (countersEmb (U := Pipeline.UD sig nD τ)) (c : Thread nD τ) (SemLoc.dma (semP S s)) () (NP M)
      (Dl c M A fA tk s f pg) k (u * NP M)
    ∗ bigSep (pending k) (fun j => iprop((M.view.loc (c : Thread nD τ) ↦[pageSet c M s j]{fullShare} f)
        ∗ (A.view.loc (c : Thread nD τ) ↦[srcSet c A (pg j)]{tk s j} fA)))
    ∗ bigSep Finset.univ (fun j : Fin 8 => A.view.loc (c : Thread nD τ) ↦[A.view.set \ srcSet c A (pg j)]{tk s j} fA))

/-- A slot whose eight pages have landed. -/
def Landed (s : Fin 4) (pg : Fin 8 → Fin 512) : sProp 𝕄 :=
  iprop((∃ g, ⌜∀ j h r d, M.view.read (Elt F) g (ix5 s j h r d) = A.view.read (Elt F) fA (ix4 (pg j) h r d)⌝
      ∗ M.view.loc (c : Thread nD τ) ↦[slotSet c M s]{fullShare} g)
    ∗ semVal ((c : Thread nD τ), SemLoc.dma (semP S s)) 0
    ∗ bigSep Finset.univ (fun j : Fin 8 => A.view.loc (c : Thread nD τ) ↦[A.view.set]{tk s j} fA))

theorem landed_free (s : Fin 4) (pg : Fin 8 → Fin 512) : Landed c M A S fA tk s pg ⊢ Free c M A S fA tk s := by
  unfold Landed Free
  iintro ⟨⟨%g, -, Hg⟩, Hs, Ht⟩
  isplitl [Hg]; · iexists g; iexact Hg
  isplitl [Hs] <;> iassumption

/-- Opening a free slot for a block's copies. -/
theorem free_open (s : Fin 4) (pg : Fin 8 → Fin 512) : Free c M A S fA tk s ⊢ |={Set.univ}=> Fl c M A S fA tk s pg 0 0 := by
  unfold Free
  iintro ⟨⟨%f, Hf⟩, Hs, Ht⟩
  imod (Transfers.batch_alloc' (Lvl := ℕ) (countersEmb (U := Pipeline.UD sig nD τ)) (c : Thread nD τ) () (NP M)
    (Dl c M A fA tk s f pg) (sm := SemLoc.dma (semP S s)) (E := Set.univ)) $$ Hs with HB
  imodintro
  unfold Fl
  iexists f
  rw [Nat.zero_mul]
  isplitl [HB]; · iexact HB
  ihave Ht' := (show bigSep Finset.univ (fun j : Fin 8 => (A.view.loc (c : Thread nD τ) ↦[A.view.set]{tk s j} fA : sProp 𝕄))
      ⊢ iprop(bigSep Finset.univ (fun j : Fin 8 => A.view.loc (c : Thread nD τ) ↦[srcSet c A (pg j)]{tk s j} fA)
        ∗ bigSep Finset.univ (fun j : Fin 8 => A.view.loc (c : Thread nD τ) ↦[A.view.set \ srcSet c A (pg j)]{tk s j} fA)) from by
    rw [← bigSep_pair]
    exact bigSep_mono fun j _ => (pointsTo_split_subset (srcSet_subset c A (pg j))).1) $$ Ht
  icases Ht' with ⟨Hsrc, Hcmp⟩
  isplitr [Hcmp]; swap; · iexact Hcmp
  rw [Transfers.pending_zero]
  ihave Hf' := (show (M.view.loc (c : Thread nD τ) ↦[slotSet c M s]{fullShare} f : sProp 𝕄)
      ⊢ bigSep Finset.univ (fun j : Fin 8 => (M.view.loc (c : Thread nD τ) ↦[pageSet c M s j]{fullShare} f : sProp 𝕄)) from
    Entails.of_eq (pointsTo_biUnion Finset.univ (fun j => pageSet c M s j)
      (fun j _ j' _ hne => page_disjoint c M (.inr hne)))) $$ Hf
  iapply (show iprop(bigSep Finset.univ (fun j : Fin 8 => (M.view.loc (c : Thread nD τ) ↦[pageSet c M s j]{fullShare} f : sProp 𝕄))
      ∗ bigSep Finset.univ (fun j : Fin 8 => A.view.loc (c : Thread nD τ) ↦[srcSet c A (pg j)]{tk s j} fA))
      ⊢ bigSep Finset.univ (fun j : Fin 8 => iprop((M.view.loc (c : Thread nD τ) ↦[pageSet c M s j]{fullShare} f)
        ∗ (A.view.loc (c : Thread nD τ) ↦[srcSet c A (pg j)]{tk s j} fA))) from Entails.of_eq (bigSep_pair _ _ _).symm)
  isplitl [Hf'] <;> iassumption

/-- Closing a slot whose eight copies are issued and waited for. -/
theorem fl_close (s : Fin 4) (pg : Fin 8 → Fin 512) : Fl c M A S fA tk s pg 8 8 ⊢ |={Set.univ}=> Landed c M A S fA tk s pg := by
  unfold Fl
  rw [show 8 * NP M = NP M * 8 from Nat.mul_comm _ _]
  iintro ⟨%f, HB, -, Hc⟩
  imod (Transfers.batch_collect' (countersEmb (U := Pipeline.UD sig nD τ)) (c : Thread nD τ) (NP_pos M)) $$ HB with ⟨HD, Hs⟩
  imodintro
  unfold Landed Dl
  ihave HD' := (Entails.of_eq (bigSep_pair _ _ _)) $$ HD
  icases HD' with ⟨HM, HA⟩
  isplitl [HM]
  · ihave HJ := (pointsTo_biUnion_join (Ix := Unit) (Name := ℕ) (U := Pipeline.UD sig nD τ) (Lvl := ℕ) (q := fullShare) Finset.univ (fun j => pageSet c M s j)
      (fun j => View.write (Elt F) (dstP M s j).view f (ReadAs.same.apply ((srcP A (pg j)).view.read (Elt F) fA)) Finset.univ) f
      (fun j _ j' _ hne => page_disjoint c M (.inr hne))) $$ HM
    icases HJ with ⟨%g, %hg, HJ⟩
    iexists g
    isplitr
    · ipureintro
      intro j h r d
      have e := hg j (Finset.mem_univ j) (M.view.emb (ix5 s j h r d)) ((mem_pageSet c M).2 ⟨h, r, d, rfl⟩)
      have e2 : (dstP M s j).view.read (Elt F) g (ix3 h r d) = (dstP M s j).view.read (Elt F)
          (View.write (Elt F) (dstP M s j).view f (ReadAs.same.apply ((srcP A (pg j)).view.read (Elt F) fA)) Finset.univ) (ix3 h r d) := by
        rw [View.read_apply, View.read_apply, dst_emb]
        exact congrArg _ e
      rw [View.read_write_univ] at e2
      have e3 : (dstP M s j).view.read (Elt F) g (ix3 h r d) = M.view.read (Elt F) g (ix5 s j h r d) := by
        rw [View.read_apply, View.read_apply, dst_emb]
      have e4 : (srcP A (pg j)).view.read (Elt F) fA (ix3 h r d) = A.view.read (Elt F) fA (ix4 (pg j) h r d) := by
        rw [View.read_apply, View.read_apply, src_emb]
      rw [← e3, e2, ← e4]
    · iexact HJ
  isplitl [Hs]; · iexact Hs
  iapply (show iprop(bigSep Finset.univ (fun j : Fin 8 => (A.view.loc (c : Thread nD τ) ↦[srcSet c A (pg j)]{tk s j} fA : sProp 𝕄))
        ∗ bigSep Finset.univ (fun j : Fin 8 => A.view.loc (c : Thread nD τ) ↦[A.view.set \ srcSet c A (pg j)]{tk s j} fA))
      ⊢ bigSep Finset.univ (fun j : Fin 8 => (A.view.loc (c : Thread nD τ) ↦[A.view.set]{tk s j} fA : sProp 𝕄)) from by
    rw [← bigSep_pair]
    exact bigSep_mono fun j _ => (pointsTo_split_subset (srcSet_subset c A (pg j))).2)
  isplitl [HA] <;> iassumption

/-! ## The steps -/

/-- Starting the copy of page `j` of a block. -/
theorem start_page {α : Type} {Q : α → sProp 𝕄} {s : Fin 4} {pg : Fin 8 → Fin 512} (j : ℕ) (hj : j < 8) {u : ℕ} {rP : Fin 4 → ℕ} {hP} {rD : Fin 5 → ℕ} {hD} {rS : Fin 1 → ℕ} {hS}
    (eP : rP = ![(pg ⟨j, hj⟩).val, 0, 0, 0]) (eD : rD = ![s.val, j, 0, 0, 0]) (eS : rS = ![s.val]) (hu : u ≤ j)
    {hs : (srcAt A rP hP).view.WordExact} {hd : (dstAt M rD hD).view.WordExact}
    {ht : DmaTarget.Typed (nD := nD) (τ := τ) (p := .tc) .hbm (.dma (semAt S rS hS)) (.here (dstAt M rD hD))} {k : PUnit → Prog (TpuEff nD τ sig (Elt F) Λ₀ .tc) α} :
    Fl c M A S fA tk s pg j u ⊢ iprop((Fl c M A S fA tk s pg (j + 1) u -∗ wp frame (wpE (defs₀ (F := F)) Variants.none (c : Thread nD τ) none) Set.univ (k ⟨⟩) Q)
      -∗ wp frame (wpE (defs₀ (F := F)) Variants.none (c : Thread nD τ) none) Set.univ (Prog.lift (TpuEff.enqueueDma (srcAt A rP hP) (.here (dstAt M rD hD)) (.dma (semAt S rS hS)) hs hd ht : TpuEff nD τ sig (Elt F) Λ₀ .tc PUnit) >>= k) Q) := by
  subst eP eD eS
  unfold Fl
  iintro ⟨%f, HB, HP, Hc⟩ Hk
  ihave HP' := (Entails.of_eq (Transfers.bigSep_pending_step _ j hj)) $$ HP
  icases HP' with ⟨⟨Hd, Hs⟩, HP⟩
  have hN : (dstP M s ⟨j, hj⟩).view.amount (SemLoc.dma (semP S s)) = NP M := rfl
  have hDl : iprop(((dstP M s ⟨j, hj⟩).view.loc (c : Thread nD τ) ↦[pageSet c M s ⟨j, hj⟩]{fullShare}
        (dstP M s ⟨j, hj⟩).view.write (Elt F) f (ReadAs.same.apply ((srcP A (pg ⟨j, hj⟩)).view.read (Elt F) fA)) Finset.univ)
      ∗ ((srcP A (pg ⟨j, hj⟩)).view.loc (c : Thread nD τ) ↦[(srcP A (pg ⟨j, hj⟩)).view.set]{tk s ⟨j, hj⟩} fA))
      ⊢ Dl c M A fA tk s f pg ⟨j, hj⟩ := .rfl
  have key := Transfers.wp_dmaBatch (countersEmb (U := Pipeline.UD sig nD τ)) Variants.none (c : Thread nD τ) none (defs := defs₀ (F := F))
    (Q := Q) (k := k) (src := srcP A (pg ⟨j, hj⟩)) (dst := dstP M s ⟨j, hj⟩) (sm := SemLoc.dma (semP S s)) (hsrc := hs) (hdst := hd) (hsem := ht)
    (via := ReadAs.same) (j := j) (u := u * NP M) (Sd := pageSet c M s ⟨j, hj⟩) (fs := fA) (fd := f) (q := tk s ⟨j, hj⟩)
    () (NP M) hN (subset_refl _) hj (Nat.mul_le_mul_right _ hu) hDl
  iapply (show _ ⊢ iprop(_ -∗ wp frame (wpE (defs₀ (F := F)) Variants.none (c : Thread nD τ) none) Set.univ (Prog.lift (TpuEff.enqueueDma (srcAt A ![(pg ⟨j, hj⟩).val, 0, 0, 0] hP) (.here (dstAt M ![s.val, j, 0, 0, 0] hD)) (.dma (semAt S ![s.val] hS)) hs hd ht : TpuEff nD τ sig (Elt F) Λ₀ .tc PUnit) >>= k) Q) from key) $$ [Hs Hd HB]
  · isplitl [Hs]; · iexact Hs
    isplitl [Hd]; · iexact Hd
    iexact HB
  iintro HB
  iapply Hk
  iexists f
  isplitl [HB]; · iexact HB
  isplitl [HP]; · iexact HP
  iexact Hc

/-- Waiting for one page of a block whose copies are all issued. -/
theorem wait_page {α : Type} {Q : α → sProp 𝕄} {s : Fin 4} {pg : Fin 8 → Fin 512} {u : ℕ} (hu : u < 8) {rP : Fin 4 → ℕ} {hP} {rD : Fin 5 → ℕ} {hD} {rS : Fin 1 → ℕ} {hS}
    (eS : rS = ![s.val]) {A' : Memref sig .tc .hbm S512x2x128x256 .fp8e4m3}
    {hs : (srcAt A' rP hP).view.WordExact} {hd : (dstAt M rD hD).view.WordExact} {k : PUnit → Prog (TpuEff nD τ sig (Elt F) Λ₀ .tc) α} :
    iprop(Fl c M A S fA tk s pg 8 u ∗ ∃ W, owes (c : Thread nD τ) 0 W)
      ⊢ iprop((iprop(Fl c M A S fA tk s pg 8 (u + 1) ∗ ∃ W, owes (c : Thread nD τ) 0 W) -∗ wp frame (wpE (defs₀ (F := F)) Variants.none (c : Thread nD τ) none) Set.univ (k ⟨⟩) Q)
      -∗ wp frame (wpE (defs₀ (F := F)) Variants.none (c : Thread nD τ) none) Set.univ (Prog.lift (TpuEff.waitDma2 (semAt S rS hS) (srcAt A' rP hP) (dstAt M rD hD) hs hd : TpuEff nD τ sig (Elt F) Λ₀ .tc PUnit) >>= k) Q) := by
  subst eS
  unfold Fl
  iintro ⟨⟨%f, HB, HP, Hc⟩, %W, HW⟩ Hk
  iapply (show _ ⊢ iprop(_ -∗ wp frame (wpE (defs₀ (F := F)) Variants.none (c : Thread nD τ) none) Set.univ (.op (TpuEff.waitDma2 (semP S s) (srcAt A' rP hP) (dstAt M rD hD) hs hd) k) Q) from
    Transfers.wp_waitBatchMul (countersEmb (U := Pipeline.UD sig nD τ)) Variants.none (c : Thread nD τ) none () (N := NP M) 1
      (by rw [Nat.one_mul]; rfl) (D := Dl c M A fA tk s f pg) (j := 8) (u := u * NP M)
      (by rw [← Nat.add_mul, Nat.mul_comm (NP M)]; exact Nat.mul_le_mul_right _ hu)) $$ [HB HW]
  · isplitl [HB] <;> iassumption
  iintro ⟨HB, HW⟩
  iapply Hk
  rw [← Nat.add_mul]
  isplitr [HW]; swap; · iexists _; iexact HW
  iexists f
  isplitl [HB]; · iexact HB
  isplitl [HP]; · iexact HP
  iexact Hc

end Side

section Steps

variable (c : Dev nD)

/-- Reading one word of the page table. -/
theorem load_word {α : Type} {Q : α → sProp 𝕄} {m : Memref sig .tc .smem S512 .i32} {f : Buf (Elt F) (m.view.loc (c : Thread nD τ))} {r h h1 hp} (x : Fin 512)
    (e : r = ![x.val]) {k : Elt F .i32 → Prog (TpuEff nD τ sig (Elt F) Λ₀ .tc) α} :
    (m.view.loc (c : Thread nD τ) ↦[m.view.set]{fullShare} f : sProp 𝕄)
      ⊢ iprop(((m.view.loc (c : Thread nD τ) ↦[m.view.set]{fullShare} f) -∗ wp frame (wpE (defs₀ (F := F)) Variants.none (c : Thread nD τ) none) Set.univ (k (m.view.read (Elt F) f (ix1 x))) Q)
      -∗ wp frame (wpE (defs₀ (F := F)) Variants.none (c : Thread nD τ) none) Set.univ (smemLoad m (Rect.unit (s := S512) r S1.size h) h1 hp >>= k) Q) := by
  subst e
  iintro H Hk
  iapply (show _ ⊢ iprop(_ -∗ wp frame (wpE (defs₀ (F := F)) Variants.none (c : Thread nD τ) none) Set.univ (smemLoad m (Rect.unit (s := S512) ![x.val] S1.size h) h1 hp >>= k) Q) from
    wp_smemLoadElt Variants.none (c : Thread nD τ) none Set.univ (m := m) (hw := View.loads_smem_one hp h1) (S := m.view.set) (f := f) (q := fullShare) (k := k) (View.set_slice_subset _ _)) $$ H
  iintro H
  have e : (m.access (Rect.unit (s := S512) ![x.val] S1.size h)).read (Elt F) f (Shape.Idx.first (h1.symm ▸ Nat.one_pos))
      = m.view.read (Elt F) f (ix1 x) := by
    rw [View.read_apply, View.read_apply]
    congr 2
    show m.view.emb ((Rect.unit (s := S512) ![x.val] S1.size h).emb _) = m.view.emb (ix1 x)
    congr 1
    funext a; apply Fin.ext; rw [Rect.emb_apply]
    fin_cases a
    have := (Shape.Idx.first (s := S1) (h1.symm ▸ Nat.one_pos) 0).isLt
    show x.val + 1 * (Shape.Idx.first (s := S1) (h1.symm ▸ Nat.one_pos) 0).val = x.val
    have h2 : (Shape.Idx.first (s := S1) (h1.symm ▸ Nat.one_pos) 0).val < 1 := this
    omega
  rw [← e]
  iapply Hk $$ H

theorem assume_step {α : Type} {Q : α → sProp 𝕄} {P : Prop} {d : Decidable P} (h : P) {k : PLift P → Prog (TpuEff nD τ sig (Elt F) Λ₀ .tc) α} :
    wp frame (wpE (defs₀ (F := F)) Variants.none (c : Thread nD τ) none) Set.univ (k ⟨h⟩) Q ⊢ wp frame (wpE (defs₀ (F := F)) Variants.none (c : Thread nD τ) none) Set.univ (Prog.lift (TpuEff.assume P d) >>= k) Q :=
  wp_assume Variants.none (c : Thread nD τ) none Set.univ h

end Steps

end Cert.KernelIdeal.Hand
-- ==== Proof.Ideal.Steps.lean ====
/-
  The steps of a block's copies at the words the kernel computes: block `b` uses slot `b % 4`, its page `j` is the page
  table's word `8 b + j`, read, checked to be a page of the pool, copied (or waited for) in the keys' pool and in the
  values'.
-/
module

public import proofs.«01_k».proof.Proof.Ideal.Pages

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-- The table's position of block `b`'s page `j`; the word there; the pool's page it names; the block's slot; the read
    share of the pool that slot `s`'s page `j` uses. -/
def tix (b j : ℕ) : Fin 512 := ⟨(8 * b + j) % 512, Nat.mod_lt _ (by decide)⟩
def wd (T : S512.Idx → BitVec 32) (b j : ℕ) : BitVec 32 := T (ix1 (tix b j))
def pgs (T : S512.Idx → BitVec 32) (b : ℕ) (j : Fin 8) : Fin 512 := ⟨(wd T b j.val).toNat % 512, Nat.mod_lt _ (by decide)⟩
def sl (b : ℕ) : Fin 4 := ⟨b % 4, Nat.mod_lt _ (by decide)⟩
def tk (s : Fin 4) (j : Fin 8) : PosShare TreeShare := Transfers.shareTokN fullShare (8 * s.val + j.val)

section

variable (c : Dev nD)

/-- A block in flight on one side, at block `b`. -/
abbrev FlB (M : Memref sig .tc .vmem S4x8x2x128x256 .fp8e4m3) (A : Memref sig .tc .hbm S512x2x128x256 .fp8e4m3)
    (S : DmaSems sig S4) (fA : Buf (Elt F) (A.view.loc (c : Thread nD τ))) (T : S512.Idx → BitVec 32) (b k u : ℕ) : sProp 𝕄 :=
  Fl c M A S fA tk (sl b) (pgs T b) k u

theorem ld_step {α : Type} {Q : α → sProp 𝕄} {m : Memref sig .tc .smem S512 .i32} {f : Buf (Elt F) (m.view.loc (c : Thread nD τ))}
    {r : Fin 1 → ℕ} {h h1 hp} (b j : ℕ) (e : r = ![8 * b + j]) (hb : b < 64) (hj : j < 8)
    {k : Elt F .i32 → Prog (TpuEff nD τ sig (Elt F) Λ₀ .tc) α} :
    (m.view.loc (c : Thread nD τ) ↦[m.view.set]{fullShare} f : sProp 𝕄)
      ⊢ iprop(((m.view.loc (c : Thread nD τ) ↦[m.view.set]{fullShare} f)
          -∗ wp frame (wpE (defs₀ (F := F)) Variants.none (c : Thread nD τ) none) Set.univ (k (wd (m.view.read (Elt F) f) b j)) Q)
      -∗ wp frame (wpE (defs₀ (F := F)) Variants.none (c : Thread nD τ) none) Set.univ (smemLoad m (Rect.unit (s := S512) r S1.size h) h1 hp >>= k) Q) :=
  load_word c (tix b j) (by
    rw [e]; exact congrArg (fun x => ![x]) (Nat.mod_eq_of_lt (show 8 * b + j < 512 by omega)).symm)

theorem pure_step {α : Type} {Q : α → sProp 𝕄} (a : α) :
    Q a ⊢ wp frame (wpE (defs₀ (F := F)) Variants.none (c : Thread nD τ) none) Set.univ (pure a) Q := le_wp_ret _ _ _ _ _

theorem start_step {α : Type} {Q : α → sProp 𝕄} {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} (hT : ∀ i, (T i).toNat < 512)
    {b : ℕ} (j : ℕ) (hj : j < 8) {u : ℕ} {rP : Fin 4 → ℕ} {hP} {rD : Fin 5 → ℕ} {hD} {rS : Fin 1 → ℕ} {hS}
    (eP : rP = ![(wd T b j).toNat, 0, 0, 0]) (eD : rD = ![b % 4, j, 0, 0, 0]) (eS : rS = ![b % 4]) (hu : u ≤ j)
    {hs : (srcAt A rP hP).view.WordExact} {hd : (dstAt M rD hD).view.WordExact}
    {ht : DmaTarget.Typed (nD := nD) (τ := τ) (p := .tc) .hbm (.dma (semAt S rS hS)) (.here (dstAt M rD hD))} {k : PUnit → Prog (TpuEff nD τ sig (Elt F) Λ₀ .tc) α} :
    FlB c M A S fA T b j u ⊢ iprop((FlB c M A S fA T b (j + 1) u -∗ wp frame (wpE (defs₀ (F := F)) Variants.none (c : Thread nD τ) none) Set.univ (k ⟨⟩) Q)
      -∗ wp frame (wpE (defs₀ (F := F)) Variants.none (c : Thread nD τ) none) Set.univ
        (Prog.lift (TpuEff.enqueueDma (srcAt A rP hP) (.here (dstAt M rD hD)) (.dma (semAt S rS hS)) hs hd ht : TpuEff nD τ sig (Elt F) Λ₀ .tc PUnit) >>= k) Q) :=
  start_page c M A S fA tk j hj (by
    rw [eP]; exact congrArg (fun x => ![x, 0, 0, 0]) (Nat.mod_eq_of_lt (hT _)).symm) eD eS hu

theorem wait_step {α : Type} {Q : α → sProp 𝕄} {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32}
    {b : ℕ} (u : ℕ) (hu : u < 8) {rP : Fin 4 → ℕ} {hP} {rD : Fin 5 → ℕ} {hD} {rS : Fin 1 → ℕ} {hS} (eS : rS = ![b % 4])
    {hs : (srcAt A rP hP).view.WordExact} {hd : (dstAt M rD hD).view.WordExact} {k : PUnit → Prog (TpuEff nD τ sig (Elt F) Λ₀ .tc) α} :
    iprop(FlB c M A S fA T b 8 u ∗ ∃ W, owes (c : Thread nD τ) 0 W)
      ⊢ iprop((iprop(FlB c M A S fA T b 8 (u + 1) ∗ ∃ W, owes (c : Thread nD τ) 0 W) -∗ wp frame (wpE (defs₀ (F := F)) Variants.none (c : Thread nD τ) none) Set.univ (k ⟨⟩) Q)
      -∗ wp frame (wpE (defs₀ (F := F)) Variants.none (c : Thread nD τ) none) Set.univ
        (Prog.lift (TpuEff.waitDma2 (semAt S rS hS) (srcAt A rP hP) (dstAt M rD hD) hs hd : TpuEff nD τ sig (Elt F) Λ₀ .tc PUnit) >>= k) Q) :=
  wait_page c M A S fA tk hu eS

end

end Cert.KernelIdeal.Hand
-- ==== Proof.Ideal.Mem.lean ====
/-
  Loads and stores through views whose contents are known as functions of the position.
-/
module

public import proofs.«01_k».proof.Proof.Ideal.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-- Holding a view whole, reading `g`. -/
def Own (c : Dev nD) {sp : CoreSpace} {s : Shape} {e : EltTy} (M : Memref sig .tc sp s e) (g : s.Idx → Elt F e) : sProp 𝕄 :=
  iprop(∃ f, ⌜M.view.read (Elt F) f = g⌝ ∗ M.view.loc (c : Thread nD τ) ↦[M.view.set]{fullShare} f)

/-- A rectangle of an array; -/
def ldr {s : Shape} {V : Type} (g : s.Idx → V) (r : Rect s) : r.shape.Idx → V := fun i => g (r.emb i)

open Classical in
/-- an array with a rectangle replaced. -/
noncomputable def upd {s : Shape} {V : Type} (r : Rect s) (w : r.shape.Idx → V) (g : s.Idx → V) : s.Idx → V :=
  fun j => if h : ∃ i, r.emb i = j then w h.choose else g j

theorem upd_at {s : Shape} {V : Type} (r : Rect s) (w : r.shape.Idx → V) (g : s.Idx → V) (i : r.shape.Idx) : upd r w g (r.emb i) = w i := by
  unfold upd
  rw [dif_pos ⟨i, rfl⟩]
  congr 1
  exact r.emb.injective (Exists.choose_spec (p := fun x => r.emb x = r.emb i) ⟨i, rfl⟩)

theorem upd_off {s : Shape} {V : Type} (r : Rect s) (w : r.shape.Idx → V) (g : s.Idx → V) (j : s.Idx) (h : ¬ ∃ i, r.emb i = j) :
    upd r w g j = g j := dif_neg h

section

variable (c : Dev nD)

theorem load_own {α : Type} {Q : α → sProp 𝕄} {sp : CoreSpace} {s : Shape} {e : EltTy} {M : Memref sig .tc sp s e} {g : s.Idx → Elt F e}
    {r : Rect s} {hl : M.view.LoadsAt r.toLoadRect} {k : (r.shape.Idx → Elt F e) → Prog (TpuEff nD τ sig (Elt F) Λ₀ .tc) α} :
    Own c M g ⊢ iprop((Own c M g -∗ wp frame (wpE (defs₀ (F := F)) Variants.none (c : Thread nD τ) none) Set.univ (k (ldr g r)) Q)
      -∗ wp frame (wpE (defs₀ (F := F)) Variants.none (c : Thread nD τ) none) Set.univ ((Prog.lift (.load M r.toLoadRect hl : TpuEff nD τ sig (Elt F) Λ₀ .tc _)) >>= k) Q) := by
  unfold Own
  iintro ⟨%f, %hf, H⟩ Hk
  iapply (show _ ⊢ iprop(_ -∗ wp frame (wpE (defs₀ (F := F)) Variants.none (c : Thread nD τ) none) Set.univ ((Prog.lift (.load M r.toLoadRect hl : TpuEff nD τ sig (Elt F) Λ₀ .tc _)) >>= k) Q) from
    wp_load_rect Variants.none (c : Thread nD τ) none Set.univ (m := M) (r := r) (hl := hl) (S := M.view.set) (f := f) (q := fullShare) (k := k) (View.set_slice_subset _ _)) $$ H
  iintro H
  have e : (M.access r).read (Elt F) f = ldr g r := by
    subst hf; rfl
  rw [← e]
  iapply Hk
  iexists f
  isplitr; · ipureintro; exact hf
  iexact H

theorem store_own {α : Type} {Q : α → sProp 𝕄} {sp : CoreSpace} {s : Shape} {e : EltTy} {M : Memref sig .tc sp s e} {g : s.Idx → Elt F e}
    {r : Rect s} {w : r.shape.Idx → Elt F e} {hx : (M.access r).Stores Finset.univ} {hm}
    {k : PUnit → Prog (TpuEff nD τ sig (Elt F) Λ₀ .tc) α} :
    Own c M g ⊢ iprop((Own c M (upd r w g) -∗ wp frame (wpE (defs₀ (F := F)) Variants.none (c : Thread nD τ) none) Set.univ (k ⟨⟩) Q)
      -∗ wp frame (wpE (defs₀ (F := F)) Variants.none (c : Thread nD τ) none) Set.univ ((Prog.lift (.store M r w Finset.univ hx hm : TpuEff nD τ sig (Elt F) Λ₀ .tc _)) >>= k) Q) := by
  unfold Own
  iintro ⟨%f, %hf, H⟩ Hk
  iapply (show _ ⊢ iprop(_ -∗ wp frame (wpE (defs₀ (F := F)) Variants.none (c : Thread nD τ) none) Set.univ ((Prog.lift (.store M r w Finset.univ hx hm : TpuEff nD τ sig (Elt F) Λ₀ .tc _)) >>= k) Q) from
    wp_store Variants.none (c : Thread nD τ) none Set.univ (m := M) (r := r) (w := w) (hx := hx) (hm := hm) (S := M.view.set) (f := f) (k := k)
      (by rw [View.setOn_univ]; exact View.set_slice_subset _ _)) $$ H
  iintro H
  iapply Hk
  iexists _
  isplitr; swap; · iexact H
  ipureintro
  subst hf
  funext j
  by_cases h : ∃ i, r.emb i = j
  · obtain ⟨i, rfl⟩ := h
    rw [upd_at]
    have e := congrFun (View.read_write_univ (v := M.access r) f w) i
    exact e
  · rw [upd_off _ _ _ _ h]
    show View.read (Elt F) M.view ((M.view.slice r).write (Elt F) f w Finset.univ) j = _
    exact View.read_slice_write_of_not_mem _ _ _ _ (by simpa [Finset.mem_map] using h)

theorem sm_own {α : Type} {Q : α → sProp 𝕄} {n : ℕ} {e : EltTy} {m : Memref sig .tc .smem (⟨1, ![n]⟩ : Shape) e} {g : (⟨1, ![n]⟩ : Shape).Idx → Elt F e}
    {r h h1 hp} (x : Fin n) (he : r = ![x.val]) {k : Elt F e → Prog (TpuEff nD τ sig (Elt F) Λ₀ .tc) α} :
    Own c m g ⊢ iprop((Own c m g -∗ wp frame (wpE (defs₀ (F := F)) Variants.none (c : Thread nD τ) none) Set.univ (k (g (ix1 x))) Q)
      -∗ wp frame (wpE (defs₀ (F := F)) Variants.none (c : Thread nD τ) none) Set.univ (smemLoad m (Rect.unit (s := (⟨1, ![n]⟩ : Shape)) r S1.size h) h1 hp >>= k) Q) := by
  subst he
  unfold Own
  iintro ⟨%f, %hf, H⟩ Hk
  iapply (show _ ⊢ iprop(_ -∗ wp frame (wpE (defs₀ (F := F)) Variants.none (c : Thread nD τ) none) Set.univ (smemLoad m (Rect.unit (s := (⟨1, ![n]⟩ : Shape)) ![x.val] S1.size h) h1 hp >>= k) Q) from
    wp_smemLoadElt Variants.none (c : Thread nD τ) none Set.univ (m := m) (hw := View.loads_smem_one hp h1) (S := m.view.set) (f := f) (q := fullShare) (k := k) (View.set_slice_subset _ _)) $$ H
  iintro H
  have e : (m.access (Rect.unit (s := (⟨1, ![n]⟩ : Shape)) ![x.val] S1.size h)).read (Elt F) f (Shape.Idx.first (h1.symm ▸ Nat.one_pos))
      = g (ix1 x) := by
    subst hf
    rw [View.read_apply, View.read_apply]
    congr 2
    show m.view.emb ((Rect.unit (s := (⟨1, ![n]⟩ : Shape)) ![x.val] S1.size h).emb _) = m.view.emb (ix1 x)
    congr 1
    funext a; apply Fin.ext; rw [Rect.emb_apply]
    fin_cases a
    have := (Shape.Idx.first (s := S1) (h1.symm ▸ Nat.one_pos) 0).isLt
    show x.val + 1 * (Shape.Idx.first (s := S1) (h1.symm ▸ Nat.one_pos) 0).val = x.val
    have h2 : (Shape.Idx.first (s := S1) (h1.symm ▸ Nat.one_pos) 0).val < 1 := this
    omega
  rw [← e]
  iapply Hk
  iexists f
  isplitr; · ipureintro; exact hf
  iexact H

/-- A head's 1024 rows of a block, as loaded: page `i 1`, row `i 3`, lane `i 4`. -/
def kv (A : S512x2x128x256.Idx → Elt F .fp8e4m3) (T : S512.Idx → BitVec 32) (b : ℕ) (h : Fin 2) : Vec F S1x8x1x128x256 .fp8e4m3 :=
  fun i => A (ix4 (pgs T b (i 1)) h (i 3) (i 4))

/-- Loading one head of a landed slot. -/
theorem load_slot {α : Type} {Q : α → sProp 𝕄} {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {b : ℕ} (h : Fin 2)
    {r : Fin 5 → ℕ} {hr} {hl} (e : r = ![b % 4, 0, h.val, 0, 0])
    {k : Vec F S1x8x1x128x256 .fp8e4m3 → Prog (TpuEff nD τ sig (Elt F) Λ₀ .tc) α} :
    Landed c M A S fA tk (sl b) (pgs T b) ⊢ iprop((Landed c M A S fA tk (sl b) (pgs T b) -∗ wp frame (wpE (defs₀ (F := F)) Variants.none (c : Thread nD τ) none) Set.univ (k (kv (A.view.read (Elt F) fA) T b h)) Q)
      -∗ wp frame (wpE (defs₀ (F := F)) Variants.none (c : Thread nD τ) none) Set.univ ((Prog.lift (.load M (Rect.unit (s := S4x8x2x128x256) r S1x8x1x128x256.size hr).toLoadRect hl : TpuEff nD τ sig (Elt F) Λ₀ .tc _)) >>= k) Q) := by
  subst e
  have ee : ∀ x : S1x8x1x128x256.Idx, (Rect.unit (s := S4x8x2x128x256) ![b % 4, 0, h.val, 0, 0] S1x8x1x128x256.size hr).emb x
      = ix5 (sl b) (x 1) h (x 3) (x 4) := by
    intro x
    funext a; apply Fin.ext; rw [Rect.emb_apply]
    have h0 : (x 0).val < 1 := (x 0).isLt
    have h2 : (x 2).val < 1 := (x 2).isLt
    fin_cases a
    · show b % 4 + 1 * (x 0).val = b % 4; omega
    · show 0 + 1 * (x 1).val = (x 1).val; omega
    · show h.val + 1 * (x 2).val = h.val; omega
    · show 0 + 1 * (x 3).val = (x 3).val; omega
    · show 0 + 1 * (x 4).val = (x 4).val; omega
  unfold Landed
  iintro ⟨⟨%g, %hg, H⟩, Hs, Ht⟩ Hk
  iapply (show _ ⊢ iprop(_ -∗ wp frame (wpE (defs₀ (F := F)) Variants.none (c : Thread nD τ) none) Set.univ ((Prog.lift (.load M (Rect.unit (s := S4x8x2x128x256) ![b % 4, 0, h.val, 0, 0] S1x8x1x128x256.size hr).toLoadRect hl : TpuEff nD τ sig (Elt F) Λ₀ .tc _)) >>= k) Q) from
    wp_load_rect Variants.none (c : Thread nD τ) none Set.univ (m := M) (r := Rect.unit (s := S4x8x2x128x256) ![b % 4, 0, h.val, 0, 0] S1x8x1x128x256.size hr) (hl := hl) (S := slotSet c M (sl b)) (f := g) (q := fullShare) (k := k) (by
      intro i hi
      unfold View.set at hi
      rw [Finset.mem_map] at hi
      obtain ⟨x, -, rfl⟩ := hi
      refine (mem_slotSet c M).2 ⟨x 1, h, x 3, x 4, ?_⟩
      exact congrArg M.view.emb (ee x).symm)) $$ H
  iintro H
  have e : (M.access (Rect.unit (s := S4x8x2x128x256) ![b % 4, 0, h.val, 0, 0] S1x8x1x128x256.size hr)).read (Elt F) g = kv (A.view.read (Elt F) fA) T b h := by
    funext x
    refine Eq.trans ?_ (hg (x 1) h (x 3) (x 4))
    exact congrArg (M.view.read (Elt F) g) (ee x)
  rw [← e]
  iapply Hk
  isplitl [H]
  · iexists g
    isplitr; · ipureintro; exact hg
    iexact H
  isplitl [Hs] <;> iassumption

theorem dite_step {α : Type} {Q : α → sProp 𝕄} {p : Prop} [Decidable p] {A : p → Prog (TpuEff nD τ sig (Elt F) Λ₀ .tc) α}
    {B : ¬ p → Prog (TpuEff nD τ sig (Elt F) Λ₀ .tc) α} {P : sProp 𝕄}
    (h1 : ∀ h, P ⊢ wp frame (wpE (defs₀ (F := F)) Variants.none (c : Thread nD τ) none) Set.univ (A h) Q) (h2 : ∀ h, P ⊢ wp frame (wpE (defs₀ (F := F)) Variants.none (c : Thread nD τ) none) Set.univ (B h) Q) : P ⊢ wp frame (wpE (defs₀ (F := F)) Variants.none (c : Thread nD τ) none) Set.univ (dite p A B) Q := by
  by_cases h : p
  · rw [dif_pos h]; exact h1 h
  · rw [dif_neg h]; exact h2 h

theorem bind_step {α β : Type} {Q : β → sProp 𝕄} {p : Prog (TpuEff nD τ sig (Elt F) Λ₀ .tc) α} {k : α → Prog (TpuEff nD τ sig (Elt F) Λ₀ .tc) β} :
    wp frame (wpE (defs₀ (F := F)) Variants.none (c : Thread nD τ) none) Set.univ p (fun a => wp frame (wpE (defs₀ (F := F)) Variants.none (c : Thread nD τ) none) Set.univ (k a) Q) ⊢ wp frame (wpE (defs₀ (F := F)) Variants.none (c : Thread nD τ) none) Set.univ (p >>= k) Q := by
  rw [wp_bind]

end

end Cert.KernelIdeal.Hand
-- ==== Proof.Ideal.Rects.lean ====
/-
  The rectangles the kernel reads and writes.
-/
module

public import proofs.«01_k».proof.Proof.Ideal.Mem

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-! The heads of the running maximum, sum and accumulator; the query's row groups; the new tokens. -/
abbrev Ra0 : Rect S2x64x256 := Rect.unit (s := S2x64x256) ![0, 0, 0] S1x64x256.size inb_S2x64x256_S1x64x256_0_0_0
abbrev Ra1 : Rect S2x64x256 := Rect.unit (s := S2x64x256) ![1, 0, 0] S1x64x256.size inb_S2x64x256_S1x64x256_1_0_0
abbrev RaF : Rect S2x64x256 := Rect.unit (s := S2x64x256) ![0, 0, 0] S2x64x256.size inb_S2x64x256_S2x64x256_0_0_0
abbrev Rm0 : Rect S2x64x1 := Rect.unit (s := S2x64x1) ![0, 0, 0] S1x64x1.size inb_S2x64x1_S1x64x1_0_0_0
abbrev Rm1 : Rect S2x64x1 := Rect.unit (s := S2x64x1) ![1, 0, 0] S1x64x1.size inb_S2x64x1_S1x64x1_1_0_0
abbrev RmF : Rect S2x64x1 := Rect.unit (s := S2x64x1) ![0, 0, 0] S2x64x1.size inb_S2x64x1_S2x64x1_0_0_0
abbrev Rn : Rect S8x256 := Rect.unit (s := S8x256) ![0, 0] S8x256.size inb_S8x256_S8x256_0_0
abbrev Rq0 : Rect S128x256 := Rect.unit (s := S128x256) ![0, 0] S16x256.size inb_S128x256_S16x256_0_0
abbrev Rq112 : Rect S128x256 := Rect.unit (s := S128x256) ![112, 0] S16x256.size inb_S128x256_S16x256_112_0
abbrev Rq16 : Rect S128x256 := Rect.unit (s := S128x256) ![16, 0] S16x256.size inb_S128x256_S16x256_16_0
abbrev Rq32 : Rect S128x256 := Rect.unit (s := S128x256) ![32, 0] S16x256.size inb_S128x256_S16x256_32_0
abbrev Rq48 : Rect S128x256 := Rect.unit (s := S128x256) ![48, 0] S16x256.size inb_S128x256_S16x256_48_0
abbrev Rq64 : Rect S128x256 := Rect.unit (s := S128x256) ![64, 0] S16x256.size inb_S128x256_S16x256_64_0
abbrev Rq80 : Rect S128x256 := Rect.unit (s := S128x256) ![80, 0] S16x256.size inb_S128x256_S16x256_80_0
abbrev Rq96 : Rect S128x256 := Rect.unit (s := S128x256) ![96, 0] S16x256.size inb_S128x256_S16x256_96_0

theorem upd_RmF {V : Type} (w : S2x64x1.Idx → V) (g : S2x64x1.Idx → V) : upd RmF w g = w := by
  funext j
  have e : (RmF).emb j = j := by
    funext a; apply Fin.ext; rw [Rect.emb_apply]
    fin_cases a <;> first | exact (Nat.zero_add _).trans (Nat.one_mul _)
  exact (congrArg (upd RmF w g) e.symm).trans (upd_at RmF w g j)

theorem upd_RaF {V : Type} (w : S2x64x256.Idx → V) (g : S2x64x256.Idx → V) : upd RaF w g = w := by
  funext j
  have e : (RaF).emb j = j := by
    funext a; apply Fin.ext; rw [Rect.emb_apply]
    fin_cases a <;> first | exact (Nat.zero_add _).trans (Nat.one_mul _)
  exact (congrArg (upd RaF w g) e.symm).trans (upd_at RaF w g j)

theorem upd_Rn {V : Type} (w : S8x256.Idx → V) (g : S8x256.Idx → V) : upd Rn w g = w := by
  funext j
  have e : (Rn).emb j = j := by
    funext a; apply Fin.ext; rw [Rect.emb_apply]
    fin_cases a <;> first | exact (Nat.zero_add _).trans (Nat.one_mul _)
  exact (congrArg (upd Rn w g) e.symm).trans (upd_at Rn w g j)

end Cert.KernelIdeal.Hand
-- ==== Proof.Ideal.Vals.lean ====
/-
  What the kernel computes, as functions of the arrays it reads: the state (running maximum, sum, accumulator per head and query row) after the new tokens, after a full block, after the last block, and the results.
-/
module

public import proofs.«01_k».proof.Proof.Ideal.Rects

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-- The running maximum, the running sum and the accumulator. -/
structure St (F : FTy → Type) where
  m : S2x64x1.Idx → F .f32
  l : S2x64x1.Idx → F .f32
  a : S2x64x256.Idx → F .f32

/-- The codes of the new tokens' keys -/
noncomputable def kCodes (g2 : S2.Idx → F .f32) (g5 : S8x256.Idx → F .bf16) : S8x256.Idx → F .fp8e4m3 := (k0_pay44 (Scalar.select (Scalar.cmpi .eq 2#32 0#32) 1#32 2#32) k0_pay39 k0_pay40 0#32 (g2 (ix1 0)) (g2 (ix1 1)) (ldr g5 Rn))
/-- and values. -/
noncomputable def vCodes (g3 : S2.Idx → F .f32) (g6 : S8x256.Idx → F .bf16) : S8x256.Idx → F .fp8e4m3 := (k0_pay45 (Scalar.select (Scalar.cmpi .eq 2#32 0#32) 1#32 2#32) k0_pay39 k0_pay40 0#32 (g3 (ix1 0)) (g3 (ix1 1)) (ldr g6 Rn))
/-- The state after the new tokens. -/
noncomputable def newSt (g2 g3 : S2.Idx → F .f32) (g4 : S128x256.Idx → F .bf16) (g5 g6 : S8x256.Idx → F .bf16) : St F where
  m := (upd Rm1 (k0_pay73 (k0_pay66 k0_pay48 ((iota .tc S64x8 32 [1] iota_S64x8_d1_w32)) (k0_pay65 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq16) (ldr g4 Rq48) (ldr g4 Rq80) (ldr g4 Rq112)) 2#32 ((Scalar.cmpi .eq 2#32 0#32)) 1#32) (ldr (upd Rm0 (k0_pay64 (k0_pay57 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay49 (F := F))) Rm1)) (upd Rm0 (k0_pay64 (k0_pay57 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay49 (F := F))))
  l := (upd Rm1 (k0_pay71 (k0_pay66 k0_pay48 ((iota .tc S64x8 32 [1] iota_S64x8_d1_w32)) (k0_pay65 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq16) (ldr g4 Rq48) (ldr g4 Rq80) (ldr g4 Rq112)) 2#32 ((Scalar.cmpi .eq 2#32 0#32)) 1#32) (ldr (upd Rm0 (k0_pay64 (k0_pay57 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay49 (F := F))) Rm1) (ldr (upd Rm0 (k0_pay62 (k0_pay60 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0) (ldr (k0_pay51 (k0_pay50 (F := F))) Rm0)) (k0_pay61 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay51 (k0_pay50 (F := F)))) Rm1)) (upd Rm0 (k0_pay62 (k0_pay60 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0) (ldr (k0_pay51 (k0_pay50 (F := F))) Rm0)) (k0_pay61 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay51 (k0_pay50 (F := F)))))
  a := (upd Ra1 (k0_pay72 (k0_pay47 (k0_pay43 (Scalar.select (Scalar.cmpi .eq 2#32 0#32) 1#32 2#32) k0_pay39 k0_pay40 0#32 (g3 (ix1 0)) (g3 (ix1 1))) (k0_pay45 (Scalar.select (Scalar.cmpi .eq 2#32 0#32) 1#32 2#32) k0_pay39 k0_pay40 0#32 (g3 (ix1 0)) (g3 (ix1 1)) (ldr g6 Rn))) (k0_pay66 k0_pay48 ((iota .tc S64x8 32 [1] iota_S64x8_d1_w32)) (k0_pay65 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq16) (ldr g4 Rq48) (ldr g4 Rq80) (ldr g4 Rq112)) 2#32 ((Scalar.cmpi .eq 2#32 0#32)) 1#32) (ldr (upd Rm0 (k0_pay64 (k0_pay57 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay49 (F := F))) Rm1) (ldr (upd Ra0 (k0_pay63 (k0_pay47 (k0_pay43 (Scalar.select (Scalar.cmpi .eq 2#32 0#32) 1#32 2#32) k0_pay39 k0_pay40 0#32 (g3 (ix1 0)) (g3 (ix1 1))) (k0_pay45 (Scalar.select (Scalar.cmpi .eq 2#32 0#32) 1#32 2#32) k0_pay39 k0_pay40 0#32 (g3 (ix1 0)) (g3 (ix1 1)) (ldr g6 Rn))) (k0_pay58 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0)) (k0_pay59 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0)) (ldr (k0_pay52 (F := F)) Ra0)) (k0_pay52 (F := F))) Ra1)) (upd Ra0 (k0_pay63 (k0_pay47 (k0_pay43 (Scalar.select (Scalar.cmpi .eq 2#32 0#32) 1#32 2#32) k0_pay39 k0_pay40 0#32 (g3 (ix1 0)) (g3 (ix1 1))) (k0_pay45 (Scalar.select (Scalar.cmpi .eq 2#32 0#32) 1#32 2#32) k0_pay39 k0_pay40 0#32 (g3 (ix1 0)) (g3 (ix1 1)) (ldr g6 Rn))) (k0_pay58 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0)) (k0_pay59 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0)) (ldr (k0_pay52 (F := F)) Ra0)) (k0_pay52 (F := F))))
/-- The state after one full block. -/
noncomputable def tripSt (g2 g3 : S2.Idx → F .f32) (g4 : S128x256.Idx → F .bf16) (K V : Fin 2 → Vec F S1x8x1x128x256 .fp8e4m3) (s : St F) : St F where
  m := (upd Rm1 (k0_pay76 (k0_pay17 (k0_pay13 (K 1)) (g2 (ix1 1)) (ldr g4 Rq16) (ldr g4 Rq48) (ldr g4 Rq80) (ldr g4 Rq112) (ldr (upd Rm0 (k0_pay11 (k0_pay6 (K 0) (g2 (ix1 0)) (ldr g4 Rq0) (ldr g4 Rq32) (ldr g4 Rq64) (ldr g4 Rq96) (ldr s.m Rm0))) s.m) Rm1))) (upd Rm0 (k0_pay11 (k0_pay6 (K 0) (g2 (ix1 0)) (ldr g4 Rq0) (ldr g4 Rq32) (ldr g4 Rq64) (ldr g4 Rq96) (ldr s.m Rm0))) s.m))
  l := (upd Rm1 (k0_pay74 (k0_pay20 (k0_pay13 (K 1)) (g2 (ix1 1)) (ldr g4 Rq16) (ldr g4 Rq48) (ldr g4 Rq80) (ldr g4 Rq112) (ldr (upd Rm0 (k0_pay11 (k0_pay6 (K 0) (g2 (ix1 0)) (ldr g4 Rq0) (ldr g4 Rq32) (ldr g4 Rq64) (ldr g4 Rq96) (ldr s.m Rm0))) s.m) Rm1) (ldr (upd Rm0 (k0_pay9 (k0_pay7 (K 0) (g2 (ix1 0)) (ldr g4 Rq0) (ldr g4 Rq32) (ldr g4 Rq64) (ldr g4 Rq96) (ldr s.m Rm0)) (k0_pay8 (K 0) (g2 (ix1 0)) (ldr g4 Rq0) (ldr g4 Rq32) (ldr g4 Rq64) (ldr g4 Rq96) (ldr s.m Rm0)) (ldr s.l Rm0)) s.l) Rm1))) (upd Rm0 (k0_pay9 (k0_pay7 (K 0) (g2 (ix1 0)) (ldr g4 Rq0) (ldr g4 Rq32) (ldr g4 Rq64) (ldr g4 Rq96) (ldr s.m Rm0)) (k0_pay8 (K 0) (g2 (ix1 0)) (ldr g4 Rq0) (ldr g4 Rq32) (ldr g4 Rq64) (ldr g4 Rq96) (ldr s.m Rm0)) (ldr s.l Rm0)) s.l))
  a := (upd Ra1 (k0_pay75 (k0_pay14 (k0_pay12 (V 1)) (g3 (ix1 1))) (k0_pay18 (k0_pay13 (K 1)) (g2 (ix1 1)) (ldr g4 Rq16) (ldr g4 Rq48) (ldr g4 Rq80) (ldr g4 Rq112) (ldr (upd Rm0 (k0_pay11 (k0_pay6 (K 0) (g2 (ix1 0)) (ldr g4 Rq0) (ldr g4 Rq32) (ldr g4 Rq64) (ldr g4 Rq96) (ldr s.m Rm0))) s.m) Rm1)) (k0_pay19 (k0_pay13 (K 1)) (g2 (ix1 1)) (ldr g4 Rq16) (ldr g4 Rq48) (ldr g4 Rq80) (ldr g4 Rq112) (ldr (upd Rm0 (k0_pay11 (k0_pay6 (K 0) (g2 (ix1 0)) (ldr g4 Rq0) (ldr g4 Rq32) (ldr g4 Rq64) (ldr g4 Rq96) (ldr s.m Rm0))) s.m) Rm1)) (ldr (upd Ra0 (k0_pay10 (k0_pay3 (V 0) (g3 (ix1 0))) (k0_pay7 (K 0) (g2 (ix1 0)) (ldr g4 Rq0) (ldr g4 Rq32) (ldr g4 Rq64) (ldr g4 Rq96) (ldr s.m Rm0)) (k0_pay8 (K 0) (g2 (ix1 0)) (ldr g4 Rq0) (ldr g4 Rq32) (ldr g4 Rq64) (ldr g4 Rq96) (ldr s.m Rm0)) (ldr s.a Ra0)) s.a) Ra1)) (upd Ra0 (k0_pay10 (k0_pay3 (V 0) (g3 (ix1 0))) (k0_pay7 (K 0) (g2 (ix1 0)) (ldr g4 Rq0) (ldr g4 Rq32) (ldr g4 Rq64) (ldr g4 Rq96) (ldr s.m Rm0)) (k0_pay8 (K 0) (g2 (ix1 0)) (ldr g4 Rq0) (ldr g4 Rq32) (ldr g4 Rq64) (ldr g4 Rq96) (ldr s.m Rm0)) (ldr s.a Ra0)) s.a))
/-- The state after the last block, masked by the length. -/
noncomputable def finSt (v0 : BitVec 32) (g2 g3 : S2.Idx → F .f32) (g4 : S128x256.Idx → F .bf16) (K V : Fin 2 → Vec F S1x8x1x128x256 .fp8e4m3) (s : St F) : St F where
  m := (upd Rm1 (k0_pay101 (k0_pay94 (ldr (upd Rm0 (k0_pay90 (k0_pay83 (ldr s.m Rm0)) (k0_pay84 v0 (v17 v0) (k0_pay80 (K 0)) (g2 (ix1 0)) (ldr g4 Rq0) (ldr g4 Rq32) (ldr g4 Rq64) (ldr g4 Rq96))) s.m) Rm1)) (k0_pay95 v0 (v17 v0) (k0_pay91 (K 1)) (g2 (ix1 1)) (ldr g4 Rq16) (ldr g4 Rq48) (ldr g4 Rq80) (ldr g4 Rq112))) (upd Rm0 (k0_pay90 (k0_pay83 (ldr s.m Rm0)) (k0_pay84 v0 (v17 v0) (k0_pay80 (K 0)) (g2 (ix1 0)) (ldr g4 Rq0) (ldr g4 Rq32) (ldr g4 Rq64) (ldr g4 Rq96))) s.m))
  l := (upd Rm1 (k0_pay99 (k0_pay93 v0 (v17 v0) (k0_pay91 (K 1)) (g2 (ix1 1)) (ldr g4 Rq16) (ldr g4 Rq48) (ldr g4 Rq80) (ldr g4 Rq112)) (k0_pay94 (ldr (upd Rm0 (k0_pay90 (k0_pay83 (ldr s.m Rm0)) (k0_pay84 v0 (v17 v0) (k0_pay80 (K 0)) (g2 (ix1 0)) (ldr g4 Rq0) (ldr g4 Rq32) (ldr g4 Rq64) (ldr g4 Rq96))) s.m) Rm1)) (k0_pay95 v0 (v17 v0) (k0_pay91 (K 1)) (g2 (ix1 1)) (ldr g4 Rq16) (ldr g4 Rq48) (ldr g4 Rq80) (ldr g4 Rq112)) (ldr (upd Rm0 (k0_pay88 (k0_pay82 v0 (v17 v0) (k0_pay80 (K 0)) (g2 (ix1 0)) (ldr g4 Rq0) (ldr g4 Rq32) (ldr g4 Rq64) (ldr g4 Rq96)) (k0_pay83 (ldr s.m Rm0)) (k0_pay84 v0 (v17 v0) (k0_pay80 (K 0)) (g2 (ix1 0)) (ldr g4 Rq0) (ldr g4 Rq32) (ldr g4 Rq64) (ldr g4 Rq96)) (ldr s.l Rm0)) s.l) Rm1)) (upd Rm0 (k0_pay88 (k0_pay82 v0 (v17 v0) (k0_pay80 (K 0)) (g2 (ix1 0)) (ldr g4 Rq0) (ldr g4 Rq32) (ldr g4 Rq64) (ldr g4 Rq96)) (k0_pay83 (ldr s.m Rm0)) (k0_pay84 v0 (v17 v0) (k0_pay80 (K 0)) (g2 (ix1 0)) (ldr g4 Rq0) (ldr g4 Rq32) (ldr g4 Rq64) (ldr g4 Rq96)) (ldr s.l Rm0)) s.l))
  a := (upd Ra1 (k0_pay100 (k0_pay92 (V 1) (g3 (ix1 1))) (k0_pay93 v0 (v17 v0) (k0_pay91 (K 1)) (g2 (ix1 1)) (ldr g4 Rq16) (ldr g4 Rq48) (ldr g4 Rq80) (ldr g4 Rq112)) (k0_pay94 (ldr (upd Rm0 (k0_pay90 (k0_pay83 (ldr s.m Rm0)) (k0_pay84 v0 (v17 v0) (k0_pay80 (K 0)) (g2 (ix1 0)) (ldr g4 Rq0) (ldr g4 Rq32) (ldr g4 Rq64) (ldr g4 Rq96))) s.m) Rm1)) (k0_pay95 v0 (v17 v0) (k0_pay91 (K 1)) (g2 (ix1 1)) (ldr g4 Rq16) (ldr g4 Rq48) (ldr g4 Rq80) (ldr g4 Rq112)) (ldr (upd Ra0 (k0_pay89 (k0_pay81 (V 0) (g3 (ix1 0))) (k0_pay82 v0 (v17 v0) (k0_pay80 (K 0)) (g2 (ix1 0)) (ldr g4 Rq0) (ldr g4 Rq32) (ldr g4 Rq64) (ldr g4 Rq96)) (k0_pay83 (ldr s.m Rm0)) (k0_pay84 v0 (v17 v0) (k0_pay80 (K 0)) (g2 (ix1 0)) (ldr g4 Rq0) (ldr g4 Rq32) (ldr g4 Rq64) (ldr g4 Rq96)) (ldr s.a Ra0)) s.a) Ra1)) (upd Ra0 (k0_pay89 (k0_pay81 (V 0) (g3 (ix1 0))) (k0_pay82 v0 (v17 v0) (k0_pay80 (K 0)) (g2 (ix1 0)) (ldr g4 Rq0) (ldr g4 Rq32) (ldr g4 Rq64) (ldr g4 Rq96)) (k0_pay83 (ldr s.m Rm0)) (k0_pay84 v0 (v17 v0) (k0_pay80 (K 0)) (g2 (ix1 0)) (ldr g4 Rq0) (ldr g4 Rq32) (ldr g4 Rq64) (ldr g4 Rq96)) (ldr s.a Ra0)) s.a))
/-- The first result, over the buffer's former contents. -/
noncomputable def yOver (s : St F) (g9 : S128x256.Idx → F .bf16) : S128x256.Idx → F .bf16 :=
  (upd Rq112 (k0_pay2 (k0_pay109 (ldr s.a Ra1) (ldr s.l Rm1))) (upd Rq80 (k0_pay1 (k0_pay109 (ldr s.a Ra1) (ldr s.l Rm1))) (upd Rq48 (k0_pay111 (ldr s.a Ra1) (ldr s.l Rm1)) (upd Rq16 (k0_pay110 (ldr s.a Ra1) (ldr s.l Rm1)) (upd Rq96 (k0_pay108 (k0_pay102 (ldr s.a Ra0)) (k0_pay103 (ldr s.l Rm0))) (upd Rq64 (k0_pay107 (k0_pay102 (ldr s.a Ra0)) (k0_pay103 (ldr s.l Rm0))) (upd Rq32 (k0_pay106 (k0_pay102 (ldr s.a Ra0)) (k0_pay103 (ldr s.l Rm0))) (upd Rq0 (k0_pay105 (k0_pay102 (ldr s.a Ra0)) (k0_pay103 (ldr s.l Rm0))) g9))))))))

end Cert.KernelIdeal.Hand
-- ==== Proof.Ideal.Heads.lean ====
/-
  One step of the running softmax, read at one head and one query row: what a full block, the last block and the new tokens do to the maximum, the sum and the accumulator there.
-/
module

public import proofs.«01_k».proof.Proof.Ideal.Vals
public import Idealize.ShloMosaic.Lib.Pointwise

@[expose] public section

set_option maxRecDepth 16384

noncomputable section

namespace Cert.KernelIdeal.Hand

open Cert.KernelIdeal Cert.KernelIdeal.Gen
open Idealize.ShloMosaic

/-! ### The halves of the state -/

section
variable {V : Type}

theorem emb_m0 (r : Fin 64) : Rm0.emb (ix3 0 r 0) = ix3 0 r 0 := by
  refine funext fun a => Fin.ext ?_
  fin_cases a <;> simp [Rect.emb, Rect.unit, ix3]
theorem emb_m1 (r : Fin 64) : Rm1.emb (ix3 0 r 0) = ix3 1 r 0 := by
  refine funext fun a => Fin.ext ?_
  fin_cases a <;> simp [Rect.emb, Rect.unit, ix3]
theorem emb_a0 (r : Fin 64) (d : Fin 256) : Ra0.emb (ix3 0 r d) = ix3 0 r d := by
  refine funext fun a => Fin.ext ?_
  fin_cases a <;> simp [Rect.emb, Rect.unit, ix3]
theorem emb_a1 (r : Fin 64) (d : Fin 256) : Ra1.emb (ix3 0 r d) = ix3 1 r d := by
  refine funext fun a => Fin.ext ?_
  fin_cases a <;> simp [Rect.emb, Rect.unit, ix3]

theorem ldr_m0 (f : S2x64x1.Idx → V) (r : Fin 64) : ldr f Rm0 (ix3 0 r 0) = f (ix3 0 r 0) := congrArg f (emb_m0 r)
theorem ldr_m1 (f : S2x64x1.Idx → V) (r : Fin 64) : ldr f Rm1 (ix3 0 r 0) = f (ix3 1 r 0) := congrArg f (emb_m1 r)
theorem ldr_a0 (f : S2x64x256.Idx → V) (r : Fin 64) (d : Fin 256) : ldr f Ra0 (ix3 0 r d) = f (ix3 0 r d) := congrArg f (emb_a0 r d)
theorem ldr_a1 (f : S2x64x256.Idx → V) (r : Fin 64) (d : Fin 256) : ldr f Ra1 (ix3 0 r d) = f (ix3 1 r d) := congrArg f (emb_a1 r d)

theorem upd_m0 (w : S1x64x1.Idx → V) (f : S2x64x1.Idx → V) (r : Fin 64) : upd Rm0 w f (ix3 0 r 0) = w (ix3 0 r 0) := by
  rw [← emb_m0 r]; exact upd_at Rm0 w f _
theorem upd_m1 (w : S1x64x1.Idx → V) (f : S2x64x1.Idx → V) (r : Fin 64) : upd Rm1 w f (ix3 1 r 0) = w (ix3 0 r 0) := by
  rw [← emb_m1 r]; exact upd_at Rm1 w f _
theorem upd_a0 (w : S1x64x256.Idx → V) (f : S2x64x256.Idx → V) (r : Fin 64) (d : Fin 256) : upd Ra0 w f (ix3 0 r d) = w (ix3 0 r d) := by
  rw [← emb_a0 r]; exact upd_at Ra0 w f _
theorem upd_a1 (w : S1x64x256.Idx → V) (f : S2x64x256.Idx → V) (r : Fin 64) (d : Fin 256) : upd Ra1 w f (ix3 1 r d) = w (ix3 0 r d) := by
  rw [← emb_a1 r]; exact upd_at Ra1 w f _
theorem upd_m0_1 (w : S1x64x1.Idx → V) (f : S2x64x1.Idx → V) (r : Fin 64) : upd Rm0 w f (ix3 1 r 0) = f (ix3 1 r 0) := by
  refine upd_off Rm0 w f _ fun ⟨i, e⟩ => ?_
  have h : (Rm0.emb i 0).val = 1 := by rw [e]; rfl
  have h0 : (i 0).val < 1 := (i 0).isLt
  simp [Rect.emb, Rect.unit] at h; omega
theorem upd_m1_0 (w : S1x64x1.Idx → V) (f : S2x64x1.Idx → V) (r : Fin 64) : upd Rm1 w f (ix3 0 r 0) = f (ix3 0 r 0) := by
  refine upd_off Rm1 w f _ fun ⟨i, e⟩ => ?_
  have h : (Rm1.emb i 0).val = 0 := by rw [e]; rfl
  simp [Rect.emb, Rect.unit] at h
theorem upd_a0_1 (w : S1x64x256.Idx → V) (f : S2x64x256.Idx → V) (r : Fin 64) (d : Fin 256) : upd Ra0 w f (ix3 1 r d) = f (ix3 1 r d) := by
  refine upd_off Ra0 w f _ fun ⟨i, e⟩ => ?_
  have h : (Ra0.emb i 0).val = 1 := by rw [e]; rfl
  have h0 : (i 0).val < 1 := (i 0).isLt
  simp [Rect.emb, Rect.unit] at h; omega
theorem upd_a1_0 (w : S1x64x256.Idx → V) (f : S2x64x256.Idx → V) (r : Fin 64) (d : Fin 256) : upd Ra1 w f (ix3 0 r d) = f (ix3 0 r d) := by
  refine upd_off Ra1 w f _ fun ⟨i, e⟩ => ?_
  have h : (Ra1.emb i 0).val = 0 := by rw [e]; rfl
  simp [Rect.emb, Rect.unit] at h

end

/-! ### Scores -/

/-- The factor of the scores. -/
def c16 : EReal := Ideal.ofBits .f32 0x3D800000#32

/-- The row of the query array that head `h`'s query row `r` is: token `r / 16`, head `h`, member `r % 16` of the group. -/
def qRow (h : Fin 2) (r : Fin 64) : Fin 128 := ⟨(r.val / 16 * 2 + h.val) * 16 + r.val % 16, by omega⟩

/-- The score of head `h`'s query row `r` against a key. -/
def dot (g4 : S128x256.Idx → Ideal .bf16) (h : Fin 2) (r : Fin 64) (k : Fin 256 → EReal) : EReal :=
  (∑ x, g4 (ix2 (qRow h r) x) * k x) * c16

theorem emb_q0 (i : Fin 16) (x : Fin 256) : Rq0.emb (ix2 i x) = ix2 ⟨0 + i.val, by omega⟩ x := by
  refine funext fun a => Fin.ext ?_
  fin_cases a <;> simp [Rect.emb, Rect.unit, ix2]
theorem emb_q16 (i : Fin 16) (x : Fin 256) : Rq16.emb (ix2 i x) = ix2 ⟨16 + i.val, by omega⟩ x := by
  refine funext fun a => Fin.ext ?_
  fin_cases a <;> simp [Rect.emb, Rect.unit, ix2]
theorem emb_q32 (i : Fin 16) (x : Fin 256) : Rq32.emb (ix2 i x) = ix2 ⟨32 + i.val, by omega⟩ x := by
  refine funext fun a => Fin.ext ?_
  fin_cases a <;> simp [Rect.emb, Rect.unit, ix2]
theorem emb_q48 (i : Fin 16) (x : Fin 256) : Rq48.emb (ix2 i x) = ix2 ⟨48 + i.val, by omega⟩ x := by
  refine funext fun a => Fin.ext ?_
  fin_cases a <;> simp [Rect.emb, Rect.unit, ix2]
theorem emb_q64 (i : Fin 16) (x : Fin 256) : Rq64.emb (ix2 i x) = ix2 ⟨64 + i.val, by omega⟩ x := by
  refine funext fun a => Fin.ext ?_
  fin_cases a <;> simp [Rect.emb, Rect.unit, ix2]
theorem emb_q80 (i : Fin 16) (x : Fin 256) : Rq80.emb (ix2 i x) = ix2 ⟨80 + i.val, by omega⟩ x := by
  refine funext fun a => Fin.ext ?_
  fin_cases a <;> simp [Rect.emb, Rect.unit, ix2]
theorem emb_q96 (i : Fin 16) (x : Fin 256) : Rq96.emb (ix2 i x) = ix2 ⟨96 + i.val, by omega⟩ x := by
  refine funext fun a => Fin.ext ?_
  fin_cases a <;> simp [Rect.emb, Rect.unit, ix2]
theorem emb_q112 (i : Fin 16) (x : Fin 256) : Rq112.emb (ix2 i x) = ix2 ⟨112 + i.val, by omega⟩ x := by
  refine funext fun a => Fin.ext ?_
  fin_cases a <;> simp [Rect.emb, Rect.unit, ix2]

theorem cat0 (g4 : S128x256.Idx → Ideal .bf16) (r : Fin 64) (x : Fin 256) :
    (if h : (r : ℕ) < 16 then ldr g4 Rq0 (ix2 ⟨r, h⟩ x)
      else if h : (r : ℕ) - 16 < 16 then ldr g4 Rq32 (ix2 ⟨r - 16, h⟩ x)
      else if h : (r : ℕ) - 16 - 16 < 16 then ldr g4 Rq64 (ix2 ⟨r - 16 - 16, h⟩ x) else ldr g4 Rq96 (ix2 ⟨r - 16 - 16 - 16, by omega⟩ x))
      = g4 (ix2 (qRow 0 r) x) := by
  have e : ∀ (R : Rect S128x256) (i : R.shape.Idx) (j : S128x256.Idx), R.emb i = j → ldr g4 R i = g4 j := fun R i j h => congrArg g4 h
  split
  · rw [e _ _ _ (emb_q0 _ _)]; congr 2; apply Fin.ext; show 0 + (r : ℕ) = (r.val / 16 * 2 + 0) * 16 + r.val % 16; omega
  · split
    · rw [e _ _ _ (emb_q32 _ _)]; congr 2; apply Fin.ext; show 32 + ((r : ℕ) - 16) = (r.val / 16 * 2 + 0) * 16 + r.val % 16; omega
    · split
      · rw [e _ _ _ (emb_q64 _ _)]; congr 2; apply Fin.ext; show 64 + ((r : ℕ) - 16 - 16) = (r.val / 16 * 2 + 0) * 16 + r.val % 16; omega
      · rw [e _ _ _ (emb_q96 _ _)]; congr 2; apply Fin.ext; show 96 + ((r : ℕ) - 16 - 16 - 16) = (r.val / 16 * 2 + 0) * 16 + r.val % 16; omega

theorem cat1 (g4 : S128x256.Idx → Ideal .bf16) (r : Fin 64) (x : Fin 256) :
    (if h : (r : ℕ) < 16 then ldr g4 Rq16 (ix2 ⟨r, h⟩ x)
      else if h : (r : ℕ) - 16 < 16 then ldr g4 Rq48 (ix2 ⟨r - 16, h⟩ x)
      else if h : (r : ℕ) - 16 - 16 < 16 then ldr g4 Rq80 (ix2 ⟨r - 16 - 16, h⟩ x) else ldr g4 Rq112 (ix2 ⟨r - 16 - 16 - 16, by omega⟩ x))
      = g4 (ix2 (qRow 1 r) x) := by
  have e : ∀ (R : Rect S128x256) (i : R.shape.Idx) (j : S128x256.Idx), R.emb i = j → ldr g4 R i = g4 j := fun R i j h => congrArg g4 h
  split
  · rw [e _ _ _ (emb_q16 _ _)]; congr 2; apply Fin.ext; show 16 + (r : ℕ) = (r.val / 16 * 2 + 1) * 16 + r.val % 16; omega
  · split
    · rw [e _ _ _ (emb_q48 _ _)]; congr 2; apply Fin.ext; show 48 + ((r : ℕ) - 16) = (r.val / 16 * 2 + 1) * 16 + r.val % 16; omega
    · split
      · rw [e _ _ _ (emb_q80 _ _)]; congr 2; apply Fin.ext; show 80 + ((r : ℕ) - 16 - 16) = (r.val / 16 * 2 + 1) * 16 + r.val % 16; omega
      · rw [e _ _ _ (emb_q112 _ _)]; congr 2; apply Fin.ext; show 112 + ((r : ℕ) - 16 - 16 - 16) = (r.val / 16 * 2 + 1) * 16 + r.val % 16; omega

/-- Key `t` of a block as loaded, dequantised. -/
def kRow (K : Vec Ideal S1x8x1x128x256 .fp8e4m3) (g : EReal) (t : Fin 1024) (x : Fin 256) : EReal :=
  K (ix5 0 ⟨t.val / 128, by omega⟩ 0 ⟨t.val % 128, by omega⟩ x) * g

theorem sc4 (g4 : S128x256.Idx → Ideal .bf16) (K : Vec Ideal S1x8x1x128x256 .fp8e4m3) (g : Ideal .f32) (r : Fin 64) (t : Fin 1024) :
    k0_pay4 K g (ldr g4 Rq0) (ldr g4 Rq32) (ldr g4 Rq64) (ldr g4 Rq96) (ix2 r t) = dot g4 0 r (kRow K g t) := by
  pointwise [k0_pay4]
  simp only [cat0]
  rfl

theorem sc15 (g4 : S128x256.Idx → Ideal .bf16) (K : Vec Ideal S1x8x1x128x256 .fp8e4m3) (g : Ideal .f32) (r : Fin 64) (t : Fin 1024) :
    k0_pay15 (k0_pay13 K) g (ldr g4 Rq16) (ldr g4 Rq48) (ldr g4 Rq80) (ldr g4 Rq112) (ix2 r t) = dot g4 1 r (kRow K g t) := by
  pointwise [k0_pay15, k0_pay13]
  simp only [cat1]
  rfl

/-! ### A step -/

/-- State `s'` is state `s` with `n` more columns taken in, at head `h` and row `r`: `sco` are the columns' scores, `w` their values. -/
structure StepTo (s s' : St Ideal) (h : Fin 2) (r : Fin 64) {n : ℕ} (sco : Fin n → EReal) (w : Fin n → Fin 256 → EReal) : Prop where
  m : s'.m (ix3 h r 0) = max (s.m (ix3 h r 0)) (Finset.univ.fold max ⊥ sco)
  l : s'.l (ix3 h r 0) = Ideal.exp (s.m (ix3 h r 0) - s'.m (ix3 h r 0)) * s.l (ix3 h r 0) + ∑ t, Ideal.exp (sco t - s'.m (ix3 h r 0))
  a : ∀ d, s'.a (ix3 h r d) = Ideal.exp (s.m (ix3 h r 0) - s'.m (ix3 h r 0)) * s.a (ix3 h r d) + ∑ t, Ideal.exp (sco t - s'.m (ix3 h r 0)) * w t d

theorem ninf : Ideal.ofBits .f32 0xFF800000#32 = ⊥ := by
  simp [Ideal.ofBits, Ideal.ieee]

theorem trip0 (g2 g3 : S2.Idx → Ideal .f32) (g4 : S128x256.Idx → Ideal .bf16) (K V : Fin 2 → Vec Ideal S1x8x1x128x256 .fp8e4m3) (s : St Ideal) (r : Fin 64) :
    StepTo s (tripSt g2 g3 g4 K V s) 0 r (fun t => dot g4 0 r (kRow (K 0) (g2 (ValueIdx.ix1 0)) t)) (kRow (V 0) (g3 (ValueIdx.ix1 0))) := by
  have hm : (tripSt g2 g3 g4 K V s).m (ix3 0 r 0) = max (s.m (ix3 0 r 0)) (Finset.univ.fold max ⊥ (fun t => dot g4 0 r (kRow (K 0) (g2 (ValueIdx.ix1 0)) t))) := by
    simp only [tripSt, finSt, upd_m1_0, upd_m0]
    pointwise [k0_pay11, k0_pay6, k0_pay5]
    simp only [ldr_m0, ldr_a0, sc4]
    rw [← ninf]
  refine ⟨hm, ?_, fun d => ?_⟩
  · rw [hm]
    simp only [tripSt, finSt, upd_m1_0, upd_m0]
    pointwise [k0_pay9, k0_pay8, k0_pay7, k0_pay6, k0_pay5]
    simp only [ldr_m0, ldr_a0, sc4]
    rw [← ninf]
  · rw [hm]
    simp only [tripSt, finSt, upd_a1_0, upd_a0]
    pointwise [k0_pay10, k0_pay8, k0_pay7, k0_pay6, k0_pay5, k0_pay3]
    simp only [ldr_m0, ldr_a0, sc4]
    rw [← ninf]; rfl

theorem trip1 (g2 g3 : S2.Idx → Ideal .f32) (g4 : S128x256.Idx → Ideal .bf16) (K V : Fin 2 → Vec Ideal S1x8x1x128x256 .fp8e4m3) (s : St Ideal) (r : Fin 64) :
    StepTo s (tripSt g2 g3 g4 K V s) 1 r (fun t => dot g4 1 r (kRow (K 1) (g2 (ValueIdx.ix1 1)) t)) (kRow (V 1) (g3 (ValueIdx.ix1 1))) := by
  have hm : (tripSt g2 g3 g4 K V s).m (ix3 1 r 0) = max (s.m (ix3 1 r 0)) (Finset.univ.fold max ⊥ (fun t => dot g4 1 r (kRow (K 1) (g2 (ValueIdx.ix1 1)) t))) := by
    simp only [tripSt, finSt, upd_m1]
    pointwise [k0_pay76, k0_pay17, k0_pay16]
    simp only [ldr_m1, ldr_a1, upd_m0_1, upd_a0_1, sc15]
    rw [← ninf]
  refine ⟨hm, ?_, fun d => ?_⟩
  · rw [hm]
    simp only [tripSt, finSt, upd_m1]
    pointwise [k0_pay74, k0_pay20, k0_pay19, k0_pay18, k0_pay17, k0_pay16]
    simp only [ldr_m1, ldr_a1, upd_m0_1, upd_a0_1, sc15]
    rw [← ninf]
  · rw [hm]
    simp only [tripSt, finSt, upd_a1]
    pointwise [k0_pay75, k0_pay19, k0_pay18, k0_pay17, k0_pay16, k0_pay14, k0_pay12]
    simp only [ldr_m1, ldr_a1, upd_m0_1, upd_a0_1, sc15]
    rw [← ninf]; rfl

/-- The last block's scores, masked by the length. -/
def lastSc (v0 : BitVec 32) (x : EReal) (t : Fin 1024) : EReal :=
  Scalar.select (IntOp.cmpi .slt (v17 v0 * 1024#32 + BitVec.ofNat 32 t.val) v0) x ⊥

theorem sc82 (v0 : BitVec 32) (g4 : S128x256.Idx → Ideal .bf16) (K : Vec Ideal S1x8x1x128x256 .fp8e4m3) (g : Ideal .f32) (r : Fin 64) (t : Fin 1024) :
    k0_pay82 (F := Ideal) v0 (v17 v0) (k0_pay80 K) g (ldr g4 Rq0) (ldr g4 Rq32) (ldr g4 Rq64) (ldr g4 Rq96) (ix2 r t) = lastSc v0 (dot g4 0 r (kRow K g t)) t := by
  pointwise [k0_pay82, k0_pay80]
  simp only [cat0, lastSc]
  rw [← ninf]
  rfl

theorem sc93 (v0 : BitVec 32) (g4 : S128x256.Idx → Ideal .bf16) (K : Vec Ideal S1x8x1x128x256 .fp8e4m3) (g : Ideal .f32) (r : Fin 64) (t : Fin 1024) :
    k0_pay93 (F := Ideal) v0 (v17 v0) (k0_pay91 K) g (ldr g4 Rq16) (ldr g4 Rq48) (ldr g4 Rq80) (ldr g4 Rq112) (ix2 r t) = lastSc v0 (dot g4 1 r (kRow K g t)) t := by
  pointwise [k0_pay93, k0_pay91]
  simp only [cat1, lastSc]
  rw [← ninf]
  rfl

theorem fin0 (v0 : BitVec 32) (g2 g3 : S2.Idx → Ideal .f32) (g4 : S128x256.Idx → Ideal .bf16) (K V : Fin 2 → Vec Ideal S1x8x1x128x256 .fp8e4m3) (s : St Ideal) (r : Fin 64) :
    StepTo s (finSt v0 g2 g3 g4 K V s) 0 r (fun t => lastSc v0 (dot g4 0 r (kRow (K 0) (g2 (ValueIdx.ix1 0)) t)) t) (kRow (V 0) (g3 (ValueIdx.ix1 0))) := by
  have hm : (finSt v0 g2 g3 g4 K V s).m (ix3 0 r 0) = max (s.m (ix3 0 r 0)) (Finset.univ.fold max ⊥ (fun t => lastSc v0 (dot g4 0 r (kRow (K 0) (g2 (ValueIdx.ix1 0)) t)) t)) := by
    simp only [tripSt, finSt, upd_m1_0, upd_m0]
    pointwise [k0_pay90, k0_pay85, k0_pay84, k0_pay83]
    simp only [ldr_m0, ldr_a0, sc82]
    rw [← ninf]
  refine ⟨hm, ?_, fun d => ?_⟩
  · rw [hm]
    simp only [tripSt, finSt, upd_m1_0, upd_m0]
    pointwise [k0_pay88, k0_pay87, k0_pay86, k0_pay85, k0_pay84, k0_pay83]
    simp only [ldr_m0, ldr_a0, sc82]
    rw [← ninf]
  · rw [hm]
    simp only [tripSt, finSt, upd_a1_0, upd_a0]
    pointwise [k0_pay89, k0_pay87, k0_pay86, k0_pay85, k0_pay84, k0_pay83, k0_pay81]
    simp only [ldr_m0, ldr_a0, sc82]
    rw [← ninf]; rfl

theorem fin1 (v0 : BitVec 32) (g2 g3 : S2.Idx → Ideal .f32) (g4 : S128x256.Idx → Ideal .bf16) (K V : Fin 2 → Vec Ideal S1x8x1x128x256 .fp8e4m3) (s : St Ideal) (r : Fin 64) :
    StepTo s (finSt v0 g2 g3 g4 K V s) 1 r (fun t => lastSc v0 (dot g4 1 r (kRow (K 1) (g2 (ValueIdx.ix1 1)) t)) t) (kRow (V 1) (g3 (ValueIdx.ix1 1))) := by
  have hm : (finSt v0 g2 g3 g4 K V s).m (ix3 1 r 0) = max (s.m (ix3 1 r 0)) (Finset.univ.fold max ⊥ (fun t => lastSc v0 (dot g4 1 r (kRow (K 1) (g2 (ValueIdx.ix1 1)) t)) t)) := by
    simp only [tripSt, finSt, upd_m1]
    pointwise [k0_pay101, k0_pay96, k0_pay95, k0_pay94]
    simp only [ldr_m1, ldr_a1, upd_m0_1, upd_a0_1, sc93]
    rw [← ninf]
  refine ⟨hm, ?_, fun d => ?_⟩
  · rw [hm]
    simp only [tripSt, finSt, upd_m1]
    pointwise [k0_pay99, k0_pay98, k0_pay97, k0_pay96, k0_pay95, k0_pay94]
    simp only [ldr_m1, ldr_a1, upd_m0_1, upd_a0_1, sc93]
    rw [← ninf]
  · rw [hm]
    simp only [tripSt, finSt, upd_a1]
    pointwise [k0_pay100, k0_pay98, k0_pay97, k0_pay96, k0_pay95, k0_pay94, k0_pay92]
    simp only [ldr_m1, ldr_a1, upd_m0_1, upd_a0_1, sc93]
    rw [← ninf]; rfl

end Cert.KernelIdeal.Hand
-- ==== Proof.Ideal.Fresh.lean ====
/-
  The new tokens: their codes, their dequantised keys and values, and the state after them.
-/
module

public import proofs.«01_k».proof.Proof.Ideal.Heads

@[expose] public section

set_option maxRecDepth 16384

noncomputable section

namespace Cert.KernelIdeal.Hand

open Cert.KernelIdeal Cert.KernelIdeal.Gen
open Idealize.ShloMosaic

theorem select_of {α : Type} {m : BitVec 1} {p : Prop} [Decidable p] (h : m = BitVec.ofBool (decide p)) (x y : α) :
    Scalar.select m x y = if p then x else y := by
  subst h
  by_cases hp : p
  · rw [if_pos hp, decide_eq_true hp]; rfl
  · rw [if_neg hp, decide_eq_false hp]; rfl

/-- The scale of row `c` of the new tokens: head `c % 2`. -/
def rsc (g : S2.Idx → Ideal .f32) (c : Fin 8) : EReal := if c.val % 2 = 1 then g (ValueIdx.ix1 1) else g (ValueIdx.ix1 0)

theorem p42 (g : S2.Idx → Ideal .f32) (c : Fin 8) :
    k0_pay42 (F := Ideal) (Scalar.select (Scalar.cmpi .eq 2#32 0#32) 1#32 2#32) k0_pay39 k0_pay40 0#32 (g (ValueIdx.ix1 0)) (g (ValueIdx.ix1 1)) (ix2 c 0) = rsc g c := by
  pointwise [k0_pay42, k0_pay41, k0_pay40, k0_pay39]
  refine select_of (p := c.val % 2 = 1) ?_ _ _
  revert c; decide +kernel

theorem p43 (g : S2.Idx → Ideal .f32) (c : Fin 8) :
    k0_pay43 (F := Ideal) (Scalar.select (Scalar.cmpi .eq 2#32 0#32) 1#32 2#32) k0_pay39 k0_pay40 0#32 (g (ValueIdx.ix1 0)) (g (ValueIdx.ix1 1)) (ix2 c 0) = rsc g c := by
  pointwise [k0_pay43, k0_pay41, k0_pay40, k0_pay39]
  refine select_of (p := c.val % 2 = 1) ?_ _ _
  revert c; decide +kernel

/-- A code: the quotient, held between -448 and 448. -/
def code (x s : EReal) : EReal := min (Ideal.ofBits .f32 0x43E00000#32) (max (Ideal.ofBits .f32 0xC3E00000#32) (Ideal.div x s))

theorem emb_n (c : Fin 8) (x : Fin 256) : Rn.emb (ix2 c x) = ix2 c x := by
  refine funext fun a => Fin.ext ?_
  fin_cases a <;> simp [Rect.emb, Rect.unit, ix2]

theorem kCodes_at (g2 : S2.Idx → Ideal .f32) (g5 : S8x256.Idx → Ideal .bf16) (c : Fin 8) (x : Fin 256) :
    kCodes g2 g5 (ix2 c x) = code (g5 (ix2 c x)) (rsc g2 c) := by
  unfold kCodes
  pointwise [k0_pay44]
  rw [p42, show ldr g5 Rn (ix2 c x) = g5 (ix2 c x) from congrArg g5 (emb_n c x)]
  rfl

theorem vCodes_at (g3 : S2.Idx → Ideal .f32) (g6 : S8x256.Idx → Ideal .bf16) (c : Fin 8) (x : Fin 256) :
    vCodes g3 g6 (ix2 c x) = code (g6 (ix2 c x)) (rsc g3 c) := by
  unfold vCodes
  pointwise [k0_pay45]
  rw [p43, show ldr g6 Rn (ix2 c x) = g6 (ix2 c x) from congrArg g6 (emb_n c x)]
  rfl

/-- Row `c` of the new tokens, quantised and dequantised. -/
def nRow (g : S2.Idx → Ideal .f32) (x : S8x256.Idx → Ideal .bf16) (c : Fin 8) (k : Fin 256) : EReal := code (x (ix2 c k)) (rsc g c) * rsc g c

theorem p46 (g2 : S2.Idx → Ideal .f32) (g5 : S8x256.Idx → Ideal .bf16) (c : Fin 8) (x : Fin 256) :
    k0_pay46 (F := Ideal) (k0_pay42 (Scalar.select (Scalar.cmpi .eq 2#32 0#32) 1#32 2#32) k0_pay39 k0_pay40 0#32 (g2 (ValueIdx.ix1 0)) (g2 (ValueIdx.ix1 1))) (k0_pay44 (Scalar.select (Scalar.cmpi .eq 2#32 0#32) 1#32 2#32) k0_pay39 k0_pay40 0#32 (g2 (ValueIdx.ix1 0)) (g2 (ValueIdx.ix1 1)) (ldr g5 Rn)) (ix2 c x) = nRow g2 g5 c x := by
  rw [← kCodes]
  pointwise [k0_pay46]
  rw [p42, kCodes_at]; rfl

theorem p47 (g3 : S2.Idx → Ideal .f32) (g6 : S8x256.Idx → Ideal .bf16) (c : Fin 8) (x : Fin 256) :
    k0_pay47 (F := Ideal) (k0_pay43 (Scalar.select (Scalar.cmpi .eq 2#32 0#32) 1#32 2#32) k0_pay39 k0_pay40 0#32 (g3 (ValueIdx.ix1 0)) (g3 (ValueIdx.ix1 1))) (k0_pay45 (Scalar.select (Scalar.cmpi .eq 2#32 0#32) 1#32 2#32) k0_pay39 k0_pay40 0#32 (g3 (ValueIdx.ix1 0)) (g3 (ValueIdx.ix1 1)) (ldr g6 Rn)) (ix2 c x) = nRow g3 g6 c x := by
  rw [← vCodes]
  pointwise [k0_pay47]
  rw [p43, vCodes_at]; rfl

theorem sc53 (K : FVec Ideal S8x256 .bf16) (g4 : S128x256.Idx → Ideal .bf16) (r : Fin 64) (c : Fin 8) :
    k0_pay53 K (ldr g4 Rq0) (ldr g4 Rq32) (ldr g4 Rq64) (ldr g4 Rq96) (ix2 r c) = dot g4 0 r (fun x => K (ix2 c x)) := by
  pointwise [k0_pay53]
  simp only [cat0]
  rfl

theorem sc65 (K : FVec Ideal S8x256 .bf16) (g4 : S128x256.Idx → Ideal .bf16) (r : Fin 64) (c : Fin 8) :
    k0_pay65 K (ldr g4 Rq16) (ldr g4 Rq48) (ldr g4 Rq80) (ldr g4 Rq112) (ix2 r c) = dot g4 1 r (fun x => K (ix2 c x)) := by
  pointwise [k0_pay65]
  simp only [cat1]
  rfl

theorem sc55 (z : FVec Ideal S64x8 .f32) (r : Fin 64) (c : Fin 8) :
    k0_pay55 (F := Ideal) k0_pay48 (iota .tc S64x8 32 [1] iota_S64x8_d1_w32) z (k0_pay54 (iota .tc S64x8 32 [1] iota_S64x8_d1_w32)) 0#32 (ix2 r c)
      = if c.val % 2 = 0 ∧ c.val / 2 ≤ r.val / 16 then z (ix2 r c) else ⊥ := by
  pointwise [k0_pay55, k0_pay54, k0_pay48]
  rw [← ninf]
  refine select_of (p := c.val % 2 = 0 ∧ c.val / 2 ≤ r.val / 16) ?_ _ _
  revert r c; decide +kernel

theorem sc66 (z : FVec Ideal S64x8 .f32) (r : Fin 64) (c : Fin 8) :
    k0_pay66 (F := Ideal) k0_pay48 (iota .tc S64x8 32 [1] iota_S64x8_d1_w32) z 2#32 (Scalar.cmpi .eq 2#32 0#32) 1#32 (ix2 r c)
      = if c.val % 2 = 1 ∧ c.val / 2 ≤ r.val / 16 then z (ix2 r c) else ⊥ := by
  pointwise [k0_pay66, k0_pay48]
  rw [← ninf]
  refine select_of (p := c.val % 2 = 1 ∧ c.val / 2 ≤ r.val / 16) ?_ _ _
  revert r c; decide +kernel

/-- The state before anything is taken in. -/
def st0 : St Ideal := ⟨k0_pay49, k0_pay51 k0_pay50, k0_pay52⟩

theorem st0_m (i : S2x64x1.Idx) : st0.m i = ⊥ := by
  rw [← ninf]; rfl
theorem st0_l (i : S2x64x1.Idx) : st0.l i = 0 := by
  rw [← Ideal.ofBits_zero_f32]; rfl
theorem st0_a (i : S2x64x256.Idx) : st0.a i = 0 := by
  rw [← Ideal.ofBits_zero_f32]; rfl

theorem new0 (g2 g3 : S2.Idx → Ideal .f32) (g4 : S128x256.Idx → Ideal .bf16) (g5 g6 : S8x256.Idx → Ideal .bf16) (r : Fin 64) :
    StepTo st0 (newSt g2 g3 g4 g5 g6) 0 r (fun c : Fin 8 => if c.val % 2 = 0 ∧ c.val / 2 ≤ r.val / 16 then dot g4 0 r (nRow g2 g5 c) else ⊥) (nRow g3 g6) := by
  have hm : (newSt g2 g3 g4 g5 g6).m (ix3 0 r 0) = max (st0.m (ix3 0 r 0)) (Finset.univ.fold max ⊥ fun c : Fin 8 => if c.val % 2 = 0 ∧ c.val / 2 ≤ r.val / 16 then dot g4 0 r (nRow g2 g5 c) else ⊥) := by
    simp only [newSt, upd_m1_0, upd_m0]
    pointwise [k0_pay64, k0_pay57, k0_pay56]
    simp only [ldr_m0]
    generalize hZ : k0_pay55 (F := Ideal) _ _ _ _ _ = Z
    have hz : ∀ x : Fin 8, Z (ix2 r x) = if x.val % 2 = 0 ∧ x.val / 2 ≤ r.val / 16 then dot g4 0 r (nRow g2 g5 x) else ⊥ := fun x => by
      rw [← hZ]
      refine (sc55 _ r x).trans ?_
      rw [sc53]; simp only [p46]
    simp only [hz]
    rw [← ninf]; rfl
  refine ⟨hm, ?_, fun d => ?_⟩
  · rw [hm]
    simp only [newSt, upd_m1_0, upd_m0]
    pointwise [k0_pay62, k0_pay61, k0_pay60, k0_pay59, k0_pay58, k0_pay57, k0_pay56]
    simp only [ldr_m0]
    generalize hZ : k0_pay55 (F := Ideal) _ _ _ _ _ = Z
    have hz : ∀ x : Fin 8, Z (ix2 r x) = if x.val % 2 = 0 ∧ x.val / 2 ≤ r.val / 16 then dot g4 0 r (nRow g2 g5 x) else ⊥ := fun x => by
      rw [← hZ]
      refine (sc55 _ r x).trans ?_
      rw [sc53]; simp only [p46]
    simp only [hz]
    rw [← ninf]; rfl
  · rw [hm]
    simp only [newSt, upd_a1_0, upd_a0]
    pointwise [k0_pay63, k0_pay59, k0_pay58, k0_pay57, k0_pay56]
    simp only [ldr_m0, ldr_a0, p47]
    generalize hZ : k0_pay55 (F := Ideal) _ _ _ _ _ = Z
    have hz : ∀ x : Fin 8, Z (ix2 r x) = if x.val % 2 = 0 ∧ x.val / 2 ≤ r.val / 16 then dot g4 0 r (nRow g2 g5 x) else ⊥ := fun x => by
      rw [← hZ]
      refine (sc55 _ r x).trans ?_
      rw [sc53]; simp only [p46]
    simp only [hz]
    rw [← ninf]; rfl

theorem new1 (g2 g3 : S2.Idx → Ideal .f32) (g4 : S128x256.Idx → Ideal .bf16) (g5 g6 : S8x256.Idx → Ideal .bf16) (r : Fin 64) :
    StepTo st0 (newSt g2 g3 g4 g5 g6) 1 r (fun c : Fin 8 => if c.val % 2 = 1 ∧ c.val / 2 ≤ r.val / 16 then dot g4 1 r (nRow g2 g5 c) else ⊥) (nRow g3 g6) := by
  have hm : (newSt g2 g3 g4 g5 g6).m (ix3 1 r 0) = max (st0.m (ix3 1 r 0)) (Finset.univ.fold max ⊥ fun c : Fin 8 => if c.val % 2 = 1 ∧ c.val / 2 ≤ r.val / 16 then dot g4 1 r (nRow g2 g5 c) else ⊥) := by
    simp only [newSt, upd_m1]
    pointwise [k0_pay73, k0_pay68, k0_pay67]
    simp only [ldr_m1, upd_m0_1]
    generalize hZ : k0_pay66 (F := Ideal) _ _ _ _ _ _ = Z
    have hz : ∀ x : Fin 8, Z (ix2 r x) = if x.val % 2 = 1 ∧ x.val / 2 ≤ r.val / 16 then dot g4 1 r (nRow g2 g5 x) else ⊥ := fun x => by
      rw [← hZ]
      refine (sc66 _ r x).trans ?_
      rw [sc65]; simp only [p46]
    simp only [hz]
    rw [← ninf]; rfl
  refine ⟨hm, ?_, fun d => ?_⟩
  · rw [hm]
    simp only [newSt, upd_m1]
    pointwise [k0_pay71, k0_pay70, k0_pay69, k0_pay68, k0_pay67]
    simp only [ldr_m1, upd_m0_1]
    generalize hZ : k0_pay66 (F := Ideal) _ _ _ _ _ _ = Z
    have hz : ∀ x : Fin 8, Z (ix2 r x) = if x.val % 2 = 1 ∧ x.val / 2 ≤ r.val / 16 then dot g4 1 r (nRow g2 g5 x) else ⊥ := fun x => by
      rw [← hZ]
      refine (sc66 _ r x).trans ?_
      rw [sc65]; simp only [p46]
    simp only [hz]
    rw [← ninf]; rfl
  · rw [hm]
    simp only [newSt, upd_a1]
    pointwise [k0_pay72, k0_pay70, k0_pay69, k0_pay68, k0_pay67]
    simp only [ldr_m1, ldr_a1, upd_m0_1, upd_a0_1, p47]
    generalize hZ : k0_pay66 (F := Ideal) _ _ _ _ _ _ = Z
    have hz : ∀ x : Fin 8, Z (ix2 r x) = if x.val % 2 = 1 ∧ x.val / 2 ≤ r.val / 16 then dot g4 1 r (nRow g2 g5 x) else ⊥ := fun x => by
      rw [← hZ]
      refine (sc66 _ r x).trans ?_
      rw [sc65]; simp only [p46]
    simp only [hz]
    rw [← ninf]; rfl

end Cert.KernelIdeal.Hand
-- ==== Proof.Ideal.Waits.lean ====
/-
  The loop's waits for a block and its starts three blocks ahead, part by part.
-/
module

public import proofs.«01_k».proof.Proof.Ideal.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part17_run {v0 : BitVec 32} (hv : v0.toNat ≤ 65532)
    (hT : ∀ i : S512.Idx, BitVec.toNat (w := 32) (arg1.view.read (Elt F) fT i) < 512) (t : Fin (k0_t1_loop v0).trips) (hb : t.val < 64) (k0_hw25 : k0_chk25 v0) (c0_i32_138 : BitVec 32) (c1_i32_140 : BitVec 32)
    {Q : (Σ' (arg19 : BitVec 32) (v639 : Elt F .i32), k0_chk27 v639) → sProp 𝕄} :
    iprop((arg1.view.loc (c : Thread nD τ) ↦[arg1.view.set]{fullShare} fT)
      ∗ FlB c arg12 arg7 arg17 fA7 (arg1.view.read (Elt F) fT) t.val 8 0
      ∗ FlB c arg13 arg8 arg18 fA8 (arg1.view.read (Elt F) fT) t.val 8 0
      ∗ (∃ W, owes (c : Thread nD τ) 0 W))
      ⊢ iprop((∀ x0 h, iprop((arg1.view.loc (c : Thread nD τ) ↦[arg1.view.set]{fullShare} fT)
      ∗ FlB c arg12 arg7 arg17 fA7 (arg1.view.read (Elt F) fT) t.val 8 2
      ∗ FlB c arg13 arg8 arg18 fA8 (arg1.view.read (Elt F) fT) t.val 8 1
      ∗ (∃ W, owes (c : Thread nD τ) 0 W)) -∗ Q ⟨x0, wd (arg1.view.read (Elt F) fT) t.val 1, h⟩)
      -∗ wp frame (wpE (defs₀ (F := F)) Variants.none (c : Thread nD τ) none) Set.univ (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 c0_i32_138 c1_i32_140 t) Q) := by
  rw [k0_part17_eq_skeleton]; unfold k0_part17_skel
  iintro ⟨HT, HK, HV, HW⟩ Hk
  iapply (ld_step c t.val 0 (off124_eq hv t) hb (by decide)) $$ HT; iintro HT
  iapply (assume_step c (chk26 _ (hT (ix1 (tix t.val 0)))))
  iapply (wait_step c (b := t.val) 0 (by decide) (off125_eq hv t)) $$ [HK HW]
  · isplitl [HK] <;> iassumption
  iintro ⟨HK, HW⟩
  iapply (wait_step c (b := t.val) 0 (by decide) (off128_eq hv t)) $$ [HV HW]
  · isplitl [HV] <;> iassumption
  iintro ⟨HV, HW⟩
  iapply (ld_step c t.val 1 (off130_eq hv t) hb (by decide)) $$ HT; iintro HT
  iapply (assume_step c (chk27 _ (hT (ix1 (tix t.val 1)))))
  iapply (wait_step c (b := t.val) 1 (by decide) (off128_eq hv t)) $$ [HK HW]
  · isplitl [HK] <;> iassumption
  iintro ⟨HK, HW⟩
  iapply (pure_step c _)
  iapply Hk
  isplitl [HT]; · iexact HT
  isplitl [HK]; · iexact HK
  isplitl [HV]; · iexact HV
  iexact HW

theorem part18_run {v0 : BitVec 32} (hv : v0.toNat ≤ 65532)
    (hT : ∀ i : S512.Idx, BitVec.toNat (w := 32) (arg1.view.read (Elt F) fT i) < 512) (t : Fin (k0_t1_loop v0).trips) (hb : t.val < 64) (k0_hw25 : k0_chk25 v0) (arg19 : BitVec 32) (k0_hw27 : k0_chk27 (wd (arg1.view.read (Elt F) fT) t.val 1))
    {Q : (Σ' (v671 : Elt F .i32), k0_chk29 v671) → sProp 𝕄} :
    iprop((arg1.view.loc (c : Thread nD τ) ↦[arg1.view.set]{fullShare} fT)
      ∗ FlB c arg12 arg7 arg17 fA7 (arg1.view.read (Elt F) fT) t.val 8 2
      ∗ FlB c arg13 arg8 arg18 fA8 (arg1.view.read (Elt F) fT) t.val 8 1
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) t.val 8 3
      ∗ FlB c arg13 arg8 arg18 fA8 (arg1.view.read (Elt F) fT) t.val 8 3
      ∗ (∃ W, owes (c : Thread nD τ) 0 W)) -∗ Q ⟨wd (arg1.view.read (Elt F) fT) t.val 3, h⟩)
      -∗ wp frame (wpE (defs₀ (F := F)) Variants.none (c : Thread nD τ) none) Set.univ (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t arg19 (wd (arg1.view.read (Elt F) fT) t.val 1) k0_hw27) Q) := by
  rw [k0_part18_eq_skeleton]; unfold k0_part18_skel
  iintro ⟨HT, HK, HV, HW⟩ Hk
  iapply (wait_step c (b := t.val) 1 (by decide) (off133_eq hv t)) $$ [HV HW]
  · isplitl [HV] <;> iassumption
  iintro ⟨HV, HW⟩
  iapply (ld_step c t.val 2 (off135_eq hv t) hb (by decide)) $$ HT; iintro HT
  iapply (assume_step c (chk28 _ (hT (ix1 (tix t.val 2)))))
  iapply (wait_step c (b := t.val) 2 (by decide) (off133_eq hv t)) $$ [HK HW]
  · isplitl [HK] <;> iassumption
  iintro ⟨HK, HW⟩
  iapply (wait_step c (b := t.val) 2 (by decide) (off138_eq hv t)) $$ [HV HW]
  · isplitl [HV] <;> iassumption
  iintro ⟨HV, HW⟩
  iapply (ld_step c t.val 3 (off140_eq hv t) hb (by decide)) $$ HT; iintro HT
  iapply (assume_step c (chk29 _ (hT (ix1 (tix t.val 3)))))
  iapply (pure_step c _)
  iapply Hk
  isplitl [HT]; · iexact HT
  isplitl [HK]; · iexact HK
  isplitl [HV]; · iexact HV
  iexact HW

theorem part19_run {v0 : BitVec 32} (hv : v0.toNat ≤ 65532)
    (hT : ∀ i : S512.Idx, BitVec.toNat (w := 32) (arg1.view.read (Elt F) fT i) < 512) (t : Fin (k0_t1_loop v0).trips) (hb : t.val < 64) (k0_hw25 : k0_chk25 v0) (arg19 : BitVec 32) (k0_hw29 : k0_chk29 (wd (arg1.view.read (Elt F) fT) t.val 3))
    {Q : (BitVec 32) → sProp 𝕄} :
    iprop((arg1.view.loc (c : Thread nD τ) ↦[arg1.view.set]{fullShare} fT)
      ∗ FlB c arg12 arg7 arg17 fA7 (arg1.view.read (Elt F) fT) t.val 8 3
      ∗ FlB c arg13 arg8 arg18 fA8 (arg1.view.read (Elt F) fT) t.val 8 3
      ∗ (∃ W, owes (c : Thread nD τ) 0 W))
      ⊢ iprop((∀ r, iprop((arg1.view.loc (c : Thread nD τ) ↦[arg1.view.set]{fullShare} fT)
      ∗ FlB c arg12 arg7 arg17 fA7 (arg1.view.read (Elt F) fT) t.val 8 5
      ∗ FlB c arg13 arg8 arg18 fA8 (arg1.view.read (Elt F) fT) t.val 8 5
      ∗ (∃ W, owes (c : Thread nD τ) 0 W)) -∗ Q r)
      -∗ wp frame (wpE (defs₀ (F := F)) Variants.none (c : Thread nD τ) none) Set.univ (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t arg19 (wd (arg1.view.read (Elt F) fT) t.val 3) k0_hw29) Q) := by
  rw [k0_part19_eq_skeleton]; unfold k0_part19_skel
  iintro ⟨HT, HK, HV, HW⟩ Hk
  iapply (wait_step c (b := t.val) 3 (by decide) (off138_eq hv t)) $$ [HK HW]
  · isplitl [HK] <;> iassumption
  iintro ⟨HK, HW⟩
  iapply (wait_step c (b := t.val) 3 (by decide) (off143_eq hv t)) $$ [HV HW]
  · isplitl [HV] <;> iassumption
  iintro ⟨HV, HW⟩
  iapply (ld_step c t.val 4 (off145_eq hv t) hb (by decide)) $$ HT; iintro HT
  iapply (assume_step c (chk30 _ (hT (ix1 (tix t.val 4)))))
  iapply (wait_step c (b := t.val) 4 (by decide) (off143_eq hv t)) $$ [HK HW]
  · isplitl [HK] <;> iassumption
  iintro ⟨HK, HW⟩
  iapply (wait_step c (b := t.val) 4 (by decide) (off148_eq hv t)) $$ [HV HW]
  · isplitl [HV] <;> iassumption
  iintro ⟨HV, HW⟩
  iapply (pure_step c _)
  iapply Hk
  isplitl [HT]; · iexact HT
  isplitl [HK]; · iexact HK
  isplitl [HV]; · iexact HV
  iexact HW

theorem part20_run {v0 : BitVec 32} (hv : v0.toNat ≤ 65532)
    (hT : ∀ i : S512.Idx, BitVec.toNat (w := 32) (arg1.view.read (Elt F) fT i) < 512) (t : Fin (k0_t1_loop v0).trips) (hb : t.val < 64) (k0_hw25 : k0_chk25 v0) (arg19 : BitVec 32) (v700 : BitVec 32)
    {Q : (Σ' (v719 : Elt F .i32), k0_chk32 v719) → sProp 𝕄} :
    iprop((arg1.view.loc (c : Thread nD τ) ↦[arg1.view.set]{fullShare} fT)
      ∗ FlB c arg12 arg7 arg17 fA7 (arg1.view.read (Elt F) fT) t.val 8 5
      ∗ FlB c arg13 arg8 arg18 fA8 (arg1.view.read (Elt F) fT) t.val 8 5
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) t.val 8 7
      ∗ FlB c arg13 arg8 arg18 fA8 (arg1.view.read (Elt F) fT) t.val 8 6
      ∗ (∃ W, owes (c : Thread nD τ) 0 W)) -∗ Q ⟨wd (arg1.view.read (Elt F) fT) t.val 6, h⟩)
      -∗ wp frame (wpE (defs₀ (F := F)) Variants.none (c : Thread nD τ) none) Set.univ (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t arg19 v700) Q) := by
  rw [k0_part20_eq_skeleton]; unfold k0_part20_skel
  iintro ⟨HT, HK, HV, HW⟩ Hk
  iapply (ld_step c t.val 5 (off150_eq hv t) hb (by decide)) $$ HT; iintro HT
  iapply (assume_step c (chk31 _ (hT (ix1 (tix t.val 5)))))
  iapply (wait_step c (b := t.val) 5 (by decide) (off148_eq hv t)) $$ [HK HW]
  · isplitl [HK] <;> iassumption
  iintro ⟨HK, HW⟩
  iapply (wait_step c (b := t.val) 5 (by decide) (off153_eq hv t)) $$ [HV HW]
  · isplitl [HV] <;> iassumption
  iintro ⟨HV, HW⟩
  iapply (ld_step c t.val 6 (off155_eq hv t) hb (by decide)) $$ HT; iintro HT
  iapply (assume_step c (chk32 _ (hT (ix1 (tix t.val 6)))))
  iapply (wait_step c (b := t.val) 6 (by decide) (off153_eq hv t)) $$ [HK HW]
  · isplitl [HK] <;> iassumption
  iintro ⟨HK, HW⟩
  iapply (pure_step c _)
  iapply Hk
  isplitl [HT]; · iexact HT
  isplitl [HK]; · iexact HK
  isplitl [HV]; · iexact HV
  iexact HW

theorem part13_run {v0 : BitVec 32} (hv : v0.toNat ≤ 65532)
    (hT : ∀ i : S512.Idx, BitVec.toNat (w := 32) (arg1.view.read (Elt F) fT i) < 512) (t : Fin (k0_t1_loop v0).trips) (hb : t.val + 3 < 64) (k0_hw25 : k0_chk25 v0) (v749 : BitVec 32) (k0_h4 : k0_cond4 v0 t = 1#1)
    {Q : (Σ' (v902 : Elt F .i32), k0_chk35 v0 t v902) → sProp 𝕄} :
    iprop((arg1.view.loc (c : Thread nD τ) ↦[arg1.view.set]{fullShare} fT)
      ∗ FlB c arg12 arg7 arg17 fA7 (arg1.view.read (Elt F) fT) (t.val + 3) 0 0
      ∗ FlB c arg13 arg8 arg18 fA8 (arg1.view.read (Elt F) fT) (t.val + 3) 0 0)
      ⊢ iprop((∀ h, iprop((arg1.view.loc (c : Thread nD τ) ↦[arg1.view.set]{fullShare} fT)
      ∗ FlB c arg12 arg7 arg17 fA7 (arg1.view.read (Elt F) fT) (t.val + 3) 2 0
      ∗ FlB c arg13 arg8 arg18 fA8 (arg1.view.read (Elt F) fT) (t.val + 3) 1 0) -∗ Q ⟨wd (arg1.view.read (Elt F) fT) (t.val + 3) 1, h⟩)
      -∗ wp frame (wpE (defs₀ (F := F)) Variants.none (c : Thread nD τ) none) Set.univ (k0_part13 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v749 k0_h4) Q) := by
  rw [k0_part13_eq_skeleton]; unfold k0_part13_skel
  iintro ⟨HT, HK, HV⟩ Hk
  iapply (ld_step c (t.val + 3) 0 (off165_eq hv t) hb (by decide)) $$ HT; iintro HT
  iapply (assume_step c (chk34 _ _ _ (hT (ix1 (tix (t.val + 3) 0)))))
  iapply (start_step c (b := (t.val + 3)) hT 0 (by decide) (off168_eq _) (off167_eq hv t) (off166_eq hv t) (Nat.zero_le _)) $$ HK; iintro HK
  iapply (start_step c (b := (t.val + 3)) hT 0 (by decide) (off168_eq _) (off170_eq hv t) (off169_eq hv t) (Nat.zero_le _)) $$ HV; iintro HV
  iapply (ld_step c (t.val + 3) 1 (off171_eq hv t) hb (by decide)) $$ HT; iintro HT
  iapply (assume_step c (chk35 _ _ _ (hT (ix1 (tix (t.val + 3) 1)))))
  iapply (start_step c (b := (t.val + 3)) hT 1 (by decide) (off173_eq _) (off172_eq hv t) (off169_eq hv t) (Nat.zero_le _)) $$ HK; iintro HK
  iapply (pure_step c _)
  iapply Hk
  isplitl [HT]; · iexact HT
  isplitl [HK]; · iexact HK
  iexact HV

theorem part14_run {v0 : BitVec 32} (hv : v0.toNat ≤ 65532)
    (hT : ∀ i : S512.Idx, BitVec.toNat (w := 32) (arg1.view.read (Elt F) fT i) < 512) (t : Fin (k0_t1_loop v0).trips) (hb : t.val + 3 < 64) (k0_hw25 : k0_chk25 v0) (v749 : BitVec 32) (k0_h4 : k0_cond4 v0 t = 1#1) (k0_hw35 : k0_chk35 v0 t (wd (arg1.view.read (Elt F) fT) (t.val + 3) 1))
    {Q : (Σ' (v934 : Elt F .i32), k0_chk37 v0 t v934) → sProp 𝕄} :
    iprop((arg1.view.loc (c : Thread nD τ) ↦[arg1.view.set]{fullShare} fT)
      ∗ FlB c arg12 arg7 arg17 fA7 (arg1.view.read (Elt F) fT) (t.val + 3) 2 0
      ∗ FlB c arg13 arg8 arg18 fA8 (arg1.view.read (Elt F) fT) (t.val + 3) 1 0)
      ⊢ iprop((∀ h, iprop((arg1.view.loc (c : Thread nD τ) ↦[arg1.view.set]{fullShare} fT)
      ∗ FlB c arg12 arg7 arg17 fA7 (arg1.view.read (Elt F) fT) (t.val + 3) 3 0
      ∗ FlB c arg13 arg8 arg18 fA8 (arg1.view.read (Elt F) fT) (t.val + 3) 3 0) -∗ Q ⟨wd (arg1.view.read (Elt F) fT) (t.val + 3) 3, h⟩)
      -∗ wp frame (wpE (defs₀ (F := F)) Variants.none (c : Thread nD τ) none) Set.univ (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v749 k0_h4 (wd (arg1.view.read (Elt F) fT) (t.val + 3) 1) k0_hw35) Q) := by
  rw [k0_part14_eq_skeleton]; unfold k0_part14_skel
  iintro ⟨HT, HK, HV⟩ Hk
  iapply (start_step c (b := (t.val + 3)) hT 1 (by decide) (off173_eq _) (off175_eq hv t) (off174_eq hv t) (Nat.zero_le _)) $$ HV; iintro HV
  iapply (ld_step c (t.val + 3) 2 (off176_eq hv t) hb (by decide)) $$ HT; iintro HT
  iapply (assume_step c (chk36 _ _ _ (hT (ix1 (tix (t.val + 3) 2)))))
  iapply (start_step c (b := (t.val + 3)) hT 2 (by decide) (off178_eq _) (off177_eq hv t) (off174_eq hv t) (Nat.zero_le _)) $$ HK; iintro HK
  iapply (start_step c (b := (t.val + 3)) hT 2 (by decide) (off178_eq _) (off180_eq hv t) (off179_eq hv t) (Nat.zero_le _)) $$ HV; iintro HV
  iapply (ld_step c (t.val + 3) 3 (off181_eq hv t) hb (by decide)) $$ HT; iintro HT
  iapply (assume_step c (chk37 _ _ _ (hT (ix1 (tix (t.val + 3) 3)))))
  iapply (pure_step c _)
  iapply Hk
  isplitl [HT]; · iexact HT
  isplitl [HK]; · iexact HK
  iexact HV

theorem part15_run {v0 : BitVec 32} (hv : v0.toNat ≤ 65532)
    (hT : ∀ i : S512.Idx, BitVec.toNat (w := 32) (arg1.view.read (Elt F) fT i) < 512) (t : Fin (k0_t1_loop v0).trips) (hb : t.val + 3 < 64) (k0_hw25 : k0_chk25 v0) (v749 : BitVec 32) (k0_h4 : k0_cond4 v0 t = 1#1) (k0_hw37 : k0_chk37 v0 t (wd (arg1.view.read (Elt F) fT) (t.val + 3) 3))
    {Q : (Σ' (v963 : BitVec 32), BitVec 32) → sProp 𝕄} :
    iprop((arg1.view.loc (c : Thread nD τ) ↦[arg1.view.set]{fullShare} fT)
      ∗ FlB c arg12 arg7 arg17 fA7 (arg1.view.read (Elt F) fT) (t.val + 3) 3 0
      ∗ FlB c arg13 arg8 arg18 fA8 (arg1.view.read (Elt F) fT) (t.val + 3) 3 0)
      ⊢ iprop((∀ r, iprop((arg1.view.loc (c : Thread nD τ) ↦[arg1.view.set]{fullShare} fT)
      ∗ FlB c arg12 arg7 arg17 fA7 (arg1.view.read (Elt F) fT) (t.val + 3) 5 0
      ∗ FlB c arg13 arg8 arg18 fA8 (arg1.view.read (Elt F) fT) (t.val + 3) 5 0) -∗ Q r)
      -∗ wp frame (wpE (defs₀ (F := F)) Variants.none (c : Thread nD τ) none) Set.univ (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v749 k0_h4 (wd (arg1.view.read (Elt F) fT) (t.val + 3) 3) k0_hw37) Q) := by
  rw [k0_part15_eq_skeleton]; unfold k0_part15_skel
  iintro ⟨HT, HK, HV⟩ Hk
  iapply (start_step c (b := (t.val + 3)) hT 3 (by decide) (off183_eq _) (off182_eq hv t) (off179_eq hv t) (Nat.zero_le _)) $$ HK; iintro HK
  iapply (start_step c (b := (t.val + 3)) hT 3 (by decide) (off183_eq _) (off185_eq hv t) (off184_eq hv t) (Nat.zero_le _)) $$ HV; iintro HV
  iapply (ld_step c (t.val + 3) 4 (off186_eq hv t) hb (by decide)) $$ HT; iintro HT
  iapply (assume_step c (chk38 _ _ _ (hT (ix1 (tix (t.val + 3) 4)))))
  iapply (start_step c (b := (t.val + 3)) hT 4 (by decide) (off188_eq _) (off187_eq hv t) (off184_eq hv t) (Nat.zero_le _)) $$ HK; iintro HK
  iapply (start_step c (b := (t.val + 3)) hT 4 (by decide) (off188_eq _) (off190_eq hv t) (off189_eq hv t) (Nat.zero_le _)) $$ HV; iintro HV
  iapply (pure_step c _)
  iapply Hk
  isplitl [HT]; · iexact HT
  isplitl [HK]; · iexact HK
  iexact HV

theorem part16_run {v0 : BitVec 32} (hv : v0.toNat ≤ 65532)
    (hT : ∀ i : S512.Idx, BitVec.toNat (w := 32) (arg1.view.read (Elt F) fT i) < 512) (t : Fin (k0_t1_loop v0).trips) (hb : t.val + 3 < 64) (k0_hw25 : k0_chk25 v0) (v749 : BitVec 32) (k0_h4 : k0_cond4 v0 t = 1#1) (v963 : BitVec 32) (c5_i32_677 : BitVec 32)
    {Q : (Σ' (v982 : Elt F .i32), k0_chk40 v0 t v982) → sProp 𝕄} :
    iprop((arg1.view.loc (c : Thread nD τ) ↦[arg1.view.set]{fullShare} fT)
      ∗ FlB c arg12 arg7 arg17 fA7 (arg1.view.read (Elt F) fT) (t.val + 3) 5 0
      ∗ FlB c arg13 arg8 arg18 fA8 (arg1.view.read (Elt F) fT) (t.val + 3) 5 0)
      ⊢ iprop((∀ h, iprop((arg1.view.loc (c : Thread nD τ) ↦[arg1.view.set]{fullShare} fT)
      ∗ FlB c arg12 arg7 arg17 fA7 (arg1.view.read (Elt F) fT) (t.val + 3) 7 0
      ∗ FlB c arg13 arg8 arg18 fA8 (arg1.view.read (Elt F) fT) (t.val + 3) 6 0) -∗ Q ⟨wd (arg1.view.read (Elt F) fT) (t.val + 3) 6, h⟩)
      -∗ wp frame (wpE (defs₀ (F := F)) Variants.none (c : Thread nD τ) none) Set.univ (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v749 k0_h4 v963 c5_i32_677) Q) := by
  rw [k0_part16_eq_skeleton]; unfold k0_part16_skel
  iintro ⟨HT, HK, HV⟩ Hk
  iapply (ld_step c (t.val + 3) 5 (off191_eq hv t) hb (by decide)) $$ HT; iintro HT
  iapply (assume_step c (chk39 _ _ _ (hT (ix1 (tix (t.val + 3) 5)))))
  iapply (start_step c (b := (t.val + 3)) hT 5 (by decide) (off193_eq _) (off192_eq hv t) (off189_eq hv t) (Nat.zero_le _)) $$ HK; iintro HK
  iapply (start_step c (b := (t.val + 3)) hT 5 (by decide) (off193_eq _) (off195_eq hv t) (off194_eq hv t) (Nat.zero_le _)) $$ HV; iintro HV
  iapply (ld_step c (t.val + 3) 6 (off196_eq hv t) hb (by decide)) $$ HT; iintro HT
  iapply (assume_step c (chk40 _ _ _ (hT (ix1 (tix (t.val + 3) 6)))))
  iapply (start_step c (b := (t.val + 3)) hT 6 (by decide) (off198_eq _) (off197_eq hv t) (off194_eq hv t) (Nat.zero_le _)) $$ HK; iintro HK
  iapply (pure_step c _)
  iapply Hk
  isplitl [HT]; · iexact HT
  isplitl [HK]; · iexact HK
  iexact HV

end

end Cert.KernelIdeal.Hand
-- ==== Proof.Ideal.Compute.lean ====
/-
  The parts that compute, each from what it holds to what it leaves and returns.
-/
module

public import proofs.«01_k».proof.Proof.Ideal.Mem
public import proofs.«01_k».proof.Proof.Ideal.Rects

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part22_run {v0 : BitVec 32} (hv : v0.toNat ≤ 65532) (t : Fin (k0_t1_loop v0).trips) (k0_hw25 : k0_chk25 v0) (v753 : BitVec 32) (v755 : Vec F S1x8x1x128x256 .fp8e4m3)
    {g2 : S2.Idx → F .f32} {g3 : S2.Idx → F .f32} {g4 : S128x256.Idx → F .bf16} {g14 : S2x64x1.Idx → F .f32}
    {Q : (Σ' (v773 : FVec F S1024x256 .bf16) (v790 : FVec F S64x1 .f32) (v792 : FVec F S64x1 .f32), FVec F S64x1024 .f32) → sProp 𝕄} :
    iprop(Own c arg2 g2
      ∗ Own c arg3 g3
      ∗ Own c arg4 g4
      ∗ Own c arg14 g14
      ∗ Landed c arg13 arg8 arg18 fA8 tk (sl t.val) (pgs (arg1.view.read (Elt F) fT) t.val))
      ⊢ iprop((iprop(Own c arg2 g2
      ∗ Own c arg3 g3
      ∗ Own c arg4 g4
      ∗ Own c arg14 g14
      ∗ Landed c arg13 arg8 arg18 fA8 tk (sl t.val) (pgs (arg1.view.read (Elt F) fT) t.val))
          -∗ Q ⟨k0_pay3 (kv (arg8.view.read (Elt F) fA8) (arg1.view.read (Elt F) fT) t.val 0) (g3 (ix1 0)), k0_pay6 v755 (g2 (ix1 0)) (ldr g4 Rq0) (ldr g4 Rq32) (ldr g4 Rq64) (ldr g4 Rq96) (ldr g14 Rm0), k0_pay7 v755 (g2 (ix1 0)) (ldr g4 Rq0) (ldr g4 Rq32) (ldr g4 Rq64) (ldr g4 Rq96) (ldr g14 Rm0), k0_pay8 v755 (g2 (ix1 0)) (ldr g4 Rq0) (ldr g4 Rq32) (ldr g4 Rq64) (ldr g4 Rq96) (ldr g14 Rm0)⟩)
      -∗ wp frame (wpE (defs₀ (F := F)) Variants.none (c : Thread nD τ) none) Set.univ (k0_part22 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v753 v755) Q) := by
  rw [k0_part22_eq_skeleton]; unfold k0_part22_skel
  iintro ⟨H2, H3, H4, H14, HV⟩ Hk
  iapply (load_slot c 0 (off206_eq hv t)) $$ HV; iintro HV
  iapply (sm_own c 0 rfl) $$ H2; iintro H2
  iapply (sm_own c 0 rfl) $$ H3; iintro H3
  iapply (load_own c) $$ H4; iintro H4
  iapply (load_own c) $$ H4; iintro H4
  iapply (load_own c) $$ H4; iintro H4
  iapply (load_own c) $$ H4; iintro H4
  iapply (load_own c) $$ H14; iintro H14
  iapply (pure_step c _)
  iapply Hk
  isplitl [H2]; · iexact H2
  isplitl [H3]; · iexact H3
  isplitl [H4]; · iexact H4
  isplitl [H14]; · iexact H14
  iexact HV

theorem part23_run {v0 : BitVec 32} (hv : v0.toNat ≤ 65532) (t : Fin (k0_t1_loop v0).trips) (k0_hw25 : k0_chk25 v0) (v753 : BitVec 32) (v773 : FVec F S1024x256 .bf16) (v790 : FVec F S64x1 .f32) (v792 : FVec F S64x1 .f32) (v795 : FVec F S64x1024 .f32)
    {g14 : S2x64x1.Idx → F .f32} {g15 : S2x64x1.Idx → F .f32} {g16 : S2x64x256.Idx → F .f32}
    {Q : (Σ' (v825 : FVec F S1024x256 .fp8e4m3), FVec F S1024x256 .bf16) → sProp 𝕄} :
    iprop(Own c arg14 g14
      ∗ Own c arg15 g15
      ∗ Own c arg16 g16
      ∗ Landed c arg12 arg7 arg17 fA7 tk (sl t.val) (pgs (arg1.view.read (Elt F) fT) t.val)
      ∗ Landed c arg13 arg8 arg18 fA8 tk (sl t.val) (pgs (arg1.view.read (Elt F) fT) t.val))
      ⊢ iprop((iprop(Own c arg14 (upd Rm0 (k0_pay11 v790) g14)
      ∗ Own c arg15 (upd Rm0 (k0_pay9 v792 v795 (ldr g15 Rm0)) g15)
      ∗ Own c arg16 (upd Ra0 (k0_pay10 v773 v792 v795 (ldr g16 Ra0)) g16)
      ∗ Landed c arg12 arg7 arg17 fA7 tk (sl t.val) (pgs (arg1.view.read (Elt F) fT) t.val)
      ∗ Landed c arg13 arg8 arg18 fA8 tk (sl t.val) (pgs (arg1.view.read (Elt F) fT) t.val))
          -∗ Q ⟨k0_pay12 (kv (arg8.view.read (Elt F) fA8) (arg1.view.read (Elt F) fT) t.val 1), k0_pay13 (kv (arg7.view.read (Elt F) fA7) (arg1.view.read (Elt F) fT) t.val 1)⟩)
      -∗ wp frame (wpE (defs₀ (F := F)) Variants.none (c : Thread nD τ) none) Set.univ (k0_part23 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v753 v773 v790 v792 v795) Q) := by
  rw [k0_part23_eq_skeleton]; unfold k0_part23_skel
  iintro ⟨H14, H15, H16, HK, HV⟩ Hk
  iapply (load_own c) $$ H15; iintro H15
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (load_slot c 1 (off207_eq hv t)) $$ HK; iintro HK
  iapply (load_slot c 1 (off207_eq hv t)) $$ HV; iintro HV
  iapply (pure_step c _)
  iapply Hk
  isplitl [H14]; · iexact H14
  isplitl [H15]; · iexact H15
  isplitl [H16]; · iexact H16
  isplitl [HK]; · iexact HK
  iexact HV

theorem part24_run (v825 : FVec F S1024x256 .fp8e4m3) (v826 : FVec F S1024x256 .bf16)
    {g2 : S2.Idx → F .f32} {g3 : S2.Idx → F .f32} {g4 : S128x256.Idx → F .bf16} {g14 : S2x64x1.Idx → F .f32} {g15 : S2x64x1.Idx → F .f32}
    {Q : (Σ' (v837 : FVec F S1024x256 .bf16) (v854 : FVec F S64x1 .f32) (v856 : FVec F S64x1 .f32) (v859 : FVec F S64x1024 .f32), FVec F S64x1 .f32) → sProp 𝕄} :
    iprop(Own c arg2 g2
      ∗ Own c arg3 g3
      ∗ Own c arg4 g4
      ∗ Own c arg14 g14
      ∗ Own c arg15 g15)
      ⊢ iprop((iprop(Own c arg2 g2
      ∗ Own c arg3 g3
      ∗ Own c arg4 g4
      ∗ Own c arg14 g14
      ∗ Own c arg15 g15)
          -∗ Q ⟨k0_pay14 v825 (g3 (ix1 1)), k0_pay17 v826 (g2 (ix1 1)) (ldr g4 Rq16) (ldr g4 Rq48) (ldr g4 Rq80) (ldr g4 Rq112) (ldr g14 Rm1), k0_pay18 v826 (g2 (ix1 1)) (ldr g4 Rq16) (ldr g4 Rq48) (ldr g4 Rq80) (ldr g4 Rq112) (ldr g14 Rm1), k0_pay19 v826 (g2 (ix1 1)) (ldr g4 Rq16) (ldr g4 Rq48) (ldr g4 Rq80) (ldr g4 Rq112) (ldr g14 Rm1), k0_pay20 v826 (g2 (ix1 1)) (ldr g4 Rq16) (ldr g4 Rq48) (ldr g4 Rq80) (ldr g4 Rq112) (ldr g14 Rm1) (ldr g15 Rm1)⟩)
      -∗ wp frame (wpE (defs₀ (F := F)) Variants.none (c : Thread nD τ) none) Set.univ (k0_part24 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v825 v826) Q) := by
  rw [k0_part24_eq_skeleton]; unfold k0_part24_skel
  iintro ⟨H2, H3, H4, H14, H15⟩ Hk
  iapply (sm_own c 1 rfl) $$ H2; iintro H2
  iapply (sm_own c 1 rfl) $$ H3; iintro H3
  iapply (load_own c) $$ H4; iintro H4
  iapply (load_own c) $$ H4; iintro H4
  iapply (load_own c) $$ H4; iintro H4
  iapply (load_own c) $$ H4; iintro H4
  iapply (load_own c) $$ H14; iintro H14
  iapply (load_own c) $$ H15; iintro H15
  iapply (pure_step c _)
  iapply Hk
  isplitl [H2]; · iexact H2
  isplitl [H3]; · iexact H3
  isplitl [H4]; · iexact H4
  isplitl [H14]; · iexact H14
  iexact H15

theorem part38_run (v29 : BitVec 32) (v31 : IVec S8x1 32) (v33 : IVec S8x1 1) (c0_i32_16 : BitVec 32)
    {g2 : S2.Idx → F .f32} {g3 : S2.Idx → F .f32} {g5 : S8x256.Idx → F .bf16} {g6 : S8x256.Idx → F .bf16}
    {Q : (Σ' (v50 : FVec F S8x1 .f32) (v57 : FVec F S8x1 .f32) (v67 : FVec F S8x256 .fp8e4m3), FVec F S8x256 .fp8e4m3) → sProp 𝕄} :
    iprop(Own c arg2 g2
      ∗ Own c arg3 g3
      ∗ Own c arg5 g5
      ∗ Own c arg6 g6)
      ⊢ iprop((iprop(Own c arg2 g2
      ∗ Own c arg3 g3
      ∗ Own c arg5 g5
      ∗ Own c arg6 g6)
          -∗ Q ⟨k0_pay42 v29 v31 v33 c0_i32_16 (g2 (ix1 0)) (g2 (ix1 1)), k0_pay43 v29 v31 v33 c0_i32_16 (g3 (ix1 0)) (g3 (ix1 1)), k0_pay44 v29 v31 v33 c0_i32_16 (g2 (ix1 0)) (g2 (ix1 1)) (ldr g5 Rn), k0_pay45 v29 v31 v33 c0_i32_16 (g3 (ix1 0)) (g3 (ix1 1)) (ldr g6 Rn)⟩)
      -∗ wp frame (wpE (defs₀ (F := F)) Variants.none (c : Thread nD τ) none) Set.univ (k0_part38 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v29 v31 v33 c0_i32_16) Q) := by
  rw [k0_part38_eq_skeleton]; unfold k0_part38_skel
  iintro ⟨H2, H3, H5, H6⟩ Hk
  iapply (sm_own c 0 rfl) $$ H2; iintro H2
  iapply (sm_own c 1 rfl) $$ H2; iintro H2
  iapply (sm_own c 0 rfl) $$ H3; iintro H3
  iapply (sm_own c 1 rfl) $$ H3; iintro H3
  iapply (load_own c) $$ H5; iintro H5
  iapply (load_own c) $$ H6; iintro H6
  iapply (pure_step c _)
  iapply Hk
  isplitl [H2]; · iexact H2
  isplitl [H3]; · iexact H3
  isplitl [H5]; · iexact H5
  iexact H6

theorem part39_run (v50 : FVec F S8x1 .f32) (v57 : FVec F S8x1 .f32) (v67 : FVec F S8x256 .fp8e4m3) (v77 : FVec F S8x256 .fp8e4m3)
    {g10 : S8x256.Idx → F .fp8e4m3} {g11 : S8x256.Idx → F .fp8e4m3} {g14 : S2x64x1.Idx → F .f32}
    {Q : (Σ' (v83 : FVec F S8x256 .bf16) (v87 : FVec F S8x256 .bf16) (v112 : IVec S64x8 32) (v113 : IVec S64x8 32), FVec F S2x64x1 .f32) → sProp 𝕄} :
    iprop(Own c arg10 g10
      ∗ Own c arg11 g11
      ∗ Own c arg14 g14)
      ⊢ iprop((iprop(Own c arg10 v67
      ∗ Own c arg11 v77
      ∗ Own c arg14 (k0_pay49 (F := F)))
          -∗ Q ⟨k0_pay46 v50 v67, k0_pay47 v57 v77, k0_pay48, (iota .tc S64x8 32 [1] iota_S64x8_d1_w32), k0_pay50 (F := F)⟩)
      -∗ wp frame (wpE (defs₀ (F := F)) Variants.none (c : Thread nD τ) none) Set.univ (k0_part39 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v50 v57 v67 v77) Q) := by
  rw [k0_part39_eq_skeleton]; unfold k0_part39_skel
  iintro ⟨H10, H11, H14⟩ Hk
  iapply (load_own c) $$ H10; iintro H10
  iapply (store_own c) $$ H10; iintro H10
  ihave H10 := (Entails.of_eq (congrArg (Own c arg10) (upd_Rn _ _))) $$ H10
  iapply (load_own c) $$ H11; iintro H11
  iapply (store_own c) $$ H11; iintro H11
  ihave H11 := (Entails.of_eq (congrArg (Own c arg11) (upd_Rn _ _))) $$ H11
  iapply (load_own c) $$ H14; iintro H14
  iapply (store_own c) $$ H14; iintro H14
  ihave H14 := (Entails.of_eq (congrArg (Own c arg14) (upd_RmF _ _))) $$ H14
  iapply (pure_step c _)
  iapply Hk
  isplitl [H10]; · iexact H10
  isplitl [H11]; · iexact H11
  iexact H14

theorem part40_run (v83 : FVec F S8x256 .bf16) (v113 : IVec S64x8 32) (v118 : FVec F S2x64x1 .f32)
    {g4 : S128x256.Idx → F .bf16} {g15 : S2x64x1.Idx → F .f32} {g16 : S2x64x256.Idx → F .f32}
    {Q : (Σ' (v137 : FVec F S64x8 .f32) (v153 : IVec S64x8 32), BitVec 32) → sProp 𝕄} :
    iprop(Own c arg4 g4
      ∗ Own c arg15 g15
      ∗ Own c arg16 g16)
      ⊢ iprop((iprop(Own c arg4 g4
      ∗ Own c arg15 (k0_pay51 v118)
      ∗ Own c arg16 (k0_pay52 (F := F)))
          -∗ Q ⟨k0_pay53 v83 (ldr g4 Rq0) (ldr g4 Rq32) (ldr g4 Rq64) (ldr g4 Rq96), k0_pay54 v113, 0#32⟩)
      -∗ wp frame (wpE (defs₀ (F := F)) Variants.none (c : Thread nD τ) none) Set.univ (k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v83 v113 v118) Q) := by
  rw [k0_part40_eq_skeleton]; unfold k0_part40_skel
  iintro ⟨H4, H15, H16⟩ Hk
  iapply (load_own c) $$ H15; iintro H15
  iapply (store_own c) $$ H15; iintro H15
  ihave H15 := (Entails.of_eq (congrArg (Own c arg15) (upd_RmF _ _))) $$ H15
  iapply (load_own c) $$ H16; iintro H16
  iapply (store_own c) $$ H16; iintro H16
  ihave H16 := (Entails.of_eq (congrArg (Own c arg16) (upd_RaF _ _))) $$ H16
  iapply (load_own c) $$ H4; iintro H4
  iapply (load_own c) $$ H4; iintro H4
  iapply (load_own c) $$ H4; iintro H4
  iapply (load_own c) $$ H4; iintro H4
  iapply (pure_step c _)
  iapply Hk
  isplitl [H4]; · iexact H4
  isplitl [H15]; · iexact H15
  iexact H16

theorem part41_run (v112 : IVec S64x8 32) (v113 : IVec S64x8 32) (v137 : FVec F S64x8 .f32) (v153 : IVec S64x8 32) (c0_i32_65 : BitVec 32)
    {g14 : S2x64x1.Idx → F .f32} {g15 : S2x64x1.Idx → F .f32}
    {Q : (Σ' (v188 : FVec F S64x1 .f32) (v190 : FVec F S64x1 .f32) (v193 : FVec F S64x8 .f32) (v196 : FVec F S64x1 .f32), FVec F S64 .f32) → sProp 𝕄} :
    iprop(Own c arg14 g14
      ∗ Own c arg15 g15)
      ⊢ iprop((iprop(Own c arg14 g14
      ∗ Own c arg15 g15)
          -∗ Q ⟨k0_pay57 v112 v113 v137 v153 c0_i32_65 (ldr g14 Rm0), k0_pay58 v112 v113 v137 v153 c0_i32_65 (ldr g14 Rm0), k0_pay59 v112 v113 v137 v153 c0_i32_65 (ldr g14 Rm0), k0_pay60 v112 v113 v137 v153 c0_i32_65 (ldr g14 Rm0) (ldr g15 Rm0), k0_pay61 v112 v113 v137 v153 c0_i32_65 (ldr g14 Rm0)⟩)
      -∗ wp frame (wpE (defs₀ (F := F)) Variants.none (c : Thread nD τ) none) Set.univ (k0_part41 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v112 v113 v137 v153 c0_i32_65) Q) := by
  rw [k0_part41_eq_skeleton]; unfold k0_part41_skel
  iintro ⟨H14, H15⟩ Hk
  iapply (load_own c) $$ H14; iintro H14
  iapply (load_own c) $$ H15; iintro H15
  iapply (pure_step c _)
  iapply Hk
  isplitl [H14]; · iexact H14
  iexact H15

theorem part42_run (v83 : FVec F S8x256 .bf16) (v87 : FVec F S8x256 .bf16) (v188 : FVec F S64x1 .f32) (v190 : FVec F S64x1 .f32) (v193 : FVec F S64x8 .f32) (v196 : FVec F S64x1 .f32) (v197 : FVec F S64 .f32)
    {g4 : S128x256.Idx → F .bf16} {g14 : S2x64x1.Idx → F .f32} {g15 : S2x64x1.Idx → F .f32} {g16 : S2x64x256.Idx → F .f32}
    {Q : (Σ' (v227 : FVec F S64x8 .f32) (c2_i32_101 : BitVec 32) (v228 : BitVec 1), BitVec 32) → sProp 𝕄} :
    iprop(Own c arg4 g4
      ∗ Own c arg14 g14
      ∗ Own c arg15 g15
      ∗ Own c arg16 g16)
      ⊢ iprop((iprop(Own c arg4 g4
      ∗ Own c arg14 (upd Rm0 (k0_pay64 v188) g14)
      ∗ Own c arg15 (upd Rm0 (k0_pay62 v196 v197) g15)
      ∗ Own c arg16 (upd Ra0 (k0_pay63 v87 v190 v193 (ldr g16 Ra0)) g16))
          -∗ Q ⟨k0_pay65 v83 (ldr g4 Rq16) (ldr g4 Rq48) (ldr g4 Rq80) (ldr g4 Rq112), 2#32, (Scalar.cmpi .eq 2#32 0#32), 1#32⟩)
      -∗ wp frame (wpE (defs₀ (F := F)) Variants.none (c : Thread nD τ) none) Set.univ (k0_part42 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v83 v87 v188 v190 v193 v196 v197) Q) := by
  rw [k0_part42_eq_skeleton]; unfold k0_part42_skel
  iintro ⟨H4, H14, H15, H16⟩ Hk
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (load_own c) $$ H4; iintro H4
  iapply (load_own c) $$ H4; iintro H4
  iapply (load_own c) $$ H4; iintro H4
  iapply (load_own c) $$ H4; iintro H4
  iapply (pure_step c _)
  iapply Hk
  isplitl [H4]; · iexact H4
  isplitl [H14]; · iexact H14
  isplitl [H15]; · iexact H15
  iexact H16

theorem part43_run (v112 : IVec S64x8 32) (v113 : IVec S64x8 32) (v227 : FVec F S64x8 .f32) (c2_i32_101 : BitVec 32) (v228 : BitVec 1) (c1_i32_103 : BitVec 32)

    {Q : (FVec F S64x8 .f32) → sProp 𝕄} :
    Q (k0_pay66 v112 v113 v227 c2_i32_101 v228 c1_i32_103)
      ⊢ wp frame (wpE (defs₀ (F := F)) Variants.none (c : Thread nD τ) none) Set.univ (k0_part43 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v112 v113 v227 c2_i32_101 v228 c1_i32_103) Q := by
  rw [k0_part43_eq_skeleton]; unfold k0_part43_skel
  exact pure_step c _

theorem part44_run (v17 : BitVec 32) (v87 : FVec F S8x256 .bf16) (v273 : FVec F S64x8 .f32)
    {g14 : S2x64x1.Idx → F .f32} {g15 : S2x64x1.Idx → F .f32} {g16 : S2x64x256.Idx → F .f32}
    {Q : (Σ' (c0_i32_138 : BitVec 32), BitVec 32) → sProp 𝕄} :
    iprop(Own c arg14 g14
      ∗ Own c arg15 g15
      ∗ Own c arg16 g16)
      ⊢ iprop((iprop(Own c arg14 (upd Rm1 (k0_pay73 v273 (ldr g14 Rm1)) g14)
      ∗ Own c arg15 (upd Rm1 (k0_pay71 v273 (ldr g14 Rm1) (ldr g15 Rm1)) g15)
      ∗ Own c arg16 (upd Ra1 (k0_pay72 v87 v273 (ldr g14 Rm1) (ldr g16 Ra1)) g16))
          -∗ Q ⟨0#32, (Scalar.muli (Scalar.divsi (Scalar.subi v17 0#32) 1#32) 1#32)⟩)
      -∗ wp frame (wpE (defs₀ (F := F)) Variants.none (c : Thread nD τ) none) Set.univ (k0_part44 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v17 v87 v273) Q) := by
  rw [k0_part44_eq_skeleton]; unfold k0_part44_skel
  iintro ⟨H14, H15, H16⟩ Hk
  iapply (load_own c) $$ H14; iintro H14
  iapply (load_own c) $$ H15; iintro H15
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (pure_step c _)
  iapply Hk
  isplitl [H14]; · iexact H14
  isplitl [H15]; · iexact H15
  iexact H16

theorem part50_run {v0 : BitVec 32} (hv : v0.toNat ≤ 65532) (k0_hw25 : k0_chk25 v0) (v17 : BitVec 32) (v444 : FVec F S1024x256 .fp8e4m3)
    {g2 : S2.Idx → F .f32} {g3 : S2.Idx → F .f32} {g4 : S128x256.Idx → F .bf16} {g14 : S2x64x1.Idx → F .f32}
    {Q : (Σ' (v460 : FVec F S1024x256 .bf16) (v482 : FVec F S64x1024 .f32) (v484 : FVec F S64x1 .f32), FVec F S64 .f32) → sProp 𝕄} :
    iprop(Own c arg2 g2
      ∗ Own c arg3 g3
      ∗ Own c arg4 g4
      ∗ Own c arg14 g14
      ∗ Landed c arg13 arg8 arg18 fA8 tk (sl (NF v0)) (pgs (arg1.view.read (Elt F) fT) (NF v0)))
      ⊢ iprop((iprop(Own c arg2 g2
      ∗ Own c arg3 g3
      ∗ Own c arg4 g4
      ∗ Own c arg14 g14
      ∗ Landed c arg13 arg8 arg18 fA8 tk (sl (NF v0)) (pgs (arg1.view.read (Elt F) fT) (NF v0)))
          -∗ Q ⟨k0_pay81 (kv (arg8.view.read (Elt F) fA8) (arg1.view.read (Elt F) fT) (NF v0) 0) (g3 (ix1 0)), k0_pay82 v0 v17 v444 (g2 (ix1 0)) (ldr g4 Rq0) (ldr g4 Rq32) (ldr g4 Rq64) (ldr g4 Rq96), k0_pay83 (ldr g14 Rm0), k0_pay84 v0 v17 v444 (g2 (ix1 0)) (ldr g4 Rq0) (ldr g4 Rq32) (ldr g4 Rq64) (ldr g4 Rq96)⟩)
      -∗ wp frame (wpE (defs₀ (F := F)) Variants.none (c : Thread nD τ) none) Set.univ (k0_part50 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 v444) Q) := by
  rw [k0_part50_eq_skeleton]; unfold k0_part50_skel
  iintro ⟨H2, H3, H4, H14, HV⟩ Hk
  iapply (load_slot c 0 (off333_eq hv)) $$ HV; iintro HV
  iapply (sm_own c 0 rfl) $$ H2; iintro H2
  iapply (sm_own c 0 rfl) $$ H3; iintro H3
  iapply (load_own c) $$ H4; iintro H4
  iapply (load_own c) $$ H4; iintro H4
  iapply (load_own c) $$ H4; iintro H4
  iapply (load_own c) $$ H4; iintro H4
  iapply (load_own c) $$ H14; iintro H14
  iapply (pure_step c _)
  iapply Hk
  isplitl [H2]; · iexact H2
  isplitl [H3]; · iexact H3
  isplitl [H4]; · iexact H4
  isplitl [H14]; · iexact H14
  iexact HV

theorem part51_run {v0 : BitVec 32} (hv : v0.toNat ≤ 65532) (k0_hw25 : k0_chk25 v0) (v440 : BitVec 32) (v460 : FVec F S1024x256 .bf16) (v482 : FVec F S64x1024 .f32) (v484 : FVec F S64x1 .f32) (v485 : FVec F S64 .f32)
    {g14 : S2x64x1.Idx → F .f32} {g15 : S2x64x1.Idx → F .f32} {g16 : S2x64x256.Idx → F .f32}
    {Q : (FVec F S1024x256 .fp8e4m3) → sProp 𝕄} :
    iprop(Own c arg14 g14
      ∗ Own c arg15 g15
      ∗ Own c arg16 g16
      ∗ Landed c arg12 arg7 arg17 fA7 tk (sl (NF v0)) (pgs (arg1.view.read (Elt F) fT) (NF v0)))
      ⊢ iprop((iprop(Own c arg14 (upd Rm0 (k0_pay90 v484 v485) g14)
      ∗ Own c arg15 (upd Rm0 (k0_pay88 v482 v484 v485 (ldr g15 Rm0)) g15)
      ∗ Own c arg16 (upd Ra0 (k0_pay89 v460 v482 v484 v485 (ldr g16 Ra0)) g16)
      ∗ Landed c arg12 arg7 arg17 fA7 tk (sl (NF v0)) (pgs (arg1.view.read (Elt F) fT) (NF v0)))
          -∗ Q (k0_pay91 (kv (arg7.view.read (Elt F) fA7) (arg1.view.read (Elt F) fT) (NF v0) 1)))
      -∗ wp frame (wpE (defs₀ (F := F)) Variants.none (c : Thread nD τ) none) Set.univ (k0_part51 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v440 v460 v482 v484 v485) Q) := by
  rw [k0_part51_eq_skeleton]; unfold k0_part51_skel
  iintro ⟨H14, H15, H16, HK⟩ Hk
  iapply (load_own c) $$ H15; iintro H15
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (load_slot c 1 (off334_eq hv)) $$ HK; iintro HK
  iapply (pure_step c _)
  iapply Hk
  isplitl [H14]; · iexact H14
  isplitl [H15]; · iexact H15
  isplitl [H16]; · iexact H16
  iexact HK

theorem part52_run {v0 : BitVec 32} (hv : v0.toNat ≤ 65532) (k0_hw25 : k0_chk25 v0) (v17 : BitVec 32) (v518 : FVec F S1024x256 .fp8e4m3)
    {g2 : S2.Idx → F .f32} {g3 : S2.Idx → F .f32} {g4 : S128x256.Idx → F .bf16} {g14 : S2x64x1.Idx → F .f32}
    {Q : (Σ' (v534 : FVec F S1024x256 .bf16) (v556 : FVec F S64x1024 .f32) (v558 : FVec F S64x1 .f32), FVec F S64 .f32) → sProp 𝕄} :
    iprop(Own c arg2 g2
      ∗ Own c arg3 g3
      ∗ Own c arg4 g4
      ∗ Own c arg14 g14
      ∗ Landed c arg13 arg8 arg18 fA8 tk (sl (NF v0)) (pgs (arg1.view.read (Elt F) fT) (NF v0)))
      ⊢ iprop((iprop(Own c arg2 g2
      ∗ Own c arg3 g3
      ∗ Own c arg4 g4
      ∗ Own c arg14 g14
      ∗ Landed c arg13 arg8 arg18 fA8 tk (sl (NF v0)) (pgs (arg1.view.read (Elt F) fT) (NF v0)))
          -∗ Q ⟨k0_pay92 (kv (arg8.view.read (Elt F) fA8) (arg1.view.read (Elt F) fT) (NF v0) 1) (g3 (ix1 1)), k0_pay93 v0 v17 v518 (g2 (ix1 1)) (ldr g4 Rq16) (ldr g4 Rq48) (ldr g4 Rq80) (ldr g4 Rq112), k0_pay94 (ldr g14 Rm1), k0_pay95 v0 v17 v518 (g2 (ix1 1)) (ldr g4 Rq16) (ldr g4 Rq48) (ldr g4 Rq80) (ldr g4 Rq112)⟩)
      -∗ wp frame (wpE (defs₀ (F := F)) Variants.none (c : Thread nD τ) none) Set.univ (k0_part52 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 v518) Q) := by
  rw [k0_part52_eq_skeleton]; unfold k0_part52_skel
  iintro ⟨H2, H3, H4, H14, HV⟩ Hk
  iapply (load_slot c 1 (off334_eq hv)) $$ HV; iintro HV
  iapply (sm_own c 1 rfl) $$ H2; iintro H2
  iapply (sm_own c 1 rfl) $$ H3; iintro H3
  iapply (load_own c) $$ H4; iintro H4
  iapply (load_own c) $$ H4; iintro H4
  iapply (load_own c) $$ H4; iintro H4
  iapply (load_own c) $$ H4; iintro H4
  iapply (load_own c) $$ H14; iintro H14
  iapply (pure_step c _)
  iapply Hk
  isplitl [H2]; · iexact H2
  isplitl [H3]; · iexact H3
  isplitl [H4]; · iexact H4
  isplitl [H14]; · iexact H14
  iexact HV

theorem part53_run (v534 : FVec F S1024x256 .bf16) (v556 : FVec F S64x1024 .f32) (v558 : FVec F S64x1 .f32) (v559 : FVec F S64 .f32)
    {g14 : S2x64x1.Idx → F .f32} {g15 : S2x64x1.Idx → F .f32} {g16 : S2x64x256.Idx → F .f32}
    {Q : (Σ' (v590 : FVec F S64x256 .f32), FVec F S64x256 .f32) → sProp 𝕄} :
    iprop(Own c arg14 g14
      ∗ Own c arg15 g15
      ∗ Own c arg16 g16)
      ⊢ iprop((iprop(Own c arg14 (upd Rm1 (k0_pay101 v558 v559) g14)
      ∗ Own c arg15 (upd Rm1 (k0_pay99 v556 v558 v559 (ldr g15 Rm1)) g15)
      ∗ Own c arg16 (upd Ra1 (k0_pay100 v534 v556 v558 v559 (ldr g16 Ra1)) g16))
          -∗ Q ⟨k0_pay102 (ldr (upd Ra1 (k0_pay100 v534 v556 v558 v559 (ldr g16 Ra1)) g16) Ra0), k0_pay103 (ldr (upd Rm1 (k0_pay99 v556 v558 v559 (ldr g15 Rm1)) g15) Rm0)⟩)
      -∗ wp frame (wpE (defs₀ (F := F)) Variants.none (c : Thread nD τ) none) Set.univ (k0_part53 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v534 v556 v558 v559) Q) := by
  rw [k0_part53_eq_skeleton]; unfold k0_part53_skel
  iintro ⟨H14, H15, H16⟩ Hk
  iapply (load_own c) $$ H15; iintro H15
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (load_own c) $$ H16; iintro H16
  iapply (load_own c) $$ H15; iintro H15
  iapply (pure_step c _)
  iapply Hk
  isplitl [H14]; · iexact H14
  isplitl [H15]; · iexact H15
  iexact H16

end

end Cert.KernelIdeal.Hand
-- ==== Proof.Ideal.Loop.lean ====
/-
  One trip of the loop over the full blocks.
-/
module

public import proofs.«01_k».proof.Proof.Ideal.Waits
public import proofs.«01_k».proof.Proof.Ideal.Compute
public import proofs.«01_k».proof.Proof.Ideal.Vals

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-- A slot that block `b`'s copies occupy when there is such a block (`b ≤ n`), and that is free when there is none. -/
def Pd (c : Dev nD) (M : Memref sig .tc .vmem S4x8x2x128x256 .fp8e4m3) (A : Memref sig .tc .hbm S512x2x128x256 .fp8e4m3)
    (S : DmaSems sig S4) (fA : Buf (Elt F) (A.view.loc (c : Thread nD τ))) (T : S512.Idx → BitVec 32) (n b : ℕ) : sProp 𝕄 :=
  if b ≤ n then FlB c M A S fA T b 8 0 else Free c M A S fA tk (sl b)

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part21_run {v0 : BitVec 32} (hv : v0.toNat ≤ 65532)
    (hT : ∀ i : S512.Idx, BitVec.toNat (w := 32) (arg1.view.read (Elt F) fT i) < 512) (t : Fin (k0_t1_loop v0).trips)
    (k0_hw25 : k0_chk25 v0) (v17 arg19 : BitVec 32) (k0_hw32 : k0_chk32 (wd (arg1.view.read (Elt F) fT) t.val 6))
    {Q : (Σ' (v753 : BitVec 32), Vec F S1x8x1x128x256 .fp8e4m3) → sProp 𝕄} :
    iprop((arg1.view.loc (c : Thread nD τ) ↦[arg1.view.set]{fullShare} fT) ∗ FlB c arg12 arg7 arg17 fA7 (arg1.view.read (Elt F) fT) t.val 8 7 ∗ FlB c arg13 arg8 arg18 fA8 (arg1.view.read (Elt F) fT) t.val 8 6 ∗ (∃ W, owes (c : Thread nD τ) 0 W)
      ∗ Free c arg12 arg7 arg17 fA7 tk (sl (t.val + 3)) ∗ Free c arg13 arg8 arg18 fA8 tk (sl (t.val + 3)))
      ⊢ iprop((∀ r, iprop((arg1.view.loc (c : Thread nD τ) ↦[arg1.view.set]{fullShare} fT) ∗ Landed c arg12 arg7 arg17 fA7 tk (sl t.val) (pgs (arg1.view.read (Elt F) fT) t.val) ∗ Landed c arg13 arg8 arg18 fA8 tk (sl t.val) (pgs (arg1.view.read (Elt F) fT) t.val) ∗ (∃ W, owes (c : Thread nD τ) 0 W)
      ∗ Pd c arg12 arg7 arg17 fA7 (arg1.view.read (Elt F) fT) (NF v0) (t.val + 3) ∗ Pd c arg13 arg8 arg18 fA8 (arg1.view.read (Elt F) fT) (NF v0) (t.val + 3)) -∗ Q ⟨r, kv (arg7.view.read (Elt F) fA7) (arg1.view.read (Elt F) fT) t.val 0⟩)
      -∗ wp frame (wpE (defs₀ (F := F)) Variants.none (c : Thread nD τ) none) Set.univ (k0_part21 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 t arg19 (wd (arg1.view.read (Elt F) fT) t.val 6) k0_hw32) Q) := by
  have hb : t.val < 64 := trip_lt64 hv t
  rw [k0_part21_eq_skeleton]; unfold k0_part21_skel
  iintro ⟨HT, HK, HV, HW, FK, FV⟩ Hk
  iapply (wait_step c (b := t.val) 6 (by decide) (off158_eq hv t)) $$ [HV HW]
  · isplitl [HV] <;> iassumption
  iintro ⟨HV, HW⟩
  iapply (ld_step c t.val 7 (off160_eq hv t) hb (by decide)) $$ HT; iintro HT
  iapply (assume_step c (chk33 _ (hT (ix1 (tix t.val 7)))))
  iapply (wait_step c (b := t.val) 7 (by decide) (off158_eq hv t)) $$ [HK HW]
  · isplitl [HK] <;> iassumption
  iintro ⟨HK, HW⟩
  iapply (wait_step c (b := t.val) 7 (by decide) (off163_eq hv t)) $$ [HV HW]
  · isplitl [HV] <;> iassumption
  iintro ⟨HV, HW⟩
  imod (fl_close c arg12 arg7 arg17 fA7 tk (sl t.val) (pgs (arg1.view.read (Elt F) fT) t.val)) $$ HK with HK
  imod (fl_close c arg13 arg8 arg18 fA8 tk (sl t.val) (pgs (arg1.view.read (Elt F) fT) t.val)) $$ HV with HV
  refine dite_step c (fun k0_h4 => ?_) (fun k0_h4 => ?_)
  · iintro ⟨⟨⟨⟨⟨⟨FK, FV⟩, Hk⟩, HT⟩, HW⟩, HK⟩, HV⟩
    have h3 : t.val + 3 ≤ NF v0 := (cond4_eq hv t).1 k0_h4
    have hb3 : t.val + 3 < 64 := lt_of_le_of_lt h3 (NF_lt hv)
    imod (free_open c arg12 arg7 arg17 fA7 tk (sl (t.val + 3)) (pgs (arg1.view.read (Elt F) fT) (t.val + 3))) $$ FK with FK
    imod (free_open c arg13 arg8 arg18 fA8 tk (sl (t.val + 3)) (pgs (arg1.view.read (Elt F) fT) (t.val + 3))) $$ FV with FV
    iapply (bind_step c)
    iapply (part13_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb3 _ _ _) $$ [HT FK FV]
    · isplitl [HT]; · iexact HT
      isplitl [FK]; · iexact FK
      iexact FV
    iintro %x ⟨HT, FK, FV⟩
    iapply (bind_step c)
    iapply (part14_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb3 _ _ _ _) $$ [HT FK FV]
    · isplitl [HT]; · iexact HT
      isplitl [FK]; · iexact FK
      iexact FV
    iintro %x ⟨HT, FK, FV⟩
    iapply (bind_step c)
    iapply (part15_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb3 _ _ _ _) $$ [HT FK FV]
    · isplitl [HT]; · iexact HT
      isplitl [FK]; · iexact FK
      iexact FV
    iintro %x ⟨HT, FK, FV⟩
    iapply (bind_step c)
    iapply (part16_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb3 _ _ _ _ _) $$ [HT FK FV]
    · isplitl [HT]; · iexact HT
      isplitl [FK]; · iexact FK
      iexact FV
    iintro %x ⟨HT, FK, FV⟩
    iapply (start_step c (b := (t.val + 3)) hT 6 (by decide) (off198_eq _) (off200_eq hv t) (off199_eq hv t) (Nat.zero_le _)) $$ FV; iintro FV
    iapply (ld_step c (t.val + 3) 7 (off201_eq hv t) hb3 (by decide)) $$ HT; iintro HT
    iapply (assume_step c (chk41 _ _ _ (hT (ix1 (tix (t.val + 3) 7)))))
    iapply (start_step c (b := (t.val + 3)) hT 7 (by decide) (off203_eq _) (off202_eq hv t) (off199_eq hv t) (Nat.zero_le _)) $$ FK; iintro FK
    iapply (start_step c (b := (t.val + 3)) hT 7 (by decide) (off203_eq _) (off205_eq hv t) (off204_eq hv t) (Nat.zero_le _)) $$ FV; iintro FV
    iapply (load_slot c 0 (off206_eq hv t)) $$ HK; iintro HK
    iapply (pure_step c _)
    iapply Hk
    isplitl [HT]; · iexact HT
    isplitl [HK]; · iexact HK
    isplitl [HV]; · iexact HV
    isplitl [HW]; · iexact HW
    unfold Pd; rw [if_pos h3, if_pos h3]
    isplitl [FK]; · iexact FK
    iexact FV
  · iintro ⟨⟨⟨⟨⟨⟨FK, FV⟩, Hk⟩, HT⟩, HW⟩, HK⟩, HV⟩
    have h3 : ¬ t.val + 3 ≤ NF v0 := fun h => k0_h4 ((cond4_eq hv t).2 h)
    iapply (load_slot c 0 (off206_eq hv t)) $$ HK; iintro HK
    iapply (pure_step c _)
    iapply Hk
    isplitl [HT]; · iexact HT
    isplitl [HK]; · iexact HK
    isplitl [HV]; · iexact HV
    isplitl [HW]; · iexact HW
    unfold Pd; rw [if_neg h3, if_neg h3]
    isplitl [FK]; · iexact FK
    iexact FV

end

end Cert.KernelIdeal.Hand
-- ==== Proof.Ideal.Trip.lean ====
/-
  One trip of the loop, whole.
-/
module

public import proofs.«01_k».proof.Proof.Ideal.Loop

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem trip_run {v0 : BitVec 32} (hv : v0.toNat ≤ 65532)
    (hT : ∀ i : S512.Idx, BitVec.toNat (w := 32) (arg1.view.read (Elt F) fT i) < 512) (t : Fin (k0_t1_loop v0).trips)
    (k0_hw25 : k0_chk25 v0) (v17' c0 v309 : BitVec 32) (u : Unit) {g2 : S2.Idx → F .f32} {g3 : S2.Idx → F .f32} {g4 : S128x256.Idx → F .bf16} {s : St F} {Q : Unit → sProp 𝕄} :
    iprop((arg1.view.loc (c : Thread nD τ) ↦[arg1.view.set]{fullShare} fT)
      ∗ Own c arg2 g2
      ∗ Own c arg3 g3
      ∗ Own c arg4 g4
      ∗ Own c arg14 s.m
      ∗ Own c arg15 s.l
      ∗ Own c arg16 s.a
      ∗ (∃ W, owes (c : Thread nD τ) 0 W)
      ∗ FlB c arg12 arg7 arg17 fA7 (arg1.view.read (Elt F) fT) t.val 8 0
      ∗ FlB c arg13 arg8 arg18 fA8 (arg1.view.read (Elt F) fT) t.val 8 0
      ∗ Free c arg12 arg7 arg17 fA7 tk (sl (t.val + 3))
      ∗ Free c arg13 arg8 arg18 fA8 tk (sl (t.val + 3)))
      ⊢ iprop((iprop((arg1.view.loc (c : Thread nD τ) ↦[arg1.view.set]{fullShare} fT)
      ∗ Own c arg2 g2
      ∗ Own c arg3 g3
      ∗ Own c arg4 g4
      ∗ Own c arg14 (tripSt g2 g3 g4 (fun h => kv (arg7.view.read (Elt F) fA7) (arg1.view.read (Elt F) fT) t.val h) (fun h => kv (arg8.view.read (Elt F) fA8) (arg1.view.read (Elt F) fT) t.val h) s).m
      ∗ Own c arg15 (tripSt g2 g3 g4 (fun h => kv (arg7.view.read (Elt F) fA7) (arg1.view.read (Elt F) fT) t.val h) (fun h => kv (arg8.view.read (Elt F) fA8) (arg1.view.read (Elt F) fT) t.val h) s).l
      ∗ Own c arg16 (tripSt g2 g3 g4 (fun h => kv (arg7.view.read (Elt F) fA7) (arg1.view.read (Elt F) fT) t.val h) (fun h => kv (arg8.view.read (Elt F) fA8) (arg1.view.read (Elt F) fT) t.val h) s).a
      ∗ (∃ W, owes (c : Thread nD τ) 0 W)
      ∗ Landed c arg12 arg7 arg17 fA7 tk (sl t.val) (pgs (arg1.view.read (Elt F) fT) t.val)
      ∗ Landed c arg13 arg8 arg18 fA8 tk (sl t.val) (pgs (arg1.view.read (Elt F) fT) t.val)
      ∗ Pd c arg12 arg7 arg17 fA7 (arg1.view.read (Elt F) fT) (NF v0) (t.val + 3)
      ∗ Pd c arg13 arg8 arg18 fA8 (arg1.view.read (Elt F) fT) (NF v0) (t.val + 3)) -∗ Q ⟨⟩)
      -∗ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17' c0 v309 t u) Q) := by
  have hb : t.val < 64 := trip_lt64 hv t
  unfold k0_t1_body
  iintro ⟨HT, H2, H3, H4, H14, H15, H16, HW, HK, HV, FK, FV⟩ Hk
  iapply (bind_step c)
  iapply (part17_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb _ _ _) $$ [HT HK HV HW]
  · isplitl [HT]; · iexact HT
    isplitl [HK]; · iexact HK
    isplitl [HV]; · iexact HV
    iexact HW
  iintro %x %h ⟨HT, HK, HV, HW⟩
  iapply (bind_step c)
  iapply (part18_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb _ _ _) $$ [HT HK HV HW]
  · isplitl [HT]; · iexact HT
    isplitl [HK]; · iexact HK
    isplitl [HV]; · iexact HV
    iexact HW
  iintro %h ⟨HT, HK, HV, HW⟩
  iapply (bind_step c)
  iapply (part19_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb _ _ _) $$ [HT HK HV HW]
  · isplitl [HT]; · iexact HT
    isplitl [HK]; · iexact HK
    isplitl [HV]; · iexact HV
    iexact HW
  iintro %r ⟨HT, HK, HV, HW⟩
  iapply (bind_step c)
  iapply (part20_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb _ _ _) $$ [HT HK HV HW]
  · isplitl [HT]; · iexact HT
    isplitl [HK]; · iexact HK
    isplitl [HV]; · iexact HV
    iexact HW
  iintro %h ⟨HT, HK, HV, HW⟩
  iapply (bind_step c)
  iapply (part21_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t _ _ _ _) $$ [HT HK HV HW FK FV]
  · isplitl [HT]; · iexact HT
    isplitl [HK]; · iexact HK
    isplitl [HV]; · iexact HV
    isplitl [HW]; · iexact HW
    isplitl [FK]; · iexact FK
    iexact FV
  iintro %r ⟨HT, HK, HV, HW, FK, FV⟩
  iapply (bind_step c)
  iapply (part22_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv t _ _ _) $$ [H2 H3 H4 H14 HV]
  · isplitl [H2]; · iexact H2
    isplitl [H3]; · iexact H3
    isplitl [H4]; · iexact H4
    isplitl [H14]; · iexact H14
    iexact HV
  iintro ⟨H2, H3, H4, H14, HV⟩
  iapply (bind_step c)
  iapply (part23_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv t _ _ _ _ _ _) $$ [H14 H15 H16 HK HV]
  · isplitl [H14]; · iexact H14
    isplitl [H15]; · iexact H15
    isplitl [H16]; · iexact H16
    isplitl [HK]; · iexact HK
    iexact HV
  iintro ⟨H14, H15, H16, HK, HV⟩
  iapply (bind_step c)
  iapply (part24_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _) $$ [H2 H3 H4 H14 H15]
  · isplitl [H2]; · iexact H2
    isplitl [H3]; · iexact H3
    isplitl [H4]; · iexact H4
    isplitl [H14]; · iexact H14
    iexact H15
  iintro ⟨H2, H3, H4, H14, H15⟩
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (pure_step c _)
  iapply Hk
  isplitl [HT]; · iexact HT
  isplitl [H2]; · iexact H2
  isplitl [H3]; · iexact H3
  isplitl [H4]; · iexact H4
  isplitl [H14]; · iexact H14
  isplitl [H15]; · iexact H15
  isplitl [H16]; · iexact H16
  isplitl [HW]; · iexact HW
  isplitl [HK]; · iexact HK
  isplitl [HV]; · iexact HV
  isplitl [FK]; · iexact FK
  iexact FV

end

end Cert.KernelIdeal.Hand
-- ==== Proof.Ideal.Tail.lean ====
/-
  The loop over the full blocks, the waits for the last block, the first starts, and the whole body.
-/
module

public import proofs.«01_k».proof.Proof.Ideal.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD)

theorem pd_fl {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {n b : ℕ} (h : b ≤ n) :
    Pd c M A S fA T n b ⊢ FlB c M A S fA T b 8 0 := by unfold Pd; rw [if_pos h]

theorem pd_of_fl {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {n b : ℕ} (h : b ≤ n) :
    FlB c M A S fA T b 8 0 ⊢ Pd c M A S fA T n b := by unfold Pd; rw [if_pos h]

theorem pd_free {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {n b : ℕ} (h : ¬ b ≤ n) :
    Pd c M A S fA T n b ⊢ Free c M A S fA tk (sl b) := by unfold Pd; rw [if_neg h]

theorem pd_of_free {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {n b : ℕ} (h : ¬ b ≤ n) :
    Free c M A S fA tk (sl b) ⊢ Pd c M A S fA T n b := by unfold Pd; rw [if_neg h]

theorem sl_add4 (b : ℕ) : sl (b + 4) = sl b := by unfold sl; simp

/-- Four consecutive blocks use the four slots. -/
theorem frees_rot {M : Memref sig .tc .vmem S4x8x2x128x256 .fp8e4m3} {A : Memref sig .tc .hbm S512x2x128x256 .fp8e4m3}
    {S : DmaSems sig S4} {fA : Buf (Elt F) (A.view.loc (c : Thread nD τ))} (n : ℕ) :
    iprop(Free c M A S fA tk (sl n) ∗ Free c M A S fA tk (sl (n + 1)) ∗ Free c M A S fA tk (sl (n + 2)) ∗ Free c M A S fA tk (sl (n + 3)))
      ⊢ iprop(Free c M A S fA tk 0 ∗ Free c M A S fA tk 1 ∗ Free c M A S fA tk 2 ∗ Free c M A S fA tk 3) := by
  have h : n % 4 = 0 ∨ n % 4 = 1 ∨ n % 4 = 2 ∨ n % 4 = 3 := by omega
  have e : ∀ b k, b % 4 = k % 4 → sl b = sl k := fun b k h => Fin.ext h
  rcases h with h | h | h | h
  · rw [show sl n = 0 from e n 0 h, show sl (n + 1) = 1 from e _ 1 (by omega), show sl (n + 2) = 2 from e _ 2 (by omega), show sl (n + 3) = 3 from e _ 3 (by omega)]
  · rw [show sl n = 1 from e n 1 h, show sl (n + 1) = 2 from e _ 2 (by omega), show sl (n + 2) = 3 from e _ 3 (by omega), show sl (n + 3) = 0 from e _ 0 (by omega)]
    iintro ⟨H1, H2, H3, H0⟩
    isplitl [H0]; · iexact H0
    isplitl [H1]; · iexact H1
    isplitl [H2] <;> iassumption
  · rw [show sl n = 2 from e n 2 h, show sl (n + 1) = 3 from e _ 3 (by omega), show sl (n + 2) = 0 from e _ 0 (by omega), show sl (n + 3) = 1 from e _ 1 (by omega)]
    iintro ⟨H2, H3, H0, H1⟩
    isplitl [H0]; · iexact H0
    isplitl [H1]; · iexact H1
    isplitl [H2] <;> iassumption
  · rw [show sl n = 3 from e n 3 h, show sl (n + 1) = 0 from e _ 0 (by omega), show sl (n + 2) = 1 from e _ 1 (by omega), show sl (n + 3) = 2 from e _ 2 (by omega)]
    iintro ⟨H3, H0, H1, H2⟩
    isplitl [H0]; · iexact H0
    isplitl [H1]; · iexact H1
    isplitl [H2] <;> iassumption

theorem dite_yes {α : Type} {Q : α → sProp 𝕄} {p : Prop} [Decidable p] {X : p → Prog (TpuEff nD τ sig (Elt F) Λ₀ .tc) α}
    {Y : ¬ p → Prog (TpuEff nD τ sig (Elt F) Λ₀ .tc) α} (h : p) :
    wp frame (wpE (defs₀ (F := F)) Variants.none (c : Thread nD τ) none) Set.univ (X h) Q ⊢ wp frame (wpE (defs₀ (F := F)) Variants.none (c : Thread nD τ) none) Set.univ (dite p X Y) Q := by rw [dif_pos h]

theorem dite_no {α : Type} {Q : α → sProp 𝕄} {p : Prop} [Decidable p] {X : p → Prog (TpuEff nD τ sig (Elt F) Λ₀ .tc) α}
    {Y : ¬ p → Prog (TpuEff nD τ sig (Elt F) Λ₀ .tc) α} (h : ¬ p) :
    wp frame (wpE (defs₀ (F := F)) Variants.none (c : Thread nD τ) none) Set.univ (Y h) Q ⊢ wp frame (wpE (defs₀ (F := F)) Variants.none (c : Thread nD τ) none) Set.univ (dite p X Y) Q := by rw [dif_neg h]

/-- A loop of no trips. -/
theorem for_none {β : Type} {Q : β → sProp 𝕄} {lb ub st : BitVec 32} {hok} {body : Fin (Scf.trips lb ub st) → PUnit → Prog (TpuEff nD τ sig (Elt F) Λ₀ .tc) PUnit}
    (h : Scf.trips lb ub st = 0) {kk : PUnit → Prog (TpuEff nD τ sig (Elt F) Λ₀ .tc) β} :
    wp frame (wpE (defs₀ (F := F)) Variants.none (c : Thread nD τ) none) Set.univ (kk PUnit.unit) Q ⊢ wp frame (wpE (defs₀ (F := F)) Variants.none (c : Thread nD τ) none) Set.univ (Scf.for lb ub st hok PUnit.unit body >>= kk) Q :=
  Scf.wp_for0_bind _ _ _ lb ub st hok body h kk Q _ .rfl

/-- The state before trip `k`. -/
noncomputable def stK (g2 g3 : S2.Idx → F .f32) (g4 : S128x256.Idx → F .bf16) (K V : ℕ → Fin 2 → Vec F S1x8x1x128x256 .fp8e4m3) (s : St F) : ℕ → St F
  | 0 => s
  | k + 1 => tripSt g2 g3 g4 (K k) (V k) (stK g2 g3 g4 K V s k)

end

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)

/-- What holds before trip `k`. -/
def LI (v0 : BitVec 32) (fT : Buf (Elt F) (arg1.view.loc (c : Thread nD τ))) (fA7 : Buf (Elt F) (arg7.view.loc (c : Thread nD τ)))
    (fA8 : Buf (Elt F) (arg8.view.loc (c : Thread nD τ))) (g2 g3 : S2.Idx → F .f32) (g4 : S128x256.Idx → F .bf16) (s : St F) (k : ℕ) : sProp 𝕄 :=
  iprop((arg1.view.loc (c : Thread nD τ) ↦[arg1.view.set]{fullShare} fT)
      ∗ Own c arg2 g2
      ∗ Own c arg3 g3
      ∗ Own c arg4 g4
      ∗ Own c arg14 (stK g2 g3 g4 (fun b h => kv (arg7.view.read (Elt F) fA7) (arg1.view.read (Elt F) fT) b h) (fun b h => kv (arg8.view.read (Elt F) fA8) (arg1.view.read (Elt F) fT) b h) s k).m
      ∗ Own c arg15 (stK g2 g3 g4 (fun b h => kv (arg7.view.read (Elt F) fA7) (arg1.view.read (Elt F) fT) b h) (fun b h => kv (arg8.view.read (Elt F) fA8) (arg1.view.read (Elt F) fT) b h) s k).l
      ∗ Own c arg16 (stK g2 g3 g4 (fun b h => kv (arg7.view.read (Elt F) fA7) (arg1.view.read (Elt F) fT) b h) (fun b h => kv (arg8.view.read (Elt F) fA8) (arg1.view.read (Elt F) fT) b h) s k).a
      ∗ (∃ W, owes (c : Thread nD τ) 0 W)
      ∗ Pd c arg12 arg7 arg17 fA7 (arg1.view.read (Elt F) fT) (NF v0) (k)
      ∗ Pd c arg13 arg8 arg18 fA8 (arg1.view.read (Elt F) fT) (NF v0) (k)
      ∗ Pd c arg12 arg7 arg17 fA7 (arg1.view.read (Elt F) fT) (NF v0) (k + 1)
      ∗ Pd c arg13 arg8 arg18 fA8 (arg1.view.read (Elt F) fT) (NF v0) (k + 1)
      ∗ Pd c arg12 arg7 arg17 fA7 (arg1.view.read (Elt F) fT) (NF v0) (k + 2)
      ∗ Pd c arg13 arg8 arg18 fA8 (arg1.view.read (Elt F) fT) (NF v0) (k + 2)
      ∗ Free c arg12 arg7 arg17 fA7 tk (sl (k + 3))
      ∗ Free c arg13 arg8 arg18 fA8 tk (sl (k + 3)))

variable {fT : Buf (Elt F) (arg1.view.loc (c : Thread nD τ))}
  {fA7 : Buf (Elt F) (arg7.view.loc (c : Thread nD τ))} {fA8 : Buf (Elt F) (arg8.view.loc (c : Thread nD τ))}

theorem trip_step {v0 : BitVec 32} (hv : v0.toNat ≤ 65532)
    (hT : ∀ i : S512.Idx, BitVec.toNat (w := 32) (arg1.view.read (Elt F) fT i) < 512) (t : Fin (k0_t1_loop v0).trips)
    (k0_hw25 : k0_chk25 v0) (v17' c0 v309 : BitVec 32) (u : Unit) {g2 : S2.Idx → F .f32} {g3 : S2.Idx → F .f32} {g4 : S128x256.Idx → F .bf16} {s : St F} :
    LI c arg1 arg2 arg3 arg4 arg7 arg8 arg12 arg13 arg14 arg15 arg16 arg17 arg18 v0 fT fA7 fA8 g2 g3 g4 s t.val
      ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17' c0 v309 t u) (fun _ => LI c arg1 arg2 arg3 arg4 arg7 arg8 arg12 arg13 arg14 arg15 arg16 arg17 arg18 v0 fT fA7 fA8 g2 g3 g4 s (t.val + 1)) := by
  have ht : t.val < NF v0 := trip_lt hv t
  unfold LI
  iintro ⟨HT, H2, H3, H4, H14, H15, H16, HW, HK0, HV0, HK1, HV1, HK2, HV2, FK, FV⟩
  ihave HK0 := (pd_fl c (le_of_lt ht)) $$ HK0
  ihave HV0 := (pd_fl c (le_of_lt ht)) $$ HV0
  iapply (trip_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t k0_hw25 v17' c0 v309 u) $$ [HT H2 H3 H4 H14 H15 H16 HW HK0 HV0 FK FV]
  · isplitl [HT]; · iexact HT
    isplitl [H2]; · iexact H2
    isplitl [H3]; · iexact H3
    isplitl [H4]; · iexact H4
    isplitl [H14]; · iexact H14
    isplitl [H15]; · iexact H15
    isplitl [H16]; · iexact H16
    isplitl [HW]; · iexact HW
    isplitl [HK0]; · iexact HK0
    isplitl [HV0]; · iexact HV0
    isplitl [FK]; · iexact FK
    iexact FV
  iintro ⟨HT, H2, H3, H4, H14, H15, H16, HW, HK0, HV0, FK, FV⟩
  ihave HK0 := (landed_free c arg12 arg7 arg17 fA7 tk (sl t.val) _) $$ HK0
  ihave HV0 := (landed_free c arg13 arg8 arg18 fA8 tk (sl t.val) _) $$ HV0
  rw [show t.val + 1 + 3 = t.val + 4 from rfl, sl_add4]
  isplitl [HT]; · iexact HT
  isplitl [H2]; · iexact H2
  isplitl [H3]; · iexact H3
  isplitl [H4]; · iexact H4
  isplitl [H14]; · iexact H14
  isplitl [H15]; · iexact H15
  isplitl [H16]; · iexact H16
  isplitl [HW]; · iexact HW
  isplitl [HK1]; · iexact HK1
  isplitl [HV1]; · iexact HV1
  isplitl [HK2]; · iexact HK2
  isplitl [HV2]; · iexact HV2
  isplitl [FK]; · iexact FK
  isplitl [FV]; · iexact FV
  isplitl [HK0]; · iexact HK0
  iexact HV0

theorem part45_run {v0 : BitVec 32} (hv : v0.toNat ≤ 65532)
    (hT : ∀ i : S512.Idx, BitVec.toNat (w := 32) (arg1.view.read (Elt F) fT i) < 512)
    (k0_hw25 : k0_chk25 v0) (v17' c0 v309 : BitVec 32) {g2 : S2.Idx → F .f32} {g3 : S2.Idx → F .f32} {g4 : S128x256.Idx → F .bf16} {s : St F}
    {Q : (Σ' (v331 : Elt F .i32), k0_chk59 v331) → sProp 𝕄} :
    LI c arg1 arg2 arg3 arg4 arg7 arg8 arg12 arg13 arg14 arg15 arg16 arg17 arg18 v0 fT fA7 fA8 g2 g3 g4 s 0
      ⊢ iprop((∀ h, iprop((arg1.view.loc (c : Thread nD τ) ↦[arg1.view.set]{fullShare} fT)
      ∗ Own c arg2 g2
      ∗ Own c arg3 g3
      ∗ Own c arg4 g4
      ∗ Own c arg14 (stK g2 g3 g4 (fun b h => kv (arg7.view.read (Elt F) fA7) (arg1.view.read (Elt F) fT) b h) (fun b h => kv (arg8.view.read (Elt F) fA8) (arg1.view.read (Elt F) fT) b h) s (NF v0)).m
      ∗ Own c arg15 (stK g2 g3 g4 (fun b h => kv (arg7.view.read (Elt F) fA7) (arg1.view.read (Elt F) fT) b h) (fun b h => kv (arg8.view.read (Elt F) fA8) (arg1.view.read (Elt F) fT) b h) s (NF v0)).l
      ∗ Own c arg16 (stK g2 g3 g4 (fun b h => kv (arg7.view.read (Elt F) fA7) (arg1.view.read (Elt F) fT) b h) (fun b h => kv (arg8.view.read (Elt F) fA8) (arg1.view.read (Elt F) fT) b h) s (NF v0)).a
      ∗ (∃ W, owes (c : Thread nD τ) 0 W)
      ∗ FlB c arg12 arg7 arg17 fA7 (arg1.view.read (Elt F) fT) (NF v0) 8 1
      ∗ FlB c arg13 arg8 arg18 fA8 (arg1.view.read (Elt F) fT) (NF v0) 8 1
      ∗ Free c arg12 arg7 arg17 fA7 tk (sl (NF v0 + 1))
      ∗ Free c arg13 arg8 arg18 fA8 tk (sl (NF v0 + 1))
      ∗ Free c arg12 arg7 arg17 fA7 tk (sl (NF v0 + 2))
      ∗ Free c arg13 arg8 arg18 fA8 tk (sl (NF v0 + 2))
      ∗ Free c arg12 arg7 arg17 fA7 tk (sl (NF v0 + 3))
      ∗ Free c arg13 arg8 arg18 fA8 tk (sl (NF v0 + 3))) -∗ Q ⟨wd (arg1.view.read (Elt F) fT) (NF v0) 1, h⟩)
      -∗ wp frame (wpE (defs₀ (F := F)) Variants.none (c : Thread nD τ) none) Set.univ (k0_part45 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17' c0 v309) Q) := by
  rw [k0_part45_eq_skeleton]; unfold k0_part45_skel
  have hn : NF v0 ≤ NF v0 := le_refl _
  have hn1 : ¬ NF v0 + 1 ≤ NF v0 := by omega
  have hn2 : ¬ NF v0 + 2 ≤ NF v0 := by omega
  iintro H Hk
  iapply (Scf.wp_for_bind frame (wpE (defs₀ (F := F)) Variants.none (c : Thread nD τ) none) Set.univ _ _ _ _ _ _
    (fun k _ => LI c arg1 arg2 arg3 arg4 arg7 arg8 arg12 arg13 arg14 arg15 arg16 arg17 arg18 v0 fT fA7 fA8 g2 g3 g4 s k)
    (fun t u => trip_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t k0_hw25 _ _ _ u)) $$ H
  iintro %acc H
  iapply (for_none c (trips2_eq hv))
  ihave H := (Entails.of_eq (congrArg (LI c arg1 arg2 arg3 arg4 arg7 arg8 arg12 arg13 arg14 arg15 arg16 arg17 arg18 v0 fT fA7 fA8 g2 g3 g4 s) (trips_eq hv))) $$ H
  unfold LI
  icases H with ⟨HT, H2, H3, H4, H14, H15, H16, HW, HK, HV, HK1, HV1, HK2, HV2, FK, FV⟩
  ihave HK := (pd_fl c hn) $$ HK
  ihave HV := (pd_fl c hn) $$ HV
  ihave HK1 := (pd_free c hn1) $$ HK1
  ihave HV1 := (pd_free c hn1) $$ HV1
  ihave HK2 := (pd_free c hn2) $$ HK2
  ihave HV2 := (pd_free c hn2) $$ HV2
  iapply (ld_step c (NF v0) 0 (off292_eq hv) (NF_lt hv) (by decide)) $$ HT; iintro HT
  iapply (assume_step c (chk58 _ (hT (ix1 (tix (NF v0) 0)))))
  iapply (wait_step c (b := (NF v0)) 0 (by decide) (off293_eq hv)) $$ [HK HW]
  · isplitl [HK] <;> iassumption
  iintro ⟨HK, HW⟩
  iapply (wait_step c (b := (NF v0)) 0 (by decide) (off296_eq hv)) $$ [HV HW]
  · isplitl [HV] <;> iassumption
  iintro ⟨HV, HW⟩
  iapply (ld_step c (NF v0) 1 (off298_eq hv) (NF_lt hv) (by decide)) $$ HT; iintro HT
  iapply (assume_step c (chk59 _ (hT (ix1 (tix (NF v0) 1)))))
  iapply (pure_step c _)
  iapply Hk
  isplitl [HT]; · iexact HT
  isplitl [H2]; · iexact H2
  isplitl [H3]; · iexact H3
  isplitl [H4]; · iexact H4
  isplitl [H14]; · iexact H14
  isplitl [H15]; · iexact H15
  isplitl [H16]; · iexact H16
  isplitl [HW]; · iexact HW
  isplitl [HK]; · iexact HK
  isplitl [HV]; · iexact HV
  isplitl [HK1]; · iexact HK1
  isplitl [HV1]; · iexact HV1
  isplitl [HK2]; · iexact HK2
  isplitl [HV2]; · iexact HV2
  isplitl [FK]; · iexact FK
  iexact FV

theorem part46_run {v0 : BitVec 32} (hv : v0.toNat ≤ 65532)
    (hT : ∀ i : S512.Idx, BitVec.toNat (w := 32) (arg1.view.read (Elt F) fT i) < 512) (k0_hw25 : k0_chk25 v0) (v17 : BitVec 32) (k0_hw59 : k0_chk59 (wd (arg1.view.read (Elt F) fT) (NF v0) 1))
    {Q : (Σ' (v363 : Elt F .i32), k0_chk61 v363) → sProp 𝕄} :
    iprop((arg1.view.loc (c : Thread nD τ) ↦[arg1.view.set]{fullShare} fT)
      ∗ FlB c arg12 arg7 arg17 fA7 (arg1.view.read (Elt F) fT) (NF v0) 8 1
      ∗ FlB c arg13 arg8 arg18 fA8 (arg1.view.read (Elt F) fT) (NF v0) 8 1
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) (NF v0) 8 3
      ∗ FlB c arg13 arg8 arg18 fA8 (arg1.view.read (Elt F) fT) (NF v0) 8 3
      ∗ (∃ W, owes (c : Thread nD τ) 0 W)) -∗ Q ⟨wd (arg1.view.read (Elt F) fT) (NF v0) 3, h⟩)
      -∗ wp frame (wpE (defs₀ (F := F)) Variants.none (c : Thread nD τ) none) Set.univ (k0_part46 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 (wd (arg1.view.read (Elt F) fT) (NF v0) 1) k0_hw59) Q) := by
  rw [k0_part46_eq_skeleton]; unfold k0_part46_skel
  iintro ⟨HT, HK, HV, HW⟩ Hk
  iapply (wait_step c (b := (NF v0)) 1 (by decide) (off296_eq hv)) $$ [HK HW]
  · isplitl [HK] <;> iassumption
  iintro ⟨HK, HW⟩
  iapply (wait_step c (b := (NF v0)) 1 (by decide) (off301_eq hv)) $$ [HV HW]
  · isplitl [HV] <;> iassumption
  iintro ⟨HV, HW⟩
  iapply (ld_step c (NF v0) 2 (off303_eq hv) (NF_lt hv) (by decide)) $$ HT; iintro HT
  iapply (assume_step c (chk60 _ (hT (ix1 (tix (NF v0) 2)))))
  iapply (wait_step c (b := (NF v0)) 2 (by decide) (off301_eq hv)) $$ [HK HW]
  · isplitl [HK] <;> iassumption
  iintro ⟨HK, HW⟩
  iapply (wait_step c (b := (NF v0)) 2 (by decide) (off306_eq hv)) $$ [HV HW]
  · isplitl [HV] <;> iassumption
  iintro ⟨HV, HW⟩
  iapply (ld_step c (NF v0) 3 (off308_eq hv) (NF_lt hv) (by decide)) $$ HT; iintro HT
  iapply (assume_step c (chk61 _ (hT (ix1 (tix (NF v0) 3)))))
  iapply (pure_step c _)
  iapply Hk
  isplitl [HT]; · iexact HT
  isplitl [HK]; · iexact HK
  isplitl [HV]; · iexact HV
  iexact HW

theorem part47_run {v0 : BitVec 32} (hv : v0.toNat ≤ 65532)
    (hT : ∀ i : S512.Idx, BitVec.toNat (w := 32) (arg1.view.read (Elt F) fT i) < 512) (k0_hw25 : k0_chk25 v0) (v17 : BitVec 32) (k0_hw61 : k0_chk61 (wd (arg1.view.read (Elt F) fT) (NF v0) 3))
    {Q : (Σ' (v379 : Elt F .i32), k0_chk62 v379) → sProp 𝕄} :
    iprop((arg1.view.loc (c : Thread nD τ) ↦[arg1.view.set]{fullShare} fT)
      ∗ FlB c arg12 arg7 arg17 fA7 (arg1.view.read (Elt F) fT) (NF v0) 8 3
      ∗ FlB c arg13 arg8 arg18 fA8 (arg1.view.read (Elt F) fT) (NF v0) 8 3
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) (NF v0) 8 5
      ∗ FlB c arg13 arg8 arg18 fA8 (arg1.view.read (Elt F) fT) (NF v0) 8 4
      ∗ (∃ W, owes (c : Thread nD τ) 0 W)) -∗ Q ⟨wd (arg1.view.read (Elt F) fT) (NF v0) 4, h⟩)
      -∗ wp frame (wpE (defs₀ (F := F)) Variants.none (c : Thread nD τ) none) Set.univ (k0_part47 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 (wd (arg1.view.read (Elt F) fT) (NF v0) 3) k0_hw61) Q) := by
  rw [k0_part47_eq_skeleton]; unfold k0_part47_skel
  iintro ⟨HT, HK, HV, HW⟩ Hk
  iapply (wait_step c (b := (NF v0)) 3 (by decide) (off306_eq hv)) $$ [HK HW]
  · isplitl [HK] <;> iassumption
  iintro ⟨HK, HW⟩
  iapply (wait_step c (b := (NF v0)) 3 (by decide) (off311_eq hv)) $$ [HV HW]
  · isplitl [HV] <;> iassumption
  iintro ⟨HV, HW⟩
  iapply (ld_step c (NF v0) 4 (off313_eq hv) (NF_lt hv) (by decide)) $$ HT; iintro HT
  iapply (assume_step c (chk62 _ (hT (ix1 (tix (NF v0) 4)))))
  iapply (wait_step c (b := (NF v0)) 4 (by decide) (off311_eq hv)) $$ [HK HW]
  · isplitl [HK] <;> iassumption
  iintro ⟨HK, HW⟩
  iapply (pure_step c _)
  iapply Hk
  isplitl [HT]; · iexact HT
  isplitl [HK]; · iexact HK
  isplitl [HV]; · iexact HV
  iexact HW

theorem part48_run {v0 : BitVec 32} (hv : v0.toNat ≤ 65532)
    (hT : ∀ i : S512.Idx, BitVec.toNat (w := 32) (arg1.view.read (Elt F) fT i) < 512) (k0_hw25 : k0_chk25 v0) (v17 : BitVec 32) (k0_hw62 : k0_chk62 (wd (arg1.view.read (Elt F) fT) (NF v0) 4))
    {Q : (Σ' (v411 : Elt F .i32), k0_chk64 v411) → sProp 𝕄} :
    iprop((arg1.view.loc (c : Thread nD τ) ↦[arg1.view.set]{fullShare} fT)
      ∗ FlB c arg12 arg7 arg17 fA7 (arg1.view.read (Elt F) fT) (NF v0) 8 5
      ∗ FlB c arg13 arg8 arg18 fA8 (arg1.view.read (Elt F) fT) (NF v0) 8 4
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) (NF v0) 8 7
      ∗ FlB c arg13 arg8 arg18 fA8 (arg1.view.read (Elt F) fT) (NF v0) 8 6
      ∗ (∃ W, owes (c : Thread nD τ) 0 W)) -∗ Q ⟨wd (arg1.view.read (Elt F) fT) (NF v0) 6, h⟩)
      -∗ wp frame (wpE (defs₀ (F := F)) Variants.none (c : Thread nD τ) none) Set.univ (k0_part48 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 (wd (arg1.view.read (Elt F) fT) (NF v0) 4) k0_hw62) Q) := by
  rw [k0_part48_eq_skeleton]; unfold k0_part48_skel
  iintro ⟨HT, HK, HV, HW⟩ Hk
  iapply (wait_step c (b := (NF v0)) 4 (by decide) (off316_eq hv)) $$ [HV HW]
  · isplitl [HV] <;> iassumption
  iintro ⟨HV, HW⟩
  iapply (ld_step c (NF v0) 5 (off318_eq hv) (NF_lt hv) (by decide)) $$ HT; iintro HT
  iapply (assume_step c (chk63 _ (hT (ix1 (tix (NF v0) 5)))))
  iapply (wait_step c (b := (NF v0)) 5 (by decide) (off316_eq hv)) $$ [HK HW]
  · isplitl [HK] <;> iassumption
  iintro ⟨HK, HW⟩
  iapply (wait_step c (b := (NF v0)) 5 (by decide) (off321_eq hv)) $$ [HV HW]
  · isplitl [HV] <;> iassumption
  iintro ⟨HV, HW⟩
  iapply (ld_step c (NF v0) 6 (off323_eq hv) (NF_lt hv) (by decide)) $$ HT; iintro HT
  iapply (assume_step c (chk64 _ (hT (ix1 (tix (NF v0) 6)))))
  iapply (wait_step c (b := (NF v0)) 6 (by decide) (off321_eq hv)) $$ [HK HW]
  · isplitl [HK] <;> iassumption
  iintro ⟨HK, HW⟩
  iapply (pure_step c _)
  iapply Hk
  isplitl [HT]; · iexact HT
  isplitl [HK]; · iexact HK
  isplitl [HV]; · iexact HV
  iexact HW

theorem part49_run {v0 : BitVec 32} (hv : v0.toNat ≤ 65532)
    (hT : ∀ i : S512.Idx, BitVec.toNat (w := 32) (arg1.view.read (Elt F) fT i) < 512)
    (k0_hw25 : k0_chk25 v0) (v17' : BitVec 32) (k0_hw64 : k0_chk64 (wd (arg1.view.read (Elt F) fT) (NF v0) 6))
    {Q : (Σ' (v440 : BitVec 32), FVec F S1024x256 .fp8e4m3) → sProp 𝕄} :
    iprop((arg1.view.loc (c : Thread nD τ) ↦[arg1.view.set]{fullShare} fT)
      ∗ FlB c arg12 arg7 arg17 fA7 (arg1.view.read (Elt F) fT) (NF v0) 8 7
      ∗ FlB c arg13 arg8 arg18 fA8 (arg1.view.read (Elt F) fT) (NF v0) 8 6
      ∗ (∃ W, owes (c : Thread nD τ) 0 W))
      ⊢ iprop((∀ r, iprop((arg1.view.loc (c : Thread nD τ) ↦[arg1.view.set]{fullShare} fT)
      ∗ Landed c arg12 arg7 arg17 fA7 tk (sl (NF v0)) (pgs (arg1.view.read (Elt F) fT) (NF v0))
      ∗ Landed c arg13 arg8 arg18 fA8 tk (sl (NF v0)) (pgs (arg1.view.read (Elt F) fT) (NF v0))
      ∗ (∃ W, owes (c : Thread nD τ) 0 W)) -∗ Q ⟨r, k0_pay80 (kv (arg7.view.read (Elt F) fA7) (arg1.view.read (Elt F) fT) (NF v0) 0)⟩)
      -∗ wp frame (wpE (defs₀ (F := F)) Variants.none (c : Thread nD τ) none) Set.univ (k0_part49 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17' (wd (arg1.view.read (Elt F) fT) (NF v0) 6) k0_hw64) Q) := by
  rw [k0_part49_eq_skeleton]; unfold k0_part49_skel
  iintro ⟨HT, HK, HV, HW⟩ Hk
  iapply (wait_step c (b := (NF v0)) 6 (by decide) (off326_eq hv)) $$ [HV HW]
  · isplitl [HV] <;> iassumption
  iintro ⟨HV, HW⟩
  iapply (ld_step c (NF v0) 7 (off328_eq hv) (NF_lt hv) (by decide)) $$ HT; iintro HT
  iapply (assume_step c (chk65 _ (hT (ix1 (tix (NF v0) 7)))))
  iapply (wait_step c (b := (NF v0)) 7 (by decide) (off326_eq hv)) $$ [HK HW]
  · isplitl [HK] <;> iassumption
  iintro ⟨HK, HW⟩
  iapply (wait_step c (b := (NF v0)) 7 (by decide) (off331_eq hv)) $$ [HV HW]
  · isplitl [HV] <;> iassumption
  iintro ⟨HV, HW⟩
  imod (fl_close c arg12 arg7 arg17 fA7 tk (sl (NF v0)) (pgs (arg1.view.read (Elt F) fT) (NF v0))) $$ HK with HK
  imod (fl_close c arg13 arg8 arg18 fA8 tk (sl (NF v0)) (pgs (arg1.view.read (Elt F) fT) (NF v0))) $$ HV with HV
  iapply (load_slot c 0 (off333_eq hv)) $$ HK; iintro HK
  iapply (pure_step c _)
  iapply Hk
  isplitl [HT]; · iexact HT
  isplitl [HK]; · iexact HK
  isplitl [HV]; · iexact HV
  iexact HW

end

end Cert.KernelIdeal.Hand
-- ==== Proof.Ideal.Starts.lean ====
/-
  The copies of the first three blocks, part by part: from a slot just opened to its eight copies issued.
-/
module

public import proofs.«01_k».proof.Proof.Ideal.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part1_run {v0 : BitVec 32} (hv : v0.toNat ≤ 65532)
    (hT : ∀ i : S512.Idx, BitVec.toNat (w := 32) (arg1.view.read (Elt F) fT i) < 512) (c0_i32_5 : BitVec 32) (k0_h1 : k0_cond1 v0 = 1#1)
    {Q : (Σ' (v639 : Elt F .i32), k0_chk2 v0 v639) → sProp 𝕄} :
    iprop((arg1.view.loc (c : Thread nD τ) ↦[arg1.view.set]{fullShare} fT)
      ∗ FlB c arg12 arg7 arg17 fA7 (arg1.view.read (Elt F) fT) 0 0 0
      ∗ FlB c arg13 arg8 arg18 fA8 (arg1.view.read (Elt F) fT) 0 0 0)
      ⊢ iprop((∀ h, iprop((arg1.view.loc (c : Thread nD τ) ↦[arg1.view.set]{fullShare} fT)
      ∗ FlB c arg12 arg7 arg17 fA7 (arg1.view.read (Elt F) fT) 0 2 0
      ∗ FlB c arg13 arg8 arg18 fA8 (arg1.view.read (Elt F) fT) 0 1 0) -∗ Q ⟨wd (arg1.view.read (Elt F) fT) 0 1, h⟩)
      -∗ wp frame (wpE (defs₀ (F := F)) Variants.none (c : Thread nD τ) none) Set.univ (k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c0_i32_5 k0_h1) Q) := by
  rw [k0_part1_eq_skeleton]; unfold k0_part1_skel
  iintro ⟨HT, HK, HV⟩ Hk
  iapply (ld_step c 0 0 off1_eq (by decide) (by decide)) $$ HT; iintro HT
  iapply (assume_step c (chk1 _ _ (hT (ix1 (tix 0 0)))))
  iapply (start_step c (b := 0) hT 0 (by decide) (off4_eq _) off3_eq off2_eq (Nat.zero_le _)) $$ HK; iintro HK
  iapply (start_step c (b := 0) hT 0 (by decide) (off4_eq _) off6_eq off5_eq (Nat.zero_le _)) $$ HV; iintro HV
  iapply (ld_step c 0 1 off7_eq (by decide) (by decide)) $$ HT; iintro HT
  iapply (assume_step c (chk2 _ _ (hT (ix1 (tix 0 1)))))
  iapply (start_step c (b := 0) hT 1 (by decide) (off9_eq _) off8_eq off5_eq (Nat.zero_le _)) $$ HK; iintro HK
  iapply (pure_step c _)
  iapply Hk
  isplitl [HT]; · iexact HT
  isplitl [HK]; · iexact HK
  iexact HV

theorem part2_run {v0 : BitVec 32} (hv : v0.toNat ≤ 65532)
    (hT : ∀ i : S512.Idx, BitVec.toNat (w := 32) (arg1.view.read (Elt F) fT i) < 512) (c0_i32_5 : BitVec 32) (k0_h1 : k0_cond1 v0 = 1#1) (k0_hw2 : k0_chk2 v0 (wd (arg1.view.read (Elt F) fT) 0 1))
    {Q : (Σ' (v671 : Elt F .i32), k0_chk4 v0 v671) → sProp 𝕄} :
    iprop((arg1.view.loc (c : Thread nD τ) ↦[arg1.view.set]{fullShare} fT)
      ∗ FlB c arg12 arg7 arg17 fA7 (arg1.view.read (Elt F) fT) 0 2 0
      ∗ FlB c arg13 arg8 arg18 fA8 (arg1.view.read (Elt F) fT) 0 1 0)
      ⊢ iprop((∀ h, iprop((arg1.view.loc (c : Thread nD τ) ↦[arg1.view.set]{fullShare} fT)
      ∗ FlB c arg12 arg7 arg17 fA7 (arg1.view.read (Elt F) fT) 0 3 0
      ∗ FlB c arg13 arg8 arg18 fA8 (arg1.view.read (Elt F) fT) 0 3 0) -∗ Q ⟨wd (arg1.view.read (Elt F) fT) 0 3, h⟩)
      -∗ wp frame (wpE (defs₀ (F := F)) Variants.none (c : Thread nD τ) none) Set.univ (k0_part2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c0_i32_5 k0_h1 (wd (arg1.view.read (Elt F) fT) 0 1) k0_hw2) Q) := by
  rw [k0_part2_eq_skeleton]; unfold k0_part2_skel
  iintro ⟨HT, HK, HV⟩ Hk
  iapply (start_step c (b := 0) hT 1 (by decide) (off9_eq _) off11_eq off10_eq (Nat.zero_le _)) $$ HV; iintro HV
  iapply (ld_step c 0 2 off12_eq (by decide) (by decide)) $$ HT; iintro HT
  iapply (assume_step c (chk3 _ _ (hT (ix1 (tix 0 2)))))
  iapply (start_step c (b := 0) hT 2 (by decide) (off14_eq _) off13_eq off10_eq (Nat.zero_le _)) $$ HK; iintro HK
  iapply (start_step c (b := 0) hT 2 (by decide) (off14_eq _) off16_eq off15_eq (Nat.zero_le _)) $$ HV; iintro HV
  iapply (ld_step c 0 3 off17_eq (by decide) (by decide)) $$ HT; iintro HT
  iapply (assume_step c (chk4 _ _ (hT (ix1 (tix 0 3)))))
  iapply (pure_step c _)
  iapply Hk
  isplitl [HT]; · iexact HT
  isplitl [HK]; · iexact HK
  iexact HV

theorem part3_run {v0 : BitVec 32} (hv : v0.toNat ≤ 65532)
    (hT : ∀ i : S512.Idx, BitVec.toNat (w := 32) (arg1.view.read (Elt F) fT i) < 512) (c0_i32_5 : BitVec 32) (k0_h1 : k0_cond1 v0 = 1#1) (k0_hw4 : k0_chk4 v0 (wd (arg1.view.read (Elt F) fT) 0 3))
    {Q : (Σ' (v700 : BitVec 32), BitVec 32) → sProp 𝕄} :
    iprop((arg1.view.loc (c : Thread nD τ) ↦[arg1.view.set]{fullShare} fT)
      ∗ FlB c arg12 arg7 arg17 fA7 (arg1.view.read (Elt F) fT) 0 3 0
      ∗ FlB c arg13 arg8 arg18 fA8 (arg1.view.read (Elt F) fT) 0 3 0)
      ⊢ iprop((∀ r, iprop((arg1.view.loc (c : Thread nD τ) ↦[arg1.view.set]{fullShare} fT)
      ∗ FlB c arg12 arg7 arg17 fA7 (arg1.view.read (Elt F) fT) 0 5 0
      ∗ FlB c arg13 arg8 arg18 fA8 (arg1.view.read (Elt F) fT) 0 5 0) -∗ Q r)
      -∗ wp frame (wpE (defs₀ (F := F)) Variants.none (c : Thread nD τ) none) Set.univ (k0_part3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c0_i32_5 k0_h1 (wd (arg1.view.read (Elt F) fT) 0 3) k0_hw4) Q) := by
  rw [k0_part3_eq_skeleton]; unfold k0_part3_skel
  iintro ⟨HT, HK, HV⟩ Hk
  iapply (start_step c (b := 0) hT 3 (by decide) (off19_eq _) off18_eq off15_eq (Nat.zero_le _)) $$ HK; iintro HK
  iapply (start_step c (b := 0) hT 3 (by decide) (off19_eq _) off21_eq off20_eq (Nat.zero_le _)) $$ HV; iintro HV
  iapply (ld_step c 0 4 off22_eq (by decide) (by decide)) $$ HT; iintro HT
  iapply (assume_step c (chk5 _ _ (hT (ix1 (tix 0 4)))))
  iapply (start_step c (b := 0) hT 4 (by decide) (off24_eq _) off23_eq off20_eq (Nat.zero_le _)) $$ HK; iintro HK
  iapply (start_step c (b := 0) hT 4 (by decide) (off24_eq _) off26_eq off25_eq (Nat.zero_le _)) $$ HV; iintro HV
  iapply (pure_step c _)
  iapply Hk
  isplitl [HT]; · iexact HT
  isplitl [HK]; · iexact HK
  iexact HV

theorem part4_run {v0 : BitVec 32} (hv : v0.toNat ≤ 65532)
    (hT : ∀ i : S512.Idx, BitVec.toNat (w := 32) (arg1.view.read (Elt F) fT i) < 512) (c0_i32_5 : BitVec 32) (k0_h1 : k0_cond1 v0 = 1#1) (v700 : BitVec 32) (c5_i32_462 : BitVec 32)
    {Q : (Σ' (v719 : Elt F .i32), k0_chk7 v0 v719) → sProp 𝕄} :
    iprop((arg1.view.loc (c : Thread nD τ) ↦[arg1.view.set]{fullShare} fT)
      ∗ FlB c arg12 arg7 arg17 fA7 (arg1.view.read (Elt F) fT) 0 5 0
      ∗ FlB c arg13 arg8 arg18 fA8 (arg1.view.read (Elt F) fT) 0 5 0)
      ⊢ iprop((∀ h, iprop((arg1.view.loc (c : Thread nD τ) ↦[arg1.view.set]{fullShare} fT)
      ∗ FlB c arg12 arg7 arg17 fA7 (arg1.view.read (Elt F) fT) 0 7 0
      ∗ FlB c arg13 arg8 arg18 fA8 (arg1.view.read (Elt F) fT) 0 6 0) -∗ Q ⟨wd (arg1.view.read (Elt F) fT) 0 6, h⟩)
      -∗ wp frame (wpE (defs₀ (F := F)) Variants.none (c : Thread nD τ) none) Set.univ (k0_part4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c0_i32_5 k0_h1 v700 c5_i32_462) Q) := by
  rw [k0_part4_eq_skeleton]; unfold k0_part4_skel
  iintro ⟨HT, HK, HV⟩ Hk
  iapply (ld_step c 0 5 off27_eq (by decide) (by decide)) $$ HT; iintro HT
  iapply (assume_step c (chk6 _ _ (hT (ix1 (tix 0 5)))))
  iapply (start_step c (b := 0) hT 5 (by decide) (off29_eq _) off28_eq off25_eq (Nat.zero_le _)) $$ HK; iintro HK
  iapply (start_step c (b := 0) hT 5 (by decide) (off29_eq _) off31_eq off30_eq (Nat.zero_le _)) $$ HV; iintro HV
  iapply (ld_step c 0 6 off32_eq (by decide) (by decide)) $$ HT; iintro HT
  iapply (assume_step c (chk7 _ _ (hT (ix1 (tix 0 6)))))
  iapply (start_step c (b := 0) hT 6 (by decide) (off34_eq _) off33_eq off30_eq (Nat.zero_le _)) $$ HK; iintro HK
  iapply (pure_step c _)
  iapply Hk
  isplitl [HT]; · iexact HT
  isplitl [HK]; · iexact HK
  iexact HV

theorem part5_run {v0 : BitVec 32} (hv : v0.toNat ≤ 65532)
    (hT : ∀ i : S512.Idx, BitVec.toNat (w := 32) (arg1.view.read (Elt F) fT i) < 512) (c1_i32_8 : BitVec 32) (k0_h2 : k0_cond2 v0 = 1#1)
    {Q : (Σ' (v639 : Elt F .i32), k0_chk10 v0 v639) → sProp 𝕄} :
    iprop((arg1.view.loc (c : Thread nD τ) ↦[arg1.view.set]{fullShare} fT)
      ∗ FlB c arg12 arg7 arg17 fA7 (arg1.view.read (Elt F) fT) 1 0 0
      ∗ FlB c arg13 arg8 arg18 fA8 (arg1.view.read (Elt F) fT) 1 0 0)
      ⊢ iprop((∀ h, iprop((arg1.view.loc (c : Thread nD τ) ↦[arg1.view.set]{fullShare} fT)
      ∗ FlB c arg12 arg7 arg17 fA7 (arg1.view.read (Elt F) fT) 1 2 0
      ∗ FlB c arg13 arg8 arg18 fA8 (arg1.view.read (Elt F) fT) 1 1 0) -∗ Q ⟨wd (arg1.view.read (Elt F) fT) 1 1, h⟩)
      -∗ wp frame (wpE (defs₀ (F := F)) Variants.none (c : Thread nD τ) none) Set.univ (k0_part5 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c1_i32_8 k0_h2) Q) := by
  rw [k0_part5_eq_skeleton]; unfold k0_part5_skel
  iintro ⟨HT, HK, HV⟩ Hk
  iapply (ld_step c 1 0 off42_eq (by decide) (by decide)) $$ HT; iintro HT
  iapply (assume_step c (chk9 _ _ (hT (ix1 (tix 1 0)))))
  iapply (start_step c (b := 1) hT 0 (by decide) (off45_eq _) off44_eq off43_eq (Nat.zero_le _)) $$ HK; iintro HK
  iapply (start_step c (b := 1) hT 0 (by decide) (off45_eq _) off47_eq off46_eq (Nat.zero_le _)) $$ HV; iintro HV
  iapply (ld_step c 1 1 off48_eq (by decide) (by decide)) $$ HT; iintro HT
  iapply (assume_step c (chk10 _ _ (hT (ix1 (tix 1 1)))))
  iapply (start_step c (b := 1) hT 1 (by decide) (off50_eq _) off49_eq off46_eq (Nat.zero_le _)) $$ HK; iintro HK
  iapply (pure_step c _)
  iapply Hk
  isplitl [HT]; · iexact HT
  isplitl [HK]; · iexact HK
  iexact HV

theorem part6_run {v0 : BitVec 32} (hv : v0.toNat ≤ 65532)
    (hT : ∀ i : S512.Idx, BitVec.toNat (w := 32) (arg1.view.read (Elt F) fT i) < 512) (c1_i32_8 : BitVec 32) (k0_h2 : k0_cond2 v0 = 1#1) (k0_hw10 : k0_chk10 v0 (wd (arg1.view.read (Elt F) fT) 1 1))
    {Q : (Σ' (v671 : Elt F .i32), k0_chk12 v0 v671) → sProp 𝕄} :
    iprop((arg1.view.loc (c : Thread nD τ) ↦[arg1.view.set]{fullShare} fT)
      ∗ FlB c arg12 arg7 arg17 fA7 (arg1.view.read (Elt F) fT) 1 2 0
      ∗ FlB c arg13 arg8 arg18 fA8 (arg1.view.read (Elt F) fT) 1 1 0)
      ⊢ iprop((∀ h, iprop((arg1.view.loc (c : Thread nD τ) ↦[arg1.view.set]{fullShare} fT)
      ∗ FlB c arg12 arg7 arg17 fA7 (arg1.view.read (Elt F) fT) 1 3 0
      ∗ FlB c arg13 arg8 arg18 fA8 (arg1.view.read (Elt F) fT) 1 3 0) -∗ Q ⟨wd (arg1.view.read (Elt F) fT) 1 3, h⟩)
      -∗ wp frame (wpE (defs₀ (F := F)) Variants.none (c : Thread nD τ) none) Set.univ (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c1_i32_8 k0_h2 (wd (arg1.view.read (Elt F) fT) 1 1) k0_hw10) Q) := by
  rw [k0_part6_eq_skeleton]; unfold k0_part6_skel
  iintro ⟨HT, HK, HV⟩ Hk
  iapply (start_step c (b := 1) hT 1 (by decide) (off50_eq _) off52_eq off51_eq (Nat.zero_le _)) $$ HV; iintro HV
  iapply (ld_step c 1 2 off53_eq (by decide) (by decide)) $$ HT; iintro HT
  iapply (assume_step c (chk11 _ _ (hT (ix1 (tix 1 2)))))
  iapply (start_step c (b := 1) hT 2 (by decide) (off55_eq _) off54_eq off51_eq (Nat.zero_le _)) $$ HK; iintro HK
  iapply (start_step c (b := 1) hT 2 (by decide) (off55_eq _) off57_eq off56_eq (Nat.zero_le _)) $$ HV; iintro HV
  iapply (ld_step c 1 3 off58_eq (by decide) (by decide)) $$ HT; iintro HT
  iapply (assume_step c (chk12 _ _ (hT (ix1 (tix 1 3)))))
  iapply (pure_step c _)
  iapply Hk
  isplitl [HT]; · iexact HT
  isplitl [HK]; · iexact HK
  iexact HV

theorem part7_run {v0 : BitVec 32} (hv : v0.toNat ≤ 65532)
    (hT : ∀ i : S512.Idx, BitVec.toNat (w := 32) (arg1.view.read (Elt F) fT i) < 512) (c1_i32_8 : BitVec 32) (k0_h2 : k0_cond2 v0 = 1#1) (k0_hw12 : k0_chk12 v0 (wd (arg1.view.read (Elt F) fT) 1 3))
    {Q : (Σ' (v700 : BitVec 32), BitVec 32) → sProp 𝕄} :
    iprop((arg1.view.loc (c : Thread nD τ) ↦[arg1.view.set]{fullShare} fT)
      ∗ FlB c arg12 arg7 arg17 fA7 (arg1.view.read (Elt F) fT) 1 3 0
      ∗ FlB c arg13 arg8 arg18 fA8 (arg1.view.read (Elt F) fT) 1 3 0)
      ⊢ iprop((∀ r, iprop((arg1.view.loc (c : Thread nD τ) ↦[arg1.view.set]{fullShare} fT)
      ∗ FlB c arg12 arg7 arg17 fA7 (arg1.view.read (Elt F) fT) 1 5 0
      ∗ FlB c arg13 arg8 arg18 fA8 (arg1.view.read (Elt F) fT) 1 5 0) -∗ Q r)
      -∗ wp frame (wpE (defs₀ (F := F)) Variants.none (c : Thread nD τ) none) Set.univ (k0_part7 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c1_i32_8 k0_h2 (wd (arg1.view.read (Elt F) fT) 1 3) k0_hw12) Q) := by
  rw [k0_part7_eq_skeleton]; unfold k0_part7_skel
  iintro ⟨HT, HK, HV⟩ Hk
  iapply (start_step c (b := 1) hT 3 (by decide) (off60_eq _) off59_eq off56_eq (Nat.zero_le _)) $$ HK; iintro HK
  iapply (start_step c (b := 1) hT 3 (by decide) (off60_eq _) off62_eq off61_eq (Nat.zero_le _)) $$ HV; iintro HV
  iapply (ld_step c 1 4 off63_eq (by decide) (by decide)) $$ HT; iintro HT
  iapply (assume_step c (chk13 _ _ (hT (ix1 (tix 1 4)))))
  iapply (start_step c (b := 1) hT 4 (by decide) (off65_eq _) off64_eq off61_eq (Nat.zero_le _)) $$ HK; iintro HK
  iapply (start_step c (b := 1) hT 4 (by decide) (off65_eq _) off67_eq off66_eq (Nat.zero_le _)) $$ HV; iintro HV
  iapply (pure_step c _)
  iapply Hk
  isplitl [HT]; · iexact HT
  isplitl [HK]; · iexact HK
  iexact HV

theorem part8_run {v0 : BitVec 32} (hv : v0.toNat ≤ 65532)
    (hT : ∀ i : S512.Idx, BitVec.toNat (w := 32) (arg1.view.read (Elt F) fT i) < 512) (c1_i32_8 : BitVec 32) (k0_h2 : k0_cond2 v0 = 1#1) (v700 : BitVec 32) (c5_i32_462 : BitVec 32)
    {Q : (Σ' (v719 : Elt F .i32), k0_chk15 v0 v719) → sProp 𝕄} :
    iprop((arg1.view.loc (c : Thread nD τ) ↦[arg1.view.set]{fullShare} fT)
      ∗ FlB c arg12 arg7 arg17 fA7 (arg1.view.read (Elt F) fT) 1 5 0
      ∗ FlB c arg13 arg8 arg18 fA8 (arg1.view.read (Elt F) fT) 1 5 0)
      ⊢ iprop((∀ h, iprop((arg1.view.loc (c : Thread nD τ) ↦[arg1.view.set]{fullShare} fT)
      ∗ FlB c arg12 arg7 arg17 fA7 (arg1.view.read (Elt F) fT) 1 7 0
      ∗ FlB c arg13 arg8 arg18 fA8 (arg1.view.read (Elt F) fT) 1 6 0) -∗ Q ⟨wd (arg1.view.read (Elt F) fT) 1 6, h⟩)
      -∗ wp frame (wpE (defs₀ (F := F)) Variants.none (c : Thread nD τ) none) Set.univ (k0_part8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c1_i32_8 k0_h2 v700 c5_i32_462) Q) := by
  rw [k0_part8_eq_skeleton]; unfold k0_part8_skel
  iintro ⟨HT, HK, HV⟩ Hk
  iapply (ld_step c 1 5 off68_eq (by decide) (by decide)) $$ HT; iintro HT
  iapply (assume_step c (chk14 _ _ (hT (ix1 (tix 1 5)))))
  iapply (start_step c (b := 1) hT 5 (by decide) (off70_eq _) off69_eq off66_eq (Nat.zero_le _)) $$ HK; iintro HK
  iapply (start_step c (b := 1) hT 5 (by decide) (off70_eq _) off72_eq off71_eq (Nat.zero_le _)) $$ HV; iintro HV
  iapply (ld_step c 1 6 off73_eq (by decide) (by decide)) $$ HT; iintro HT
  iapply (assume_step c (chk15 _ _ (hT (ix1 (tix 1 6)))))
  iapply (start_step c (b := 1) hT 6 (by decide) (off75_eq _) off74_eq off71_eq (Nat.zero_le _)) $$ HK; iintro HK
  iapply (pure_step c _)
  iapply Hk
  isplitl [HT]; · iexact HT
  isplitl [HK]; · iexact HK
  iexact HV

theorem part9_run {v0 : BitVec 32} (hv : v0.toNat ≤ 65532)
    (hT : ∀ i : S512.Idx, BitVec.toNat (w := 32) (arg1.view.read (Elt F) fT i) < 512) (c2_i32_10 : BitVec 32) (k0_h3 : k0_cond3 v0 = 1#1)
    {Q : (Σ' (v639 : Elt F .i32), k0_chk18 v0 v639) → sProp 𝕄} :
    iprop((arg1.view.loc (c : Thread nD τ) ↦[arg1.view.set]{fullShare} fT)
      ∗ FlB c arg12 arg7 arg17 fA7 (arg1.view.read (Elt F) fT) 2 0 0
      ∗ FlB c arg13 arg8 arg18 fA8 (arg1.view.read (Elt F) fT) 2 0 0)
      ⊢ iprop((∀ h, iprop((arg1.view.loc (c : Thread nD τ) ↦[arg1.view.set]{fullShare} fT)
      ∗ FlB c arg12 arg7 arg17 fA7 (arg1.view.read (Elt F) fT) 2 2 0
      ∗ FlB c arg13 arg8 arg18 fA8 (arg1.view.read (Elt F) fT) 2 1 0) -∗ Q ⟨wd (arg1.view.read (Elt F) fT) 2 1, h⟩)
      -∗ wp frame (wpE (defs₀ (F := F)) Variants.none (c : Thread nD τ) none) Set.univ (k0_part9 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c2_i32_10 k0_h3) Q) := by
  rw [k0_part9_eq_skeleton]; unfold k0_part9_skel
  iintro ⟨HT, HK, HV⟩ Hk
  iapply (ld_step c 2 0 off83_eq (by decide) (by decide)) $$ HT; iintro HT
  iapply (assume_step c (chk17 _ _ (hT (ix1 (tix 2 0)))))
  iapply (start_step c (b := 2) hT 0 (by decide) (off86_eq _) off85_eq off84_eq (Nat.zero_le _)) $$ HK; iintro HK
  iapply (start_step c (b := 2) hT 0 (by decide) (off86_eq _) off88_eq off87_eq (Nat.zero_le _)) $$ HV; iintro HV
  iapply (ld_step c 2 1 off89_eq (by decide) (by decide)) $$ HT; iintro HT
  iapply (assume_step c (chk18 _ _ (hT (ix1 (tix 2 1)))))
  iapply (start_step c (b := 2) hT 1 (by decide) (off91_eq _) off90_eq off87_eq (Nat.zero_le _)) $$ HK; iintro HK
  iapply (pure_step c _)
  iapply Hk
  isplitl [HT]; · iexact HT
  isplitl [HK]; · iexact HK
  iexact HV

theorem part10_run {v0 : BitVec 32} (hv : v0.toNat ≤ 65532)
    (hT : ∀ i : S512.Idx, BitVec.toNat (w := 32) (arg1.view.read (Elt F) fT i) < 512) (c2_i32_10 : BitVec 32) (k0_h3 : k0_cond3 v0 = 1#1) (k0_hw18 : k0_chk18 v0 (wd (arg1.view.read (Elt F) fT) 2 1))
    {Q : (Σ' (v671 : Elt F .i32), k0_chk20 v0 v671) → sProp 𝕄} :
    iprop((arg1.view.loc (c : Thread nD τ) ↦[arg1.view.set]{fullShare} fT)
      ∗ FlB c arg12 arg7 arg17 fA7 (arg1.view.read (Elt F) fT) 2 2 0
      ∗ FlB c arg13 arg8 arg18 fA8 (arg1.view.read (Elt F) fT) 2 1 0)
      ⊢ iprop((∀ h, iprop((arg1.view.loc (c : Thread nD τ) ↦[arg1.view.set]{fullShare} fT)
      ∗ FlB c arg12 arg7 arg17 fA7 (arg1.view.read (Elt F) fT) 2 3 0
      ∗ FlB c arg13 arg8 arg18 fA8 (arg1.view.read (Elt F) fT) 2 3 0) -∗ Q ⟨wd (arg1.view.read (Elt F) fT) 2 3, h⟩)
      -∗ wp frame (wpE (defs₀ (F := F)) Variants.none (c : Thread nD τ) none) Set.univ (k0_part10 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c2_i32_10 k0_h3 (wd (arg1.view.read (Elt F) fT) 2 1) k0_hw18) Q) := by
  rw [k0_part10_eq_skeleton]; unfold k0_part10_skel
  iintro ⟨HT, HK, HV⟩ Hk
  iapply (start_step c (b := 2) hT 1 (by decide) (off91_eq _) off93_eq off92_eq (Nat.zero_le _)) $$ HV; iintro HV
  iapply (ld_step c 2 2 off94_eq (by decide) (by decide)) $$ HT; iintro HT
  iapply (assume_step c (chk19 _ _ (hT (ix1 (tix 2 2)))))
  iapply (start_step c (b := 2) hT 2 (by decide) (off96_eq _) off95_eq off92_eq (Nat.zero_le _)) $$ HK; iintro HK
  iapply (start_step c (b := 2) hT 2 (by decide) (off96_eq _) off98_eq off97_eq (Nat.zero_le _)) $$ HV; iintro HV
  iapply (ld_step c 2 3 off99_eq (by decide) (by decide)) $$ HT; iintro HT
  iapply (assume_step c (chk20 _ _ (hT (ix1 (tix 2 3)))))
  iapply (pure_step c _)
  iapply Hk
  isplitl [HT]; · iexact HT
  isplitl [HK]; · iexact HK
  iexact HV

theorem part11_run {v0 : BitVec 32} (hv : v0.toNat ≤ 65532)
    (hT : ∀ i : S512.Idx, BitVec.toNat (w := 32) (arg1.view.read (Elt F) fT i) < 512) (c2_i32_10 : BitVec 32) (k0_h3 : k0_cond3 v0 = 1#1) (k0_hw20 : k0_chk20 v0 (wd (arg1.view.read (Elt F) fT) 2 3))
    {Q : (Σ' (v700 : BitVec 32), BitVec 32) → sProp 𝕄} :
    iprop((arg1.view.loc (c : Thread nD τ) ↦[arg1.view.set]{fullShare} fT)
      ∗ FlB c arg12 arg7 arg17 fA7 (arg1.view.read (Elt F) fT) 2 3 0
      ∗ FlB c arg13 arg8 arg18 fA8 (arg1.view.read (Elt F) fT) 2 3 0)
      ⊢ iprop((∀ r, iprop((arg1.view.loc (c : Thread nD τ) ↦[arg1.view.set]{fullShare} fT)
      ∗ FlB c arg12 arg7 arg17 fA7 (arg1.view.read (Elt F) fT) 2 5 0
      ∗ FlB c arg13 arg8 arg18 fA8 (arg1.view.read (Elt F) fT) 2 5 0) -∗ Q r)
      -∗ wp frame (wpE (defs₀ (F := F)) Variants.none (c : Thread nD τ) none) Set.univ (k0_part11 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c2_i32_10 k0_h3 (wd (arg1.view.read (Elt F) fT) 2 3) k0_hw20) Q) := by
  rw [k0_part11_eq_skeleton]; unfold k0_part11_skel
  iintro ⟨HT, HK, HV⟩ Hk
  iapply (start_step c (b := 2) hT 3 (by decide) (off101_eq _) off100_eq off97_eq (Nat.zero_le _)) $$ HK; iintro HK
  iapply (start_step c (b := 2) hT 3 (by decide) (off101_eq _) off103_eq off102_eq (Nat.zero_le _)) $$ HV; iintro HV
  iapply (ld_step c 2 4 off104_eq (by decide) (by decide)) $$ HT; iintro HT
  iapply (assume_step c (chk21 _ _ (hT (ix1 (tix 2 4)))))
  iapply (start_step c (b := 2) hT 4 (by decide) (off106_eq _) off105_eq off102_eq (Nat.zero_le _)) $$ HK; iintro HK
  iapply (start_step c (b := 2) hT 4 (by decide) (off106_eq _) off108_eq off107_eq (Nat.zero_le _)) $$ HV; iintro HV
  iapply (pure_step c _)
  iapply Hk
  isplitl [HT]; · iexact HT
  isplitl [HK]; · iexact HK
  iexact HV

theorem part12_run {v0 : BitVec 32} (hv : v0.toNat ≤ 65532)
    (hT : ∀ i : S512.Idx, BitVec.toNat (w := 32) (arg1.view.read (Elt F) fT i) < 512) (c2_i32_10 : BitVec 32) (k0_h3 : k0_cond3 v0 = 1#1) (v700 : BitVec 32) (c5_i32_462 : BitVec 32)
    {Q : (Σ' (v719 : Elt F .i32), k0_chk23 v0 v719) → sProp 𝕄} :
    iprop((arg1.view.loc (c : Thread nD τ) ↦[arg1.view.set]{fullShare} fT)
      ∗ FlB c arg12 arg7 arg17 fA7 (arg1.view.read (Elt F) fT) 2 5 0
      ∗ FlB c arg13 arg8 arg18 fA8 (arg1.view.read (Elt F) fT) 2 5 0)
      ⊢ iprop((∀ h, iprop((arg1.view.loc (c : Thread nD τ) ↦[arg1.view.set]{fullShare} fT)
      ∗ FlB c arg12 arg7 arg17 fA7 (arg1.view.read (Elt F) fT) 2 7 0
      ∗ FlB c arg13 arg8 arg18 fA8 (arg1.view.read (Elt F) fT) 2 6 0) -∗ Q ⟨wd (arg1.view.read (Elt F) fT) 2 6, h⟩)
      -∗ wp frame (wpE (defs₀ (F := F)) Variants.none (c : Thread nD τ) none) Set.univ (k0_part12 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c2_i32_10 k0_h3 v700 c5_i32_462) Q) := by
  rw [k0_part12_eq_skeleton]; unfold k0_part12_skel
  iintro ⟨HT, HK, HV⟩ Hk
  iapply (ld_step c 2 5 off109_eq (by decide) (by decide)) $$ HT; iintro HT
  iapply (assume_step c (chk22 _ _ (hT (ix1 (tix 2 5)))))
  iapply (start_step c (b := 2) hT 5 (by decide) (off111_eq _) off110_eq off107_eq (Nat.zero_le _)) $$ HK; iintro HK
  iapply (start_step c (b := 2) hT 5 (by decide) (off111_eq _) off113_eq off112_eq (Nat.zero_le _)) $$ HV; iintro HV
  iapply (ld_step c 2 6 off114_eq (by decide) (by decide)) $$ HT; iintro HT
  iapply (assume_step c (chk23 _ _ (hT (ix1 (tix 2 6)))))
  iapply (start_step c (b := 2) hT 6 (by decide) (off116_eq _) off115_eq off112_eq (Nat.zero_le _)) $$ HK; iintro HK
  iapply (pure_step c _)
  iapply Hk
  isplitl [HT]; · iexact HT
  isplitl [HK]; · iexact HK
  iexact HV

end

end Cert.KernelIdeal.Hand
-- ==== Proof.Ideal.Body.lean ====
/-
  The first starts, and the whole body.
-/
module

public import proofs.«01_k».proof.Proof.Ideal.Tail
public import proofs.«01_k».proof.Proof.Ideal.Starts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part37_run {g0 : S1.Idx → BitVec 32} (hv : (g0 (ix1 0)).toNat ≤ 65532)
    (hT : ∀ i : S512.Idx, BitVec.toNat (w := 32) (arg1.view.read (Elt F) fT i) < 512)
    {Q : (Σ' (v0 : Elt F .i32) (k0_hw25 : k0_chk25 v0) (v17 : BitVec 32) (v29 : BitVec 32) (v31 : IVec S8x1 32) (v33 : IVec S8x1 1), BitVec 32) → sProp 𝕄} :
    iprop(Own c arg0 g0
      ∗ (arg1.view.loc (c : Thread nD τ) ↦[arg1.view.set]{fullShare} fT)
      ∗ Free c arg12 arg7 arg17 fA7 tk (sl 0)
      ∗ Free c arg13 arg8 arg18 fA8 tk (sl 0)
      ∗ Free c arg12 arg7 arg17 fA7 tk (sl 1)
      ∗ Free c arg13 arg8 arg18 fA8 tk (sl 1)
      ∗ Free c arg12 arg7 arg17 fA7 tk (sl 2)
      ∗ Free c arg13 arg8 arg18 fA8 tk (sl 2))
      ⊢ iprop((∀ h, iprop(Own c arg0 g0
      ∗ (arg1.view.loc (c : Thread nD τ) ↦[arg1.view.set]{fullShare} fT)
      ∗ Pd c arg12 arg7 arg17 fA7 (arg1.view.read (Elt F) fT) (NF (g0 (ix1 0))) 0
      ∗ Pd c arg13 arg8 arg18 fA8 (arg1.view.read (Elt F) fT) (NF (g0 (ix1 0))) 0
      ∗ Pd c arg12 arg7 arg17 fA7 (arg1.view.read (Elt F) fT) (NF (g0 (ix1 0))) 1
      ∗ Pd c arg13 arg8 arg18 fA8 (arg1.view.read (Elt F) fT) (NF (g0 (ix1 0))) 1
      ∗ Pd c arg12 arg7 arg17 fA7 (arg1.view.read (Elt F) fT) (NF (g0 (ix1 0))) 2
      ∗ Pd c arg13 arg8 arg18 fA8 (arg1.view.read (Elt F) fT) (NF (g0 (ix1 0))) 2) -∗ Q ⟨(g0 (ix1 0)), h, v17 (g0 (ix1 0)), Scalar.select (Scalar.cmpi .eq 2#32 0#32) 1#32 2#32, k0_pay39, k0_pay40, 0#32⟩)
      -∗ wp frame (wpE (defs₀ (F := F)) Variants.none (c : Thread nD τ) none) Set.univ (k0_part37 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) Q) := by
  rw [k0_part37_eq_skeleton]; unfold k0_part37_skel v17
  iintro ⟨H0, HT, FK0, FV0, FK1, FV1, FK2, FV2⟩ Hk
  iapply (sm_own c 0 rfl) $$ H0; iintro H0
  iapply (assume_step c (chk25 hv))
  have h0 : k0_cond1 (g0 (ix1 0)) = 1#1 := (cond1_eq hv).2 (Nat.zero_le _)
  iapply (dite_yes c h0)
  imod (free_open c arg12 arg7 arg17 fA7 tk (sl 0) (pgs (arg1.view.read (Elt F) fT) 0)) $$ FK0 with HK
  imod (free_open c arg13 arg8 arg18 fA8 tk (sl 0) (pgs (arg1.view.read (Elt F) fT) 0)) $$ FV0 with HV
  iapply (bind_step c)
  iapply (part1_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _) $$ [HT HK HV]
  · isplitl [HT]; · iexact HT
    isplitl [HK]; · iexact HK
    iexact HV
  iintro %h ⟨HT, HK, HV⟩
  iapply (bind_step c)
  iapply (part2_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
  · isplitl [HT]; · iexact HT
    isplitl [HK]; · iexact HK
    iexact HV
  iintro %h ⟨HT, HK, HV⟩
  iapply (bind_step c)
  iapply (part3_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
  · isplitl [HT]; · iexact HT
    isplitl [HK]; · iexact HK
    iexact HV
  iintro %r ⟨HT, HK, HV⟩
  iapply (bind_step c)
  iapply (part4_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _ _) $$ [HT HK HV]
  · isplitl [HT]; · iexact HT
    isplitl [HK]; · iexact HK
    iexact HV
  iintro %h ⟨HT, HK, HV⟩
  iapply (start_step c (b := 0) hT 6 (by decide) (off34_eq _) off36_eq off35_eq (Nat.zero_le _)) $$ HV; iintro HV
  iapply (ld_step c 0 7 off37_eq (by decide) (by decide)) $$ HT; iintro HT
  iapply (assume_step c (chk8 _ _ (hT (ix1 (tix 0 7)))))
  iapply (start_step c (b := 0) hT 7 (by decide) (off39_eq _) off38_eq off35_eq (Nat.zero_le _)) $$ HK; iintro HK
  iapply (start_step c (b := 0) hT 7 (by decide) (off39_eq _) off41_eq off40_eq (Nat.zero_le _)) $$ HV; iintro HV
  ihave FK0 := (pd_of_fl (n := NF (g0 (ix1 0))) c ((cond1_eq hv).1 h0)) $$ HK
  ihave FV0 := (pd_of_fl (n := NF (g0 (ix1 0))) c ((cond1_eq hv).1 h0)) $$ HV
  by_cases h1 : k0_cond2 (g0 (ix1 0)) = 1#1
  · iapply (dite_yes c h1)
    imod (free_open c arg12 arg7 arg17 fA7 tk (sl 1) (pgs (arg1.view.read (Elt F) fT) 1)) $$ FK1 with HK
    imod (free_open c arg13 arg8 arg18 fA8 tk (sl 1) (pgs (arg1.view.read (Elt F) fT) 1)) $$ FV1 with HV
    iapply (bind_step c)
    iapply (part5_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _) $$ [HT HK HV]
    · isplitl [HT]; · iexact HT
      isplitl [HK]; · iexact HK
      iexact HV
    iintro %h ⟨HT, HK, HV⟩
    iapply (bind_step c)
    iapply (part6_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
    · isplitl [HT]; · iexact HT
      isplitl [HK]; · iexact HK
      iexact HV
    iintro %h ⟨HT, HK, HV⟩
    iapply (bind_step c)
    iapply (part7_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
    · isplitl [HT]; · iexact HT
      isplitl [HK]; · iexact HK
      iexact HV
    iintro %r ⟨HT, HK, HV⟩
    iapply (bind_step c)
    iapply (part8_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _ _) $$ [HT HK HV]
    · isplitl [HT]; · iexact HT
      isplitl [HK]; · iexact HK
      iexact HV
    iintro %h ⟨HT, HK, HV⟩
    iapply (start_step c (b := 1) hT 6 (by decide) (off75_eq _) off77_eq off76_eq (Nat.zero_le _)) $$ HV; iintro HV
    iapply (ld_step c 1 7 off78_eq (by decide) (by decide)) $$ HT; iintro HT
    iapply (assume_step c (chk16 _ _ (hT (ix1 (tix 1 7)))))
    iapply (start_step c (b := 1) hT 7 (by decide) (off80_eq _) off79_eq off76_eq (Nat.zero_le _)) $$ HK; iintro HK
    iapply (start_step c (b := 1) hT 7 (by decide) (off80_eq _) off82_eq off81_eq (Nat.zero_le _)) $$ HV; iintro HV
    ihave FK1 := (pd_of_fl (n := NF (g0 (ix1 0))) c ((cond2_eq hv).1 h1)) $$ HK
    ihave FV1 := (pd_of_fl (n := NF (g0 (ix1 0))) c ((cond2_eq hv).1 h1)) $$ HV
    by_cases h2 : k0_cond3 (g0 (ix1 0)) = 1#1
    · iapply (dite_yes c h2)
      imod (free_open c arg12 arg7 arg17 fA7 tk (sl 2) (pgs (arg1.view.read (Elt F) fT) 2)) $$ FK2 with HK
      imod (free_open c arg13 arg8 arg18 fA8 tk (sl 2) (pgs (arg1.view.read (Elt F) fT) 2)) $$ FV2 with HV
      iapply (bind_step c)
      iapply (part9_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _) $$ [HT HK HV]
      · isplitl [HT]; · iexact HT
        isplitl [HK]; · iexact HK
        iexact HV
      iintro %h ⟨HT, HK, HV⟩
      iapply (bind_step c)
      iapply (part10_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
      · isplitl [HT]; · iexact HT
        isplitl [HK]; · iexact HK
        iexact HV
      iintro %h ⟨HT, HK, HV⟩
      iapply (bind_step c)
      iapply (part11_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
      · isplitl [HT]; · iexact HT
        isplitl [HK]; · iexact HK
        iexact HV
      iintro %r ⟨HT, HK, HV⟩
      iapply (bind_step c)
      iapply (part12_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _ _) $$ [HT HK HV]
      · isplitl [HT]; · iexact HT
        isplitl [HK]; · iexact HK
        iexact HV
      iintro %h ⟨HT, HK, HV⟩
      iapply (start_step c (b := 2) hT 6 (by decide) (off116_eq _) off118_eq off117_eq (Nat.zero_le _)) $$ HV; iintro HV
      iapply (ld_step c 2 7 off119_eq (by decide) (by decide)) $$ HT; iintro HT
      iapply (assume_step c (chk24 _ _ (hT (ix1 (tix 2 7)))))
      iapply (start_step c (b := 2) hT 7 (by decide) (off121_eq _) off120_eq off117_eq (Nat.zero_le _)) $$ HK; iintro HK
      iapply (start_step c (b := 2) hT 7 (by decide) (off121_eq _) off123_eq off122_eq (Nat.zero_le _)) $$ HV; iintro HV
      ihave FK2 := (pd_of_fl (n := NF (g0 (ix1 0))) c ((cond3_eq hv).1 h2)) $$ HK
      ihave FV2 := (pd_of_fl (n := NF (g0 (ix1 0))) c ((cond3_eq hv).1 h2)) $$ HV
      iapply (pure_step c _)
      iapply Hk
      isplitl [H0]; · iexact H0
      isplitl [HT]; · iexact HT
      isplitl [FK0]; · iexact FK0
      isplitl [FV0]; · iexact FV0
      isplitl [FK1]; · iexact FK1
      isplitl [FV1]; · iexact FV1
      isplitl [FK2]; · iexact FK2
      iexact FV2
    · iapply (dite_no c h2)
      ihave FK2 := (pd_of_free (n := NF (g0 (ix1 0))) c (fun h => h2 ((cond3_eq hv).2 h))) $$ FK2
      ihave FV2 := (pd_of_free (n := NF (g0 (ix1 0))) c (fun h => h2 ((cond3_eq hv).2 h))) $$ FV2
      iapply (pure_step c _)
      iapply Hk
      isplitl [H0]; · iexact H0
      isplitl [HT]; · iexact HT
      isplitl [FK0]; · iexact FK0
      isplitl [FV0]; · iexact FV0
      isplitl [FK1]; · iexact FK1
      isplitl [FV1]; · iexact FV1
      isplitl [FK2]; · iexact FK2
      iexact FV2
  · have h2 : ¬ k0_cond3 (g0 (ix1 0)) = 1#1 := fun h => h1 ((cond2_eq hv).2 (le_trans (by decide) ((cond3_eq hv).1 h)))
    iapply (dite_no c h1)
    ihave FK1 := (pd_of_free (n := NF (g0 (ix1 0))) c (fun h => h1 ((cond2_eq hv).2 h))) $$ FK1
    ihave FV1 := (pd_of_free (n := NF (g0 (ix1 0))) c (fun h => h1 ((cond2_eq hv).2 h))) $$ FV1
    iapply (dite_no c h2)
    ihave FK2 := (pd_of_free (n := NF (g0 (ix1 0))) c (fun h => h2 ((cond3_eq hv).2 h))) $$ FK2
    ihave FV2 := (pd_of_free (n := NF (g0 (ix1 0))) c (fun h => h2 ((cond3_eq hv).2 h))) $$ FV2
    iapply (pure_step c _)
    iapply Hk
    isplitl [H0]; · iexact H0
    isplitl [HT]; · iexact HT
    isplitl [FK0]; · iexact FK0
    isplitl [FV0]; · iexact FV0
    isplitl [FK1]; · iexact FK1
    isplitl [FV1]; · iexact FV1
    isplitl [FK2]; · iexact FK2
    iexact FV2

/-- The state the kernel ends with: the new tokens, then the full blocks, then the last block. -/
noncomputable def resSt (v0 : BitVec 32) (g2 g3 : S2.Idx → F .f32) (g4 : S128x256.Idx → F .bf16) (g5 g6 : S8x256.Idx → F .bf16)
    (K V : ℕ → Fin 2 → Vec F S1x8x1x128x256 .fp8e4m3) : St F :=
  finSt v0 g2 g3 g4 (K (NF v0)) (V (NF v0)) (stK g2 g3 g4 K V (newSt g2 g3 g4 g5 g6) (NF v0))

theorem body_run {g0 : S1.Idx → BitVec 32} {g2 g3 : S2.Idx → F .f32} {g4 : S128x256.Idx → F .bf16} {g5 g6 : S8x256.Idx → F .bf16} {g9 : S128x256.Idx → F .bf16} {g10 g11 : S8x256.Idx → F .fp8e4m3} {g14 g15 : S2x64x1.Idx → F .f32} {g16 : S2x64x256.Idx → F .f32} (hv : (g0 (ix1 0)).toNat ≤ 65532)
    (hT : ∀ i : S512.Idx, BitVec.toNat (w := 32) (arg1.view.read (Elt F) fT i) < 512)
    {Q : PUnit → sProp 𝕄} :
    iprop(Own c arg0 g0
      ∗ (arg1.view.loc (c : Thread nD τ) ↦[arg1.view.set]{fullShare} fT)
      ∗ Own c arg2 g2
      ∗ Own c arg3 g3
      ∗ Own c arg4 g4
      ∗ Own c arg5 g5
      ∗ Own c arg6 g6
      ∗ Own c arg9 g9
      ∗ Own c arg10 g10
      ∗ Own c arg11 g11
      ∗ Own c arg14 g14
      ∗ Own c arg15 g15
      ∗ Own c arg16 g16
      ∗ (∃ W, owes (c : Thread nD τ) 0 W)
      ∗ Free c arg12 arg7 arg17 fA7 tk 0
      ∗ Free c arg13 arg8 arg18 fA8 tk 0
      ∗ Free c arg12 arg7 arg17 fA7 tk 1
      ∗ Free c arg13 arg8 arg18 fA8 tk 1
      ∗ Free c arg12 arg7 arg17 fA7 tk 2
      ∗ Free c arg13 arg8 arg18 fA8 tk 2
      ∗ Free c arg12 arg7 arg17 fA7 tk 3
      ∗ Free c arg13 arg8 arg18 fA8 tk 3)
      ⊢ iprop((iprop(Own c arg0 g0
      ∗ (arg1.view.loc (c : Thread nD τ) ↦[arg1.view.set]{fullShare} fT)
      ∗ Own c arg2 g2
      ∗ Own c arg3 g3
      ∗ Own c arg4 g4
      ∗ Own c arg5 g5
      ∗ Own c arg6 g6
      ∗ Own c arg9 (yOver (resSt (g0 (ix1 0)) g2 g3 g4 g5 g6 (fun b h => kv (arg7.view.read (Elt F) fA7) (arg1.view.read (Elt F) fT) b h) (fun b h => kv (arg8.view.read (Elt F) fA8) (arg1.view.read (Elt F) fT) b h)) g9)
      ∗ Own c arg10 (kCodes g2 g5)
      ∗ Own c arg11 (vCodes g3 g6)
      ∗ Own c arg14 (resSt (g0 (ix1 0)) g2 g3 g4 g5 g6 (fun b h => kv (arg7.view.read (Elt F) fA7) (arg1.view.read (Elt F) fT) b h) (fun b h => kv (arg8.view.read (Elt F) fA8) (arg1.view.read (Elt F) fT) b h)).m
      ∗ Own c arg15 (resSt (g0 (ix1 0)) g2 g3 g4 g5 g6 (fun b h => kv (arg7.view.read (Elt F) fA7) (arg1.view.read (Elt F) fT) b h) (fun b h => kv (arg8.view.read (Elt F) fA8) (arg1.view.read (Elt F) fT) b h)).l
      ∗ Own c arg16 (resSt (g0 (ix1 0)) g2 g3 g4 g5 g6 (fun b h => kv (arg7.view.read (Elt F) fA7) (arg1.view.read (Elt F) fT) b h) (fun b h => kv (arg8.view.read (Elt F) fA8) (arg1.view.read (Elt F) fT) b h)).a
      ∗ (∃ W, owes (c : Thread nD τ) 0 W)
      ∗ Free c arg12 arg7 arg17 fA7 tk 0
      ∗ Free c arg13 arg8 arg18 fA8 tk 0
      ∗ Free c arg12 arg7 arg17 fA7 tk 1
      ∗ Free c arg13 arg8 arg18 fA8 tk 1
      ∗ Free c arg12 arg7 arg17 fA7 tk 2
      ∗ Free c arg13 arg8 arg18 fA8 tk 2
      ∗ Free c arg12 arg7 arg17 fA7 tk 3
      ∗ Free c arg13 arg8 arg18 fA8 tk 3) -∗ Q ⟨⟩)
      -∗ wp frame (wpE (defs₀ (F := F)) Variants.none (c : Thread nD τ) none) Set.univ (cc0_paged_fp8_gqa_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) Q) := by
  rw [cc0_paged_fp8_gqa_decode_eq_skeleton]; unfold cc0_paged_fp8_gqa_decode_skel
  iintro ⟨H0, HT, H2, H3, H4, H5, H6, H9, H10, H11, H14, H15, H16, HW, FK0, FV0, FK1, FV1, FK2, FV2, FK3, FV3⟩ Hk
  iapply (bind_step c)
  rw [k0_part54_eq_skeleton]; unfold k0_part54_skel
  iapply (bind_step c)
  iapply (part37_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT) $$ [H0 HT FK0 FV0 FK1 FV1 FK2 FV2]
  · isplitl [H0]; · iexact H0
    isplitl [HT]; · iexact HT
    isplitl [FK0]; · iexact FK0
    isplitl [FV0]; · iexact FV0
    isplitl [FK1]; · iexact FK1
    isplitl [FV1]; · iexact FV1
    isplitl [FK2]; · iexact FK2
    iexact FV2
  iintro %h25 ⟨H0, HT, FK0, FV0, FK1, FV1, FK2, FV2⟩
  iapply (bind_step c)
  iapply (part38_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _) $$ [H2 H3 H5 H6]
  · isplitl [H2]; · iexact H2
    isplitl [H3]; · iexact H3
    isplitl [H5]; · iexact H5
    iexact H6
  iintro ⟨H2, H3, H5, H6⟩
  iapply (bind_step c)
  iapply (part39_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _) $$ [H10 H11 H14]
  · isplitl [H10]; · iexact H10
    isplitl [H11]; · iexact H11
    iexact H14
  iintro ⟨H10, H11, H14⟩
  iapply (bind_step c)
  iapply (part40_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _) $$ [H4 H15 H16]
  · isplitl [H4]; · iexact H4
    isplitl [H15]; · iexact H15
    iexact H16
  iintro ⟨H4, H15, H16⟩
  iapply (bind_step c)
  iapply (part41_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _ _) $$ [H14 H15]
  · isplitl [H14]; · iexact H14
    iexact H15
  iintro ⟨H14, H15⟩
  iapply (bind_step c)
  iapply (part42_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _ _ _ _) $$ [H4 H14 H15 H16]
  · isplitl [H4]; · iexact H4
    isplitl [H14]; · iexact H14
    isplitl [H15]; · iexact H15
    iexact H16
  iintro ⟨H4, H14, H15, H16⟩
  iapply (bind_step c)
  iapply (part43_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 _ _ _ _ _ _)
  iapply (bind_step c)
  iapply (part44_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _) $$ [H14 H15 H16]
  · isplitl [H14]; · iexact H14
    isplitl [H15]; · iexact H15
    iexact H16
  iintro ⟨H14, H15, H16⟩
  iapply (bind_step c)
  iapply (part45_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 (s := (newSt g2 g3 g4 g5 g6)) hv hT _ _ _ _) $$ [HT H2 H3 H4 H14 H15 H16 HW FK0 FV0 FK1 FV1 FK2 FV2 FK3 FV3]
  · unfold LI; isplitl [HT]; · iexact HT
    isplitl [H2]; · iexact H2
    isplitl [H3]; · iexact H3
    isplitl [H4]; · iexact H4
    isplitl [H14]; · iexact H14
    isplitl [H15]; · iexact H15
    isplitl [H16]; · iexact H16
    isplitl [HW]; · iexact HW
    isplitl [FK0]; · iexact FK0
    isplitl [FV0]; · iexact FV0
    isplitl [FK1]; · iexact FK1
    isplitl [FV1]; · iexact FV1
    isplitl [FK2]; · iexact FK2
    isplitl [FV2]; · iexact FV2
    isplitl [FK3]; · iexact FK3
    iexact FV3
  iintro %h ⟨HT, H2, H3, H4, H14, H15, H16, HW, HK, HV, FK1, FV1, FK2, FV2, FK3, FV3⟩
  iapply (bind_step c)
  iapply (part46_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV HW]
  · isplitl [HT]; · iexact HT
    isplitl [HK]; · iexact HK
    isplitl [HV]; · iexact HV
    iexact HW
  iintro %h ⟨HT, HK, HV, HW⟩
  iapply (bind_step c)
  iapply (part47_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV HW]
  · isplitl [HT]; · iexact HT
    isplitl [HK]; · iexact HK
    isplitl [HV]; · iexact HV
    iexact HW
  iintro %h ⟨HT, HK, HV, HW⟩
  iapply (bind_step c)
  iapply (part48_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV HW]
  · isplitl [HT]; · iexact HT
    isplitl [HK]; · iexact HK
    isplitl [HV]; · iexact HV
    iexact HW
  iintro %h ⟨HT, HK, HV, HW⟩
  iapply (bind_step c)
  iapply (part49_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV HW]
  · isplitl [HT]; · iexact HT
    isplitl [HK]; · iexact HK
    isplitl [HV]; · iexact HV
    iexact HW
  iintro %r ⟨HT, HK, HV, HW⟩
  iapply (bind_step c)
  iapply (part50_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv _ _ _) $$ [H2 H3 H4 H14 HV]
  · isplitl [H2]; · iexact H2
    isplitl [H3]; · iexact H3
    isplitl [H4]; · iexact H4
    isplitl [H14]; · iexact H14
    iexact HV
  iintro ⟨H2, H3, H4, H14, HV⟩
  iapply (bind_step c)
  iapply (part51_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv _ _ _ _ _ _) $$ [H14 H15 H16 HK]
  · isplitl [H14]; · iexact H14
    isplitl [H15]; · iexact H15
    isplitl [H16]; · iexact H16
    iexact HK
  iintro ⟨H14, H15, H16, HK⟩
  iapply (bind_step c)
  iapply (part52_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv _ _ _) $$ [H2 H3 H4 H14 HV]
  · isplitl [H2]; · iexact H2
    isplitl [H3]; · iexact H3
    isplitl [H4]; · iexact H4
    isplitl [H14]; · iexact H14
    iexact HV
  iintro ⟨H2, H3, H4, H14, HV⟩
  iapply (bind_step c)
  iapply (part53_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _) $$ [H14 H15 H16]
  · isplitl [H14]; · iexact H14
    isplitl [H15]; · iexact H15
    iexact H16
  iintro ⟨H14, H15, H16⟩
  iapply (load_own c) $$ H9; iintro H9
  iapply (store_own c) $$ H9; iintro H9
  iapply (load_own c) $$ H9; iintro H9
  iapply (store_own c) $$ H9; iintro H9
  iapply (load_own c) $$ H9; iintro H9
  iapply (store_own c) $$ H9; iintro H9
  iapply (load_own c) $$ H9; iintro H9
  iapply (store_own c) $$ H9; iintro H9
  iapply (load_own c) $$ H16; iintro H16
  iapply (load_own c) $$ H15; iintro H15
  iapply (load_own c) $$ H9; iintro H9
  iapply (store_own c) $$ H9; iintro H9
  iapply (pure_step c _)
  iapply (load_own c) $$ H9; iintro H9
  iapply (store_own c) $$ H9; iintro H9
  iapply (load_own c) $$ H9; iintro H9
  iapply (store_own c) $$ H9; iintro H9
  iapply (load_own c) $$ H9; iintro H9
  iapply (store_own c) $$ H9; iintro H9
  iapply (pure_step c _)
  ihave HK := (landed_free c arg12 arg7 arg17 fA7 tk (sl (NF (g0 (ix1 0)))) _) $$ HK
  ihave HK := (frees_rot c (NF (g0 (ix1 0)))) $$ [HK FK1 FK2 FK3]
  · isplitl [HK]; · iexact HK
    isplitl [FK1]; · iexact FK1
    isplitl [FK2]; · iexact FK2
    iexact FK3
  icases HK with ⟨FK0, FK1, FK2, FK3⟩
  ihave HV := (landed_free c arg13 arg8 arg18 fA8 tk (sl (NF (g0 (ix1 0)))) _) $$ HV
  ihave HV := (frees_rot c (NF (g0 (ix1 0)))) $$ [HV FV1 FV2 FV3]
  · isplitl [HV]; · iexact HV
    isplitl [FV1]; · iexact FV1
    isplitl [FV2]; · iexact FV2
    iexact FV3
  icases HV with ⟨FV0, FV1, FV2, FV3⟩
  iapply Hk
  isplitl [H0]; · iexact H0
  isplitl [HT]; · iexact HT
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H14]; · iexact H14
  isplitl [H15]; · iexact H15
  isplitl [H16]; · iexact H16
  isplitl [HW]; · iexact HW
  isplitl [FK0]; · iexact FK0
  isplitl [FV0]; · iexact FV0
  isplitl [FK1]; · iexact FK1
  isplitl [FV1]; · iexact FV1
  isplitl [FK2]; · iexact FK2
  isplitl [FV2]; · iexact FV2
  isplitl [FK3]; · iexact FK3
  iexact FV3

end

end Cert.KernelIdeal.Hand
-- ==== Proof.Online.lean ====
/-
  Softmax over a finite set of positions, built up a part at a time: the maximum, the sum of the weights and the weighted sum of the values over a set follow from
  those over a subset and the rest. Everything is over the extended reals, with no condition on the scores or the values.
-/
module

public import Idealize.ShloMosaic.Lib.Pointwise

@[expose] public section

noncomputable section

namespace Cert.Hand

open Idealize.ShloMosaic

/-- The largest score. -/
def sM (sc : ℕ → EReal) (S : Finset ℕ) : EReal := S.sup sc
/-- The sum of the weights, taken against the bound `M`. -/
def sL (sc : ℕ → EReal) (M : EReal) (S : Finset ℕ) : EReal := ∑ p ∈ S, Ideal.exp (sc p - M)
/-- The weighted sum of the values. -/
def sA (sc va : ℕ → EReal) (M : EReal) (S : Finset ℕ) : EReal := ∑ p ∈ S, Ideal.exp (sc p - M) * va p

theorem exp_bot_sub (M : EReal) : Ideal.exp (⊥ - M) = 0 := by
  rw [EReal.bot_sub]; rfl

theorem exp_sub_top (s : EReal) : Ideal.exp (s - ⊤) = 0 := by
  rw [EReal.sub_top]; rfl

theorem exp_coe (r : ℝ) : Ideal.exp (r : EReal) = (Real.exp r : EReal) := rfl

/-- A weight against one bound, brought to a larger one. -/
theorem exp_chain {s m M : EReal} (h1 : s ≤ m) (h2 : m ≤ M) : Ideal.exp (m - M) * Ideal.exp (s - m) = Ideal.exp (s - M) := by
  induction s with
  | bot => rw [exp_bot_sub, exp_bot_sub, mul_zero]
  | top =>
    rw [top_le_iff] at h1; subst h1; rw [top_le_iff] at h2; subst h2
    rw [exp_sub_top, zero_mul]
  | coe s =>
    induction m with
    | bot => exact absurd h1 (by simp)
    | top => rw [top_le_iff] at h2; subst h2; rw [exp_sub_top, exp_sub_top, zero_mul]
    | coe m =>
      induction M with
      | bot => exact absurd h2 (by simp)
      | top => rw [exp_sub_top, exp_sub_top, zero_mul]
      | coe M =>
        rw [← EReal.coe_sub, ← EReal.coe_sub, ← EReal.coe_sub, exp_coe, exp_coe, exp_coe, ← EReal.coe_mul, ← Real.exp_add]
        congr 2; ring

theorem exp_nonneg (x : EReal) : 0 ≤ Ideal.exp x := by
  induction x with
  | bot => exact le_refl _
  | top => exact le_top
  | coe r => rw [exp_coe]; exact_mod_cast (Real.exp_pos r).le

theorem exp_ne_top {m M : EReal} (h : m ≤ M) : Ideal.exp (m - M) ≠ ⊤ := by
  induction M with
  | top => rw [exp_sub_top]; exact EReal.zero_ne_top
  | bot => rw [le_bot_iff] at h; subst h; rw [exp_bot_sub]; exact EReal.zero_ne_top
  | coe M =>
    induction m with
    | bot => rw [exp_bot_sub]; exact EReal.zero_ne_top
    | top => exact absurd h (by simp)
    | coe m => rw [← EReal.coe_sub, exp_coe]; exact EReal.coe_ne_top _

theorem mul_sum_of {c : EReal} (h0 : 0 ≤ c) (ht : c ≠ ⊤) (S : Finset ℕ) (f : ℕ → EReal) : c * ∑ p ∈ S, f p = ∑ p ∈ S, c * f p := by
  induction S using Finset.induction_on with
  | empty => simp
  | insert a S ha ih => rw [Finset.sum_insert ha, Finset.sum_insert ha, EReal.left_distrib_of_nonneg_of_ne_top h0 ht, ih]

theorem le_sM {sc : ℕ → EReal} {S : Finset ℕ} {p : ℕ} (hp : p ∈ S) : sc p ≤ sM sc S := Finset.le_sup (f := sc) hp

theorem sM_mono {sc : ℕ → EReal} {S T : Finset ℕ} (h : S ⊆ T) : sM sc S ≤ sM sc T := Finset.sup_mono h

theorem scale_L {sc : ℕ → EReal} {S : Finset ℕ} {M : EReal} (h : sM sc S ≤ M) : Ideal.exp (sM sc S - M) * sL sc (sM sc S) S = sL sc M S := by
  unfold sL
  rw [mul_sum_of (exp_nonneg _) (exp_ne_top h)]
  exact Finset.sum_congr rfl fun p hp => exp_chain (le_sM hp) h

theorem scale_A {sc va : ℕ → EReal} {S : Finset ℕ} {M : EReal} (h : sM sc S ≤ M) : Ideal.exp (sM sc S - M) * sA sc va (sM sc S) S = sA sc va M S := by
  unfold sA
  rw [mul_sum_of (exp_nonneg _) (exp_ne_top h)]
  exact Finset.sum_congr rfl fun p hp => by rw [← mul_assoc, exp_chain (le_sM hp) h]

/-- A part `T` of the positions, listed by `Fin n`: the listed positions that count are `T`, each once; the scores of those that do not count are `-∞`. -/
structure Part (n : ℕ) (T : Finset ℕ) (sc va : ℕ → EReal) (s w : Fin n → EReal) where
  pos : Fin n → ℕ
  ok : Fin n → Prop
  inj : ∀ i j, ok i → ok j → pos i = pos j → i = j
  mem : ∀ p, p ∈ T ↔ ∃ i, ok i ∧ pos i = p
  s_ok : ∀ i, ok i → s i = sc (pos i)
  s_not : ∀ i, ¬ ok i → s i = ⊥
  w_ok : ∀ i, ok i → w i = va (pos i)

namespace Part
variable {n : ℕ} {T : Finset ℕ} {sc va : ℕ → EReal} {s w : Fin n → EReal}

theorem fold (P : Part n T sc va s w) : Finset.univ.fold max ⊥ s = sM sc T := by
  show Finset.univ.sup s = T.sup sc
  apply le_antisymm
  · refine Finset.sup_le fun i _ => ?_
    by_cases h : P.ok i
    · rw [P.s_ok i h]; exact Finset.le_sup (f := sc) ((P.mem _).2 ⟨i, h, rfl⟩)
    · rw [P.s_not i h]; exact bot_le
  · refine Finset.sup_le fun p hp => ?_
    obtain ⟨i, h, rfl⟩ := (P.mem p).1 hp
    rw [← P.s_ok i h]; exact Finset.le_sup (f := s) (Finset.mem_univ i)

theorem sum (P : Part n T sc va s w) (f : ℕ → EReal) (g : Fin n → EReal) (h1 : ∀ i, P.ok i → g i = f (P.pos i)) (h0 : ∀ i, ¬ P.ok i → g i = 0) :
    ∑ i, g i = ∑ p ∈ T, f p := by
  classical
  rw [← Finset.sum_filter_add_sum_filter_not Finset.univ P.ok, Finset.sum_congr rfl fun i hi => h1 i (Finset.mem_filter.1 hi).2,
    Finset.sum_congr (rfl : Finset.univ.filter (fun i => ¬ P.ok i) = _) fun i hi => h0 i (Finset.mem_filter.1 hi).2, Finset.sum_const_zero, add_zero]
  refine Finset.sum_bij (fun i _ => P.pos i) (fun i hi => (P.mem _).2 ⟨i, (Finset.mem_filter.1 hi).2, rfl⟩)
    (fun i hi j hj => P.inj i j (Finset.mem_filter.1 hi).2 (Finset.mem_filter.1 hj).2) (fun p hp => ?_) (fun _ _ => rfl)
  obtain ⟨i, h, rfl⟩ := (P.mem p).1 hp
  exact ⟨i, Finset.mem_filter.2 ⟨Finset.mem_univ _, h⟩, rfl⟩

theorem sumL (P : Part n T sc va s w) (M : EReal) : ∑ i, Ideal.exp (s i - M) = sL sc M T :=
  P.sum (fun p => Ideal.exp (sc p - M)) _ (fun i h => by rw [P.s_ok i h]) fun i h => by rw [P.s_not i h, exp_bot_sub]

theorem sumA (P : Part n T sc va s w) (M : EReal) : ∑ i, Ideal.exp (s i - M) * w i = sA sc va M T :=
  P.sum (fun p => Ideal.exp (sc p - M) * va p) _ (fun i h => by rw [P.s_ok i h, P.w_ok i h]) fun i h => by rw [P.s_not i h, exp_bot_sub, zero_mul]

theorem stepM (P : Part n T sc va s w) (S : Finset ℕ) : max (sM sc S) (Finset.univ.fold max ⊥ s) = sM sc (S ∪ T) := by
  rw [P.fold]; exact (Finset.sup_union).symm

theorem stepL (P : Part n T sc va s w) {S : Finset ℕ} (hd : Disjoint S T) :
    Ideal.exp (sM sc S - sM sc (S ∪ T)) * sL sc (sM sc S) S + ∑ i, Ideal.exp (s i - sM sc (S ∪ T)) = sL sc (sM sc (S ∪ T)) (S ∪ T) := by
  rw [scale_L (sM_mono Finset.subset_union_left), P.sumL]
  exact (Finset.sum_union hd).symm

theorem stepA (P : Part n T sc va s w) {S : Finset ℕ} (hd : Disjoint S T) :
    Ideal.exp (sM sc S - sM sc (S ∪ T)) * sA sc va (sM sc S) S + ∑ i, Ideal.exp (s i - sM sc (S ∪ T)) * w i = sA sc va (sM sc (S ∪ T)) (S ∪ T) := by
  rw [scale_A (sM_mono Finset.subset_union_left), P.sumA]
  exact (Finset.sum_union hd).symm

end Part

end Cert.Hand
-- ==== Proof.Spec.lean ====
/-
  What is attended to: the key or value at a position, and the result row.
-/
module

public import proofs.«01_k».proof.Proof.Online

@[expose] public section

noncomputable section

namespace Cert.Hand

open Idealize.ShloMosaic

/-- The four new tokens stand at `L`, …, `L + 3`; everything else is the cache. -/
def pick (L : ℕ) (new : Fin 4 → EReal) (old : ℕ → EReal) (p : ℕ) : EReal :=
  if h : L ≤ p ∧ p < L + 4 then new ⟨p - L, by omega⟩ else old p

theorem pick_new {L : ℕ} {new : Fin 4 → EReal} {old : ℕ → EReal} (j : Fin 4) : pick L new old (L + j) = new j := by
  have hj := j.isLt
  rw [pick, dif_pos ⟨by omega, by omega⟩]
  exact congrArg new (Fin.ext (Nat.add_sub_cancel_left ..))

theorem pick_old {L : ℕ} {new : Fin 4 → EReal} {old : ℕ → EReal} {p : ℕ} (h : p < L) : pick L new old p = old p := by
  rw [pick, dif_neg fun h' => absurd h'.1 (by omega)]

/-- The attended row: the weighted sum of the values over the sum of the weights. -/
def attend (sc va : ℕ → EReal) (S : Finset ℕ) : EReal := Ideal.div (sA sc va (sM sc S) S) (sL sc (sM sc S) S)

end Cert.Hand
-- ==== Proof.Ideal.Result.lean ====
/-
  The kernel's state after the last block, and its first result, read off position by position.
-/
module

public import proofs.«01_k».proof.Proof.Ideal.Fresh
public import proofs.«01_k».proof.Proof.Ideal.Body
public import proofs.«01_k».proof.Proof.Spec

@[expose] public section

set_option maxRecDepth 16384

noncomputable section

namespace Cert.KernelIdeal.Hand

open Cert.KernelIdeal Cert.KernelIdeal.Gen Cert.Hand
open Idealize.ShloMosaic

/-- The state of row `(h, r)` is that of the positions `S`. -/
structure At (s : St Ideal) (h : Fin 2) (r : Fin 64) (sc : ℕ → EReal) (va : ℕ → Fin 256 → EReal) (S : Finset ℕ) : Prop where
  m : s.m (ix3 h r 0) = sM sc S
  l : s.l (ix3 h r 0) = sL sc (sM sc S) S
  a : ∀ d, s.a (ix3 h r d) = sA sc (fun p => va p d) (sM sc S) S

theorem At.step {s s' : St Ideal} {h : Fin 2} {r : Fin 64} {sc : ℕ → EReal} {va : ℕ → Fin 256 → EReal} {S T : Finset ℕ} (H : At s h r sc va S) {n : ℕ} {sco : Fin n → EReal}
    {w : Fin n → Fin 256 → EReal} (E : StepTo s s' h r sco w) (P : ∀ d, Part n T sc (fun p => va p d) sco (fun i => w i d)) (hd : Disjoint S T) : At s' h r sc va (S ∪ T) := by
  have hm : s'.m (ix3 h r 0) = sM sc (S ∪ T) := by rw [E.m, H.m]; exact (P 0).stepM S
  refine ⟨hm, ?_, fun d => ?_⟩
  · rw [E.l, hm, H.m, H.l]; exact (P 0).stepL hd
  · rw [E.a, hm, H.m, H.a]; exact (P d).stepA hd

theorem st0_at (h : Fin 2) (r : Fin 64) (sc : ℕ → EReal) (va : ℕ → Fin 256 → EReal) : At st0 h r sc va ∅ :=
  ⟨st0_m _, (st0_l _).trans (Finset.sum_empty).symm, fun _ => (st0_a _).trans (Finset.sum_empty).symm⟩

theorem trip (g2 g3 : S2.Idx → Ideal .f32) (g4 : S128x256.Idx → Ideal .bf16) (K V : Fin 2 → Vec Ideal S1x8x1x128x256 .fp8e4m3) (s : St Ideal) (h : Fin 2) (r : Fin 64) :
    StepTo s (tripSt g2 g3 g4 K V s) h r (fun t => dot g4 h r (kRow (K h) (g2 (ValueIdx.ix1 h)) t)) (kRow (V h) (g3 (ValueIdx.ix1 h))) :=
  match h with
  | 0 => trip0 g2 g3 g4 K V s r
  | 1 => trip1 g2 g3 g4 K V s r

theorem fin (v0 : BitVec 32) (g2 g3 : S2.Idx → Ideal .f32) (g4 : S128x256.Idx → Ideal .bf16) (K V : Fin 2 → Vec Ideal S1x8x1x128x256 .fp8e4m3) (s : St Ideal) (h : Fin 2) (r : Fin 64) :
    StepTo s (finSt v0 g2 g3 g4 K V s) h r (fun t => lastSc v0 (dot g4 h r (kRow (K h) (g2 (ValueIdx.ix1 h)) t)) t) (kRow (V h) (g3 (ValueIdx.ix1 h))) :=
  match h with
  | 0 => fin0 v0 g2 g3 g4 K V s r
  | 1 => fin1 v0 g2 g3 g4 K V s r

theorem newtok (g2 g3 : S2.Idx → Ideal .f32) (g4 : S128x256.Idx → Ideal .bf16) (g5 g6 : S8x256.Idx → Ideal .bf16) (h : Fin 2) (r : Fin 64) :
    StepTo st0 (newSt g2 g3 g4 g5 g6) h r (fun c : Fin 8 => if c.val % 2 = h.val ∧ c.val / 2 ≤ r.val / 16 then dot g4 h r (nRow g2 g5 c) else ⊥) (nRow g3 g6) :=
  match h with
  | 0 => new0 g2 g3 g4 g5 g6 r
  | 1 => new1 g2 g3 g4 g5 g6 r

theorem lastSc_eq {v0 : BitVec 32} (hv : v0.toNat ≤ 65532) (x : EReal) (t : Fin 1024) : lastSc v0 x t = if 1024 * NF v0 + t.val < v0.toNat then x else ⊥ := by
  refine select_of ?_ x ⊥
  show BitVec.ofBool (BitVec.slt _ _) = _
  refine congrArg BitVec.ofBool ?_
  have ht := t.isLt
  have hn := NF_lt hv
  rw [v17_eq hv, BitVec.slt_eq_decide]
  have e : (BitVec.ofNat 32 (NF v0) * 1024#32 + BitVec.ofNat 32 t.val).toNat = 1024 * NF v0 + t.val := by
    simp only [BitVec.toNat_add, BitVec.toNat_mul, BitVec.toNat_ofNat]
    omega
  rw [BitVec.toInt_eq_toNat_of_lt (by rw [e]; omega), BitVec.toInt_eq_toNat_of_lt (by omega), e]
  exact decide_eq_decide.2 Int.ofNat_lt

/-- The page of position `p`. -/
def pg (T : S512.Idx → BitVec 32) (p : ℕ) : Fin 512 := ⟨(T (ValueIdx.ix1 ⟨p / 128 % 512, Nat.mod_lt _ (by decide)⟩)).toNat % 512, Nat.mod_lt _ (by decide)⟩

/-- The dequantised cache at position `p`. -/
def cacheAt (A : S512x2x128x256.Idx → Ideal .fp8e4m3) (T : S512.Idx → BitVec 32) (g : S2.Idx → Ideal .f32) (h : Fin 2) (x : Fin 256) (p : ℕ) : EReal :=
  A (ix4 (pg T p) h ⟨p % 128, Nat.mod_lt _ (by decide)⟩ x) * g (ValueIdx.ix1 h)

/-- The row at position `p`: a new token's or the cache's. -/
def rowAt (L : ℕ) (A : S512x2x128x256.Idx → Ideal .fp8e4m3) (T : S512.Idx → BitVec 32) (g : S2.Idx → Ideal .f32) (n : S8x256.Idx → Ideal .bf16) (h : Fin 2) (p : ℕ) (x : Fin 256) : EReal :=
  pick L (fun j => nRow g n ⟨2 * j.val + h.val, by omega⟩ x) (cacheAt A T g h x) p

theorem kRow_at (A : S512x2x128x256.Idx → Ideal .fp8e4m3) (T : S512.Idx → BitVec 32) (g : S2.Idx → Ideal .f32) (h : Fin 2) (b : ℕ) (hb : b < 64) (t : Fin 1024) (x : Fin 256) :
    kRow (kv A T b h) (g (ValueIdx.ix1 h)) t x = cacheAt A T g h x (1024 * b + t.val) := by
  have ht := t.isLt
  unfold kRow cacheAt
  refine congrArg (· * g (ValueIdx.ix1 h)) ?_
  show A _ = A _
  refine congrArg A ?_
  have e1 : pgs T b ⟨t.val / 128, by omega⟩ = pg T (1024 * b + t.val) := by
    refine Fin.ext ?_
    show (wd T b (t.val / 128)).toNat % 512 = (T (ValueIdx.ix1 _)).toNat % 512
    unfold wd
    refine congrArg (fun i : Fin 512 => (T (ValueIdx.ix1 i)).toNat % 512) (Fin.ext ?_)
    show (tix b (t.val / 128)).val = (1024 * b + t.val) / 128 % 512
    unfold tix
    dsimp only
    omega
  have e2 : (⟨t.val % 128, by omega⟩ : Fin 128) = ⟨(1024 * b + t.val) % 128, by omega⟩ := Fin.ext (by dsimp only; omega)
  rw [← e1, ← e2]
  rfl

variable (v0 : BitVec 32) (g2 g3 : S2.Idx → Ideal .f32) (g4 : S128x256.Idx → Ideal .bf16) (g5 g6 : S8x256.Idx → Ideal .bf16) (A7 A8 : S512x2x128x256.Idx → Ideal .fp8e4m3) (T : S512.Idx → BitVec 32)

/-- The score of query row `(h, r)` at position `p`. -/
def scAt (h : Fin 2) (r : Fin 64) (p : ℕ) : EReal := dot g4 h r (rowAt v0.toNat A7 T g2 g5 h p)

def newPart (h : Fin 2) (r : Fin 64) (d : Fin 256) :
    Part 8 (Finset.Ico v0.toNat (v0.toNat + r.val / 16 + 1)) (scAt v0 g2 g4 g5 A7 T h r) (fun p => rowAt v0.toNat A8 T g3 g6 h p d)
      (fun c : Fin 8 => if c.val % 2 = h.val ∧ c.val / 2 ≤ r.val / 16 then dot g4 h r (nRow g2 g5 c) else ⊥) (fun c => nRow g3 g6 c d) where
  pos c := v0.toNat + c.val / 2
  ok c := c.val % 2 = h.val ∧ c.val / 2 ≤ r.val / 16
  inj i j hi hj e := Fin.ext (by omega)
  mem p := by
    have hr := r.isLt
    have hh := h.isLt
    rw [Finset.mem_Ico]
    constructor
    · intro hp
      exact ⟨⟨2 * (p - v0.toNat) + h.val, by omega⟩, ⟨by dsimp only; omega, by dsimp only; omega⟩, by dsimp only; omega⟩
    · rintro ⟨i, hi, rfl⟩
      omega
  s_ok c hc := by
    rw [if_pos hc]
    refine congrArg (dot g4 h r) (funext fun x => ?_)
    have e := pick_new (L := v0.toNat) (new := fun j => nRow g2 g5 ⟨2 * j.val + h.val, by omega⟩ x) (old := cacheAt A7 T g2 h x) ⟨c.val / 2, by omega⟩
    refine Eq.trans ?_ e.symm
    exact congrArg (fun c => nRow g2 g5 c x) (Fin.ext (by dsimp only; omega))
  s_not c hc := if_neg hc
  w_ok c hc := by
    have e := pick_new (L := v0.toNat) (new := fun j => nRow g3 g6 ⟨2 * j.val + h.val, by omega⟩ d) (old := cacheAt A8 T g3 h d) ⟨c.val / 2, by omega⟩
    refine Eq.trans ?_ e.symm
    exact congrArg (fun c => nRow g3 g6 c d) (Fin.ext (by dsimp only; omega))

theorem row_old {L : ℕ} {A : S512x2x128x256.Idx → Ideal .fp8e4m3} {T : S512.Idx → BitVec 32} {g : S2.Idx → Ideal .f32} {n : S8x256.Idx → Ideal .bf16} {h : Fin 2} {b : ℕ} (hb : b < 64)
    {t : Fin 1024} (hp : 1024 * b + t.val < L) (x : Fin 256) : kRow (kv A T b h) (g (ValueIdx.ix1 h)) t x = rowAt L A T g n h (1024 * b + t.val) x := by
  rw [kRow_at A T g h b hb, rowAt, pick_old hp]

def tripPart (h : Fin 2) (r : Fin 64) (b : ℕ) (hb : b < 64) (hL : 1024 * (b + 1) ≤ v0.toNat) (d : Fin 256) :
    Part 1024 (Finset.Ico (1024 * b) (1024 * (b + 1))) (scAt v0 g2 g4 g5 A7 T h r) (fun p => rowAt v0.toNat A8 T g3 g6 h p d)
      (fun t => dot g4 h r (kRow (kv A7 T b h) (g2 (ValueIdx.ix1 h)) t)) (fun t => kRow (kv A8 T b h) (g3 (ValueIdx.ix1 h)) t d) where
  pos t := 1024 * b + t.val
  ok _ := True
  inj i j _ _ e := Fin.ext (by omega)
  mem p := by
    rw [Finset.mem_Ico]
    constructor
    · intro hp
      exact ⟨⟨p - 1024 * b, by omega⟩, trivial, by dsimp only; omega⟩
    · rintro ⟨i, -, rfl⟩
      omega
  s_ok t _ := congrArg (dot g4 h r) (funext fun x => row_old hb (by omega) x)
  s_not _ h := absurd trivial h
  w_ok t _ := row_old hb (by omega) d

def finPart (hv : v0.toNat ≤ 65532) (h : Fin 2) (r : Fin 64) (d : Fin 256) :
    Part 1024 (Finset.Ico (1024 * NF v0) v0.toNat) (scAt v0 g2 g4 g5 A7 T h r) (fun p => rowAt v0.toNat A8 T g3 g6 h p d)
      (fun t => lastSc v0 (dot g4 h r (kRow (kv A7 T (NF v0) h) (g2 (ValueIdx.ix1 h)) t)) t) (fun t => kRow (kv A8 T (NF v0) h) (g3 (ValueIdx.ix1 h)) t d) where
  pos t := 1024 * NF v0 + t.val
  ok t := 1024 * NF v0 + t.val < v0.toNat
  inj i j _ _ e := Fin.ext (by omega)
  mem p := by
    rw [Finset.mem_Ico]
    constructor
    · intro hp
      have : v0.toNat < 1024 * NF v0 + 1024 := by unfold NF; omega
      exact ⟨⟨p - 1024 * NF v0, by omega⟩, by dsimp only; omega, by dsimp only; omega⟩
    · rintro ⟨i, hi, rfl⟩
      omega
  s_ok t ht := by
    rw [lastSc_eq hv, if_pos ht]
    exact congrArg (dot g4 h r) (funext fun x => row_old (NF_lt hv) ht x)
  s_not t ht := by rw [lastSc_eq hv, if_neg ht]
  w_ok t ht := row_old (NF_lt hv) ht d

theorem stK_at (hv : v0.toNat ≤ 65532) (h : Fin 2) (r : Fin 64) : ∀ k ≤ NF v0,
    At (stK g2 g3 g4 (fun b h => kv A7 T b h) (fun b h => kv A8 T b h) (newSt g2 g3 g4 g5 g6) k) h r (scAt v0 g2 g4 g5 A7 T h r) (rowAt v0.toNat A8 T g3 g6 h)
      (Finset.Ico v0.toNat (v0.toNat + r.val / 16 + 1) ∪ Finset.range (1024 * k))
  | 0, _ => by
    have := (st0_at h r (scAt v0 g2 g4 g5 A7 T h r) (rowAt v0.toNat A8 T g3 g6 h)).step (newtok g2 g3 g4 g5 g6 h r)
      (newPart v0 g2 g3 g4 g5 g6 A7 A8 T h r) (Finset.disjoint_empty_left _)
    simpa [stK] using this
  | k + 1, hk => by
    have hn : 1024 * NF v0 ≤ v0.toNat := by unfold NF; omega
    have hk' := stK_at hv h r k (by omega)
    have := hk'.step (trip g2 g3 g4 (fun h => kv A7 T k h) (fun h => kv A8 T k h) _ h r)
      (tripPart v0 g2 g3 g4 g5 g6 A7 A8 T h r k (by have := NF_lt hv; omega) (by omega)) (by
        refine Finset.disjoint_left.2 fun p hp hq => ?_
        simp only [Finset.mem_union, Finset.mem_Ico, Finset.mem_range] at hp hq
        omega)
    have e : Finset.Ico v0.toNat (v0.toNat + r.val / 16 + 1) ∪ Finset.range (1024 * k) ∪ Finset.Ico (1024 * k) (1024 * (k + 1))
        = Finset.Ico v0.toNat (v0.toNat + r.val / 16 + 1) ∪ Finset.range (1024 * (k + 1)) := by
      ext p; simp only [Finset.mem_union, Finset.mem_Ico, Finset.mem_range]; omega
    rw [e] at this
    exact this

theorem res_at (hv : v0.toNat ≤ 65532) (h : Fin 2) (r : Fin 64) :
    At (resSt v0 g2 g3 g4 g5 g6 (fun b h => kv A7 T b h) (fun b h => kv A8 T b h)) h r (scAt v0 g2 g4 g5 A7 T h r) (rowAt v0.toNat A8 T g3 g6 h)
      (Finset.range (v0.toNat + r.val / 16 + 1)) := by
  have hn : 1024 * NF v0 ≤ v0.toNat := by unfold NF; omega
  have := (stK_at v0 g2 g3 g4 g5 g6 A7 A8 T hv h r (NF v0) le_rfl).step (fin v0 g2 g3 g4 (fun h => kv A7 T (NF v0) h) (fun h => kv A8 T (NF v0) h) _ h r)
    (finPart v0 g2 g3 g4 g5 g6 A7 A8 T hv h r) (by
      refine Finset.disjoint_left.2 fun p hp hq => ?_
      simp only [Finset.mem_union, Finset.mem_Ico, Finset.mem_range] at hp hq
      omega)
  have e : Finset.Ico v0.toNat (v0.toNat + r.val / 16 + 1) ∪ Finset.range (1024 * NF v0) ∪ Finset.Ico (1024 * NF v0) v0.toNat = Finset.range (v0.toNat + r.val / 16 + 1) := by
    ext p; simp only [Finset.mem_union, Finset.mem_Ico, Finset.mem_range]; omega
  rw [e] at this
  exact this

end Cert.KernelIdeal.Hand
-- ==== Proof.Ideal.Rows.lean ====
/-
  The kernel's first result: the weighted sums over the sums of the weights, row by row.
-/
module

public import proofs.«01_k».proof.Proof.Ideal.Result

@[expose] public section

set_option maxRecDepth 16384

noncomputable section

namespace Cert.KernelIdeal.Hand

open Cert.KernelIdeal Cert.KernelIdeal.Gen Cert.Hand
open Idealize.ShloMosaic

theorem q_off {V : Type} {n : ℕ} (hb : ∀ a, (![n, 0] : Fin 2 → ℕ) a + S16x256.size a ≤ S128x256.size a) (w : (Rect.unit (s := S128x256) ![n, 0] S16x256.size hb).shape.Idx → V) (f : S128x256.Idx → V) (j : Fin 128) (d : Fin 256)
    (h : j.val < n ∨ n + 16 ≤ j.val) : upd (Rect.unit (s := S128x256) ![n, 0] S16x256.size hb) w f (ix2 j d) = f (ix2 j d) := by
  refine upd_off _ w f _ fun ⟨i, e⟩ => ?_
  have h1 : ((Rect.unit (s := S128x256) ![n, 0] S16x256.size hb).emb i 0).val = j.val := by rw [e]; rfl
  have h0 : (i 0).val < 16 := (i 0).isLt
  simp [Rect.emb, Rect.unit] at h1
  omega

theorem y_0 (s : St Ideal) (g : S128x256.Idx → Ideal .bf16) (i : Fin 16) (d : Fin 256) :
    yOver s g (ix2 ⟨0 + i.val, by omega⟩ d) = Ideal.div (s.a (ix3 0 ⟨0 + i.val, by omega⟩ d)) (s.l (ix3 0 ⟨0 + i.val, by omega⟩ 0)) := by
  unfold yOver
  rw [q_off _ _ _ _ _ (.inl (by dsimp only; omega))]
  rw [q_off _ _ _ _ _ (.inl (by dsimp only; omega))]
  rw [q_off _ _ _ _ _ (.inl (by dsimp only; omega))]
  rw [q_off _ _ _ _ _ (.inl (by dsimp only; omega))]
  rw [q_off _ _ _ _ _ (.inl (by dsimp only; omega))]
  rw [q_off _ _ _ _ _ (.inl (by dsimp only; omega))]
  rw [q_off _ _ _ _ _ (.inl (by dsimp only; omega))]
  rw [← emb_q0, upd_at]
  pointwise [k0_pay105, k0_pay104, k0_pay103, k0_pay102]
  simp only [ldr_a0, ldr_m0]

theorem y_16 (s : St Ideal) (g : S128x256.Idx → Ideal .bf16) (i : Fin 16) (d : Fin 256) :
    yOver s g (ix2 ⟨16 + i.val, by omega⟩ d) = Ideal.div (s.a (ix3 1 ⟨0 + i.val, by omega⟩ d)) (s.l (ix3 1 ⟨0 + i.val, by omega⟩ 0)) := by
  unfold yOver
  rw [q_off _ _ _ _ _ (.inl (by dsimp only; omega))]
  rw [q_off _ _ _ _ _ (.inl (by dsimp only; omega))]
  rw [q_off _ _ _ _ _ (.inl (by dsimp only; omega))]
  rw [← emb_q16, upd_at]
  pointwise [k0_pay110, k0_pay109]
  simp only [ldr_a1, ldr_m1]

theorem y_32 (s : St Ideal) (g : S128x256.Idx → Ideal .bf16) (i : Fin 16) (d : Fin 256) :
    yOver s g (ix2 ⟨32 + i.val, by omega⟩ d) = Ideal.div (s.a (ix3 0 ⟨16 + i.val, by omega⟩ d)) (s.l (ix3 0 ⟨16 + i.val, by omega⟩ 0)) := by
  unfold yOver
  rw [q_off _ _ _ _ _ (.inl (by dsimp only; omega))]
  rw [q_off _ _ _ _ _ (.inl (by dsimp only; omega))]
  rw [q_off _ _ _ _ _ (.inl (by dsimp only; omega))]
  rw [q_off _ _ _ _ _ (.inr (by dsimp only; omega))]
  rw [q_off _ _ _ _ _ (.inl (by dsimp only; omega))]
  rw [q_off _ _ _ _ _ (.inl (by dsimp only; omega))]
  rw [← emb_q32, upd_at]
  pointwise [k0_pay106, k0_pay104, k0_pay103, k0_pay102]
  simp only [ldr_a0, ldr_m0]

theorem y_48 (s : St Ideal) (g : S128x256.Idx → Ideal .bf16) (i : Fin 16) (d : Fin 256) :
    yOver s g (ix2 ⟨48 + i.val, by omega⟩ d) = Ideal.div (s.a (ix3 1 ⟨16 + i.val, by omega⟩ d)) (s.l (ix3 1 ⟨16 + i.val, by omega⟩ 0)) := by
  unfold yOver
  rw [q_off _ _ _ _ _ (.inl (by dsimp only; omega))]
  rw [q_off _ _ _ _ _ (.inl (by dsimp only; omega))]
  rw [← emb_q48, upd_at]
  pointwise [k0_pay111, k0_pay109]
  simp only [ldr_a1, ldr_m1]

theorem y_64 (s : St Ideal) (g : S128x256.Idx → Ideal .bf16) (i : Fin 16) (d : Fin 256) :
    yOver s g (ix2 ⟨64 + i.val, by omega⟩ d) = Ideal.div (s.a (ix3 0 ⟨32 + i.val, by omega⟩ d)) (s.l (ix3 0 ⟨32 + i.val, by omega⟩ 0)) := by
  unfold yOver
  rw [q_off _ _ _ _ _ (.inl (by dsimp only; omega))]
  rw [q_off _ _ _ _ _ (.inl (by dsimp only; omega))]
  rw [q_off _ _ _ _ _ (.inr (by dsimp only; omega))]
  rw [q_off _ _ _ _ _ (.inr (by dsimp only; omega))]
  rw [q_off _ _ _ _ _ (.inl (by dsimp only; omega))]
  rw [← emb_q64, upd_at]
  pointwise [k0_pay107, k0_pay104, k0_pay103, k0_pay102]
  simp only [ldr_a0, ldr_m0]

theorem y_80 (s : St Ideal) (g : S128x256.Idx → Ideal .bf16) (i : Fin 16) (d : Fin 256) :
    yOver s g (ix2 ⟨80 + i.val, by omega⟩ d) = Ideal.div (s.a (ix3 1 ⟨32 + i.val, by omega⟩ d)) (s.l (ix3 1 ⟨32 + i.val, by omega⟩ 0)) := by
  unfold yOver
  rw [q_off _ _ _ _ _ (.inl (by dsimp only; omega))]
  rw [← emb_q80, upd_at]
  pointwise [k0_pay1, k0_pay109]
  simp only [ldr_a1, ldr_m1]

theorem y_96 (s : St Ideal) (g : S128x256.Idx → Ideal .bf16) (i : Fin 16) (d : Fin 256) :
    yOver s g (ix2 ⟨96 + i.val, by omega⟩ d) = Ideal.div (s.a (ix3 0 ⟨48 + i.val, by omega⟩ d)) (s.l (ix3 0 ⟨48 + i.val, by omega⟩ 0)) := by
  unfold yOver
  rw [q_off _ _ _ _ _ (.inl (by dsimp only; omega))]
  rw [q_off _ _ _ _ _ (.inr (by dsimp only; omega))]
  rw [q_off _ _ _ _ _ (.inr (by dsimp only; omega))]
  rw [q_off _ _ _ _ _ (.inr (by dsimp only; omega))]
  rw [← emb_q96, upd_at]
  pointwise [k0_pay108, k0_pay104, k0_pay103, k0_pay102]
  simp only [ldr_a0, ldr_m0]

theorem y_112 (s : St Ideal) (g : S128x256.Idx → Ideal .bf16) (i : Fin 16) (d : Fin 256) :
    yOver s g (ix2 ⟨112 + i.val, by omega⟩ d) = Ideal.div (s.a (ix3 1 ⟨48 + i.val, by omega⟩ d)) (s.l (ix3 1 ⟨48 + i.val, by omega⟩ 0)) := by
  unfold yOver
  rw [← emb_q112, upd_at]
  pointwise [k0_pay2, k0_pay109]
  simp only [ldr_a1, ldr_m1]

theorem y_at (s : St Ideal) (g : S128x256.Idx → Ideal .bf16) (h : Fin 2) (r : Fin 64) (d : Fin 256) :
    yOver s g (ix2 (qRow h r) d) = Ideal.div (s.a (ix3 h r d)) (s.l (ix3 h r 0)) := by
  obtain ⟨r, hr⟩ := r
  obtain ⟨h, hh⟩ := h
  obtain ⟨i, q, hq, rfl⟩ : ∃ (i : Fin 16) (q : Fin 4) (hq : 16 * q.val + i.val < 64), r = 16 * q.val + i.val := ⟨⟨r % 16, by omega⟩, ⟨r / 16, by omega⟩, by dsimp only; omega, by dsimp only; omega⟩
  have hi := i.isLt
  have e : qRow ⟨h, hh⟩ ⟨16 * q.val + i.val, hr⟩ = ⟨32 * q.val + 16 * h + i.val, by omega⟩ := Fin.ext (by unfold qRow; dsimp only; omega)
  rw [e]
  have hh' : h = 0 ∨ h = 1 := by omega
  rcases hh' with rfl | rfl <;> fin_cases q
  · exact y_0 s g i d
  · exact y_32 s g i d
  · exact y_64 s g i d
  · exact y_96 s g i d
  · exact y_16 s g i d
  · exact y_48 s g i d
  · exact y_80 s g i d
  · exact y_112 s g i d

variable (v0 : BitVec 32) (g2 g3 : S2.Idx → Ideal .f32) (g4 : S128x256.Idx → Ideal .bf16) (g5 g6 : S8x256.Idx → Ideal .bf16) (A7 A8 : S512x2x128x256.Idx → Ideal .fp8e4m3) (T : S512.Idx → BitVec 32)

/-- Row `(h, r)` of the kernel's first result attends to positions `0`, …, `seq_len + r / 16`. -/
theorem y_res (hv : v0.toNat ≤ 65532) (g : S128x256.Idx → Ideal .bf16) (h : Fin 2) (r : Fin 64) (d : Fin 256) :
    yOver (resSt v0 g2 g3 g4 g5 g6 (fun b h => kv A7 T b h) (fun b h => kv A8 T b h)) g (ix2 (qRow h r) d)
      = attend (scAt v0 g2 g4 g5 A7 T h r) (fun p => rowAt v0.toNat A8 T g3 g6 h p d) (Finset.range (v0.toNat + r.val / 16 + 1)) := by
  have H := res_at v0 g2 g3 g4 g5 g6 A7 A8 T hv h r
  rw [y_at, H.a, H.l]
  rfl

end Cert.KernelIdeal.Hand
-- ==== Proof.Ideal.Frame.lean ====
/-
  The region's launch: what it holds on entry dealt out to the body, the body's run, and what the run leaves.
-/
module

public import proofs.«01_k».proof.Proof.Ideal.Body
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A pool's shares and a buffer's slots dealt out, and back -/

section Deal

variable (c : Dev nD) (M : Memref sig .tc .vmem S4x8x2x128x256 .fp8e4m3) (A : Memref sig .tc .hbm S512x2x128x256 .fp8e4m3)
  (S : DmaSems sig S4) (fA : Buf (Elt F) (A.view.loc (c : Thread nD τ)))

theorem drop_add (q : PosShare TreeShare) (m : ℕ) : ∀ n, Transfers.shareDrop (Transfers.shareDrop q m) n = Transfers.shareDrop q (m + n)
  | 0 => rfl
  | n + 1 => congrArg PosShare.left (drop_add q m n)

theorem toks_split (s : Fin 4) :
    (A.view.loc (c : Thread nD τ) ↦[A.view.set]{Transfers.shareDrop fullShare (8 * s.val)} fA : sProp 𝕄)
      ⊢ iprop((A.view.loc (c : Thread nD τ) ↦[A.view.set]{Transfers.shareDrop fullShare (8 * s.val + 8)} fA)
        ∗ bigSep Finset.univ (fun j : Fin 8 => A.view.loc (c : Thread nD τ) ↦[A.view.set]{tk s j} fA)) := by
  have h := Transfers.pointsTo_toks_split (Ix := Unit) (Name := ℕ) (U := Pipeline.UD sig nD τ) (Lvl := ℕ)
    (ℓ := A.view.loc (c : Thread nD τ)) (S := A.view.set) (f := fA) (Transfers.shareDrop fullShare (8 * s.val)) 8
  rw [drop_add] at h
  refine h.trans (Entails.of_eq ?_)
  congr 2
  funext j
  show _ = (A.view.loc (c : Thread nD τ) ↦[A.view.set]{Transfers.shareTokN fullShare (8 * s.val + j.val)} fA : sProp 𝕄)
  rw [show Transfers.shareTok (Transfers.shareDrop fullShare (8 * s.val)) 8 j = Transfers.shareTokN fullShare (8 * s.val + j.val) from
    congrArg PosShare.right (drop_add _ _ _)]

theorem toks_join (s : Fin 4) :
    iprop((A.view.loc (c : Thread nD τ) ↦[A.view.set]{Transfers.shareDrop fullShare (8 * s.val + 8)} fA)
        ∗ bigSep Finset.univ (fun j : Fin 8 => A.view.loc (c : Thread nD τ) ↦[A.view.set]{tk s j} fA))
      ⊢ (A.view.loc (c : Thread nD τ) ↦[A.view.set]{Transfers.shareDrop fullShare (8 * s.val)} fA : sProp 𝕄) := by
  have h := Transfers.pointsTo_toks_join (Ix := Unit) (Name := ℕ) (U := Pipeline.UD sig nD τ) (Lvl := ℕ)
    (ℓ := A.view.loc (c : Thread nD τ)) (S := A.view.set) (f := fA) (Transfers.shareDrop fullShare (8 * s.val)) 8
  rw [drop_add] at h
  refine (Entails.of_eq ?_).trans h
  congr 2
  funext j
  show (A.view.loc (c : Thread nD τ) ↦[A.view.set]{Transfers.shareTokN fullShare (8 * s.val + j.val)} fA : sProp 𝕄) = _
  rw [show Transfers.shareTok (Transfers.shareDrop fullShare (8 * s.val)) 8 j = Transfers.shareTokN fullShare (8 * s.val + j.val) from
    congrArg PosShare.right (drop_add _ _ _)]

theorem slots_split (f : Buf (Elt F) (M.view.loc (c : Thread nD τ))) :
    (M.view.loc (c : Thread nD τ) ↦[M.view.set]{fullShare} f : sProp 𝕄)
      = iprop((M.view.loc (c : Thread nD τ) ↦[slotSet c M 0]{fullShare} f) ∗ (M.view.loc (c : Thread nD τ) ↦[slotSet c M 1]{fullShare} f)
        ∗ (M.view.loc (c : Thread nD τ) ↦[slotSet c M 2]{fullShare} f) ∗ (M.view.loc (c : Thread nD τ) ↦[slotSet c M 3]{fullShare} f)) := by
  have e := (slots_univ c M).symm
  rw [e, pointsTo_biUnion Finset.univ (fun s => slotSet c M s) (fun s _ s' _ h => slot_disjoint c M h),
    bigSep_univ_eq_bigSepL [(0 : Fin 4), 1, 2, 3] (by decide) (by decide)]
  rfl

theorem slots_join :
    iprop((∃ f, M.view.loc (c : Thread nD τ) ↦[slotSet c M 0]{fullShare} f) ∗ (∃ f, M.view.loc (c : Thread nD τ) ↦[slotSet c M 1]{fullShare} f)
        ∗ (∃ f, M.view.loc (c : Thread nD τ) ↦[slotSet c M 2]{fullShare} f) ∗ (∃ f, M.view.loc (c : Thread nD τ) ↦[slotSet c M 3]{fullShare} f))
      ⊢ (iprop(∃ f, M.view.loc (c : Thread nD τ) ↦[M.view.set]{fullShare} f) : sProp 𝕄) := by
  iintro ⟨⟨%f0, H0⟩, ⟨%f1, H1⟩, ⟨%f2, H2⟩, ⟨%f3, H3⟩⟩
  have h := pointsTo_biUnion_join (Ix := Unit) (Val := Elt F) (Name := ℕ) (U := Pipeline.UD sig nD τ) (Lvl := ℕ) (q := fullShare)
    (ℓ := M.view.loc (c : Thread nD τ)) Finset.univ (fun s => slotSet c M s)
    (![f0, f1, f2, f3] : Fin 4 → Buf (Elt F) (M.view.loc (c : Thread nD τ))) f0 (fun s _ s' _ h => slot_disjoint c M h)
  rw [bigSep_univ_eq_bigSepL [(0 : Fin 4), 1, 2, 3] (by decide) (by decide), slots_univ] at h
  have h' : iprop((M.view.loc (c : Thread nD τ) ↦[slotSet c M 0]{fullShare} f0) ∗ (M.view.loc (c : Thread nD τ) ↦[slotSet c M 1]{fullShare} f1)
        ∗ (M.view.loc (c : Thread nD τ) ↦[slotSet c M 2]{fullShare} f2) ∗ (M.view.loc (c : Thread nD τ) ↦[slotSet c M 3]{fullShare} f3)) ⊢ _ := h
  ihave H := h' $$ [H0 H1 H2 H3]
  · isplitl [H0]; · iexact H0
    isplitl [H1]; · iexact H1
    isplitl [H2]; · iexact H2
    iexact H3
  icases H with ⟨%g, -, H⟩
  iexists g; iexact H

theorem frees_split :
    iprop((∃ f, M.view.loc (c : Thread nD τ) ↦[M.view.set]{fullShare} f)
      ∗ semVal ((c : Thread nD τ), SemLoc.dma (semP S 0)) 0 ∗ semVal ((c : Thread nD τ), SemLoc.dma (semP S 1)) 0
      ∗ semVal ((c : Thread nD τ), SemLoc.dma (semP S 2)) 0 ∗ semVal ((c : Thread nD τ), SemLoc.dma (semP S 3)) 0
      ∗ (A.view.loc (c : Thread nD τ) ↦[A.view.set]{fullShare} fA))
      ⊢ iprop(Free c M A S fA tk 0 ∗ Free c M A S fA tk 1 ∗ Free c M A S fA tk 2 ∗ Free c M A S fA tk 3
        ∗ (A.view.loc (c : Thread nD τ) ↦[A.view.set]{Transfers.shareDrop fullShare 32} fA) : sProp 𝕄) := by
  unfold Free
  iintro ⟨⟨%f, HM⟩, Hs0, Hs1, Hs2, Hs3, HA⟩
  ihave HM := (Entails.of_eq (slots_split c M f)) $$ HM
  icases HM with ⟨H0, H1, H2, H3⟩
  ihave HA := (show (A.view.loc (c : Thread nD τ) ↦[A.view.set]{fullShare} fA : sProp 𝕄) ⊢ _ from toks_split c A fA 0) $$ HA
  icases HA with ⟨HA, T0⟩
  ihave HA := (toks_split c A fA 1) $$ HA
  icases HA with ⟨HA, T1⟩
  ihave HA := (toks_split c A fA 2) $$ HA
  icases HA with ⟨HA, T2⟩
  ihave HA := (toks_split c A fA 3) $$ HA
  icases HA with ⟨HA, T3⟩
  isplitl [H0 Hs0 T0]
  · isplitl [H0]; · iexists f; iexact H0
    isplitl [Hs0] <;> iassumption
  isplitl [H1 Hs1 T1]
  · isplitl [H1]; · iexists f; iexact H1
    isplitl [Hs1] <;> iassumption
  isplitl [H2 Hs2 T2]
  · isplitl [H2]; · iexists f; iexact H2
    isplitl [Hs2] <;> iassumption
  isplitl [H3 Hs3 T3]
  · isplitl [H3]; · iexists f; iexact H3
    isplitl [Hs3] <;> iassumption
  iexact HA

theorem frees_join :
    iprop(Free c M A S fA tk 0 ∗ Free c M A S fA tk 1 ∗ Free c M A S fA tk 2 ∗ Free c M A S fA tk 3
        ∗ (A.view.loc (c : Thread nD τ) ↦[A.view.set]{Transfers.shareDrop fullShare 32} fA))
      ⊢ iprop((∃ f, M.view.loc (c : Thread nD τ) ↦[M.view.set]{fullShare} f)
      ∗ semVal ((c : Thread nD τ), SemLoc.dma (semP S 0)) 0 ∗ semVal ((c : Thread nD τ), SemLoc.dma (semP S 1)) 0
      ∗ semVal ((c : Thread nD τ), SemLoc.dma (semP S 2)) 0 ∗ semVal ((c : Thread nD τ), SemLoc.dma (semP S 3)) 0
      ∗ (A.view.loc (c : Thread nD τ) ↦[A.view.set]{fullShare} fA) : sProp 𝕄) := by
  unfold Free
  iintro ⟨⟨H0, Hs0, T0⟩, ⟨H1, Hs1, T1⟩, ⟨H2, Hs2, T2⟩, ⟨H3, Hs3, T3⟩, HA⟩
  isplitl [H0 H1 H2 H3]
  · iapply (slots_join c M)
    isplitl [H0]; · iexact H0
    isplitl [H1]; · iexact H1
    isplitl [H2]; · iexact H2
    iexact H3
  isplitl [Hs0]; · iexact Hs0
  isplitl [Hs1]; · iexact Hs1
  isplitl [Hs2]; · iexact Hs2
  isplitl [Hs3]; · iexact Hs3
  ihave HA := (toks_join c A fA 3) $$ [HA T3]
  · isplitl [HA] <;> iassumption
  ihave HA := (toks_join c A fA 2) $$ [HA T2]
  · isplitl [HA] <;> iassumption
  ihave HA := (toks_join c A fA 1) $$ [HA T1]
  · isplitl [HA] <;> iassumption
  iapply (toks_join c A fA 0)
  isplitl [HA] <;> iassumption

end Deal

theorem owns_own {sp : CoreSpace} {s : Shape} {e : EltTy} (c : Dev nD) (M : Memref sig .tc sp s e) (g : s.Idx → Elt F e) :
    (owns (c : Thread nD τ) M fullShare g : sProp 𝕄) = Own c M g := rfl

theorem own_open {sp : CoreSpace} {s : Shape} {e : EltTy} (c : Dev nD) (M : Memref sig .tc sp s e) (g : s.Idx → Elt F e) :
    (Own c M g : sProp 𝕄) ⊢ iprop(∃ f, ⌜M.view.read (Elt F) f = g⌝ ∗ M.view.loc (c : Thread nD τ) ↦[M.view.set]{fullShare} f) := .rfl

theorem own_close {sp : CoreSpace} {s : Shape} {e : EltTy} (c : Dev nD) (M : Memref sig .tc sp s e) {g : s.Idx → Elt F e}
    (f : Buf (Elt F) (M.view.loc (c : Thread nD τ))) (h : M.view.read (Elt F) f = g) :
    (M.view.loc (c : Thread nD τ) ↦[M.view.set]{fullShare} f : sProp 𝕄) ⊢ Own c M g := by
  unfold Own
  iintro H; iexists f; isplitr; · ipureintro; exact h
  iexact H

/-! ## The first result does not depend on what the buffer held -/

theorem upd_hit {s : Shape} {V : Type} (r : Rect s) (w : r.shape.Idx → V) (g g' : s.Idx → V) (j : s.Idx) (h : ∃ i, r.emb i = j) :
    upd r w g j = upd r w g' j := by
  unfold upd; rw [dif_pos h, dif_pos h]
theorem upd_next {s : Shape} {V : Type} (r : Rect s) (w : r.shape.Idx → V) (g g' : s.Idx → V) (j : s.Idx) (h : g j = g' j) :
    upd r w g j = upd r w g' j := by
  unfold upd; rw [h]

theorem row_hit (o : ℕ) (inb : ∀ a, (![o, 0] : Fin 2 → ℕ) a + S16x256.size a ≤ S128x256.size a) (j : S128x256.Idx)
    (h : o ≤ (j 0).val) (h' : (j 0).val < o + 16) :
    ∃ i, (Rect.unit (s := S128x256) ![o, 0] S16x256.size inb).emb i = j := by
  refine ⟨ix2 ⟨(j 0).val - o, by omega⟩ ⟨(j 1).val, (j 1).isLt⟩, ?_⟩
  funext a
  match a with
  | ⟨0, _⟩ => exact Fin.ext (by show o + 1 * ((j 0).val - o) = (j 0).val; omega)
  | ⟨1, _⟩ => exact Fin.ext (by show 0 + 1 * (j 1).val = (j 1).val; omega)

theorem yOver_indep (s : St F) (g g' : S128x256.Idx → F .bf16) : yOver s g = yOver s g' := by
  funext j
  unfold yOver
  have hj : (j 0).val < 128 := (j 0).isLt
  by_cases h7 : 112 ≤ (j 0).val
  · exact upd_hit _ _ _ _ _ (row_hit 112 _ j h7 (by omega))
  apply upd_next
  by_cases h5 : 80 ≤ (j 0).val ∧ (j 0).val < 96
  · exact upd_hit _ _ _ _ _ (row_hit 80 _ j h5.1 h5.2)
  apply upd_next
  by_cases h3 : 48 ≤ (j 0).val ∧ (j 0).val < 64
  · exact upd_hit _ _ _ _ _ (row_hit 48 _ j h3.1 h3.2)
  apply upd_next
  by_cases h1 : 16 ≤ (j 0).val ∧ (j 0).val < 32
  · exact upd_hit _ _ _ _ _ (row_hit 16 _ j h1.1 h1.2)
  apply upd_next
  by_cases h6 : 96 ≤ (j 0).val
  · exact upd_hit _ _ _ _ _ (row_hit 96 _ j h6 (by omega))
  apply upd_next
  by_cases h4 : 64 ≤ (j 0).val
  · exact upd_hit _ _ _ _ _ (row_hit 64 _ j h4 (by omega))
  apply upd_next
  by_cases h2 : 32 ≤ (j 0).val
  · exact upd_hit _ _ _ _ _ (row_hit 32 _ j h2 (by omega))
  apply upd_next
  exact upd_hit _ _ _ _ _ (row_hit 0 _ j (by omega) (by omega))

/-! ## The region's proof data -/

variable (m : (ℓ : Loc nD τ sig) → Buf (Elt F) ℓ) (ρ : Dev nD → PrngReg)

/-- The eight cells of the two rings. -/
abbrev osem0 : Fin 8 → SemLoc sig := fun j => (![SemLoc.dma 10, SemLoc.dma 11, SemLoc.dma 12, SemLoc.dma 13, SemLoc.dma 14, SemLoc.dma 15, SemLoc.dma 16, SemLoc.dma 17] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semP cc0_scratch5 0)) 0 ∗ semVal ((c : Thread nD τ), SemLoc.dma (semP cc0_scratch5 1)) 0
          ∗ semVal ((c : Thread nD τ), SemLoc.dma (semP cc0_scratch5 2)) 0 ∗ semVal ((c : Thread nD τ), SemLoc.dma (semP cc0_scratch5 3)) 0
          ∗ semVal ((c : Thread nD τ), SemLoc.dma (semP cc0_scratch6 0)) 0 ∗ semVal ((c : Thread nD τ), SemLoc.dma (semP cc0_scratch6 1)) 0
          ∗ semVal ((c : Thread nD τ), SemLoc.dma (semP cc0_scratch6 2)) 0 ∗ semVal ((c : Thread nD τ), SemLoc.dma (semP cc0_scratch6 3)) 0) := by
  rw [Pipeline.ownSems0_eq_of_list c osem0 [0, 1, 2, 3, 4, 5, 6, 7] (by decide) (by decide)]; rfl

/-- The two pools the body's transfers read. -/
def H0 : Finset (Ref sig .tc) := {main_v4, main_v5}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v4) ↦{fullShare} V m c main_v4) ∗ (((c : Thread nD τ).loc main_v5) ↦{fullShare} V m c main_v5)) := by
  rw [BI.bigSep_eq_bigSepL_of_eq [main_v4, main_v5] (by decide) (by decide)]; rfl

abbrev A7 : Memref sig .tc .hbm S512x2x128x256 .fp8e4m3 := Memref.whole main_v4
abbrev A8 : Memref sig .tc .hbm S512x2x128x256 .fp8e4m3 := Memref.whole main_v5
abbrev M12 : Memref sig .tc .vmem S4x8x2x128x256 .fp8e4m3 := Memref.whole cc0_scratch0
abbrev M13 : Memref sig .tc .vmem S4x8x2x128x256 .fp8e4m3 := Memref.whole cc0_scratch1

theorem whole_pt {sp : CoreSpace} {s : Shape} {e : EltTy} (c : Dev nD) (b : Ref sig .tc) (q : PosShare TreeShare) (f : Buf (Elt F) ((c : Thread nD τ).loc b)) :
    ((c : Thread nD τ).loc b ↦{q} f : sProp 𝕄)
      = ((Memref.whole b).view.loc (c : Thread nD τ) ↦[(Memref.whole b).view.set]{q} f) := by
  rw [show (Memref.whole b).view.set = Finset.univ from View.set_whole b]

/-- The state the body ends in, from the arrays the region finds. -/
noncomputable def resAt (c : Dev nD) (t : Fin cfg0.N) : St F :=
  resSt (iblk m c 0 t (ix1 0)) (iblk m c 2 t) (iblk m c 3 t) (iblk m c 4 t) (iblk m c 5 t) (iblk m c 6 t)
    (fun b h => kv (A7.view.read (Elt F) (V m c main_v4)) (iblk m c 1 t) b h)
    (fun b h => kv (A8.view.read (Elt F) (V m c main_v5)) (iblk m c 1 t) b h)

noncomputable def yAt (c : Dev nD) (t : Fin cfg0.N) : S128x256.Idx → F .bf16 := yOver (resAt m c t) (fun _ => FloatOps.ofBits (F := F) .bf16 0#16)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => kCodes (iblk m c 2 t) (iblk m c 5 t)
    | ⟨9, _⟩ => vCodes (iblk m c 3 t) (iblk m c 6 t)
    | ⟨_ + 10, h⟩ => absurd h (Nat.not_lt.2 (Nat.le_add_left 10 _))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = yAt m c t := by dsimp only [dats]
theorem after0_8 (c : Dev nD) (t : Fin cfg0.N) : (dats m 0 c).after 8 t = kCodes (iblk m c 2 t) (iblk m c 5 t) := by dsimp only [dats]
theorem after0_9 (c : Dev nD) (t : Fin cfg0.N) : (dats m 0 c).after 9 t = vCodes (iblk m c 3 t) (iblk m c 6 t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem PhiD0_eq (c : Dev nD) :
    (Pipeline.ΦD osem0 spec0 H0 (V m) c : sProp 𝕄)
      = iprop(iprop((∃ f, M12.view.loc (c : Thread nD τ) ↦[M12.view.set]{fullShare} f) ∗ (∃ f, M13.view.loc (c : Thread nD τ) ↦[M13.view.set]{fullShare} f)
                ∗ (∃ d, owns (c : Thread nD τ) (Memref.whole cc0_scratch2) fullShare d) ∗ (∃ d, owns (c : Thread nD τ) (Memref.whole cc0_scratch3) fullShare d)
                ∗ (∃ d, owns (c : Thread nD τ) (Memref.whole cc0_scratch4) fullShare d))
          ∗ (∃ r, prngReg c r)
          ∗ iprop(semVal ((c : Thread nD τ), SemLoc.dma (semP cc0_scratch5 0)) 0 ∗ semVal ((c : Thread nD τ), SemLoc.dma (semP cc0_scratch5 1)) 0
          ∗ semVal ((c : Thread nD τ), SemLoc.dma (semP cc0_scratch5 2)) 0 ∗ semVal ((c : Thread nD τ), SemLoc.dma (semP cc0_scratch5 3)) 0
          ∗ semVal ((c : Thread nD τ), SemLoc.dma (semP cc0_scratch6 0)) 0 ∗ semVal ((c : Thread nD τ), SemLoc.dma (semP cc0_scratch6 1)) 0
          ∗ semVal ((c : Thread nD τ), SemLoc.dma (semP cc0_scratch6 2)) 0 ∗ semVal ((c : Thread nD τ), SemLoc.dma (semP cc0_scratch6 3)) 0)
          ∗ iprop((A7.view.loc (c : Thread nD τ) ↦[A7.view.set]{fullShare} V m c main_v4) ∗ (A8.view.loc (c : Thread nD τ) ↦[A8.view.set]{fullShare} V m c main_v5))) := by
  rw [Pipeline.ΦD_eq, scopedRest0_eq, ownSems00_eq, hbmPts0_eq]
  simp only [owns_whole]
  rw [show M12.view.set = Finset.univ from View.set_whole _, show M13.view.set = Finset.univ from View.set_whole _,
    show A7.view.set = Finset.univ from View.set_whole _, show A8.view.set = Finset.univ from View.set_whole _]
  try rfl

set_option maxHeartbeats 1600000 in
theorem sound_body (c : Dev nD) (t : Fin cfg0.N) (hv : (iblk m c 0 t (ix1 0) : BitVec 32).toNat ≤ 65532)
    (hT : ∀ i : S512.Idx, (iblk m c 1 t i : BitVec 32).toNat < 512) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [before0_0, before0_1, before0_2, before0_3, before0_4, before0_5, before0_6]
  rw [after0_0, after0_1, after0_2, after0_3, after0_4, after0_5, after0_6, after0_7, after0_8, after0_9]
  simp only [owns_own]
  iintro ⟨⟨⟨HM0, HM1, ⟨%g14, HS2⟩, ⟨%g15, HS3⟩, ⟨%g16, HS4⟩⟩, Hg, ⟨Hq0, Hq1, Hq2, Hq3, Hr0, Hr1, Hr2, Hr3⟩, ⟨HA7, HA8⟩⟩, ⟨%W, -, HW⟩,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HFK := (frees_split c M12 A7 cc0_scratch5 (V m c main_v4)) $$ [HM0 Hq0 Hq1 Hq2 Hq3 HA7]
  · isplitl [HM0]; · iexact HM0
    isplitl [Hq0]; · iexact Hq0
    isplitl [Hq1]; · iexact Hq1
    isplitl [Hq2]; · iexact Hq2
    isplitl [Hq3]; · iexact Hq3
    iexact HA7
  ihave HFV := (frees_split c M13 A8 cc0_scratch6 (V m c main_v5)) $$ [HM1 Hr0 Hr1 Hr2 Hr3 HA8]
  · isplitl [HM1]; · iexact HM1
    isplitl [Hr0]; · iexact Hr0
    isplitl [Hr1]; · iexact Hr1
    isplitl [Hr2]; · iexact Hr2
    isplitl [Hr3]; · iexact Hr3
    iexact HA8
  icases HFK with ⟨FK0, FK1, FK2, FK3, HA7⟩
  icases HFV with ⟨FV0, FV1, FV2, FV3, HA8⟩
  ihave H1 := (own_open c (st0_1 t) (iblk m c 1 t)) $$ H1
  icases H1 with ⟨%fT, %eT, H1⟩
  have hT' : ∀ i : S512.Idx, BitVec.toNat (w := 32) ((st0_1 t).view.read (Elt F) fT i) < 512 := fun i => by rw [eT]; exact hT i
  iapply (body_run (F := F) c (st0_0 t) _ (st0_1 t) _ (st0_2 t) _ (st0_3 t) _ (st0_4 t) _ (st0_5 t) _ (st0_6 t) _
      A7 _ A8 _ (st0_7 t) _ (st0_8 t) _ (st0_9 t) _ M12 _ M13 _ (Memref.whole cc0_scratch2) _ (Memref.whole cc0_scratch3) _ (Memref.whole cc0_scratch4) _
      cc0_scratch5 cc0_scratch6 (fT := fT) (fA7 := V m c main_v4) (fA8 := V m c main_v5)
      (g0 := iblk m c 0 t) (g2 := iblk m c 2 t) (g3 := iblk m c 3 t) (g4 := iblk m c 4 t) (g5 := iblk m c 5 t) (g6 := iblk m c 6 t)
      (g9 := (dats m 0 c).before 7 t d7) (g10 := (dats m 0 c).before 8 t d8) (g11 := (dats m 0 c).before 9 t d9) (g14 := g14) (g15 := g15) (g16 := g16) hv hT') $$ [H0 H1 H2 H3 H4 H5 H6 H7 H8 H9 HS2 HS3 HS4 HW FK0 FK1 FK2 FK3 FV0 FV1 FV2 FV3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS2]; · iexact HS2
    isplitl [HS3]; · iexact HS3
    isplitl [HS4]; · iexact HS4
    isplitl [HW]; · iexists W; iexact HW
    isplitl [FK0]; · iexact FK0
    isplitl [FV0]; · iexact FV0
    isplitl [FK1]; · iexact FK1
    isplitl [FV1]; · iexact FV1
    isplitl [FK2]; · iexact FK2
    isplitl [FV2]; · iexact FV2
    isplitl [FK3]; · iexact FK3
    iexact FV3
  rw [eT, yOver_indep _ _ (fun _ => FloatOps.ofBits (F := F) .bf16 0#16)]
  iintro ⟨H0, H1, H2, H3, H4, H5, H6, H7, H8, H9, HS2, HS3, HS4, ⟨%W', HW⟩, FK0, FV0, FK1, FV1, FK2, FV2, FK3, FV3⟩
  ihave HK := (frees_join c M12 A7 cc0_scratch5 (V m c main_v4)) $$ [FK0 FK1 FK2 FK3 HA7]
  · isplitl [FK0]; · iexact FK0
    isplitl [FK1]; · iexact FK1
    isplitl [FK2]; · iexact FK2
    isplitl [FK3]; · iexact FK3
    iexact HA7
  ihave HV := (frees_join c M13 A8 cc0_scratch6 (V m c main_v5)) $$ [FV0 FV1 FV2 FV3 HA8]
  · isplitl [FV0]; · iexact FV0
    isplitl [FV1]; · iexact FV1
    isplitl [FV2]; · iexact FV2
    isplitl [FV3]; · iexact FV3
    iexact HA8
  icases HK with ⟨HM0, Hq0, Hq1, Hq2, Hq3, HA7⟩
  icases HV with ⟨HM1, Hr0, Hr1, Hr2, Hr3, HA8⟩
  isplitl [HM0 HM1 HS2 HS3 HS4 Hg Hq0 Hq1 Hq2 Hq3 Hr0 Hr1 Hr2 Hr3 HA7 HA8]
  · isplitl [HM0 HM1 HS2 HS3 HS4]
    · isplitl [HM0]; · iexact HM0
      isplitl [HM1]; · iexact HM1
      isplitl [HS2]; · iexists _; iexact HS2
      isplitl [HS3]; · iexists _; iexact HS3
      iexists _; iexact HS4
    isplitl [Hg]; · iexact Hg
    isplitl [Hq0 Hq1 Hq2 Hq3 Hr0 Hr1 Hr2 Hr3]
    · isplitl [Hq0]; · iexact Hq0
      isplitl [Hq1]; · iexact Hq1
      isplitl [Hq2]; · iexact Hq2
      isplitl [Hq3]; · iexact Hq3
      isplitl [Hr0]; · iexact Hr0
      isplitl [Hr1]; · iexact Hr1
      isplitl [Hr2]; · iexact Hr2
      iexact Hr3
    isplitl [HA7]; · iexact HA7
    iexact HA8
  isplitl [HW]
  · iexists W'; isplitr; · ipureintro; exact fun _ _ => Or.inl trivial
    iexact HW
  isplitl [H0]; · iexact H0
  isplitl [H1]; · iapply (own_close c (st0_1 t) fT eT); iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- What the region's arrays must hold: a length and page numbers the body's checks pass. -/
def Good : Prop := ∀ (c : Dev nD) (t : Fin cfg0.N), (iblk m c 0 t (ix1 0) : BitVec 32).toNat ≤ 65532
  ∧ ∀ i : S512.Idx, (iblk m c 1 t i : BitVec 32).toNat < 512

theorem body_obligation (hg : Good m) (c : Dev nD) : BodyObligation (dats (F := F) m 0 c) (defs₀ (F := F)) Variants.none () Set.univ := fun t => by
  rw [bigSep_W0, bigSep_W0, defs₀_row]
  exact triple_restated (sound_body m c t (hg c t).1 (hg c t).2) rfl .rfl fun _ => .rfl

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main (hg : Good m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hg c).loose) (hshare := fun c => (dats m 0 c).share_full fun _ => rfl)
    (howed := fun _ _ => rfl) (V := V m) (hmain := hmainD m Variants.none) (hA := A_eq m)
    (hin := fun _ => .rfl) (hout := fun _ => .rfl)

theorem args_of {r} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).2 main_arg7 (Pipeline.mem_restRefs_of main_arg7 (by decide) (by decide))).trans (V_main_arg7 m c),
      ((h c).1 0).trans (((dats m 0 c).arrAt_in 0 rfl _).trans ((A_eq m c 0).trans (V_main_arg8 m c)))⟩

/-- The run leaves every argument as it was. -/
theorem frame (hg : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => args_of m h.1 c, h.2⟩) (run_main m ρ hg)

end Cert.KernelIdeal.Hand

end
-- ==== Proof.Ideal.Blocks.lean ====
/-
  The arrays the region finds: each window's block is its whole array, and the host's reshapes and transposes.
-/
module

public import proofs.«01_k».proof.Proof.Ideal.Frame
public import proofs.«01_k».proof.Proof.Pre
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.StableHlo

variable {F : FTy → Type} [FloatOps F]
variable (m : (ℓ : Loc nD τ sig) → Buf (Elt F) ℓ) (c : Dev nD) (t : Fin cfg0.N)

theorem idx : ∀ t : Fin cfg0.N, win0_0.index t = ![0] ∧ win0_1.index t = ![0] ∧ win0_2.index t = ![0] ∧ win0_3.index t = ![0]
    ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem blk0 : iblk m c 0 t = m ((c : Thread nD τ).loc main_arg8) := by
  rw [fin_N0 t, ← V_main_arg8 m c]; blk_ext! [iblk, idx t0_0]
theorem V_v0 : V m c main_v0 = shapeCast S512 (m ((c : Thread nD τ).loc main_arg7)) shapeCasts_S1x512_S512 := by
  unfold_abbrev_sides; after_results; rfl
theorem V_v1 : V m c main_v1 = shapeCast S128x256 (m ((c : Thread nD τ).loc main_arg0)) shapeCasts_S1x4x8192_S128x256 := by
  unfold_abbrev_sides; after_results; rfl
theorem V_v2 : V m c main_v2 = shapeCast S8x256 (m ((c : Thread nD τ).loc main_arg1)) shapeCasts_S1x4x2x256_S8x256 := by
  unfold_abbrev_sides; after_results; rfl
theorem V_v3 : V m c main_v3 = shapeCast S8x256 (m ((c : Thread nD τ).loc main_arg2)) shapeCasts_S1x4x2x256_S8x256 := by
  unfold_abbrev_sides; after_results; rfl
theorem V_v4 : V m c main_v4 = transpose S512x2x128x256 [0, 2, 1, 3] (m ((c : Thread nD τ).loc main_arg3)) transposes_S512x128x2x256_S512x2x128x256_0_2_1_3 := by
  unfold_abbrev_sides; after_results
theorem V_v5 : V m c main_v5 = transpose S512x2x128x256 [0, 2, 1, 3] (m ((c : Thread nD τ).loc main_arg4)) transposes_S512x128x2x256_S512x2x128x256_0_2_1_3 := by
  unfold_abbrev_sides; after_results
theorem blk1 : iblk m c 1 t = V m c main_v0 := by rw [fin_N0 t]; blk_ext! [iblk, idx t0_0]
theorem blk2 : iblk m c 2 t = m ((c : Thread nD τ).loc main_arg5) := by
  rw [fin_N0 t, ← V_main_arg5 m c]; blk_ext! [iblk, idx t0_0]
theorem blk3 : iblk m c 3 t = m ((c : Thread nD τ).loc main_arg6) := by
  rw [fin_N0 t, ← V_main_arg6 m c]; blk_ext! [iblk, idx t0_0]
theorem blk4 : iblk m c 4 t = V m c main_v1 := by rw [fin_N0 t]; blk_ext! [iblk, idx t0_0]
theorem blk5 : iblk m c 5 t = V m c main_v2 := by rw [fin_N0 t]; blk_ext! [iblk, idx t0_0]
theorem blk6 : iblk m c 6 t = V m c main_v3 := by rw [fin_N0 t]; blk_ext! [iblk, idx t0_0]

theorem good_of (h7 : ∀ c : Dev nD, ∀ i : S1x512.Idx, BitVec.toNat (w := 32) (m ((c : Thread nD τ).loc main_arg7) i) < 512)
    (h8 : ∀ c : Dev nD, ∀ i : S1.Idx, BitVec.toNat (w := 32) (m ((c : Thread nD τ).loc main_arg8) i) ≤ 65532) : Good m := by
  intro c t
  rw [blk0, blk1, V_v0]
  exact ⟨h8 c _, fun i => h7 c _⟩

end Cert.KernelIdeal.Hand

end
-- ==== Proof.Ideal.Final.lean ====
/-
  The arrays the kernel leaves.
-/
module

public import proofs.«01_k».proof.Proof.Ideal.Rows
public import proofs.«01_k».proof.Proof.Ideal.Blocks
public import Idealize.ShloMosaic.Lib.Pipeline.ValueKit

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic

variable (m : (ℓ : Loc nD τ sig) → Buf (Elt Ideal) ℓ) (c : Dev nD)

/-- The kernel's arguments as it is launched, and what the host makes of them. -/
abbrev aL : BitVec 32 := m ((c : Thread nD τ).loc main_arg8) (ix1 0)
abbrev aT : IVec S512 32 := shapeCast S512 (m ((c : Thread nD τ).loc main_arg7)) shapeCasts_S1x512_S512
abbrev aQ : FVec Ideal S128x256 .bf16 := shapeCast S128x256 (m ((c : Thread nD τ).loc main_arg0)) shapeCasts_S1x4x8192_S128x256
abbrev aK : FVec Ideal S8x256 .bf16 := shapeCast S8x256 (m ((c : Thread nD τ).loc main_arg1)) shapeCasts_S1x4x2x256_S8x256
abbrev aV : FVec Ideal S8x256 .bf16 := shapeCast S8x256 (m ((c : Thread nD τ).loc main_arg2)) shapeCasts_S1x4x2x256_S8x256
abbrev aA : FVec Ideal S512x2x128x256 .fp8e4m3 := transpose S512x2x128x256 [0, 2, 1, 3] (m ((c : Thread nD τ).loc main_arg3)) transposes_S512x128x2x256_S512x2x128x256_0_2_1_3
abbrev aB : FVec Ideal S512x2x128x256 .fp8e4m3 := transpose S512x2x128x256 [0, 2, 1, 3] (m ((c : Thread nD τ).loc main_arg4)) transposes_S512x128x2x256_S512x2x128x256_0_2_1_3

theorem yAt_eq (hL : (aL m c).toNat ≤ 65532) (h : Fin 2) (r : Fin 64) (d : Fin 256) : yAt m c t0_0 (ix2 (qRow h r) d)
    = attend (scAt (aL m c) (m ((c : Thread nD τ).loc main_arg5)) (aQ m c) (aK m c) (aA m c) (aT m c) h r)
        (fun p => rowAt (aL m c).toNat (aB m c) (aT m c) (m ((c : Thread nD τ).loc main_arg6)) (aV m c) h p d)
        (Finset.range ((aL m c).toNat + r.val / 16 + 1)) := by
  unfold yAt resAt
  rw [blk0, blk1, blk2, blk3, blk4, blk5, blk6, V_v0, V_v1, V_v2, V_v3,
    show A7.view.read (Elt Ideal) (V m c main_v4) = V m c main_v4 from rfl, show A8.view.read (Elt Ideal) (V m c main_v5) = V m c main_v5 from rfl, V_v4, V_v5]
  exact y_res _ _ _ _ _ _ _ _ _ hL _ _ _ _

theorem arr7 : (dats m 0 c).arrAt 7 cfg0.N = yAt m c t0_0 := by
  refine (dats m 0 c).arrAt_eq_of_after_last 7 t0_0 (by decide +kernel) _ fun j => ?_
  blk_simp
  rw [after0_7]

theorem arr8 : (dats m 0 c).arrAt 8 cfg0.N = kCodes (F := Ideal) (m ((c : Thread nD τ).loc main_arg5)) (aK m c) := by
  refine (dats m 0 c).arrAt_eq_of_after_last 8 t0_0 (by decide +kernel) _ fun j => ?_
  blk_simp
  rw [after0_8, blk2, blk5, V_v2]

theorem arr9 : (dats m 0 c).arrAt 9 cfg0.N = vCodes (F := Ideal) (m ((c : Thread nD τ).loc main_arg6)) (aV m c) := by
  refine (dats m 0 c).arrAt_eq_of_after_last 9 t0_0 (by decide +kernel) _ fun j => ?_
  blk_simp
  rw [after0_9, blk3, blk6, V_v3]

end Cert.KernelIdeal.Hand
-- ==== Proof.Ref.Dims.lean ====
/-
  Where the reference's gathers read and its scatters write.
-/
module

public import proofs.«01_k».proof.Proof.Gen.ReferenceIdeal.Read
public import Idealize.ShloMosaic.Lib.Pointwise
public import Idealize.ShloMosaic.Lib.Routing.OpsSet

@[expose] public section

set_option maxRecDepth 16384

noncomputable section

namespace Cert.ReferenceIdeal.Hand

open Cert.ReferenceIdeal Cert.ReferenceIdeal.Gen
open Idealize.ShloMosaic

theorem toInt_small {w : BitVec 32} (h : w.toNat < 2 ^ 31) : w.toInt = (w.toNat : Int) := BitVec.toInt_eq_toNat_of_lt (by omega)

/-- A page of the pool, named by the table's word. -/
theorem gather_pool {α : Type} (x : S512x128x2x256.Idx → α) (idx : IVec S1x512x1 32) (t : Fin 512) (s : Fin 128) (h : Fin 2) (d : Fin 256) (b : Fin 512)
    (hb : (idx (ix3 0 t 0)).toNat = b.val) :
    Host.gather gather_S512x128x2x256_S1x512x1_S1x512x128x2x256_234_0_n_n_0_2_11282256 x idx (ix5 0 t s h d) = x (ix4 b s h d) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    have hsi : ∀ q, (gather_S512x128x2x256_S1x512x1_S1x512x128x2x256_234_0_n_n_0_2_11282256).siIdx (ix5 0 t s h d) q = ix3 0 t 0 := fun q => by
      funext b; refine Fin.ext ?_
      match b with
      | ⟨0, _⟩ => rfl
      | ⟨1, _⟩ => rfl
      | ⟨2, _⟩ => exact Nat.lt_one_iff.1 (Fin.isLt _)
    rw [hsi]
    have := b.isLt
    rw [toInt_small (by omega), Int.toNat_natCast, hb]
    show min b.val 511 = b.val
    omega
  | ⟨1, _⟩ =>
    unfold GatherDims.start GatherDims.offCoord
    rw [dif_neg (by decide +revert), dif_pos (by decide +revert)]
    exact Nat.zero_add _
  | ⟨2, _⟩ =>
    unfold GatherDims.start GatherDims.offCoord
    rw [dif_neg (by decide +revert), dif_pos (by decide +revert)]
    exact Nat.zero_add _
  | ⟨3, _⟩ =>
    unfold GatherDims.start GatherDims.offCoord
    rw [dif_neg (by decide +revert), dif_pos (by decide +revert)]
    exact Nat.zero_add _

/-- An entry of the table, named by a word. -/
theorem gather_table {α : Type} (x : S1x512.Idx → α) (idx : IVec S4x1 32) (j : Fin 4) (b : Fin 512)
    (hb : (idx (ix2 j 0)).toNat = b.val) :
    Host.gather gather_S1x512_S4x1_S1x4_0_1_n_n_1_1_11 x idx (ix2 0 j) = x (ix2 0 b) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, _⟩ =>
    unfold GatherDims.start GatherDims.offCoord
    rw [dif_neg (by decide +revert), dif_pos (by decide +revert)]
    exact Nat.zero_add _
  | ⟨1, _⟩ =>
    rw [GatherDims.offCoord_eq_zero _ _ _ (by decide +revert), Nat.add_zero]
    unfold GatherDims.start
    rw [dif_pos (by decide +revert)]
    have hsi : ∀ q, (gather_S1x512_S4x1_S1x4_0_1_n_n_1_1_11).siIdx (ix2 0 j) q = ix2 j 0 := fun q => by
      funext b; refine Fin.ext ?_
      match b with
      | ⟨0, _⟩ => rfl
      | ⟨1, _⟩ => exact Nat.lt_one_iff.1 (Fin.isLt _)
    rw [hsi]
    have := b.isLt
    rw [toInt_small (by omega), Int.toNat_natCast, hb]
    show min b.val 511 = b.val
    omega

/-- Where an update lands: the page and the slot its two words name. -/
theorem scatter_lands (idx : IVec S1x4x2 32) (j : Fin 4) (h h' : Fin 2) (d d' : Fin 256) (b : Fin 512) (s : Fin 128)
    (h0 : (idx (ix3 0 j 0)).toNat < 2 ^ 31) (h1 : (idx (ix3 0 j 1)).toNat < 2 ^ 31) :
    (scatter_S512x128x2x256_S1x4x2_S1x4x2x256_23_01_01_2).resultIdx? (ix4 0 j h d) idx = some (ix4 b s h' d')
      ↔ (idx (ix3 0 j 0)).toNat = b.val ∧ (idx (ix3 0 j 1)).toNat = s.val ∧ h.val = h'.val ∧ d.val = d'.val := by
  rw [Routing.resultIdx?_eq_some]
  have e0 : (scatter_S512x128x2x256_S1x4x2_S1x4x2x256_23_01_01_2).start (ix4 0 j h d) idx 0 = ((idx (ix3 0 j 0)).toNat : Int) := by
    unfold ScatterDims.start
    rw [dif_pos (by decide +revert), ← toInt_small h0]
    refine congrArg (fun i => (idx i).toInt) (funext fun b => Fin.ext ?_)
    match b with
    | ⟨0, _⟩ => rfl
    | ⟨1, _⟩ => rfl
    | ⟨2, _⟩ => rfl
  have e1 : (scatter_S512x128x2x256_S1x4x2_S1x4x2x256_23_01_01_2).start (ix4 0 j h d) idx 1 = ((idx (ix3 0 j 1)).toNat : Int) := by
    unfold ScatterDims.start
    rw [dif_pos (by decide +revert), ← toInt_small h1]
    refine congrArg (fun i => (idx i).toInt) (funext fun b => Fin.ext ?_)
    match b with
    | ⟨0, _⟩ => rfl
    | ⟨1, _⟩ => rfl
    | ⟨2, _⟩ => rfl
  have e2 : (scatter_S512x128x2x256_S1x4x2_S1x4x2x256_23_01_01_2).start (ix4 0 j h d) idx 2 = 0 := by
    unfold ScatterDims.start
    rw [dif_neg (by decide +revert)]
  have e3 : (scatter_S512x128x2x256_S1x4x2_S1x4x2x256_23_01_01_2).start (ix4 0 j h d) idx 3 = 0 := by
    unfold ScatterDims.start
    rw [dif_neg (by decide +revert)]
  have w0 : (scatter_S512x128x2x256_S1x4x2_S1x4x2x256_23_01_01_2).window (ix4 0 j h d) 0 = 0 := by
    unfold ScatterDims.window
    rw [dif_neg (by decide +revert)]
  have w1 : (scatter_S512x128x2x256_S1x4x2_S1x4x2x256_23_01_01_2).window (ix4 0 j h d) 1 = 0 := by
    unfold ScatterDims.window
    rw [dif_neg (by decide +revert)]
  have w2 : (scatter_S512x128x2x256_S1x4x2_S1x4x2x256_23_01_01_2).window (ix4 0 j h d) 2 = h.val := by
    unfold ScatterDims.window
    rw [dif_pos (by decide +revert)]
    rfl
  have w3 : (scatter_S512x128x2x256_S1x4x2_S1x4x2x256_23_01_01_2).window (ix4 0 j h d) 3 = d.val := by
    unfold ScatterDims.window
    rw [dif_pos (by decide +revert)]
    rfl
  constructor
  · intro q
    have q0 := q 0
    have q1 := q 1
    have q2 := q 2
    have q3 := q 3
    rw [e0, w0] at q0
    rw [e1, w1] at q1
    rw [e2, w2] at q2
    rw [e3, w3] at q3
    change _ = (b.val : Int) at q0
    change _ = (s.val : Int) at q1
    change _ = (h'.val : Int) at q2
    change _ = (d'.val : Int) at q3
    omega
  · rintro ⟨q0, q1, q2, q3⟩ a
    match a with
    | ⟨0, _⟩ => exact (congrArg₂ (fun (x : Int) (y : ℕ) => x + (y : Int)) e0 w0).trans (by show _ = (b.val : Int); omega)
    | ⟨1, _⟩ => exact (congrArg₂ (fun (x : Int) (y : ℕ) => x + (y : Int)) e1 w1).trans (by show _ = (s.val : Int); omega)
    | ⟨2, _⟩ => exact (congrArg₂ (fun (x : Int) (y : ℕ) => x + (y : Int)) e2 w2).trans (by show _ = (h'.val : Int); omega)
    | ⟨3, _⟩ => exact (congrArg₂ (fun (x : Int) (y : ℕ) => x + (y : Int)) e3 w3).trans (by show _ = (d'.val : Int); omega)

theorem ix4_eq (k : S1x4x2x256.Idx) : ix4 (0 : Fin 1) (k 1) (k 2) (k 3) = k := by
  funext a
  match a with
  | ⟨0, _⟩ => exact Fin.ext (Nat.lt_one_iff.1 (k 0).isLt).symm
  | ⟨1, _⟩ => rfl
  | ⟨2, _⟩ => rfl
  | ⟨3, _⟩ => rfl

/-- The pool after the new tokens are written, at an element one token is written to. -/
theorem scatter_hit {α : Type} (x0 : S512x128x2x256.Idx → α) (idx : IVec S1x4x2 32) (u : S1x4x2x256.Idx → α) (b : Fin 512) (s : Fin 128) (h : Fin 2)
    (d : Fin 256) (hi : ∀ j c, (idx (ix3 0 j c)).toNat < 2 ^ 31) (j : Fin 4) (hb : (idx (ix3 0 j 0)).toNat = b.val) (hs : (idx (ix3 0 j 1)).toNat = s.val)
    (hu : ∀ j', (idx (ix3 0 j' 0)).toNat = b.val → (idx (ix3 0 j' 1)).toNat = s.val → j' = j) :
    Host.scatter scatter_S512x128x2x256_S1x4x2_S1x4x2x256_23_01_01_2 (fun _ b => b) x0 idx u (ix4 b s h d) = u (ix4 0 j h d) := by
  refine Routing.scatter_set_hit _ _ _ _ _ _ (fun k hk => ?_) (ix4 0 j h d) ((scatter_lands idx j h h d d b s (hi _ _) (hi _ _)).2 ⟨hb, hs, rfl, rfl⟩)
  rw [← ix4_eq k] at hk ⊢
  obtain ⟨q0, q1, q2, q3⟩ := (scatter_lands idx (k 1) (k 2) h (k 3) d b s (hi _ _) (hi _ _)).1 hk
  have c1 : (k 1 : Fin 4) = j := hu _ q0 q1
  have c2 : (k 2 : Fin 2) = h := Fin.ext q2
  have c3 : (k 3 : Fin 256) = d := Fin.ext q3
  have t := congr (congr (congrArg (fun x y z => u (ix4 0 x y z)) c1) c2) c3
  exact t

/-- The pool after the new tokens are written, at an element no token is written to. -/
theorem scatter_miss {α : Type} (x0 : S512x128x2x256.Idx → α) (idx : IVec S1x4x2 32) (u : S1x4x2x256.Idx → α) (b : Fin 512) (s : Fin 128) (h : Fin 2)
    (d : Fin 256) (hi : ∀ j c, (idx (ix3 0 j c)).toNat < 2 ^ 31) (hu : ∀ j, ¬ ((idx (ix3 0 j 0)).toNat = b.val ∧ (idx (ix3 0 j 1)).toNat = s.val)) :
    Host.scatter scatter_S512x128x2x256_S1x4x2_S1x4x2x256_23_01_01_2 (fun _ b => b) x0 idx u (ix4 b s h d) = x0 (ix4 b s h d) := by
  refine Routing.scatter_set_miss _ _ _ _ _ fun k hk => ?_
  rw [← ix4_eq k] at hk
  obtain ⟨q0, q1, -, -⟩ := (scatter_lands idx (k 1) (k 2) h (k 3) d b s (hi _ _) (hi _ _)).1 hk
  exact hu _ ⟨q0, q1⟩

end Cert.ReferenceIdeal.Hand
-- ==== Proof.Ref.Words.lean ====
/-
  The reference's index words: positions, pages and slots.
-/
module

public import proofs.«01_k».proof.Proof.Gen.ReferenceIdeal.Read
public import proofs.«01_k».proof.Proof.Ref.Dims
public import Idealize.ShloMosaic.Lib.ReduceAll

@[expose] public section

set_option maxRecDepth 16384

noncomputable section

namespace Cert.ReferenceIdeal.Hand

open Cert.ReferenceIdeal Cert.ReferenceIdeal.Gen Cert.ReferenceIdeal.Read
open Idealize.ShloMosaic

variable (x7 : (⟨S1x512, .i32⟩ : BufTy).Contents (Elt Ideal)) (x8 : (⟨S1, .i32⟩ : BufTy).Contents (Elt Ideal))

theorem v5_word (j : Fin 4) : val_main_v5 (F := Ideal) x8 (ix2 0 j) = IntOp.addi (x8 (ix1 0)) (BitVec.ofNat 32 j.val) := by
  pointwise [val_main_v5, val_main_v4, val_main_v1, val_main_v3, val_main_v2]

/-- A new token's position. -/
theorem v5_at (h8 : (x8 (ix1 0)).toNat ≤ 65532) (j : Fin 4) : (val_main_v5 (F := Ideal) x8 (ix2 0 j)).toNat = (x8 (ix1 0)).toNat + j.val := by
  rw [v5_word]
  have := j.isLt
  show (x8 (ix1 0) + BitVec.ofNat 32 j.val).toNat = _
  rw [BitVec.toNat_add, BitVec.toNat_ofNat]
  omega

theorem toNat_divsi {x : BitVec 32} (hx : 2 * x.toNat < 2 ^ 32) (k : ℕ) (hk : 0 < k) (hk' : 2 * k < 2 ^ 32) :
    (IntOp.divsi .host x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  rw [show IntOp.divsi .host x (BitVec.ofNat 32 k) = x.sdiv (BitVec.ofNat 32 k) from
    if_neg (IntOp.not_corner_of_pos (by rw [BitVec.toInt_eq_toNat_of_lt (by omega)]; omega)), BitVec.sdiv_eq, hm, hkm]
  show (x / BitVec.ofNat 32 k).toNat = _
  rw [BitVec.toNat_udiv, hkN]

/-- Its page in the table. -/
theorem v7_at (h8 : (x8 (ix1 0)).toNat ≤ 65532) (j : Fin 4) :
    (val_main_v7 (F := Ideal) x8 (ix2 0 j)).toNat = ((x8 (ix1 0)).toNat + j.val) / 128 := by
  have e := v5_at x8 h8 j
  have := j.isLt
  rw [show val_main_v7 (F := Ideal) x8 (ix2 0 j) = IntOp.divsi .host (val_main_v5 (F := Ideal) x8 (ix2 0 j)) (BitVec.ofNat 32 128) from rfl,
    toNat_divsi (by omega) 128 (by omega) (by omega), e]

/-- Its slot. -/
theorem v10_at (h8 : (x8 (ix1 0)).toNat ≤ 65532) (j : Fin 4) :
    (val_main_v10 (F := Ideal) x8 (ix2 0 j)).toNat = ((x8 (ix1 0)).toNat + j.val) % 128 := by
  have e := v5_at x8 h8 j
  have := j.isLt
  rw [show val_main_v10 (F := Ideal) x8 (ix2 0 j) = IntOp.remsi .host (val_main_v5 (F := Ideal) x8 (ix2 0 j)) (BitVec.ofNat 32 128) from rfl,
    IntOp.toNat_remsi .host (by omega) 128 (by omega) (by omega), e]

/-- A word that is not negative is not wrapped. -/
theorem wrap {a b : BitVec 32} (h : b.toNat < 2 ^ 31) : Scalar.select (IntOp.cmpi .slt b 0#32) a b = b := by
  unfold Scalar.select
  refine if_neg fun e => ?_
  have e := IntOp.cmpi_slt.1 e
  rw [toInt_small h] at e
  have : (0#32 : BitVec 32).toInt = 0 := rfl
  omega

theorem v20_at (h8 : (x8 (ix1 0)).toNat ≤ 65532) (j : Fin 4) : val_main_v20 (F := Ideal) x8 (ix2 0 j) = val_main_v10 (F := Ideal) x8 (ix2 0 j) := by
  have e := v10_at x8 h8 j
  exact wrap (a := val_main_v19 (F := Ideal) x8 (ix2 0 j)) (by omega)

theorem call0_v4_at (h8 : (x8 (ix1 0)).toNat ≤ 65532) (j : Fin 4) : val_main_call0_v4 (F := Ideal) x8 (ix2 0 j) = val_main_v7 (F := Ideal) x8 (ix2 0 j) := by
  have e := v7_at x8 h8 j
  have := j.isLt
  exact wrap (a := val_main_call0_v3 (F := Ideal) x8 (ix2 0 j)) (by omega)

theorem call0_v5_at (h8 : (x8 (ix1 0)).toNat ≤ 65532) (j : Fin 4) : val_main_call0_v5 (F := Ideal) x8 (ix2 j 0) = val_main_v7 (F := Ideal) x8 (ix2 0 j) := by
  refine Eq.trans ?_ (call0_v4_at x8 h8 j)
  pointwise [val_main_call0_v5]

/-- The table's index is inside the table. -/
theorem call0_v11_at (h8 : (x8 (ix1 0)).toNat ≤ 65532) (j : Fin 4) : val_main_call0_v11 (F := Ideal) x8 (ix2 j 0) = 1#1 := by
  have e := v7_at x8 h8 j
  have := j.isLt
  show IntOp.andi (IntOp.cmpi .sge (val_main_call0_v5 (F := Ideal) x8 (ix2 j 0)) 0#32) (IntOp.cmpi .sle (val_main_call0_v5 (F := Ideal) x8 (ix2 j 0)) 511#32) = 1#1
  rw [call0_v5_at x8 h8, IntOp.andi_eq_one, IntOp.cmpi_sge, IntOp.cmpi_sle, toInt_small (w := val_main_v7 (F := Ideal) x8 (ix2 0 j)) (by omega), e]
  have h0 : (0#32 : BitVec 32).toInt = 0 := rfl
  have h1 : (511#32 : BitVec 32).toInt = 511 := rfl
  omega

theorem call0_v12_at (h8 : (x8 (ix1 0)).toNat ≤ 65532) (j : Fin 4) : val_main_call0_v12 (F := Ideal) x8 (ix1 j) = 1#1 := by
  refine Host.reduce_andi_one _ _ _ _ _ rfl fun i => ?_
  have hi : i = ix2 (i 0) 0 := by
    funext a
    match a with
    | ⟨0, _⟩ => rfl
    | ⟨1, _⟩ => exact Fin.ext (Nat.lt_one_iff.1 (i 1).isLt)
  rw [hi]
  exact call0_v11_at x8 h8 (i 0)

/-- A new token's page in the pool. -/
theorem v8_at (h8 : (x8 (ix1 0)).toNat ≤ 65532) (j : Fin 4) :
    val_main_v8 (F := Ideal) x7 x8 (ix2 0 j) = x7 (ix2 0 ⟨((x8 (ix1 0)).toNat + j.val) / 128, by omega⟩) := by
  have e : val_main_call0_v14 (F := Ideal) x8 (ix2 0 j) = 1#1 := by
    refine Eq.trans ?_ (call0_v12_at x8 h8 j)
    pointwise [val_main_call0_v14]
  show Scalar.select (val_main_call0_v14 (F := Ideal) x8 (ix2 0 j)) (val_main_call0_v13 (F := Ideal) x7 x8 (ix2 0 j)) _ = _
  refine (if_pos e).trans ?_
  exact gather_table x7 _ j _ ((congrArg BitVec.toNat (call0_v5_at x8 h8 j)).trans (v7_at x8 h8 j))

theorem v15_at (h7 : ∀ i, (x7 i).toNat < 512) (h8 : (x8 (ix1 0)).toNat ≤ 65532) (j : Fin 4) :
    val_main_v15 (F := Ideal) x7 x8 (ix2 0 j) = x7 (ix2 0 ⟨((x8 (ix1 0)).toNat + j.val) / 128, by omega⟩) := by
  rw [← v8_at x7 x8 h8 j]
  have e : (val_main_v8 (F := Ideal) x7 x8 (ix2 0 j)).toNat < 512 := by rw [v8_at x7 x8 h8 j]; exact h7 _
  exact wrap (a := val_main_v14 (F := Ideal) x7 x8 (ix2 0 j)) (by omega)

theorem v23_0 (h7 : ∀ i, (x7 i).toNat < 512) (h8 : (x8 (ix1 0)).toNat ≤ 65532) (j : Fin 4) :
    (val_main_v23 (F := Ideal) x7 x8 (ix3 0 j 0)).toNat = (x7 (ix2 0 ⟨((x8 (ix1 0)).toNat + j.val) / 128, by omega⟩)).toNat := by
  rw [← v15_at x7 x8 h7 h8 j]
  pointwise [val_main_v23, val_main_v21]

theorem v23_1 (h8 : (x8 (ix1 0)).toNat ≤ 65532) (j : Fin 4) :
    (val_main_v23 (F := Ideal) x7 x8 (ix3 0 j 1)).toNat = ((x8 (ix1 0)).toNat + j.val) % 128 := by
  rw [← v10_at x8 h8 j, ← v20_at x8 h8 j]
  pointwise [val_main_v23, val_main_v22]

theorem v44_at (h7 : ∀ i, (x7 i).toNat < 512) (t : Fin 512) : val_main_v44 (F := Ideal) x7 (ix3 0 t 0) = x7 (ix2 0 t) := by
  refine Eq.trans (b := val_main_v43 (F := Ideal) x7 (ix2 0 t)) ?_ (wrap (a := val_main_v42 (F := Ideal) x7 (ix2 0 t)) (by have := h7 (ix2 0 t); omega))
  pointwise [val_main_v44]

end Cert.ReferenceIdeal.Hand
-- ==== Proof.Ref.Pool.lean ====
/-
  The keys and values the reference reads through the page table, after it has written the new tokens there.
-/
module

public import proofs.«01_k».proof.Proof.Ref.Words
public import proofs.«01_k».proof.Proof.Spec

@[expose] public section

set_option maxRecDepth 16384

noncomputable section

namespace Cert.ReferenceIdeal.Hand

open Cert.ReferenceIdeal Cert.ReferenceIdeal.Gen Cert.ReferenceIdeal.Read Cert.Hand
open Idealize.ShloMosaic

variable (x7 : (⟨S1x512, .i32⟩ : BufTy).Contents (Elt Ideal)) (x8 : (⟨S1, .i32⟩ : BufTy).Contents (Elt Ideal))

/-- The page that holds a position. -/
def page (p : ℕ) : Fin 512 := ⟨(x7 (ix2 0 ⟨p / 128 % 512, Nat.mod_lt _ (by omega)⟩)).toNat % 512, Nat.mod_lt _ (by omega)⟩

/-- The table names every page once. -/
def Inj : Prop := ∀ i j : Fin 512, x7 (ix2 0 i) = x7 (ix2 0 j) → i = j

theorem page_lt (h7 : ∀ i, (x7 i).toNat < 512) (p : ℕ) (hp : p < 65536) :
    (x7 (ix2 0 ⟨p / 128, by omega⟩)).toNat = (page x7 p).val := by
  have e : (⟨p / 128 % 512, Nat.mod_lt _ (by omega)⟩ : Fin 512) = ⟨p / 128, by omega⟩ := Fin.ext (Nat.mod_eq_of_lt (by omega))
  show _ = (x7 (ix2 0 ⟨p / 128 % 512, Nat.mod_lt _ (by omega)⟩)).toNat % 512
  rw [e]
  exact (Nat.mod_eq_of_lt (h7 _)).symm

theorem page_inj (h7 : ∀ i, (x7 i).toNat < 512) (hI : Inj x7) (p q : ℕ) (hp : p < 65536) (hq : q < 65536)
    (e : (page x7 p).val = (page x7 q).val) (e' : p % 128 = q % 128) : p = q := by
  rw [← page_lt x7 h7 p hp, ← page_lt x7 h7 q hq] at e
  have := congrArg Fin.val (hI _ _ (BitVec.eq_of_toNat_eq e))
  dsimp only at this
  omega

theorem v23_lt (h7 : ∀ i, (x7 i).toNat < 512) (h8 : (x8 (ix1 0)).toNat ≤ 65532) (j : Fin 4) (c : Fin 2) :
    (val_main_v23 (F := Ideal) x7 x8 (ix3 0 j c)).toNat < 2 ^ 31 := by
  match c with
  | ⟨0, _⟩ => exact (v23_0 x7 x8 h7 h8 j).trans_lt ((h7 _).trans (by norm_num))
  | ⟨1, _⟩ => exact (v23_1 x7 x8 h8 j).trans_lt ((Nat.mod_lt _ (by omega)).trans (by norm_num : 128 < 2 ^ 31))

/-- A row of the pool after the new tokens are written: a new token's row or the cached one. -/
theorem pool_at (h7 : ∀ i, (x7 i).toNat < 512) (h8 : (x8 (ix1 0)).toNat ≤ 65532) (hI : Inj x7)
    (r2 : (⟨S1x4x2x256, .bf16⟩ : BufTy).Contents (Elt Ideal)) (r4 : (⟨S512x128x2x256, .bf16⟩ : BufTy).Contents (Elt Ideal))
    (p : ℕ) (hp : p < 65536) (h : Fin 2) (d : Fin 256) :
    val_main_v24 (F := Ideal) x7 x8 r2 r4 (ix4 (page x7 p) ⟨p % 128, Nat.mod_lt _ (by omega)⟩ h d)
      = pick (x8 (ix1 0)).toNat (fun j => r2 (ix4 0 j h d)) (fun p => r4 (ix4 (page x7 p) ⟨p % 128, Nat.mod_lt _ (by omega)⟩ h d)) p := by
  have key : ∀ j : Fin 4, ((val_main_v23 (F := Ideal) x7 x8 (ix3 0 j 0)).toNat = (page x7 p).val ∧ (val_main_v23 (F := Ideal) x7 x8 (ix3 0 j 1)).toNat = p % 128)
      ↔ (x8 (ix1 0)).toNat + j.val = p := fun j => by
    have hj := j.isLt
    rw [v23_0 x7 x8 h7 h8 j, v23_1 x7 x8 h8 j, page_lt x7 h7 _ (by omega)]
    exact ⟨fun q => page_inj x7 h7 hI _ _ (by omega) hp q.1 q.2, fun e => by rw [e]; exact ⟨rfl, rfl⟩⟩
  by_cases hL : (x8 (ix1 0)).toNat ≤ p ∧ p < (x8 (ix1 0)).toNat + 4
  · rw [pick, dif_pos hL]
    have q := (key ⟨p - (x8 (ix1 0)).toNat, by omega⟩).2 (by dsimp only; omega)
    refine scatter_hit r4 _ r2 _ _ _ _ (v23_lt x7 x8 h7 h8) _ q.1 q.2 fun j' a b => Fin.ext ?_
    have := (key j').1 ⟨a, b⟩
    dsimp only
    omega
  · rw [pick, dif_neg hL]
    refine scatter_miss r4 _ r2 _ _ _ _ (v23_lt x7 x8 h7 h8) fun j q => ?_
    have := (key j).1 q
    have hj := j.isLt
    omega

/-- What is read at a position. -/
theorem read_at (h7 : ∀ i, (x7 i).toNat < 512) (h8 : (x8 (ix1 0)).toNat ≤ 65532) (hI : Inj x7)
    (r2 : (⟨S1x4x2x256, .bf16⟩ : BufTy).Contents (Elt Ideal)) (r4 : (⟨S512x128x2x256, .bf16⟩ : BufTy).Contents (Elt Ideal))
    (p : Fin 65536) (h : Fin 2) (d : Fin 256) :
    val_main_v46 (F := Ideal) x7 x8 r2 r4 (ix4 0 p h d)
      = pick (x8 (ix1 0)).toNat (fun j => r2 (ix4 0 j h d)) (fun p => r4 (ix4 (page x7 p) ⟨p % 128, Nat.mod_lt _ (by omega)⟩ h d)) p.val := by
  have hp := p.isLt
  have hh := h.isLt
  have hd := d.isLt
  rw [val_main_v46_apply, ← pool_at x7 x8 h7 h8 hI r2 r4 p.val p.isLt h d]
  have e : idx_main_v46 (ix4 0 p h d) = ix5 0 ⟨p.val / 128, by omega⟩ ⟨p.val % 128, Nat.mod_lt _ (by omega)⟩ h d := by
    funext a
    match a with
    | ⟨0, _⟩ => rfl
    | ⟨1, _⟩ => refine Fin.ext ?_; show (((0 * 65536 + p.val) * 2 + h.val) * 256 + d.val) / 65536 % 512 = p.val / 128; omega
    | ⟨2, _⟩ => refine Fin.ext ?_; show (((0 * 65536 + p.val) * 2 + h.val) * 256 + d.val) / 512 % 128 = p.val % 128; omega
    | ⟨3, _⟩ => refine Fin.ext ?_; show (((0 * 65536 + p.val) * 2 + h.val) * 256 + d.val) / 256 % 2 = h.val; omega
    | ⟨4, _⟩ => refine Fin.ext ?_; show (((0 * 65536 + p.val) * 2 + h.val) * 256 + d.val) % 256 = d.val; omega
  rw [e]
  exact gather_pool _ _ _ _ _ _ _ ((congrArg BitVec.toNat (v44_at x7 h7 _)).trans (page_lt x7 h7 p.val p.isLt))

/-- The values are looked up as the keys are. -/
theorem v54_eq (r3 : (⟨S1x4x2x256, .bf16⟩ : BufTy).Contents (Elt Ideal)) (r5 : (⟨S512x128x2x256, .bf16⟩ : BufTy).Contents (Elt Ideal)) :
    val_main_v54 (F := Ideal) x7 x8 r3 r5 = val_main_v46 (F := Ideal) x7 x8 r3 r5 := rfl

end Cert.ReferenceIdeal.Hand
-- ==== Proof.Ref.Softmax.lean ====
/-
  The reference's softmax over all positions, masked to those a query sees.
-/
module

public import proofs.«01_k».proof.Proof.Ref.Words
public import proofs.«01_k».proof.Proof.Spec

@[expose] public section

set_option maxRecDepth 16384

noncomputable section

namespace Cert.ReferenceIdeal.Hand

open Cert.ReferenceIdeal Cert.ReferenceIdeal.Gen Cert.ReferenceIdeal.Read Cert.Hand
open Idealize.ShloMosaic

variable (x0 : (⟨S1x4x8192, .bf16⟩ : BufTy).Contents (Elt Ideal)) (x7 : (⟨S1x512, .i32⟩ : BufTy).Contents (Elt Ideal)) (x8 : (⟨S1, .i32⟩ : BufTy).Contents (Elt Ideal))
    (r2 r3 : (⟨S1x4x2x256, .bf16⟩ : BufTy).Contents (Elt Ideal)) (r4 r5 : (⟨S512x128x2x256, .bf16⟩ : BufTy).Contents (Elt Ideal))

theorem ninf : Ideal.ofBits .f32 0xFF800000#32 = ⊥ := by
  simp [Ideal.ofBits, Ideal.ieee]

/-- The mask: the positions up to the query's own. -/
theorem mask_at (h8 : (x8 (ix1 0)).toNat ≤ 65532) (h : Fin 2) (g : Fin 16) (q : Fin 4) (p : Fin 65536) :
    val_main_call1_v1 (F := Ideal) x8 (ix5 0 h g q p) = 1#1 ↔ p.val ≤ (x8 (ix1 0)).toNat + q.val := by
  have hp := p.isLt
  have hq := q.isLt
  have e : val_main_call1_v1 (F := Ideal) x8 (ix5 0 h g q p) = IntOp.cmpi .sle (BitVec.ofNat 32 p.val) (val_main_v5 (F := Ideal) x8 (ix2 0 q)) := by
    pointwise [val_main_call1_v1, val_main_v66, val_main_v65, val_main_v64, val_main_v63, val_main_v62, val_main_v61, val_main_v60]
  have e5 := v5_at x8 h8 q
  have ep : (BitVec.ofNat 32 p.val).toNat = p.val := by rw [BitVec.toNat_ofNat]; omega
  rw [e, IntOp.cmpi_sle, toInt_small (by omega), toInt_small (w := val_main_v5 (F := Ideal) x8 (ix2 0 q)) (by omega), e5, ep]
  omega

theorem v67_at (h : Fin 2) (g : Fin 16) (q : Fin 4) (p : Fin 65536) : val_main_v67 (F := Ideal) x0 x7 x8 r2 r4 (ix5 0 h g q p)
    = if val_main_call1_v1 (F := Ideal) x8 (ix5 0 h g q p) = 1#1 then val_main_v59 (F := Ideal) x0 x7 x8 r2 r4 (ix5 0 h g q p) else ⊥ := by
  rw [← ninf]
  rfl

theorem v68_at (h : Fin 2) (g : Fin 16) (q : Fin 4) : val_main_v68 (F := Ideal) x0 x7 x8 r2 r4 (ix4 0 h g q)
    = Finset.univ.fold max ⊥ fun p : Fin 65536 => val_main_v67 (F := Ideal) x0 x7 x8 r2 r4 (ix5 0 h g q p) := by
  unfold val_main_v68
  generalize val_main_v67 (F := Ideal) x0 x7 x8 r2 r4 = y
  pointwise [val_main_cst_14]
  rw [← ninf]

theorem v72_at (h : Fin 2) (g : Fin 16) (q : Fin 4) (p : Fin 65536) : val_main_v72 (F := Ideal) x0 x7 x8 r2 r4 (ix5 0 h g q p)
    = Ideal.exp (val_main_v67 (F := Ideal) x0 x7 x8 r2 r4 (ix5 0 h g q p) - val_main_v68 (F := Ideal) x0 x7 x8 r2 r4 (ix4 0 h g q)) := by
  unfold val_main_v72 val_main_v71 val_main_v70 val_main_v69
  generalize val_main_v68 (F := Ideal) x0 x7 x8 r2 r4 = z
  generalize val_main_v67 (F := Ideal) x0 x7 x8 r2 r4 = y
  pointwise

theorem v75_at (h : Fin 2) (g : Fin 16) (q : Fin 4) : val_main_v75 (F := Ideal) x0 x7 x8 r2 r4 (ix4 0 h g q)
    = ∑ p : Fin 65536, val_main_v72 (F := Ideal) x0 x7 x8 r2 r4 (ix5 0 h g q p) := by
  rw [val_main_v75_apply]
  have z : val_main_cst_15 (F := Ideal) (Shape.Idx.first h_S_) = 0 := by
    show Ideal.ofBits .f32 0x00000000#32 = 0
    simp [Ideal.ofBits, Ideal.ieee]
  rw [z, zero_add]
  refine Finset.sum_congr rfl fun p _ => congrArg _ ?_
  funext a
  match a with
  | ⟨0, _⟩ => rfl
  | ⟨1, _⟩ => rfl
  | ⟨2, _⟩ => rfl
  | ⟨3, _⟩ => rfl
  | ⟨4, _⟩ => rfl

theorem v73_at (i : S1x65536x2x256.Idx) : val_main_v73 (F := Ideal) x7 x8 r3 r5 i = val_main_v54 (F := Ideal) x7 x8 r3 r5 i := by
  rw [val_main_v73_apply]
  generalize val_main_v54 (F := Ideal) x7 x8 r3 r5 i = y
  rfl

theorem v74_at (h : Fin 2) (g : Fin 16) (q : Fin 4) (d : Fin 256) : val_main_v74 (F := Ideal) x0 x7 x8 r2 r3 r4 r5 (ix5 0 h g q d)
    = ∑ p : Fin 65536, val_main_v72 (F := Ideal) x0 x7 x8 r2 r4 (ix5 0 h g q p) * val_main_v54 (F := Ideal) x7 x8 r3 r5 (ix4 0 p h d) := by
  rw [val_main_v74_apply]
  refine Finset.sum_congr rfl fun p _ => ?_
  have e1 : lidx_main_v74 (ix5 0 h g q d) p = ix5 0 h g q p := by
    funext a
    match a with
    | ⟨0, _⟩ => rfl
    | ⟨1, _⟩ => rfl
    | ⟨2, _⟩ => rfl
    | ⟨3, _⟩ => rfl
    | ⟨4, _⟩ => rfl
  have e2 : ridx_main_v74 (ix5 0 h g q d) p = ix4 0 p h d := by
    funext a
    match a with
    | ⟨0, _⟩ => rfl
    | ⟨1, _⟩ => rfl
    | ⟨2, _⟩ => rfl
    | ⟨3, _⟩ => rfl
  exact congrArg₂ (fun a b : EReal => a * b) (congrArg _ e1) ((congrArg _ e2).trans (v73_at x7 x8 r3 r5 _))

theorem v78_at (h : Fin 2) (g : Fin 16) (q : Fin 4) (d : Fin 256) : val_main_v78 (F := Ideal) x0 x7 x8 r2 r3 r4 r5 (ix5 0 h g q d)
    = Ideal.div (val_main_v74 (F := Ideal) x0 x7 x8 r2 r3 r4 r5 (ix5 0 h g q d)) (val_main_v75 (F := Ideal) x0 x7 x8 r2 r4 (ix4 0 h g q)) := by
  unfold val_main_v78 val_main_v77 val_main_v76
  generalize val_main_v74 (F := Ideal) x0 x7 x8 r2 r3 r4 r5 = z
  generalize val_main_v75 (F := Ideal) x0 x7 x8 r2 r4 = y
  pointwise

theorem v81_at (h : Fin 2) (g : Fin 16) (q : Fin 4) (d : Fin 256) : val_main_v81 (F := Ideal) x0 x7 x8 r2 r3 r4 r5 (ix2 ⟨(q.val * 2 + h.val) * 16 + g.val, by omega⟩ d)
    = val_main_v78 (F := Ideal) x0 x7 x8 r2 r3 r4 r5 (ix5 0 h g q d) := by
  unfold val_main_v81 val_main_v80 val_main_v79
  generalize val_main_v78 (F := Ideal) x0 x7 x8 r2 r3 r4 r5 = y
  show shapeCast S128x256 (transpose S1x4x2x16x256 [0, 3, 1, 2, 4] y transposes_S1x2x16x4x256_S1x4x2x16x256_0_3_1_2_4) shapeCasts_S1x4x2x16x256_S128x256 (ix2 _ d) = _
  pointwise

/-- A row of the reference's result, for whatever scores and values stand at the positions. -/
theorem attend_at (h8 : (x8 (ix1 0)).toNat ≤ 65532) (h : Fin 2) (g : Fin 16) (q : Fin 4) (d : Fin 256) (sc va : ℕ → EReal)
    (hs : ∀ p : Fin 65536, val_main_v59 (F := Ideal) x0 x7 x8 r2 r4 (ix5 0 h g q p) = sc p.val)
    (hv : ∀ p : Fin 65536, val_main_v54 (F := Ideal) x7 x8 r3 r5 (ix4 0 p h d) = va p.val) :
    val_main_v81 (F := Ideal) x0 x7 x8 r2 r3 r4 r5 (ix2 ⟨(q.val * 2 + h.val) * 16 + g.val, by omega⟩ d)
      = attend sc va (Finset.range ((x8 (ix1 0)).toNat + q.val + 1)) := by
  have hq := q.isLt
  have P : Part 65536 (Finset.range ((x8 (ix1 0)).toNat + q.val + 1)) sc va
      (fun p => val_main_v67 (F := Ideal) x0 x7 x8 r2 r4 (ix5 0 h g q p)) (fun p => val_main_v54 (F := Ideal) x7 x8 r3 r5 (ix4 0 p h d)) :=
    { pos := fun p => p.val
      ok := fun p => p.val ≤ (x8 (ix1 0)).toNat + q.val
      inj := fun _ _ _ _ e => Fin.ext e
      mem := fun p => by
        rw [Finset.mem_range]
        exact ⟨fun e => ⟨⟨p, by omega⟩, by dsimp only; omega, rfl⟩, fun ⟨i, e, e'⟩ => by omega⟩
      s_ok := fun p e => by
        rw [v67_at, if_pos ((mask_at x8 h8 h g q p).2 e), hs]
      s_not := fun p e => by
        rw [v67_at, if_neg fun k => e ((mask_at x8 h8 h g q p).1 k)]
      w_ok := fun p _ => hv p }
  rw [v81_at, v78_at, v74_at, v75_at]
  simp only [v72_at]
  rw [P.sumA, P.sumL, v68_at, P.fold]
  rfl

end Cert.ReferenceIdeal.Hand
-- ==== Proof.Ref.Scores.lean ====
/-
  The reference's scores.
-/
module

public import proofs.«01_k».proof.Proof.Ref.Words
public import proofs.«01_k».proof.Proof.Spec

@[expose] public section

set_option maxRecDepth 16384

noncomputable section

namespace Cert.ReferenceIdeal.Hand

open Cert.ReferenceIdeal Cert.ReferenceIdeal.Gen Cert.ReferenceIdeal.Read Cert.Hand
open Idealize.ShloMosaic

variable (x0 : (⟨S1x4x8192, .bf16⟩ : BufTy).Contents (Elt Ideal)) (x7 : (⟨S1x512, .i32⟩ : BufTy).Contents (Elt Ideal)) (x8 : (⟨S1, .i32⟩ : BufTy).Contents (Elt Ideal))
    (r2 : (⟨S1x4x2x256, .bf16⟩ : BufTy).Contents (Elt Ideal)) (r4 : (⟨S512x128x2x256, .bf16⟩ : BufTy).Contents (Elt Ideal))

theorem v56_at (h : Fin 2) (g : Fin 16) (q : Fin 4) (p : Fin 65536) : val_main_v56 (F := Ideal) x0 x7 x8 r2 r4 (ix5 0 h p q g)
    = ∑ x : Fin 256, val_main_v55 (F := Ideal) x0 (ix5 0 q h g x) * val_main_v46 (F := Ideal) x7 x8 r2 r4 (ix4 0 p h x) := by
  rw [val_main_v56_apply]
  refine Finset.sum_congr rfl fun x _ => ?_
  have e1 : lidx_main_v56 (ix5 0 h p q g) x = ix4 0 p h x := by
    funext a
    match a with
    | ⟨0, _⟩ => rfl
    | ⟨1, _⟩ => rfl
    | ⟨2, _⟩ => rfl
    | ⟨3, _⟩ => rfl
  have e2 : ridx_main_v56 (ix5 0 h p q g) x = ix5 0 q h g x := by
    funext a
    match a with
    | ⟨0, _⟩ => rfl
    | ⟨1, _⟩ => rfl
    | ⟨2, _⟩ => rfl
    | ⟨3, _⟩ => rfl
    | ⟨4, _⟩ => rfl
  exact (congrArg₂ (fun a b : EReal => a * b) (congrArg _ e1) (congrArg _ e2)).trans (mul_comm _ _)

theorem v59_at (h : Fin 2) (g : Fin 16) (q : Fin 4) (p : Fin 65536) : val_main_v59 (F := Ideal) x0 x7 x8 r2 r4 (ix5 0 h g q p)
    = (∑ x : Fin 256, val_main_v55 (F := Ideal) x0 (ix5 0 q h g x) * val_main_v46 (F := Ideal) x7 x8 r2 r4 (ix4 0 p h x)) * Ideal.ofBits .f32 0x3D800000#32 := by
  rw [← v56_at]
  unfold val_main_v59 val_main_v57
  generalize val_main_v56 (F := Ideal) x0 x7 x8 r2 r4 = y
  pointwise [val_main_v58, val_main_cst]

/-- A query element: its row among all query rows. -/
theorem v55_at (q : Fin 4) (h : Fin 2) (g : Fin 16) (x : Fin 256) (hs : S1x4x8192.ShapeCasts S128x256) :
    val_main_v55 (F := Ideal) x0 (ix5 0 q h g x) = shapeCast S128x256 x0 hs (ix2 ⟨(q.val * 2 + h.val) * 16 + g.val, by omega⟩ x) := by
  rw [val_main_v55_apply]
  refine (shapeCast_apply x0 hs _ _ ?_).symm
  have hq := q.isLt
  have hh := h.isLt
  have hg := g.isLt
  have hx := x.isLt
  rewrite [Shape.rowMajor_val_three, Shape.rowMajor_val_two]
  show (0 * 4 + (((((0 * 4 + q.val) * 2 + h.val) * 16 + g.val) * 256 + x.val) / 8192 % 4)) * 8192 + ((((0 * 4 + q.val) * 2 + h.val) * 16 + g.val) * 256 + x.val) % 8192
    = ((q.val * 2 + h.val) * 16 + g.val) * 256 + x.val
  omega

end Cert.ReferenceIdeal.Hand
-- ==== Proof.Ref.Region.lean ====
/-
  What the reference's quantiser leaves: the codes, the new tokens and the pools.
-/
module

public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD) (t : Fin cfg0.N)

theorem idx : ∀ t : Fin cfg0.N, win0_0.index t = ![0, 0, 0, 0] ∧ win0_1.index t = ![0, 0, 0, 0] ∧ win0_2.index t = ![0, 0, 0, 0] ∧ win0_3.index t = ![0, 0, 0, 0]
    ∧ win0_4.index t = ![0] ∧ win0_5.index t = ![0] :=
  (by decide +kernel : ∀ t : Fin grid0.N, _)

theorem blk0 : iblk m c 0 t = m ((c : Thread nD τ).loc main_arg1) := by
  rw [fin_N0 t, ← V_main_arg1 m c]; blk_ext! [iblk, idx t0_0]
theorem blk1 : iblk m c 1 t = m ((c : Thread nD τ).loc main_arg2) := by
  rw [fin_N0 t, ← V_main_arg2 m c]; blk_ext! [iblk, idx t0_0]
theorem blk2 : iblk m c 2 t = m ((c : Thread nD τ).loc main_arg3) := by
  rw [fin_N0 t, ← V_main_arg3 m c]; blk_ext! [iblk, idx t0_0]
theorem blk3 : iblk m c 3 t = m ((c : Thread nD τ).loc main_arg4) := by
  rw [fin_N0 t, ← V_main_arg4 m c]; blk_ext! [iblk, idx t0_0]
theorem blk4 : iblk m c 4 t = m ((c : Thread nD τ).loc main_arg5) := by
  rw [fin_N0 t, ← V_main_arg5 m c]; blk_ext! [iblk, idx t0_0]
theorem blk5 : iblk m c 5 t = m ((c : Thread nD τ).loc main_arg6) := by
  rw [fin_N0 t, ← V_main_arg6 m c]; blk_ext! [iblk, idx t0_0]

/-- A quantised element: divided by its scale and clamped to the format's range. -/
def code (x s : EReal) : EReal :=
  min (Ideal.ofBits .f32 0x43E00000#32) (max (Ideal.ofBits .f32 0xC3E00000#32) (Ideal.div x s))

/-- A dequantised element. -/
def scaled (x s : EReal) : EReal := x * s

theorem reg0 (j : Fin 4) (h : Fin 2) (x : Fin 256) : Value.reg_main_v0_0 m c (ix4 0 j h x)
    = code (m ((c : Thread nD τ).loc main_arg1) (ix4 0 j h x)) (m ((c : Thread nD τ).loc main_arg5) (ix1 h)) := by
  have e : Value.reg_main_v0_0 m c = k0_pay5 (F := Ideal) (m ((c : Thread nD τ).loc main_arg5)) (m ((c : Thread nD τ).loc main_arg1)) := by
    refine (dats m 0 c).arrAt_eq_of_after_last 6 t0_0 (by decide +kernel) _ fun j => ?_
    blk_simp
    rw [after0_6, blk0, blk4]
    frame_out
  rw [e]
  pointwise [k0_pay5, k0_pay4]
  rfl

theorem reg1 (j : Fin 4) (h : Fin 2) (x : Fin 256) : Value.reg_main_v0_1 m c (ix4 0 j h x)
    = code (m ((c : Thread nD τ).loc main_arg2) (ix4 0 j h x)) (m ((c : Thread nD τ).loc main_arg6) (ix1 h)) := by
  have e : Value.reg_main_v0_1 m c = k0_pay1 (F := Ideal) (k0_pay8 (m ((c : Thread nD τ).loc main_arg6))) (k0_pay9 (m ((c : Thread nD τ).loc main_arg2))) := by
    refine (dats m 0 c).arrAt_eq_of_after_last 7 t0_0 (by decide +kernel) _ fun j => ?_
    blk_simp
    rw [after0_7, blk1, blk5]
    unfold_out out0_7
    frame_out
  rw [e]
  pointwise [k0_pay1, k0_pay8, k0_pay9]
  rfl

theorem reg2 (j : Fin 4) (h : Fin 2) (x : Fin 256) : Value.reg_main_v0_2 m c (ix4 0 j h x)
    = code (m ((c : Thread nD τ).loc main_arg1) (ix4 0 j h x)) (m ((c : Thread nD τ).loc main_arg5) (ix1 h)) * m ((c : Thread nD τ).loc main_arg5) (ix1 h) := by
  have e : Value.reg_main_v0_2 m c = k0_pay6 (F := Ideal) (m ((c : Thread nD τ).loc main_arg5)) (m ((c : Thread nD τ).loc main_arg1)) := by
    refine (dats m 0 c).arrAt_eq_of_after_last 8 t0_0 (by decide +kernel) _ fun j => ?_
    blk_simp
    rw [after0_8, blk0, blk4]
    frame_out
  rw [e]
  pointwise [k0_pay6, k0_pay5, k0_pay4]
  rfl

theorem reg3 (j : Fin 4) (h : Fin 2) (x : Fin 256) : Value.reg_main_v0_3 m c (ix4 0 j h x)
    = code (m ((c : Thread nD τ).loc main_arg2) (ix4 0 j h x)) (m ((c : Thread nD τ).loc main_arg6) (ix1 h)) * m ((c : Thread nD τ).loc main_arg6) (ix1 h) := by
  have e : Value.reg_main_v0_3 m c = k0_pay2 (F := Ideal) (k0_pay8 (m ((c : Thread nD τ).loc main_arg6))) (k0_pay9 (m ((c : Thread nD τ).loc main_arg2))) := by
    refine (dats m 0 c).arrAt_eq_of_after_last 9 t0_0 (by decide +kernel) _ fun j => ?_
    blk_simp
    rw [after0_9, blk1, blk5]
    unfold_out out0_9
    frame_out
  rw [e]
  pointwise [k0_pay2, k0_pay1, k0_pay8, k0_pay9]
  rfl

theorem reg4 (b : Fin 512) (s : Fin 128) (h : Fin 2) (x : Fin 256) : Value.reg_main_v0_4 m c (ix4 b s h x)
    = scaled (m ((c : Thread nD τ).loc main_arg3) (ix4 b s h x)) (m ((c : Thread nD τ).loc main_arg5) (ix1 h)) := by
  have e : Value.reg_main_v0_4 m c = k0_pay7 (F := Ideal) (m ((c : Thread nD τ).loc main_arg5)) (m ((c : Thread nD τ).loc main_arg3)) := by
    refine (dats m 0 c).arrAt_eq_of_after_last 10 t0_0 (by decide +kernel) _ fun j => ?_
    blk_simp
    rw [after0_10, blk2, blk4]
    frame_out
  rw [e]
  pointwise [k0_pay7, k0_pay4]
  rfl

theorem reg5 (b : Fin 512) (s : Fin 128) (h : Fin 2) (x : Fin 256) : Value.reg_main_v0_5 m c (ix4 b s h x)
    = scaled (m ((c : Thread nD τ).loc main_arg4) (ix4 b s h x)) (m ((c : Thread nD τ).loc main_arg6) (ix1 h)) := by
  have e : Value.reg_main_v0_5 m c = k0_pay3 (F := Ideal) (k0_pay8 (m ((c : Thread nD τ).loc main_arg6))) (m ((c : Thread nD τ).loc main_arg4)) := by
    refine (dats m 0 c).arrAt_eq_of_after_last 11 t0_0 (by decide +kernel) _ fun j => ?_
    blk_simp
    rw [after0_11, blk3, blk5]
    unfold_out out0_11
    frame_out
  rw [e]
  pointwise [k0_pay3, k0_pay8]
  rfl

end Cert.ReferenceIdeal.Hand
-- ==== Proof.Tie.lean ====
/-
  The arrays the kernel leaves are those the reference leaves.
-/
module

public import proofs.«01_k».proof.Proof.Ideal.Final
public import proofs.«01_k».proof.Proof.Ref.Pool
public import proofs.«01_k».proof.Proof.Ref.Softmax
public import proofs.«01_k».proof.Proof.Ref.Scores
public import proofs.«01_k».proof.Proof.Ref.Region

@[expose] public section

set_option maxRecDepth 16384

noncomputable section

namespace Cert.Hand

open Idealize.ShloMosaic Idealize.ShloMosaic.TcCoe Idealize.ShloMosaic.Tactic

abbrev N4 : Shape := ⟨4, ![1, 4, 2, 256]⟩
abbrev P4 : Shape := ⟨4, ![512, 128, 2, 256]⟩
abbrev M2 : Shape := ⟨2, ![8, 256]⟩

/-- Row `2 * j + h` of the flattened new tokens is token `j`'s head `h`. -/
theorem new_flat {α : Type} (a : N4.Idx → α) (hs : N4.ShapeCasts M2) (j : Fin 4) (h : Fin 2) (x : Fin 256) :
    shapeCast M2 a hs (ix2 ⟨2 * j.val + h.val, by omega⟩ x) = a (ix4 0 j h x) := by
  have hj := j.isLt
  have hh := h.isLt
  have hx := x.isLt
  refine shapeCast_apply a hs _ _ ?_
  rewrite [Shape.rowMajor_val_four, Shape.rowMajor_val_two]
  show ((0 * 4 + j.val) * 2 + h.val) * 256 + x.val = (2 * j.val + h.val) * 256 + x.val
  omega

theorem scale_row (g : (⟨1, ![2]⟩ : Shape).Idx → EReal) (j : Fin 4) (h : Fin 2) :
    Cert.KernelIdeal.Hand.rsc g ⟨2 * j.val + h.val, by omega⟩ = g (ix1 h) := by
  unfold Cert.KernelIdeal.Hand.rsc
  match h with
  | 0 => exact if_neg (by simp)
  | 1 => exact if_pos (by simp)

/-- A position's page, looked up in the flattened table. -/
theorem page_flat (x7 : (⟨2, ![1, 512]⟩ : Shape).Idx → BitVec 32) (hs : (⟨2, ![1, 512]⟩ : Shape).ShapeCasts ⟨1, ![512]⟩) (p : ℕ) :
    Cert.KernelIdeal.Hand.pg (shapeCast ⟨1, ![512]⟩ x7 hs) p = Cert.ReferenceIdeal.Hand.page x7 p := by
  unfold Cert.KernelIdeal.Hand.pg Cert.ReferenceIdeal.Hand.page
  refine Fin.ext ?_
  have e : ∀ k : Fin 512, shapeCast ⟨1, ![512]⟩ x7 hs (ix1 k) = x7 (ix2 0 k) := fun k => by
    refine shapeCast_apply x7 hs _ _ ?_
    rewrite [Shape.rowMajor_val_two, Shape.rowMajor_val_one]
    show 0 * 512 + k.val = k.val
    omega
  exact congrArg (fun w : BitVec 32 => w.toNat % 512) (e _)

/-- The row at a position, as both sides read it. -/
theorem row_tie (L : ℕ) (a : P4.Idx → EReal) (ht : P4.Transposes [0, 2, 1, 3] ⟨4, ![512, 2, 128, 256]⟩)
    (x7 : (⟨2, ![1, 512]⟩ : Shape).Idx → BitVec 32) (h7 : (⟨2, ![1, 512]⟩ : Shape).ShapeCasts ⟨1, ![512]⟩)
    (g : (⟨1, ![2]⟩ : Shape).Idx → EReal) (n : N4.Idx → EReal) (hn : N4.ShapeCasts M2)
    (r : N4.Idx → EReal) (q : P4.Idx → EReal)
    (hr : ∀ j h x, r (ix4 0 j h x) = Cert.ReferenceIdeal.Hand.code (n (ix4 0 j h x)) (g (ix1 h)) * g (ix1 h))
    (hq : ∀ b s h x, q (ix4 b s h x) = Cert.ReferenceIdeal.Hand.scaled (a (ix4 b s h x)) (g (ix1 h)))
    (h : Fin 2) (p : ℕ) (x : Fin 256) :
    pick L (fun j => r (ix4 0 j h x)) (fun p => q (ix4 (Cert.ReferenceIdeal.Hand.page x7 p) ⟨p % 128, Nat.mod_lt _ (by omega)⟩ h x)) p
      = Cert.KernelIdeal.Hand.rowAt L (transpose ⟨4, ![512, 2, 128, 256]⟩ [0, 2, 1, 3] a ht) (shapeCast ⟨1, ![512]⟩ x7 h7) g (shapeCast M2 n hn) h p x := by
  unfold Cert.KernelIdeal.Hand.rowAt
  refine congrArg₂ (fun u v => pick L u v p) (funext fun j => ?_) (funext fun p => ?_)
  · unfold Cert.KernelIdeal.Hand.nRow
    rw [scale_row, new_flat, hr]
    rfl
  · unfold Cert.KernelIdeal.Hand.cacheAt
    rw [page_flat, hq]
    refine congrArg (· * g (ix1 h)) ?_
    refine (?_ : _ = transpose ⟨4, ![512, 2, 128, 256]⟩ [0, 2, 1, 3] a ht (ix4 _ h ⟨p % 128, Nat.mod_lt _ (by omega)⟩ x))
    generalize Cert.ReferenceIdeal.Hand.page x7 p = b
    generalize (⟨p % 128, Nat.mod_lt _ (by omega)⟩ : Fin 128) = s
    pointwise []

/-- Every row of the flattened new tokens is some token's head. -/
theorem new_ext (f g : M2.Idx → EReal)
    (e : ∀ (j : Fin 4) (h : Fin 2) (x : Fin 256), f (ix2 ⟨2 * j.val + h.val, by omega⟩ x) = g (ix2 ⟨2 * j.val + h.val, by omega⟩ x)) : f = g := by
  funext i
  have h0 : (i 0).val < 8 := (i 0).isLt
  have k := e ⟨(i 0).val / 2, by omega⟩ ⟨(i 0).val % 2, by omega⟩ (i 1)
  have q : i = ix2 ⟨2 * ((i 0).val / 2) + (i 0).val % 2, by omega⟩ (i 1) := by
    funext a
    match a with
    | ⟨0, _⟩ => exact Fin.ext (show (i 0).val = 2 * ((i 0).val / 2) + (i 0).val % 2 by omega)
    | ⟨1, _⟩ => rfl
  exact (congrArg f q).trans (k.trans (congrArg g q).symm)

/-- Every row of the result is some token's, some head's, some member of its group's. -/
theorem out_ext (f g : (⟨2, ![128, 256]⟩ : Shape).Idx → EReal)
    (e : ∀ (q : Fin 4) (h : Fin 2) (r : Fin 16) (x : Fin 256), f (ix2 ⟨(q.val * 2 + h.val) * 16 + r.val, by omega⟩ x) = g (ix2 ⟨(q.val * 2 + h.val) * 16 + r.val, by omega⟩ x)) : f = g := by
  funext i
  have h0 : (i 0).val < 128 := (i 0).isLt
  have k := e ⟨(i 0).val / 32, by omega⟩ ⟨(i 0).val / 16 % 2, by omega⟩ ⟨(i 0).val % 16, by omega⟩ (i 1)
  have q : i = ix2 ⟨((i 0).val / 32 * 2 + (i 0).val / 16 % 2) * 16 + (i 0).val % 16, by omega⟩ (i 1) := by
    funext a
    match a with
    | ⟨0, _⟩ => exact Fin.ext (show (i 0).val = ((i 0).val / 32 * 2 + (i 0).val / 16 % 2) * 16 + (i 0).val % 16 by omega)
    | ⟨1, _⟩ => rfl
  exact (congrArg f q).trans (k.trans (congrArg g q).symm)

section

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)

/-- The new keys' codes. -/
theorem k_tie
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (shapeCast M2 (Cert.ReferenceIdeal.Value.reg_main_v0_0 m' c : N4.Idx → EReal) Cert.ReferenceIdeal.Gen.shapeCasts_S1x4x2x256_S8x256 : M2.Idx → EReal)
      = Cert.KernelIdeal.Hand.kCodes (F := Ideal) (m ((c.tc : Thread Cert.KernelIdeal.nD Cert.KernelIdeal.τ).loc Cert.KernelIdeal.main_arg5)) (Cert.KernelIdeal.Hand.aK m c) :=
  new_ext _ _ fun j h x => by
    rw [new_flat, Cert.ReferenceIdeal.Hand.reg0, e1, e5]
    refine Eq.trans ?_ (Cert.KernelIdeal.Hand.kCodes_at _ _ _ _).symm
    rw [scale_row]
    exact congrArg (Cert.KernelIdeal.Hand.code · _) (new_flat _ _ j h x).symm

/-- The new values' codes. -/
theorem v_tie
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (shapeCast M2 (Cert.ReferenceIdeal.Value.reg_main_v0_1 m' c : N4.Idx → EReal) Cert.ReferenceIdeal.Gen.shapeCasts_S1x4x2x256_S8x256 : M2.Idx → EReal)
      = Cert.KernelIdeal.Hand.vCodes (F := Ideal) (m ((c.tc : Thread Cert.KernelIdeal.nD Cert.KernelIdeal.τ).loc Cert.KernelIdeal.main_arg6)) (Cert.KernelIdeal.Hand.aV m c) :=
  new_ext _ _ fun j h x => by
    rw [new_flat, Cert.ReferenceIdeal.Hand.reg1, e2, e6]
    refine Eq.trans ?_ (Cert.KernelIdeal.Hand.vCodes_at _ _ _ _).symm
    rw [scale_row]
    exact congrArg (Cert.KernelIdeal.Hand.code · _) (new_flat _ _ j h x).symm

/-- The attended rows. -/
theorem y_tie
    (x0 : (⟨3, ![1, 4, 8192]⟩ : Shape).Idx → EReal) (x7 : (⟨2, ![1, 512]⟩ : Shape).Idx → BitVec 32) (x8 : (⟨1, ![1]⟩ : Shape).Idx → BitVec 32)
    (d0 : x0 = m ((c.tc : Thread Cert.KernelIdeal.nD Cert.KernelIdeal.τ).loc Cert.KernelIdeal.main_arg0))
    (d7 : x7 = m ((c.tc : Thread Cert.KernelIdeal.nD Cert.KernelIdeal.τ).loc Cert.KernelIdeal.main_arg7))
    (d8 : x8 = m ((c.tc : Thread Cert.KernelIdeal.nD Cert.KernelIdeal.τ).loc Cert.KernelIdeal.main_arg8))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : ∀ i, (x7 i).toNat < 512) (h8 : (x8 (ix1 0)).toNat ≤ 65532) (hI : Cert.ReferenceIdeal.Hand.Inj x7) :
    Cert.ReferenceIdeal.Read.val_main_v81 (F := Ideal) x0 x7 x8 (Cert.ReferenceIdeal.Value.reg_main_v0_2 m' c) (Cert.ReferenceIdeal.Value.reg_main_v0_3 m' c)
        (Cert.ReferenceIdeal.Value.reg_main_v0_4 m' c) (Cert.ReferenceIdeal.Value.reg_main_v0_5 m' c)
      = Cert.KernelIdeal.Hand.yAt m c Cert.KernelIdeal.Gen.t0_0 := by
  refine out_ext _ _ fun q h r x => ?_
  have hq := q.isLt
  have hr := r.isLt
  have hK := row_tie (x8 (ix1 0)).toNat (m ((c.tc : Thread Cert.KernelIdeal.nD Cert.KernelIdeal.τ).loc Cert.KernelIdeal.main_arg3)) Cert.KernelIdeal.Gen.transposes_S512x128x2x256_S512x2x128x256_0_2_1_3
    x7 Cert.KernelIdeal.Gen.shapeCasts_S1x512_S512 (m ((c.tc : Thread Cert.KernelIdeal.nD Cert.KernelIdeal.τ).loc Cert.KernelIdeal.main_arg5)) (m ((c.tc : Thread Cert.KernelIdeal.nD Cert.KernelIdeal.τ).loc Cert.KernelIdeal.main_arg1))
    Cert.KernelIdeal.Gen.shapeCasts_S1x4x2x256_S8x256 (Cert.ReferenceIdeal.Value.reg_main_v0_2 m' c) (Cert.ReferenceIdeal.Value.reg_main_v0_4 m' c)
    (fun j h x => by rw [Cert.ReferenceIdeal.Hand.reg2, e1, e5]) (fun b s h x => by rw [Cert.ReferenceIdeal.Hand.reg4, e3, e5]) h
  have hV := row_tie (x8 (ix1 0)).toNat (m ((c.tc : Thread Cert.KernelIdeal.nD Cert.KernelIdeal.τ).loc Cert.KernelIdeal.main_arg4)) Cert.KernelIdeal.Gen.transposes_S512x128x2x256_S512x2x128x256_0_2_1_3
    x7 Cert.KernelIdeal.Gen.shapeCasts_S1x512_S512 (m ((c.tc : Thread Cert.KernelIdeal.nD Cert.KernelIdeal.τ).loc Cert.KernelIdeal.main_arg6)) (m ((c.tc : Thread Cert.KernelIdeal.nD Cert.KernelIdeal.τ).loc Cert.KernelIdeal.main_arg2))
    Cert.KernelIdeal.Gen.shapeCasts_S1x4x2x256_S8x256 (Cert.ReferenceIdeal.Value.reg_main_v0_3 m' c) (Cert.ReferenceIdeal.Value.reg_main_v0_5 m' c)
    (fun j h x => by rw [Cert.ReferenceIdeal.Hand.reg3, e2, e6]) (fun b s h x => by rw [Cert.ReferenceIdeal.Hand.reg5, e4, e6]) h
  refine (Cert.ReferenceIdeal.Hand.attend_at x0 x7 x8 _ _ _ _ h8 h r q x
    (Cert.KernelIdeal.Hand.scAt (Cert.KernelIdeal.Hand.aL m c) (m ((c.tc : Thread Cert.KernelIdeal.nD Cert.KernelIdeal.τ).loc Cert.KernelIdeal.main_arg5)) (Cert.KernelIdeal.Hand.aQ m c)
      (Cert.KernelIdeal.Hand.aK m c) (Cert.KernelIdeal.Hand.aA m c) (Cert.KernelIdeal.Hand.aT m c) h ⟨16 * q.val + r.val, by omega⟩)
    (fun p => Cert.KernelIdeal.Hand.rowAt (Cert.KernelIdeal.Hand.aL m c).toNat (Cert.KernelIdeal.Hand.aB m c) (Cert.KernelIdeal.Hand.aT m c)
      (m ((c.tc : Thread Cert.KernelIdeal.nD Cert.KernelIdeal.τ).loc Cert.KernelIdeal.main_arg6)) (Cert.KernelIdeal.Hand.aV m c) h p x)
    (fun p => ?_) (fun p => ?_)).trans ?_
  · rw [Cert.ReferenceIdeal.Hand.v59_at]
    unfold Cert.KernelIdeal.Hand.scAt Cert.KernelIdeal.Hand.dot
    refine congrArg (· * Ideal.ofBits .f32 0x3D800000#32) (Finset.sum_congr rfl fun y _ => ?_)
    rw [Cert.ReferenceIdeal.Hand.v55_at x0 q h r y Cert.KernelIdeal.Gen.shapeCasts_S1x4x8192_S128x256, Cert.ReferenceIdeal.Hand.read_at x7 x8 h7 h8 hI, hK]
    subst d0 d7 d8
    have w : Cert.KernelIdeal.Hand.qRow h ⟨16 * q.val + r.val, by omega⟩ = ⟨(q.val * 2 + h.val) * 16 + r.val, by omega⟩ :=
      Fin.ext (show ((16 * q.val + r.val) / 16 * 2 + h.val) * 16 + (16 * q.val + r.val) % 16 = (q.val * 2 + h.val) * 16 + r.val by omega)
    rw [w]
  · rw [Cert.ReferenceIdeal.Hand.v54_eq, Cert.ReferenceIdeal.Hand.read_at x7 x8 h7 h8 hI, hV]
    subst d0 d7 d8
    rfl
  · have w : Cert.KernelIdeal.Hand.qRow h ⟨16 * q.val + r.val, by omega⟩ = ⟨(q.val * 2 + h.val) * 16 + r.val, by omega⟩ :=
      Fin.ext (show ((16 * q.val + r.val) / 16 * 2 + h.val) * 16 + (16 * q.val + r.val) % 16 = (q.val * 2 + h.val) * 16 + r.val by omega)
    subst d0 d7 d8
    rw [← w]
    refine Eq.trans ?_ (Cert.KernelIdeal.Hand.yAt_eq m c h8 h ⟨16 * q.val + r.val, by omega⟩ x).symm
    have z : (16 * q.val + r.val) / 16 = q.val := by omega
    exact congrArg (fun k => attend _ _ (Finset.range ((Cert.KernelIdeal.Hand.aL m c).toNat + k + 1))) z.symm

end

end Cert.Hand
-- ==== Proof.Words.lean ====
/-
  The words the kernel computes: the number of whole 1024-position blocks in the sequence, the four conditions under
  which a block's pages are started, and the offsets of every page copy, in closed form.
-/
module

public import proofs.«01_k».proof.Proof.Gen.Kernel.Skeleton
public import Idealize.ShloMosaic.Lib.Tactic
public import Idealize.ShloMosaic.Lib.WordCmp
public import Idealize.ShloMosaic.Lib.Affine

@[expose] public section

set_option maxRecDepth 8192

namespace Cert.Kernel.Hand

open Cert.Kernel Cert.Kernel.Gen
open Idealize.ShloMosaic

theorem inb512 {x : Nat} (h : x < 512) : ∀ a, (![x] : Fin 1 → Nat) a + S1.size a ≤ S512.size a := by
  intro a; fin_cases a; show x + 1 ≤ 512; omega
theorem inb4 {x : Nat} (h : x < 4) : ∀ a, (![x] : Fin 1 → Nat) a + S1.size a ≤ S4.size a := by
  intro a; fin_cases a; show x + 1 ≤ 4; omega
theorem inbM {s j : Nat} (h : s < 4) (hj : j < 8) : ∀ a, (![s, j, 0, 0, 0] : Fin 5 → Nat) a + S1x1x2x128x256.size a ≤ S4x8x2x128x256.size a := by
  intro a; fin_cases a
  · show s + 1 ≤ 4; omega
  · show j + 1 ≤ 8; omega
  · show 0 + 2 ≤ 2; omega
  · show 0 + 128 ≤ 128; omega
  · show 0 + 256 ≤ 256; omega
theorem inbL {s j : Nat} (h : s < 4) (hj : j < 2) : ∀ a, (![s, 0, j, 0, 0] : Fin 5 → Nat) a + S1x8x1x128x256.size a ≤ S4x8x2x128x256.size a := by
  intro a; fin_cases a
  · show s + 1 ≤ 4; omega
  · show 0 + 8 ≤ 8; omega
  · show j + 1 ≤ 2; omega
  · show 0 + 128 ≤ 128; omega
  · show 0 + 256 ≤ 256; omega
theorem inbP {w : BitVec 32} (h : w.toNat < 512) : ∀ a, (![w.toNat, 0, 0, 0] : Fin 4 → Nat) a + S1x2x128x256.size a ≤ S512x2x128x256.size a := by
  intro a; fin_cases a
  · show w.toNat + 1 ≤ 512; omega
  · show 0 + 2 ≤ 2; omega
  · show 0 + 128 ≤ 128; omega
  · show 0 + 256 ≤ 256; omega

/-- Floor division by 1024 as the kernel computes it: the truncated quotient, less one when the signs differ and the
    remainder is not zero. -/
def v17 (v0 : BitVec 32) : BitVec 32 :=
  let v6 : BitVec 32 := Scalar.subi (Scalar.extui (Scalar.cmpi .sgt v0 0#32)) (Scalar.extui (Scalar.cmpi .slt v0 0#32))
  let v11 : BitVec 32 := Scalar.subi (Scalar.extui (Scalar.cmpi .sgt 1024#32 0#32)) (Scalar.extui (Scalar.cmpi .slt 1024#32 0#32))
  let v15 : BitVec 1 := Scalar.andi (Scalar.cmpi .ne v6 v11) (Scalar.cmpi .ne (Scalar.remsi v0 1024#32) 0#32)
  let v1 : BitVec 32 := Scalar.divsi v0 1024#32
  Scalar.select v15 (Scalar.subi v1 1#32) v1

/-- How many whole blocks the sequence has. -/
def NF (v0 : BitVec 32) : Nat := v0.toNat / 1024

theorem NF_lt {v0 : BitVec 32} (hv : v0.toNat ≤ 65532) : NF v0 < 64 := by unfold NF; omega

theorem v17_eq {v0 : BitVec 32} (hv : v0.toNat ≤ 65532) : v17 v0 = BitVec.ofNat 32 (NF v0) := by
  have hd : Scalar.divsi v0 1024#32 = BitVec.ofNat 32 (NF v0) := by
    show IntOp.divsi .scalar v0 1024#32 = _
    unfold IntOp.divsi
    rw [if_neg (IntOp.not_corner_of_pos (by decide)), BitVec.sdiv_eq]
    have h1 : v0.msb = false := by rw [BitVec.msb_eq_false_iff_two_mul_lt]; omega
    rw [h1, show (1024#32 : BitVec 32).msb = false from rfl]
    apply BitVec.eq_of_toNat_eq
    show (v0.udiv 1024#32).toNat = _
    rw [BitVec.udiv_eq, BitVec.toNat_udiv, BitVec.toNat_ofNat, BitVec.toNat_ofNat]
    show v0.toNat / 1024 = v0.toNat / 1024 % 2 ^ 32
    omega
  have hc : Scalar.andi (Scalar.cmpi .ne (Scalar.subi (Scalar.extui (Scalar.cmpi .sgt v0 0#32)) (Scalar.extui (Scalar.cmpi .slt v0 0#32)))
      (Scalar.subi (Scalar.extui (Scalar.cmpi .sgt 1024#32 0#32)) (Scalar.extui (Scalar.cmpi .slt 1024#32 0#32))))
      (Scalar.cmpi .ne (Scalar.remsi v0 1024#32) 0#32) = 0#1 := by
    by_cases h0 : v0 = 0#32
    · subst h0; decide +kernel
    · have hp : 0 < v0.toNat := Nat.pos_of_ne_zero fun h => h0 (BitVec.eq_of_toNat_eq (by simpa using h))
      have hI : v0.toInt = (v0.toNat : Int) := WordCmp.toInt_eq_toNat_of_lt_half (by omega)
      have h1 : Scalar.cmpi .sgt v0 0#32 = 1#1 := by
        show IntOp.cmpi .sgt v0 0#32 = 1#1
        rw [WordCmp.cmpi_sgt_eq, hI, show (0#32 : BitVec 32).toInt = 0 from rfl, decide_eq_true (by omega)]; rfl
      have h2 : Scalar.cmpi .slt v0 0#32 = 0#1 := by
        show IntOp.cmpi .slt v0 0#32 = 0#1
        rw [WordCmp.cmpi_slt_eq, hI, show (0#32 : BitVec 32).toInt = 0 from rfl, decide_eq_false (by omega)]; rfl
      rw [h1, h2]
      have : ∀ x : BitVec 1, Scalar.andi (Scalar.cmpi .ne (Scalar.subi (Scalar.extui 1#1) (Scalar.extui 0#1))
        (Scalar.subi (Scalar.extui (Scalar.cmpi .sgt 1024#32 0#32)) (Scalar.extui (Scalar.cmpi .slt 1024#32 0#32)))) x = 0#1 := by decide +kernel
      exact this _
  unfold v17
  dsimp only
  rw [hc, hd]
  rfl

theorem trips_eq {v0 : BitVec 32} (hv : v0.toNat ≤ 65532) : (k0_t1_loop v0).trips = NF v0 := by
  show Scf.trips 0#32 (Scalar.addi 0#32 (Scalar.muli (Scalar.divsi (Scalar.subi (v17 v0) 0#32) 1#32) 1#32)) 1#32 = _
  rw [v17_eq hv]
  exact (by decide +kernel : ∀ n : Fin 64, Scf.trips 0#32 (Scalar.addi 0#32 (Scalar.muli (Scalar.divsi (Scalar.subi (BitVec.ofNat 32 n) 0#32) 1#32) 1#32)) 1#32 = n) ⟨NF v0, NF_lt hv⟩

theorem t1_ok {v0 : BitVec 32} (hv : v0.toNat ≤ 65532) : (k0_t1_loop v0).OK := by
  show Scf.Loop.OK ⟨0#32, (Scalar.addi 0#32 (Scalar.muli (Scalar.divsi (Scalar.subi (v17 v0) 0#32) 1#32) 1#32)), 1#32⟩
  rw [v17_eq hv]
  exact (by decide +kernel : ∀ n : Fin 64, Scf.Loop.OK ⟨0#32, (Scalar.addi 0#32 (Scalar.muli (Scalar.divsi (Scalar.subi (BitVec.ofNat 32 n) 0#32) 1#32) 1#32)), 1#32⟩) ⟨NF v0, NF_lt hv⟩

theorem trips2_eq {v0 : BitVec 32} (hv : v0.toNat ≤ 65532) : (k0_t2_loop v0).trips = 0 := by
  show Scf.trips (Scalar.addi 0#32 (Scalar.muli (Scalar.divsi (Scalar.subi (v17 v0) 0#32) 1#32) 1#32)) (Scalar.addi 0#32 (Scalar.subi (v17 v0) 0#32)) 1#32 = 0
  rw [v17_eq hv]
  exact (by decide +kernel : ∀ n : Fin 64, Scf.trips (Scalar.addi 0#32 (Scalar.muli (Scalar.divsi (Scalar.subi (BitVec.ofNat 32 n) 0#32) 1#32) 1#32)) (Scalar.addi 0#32 (Scalar.subi (BitVec.ofNat 32 n) 0#32)) 1#32 = 0) ⟨NF v0, NF_lt hv⟩

theorem t2_none {v0 : BitVec 32} (hv : v0.toNat ≤ 65532) (t : Fin (k0_t2_loop v0).trips) : False :=
  absurd (lt_of_lt_of_eq t.isLt (trips2_eq hv)) (Nat.not_lt_zero _)

theorem t2_ok {v0 : BitVec 32} (hv : v0.toNat ≤ 65532) : (k0_t2_loop v0).OK := by
  show Scf.Loop.OK ⟨(Scalar.addi 0#32 (Scalar.muli (Scalar.divsi (Scalar.subi (v17 v0) 0#32) 1#32) 1#32)), (Scalar.addi 0#32 (Scalar.subi (v17 v0) 0#32)), 1#32⟩
  rw [v17_eq hv]
  exact (by decide +kernel : ∀ n : Fin 64, Scf.Loop.OK ⟨(Scalar.addi 0#32 (Scalar.muli (Scalar.divsi (Scalar.subi (BitVec.ofNat 32 n) 0#32) 1#32) 1#32)), (Scalar.addi 0#32 (Scalar.subi (BitVec.ofNat 32 n) 0#32)), 1#32⟩) ⟨NF v0, NF_lt hv⟩

theorem cond1_eq {v0 : BitVec 32} (hv : v0.toNat ≤ 65532) : k0_cond1 v0 = 1#1 ↔ 0 ≤ NF v0 := by
  show Scalar.cmpi .ne (Scalar.extui (Scalar.cmpi .sle 0#32 (v17 v0))) 0#32 = 1#1 ↔ _
  rw [v17_eq hv]
  exact (by decide +kernel : ∀ n : Fin 64, Scalar.cmpi .ne (Scalar.extui (Scalar.cmpi .sle 0#32 (BitVec.ofNat 32 n))) 0#32 = 1#1 ↔ 0 ≤ n.val) ⟨NF v0, NF_lt hv⟩

theorem cond2_eq {v0 : BitVec 32} (hv : v0.toNat ≤ 65532) : k0_cond2 v0 = 1#1 ↔ 1 ≤ NF v0 := by
  show Scalar.cmpi .ne (Scalar.extui (Scalar.cmpi .sle 1#32 (v17 v0))) 0#32 = 1#1 ↔ _
  rw [v17_eq hv]
  exact (by decide +kernel : ∀ n : Fin 64, Scalar.cmpi .ne (Scalar.extui (Scalar.cmpi .sle 1#32 (BitVec.ofNat 32 n))) 0#32 = 1#1 ↔ 1 ≤ n.val) ⟨NF v0, NF_lt hv⟩

theorem cond3_eq {v0 : BitVec 32} (hv : v0.toNat ≤ 65532) : k0_cond3 v0 = 1#1 ↔ 2 ≤ NF v0 := by
  show Scalar.cmpi .ne (Scalar.extui (Scalar.cmpi .sle 2#32 (v17 v0))) 0#32 = 1#1 ↔ _
  rw [v17_eq hv]
  exact (by decide +kernel : ∀ n : Fin 64, Scalar.cmpi .ne (Scalar.extui (Scalar.cmpi .sle 2#32 (BitVec.ofNat 32 n))) 0#32 = 1#1 ↔ 2 ≤ n.val) ⟨NF v0, NF_lt hv⟩

theorem trip_lt {v0 : BitVec 32} (hv : v0.toNat ≤ 65532) (t : Fin (k0_t1_loop v0).trips) : t.val < NF v0 := by
  exact lt_of_lt_of_eq t.isLt (trips_eq hv)

theorem trip_lt64 {v0 : BitVec 32} (hv : v0.toNat ≤ 65532) (t : Fin (k0_t1_loop v0).trips) : t.val < 64 :=
  (trip_lt hv t).trans (NF_lt hv)

theorem cond4_eq {v0 : BitVec 32} (hv : v0.toNat ≤ 65532) (t : Fin (k0_t1_loop v0).trips) : k0_cond4 v0 t = 1#1 ↔ t.val + 3 ≤ NF v0 := by
  show Scalar.cmpi .ne (Scalar.extui (Scalar.cmpi .sle (Scalar.subi (Scalar.addi (Scf.iv 0#32 1#32 t) 4#32) 1#32) (v17 v0))) 0#32 = 1#1 ↔ _
  rw [v17_eq hv]
  exact (by decide +kernel : ∀ k n : Fin 64, Scalar.cmpi .ne (Scalar.extui (Scalar.cmpi .sle (Scalar.subi (Scalar.addi (Scf.iv 0#32 1#32 k) 4#32) 1#32) (BitVec.ofNat 32 n))) 0#32 = 1#1 ↔ k.val + 3 ≤ n.val)
    ⟨t.val, trip_lt64 hv t⟩ ⟨NF v0, NF_lt hv⟩

/-! The table index and the ring slot of block `t`, of block `t + 3`, and of the last block. -/

theorem tblT (j : Fin 8) (t : Fin 64) : (Scalar.indexCast (Scalar.addi (Scalar.muli (Scf.iv 0#32 1#32 t) 8#32) (BitVec.ofNat 32 j))).toNat = 8 * t.val + j.val := by
  revert j t; decide +kernel
theorem tblS (j : Fin 8) (t : Fin 64) : (Scalar.indexCast (Scalar.addi (Scalar.muli (Scalar.subi (Scalar.addi (Scf.iv 0#32 1#32 t) 4#32) 1#32) 8#32) (BitVec.ofNat 32 j))).toNat = 8 * (t.val + 3) + j.val := by
  revert j t; decide +kernel
theorem tblN (j : Fin 8) (n : Fin 64) : (Scalar.indexCast (Scalar.addi (Scalar.muli (BitVec.ofNat 32 n) 8#32) (BitVec.ofNat 32 j))).toNat = 8 * n.val + j.val := by
  revert j n; decide +kernel
theorem slotT (t : Fin 64) : (Scalar.remsi (Scf.iv 0#32 1#32 t) 4#32).toNat = t.val % 4 := by revert t; decide +kernel
theorem slotS (t : Fin 64) : (Scalar.remsi (Scalar.subi (Scalar.addi (Scf.iv 0#32 1#32 t) 4#32) 1#32) 4#32).toNat = (t.val + 3) % 4 := by revert t; decide +kernel
theorem slotN (n : Fin 64) : (Scalar.remsi (BitVec.ofNat 32 n) 4#32).toNat = n.val % 4 := by revert n; decide +kernel

theorem off1_eq : k0_off1 = ![0] := by decide +kernel
theorem off2_eq : k0_off2 = ![0] := by decide +kernel
theorem off3_eq : k0_off3 = ![0, 0, 0, 0, 0] := by decide +kernel
theorem off4_eq (w : BitVec 32) : k0_off4 w = ![w.toNat, 0, 0, 0] := rfl
theorem off5_eq : k0_off5 = ![0] := by decide +kernel
theorem off6_eq : k0_off6 = ![0, 0, 0, 0, 0] := by decide +kernel
theorem off7_eq : k0_off7 = ![1] := by decide +kernel
theorem off8_eq : k0_off8 = ![0, 1, 0, 0, 0] := by decide +kernel
theorem off9_eq (w : BitVec 32) : k0_off9 w = ![w.toNat, 0, 0, 0] := rfl
theorem off10_eq : k0_off10 = ![0] := by decide +kernel
theorem off11_eq : k0_off11 = ![0, 1, 0, 0, 0] := by decide +kernel
theorem off12_eq : k0_off12 = ![2] := by decide +kernel
theorem off13_eq : k0_off13 = ![0, 2, 0, 0, 0] := by decide +kernel
theorem off14_eq (w : BitVec 32) : k0_off14 w = ![w.toNat, 0, 0, 0] := rfl
theorem off15_eq : k0_off15 = ![0] := by decide +kernel
theorem off16_eq : k0_off16 = ![0, 2, 0, 0, 0] := by decide +kernel
theorem off17_eq : k0_off17 = ![3] := by decide +kernel
theorem off18_eq : k0_off18 = ![0, 3, 0, 0, 0] := by decide +kernel
theorem off19_eq (w : BitVec 32) : k0_off19 w = ![w.toNat, 0, 0, 0] := rfl
theorem off20_eq : k0_off20 = ![0] := by decide +kernel
theorem off21_eq : k0_off21 = ![0, 3, 0, 0, 0] := by decide +kernel
theorem off22_eq : k0_off22 = ![4] := by decide +kernel
theorem off23_eq : k0_off23 = ![0, 4, 0, 0, 0] := by decide +kernel
theorem off24_eq (w : BitVec 32) : k0_off24 w = ![w.toNat, 0, 0, 0] := rfl
theorem off25_eq : k0_off25 = ![0] := by decide +kernel
theorem off26_eq : k0_off26 = ![0, 4, 0, 0, 0] := by decide +kernel
theorem off27_eq : k0_off27 = ![5] := by decide +kernel
theorem off28_eq : k0_off28 = ![0, 5, 0, 0, 0] := by decide +kernel
theorem off29_eq (w : BitVec 32) : k0_off29 w = ![w.toNat, 0, 0, 0] := rfl
theorem off30_eq : k0_off30 = ![0] := by decide +kernel
theorem off31_eq : k0_off31 = ![0, 5, 0, 0, 0] := by decide +kernel
theorem off32_eq : k0_off32 = ![6] := by decide +kernel
theorem off33_eq : k0_off33 = ![0, 6, 0, 0, 0] := by decide +kernel
theorem off34_eq (w : BitVec 32) : k0_off34 w = ![w.toNat, 0, 0, 0] := rfl
theorem off35_eq : k0_off35 = ![0] := by decide +kernel
theorem off36_eq : k0_off36 = ![0, 6, 0, 0, 0] := by decide +kernel
theorem off37_eq : k0_off37 = ![7] := by decide +kernel
theorem off38_eq : k0_off38 = ![0, 7, 0, 0, 0] := by decide +kernel
theorem off39_eq (w : BitVec 32) : k0_off39 w = ![w.toNat, 0, 0, 0] := rfl
theorem off40_eq : k0_off40 = ![0] := by decide +kernel
theorem off41_eq : k0_off41 = ![0, 7, 0, 0, 0] := by decide +kernel
theorem off42_eq : k0_off42 = ![8] := by decide +kernel
theorem off43_eq : k0_off43 = ![1] := by decide +kernel
theorem off44_eq : k0_off44 = ![1, 0, 0, 0, 0] := by decide +kernel
theorem off45_eq (w : BitVec 32) : k0_off45 w = ![w.toNat, 0, 0, 0] := rfl
theorem off46_eq : k0_off46 = ![1] := by decide +kernel
theorem off47_eq : k0_off47 = ![1, 0, 0, 0, 0] := by decide +kernel
theorem off48_eq : k0_off48 = ![9] := by decide +kernel
theorem off49_eq : k0_off49 = ![1, 1, 0, 0, 0] := by decide +kernel
theorem off50_eq (w : BitVec 32) : k0_off50 w = ![w.toNat, 0, 0, 0] := rfl
theorem off51_eq : k0_off51 = ![1] := by decide +kernel
theorem off52_eq : k0_off52 = ![1, 1, 0, 0, 0] := by decide +kernel
theorem off53_eq : k0_off53 = ![10] := by decide +kernel
theorem off54_eq : k0_off54 = ![1, 2, 0, 0, 0] := by decide +kernel
theorem off55_eq (w : BitVec 32) : k0_off55 w = ![w.toNat, 0, 0, 0] := rfl
theorem off56_eq : k0_off56 = ![1] := by decide +kernel
theorem off57_eq : k0_off57 = ![1, 2, 0, 0, 0] := by decide +kernel
theorem off58_eq : k0_off58 = ![11] := by decide +kernel
theorem off59_eq : k0_off59 = ![1, 3, 0, 0, 0] := by decide +kernel
theorem off60_eq (w : BitVec 32) : k0_off60 w = ![w.toNat, 0, 0, 0] := rfl
theorem off61_eq : k0_off61 = ![1] := by decide +kernel
theorem off62_eq : k0_off62 = ![1, 3, 0, 0, 0] := by decide +kernel
theorem off63_eq : k0_off63 = ![12] := by decide +kernel
theorem off64_eq : k0_off64 = ![1, 4, 0, 0, 0] := by decide +kernel
theorem off65_eq (w : BitVec 32) : k0_off65 w = ![w.toNat, 0, 0, 0] := rfl
theorem off66_eq : k0_off66 = ![1] := by decide +kernel
theorem off67_eq : k0_off67 = ![1, 4, 0, 0, 0] := by decide +kernel
theorem off68_eq : k0_off68 = ![13] := by decide +kernel
theorem off69_eq : k0_off69 = ![1, 5, 0, 0, 0] := by decide +kernel
theorem off70_eq (w : BitVec 32) : k0_off70 w = ![w.toNat, 0, 0, 0] := rfl
theorem off71_eq : k0_off71 = ![1] := by decide +kernel
theorem off72_eq : k0_off72 = ![1, 5, 0, 0, 0] := by decide +kernel
theorem off73_eq : k0_off73 = ![14] := by decide +kernel
theorem off74_eq : k0_off74 = ![1, 6, 0, 0, 0] := by decide +kernel
theorem off75_eq (w : BitVec 32) : k0_off75 w = ![w.toNat, 0, 0, 0] := rfl
theorem off76_eq : k0_off76 = ![1] := by decide +kernel
theorem off77_eq : k0_off77 = ![1, 6, 0, 0, 0] := by decide +kernel
theorem off78_eq : k0_off78 = ![15] := by decide +kernel
theorem off79_eq : k0_off79 = ![1, 7, 0, 0, 0] := by decide +kernel
theorem off80_eq (w : BitVec 32) : k0_off80 w = ![w.toNat, 0, 0, 0] := rfl
theorem off81_eq : k0_off81 = ![1] := by decide +kernel
theorem off82_eq : k0_off82 = ![1, 7, 0, 0, 0] := by decide +kernel
theorem off83_eq : k0_off83 = ![16] := by decide +kernel
theorem off84_eq : k0_off84 = ![2] := by decide +kernel
theorem off85_eq : k0_off85 = ![2, 0, 0, 0, 0] := by decide +kernel
theorem off86_eq (w : BitVec 32) : k0_off86 w = ![w.toNat, 0, 0, 0] := rfl
theorem off87_eq : k0_off87 = ![2] := by decide +kernel
theorem off88_eq : k0_off88 = ![2, 0, 0, 0, 0] := by decide +kernel
theorem off89_eq : k0_off89 = ![17] := by decide +kernel
theorem off90_eq : k0_off90 = ![2, 1, 0, 0, 0] := by decide +kernel
theorem off91_eq (w : BitVec 32) : k0_off91 w = ![w.toNat, 0, 0, 0] := rfl
theorem off92_eq : k0_off92 = ![2] := by decide +kernel
theorem off93_eq : k0_off93 = ![2, 1, 0, 0, 0] := by decide +kernel
theorem off94_eq : k0_off94 = ![18] := by decide +kernel
theorem off95_eq : k0_off95 = ![2, 2, 0, 0, 0] := by decide +kernel
theorem off96_eq (w : BitVec 32) : k0_off96 w = ![w.toNat, 0, 0, 0] := rfl
theorem off97_eq : k0_off97 = ![2] := by decide +kernel
theorem off98_eq : k0_off98 = ![2, 2, 0, 0, 0] := by decide +kernel
theorem off99_eq : k0_off99 = ![19] := by decide +kernel
theorem off100_eq : k0_off100 = ![2, 3, 0, 0, 0] := by decide +kernel
theorem off101_eq (w : BitVec 32) : k0_off101 w = ![w.toNat, 0, 0, 0] := rfl
theorem off102_eq : k0_off102 = ![2] := by decide +kernel
theorem off103_eq : k0_off103 = ![2, 3, 0, 0, 0] := by decide +kernel
theorem off104_eq : k0_off104 = ![20] := by decide +kernel
theorem off105_eq : k0_off105 = ![2, 4, 0, 0, 0] := by decide +kernel
theorem off106_eq (w : BitVec 32) : k0_off106 w = ![w.toNat, 0, 0, 0] := rfl
theorem off107_eq : k0_off107 = ![2] := by decide +kernel
theorem off108_eq : k0_off108 = ![2, 4, 0, 0, 0] := by decide +kernel
theorem off109_eq : k0_off109 = ![21] := by decide +kernel
theorem off110_eq : k0_off110 = ![2, 5, 0, 0, 0] := by decide +kernel
theorem off111_eq (w : BitVec 32) : k0_off111 w = ![w.toNat, 0, 0, 0] := rfl
theorem off112_eq : k0_off112 = ![2] := by decide +kernel
theorem off113_eq : k0_off113 = ![2, 5, 0, 0, 0] := by decide +kernel
theorem off114_eq : k0_off114 = ![22] := by decide +kernel
theorem off115_eq : k0_off115 = ![2, 6, 0, 0, 0] := by decide +kernel
theorem off116_eq (w : BitVec 32) : k0_off116 w = ![w.toNat, 0, 0, 0] := rfl
theorem off117_eq : k0_off117 = ![2] := by decide +kernel
theorem off118_eq : k0_off118 = ![2, 6, 0, 0, 0] := by decide +kernel
theorem off119_eq : k0_off119 = ![23] := by decide +kernel
theorem off120_eq : k0_off120 = ![2, 7, 0, 0, 0] := by decide +kernel
theorem off121_eq (w : BitVec 32) : k0_off121 w = ![w.toNat, 0, 0, 0] := rfl
theorem off122_eq : k0_off122 = ![2] := by decide +kernel
theorem off123_eq : k0_off123 = ![2, 7, 0, 0, 0] := by decide +kernel
theorem off124_eq {v0 : BitVec 32} (hv : v0.toNat ≤ 65532) (t : Fin (k0_t1_loop v0).trips) : k0_off124 v0 t = ![8 * t.val + 0] :=
  congrArg (fun x => ![x]) (tblT 0 ⟨t.val, trip_lt64 hv t⟩)
theorem off125_eq {v0 : BitVec 32} (hv : v0.toNat ≤ 65532) (t : Fin (k0_t1_loop v0).trips) : k0_off125 v0 t = ![t.val % 4] :=
  congrArg (fun x => ![x]) (slotT ⟨t.val, trip_lt64 hv t⟩)
theorem off126_eq {v0 : BitVec 32} (hv : v0.toNat ≤ 65532) (t : Fin (k0_t1_loop v0).trips) : k0_off126 v0 t = ![t.val % 4, 0, 0, 0, 0] :=
  congrArg (fun x => ![x, 0, 0, 0, 0]) (slotT ⟨t.val, trip_lt64 hv t⟩)
theorem off127_eq (w : BitVec 32) : k0_off127 w = ![w.toNat, 0, 0, 0] := rfl
theorem off128_eq {v0 : BitVec 32} (hv : v0.toNat ≤ 65532) (t : Fin (k0_t1_loop v0).trips) : k0_off128 v0 t = ![t.val % 4] :=
  congrArg (fun x => ![x]) (slotT ⟨t.val, trip_lt64 hv t⟩)
theorem off129_eq {v0 : BitVec 32} (hv : v0.toNat ≤ 65532) (t : Fin (k0_t1_loop v0).trips) : k0_off129 v0 t = ![t.val % 4, 0, 0, 0, 0] :=
  congrArg (fun x => ![x, 0, 0, 0, 0]) (slotT ⟨t.val, trip_lt64 hv t⟩)
theorem off130_eq {v0 : BitVec 32} (hv : v0.toNat ≤ 65532) (t : Fin (k0_t1_loop v0).trips) : k0_off130 v0 t = ![8 * t.val + 1] :=
  congrArg (fun x => ![x]) (tblT 1 ⟨t.val, trip_lt64 hv t⟩)
theorem off131_eq {v0 : BitVec 32} (hv : v0.toNat ≤ 65532) (t : Fin (k0_t1_loop v0).trips) : k0_off131 v0 t = ![t.val % 4, 1, 0, 0, 0] :=
  congrArg (fun x => ![x, 1, 0, 0, 0]) (slotT ⟨t.val, trip_lt64 hv t⟩)
theorem off132_eq (w : BitVec 32) : k0_off132 w = ![w.toNat, 0, 0, 0] := rfl
theorem off133_eq {v0 : BitVec 32} (hv : v0.toNat ≤ 65532) (t : Fin (k0_t1_loop v0).trips) : k0_off133 v0 t = ![t.val % 4] :=
  congrArg (fun x => ![x]) (slotT ⟨t.val, trip_lt64 hv t⟩)
theorem off134_eq {v0 : BitVec 32} (hv : v0.toNat ≤ 65532) (t : Fin (k0_t1_loop v0).trips) : k0_off134 v0 t = ![t.val % 4, 1, 0, 0, 0] :=
  congrArg (fun x => ![x, 1, 0, 0, 0]) (slotT ⟨t.val, trip_lt64 hv t⟩)
theorem off135_eq {v0 : BitVec 32} (hv : v0.toNat ≤ 65532) (t : Fin (k0_t1_loop v0).trips) : k0_off135 v0 t = ![8 * t.val + 2] :=
  congrArg (fun x => ![x]) (tblT 2 ⟨t.val, trip_lt64 hv t⟩)
theorem off136_eq {v0 : BitVec 32} (hv : v0.toNat ≤ 65532) (t : Fin (k0_t1_loop v0).trips) : k0_off136 v0 t = ![t.val % 4, 2, 0, 0, 0] :=
  congrArg (fun x => ![x, 2, 0, 0, 0]) (slotT ⟨t.val, trip_lt64 hv t⟩)
theorem off137_eq (w : BitVec 32) : k0_off137 w = ![w.toNat, 0, 0, 0] := rfl
theorem off138_eq {v0 : BitVec 32} (hv : v0.toNat ≤ 65532) (t : Fin (k0_t1_loop v0).trips) : k0_off138 v0 t = ![t.val % 4] :=
  congrArg (fun x => ![x]) (slotT ⟨t.val, trip_lt64 hv t⟩)
theorem off139_eq {v0 : BitVec 32} (hv : v0.toNat ≤ 65532) (t : Fin (k0_t1_loop v0).trips) : k0_off139 v0 t = ![t.val % 4, 2, 0, 0, 0] :=
  congrArg (fun x => ![x, 2, 0, 0, 0]) (slotT ⟨t.val, trip_lt64 hv t⟩)
theorem off140_eq {v0 : BitVec 32} (hv : v0.toNat ≤ 65532) (t : Fin (k0_t1_loop v0).trips) : k0_off140 v0 t = ![8 * t.val + 3] :=
  congrArg (fun x => ![x]) (tblT 3 ⟨t.val, trip_lt64 hv t⟩)
theorem off141_eq {v0 : BitVec 32} (hv : v0.toNat ≤ 65532) (t : Fin (k0_t1_loop v0).trips) : k0_off141 v0 t = ![t.val % 4, 3, 0, 0, 0] :=
  congrArg (fun x => ![x, 3, 0, 0, 0]) (slotT ⟨t.val, trip_lt64 hv t⟩)
theorem off142_eq (w : BitVec 32) : k0_off142 w = ![w.toNat, 0, 0, 0] := rfl
theorem off143_eq {v0 : BitVec 32} (hv : v0.toNat ≤ 65532) (t : Fin (k0_t1_loop v0).trips) : k0_off143 v0 t = ![t.val % 4] :=
  congrArg (fun x => ![x]) (slotT ⟨t.val, trip_lt64 hv t⟩)
theorem off144_eq {v0 : BitVec 32} (hv : v0.toNat ≤ 65532) (t : Fin (k0_t1_loop v0).trips) : k0_off144 v0 t = ![t.val % 4, 3, 0, 0, 0] :=
  congrArg (fun x => ![x, 3, 0, 0, 0]) (slotT ⟨t.val, trip_lt64 hv t⟩)
theorem off145_eq {v0 : BitVec 32} (hv : v0.toNat ≤ 65532) (t : Fin (k0_t1_loop v0).trips) : k0_off145 v0 t = ![8 * t.val + 4] :=
  congrArg (fun x => ![x]) (tblT 4 ⟨t.val, trip_lt64 hv t⟩)
theorem off146_eq {v0 : BitVec 32} (hv : v0.toNat ≤ 65532) (t : Fin (k0_t1_loop v0).trips) : k0_off146 v0 t = ![t.val % 4, 4, 0, 0, 0] :=
  congrArg (fun x => ![x, 4, 0, 0, 0]) (slotT ⟨t.val, trip_lt64 hv t⟩)
theorem off147_eq (w : BitVec 32) : k0_off147 w = ![w.toNat, 0, 0, 0] := rfl
theorem off148_eq {v0 : BitVec 32} (hv : v0.toNat ≤ 65532) (t : Fin (k0_t1_loop v0).trips) : k0_off148 v0 t = ![t.val % 4] :=
  congrArg (fun x => ![x]) (slotT ⟨t.val, trip_lt64 hv t⟩)
theorem off149_eq {v0 : BitVec 32} (hv : v0.toNat ≤ 65532) (t : Fin (k0_t1_loop v0).trips) : k0_off149 v0 t = ![t.val % 4, 4, 0, 0, 0] :=
  congrArg (fun x => ![x, 4, 0, 0, 0]) (slotT ⟨t.val, trip_lt64 hv t⟩)
theorem off150_eq {v0 : BitVec 32} (hv : v0.toNat ≤ 65532) (t : Fin (k0_t1_loop v0).trips) : k0_off150 v0 t = ![8 * t.val + 5] :=
  congrArg (fun x => ![x]) (tblT 5 ⟨t.val, trip_lt64 hv t⟩)
theorem off151_eq {v0 : BitVec 32} (hv : v0.toNat ≤ 65532) (t : Fin (k0_t1_loop v0).trips) : k0_off151 v0 t = ![t.val % 4, 5, 0, 0, 0] :=
  congrArg (fun x => ![x, 5, 0, 0, 0]) (slotT ⟨t.val, trip_lt64 hv t⟩)
theorem off152_eq (w : BitVec 32) : k0_off152 w = ![w.toNat, 0, 0, 0] := rfl
theorem off153_eq {v0 : BitVec 32} (hv : v0.toNat ≤ 65532) (t : Fin (k0_t1_loop v0).trips) : k0_off153 v0 t = ![t.val % 4] :=
  congrArg (fun x => ![x]) (slotT ⟨t.val, trip_lt64 hv t⟩)
theorem off154_eq {v0 : BitVec 32} (hv : v0.toNat ≤ 65532) (t : Fin (k0_t1_loop v0).trips) : k0_off154 v0 t = ![t.val % 4, 5, 0, 0, 0] :=
  congrArg (fun x => ![x, 5, 0, 0, 0]) (slotT ⟨t.val, trip_lt64 hv t⟩)
theorem off155_eq {v0 : BitVec 32} (hv : v0.toNat ≤ 65532) (t : Fin (k0_t1_loop v0).trips) : k0_off155 v0 t = ![8 * t.val + 6] :=
  congrArg (fun x => ![x]) (tblT 6 ⟨t.val, trip_lt64 hv t⟩)
theorem off156_eq {v0 : BitVec 32} (hv : v0.toNat ≤ 65532) (t : Fin (k0_t1_loop v0).trips) : k0_off156 v0 t = ![t.val % 4, 6, 0, 0, 0] :=
  congrArg (fun x => ![x, 6, 0, 0, 0]) (slotT ⟨t.val, trip_lt64 hv t⟩)
theorem off157_eq (w : BitVec 32) : k0_off157 w = ![w.toNat, 0, 0, 0] := rfl
theorem off158_eq {v0 : BitVec 32} (hv : v0.toNat ≤ 65532) (t : Fin (k0_t1_loop v0).trips) : k0_off158 v0 t = ![t.val % 4] :=
  congrArg (fun x => ![x]) (slotT ⟨t.val, trip_lt64 hv t⟩)
theorem off159_eq {v0 : BitVec 32} (hv : v0.toNat ≤ 65532) (t : Fin (k0_t1_loop v0).trips) : k0_off159 v0 t = ![t.val % 4, 6, 0, 0, 0] :=
  congrArg (fun x => ![x, 6, 0, 0, 0]) (slotT ⟨t.val, trip_lt64 hv t⟩)
theorem off160_eq {v0 : BitVec 32} (hv : v0.toNat ≤ 65532) (t : Fin (k0_t1_loop v0).trips) : k0_off160 v0 t = ![8 * t.val + 7] :=
  congrArg (fun x => ![x]) (tblT 7 ⟨t.val, trip_lt64 hv t⟩)
theorem off161_eq {v0 : BitVec 32} (hv : v0.toNat ≤ 65532) (t : Fin (k0_t1_loop v0).trips) : k0_off161 v0 t = ![t.val % 4, 7, 0, 0, 0] :=
  congrArg (fun x => ![x, 7, 0, 0, 0]) (slotT ⟨t.val, trip_lt64 hv t⟩)
theorem off162_eq (w : BitVec 32) : k0_off162 w = ![w.toNat, 0, 0, 0] := rfl
theorem off163_eq {v0 : BitVec 32} (hv : v0.toNat ≤ 65532) (t : Fin (k0_t1_loop v0).trips) : k0_off163 v0 t = ![t.val % 4] :=
  congrArg (fun x => ![x]) (slotT ⟨t.val, trip_lt64 hv t⟩)
theorem off164_eq {v0 : BitVec 32} (hv : v0.toNat ≤ 65532) (t : Fin (k0_t1_loop v0).trips) : k0_off164 v0 t = ![t.val % 4, 7, 0, 0, 0] :=
  congrArg (fun x => ![x, 7, 0, 0, 0]) (slotT ⟨t.val, trip_lt64 hv t⟩)
theorem off165_eq {v0 : BitVec 32} (hv : v0.toNat ≤ 65532) (t : Fin (k0_t1_loop v0).trips) : k0_off165 v0 t = ![8 * (t.val + 3) + 0] :=
  congrArg (fun x => ![x]) (tblS 0 ⟨t.val, trip_lt64 hv t⟩)
theorem off166_eq {v0 : BitVec 32} (hv : v0.toNat ≤ 65532) (t : Fin (k0_t1_loop v0).trips) : k0_off166 v0 t = ![(t.val + 3) % 4] :=
  congrArg (fun x => ![x]) (slotS ⟨t.val, trip_lt64 hv t⟩)
theorem off167_eq {v0 : BitVec 32} (hv : v0.toNat ≤ 65532) (t : Fin (k0_t1_loop v0).trips) : k0_off167 v0 t = ![(t.val + 3) % 4, 0, 0, 0, 0] :=
  congrArg (fun x => ![x, 0, 0, 0, 0]) (slotS ⟨t.val, trip_lt64 hv t⟩)
theorem off168_eq (w : BitVec 32) : k0_off168 w = ![w.toNat, 0, 0, 0] := rfl
theorem off169_eq {v0 : BitVec 32} (hv : v0.toNat ≤ 65532) (t : Fin (k0_t1_loop v0).trips) : k0_off169 v0 t = ![(t.val + 3) % 4] :=
  congrArg (fun x => ![x]) (slotS ⟨t.val, trip_lt64 hv t⟩)
theorem off170_eq {v0 : BitVec 32} (hv : v0.toNat ≤ 65532) (t : Fin (k0_t1_loop v0).trips) : k0_off170 v0 t = ![(t.val + 3) % 4, 0, 0, 0, 0] :=
  congrArg (fun x => ![x, 0, 0, 0, 0]) (slotS ⟨t.val, trip_lt64 hv t⟩)
theorem off171_eq {v0 : BitVec 32} (hv : v0.toNat ≤ 65532) (t : Fin (k0_t1_loop v0).trips) : k0_off171 v0 t = ![8 * (t.val + 3) + 1] :=
  congrArg (fun x => ![x]) (tblS 1 ⟨t.val, trip_lt64 hv t⟩)
theorem off172_eq {v0 : BitVec 32} (hv : v0.toNat ≤ 65532) (t : Fin (k0_t1_loop v0).trips) : k0_off172 v0 t = ![(t.val + 3) % 4, 1, 0, 0, 0] :=
  congrArg (fun x => ![x, 1, 0, 0, 0]) (slotS ⟨t.val, trip_lt64 hv t⟩)
theorem off173_eq (w : BitVec 32) : k0_off173 w = ![w.toNat, 0, 0, 0] := rfl
theorem off174_eq {v0 : BitVec 32} (hv : v0.toNat ≤ 65532) (t : Fin (k0_t1_loop v0).trips) : k0_off174 v0 t = ![(t.val + 3) % 4] :=
  congrArg (fun x => ![x]) (slotS ⟨t.val, trip_lt64 hv t⟩)
theorem off175_eq {v0 : BitVec 32} (hv : v0.toNat ≤ 65532) (t : Fin (k0_t1_loop v0).trips) : k0_off175 v0 t = ![(t.val + 3) % 4, 1, 0, 0, 0] :=
  congrArg (fun x => ![x, 1, 0, 0, 0]) (slotS ⟨t.val, trip_lt64 hv t⟩)
theorem off176_eq {v0 : BitVec 32} (hv : v0.toNat ≤ 65532) (t : Fin (k0_t1_loop v0).trips) : k0_off176 v0 t = ![8 * (t.val + 3) + 2] :=
  congrArg (fun x => ![x]) (tblS 2 ⟨t.val, trip_lt64 hv t⟩)
theorem off177_eq {v0 : BitVec 32} (hv : v0.toNat ≤ 65532) (t : Fin (k0_t1_loop v0).trips) : k0_off177 v0 t = ![(t.val + 3) % 4, 2, 0, 0, 0] :=
  congrArg (fun x => ![x, 2, 0, 0, 0]) (slotS ⟨t.val, trip_lt64 hv t⟩)
theorem off178_eq (w : BitVec 32) : k0_off178 w = ![w.toNat, 0, 0, 0] := rfl
theorem off179_eq {v0 : BitVec 32} (hv : v0.toNat ≤ 65532) (t : Fin (k0_t1_loop v0).trips) : k0_off179 v0 t = ![(t.val + 3) % 4] :=
  congrArg (fun x => ![x]) (slotS ⟨t.val, trip_lt64 hv t⟩)
theorem off180_eq {v0 : BitVec 32} (hv : v0.toNat ≤ 65532) (t : Fin (k0_t1_loop v0).trips) : k0_off180 v0 t = ![(t.val + 3) % 4, 2, 0, 0, 0] :=
  congrArg (fun x => ![x, 2, 0, 0, 0]) (slotS ⟨t.val, trip_lt64 hv t⟩)
theorem off181_eq {v0 : BitVec 32} (hv : v0.toNat ≤ 65532) (t : Fin (k0_t1_loop v0).trips) : k0_off181 v0 t = ![8 * (t.val + 3) + 3] :=
  congrArg (fun x => ![x]) (tblS 3 ⟨t.val, trip_lt64 hv t⟩)
theorem off182_eq {v0 : BitVec 32} (hv : v0.toNat ≤ 65532) (t : Fin (k0_t1_loop v0).trips) : k0_off182 v0 t = ![(t.val + 3) % 4, 3, 0, 0, 0] :=
  congrArg (fun x => ![x, 3, 0, 0, 0]) (slotS ⟨t.val, trip_lt64 hv t⟩)
theorem off183_eq (w : BitVec 32) : k0_off183 w = ![w.toNat, 0, 0, 0] := rfl
theorem off184_eq {v0 : BitVec 32} (hv : v0.toNat ≤ 65532) (t : Fin (k0_t1_loop v0).trips) : k0_off184 v0 t = ![(t.val + 3) % 4] :=
  congrArg (fun x => ![x]) (slotS ⟨t.val, trip_lt64 hv t⟩)
theorem off185_eq {v0 : BitVec 32} (hv : v0.toNat ≤ 65532) (t : Fin (k0_t1_loop v0).trips) : k0_off185 v0 t = ![(t.val + 3) % 4, 3, 0, 0, 0] :=
  congrArg (fun x => ![x, 3, 0, 0, 0]) (slotS ⟨t.val, trip_lt64 hv t⟩)
theorem off186_eq {v0 : BitVec 32} (hv : v0.toNat ≤ 65532) (t : Fin (k0_t1_loop v0).trips) : k0_off186 v0 t = ![8 * (t.val + 3) + 4] :=
  congrArg (fun x => ![x]) (tblS 4 ⟨t.val, trip_lt64 hv t⟩)
theorem off187_eq {v0 : BitVec 32} (hv : v0.toNat ≤ 65532) (t : Fin (k0_t1_loop v0).trips) : k0_off187 v0 t = ![(t.val + 3) % 4, 4, 0, 0, 0] :=
  congrArg (fun x => ![x, 4, 0, 0, 0]) (slotS ⟨t.val, trip_lt64 hv t⟩)
theorem off188_eq (w : BitVec 32) : k0_off188 w = ![w.toNat, 0, 0, 0] := rfl
theorem off189_eq {v0 : BitVec 32} (hv : v0.toNat ≤ 65532) (t : Fin (k0_t1_loop v0).trips) : k0_off189 v0 t = ![(t.val + 3) % 4] :=
  congrArg (fun x => ![x]) (slotS ⟨t.val, trip_lt64 hv t⟩)
theorem off190_eq {v0 : BitVec 32} (hv : v0.toNat ≤ 65532) (t : Fin (k0_t1_loop v0).trips) : k0_off190 v0 t = ![(t.val + 3) % 4, 4, 0, 0, 0] :=
  congrArg (fun x => ![x, 4, 0, 0, 0]) (slotS ⟨t.val, trip_lt64 hv t⟩)
theorem off191_eq {v0 : BitVec 32} (hv : v0.toNat ≤ 65532) (t : Fin (k0_t1_loop v0).trips) : k0_off191 v0 t = ![8 * (t.val + 3) + 5] :=
  congrArg (fun x => ![x]) (tblS 5 ⟨t.val, trip_lt64 hv t⟩)
theorem off192_eq {v0 : BitVec 32} (hv : v0.toNat ≤ 65532) (t : Fin (k0_t1_loop v0).trips) : k0_off192 v0 t = ![(t.val + 3) % 4, 5, 0, 0, 0] :=
  congrArg (fun x => ![x, 5, 0, 0, 0]) (slotS ⟨t.val, trip_lt64 hv t⟩)
theorem off193_eq (w : BitVec 32) : k0_off193 w = ![w.toNat, 0, 0, 0] := rfl
theorem off194_eq {v0 : BitVec 32} (hv : v0.toNat ≤ 65532) (t : Fin (k0_t1_loop v0).trips) : k0_off194 v0 t = ![(t.val + 3) % 4] :=
  congrArg (fun x => ![x]) (slotS ⟨t.val, trip_lt64 hv t⟩)
theorem off195_eq {v0 : BitVec 32} (hv : v0.toNat ≤ 65532) (t : Fin (k0_t1_loop v0).trips) : k0_off195 v0 t = ![(t.val + 3) % 4, 5, 0, 0, 0] :=
  congrArg (fun x => ![x, 5, 0, 0, 0]) (slotS ⟨t.val, trip_lt64 hv t⟩)
theorem off196_eq {v0 : BitVec 32} (hv : v0.toNat ≤ 65532) (t : Fin (k0_t1_loop v0).trips) : k0_off196 v0 t = ![8 * (t.val + 3) + 6] :=
  congrArg (fun x => ![x]) (tblS 6 ⟨t.val, trip_lt64 hv t⟩)
theorem off197_eq {v0 : BitVec 32} (hv : v0.toNat ≤ 65532) (t : Fin (k0_t1_loop v0).trips) : k0_off197 v0 t = ![(t.val + 3) % 4, 6, 0, 0, 0] :=
  congrArg (fun x => ![x, 6, 0, 0, 0]) (slotS ⟨t.val, trip_lt64 hv t⟩)
theorem off198_eq (w : BitVec 32) : k0_off198 w = ![w.toNat, 0, 0, 0] := rfl
theorem off199_eq {v0 : BitVec 32} (hv : v0.toNat ≤ 65532) (t : Fin (k0_t1_loop v0).trips) : k0_off199 v0 t = ![(t.val + 3) % 4] :=
  congrArg (fun x => ![x]) (slotS ⟨t.val, trip_lt64 hv t⟩)
theorem off200_eq {v0 : BitVec 32} (hv : v0.toNat ≤ 65532) (t : Fin (k0_t1_loop v0).trips) : k0_off200 v0 t = ![(t.val + 3) % 4, 6, 0, 0, 0] :=
  congrArg (fun x => ![x, 6, 0, 0, 0]) (slotS ⟨t.val, trip_lt64 hv t⟩)
theorem off201_eq {v0 : BitVec 32} (hv : v0.toNat ≤ 65532) (t : Fin (k0_t1_loop v0).trips) : k0_off201 v0 t = ![8 * (t.val + 3) + 7] :=
  congrArg (fun x => ![x]) (tblS 7 ⟨t.val, trip_lt64 hv t⟩)
theorem off202_eq {v0 : BitVec 32} (hv : v0.toNat ≤ 65532) (t : Fin (k0_t1_loop v0).trips) : k0_off202 v0 t = ![(t.val + 3) % 4, 7, 0, 0, 0] :=
  congrArg (fun x => ![x, 7, 0, 0, 0]) (slotS ⟨t.val, trip_lt64 hv t⟩)
theorem off203_eq (w : BitVec 32) : k0_off203 w = ![w.toNat, 0, 0, 0] := rfl
theorem off204_eq {v0 : BitVec 32} (hv : v0.toNat ≤ 65532) (t : Fin (k0_t1_loop v0).trips) : k0_off204 v0 t = ![(t.val + 3) % 4] :=
  congrArg (fun x => ![x]) (slotS ⟨t.val, trip_lt64 hv t⟩)
theorem off205_eq {v0 : BitVec 32} (hv : v0.toNat ≤ 65532) (t : Fin (k0_t1_loop v0).trips) : k0_off205 v0 t = ![(t.val + 3) % 4, 7, 0, 0, 0] :=
  congrArg (fun x => ![x, 7, 0, 0, 0]) (slotS ⟨t.val, trip_lt64 hv t⟩)
theorem off206_eq {v0 : BitVec 32} (hv : v0.toNat ≤ 65532) (t : Fin (k0_t1_loop v0).trips) : k0_off206 v0 t = ![t.val % 4, 0, 0, 0, 0] :=
  congrArg (fun x => ![x, 0, 0, 0, 0]) (slotT ⟨t.val, trip_lt64 hv t⟩)
theorem off207_eq {v0 : BitVec 32} (hv : v0.toNat ≤ 65532) (t : Fin (k0_t1_loop v0).trips) : k0_off207 v0 t = ![t.val % 4, 0, 1, 0, 0] :=
  congrArg (fun x => ![x, 0, 1, 0, 0]) (slotT ⟨t.val, trip_lt64 hv t⟩)
theorem off211_eq (w : BitVec 32) : k0_off211 w = ![w.toNat, 0, 0, 0] := rfl
theorem off216_eq (w : BitVec 32) : k0_off216 w = ![w.toNat, 0, 0, 0] := rfl
theorem off221_eq (w : BitVec 32) : k0_off221 w = ![w.toNat, 0, 0, 0] := rfl
theorem off226_eq (w : BitVec 32) : k0_off226 w = ![w.toNat, 0, 0, 0] := rfl
theorem off231_eq (w : BitVec 32) : k0_off231 w = ![w.toNat, 0, 0, 0] := rfl
theorem off236_eq (w : BitVec 32) : k0_off236 w = ![w.toNat, 0, 0, 0] := rfl
theorem off241_eq (w : BitVec 32) : k0_off241 w = ![w.toNat, 0, 0, 0] := rfl
theorem off246_eq (w : BitVec 32) : k0_off246 w = ![w.toNat, 0, 0, 0] := rfl
theorem off252_eq (w : BitVec 32) : k0_off252 w = ![w.toNat, 0, 0, 0] := rfl
theorem off257_eq (w : BitVec 32) : k0_off257 w = ![w.toNat, 0, 0, 0] := rfl
theorem off262_eq (w : BitVec 32) : k0_off262 w = ![w.toNat, 0, 0, 0] := rfl
theorem off267_eq (w : BitVec 32) : k0_off267 w = ![w.toNat, 0, 0, 0] := rfl
theorem off272_eq (w : BitVec 32) : k0_off272 w = ![w.toNat, 0, 0, 0] := rfl
theorem off277_eq (w : BitVec 32) : k0_off277 w = ![w.toNat, 0, 0, 0] := rfl
theorem off282_eq (w : BitVec 32) : k0_off282 w = ![w.toNat, 0, 0, 0] := rfl
theorem off287_eq (w : BitVec 32) : k0_off287 w = ![w.toNat, 0, 0, 0] := rfl
theorem off292_eq {v0 : BitVec 32} (hv : v0.toNat ≤ 65532) : k0_off292 v0 = ![8 * (NF v0) + 0] := by
  show ![(Scalar.indexCast (Scalar.addi (Scalar.muli (v17 v0) 8#32) 0#32)).toNat] = _
  rw [v17_eq hv]; exact congrArg (fun x => ![x]) (tblN 0 ⟨NF v0, NF_lt hv⟩)
theorem off293_eq {v0 : BitVec 32} (hv : v0.toNat ≤ 65532) : k0_off293 v0 = ![(NF v0) % 4] := by
  show ![(Scalar.remsi (v17 v0) 4#32).toNat] = _
  rw [v17_eq hv]; exact congrArg (fun x => ![x]) (slotN ⟨NF v0, NF_lt hv⟩)
theorem off294_eq {v0 : BitVec 32} (hv : v0.toNat ≤ 65532) : k0_off294 v0 = ![(NF v0) % 4, 0, 0, 0, 0] := by
  show ![(Scalar.remsi (v17 v0) 4#32).toNat, 0, 0, 0, 0] = _
  rw [v17_eq hv]; exact congrArg (fun x => ![x, 0, 0, 0, 0]) (slotN ⟨NF v0, NF_lt hv⟩)
theorem off295_eq (w : BitVec 32) : k0_off295 w = ![w.toNat, 0, 0, 0] := rfl
theorem off296_eq {v0 : BitVec 32} (hv : v0.toNat ≤ 65532) : k0_off296 v0 = ![(NF v0) % 4] := by
  show ![(Scalar.remsi (v17 v0) 4#32).toNat] = _
  rw [v17_eq hv]; exact congrArg (fun x => ![x]) (slotN ⟨NF v0, NF_lt hv⟩)
theorem off297_eq {v0 : BitVec 32} (hv : v0.toNat ≤ 65532) : k0_off297 v0 = ![(NF v0) % 4, 0, 0, 0, 0] := by
  show ![(Scalar.remsi (v17 v0) 4#32).toNat, 0, 0, 0, 0] = _
  rw [v17_eq hv]; exact congrArg (fun x => ![x, 0, 0, 0, 0]) (slotN ⟨NF v0, NF_lt hv⟩)
theorem off298_eq {v0 : BitVec 32} (hv : v0.toNat ≤ 65532) : k0_off298 v0 = ![8 * (NF v0) + 1] := by
  show ![(Scalar.indexCast (Scalar.addi (Scalar.muli (v17 v0) 8#32) 1#32)).toNat] = _
  rw [v17_eq hv]; exact congrArg (fun x => ![x]) (tblN 1 ⟨NF v0, NF_lt hv⟩)
theorem off299_eq {v0 : BitVec 32} (hv : v0.toNat ≤ 65532) : k0_off299 v0 = ![(NF v0) % 4, 1, 0, 0, 0] := by
  show ![(Scalar.remsi (v17 v0) 4#32).toNat, 1, 0, 0, 0] = _
  rw [v17_eq hv]; exact congrArg (fun x => ![x, 1, 0, 0, 0]) (slotN ⟨NF v0, NF_lt hv⟩)
theorem off300_eq (w : BitVec 32) : k0_off300 w = ![w.toNat, 0, 0, 0] := rfl
theorem off301_eq {v0 : BitVec 32} (hv : v0.toNat ≤ 65532) : k0_off301 v0 = ![(NF v0) % 4] := by
  show ![(Scalar.remsi (v17 v0) 4#32).toNat] = _
  rw [v17_eq hv]; exact congrArg (fun x => ![x]) (slotN ⟨NF v0, NF_lt hv⟩)
theorem off302_eq {v0 : BitVec 32} (hv : v0.toNat ≤ 65532) : k0_off302 v0 = ![(NF v0) % 4, 1, 0, 0, 0] := by
  show ![(Scalar.remsi (v17 v0) 4#32).toNat, 1, 0, 0, 0] = _
  rw [v17_eq hv]; exact congrArg (fun x => ![x, 1, 0, 0, 0]) (slotN ⟨NF v0, NF_lt hv⟩)
theorem off303_eq {v0 : BitVec 32} (hv : v0.toNat ≤ 65532) : k0_off303 v0 = ![8 * (NF v0) + 2] := by
  show ![(Scalar.indexCast (Scalar.addi (Scalar.muli (v17 v0) 8#32) 2#32)).toNat] = _
  rw [v17_eq hv]; exact congrArg (fun x => ![x]) (tblN 2 ⟨NF v0, NF_lt hv⟩)
theorem off304_eq {v0 : BitVec 32} (hv : v0.toNat ≤ 65532) : k0_off304 v0 = ![(NF v0) % 4, 2, 0, 0, 0] := by
  show ![(Scalar.remsi (v17 v0) 4#32).toNat, 2, 0, 0, 0] = _
  rw [v17_eq hv]; exact congrArg (fun x => ![x, 2, 0, 0, 0]) (slotN ⟨NF v0, NF_lt hv⟩)
theorem off305_eq (w : BitVec 32) : k0_off305 w = ![w.toNat, 0, 0, 0] := rfl
theorem off306_eq {v0 : BitVec 32} (hv : v0.toNat ≤ 65532) : k0_off306 v0 = ![(NF v0) % 4] := by
  show ![(Scalar.remsi (v17 v0) 4#32).toNat] = _
  rw [v17_eq hv]; exact congrArg (fun x => ![x]) (slotN ⟨NF v0, NF_lt hv⟩)
theorem off307_eq {v0 : BitVec 32} (hv : v0.toNat ≤ 65532) : k0_off307 v0 = ![(NF v0) % 4, 2, 0, 0, 0] := by
  show ![(Scalar.remsi (v17 v0) 4#32).toNat, 2, 0, 0, 0] = _
  rw [v17_eq hv]; exact congrArg (fun x => ![x, 2, 0, 0, 0]) (slotN ⟨NF v0, NF_lt hv⟩)
theorem off308_eq {v0 : BitVec 32} (hv : v0.toNat ≤ 65532) : k0_off308 v0 = ![8 * (NF v0) + 3] := by
  show ![(Scalar.indexCast (Scalar.addi (Scalar.muli (v17 v0) 8#32) 3#32)).toNat] = _
  rw [v17_eq hv]; exact congrArg (fun x => ![x]) (tblN 3 ⟨NF v0, NF_lt hv⟩)
theorem off309_eq {v0 : BitVec 32} (hv : v0.toNat ≤ 65532) : k0_off309 v0 = ![(NF v0) % 4, 3, 0, 0, 0] := by
  show ![(Scalar.remsi (v17 v0) 4#32).toNat, 3, 0, 0, 0] = _
  rw [v17_eq hv]; exact congrArg (fun x => ![x, 3, 0, 0, 0]) (slotN ⟨NF v0, NF_lt hv⟩)
theorem off310_eq (w : BitVec 32) : k0_off310 w = ![w.toNat, 0, 0, 0] := rfl
theorem off311_eq {v0 : BitVec 32} (hv : v0.toNat ≤ 65532) : k0_off311 v0 = ![(NF v0) % 4] := by
  show ![(Scalar.remsi (v17 v0) 4#32).toNat] = _
  rw [v17_eq hv]; exact congrArg (fun x => ![x]) (slotN ⟨NF v0, NF_lt hv⟩)
theorem off312_eq {v0 : BitVec 32} (hv : v0.toNat ≤ 65532) : k0_off312 v0 = ![(NF v0) % 4, 3, 0, 0, 0] := by
  show ![(Scalar.remsi (v17 v0) 4#32).toNat, 3, 0, 0, 0] = _
  rw [v17_eq hv]; exact congrArg (fun x => ![x, 3, 0, 0, 0]) (slotN ⟨NF v0, NF_lt hv⟩)
theorem off313_eq {v0 : BitVec 32} (hv : v0.toNat ≤ 65532) : k0_off313 v0 = ![8 * (NF v0) + 4] := by
  show ![(Scalar.indexCast (Scalar.addi (Scalar.muli (v17 v0) 8#32) 4#32)).toNat] = _
  rw [v17_eq hv]; exact congrArg (fun x => ![x]) (tblN 4 ⟨NF v0, NF_lt hv⟩)
theorem off314_eq {v0 : BitVec 32} (hv : v0.toNat ≤ 65532) : k0_off314 v0 = ![(NF v0) % 4, 4, 0, 0, 0] := by
  show ![(Scalar.remsi (v17 v0) 4#32).toNat, 4, 0, 0, 0] = _
  rw [v17_eq hv]; exact congrArg (fun x => ![x, 4, 0, 0, 0]) (slotN ⟨NF v0, NF_lt hv⟩)
theorem off315_eq (w : BitVec 32) : k0_off315 w = ![w.toNat, 0, 0, 0] := rfl
theorem off316_eq {v0 : BitVec 32} (hv : v0.toNat ≤ 65532) : k0_off316 v0 = ![(NF v0) % 4] := by
  show ![(Scalar.remsi (v17 v0) 4#32).toNat] = _
  rw [v17_eq hv]; exact congrArg (fun x => ![x]) (slotN ⟨NF v0, NF_lt hv⟩)
theorem off317_eq {v0 : BitVec 32} (hv : v0.toNat ≤ 65532) : k0_off317 v0 = ![(NF v0) % 4, 4, 0, 0, 0] := by
  show ![(Scalar.remsi (v17 v0) 4#32).toNat, 4, 0, 0, 0] = _
  rw [v17_eq hv]; exact congrArg (fun x => ![x, 4, 0, 0, 0]) (slotN ⟨NF v0, NF_lt hv⟩)
theorem off318_eq {v0 : BitVec 32} (hv : v0.toNat ≤ 65532) : k0_off318 v0 = ![8 * (NF v0) + 5] := by
  show ![(Scalar.indexCast (Scalar.addi (Scalar.muli (v17 v0) 8#32) 5#32)).toNat] = _
  rw [v17_eq hv]; exact congrArg (fun x => ![x]) (tblN 5 ⟨NF v0, NF_lt hv⟩)
theorem off319_eq {v0 : BitVec 32} (hv : v0.toNat ≤ 65532) : k0_off319 v0 = ![(NF v0) % 4, 5, 0, 0, 0] := by
  show ![(Scalar.remsi (v17 v0) 4#32).toNat, 5, 0, 0, 0] = _
  rw [v17_eq hv]; exact congrArg (fun x => ![x, 5, 0, 0, 0]) (slotN ⟨NF v0, NF_lt hv⟩)
theorem off320_eq (w : BitVec 32) : k0_off320 w = ![w.toNat, 0, 0, 0] := rfl
theorem off321_eq {v0 : BitVec 32} (hv : v0.toNat ≤ 65532) : k0_off321 v0 = ![(NF v0) % 4] := by
  show ![(Scalar.remsi (v17 v0) 4#32).toNat] = _
  rw [v17_eq hv]; exact congrArg (fun x => ![x]) (slotN ⟨NF v0, NF_lt hv⟩)
theorem off322_eq {v0 : BitVec 32} (hv : v0.toNat ≤ 65532) : k0_off322 v0 = ![(NF v0) % 4, 5, 0, 0, 0] := by
  show ![(Scalar.remsi (v17 v0) 4#32).toNat, 5, 0, 0, 0] = _
  rw [v17_eq hv]; exact congrArg (fun x => ![x, 5, 0, 0, 0]) (slotN ⟨NF v0, NF_lt hv⟩)
theorem off323_eq {v0 : BitVec 32} (hv : v0.toNat ≤ 65532) : k0_off323 v0 = ![8 * (NF v0) + 6] := by
  show ![(Scalar.indexCast (Scalar.addi (Scalar.muli (v17 v0) 8#32) 6#32)).toNat] = _
  rw [v17_eq hv]; exact congrArg (fun x => ![x]) (tblN 6 ⟨NF v0, NF_lt hv⟩)
theorem off324_eq {v0 : BitVec 32} (hv : v0.toNat ≤ 65532) : k0_off324 v0 = ![(NF v0) % 4, 6, 0, 0, 0] := by
  show ![(Scalar.remsi (v17 v0) 4#32).toNat, 6, 0, 0, 0] = _
  rw [v17_eq hv]; exact congrArg (fun x => ![x, 6, 0, 0, 0]) (slotN ⟨NF v0, NF_lt hv⟩)
theorem off325_eq (w : BitVec 32) : k0_off325 w = ![w.toNat, 0, 0, 0] := rfl
theorem off326_eq {v0 : BitVec 32} (hv : v0.toNat ≤ 65532) : k0_off326 v0 = ![(NF v0) % 4] := by
  show ![(Scalar.remsi (v17 v0) 4#32).toNat] = _
  rw [v17_eq hv]; exact congrArg (fun x => ![x]) (slotN ⟨NF v0, NF_lt hv⟩)
theorem off327_eq {v0 : BitVec 32} (hv : v0.toNat ≤ 65532) : k0_off327 v0 = ![(NF v0) % 4, 6, 0, 0, 0] := by
  show ![(Scalar.remsi (v17 v0) 4#32).toNat, 6, 0, 0, 0] = _
  rw [v17_eq hv]; exact congrArg (fun x => ![x, 6, 0, 0, 0]) (slotN ⟨NF v0, NF_lt hv⟩)
theorem off328_eq {v0 : BitVec 32} (hv : v0.toNat ≤ 65532) : k0_off328 v0 = ![8 * (NF v0) + 7] := by
  show ![(Scalar.indexCast (Scalar.addi (Scalar.muli (v17 v0) 8#32) 7#32)).toNat] = _
  rw [v17_eq hv]; exact congrArg (fun x => ![x]) (tblN 7 ⟨NF v0, NF_lt hv⟩)
theorem off329_eq {v0 : BitVec 32} (hv : v0.toNat ≤ 65532) : k0_off329 v0 = ![(NF v0) % 4, 7, 0, 0, 0] := by
  show ![(Scalar.remsi (v17 v0) 4#32).toNat, 7, 0, 0, 0] = _
  rw [v17_eq hv]; exact congrArg (fun x => ![x, 7, 0, 0, 0]) (slotN ⟨NF v0, NF_lt hv⟩)
theorem off330_eq (w : BitVec 32) : k0_off330 w = ![w.toNat, 0, 0, 0] := rfl
theorem off331_eq {v0 : BitVec 32} (hv : v0.toNat ≤ 65532) : k0_off331 v0 = ![(NF v0) % 4] := by
  show ![(Scalar.remsi (v17 v0) 4#32).toNat] = _
  rw [v17_eq hv]; exact congrArg (fun x => ![x]) (slotN ⟨NF v0, NF_lt hv⟩)
theorem off332_eq {v0 : BitVec 32} (hv : v0.toNat ≤ 65532) : k0_off332 v0 = ![(NF v0) % 4, 7, 0, 0, 0] := by
  show ![(Scalar.remsi (v17 v0) 4#32).toNat, 7, 0, 0, 0] = _
  rw [v17_eq hv]; exact congrArg (fun x => ![x, 7, 0, 0, 0]) (slotN ⟨NF v0, NF_lt hv⟩)
theorem off333_eq {v0 : BitVec 32} (hv : v0.toNat ≤ 65532) : k0_off333 v0 = ![(NF v0) % 4, 0, 0, 0, 0] := by
  show ![(Scalar.remsi (v17 v0) 4#32).toNat, 0, 0, 0, 0] = _
  rw [v17_eq hv]; exact congrArg (fun x => ![x, 0, 0, 0, 0]) (slotN ⟨NF v0, NF_lt hv⟩)
theorem off334_eq {v0 : BitVec 32} (hv : v0.toNat ≤ 65532) : k0_off334 v0 = ![(NF v0) % 4, 0, 1, 0, 0] := by
  show ![(Scalar.remsi (v17 v0) 4#32).toNat, 0, 1, 0, 0] = _
  rw [v17_eq hv]; exact congrArg (fun x => ![x, 0, 1, 0, 0]) (slotN ⟨NF v0, NF_lt hv⟩)
theorem chk25_0 {v0 : BitVec 32} (hv : v0.toNat ≤ 65532) : k0_chk25_0 v0 :=
  ⟨t1_ok hv,
   fun t => by rw [off124_eq hv t]; exact inb512 (by have := trip_lt64 hv t; omega),
   fun t => by rw [off125_eq hv t]; exact inb4 (Nat.mod_lt _ (by decide)),
   fun t => by rw [off126_eq hv t]; exact inbM (Nat.mod_lt _ (by decide)) (by decide),
   fun t hinb => Affine.words_rows (by decide) rfl rfl,
   fun t => by rw [off128_eq hv t]; exact inb4 (Nat.mod_lt _ (by decide)),
   fun t => by rw [off129_eq hv t]; exact inbM (Nat.mod_lt _ (by decide)) (by decide),
   fun t hinb => Affine.words_rows (by decide) rfl rfl,
   fun t => by rw [off130_eq hv t]; exact inb512 (by have := trip_lt64 hv t; omega),
   fun t => by rw [off131_eq hv t]; exact inbM (Nat.mod_lt _ (by decide)) (by decide),
   fun t hinb => Affine.words_rows (by decide) rfl rfl,
   fun t => by rw [off133_eq hv t]; exact inb4 (Nat.mod_lt _ (by decide)),
   fun t => by rw [off134_eq hv t]; exact inbM (Nat.mod_lt _ (by decide)) (by decide),
   fun t hinb => Affine.words_rows (by decide) rfl rfl,
   fun t => by rw [off135_eq hv t]; exact inb512 (by have := trip_lt64 hv t; omega),
   fun t => by rw [off136_eq hv t]; exact inbM (Nat.mod_lt _ (by decide)) (by decide),
   fun t hinb => Affine.words_rows (by decide) rfl rfl,
   fun t => by rw [off138_eq hv t]; exact inb4 (Nat.mod_lt _ (by decide)),
   fun t => by rw [off139_eq hv t]; exact inbM (Nat.mod_lt _ (by decide)) (by decide),
   fun t hinb => Affine.words_rows (by decide) rfl rfl,
   fun t => by rw [off140_eq hv t]; exact inb512 (by have := trip_lt64 hv t; omega),
   fun t => by rw [off141_eq hv t]; exact inbM (Nat.mod_lt _ (by decide)) (by decide),
   fun t hinb => Affine.words_rows (by decide) rfl rfl,
   fun t => by rw [off143_eq hv t]; exact inb4 (Nat.mod_lt _ (by decide)),
   fun t => by rw [off144_eq hv t]; exact inbM (Nat.mod_lt _ (by decide)) (by decide),
   fun t hinb => Affine.words_rows (by decide) rfl rfl,
   fun t => by rw [off145_eq hv t]; exact inb512 (by have := trip_lt64 hv t; omega),
   fun t => by rw [off146_eq hv t]; exact inbM (Nat.mod_lt _ (by decide)) (by decide),
   fun t hinb => Affine.words_rows (by decide) rfl rfl,
   fun t => by rw [off148_eq hv t]; exact inb4 (Nat.mod_lt _ (by decide)),
   fun t => by rw [off149_eq hv t]; exact inbM (Nat.mod_lt _ (by decide)) (by decide),
   fun t hinb => Affine.words_rows (by decide) rfl rfl⟩
theorem chk25_1 {v0 : BitVec 32} (hv : v0.toNat ≤ 65532) : k0_chk25_1 v0 :=
  ⟨fun t => by rw [off150_eq hv t]; exact inb512 (by have := trip_lt64 hv t; omega),
   fun t => by rw [off151_eq hv t]; exact inbM (Nat.mod_lt _ (by decide)) (by decide),
   fun t hinb => Affine.words_rows (by decide) rfl rfl,
   fun t => by rw [off153_eq hv t]; exact inb4 (Nat.mod_lt _ (by decide)),
   fun t => by rw [off154_eq hv t]; exact inbM (Nat.mod_lt _ (by decide)) (by decide),
   fun t hinb => Affine.words_rows (by decide) rfl rfl,
   fun t => by rw [off155_eq hv t]; exact inb512 (by have := trip_lt64 hv t; omega),
   fun t => by rw [off156_eq hv t]; exact inbM (Nat.mod_lt _ (by decide)) (by decide),
   fun t hinb => Affine.words_rows (by decide) rfl rfl,
   fun t => by rw [off158_eq hv t]; exact inb4 (Nat.mod_lt _ (by decide)),
   fun t => by rw [off159_eq hv t]; exact inbM (Nat.mod_lt _ (by decide)) (by decide),
   fun t hinb => Affine.words_rows (by decide) rfl rfl,
   fun t => by rw [off160_eq hv t]; exact inb512 (by have := trip_lt64 hv t; omega),
   fun t => by rw [off161_eq hv t]; exact inbM (Nat.mod_lt _ (by decide)) (by decide),
   fun t hinb => Affine.words_rows (by decide) rfl rfl,
   fun t => by rw [off163_eq hv t]; exact inb4 (Nat.mod_lt _ (by decide)),
   fun t => by rw [off164_eq hv t]; exact inbM (Nat.mod_lt _ (by decide)) (by decide),
   fun t hinb => Affine.words_rows (by decide) rfl rfl,
   fun t h4 => by rw [off165_eq hv t]; exact inb512 (by have := (cond4_eq hv t).1 h4; have := NF_lt hv; omega),
   fun t h4 => by rw [off166_eq hv t]; exact inb4 (Nat.mod_lt _ (by decide)),
   fun t h4 => by rw [off167_eq hv t]; exact inbM (Nat.mod_lt _ (by decide)) (by decide),
   fun t h4 hinb => Affine.words_rows (by decide) rfl rfl,
   fun t h4 => by rw [off169_eq hv t]; exact inb4 (Nat.mod_lt _ (by decide)),
   fun t h4 => by rw [off170_eq hv t]; exact inbM (Nat.mod_lt _ (by decide)) (by decide),
   fun t h4 hinb => Affine.words_rows (by decide) rfl rfl,
   fun t h4 => by rw [off171_eq hv t]; exact inb512 (by have := (cond4_eq hv t).1 h4; have := NF_lt hv; omega),
   fun t h4 => by rw [off172_eq hv t]; exact inbM (Nat.mod_lt _ (by decide)) (by decide),
   fun t h4 hinb => Affine.words_rows (by decide) rfl rfl,
   fun t h4 => by rw [off174_eq hv t]; exact inb4 (Nat.mod_lt _ (by decide)),
   fun t h4 => by rw [off175_eq hv t]; exact inbM (Nat.mod_lt _ (by decide)) (by decide),
   fun t h4 hinb => Affine.words_rows (by decide) rfl rfl,
   fun t h4 => by rw [off176_eq hv t]; exact inb512 (by have := (cond4_eq hv t).1 h4; have := NF_lt hv; omega)⟩
theorem chk25_2 {v0 : BitVec 32} (hv : v0.toNat ≤ 65532) : k0_chk25_2 v0 :=
  ⟨fun t h4 => by rw [off177_eq hv t]; exact inbM (Nat.mod_lt _ (by decide)) (by decide),
   fun t h4 hinb => Affine.words_rows (by decide) rfl rfl,
   fun t h4 => by rw [off179_eq hv t]; exact inb4 (Nat.mod_lt _ (by decide)),
   fun t h4 => by rw [off180_eq hv t]; exact inbM (Nat.mod_lt _ (by decide)) (by decide),
   fun t h4 hinb => Affine.words_rows (by decide) rfl rfl,
   fun t h4 => by rw [off181_eq hv t]; exact inb512 (by have := (cond4_eq hv t).1 h4; have := NF_lt hv; omega),
   fun t h4 => by rw [off182_eq hv t]; exact inbM (Nat.mod_lt _ (by decide)) (by decide),
   fun t h4 hinb => Affine.words_rows (by decide) rfl rfl,
   fun t h4 => by rw [off184_eq hv t]; exact inb4 (Nat.mod_lt _ (by decide)),
   fun t h4 => by rw [off185_eq hv t]; exact inbM (Nat.mod_lt _ (by decide)) (by decide),
   fun t h4 hinb => Affine.words_rows (by decide) rfl rfl,
   fun t h4 => by rw [off186_eq hv t]; exact inb512 (by have := (cond4_eq hv t).1 h4; have := NF_lt hv; omega),
   fun t h4 => by rw [off187_eq hv t]; exact inbM (Nat.mod_lt _ (by decide)) (by decide),
   fun t h4 hinb => Affine.words_rows (by decide) rfl rfl,
   fun t h4 => by rw [off189_eq hv t]; exact inb4 (Nat.mod_lt _ (by decide)),
   fun t h4 => by rw [off190_eq hv t]; exact inbM (Nat.mod_lt _ (by decide)) (by decide),
   fun t h4 hinb => Affine.words_rows (by decide) rfl rfl,
   fun t h4 => by rw [off191_eq hv t]; exact inb512 (by have := (cond4_eq hv t).1 h4; have := NF_lt hv; omega),
   fun t h4 => by rw [off192_eq hv t]; exact inbM (Nat.mod_lt _ (by decide)) (by decide),
   fun t h4 hinb => Affine.words_rows (by decide) rfl rfl,
   fun t h4 => by rw [off194_eq hv t]; exact inb4 (Nat.mod_lt _ (by decide)),
   fun t h4 => by rw [off195_eq hv t]; exact inbM (Nat.mod_lt _ (by decide)) (by decide),
   fun t h4 hinb => Affine.words_rows (by decide) rfl rfl,
   fun t h4 => by rw [off196_eq hv t]; exact inb512 (by have := (cond4_eq hv t).1 h4; have := NF_lt hv; omega),
   fun t h4 => by rw [off197_eq hv t]; exact inbM (Nat.mod_lt _ (by decide)) (by decide),
   fun t h4 hinb => Affine.words_rows (by decide) rfl rfl,
   fun t h4 => by rw [off199_eq hv t]; exact inb4 (Nat.mod_lt _ (by decide)),
   fun t h4 => by rw [off200_eq hv t]; exact inbM (Nat.mod_lt _ (by decide)) (by decide),
   fun t h4 hinb => Affine.words_rows (by decide) rfl rfl,
   fun t h4 => by rw [off201_eq hv t]; exact inb512 (by have := (cond4_eq hv t).1 h4; have := NF_lt hv; omega),
   fun t h4 => by rw [off202_eq hv t]; exact inbM (Nat.mod_lt _ (by decide)) (by decide),
   fun t h4 hinb => Affine.words_rows (by decide) rfl rfl⟩
theorem chk25_3 {v0 : BitVec 32} (hv : v0.toNat ≤ 65532) : k0_chk25_3 v0 :=
  ⟨fun t h4 => by rw [off204_eq hv t]; exact inb4 (Nat.mod_lt _ (by decide)),
   fun t h4 => by rw [off205_eq hv t]; exact inbM (Nat.mod_lt _ (by decide)) (by decide),
   fun t h4 hinb => Affine.words_rows (by decide) rfl rfl,
   fun t => by rw [off206_eq hv t]; exact inbL (Nat.mod_lt _ (by decide)) (by decide),
   fun t => by rw [off207_eq hv t]; exact inbL (Nat.mod_lt _ (by decide)) (by decide),
   t2_ok hv,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim⟩
theorem chk25_4 {v0 : BitVec 32} (hv : v0.toNat ≤ 65532) : k0_chk25_4 v0 :=
  ⟨fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim⟩
theorem chk25_5 {v0 : BitVec 32} (hv : v0.toNat ≤ 65532) : k0_chk25_5 v0 :=
  ⟨fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim⟩
theorem chk25_6 {v0 : BitVec 32} (hv : v0.toNat ≤ 65532) : k0_chk25_6 v0 :=
  ⟨fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   fun t => (t2_none hv t).elim,
   by rw [off292_eq hv]; exact inb512 (by have := NF_lt hv; omega),
   by rw [off293_eq hv]; exact inb4 (Nat.mod_lt _ (by decide)),
   by rw [off294_eq hv]; exact inbM (Nat.mod_lt _ (by decide)) (by decide),
   fun hinb => Affine.words_rows (by decide) rfl rfl,
   by rw [off296_eq hv]; exact inb4 (Nat.mod_lt _ (by decide)),
   by rw [off297_eq hv]; exact inbM (Nat.mod_lt _ (by decide)) (by decide),
   fun hinb => Affine.words_rows (by decide) rfl rfl,
   by rw [off298_eq hv]; exact inb512 (by have := NF_lt hv; omega),
   by rw [off299_eq hv]; exact inbM (Nat.mod_lt _ (by decide)) (by decide),
   fun hinb => Affine.words_rows (by decide) rfl rfl,
   by rw [off301_eq hv]; exact inb4 (Nat.mod_lt _ (by decide)),
   by rw [off302_eq hv]; exact inbM (Nat.mod_lt _ (by decide)) (by decide),
   fun hinb => Affine.words_rows (by decide) rfl rfl,
   by rw [off303_eq hv]; exact inb512 (by have := NF_lt hv; omega),
   by rw [off304_eq hv]; exact inbM (Nat.mod_lt _ (by decide)) (by decide),
   fun hinb => Affine.words_rows (by decide) rfl rfl,
   by rw [off306_eq hv]; exact inb4 (Nat.mod_lt _ (by decide)),
   by rw [off307_eq hv]; exact inbM (Nat.mod_lt _ (by decide)) (by decide),
   fun hinb => Affine.words_rows (by decide) rfl rfl,
   by rw [off308_eq hv]; exact inb512 (by have := NF_lt hv; omega),
   by rw [off309_eq hv]; exact inbM (Nat.mod_lt _ (by decide)) (by decide),
   fun hinb => Affine.words_rows (by decide) rfl rfl⟩
theorem chk25_7 {v0 : BitVec 32} (hv : v0.toNat ≤ 65532) : k0_chk25_7 v0 :=
  ⟨by rw [off311_eq hv]; exact inb4 (Nat.mod_lt _ (by decide)),
   by rw [off312_eq hv]; exact inbM (Nat.mod_lt _ (by decide)) (by decide),
   fun hinb => Affine.words_rows (by decide) rfl rfl,
   by rw [off313_eq hv]; exact inb512 (by have := NF_lt hv; omega),
   by rw [off314_eq hv]; exact inbM (Nat.mod_lt _ (by decide)) (by decide),
   fun hinb => Affine.words_rows (by decide) rfl rfl,
   by rw [off316_eq hv]; exact inb4 (Nat.mod_lt _ (by decide)),
   by rw [off317_eq hv]; exact inbM (Nat.mod_lt _ (by decide)) (by decide),
   fun hinb => Affine.words_rows (by decide) rfl rfl,
   by rw [off318_eq hv]; exact inb512 (by have := NF_lt hv; omega),
   by rw [off319_eq hv]; exact inbM (Nat.mod_lt _ (by decide)) (by decide),
   fun hinb => Affine.words_rows (by decide) rfl rfl,
   by rw [off321_eq hv]; exact inb4 (Nat.mod_lt _ (by decide)),
   by rw [off322_eq hv]; exact inbM (Nat.mod_lt _ (by decide)) (by decide),
   fun hinb => Affine.words_rows (by decide) rfl rfl,
   by rw [off323_eq hv]; exact inb512 (by have := NF_lt hv; omega),
   by rw [off324_eq hv]; exact inbM (Nat.mod_lt _ (by decide)) (by decide),
   fun hinb => Affine.words_rows (by decide) rfl rfl,
   by rw [off326_eq hv]; exact inb4 (Nat.mod_lt _ (by decide)),
   by rw [off327_eq hv]; exact inbM (Nat.mod_lt _ (by decide)) (by decide),
   fun hinb => Affine.words_rows (by decide) rfl rfl,
   by rw [off328_eq hv]; exact inb512 (by have := NF_lt hv; omega),
   by rw [off329_eq hv]; exact inbM (Nat.mod_lt _ (by decide)) (by decide),
   fun hinb => Affine.words_rows (by decide) rfl rfl,
   by rw [off331_eq hv]; exact inb4 (Nat.mod_lt _ (by decide)),
   by rw [off332_eq hv]; exact inbM (Nat.mod_lt _ (by decide)) (by decide),
   fun hinb => Affine.words_rows (by decide) rfl rfl,
   by rw [off333_eq hv]; exact inbL (Nat.mod_lt _ (by decide)) (by decide),
   by rw [off334_eq hv]; exact inbL (Nat.mod_lt _ (by decide)) (by decide)⟩
/-- Every offset computed from the sequence length is in bounds. -/
theorem chk25 {v0 : BitVec 32} (hv : v0.toNat ≤ 65532) : k0_chk25 v0 :=
  ⟨chk25_0 hv, chk25_1 hv, chk25_2 hv, chk25_3 hv, chk25_4 hv, chk25_5 hv, chk25_6 hv, chk25_7 hv⟩

theorem chk1 (v0 : BitVec 32) (v623 : BitVec 32) (h : v623.toNat < 512) : k0_chk1 v0 v623 :=
  ⟨fun _ => inbP h, fun _ _ => Affine.words_rows (by decide) rfl rfl⟩
theorem chk2 (v0 : BitVec 32) (v639 : BitVec 32) (h : v639.toNat < 512) : k0_chk2 v0 v639 :=
  ⟨fun _ => inbP h, fun _ _ => Affine.words_rows (by decide) rfl rfl⟩
theorem chk3 (v0 : BitVec 32) (v655 : BitVec 32) (h : v655.toNat < 512) : k0_chk3 v0 v655 :=
  ⟨fun _ => inbP h, fun _ _ => Affine.words_rows (by decide) rfl rfl⟩
theorem chk4 (v0 : BitVec 32) (v671 : BitVec 32) (h : v671.toNat < 512) : k0_chk4 v0 v671 :=
  ⟨fun _ => inbP h, fun _ _ => Affine.words_rows (by decide) rfl rfl⟩
theorem chk5 (v0 : BitVec 32) (v687 : BitVec 32) (h : v687.toNat < 512) : k0_chk5 v0 v687 :=
  ⟨fun _ => inbP h, fun _ _ => Affine.words_rows (by decide) rfl rfl⟩
theorem chk6 (v0 : BitVec 32) (v703 : BitVec 32) (h : v703.toNat < 512) : k0_chk6 v0 v703 :=
  ⟨fun _ => inbP h, fun _ _ => Affine.words_rows (by decide) rfl rfl⟩
theorem chk7 (v0 : BitVec 32) (v719 : BitVec 32) (h : v719.toNat < 512) : k0_chk7 v0 v719 :=
  ⟨fun _ => inbP h, fun _ _ => Affine.words_rows (by decide) rfl rfl⟩
theorem chk8 (v0 : BitVec 32) (v735 : BitVec 32) (h : v735.toNat < 512) : k0_chk8 v0 v735 :=
  ⟨fun _ => inbP h, fun _ _ => Affine.words_rows (by decide) rfl rfl⟩
theorem chk9 (v0 : BitVec 32) (v623 : BitVec 32) (h : v623.toNat < 512) : k0_chk9 v0 v623 :=
  ⟨fun _ => inbP h, fun _ _ => Affine.words_rows (by decide) rfl rfl⟩
theorem chk10 (v0 : BitVec 32) (v639 : BitVec 32) (h : v639.toNat < 512) : k0_chk10 v0 v639 :=
  ⟨fun _ => inbP h, fun _ _ => Affine.words_rows (by decide) rfl rfl⟩
theorem chk11 (v0 : BitVec 32) (v655 : BitVec 32) (h : v655.toNat < 512) : k0_chk11 v0 v655 :=
  ⟨fun _ => inbP h, fun _ _ => Affine.words_rows (by decide) rfl rfl⟩
theorem chk12 (v0 : BitVec 32) (v671 : BitVec 32) (h : v671.toNat < 512) : k0_chk12 v0 v671 :=
  ⟨fun _ => inbP h, fun _ _ => Affine.words_rows (by decide) rfl rfl⟩
theorem chk13 (v0 : BitVec 32) (v687 : BitVec 32) (h : v687.toNat < 512) : k0_chk13 v0 v687 :=
  ⟨fun _ => inbP h, fun _ _ => Affine.words_rows (by decide) rfl rfl⟩
theorem chk14 (v0 : BitVec 32) (v703 : BitVec 32) (h : v703.toNat < 512) : k0_chk14 v0 v703 :=
  ⟨fun _ => inbP h, fun _ _ => Affine.words_rows (by decide) rfl rfl⟩
theorem chk15 (v0 : BitVec 32) (v719 : BitVec 32) (h : v719.toNat < 512) : k0_chk15 v0 v719 :=
  ⟨fun _ => inbP h, fun _ _ => Affine.words_rows (by decide) rfl rfl⟩
theorem chk16 (v0 : BitVec 32) (v735 : BitVec 32) (h : v735.toNat < 512) : k0_chk16 v0 v735 :=
  ⟨fun _ => inbP h, fun _ _ => Affine.words_rows (by decide) rfl rfl⟩
theorem chk17 (v0 : BitVec 32) (v623 : BitVec 32) (h : v623.toNat < 512) : k0_chk17 v0 v623 :=
  ⟨fun _ => inbP h, fun _ _ => Affine.words_rows (by decide) rfl rfl⟩
theorem chk18 (v0 : BitVec 32) (v639 : BitVec 32) (h : v639.toNat < 512) : k0_chk18 v0 v639 :=
  ⟨fun _ => inbP h, fun _ _ => Affine.words_rows (by decide) rfl rfl⟩
theorem chk19 (v0 : BitVec 32) (v655 : BitVec 32) (h : v655.toNat < 512) : k0_chk19 v0 v655 :=
  ⟨fun _ => inbP h, fun _ _ => Affine.words_rows (by decide) rfl rfl⟩
theorem chk20 (v0 : BitVec 32) (v671 : BitVec 32) (h : v671.toNat < 512) : k0_chk20 v0 v671 :=
  ⟨fun _ => inbP h, fun _ _ => Affine.words_rows (by decide) rfl rfl⟩
theorem chk21 (v0 : BitVec 32) (v687 : BitVec 32) (h : v687.toNat < 512) : k0_chk21 v0 v687 :=
  ⟨fun _ => inbP h, fun _ _ => Affine.words_rows (by decide) rfl rfl⟩
theorem chk22 (v0 : BitVec 32) (v703 : BitVec 32) (h : v703.toNat < 512) : k0_chk22 v0 v703 :=
  ⟨fun _ => inbP h, fun _ _ => Affine.words_rows (by decide) rfl rfl⟩
theorem chk23 (v0 : BitVec 32) (v719 : BitVec 32) (h : v719.toNat < 512) : k0_chk23 v0 v719 :=
  ⟨fun _ => inbP h, fun _ _ => Affine.words_rows (by decide) rfl rfl⟩
theorem chk24 (v0 : BitVec 32) (v735 : BitVec 32) (h : v735.toNat < 512) : k0_chk24 v0 v735 :=
  ⟨fun _ => inbP h, fun _ _ => Affine.words_rows (by decide) rfl rfl⟩
theorem chk26 (v623 : BitVec 32) (h : v623.toNat < 512) : k0_chk26 v623 :=
  ⟨inbP h, fun _ => Affine.words_rows (by decide) rfl rfl⟩
theorem chk27 (v639 : BitVec 32) (h : v639.toNat < 512) : k0_chk27 v639 :=
  ⟨inbP h, fun _ => Affine.words_rows (by decide) rfl rfl⟩
theorem chk28 (v655 : BitVec 32) (h : v655.toNat < 512) : k0_chk28 v655 :=
  ⟨inbP h, fun _ => Affine.words_rows (by decide) rfl rfl⟩
theorem chk29 (v671 : BitVec 32) (h : v671.toNat < 512) : k0_chk29 v671 :=
  ⟨inbP h, fun _ => Affine.words_rows (by decide) rfl rfl⟩
theorem chk30 (v687 : BitVec 32) (h : v687.toNat < 512) : k0_chk30 v687 :=
  ⟨inbP h, fun _ => Affine.words_rows (by decide) rfl rfl⟩
theorem chk31 (v703 : BitVec 32) (h : v703.toNat < 512) : k0_chk31 v703 :=
  ⟨inbP h, fun _ => Affine.words_rows (by decide) rfl rfl⟩
theorem chk32 (v719 : BitVec 32) (h : v719.toNat < 512) : k0_chk32 v719 :=
  ⟨inbP h, fun _ => Affine.words_rows (by decide) rfl rfl⟩
theorem chk33 (v735 : BitVec 32) (h : v735.toNat < 512) : k0_chk33 v735 :=
  ⟨inbP h, fun _ => Affine.words_rows (by decide) rfl rfl⟩
theorem chk34 (v0 : BitVec 32) (k0_t1 : Fin (k0_t1_loop v0).trips) (v886 : BitVec 32) (h : v886.toNat < 512) : k0_chk34 v0 k0_t1 v886 :=
  ⟨fun _ => inbP h, fun _ _ => Affine.words_rows (by decide) rfl rfl⟩
theorem chk35 (v0 : BitVec 32) (k0_t1 : Fin (k0_t1_loop v0).trips) (v902 : BitVec 32) (h : v902.toNat < 512) : k0_chk35 v0 k0_t1 v902 :=
  ⟨fun _ => inbP h, fun _ _ => Affine.words_rows (by decide) rfl rfl⟩
theorem chk36 (v0 : BitVec 32) (k0_t1 : Fin (k0_t1_loop v0).trips) (v918 : BitVec 32) (h : v918.toNat < 512) : k0_chk36 v0 k0_t1 v918 :=
  ⟨fun _ => inbP h, fun _ _ => Affine.words_rows (by decide) rfl rfl⟩
theorem chk37 (v0 : BitVec 32) (k0_t1 : Fin (k0_t1_loop v0).trips) (v934 : BitVec 32) (h : v934.toNat < 512) : k0_chk37 v0 k0_t1 v934 :=
  ⟨fun _ => inbP h, fun _ _ => Affine.words_rows (by decide) rfl rfl⟩
theorem chk38 (v0 : BitVec 32) (k0_t1 : Fin (k0_t1_loop v0).trips) (v950 : BitVec 32) (h : v950.toNat < 512) : k0_chk38 v0 k0_t1 v950 :=
  ⟨fun _ => inbP h, fun _ _ => Affine.words_rows (by decide) rfl rfl⟩
theorem chk39 (v0 : BitVec 32) (k0_t1 : Fin (k0_t1_loop v0).trips) (v966 : BitVec 32) (h : v966.toNat < 512) : k0_chk39 v0 k0_t1 v966 :=
  ⟨fun _ => inbP h, fun _ _ => Affine.words_rows (by decide) rfl rfl⟩
theorem chk40 (v0 : BitVec 32) (k0_t1 : Fin (k0_t1_loop v0).trips) (v982 : BitVec 32) (h : v982.toNat < 512) : k0_chk40 v0 k0_t1 v982 :=
  ⟨fun _ => inbP h, fun _ _ => Affine.words_rows (by decide) rfl rfl⟩
theorem chk41 (v0 : BitVec 32) (k0_t1 : Fin (k0_t1_loop v0).trips) (v998 : BitVec 32) (h : v998.toNat < 512) : k0_chk41 v0 k0_t1 v998 :=
  ⟨fun _ => inbP h, fun _ _ => Affine.words_rows (by decide) rfl rfl⟩
theorem chk42 (v623 : BitVec 32) (h : v623.toNat < 512) : k0_chk42 v623 :=
  ⟨inbP h, fun _ => Affine.words_rows (by decide) rfl rfl⟩
theorem chk43 (v639 : BitVec 32) (h : v639.toNat < 512) : k0_chk43 v639 :=
  ⟨inbP h, fun _ => Affine.words_rows (by decide) rfl rfl⟩
theorem chk44 (v655 : BitVec 32) (h : v655.toNat < 512) : k0_chk44 v655 :=
  ⟨inbP h, fun _ => Affine.words_rows (by decide) rfl rfl⟩
theorem chk45 (v671 : BitVec 32) (h : v671.toNat < 512) : k0_chk45 v671 :=
  ⟨inbP h, fun _ => Affine.words_rows (by decide) rfl rfl⟩
theorem chk46 (v687 : BitVec 32) (h : v687.toNat < 512) : k0_chk46 v687 :=
  ⟨inbP h, fun _ => Affine.words_rows (by decide) rfl rfl⟩
theorem chk47 (v703 : BitVec 32) (h : v703.toNat < 512) : k0_chk47 v703 :=
  ⟨inbP h, fun _ => Affine.words_rows (by decide) rfl rfl⟩
theorem chk48 (v719 : BitVec 32) (h : v719.toNat < 512) : k0_chk48 v719 :=
  ⟨inbP h, fun _ => Affine.words_rows (by decide) rfl rfl⟩
theorem chk49 (v735 : BitVec 32) (h : v735.toNat < 512) : k0_chk49 v735 :=
  ⟨inbP h, fun _ => Affine.words_rows (by decide) rfl rfl⟩
theorem chk58 (v315 : BitVec 32) (h : v315.toNat < 512) : k0_chk58 v315 :=
  ⟨inbP h, fun _ => Affine.words_rows (by decide) rfl rfl⟩
theorem chk59 (v331 : BitVec 32) (h : v331.toNat < 512) : k0_chk59 v331 :=
  ⟨inbP h, fun _ => Affine.words_rows (by decide) rfl rfl⟩
theorem chk60 (v347 : BitVec 32) (h : v347.toNat < 512) : k0_chk60 v347 :=
  ⟨inbP h, fun _ => Affine.words_rows (by decide) rfl rfl⟩
theorem chk61 (v363 : BitVec 32) (h : v363.toNat < 512) : k0_chk61 v363 :=
  ⟨inbP h, fun _ => Affine.words_rows (by decide) rfl rfl⟩
theorem chk62 (v379 : BitVec 32) (h : v379.toNat < 512) : k0_chk62 v379 :=
  ⟨inbP h, fun _ => Affine.words_rows (by decide) rfl rfl⟩
theorem chk63 (v395 : BitVec 32) (h : v395.toNat < 512) : k0_chk63 v395 :=
  ⟨inbP h, fun _ => Affine.words_rows (by decide) rfl rfl⟩
theorem chk64 (v411 : BitVec 32) (h : v411.toNat < 512) : k0_chk64 v411 :=
  ⟨inbP h, fun _ => Affine.words_rows (by decide) rfl rfl⟩
theorem chk65 (v427 : BitVec 32) (h : v427.toNat < 512) : k0_chk65 v427 :=
  ⟨inbP h, fun _ => Affine.words_rows (by decide) rfl rfl⟩

end Cert.Kernel.Hand

end
-- ==== Proof.Pages.lean ====
/-
  One slot of the ring of page buffers. A slot is eight pages of one of the two scratch buffers (keys or values) and one
  semaphore cell; a block of eight pages is copied into it, each page from a page of the pool in HBM, all eight on the
  slot's cell. The slot is free (its pages at anything, its cell at zero, its eight read shares of the pool at home) or
  in flight (some of the copies issued, some of the waits taken), and the last wait gives back the pages holding what
  the pool's pages hold.
-/
module

public import proofs.«01_k».proof.Proof.Gen.Kernel.Launch
public import proofs.«01_k».proof.Proof.Gen.Kernel.Skeleton
public import proofs.«01_k».proof.Proof.Gen.Kernel.Points
public import proofs.«01_k».proof.Proof.Words
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

/-- A family of pairs is a pair of families. -/
theorem bigSep_pair {I : Type} (s : Finset I) (Φ Ψ : I → sProp 𝕄) :
    bigSep s (fun i => iprop(Φ i ∗ Ψ i)) = iprop(bigSep s Φ ∗ bigSep s Ψ) := bigSep_sep s Φ Ψ

/-! ## The two ends of a page copy -/

/-- One page of a scratch buffer, at the printed offsets; -/
abbrev dstAt (M : Memref sig .tc .vmem S4x8x2x128x256 .fp8e4m3) (r : Fin 5 → ℕ)
    (h : ∀ a, r a + S1x1x2x128x256.size a ≤ S4x8x2x128x256.size a) : Memref sig .tc .vmem S2x128x256 .fp8e4m3 :=
  (M.slice (Rect.unit (s := S4x8x2x128x256) r S1x1x2x128x256.size h) (fun _ => rfl)).squeeze S2x128x256 squeezes_S1x1x2x128x256_S2x128x256
/-- one page of a pool; -/
abbrev srcAt (A : Memref sig .tc .hbm S512x2x128x256 .fp8e4m3) (r : Fin 4 → ℕ)
    (h : ∀ a, r a + S1x2x128x256.size a ≤ S512x2x128x256.size a) : Memref sig .tc .hbm S2x128x256 .fp8e4m3 :=
  (A.slice (Rect.unit (s := S512x2x128x256) r S1x2x128x256.size h) (fun _ => rfl)).squeeze S2x128x256 squeezes_S1x2x128x256_S2x128x256
/-- one cell of the semaphores. -/
abbrev semAt (S : DmaSems sig S4) (r : Fin 1 → ℕ) (h : ∀ a, r a + S1.size a ≤ S4.size a) : DmaSem sig :=
  ((S.slice (Rect.unit (s := S4) r S1.size h)).squeeze S_ squeezes_S1_S_).sem

theorem inbS {p : ℕ} (h : p < 512) : ∀ a, (![p, 0, 0, 0] : Fin 4 → Nat) a + S1x2x128x256.size a ≤ S512x2x128x256.size a := by
  intro a; fin_cases a
  · show p + 1 ≤ 512; omega
  · show 0 + 2 ≤ 2; omega
  · show 0 + 128 ≤ 128; omega
  · show 0 + 256 ≤ 256; omega

/-- The same at a slot, a page of the slot, a page of the pool. -/
abbrev dstP (M : Memref sig .tc .vmem S4x8x2x128x256 .fp8e4m3) (s : Fin 4) (j : Fin 8) : Memref sig .tc .vmem S2x128x256 .fp8e4m3 :=
  dstAt M ![s.val, j.val, 0, 0, 0] (inbM s.isLt j.isLt)
abbrev srcP (A : Memref sig .tc .hbm S512x2x128x256 .fp8e4m3) (p : Fin 512) : Memref sig .tc .hbm S2x128x256 .fp8e4m3 :=
  srcAt A ![p.val, 0, 0, 0] (inbS p.isLt)
abbrev semP (S : DmaSems sig S4) (s : Fin 4) : DmaSem sig := semAt S ![s.val] (inb4 s.isLt)

section Side

variable (c : Dev nD) (M : Memref sig .tc .vmem S4x8x2x128x256 .fp8e4m3) (A : Memref sig .tc .hbm S512x2x128x256 .fp8e4m3)
  (S : DmaSems sig S4) (fA : Buf (Elt F) (A.view.loc (c : Thread nD τ)))

/-- The elements of one page of a scratch buffer. -/
def pageSet (s : Fin 4) (j : Fin 8) : Finset (Idx (M.view.loc (c : Thread nD τ))) := (dstP M s j).view.set
/-- The elements of one slot: its eight pages'. -/
def slotSet (s : Fin 4) : Finset (Idx (M.view.loc (c : Thread nD τ))) := Finset.univ.biUnion fun j => pageSet c M s j
/-- The elements of one page of the pool. -/
def srcSet (p : Fin 512) : Finset (Idx (A.view.loc (c : Thread nD τ))) := (srcP A p).view.set

/-- A page's index placed in the scratch buffer; -/
theorem dst_emb (s : Fin 4) (j : Fin 8) (h : Fin 2) (r : Fin 128) (d : Fin 256) :
    (dstP M s j).view.emb (ix3 h r d) = M.view.emb (ix5 s j h r d) := by
  show M.view.emb ((Rect.unit (s := S4x8x2x128x256) ![s.val, j.val, 0, 0, 0] S1x1x2x128x256.size (inbM s.isLt j.isLt)).emb
    (Shape.reshapeEquiv _ (ix3 h r d))) = _
  congr 1
  rw [reshapeEquiv_ix3_11abc]
  funext a; apply Fin.ext; rw [Rect.emb_apply]
  fin_cases a
  · show s.val + 1 * 0 = s.val; omega
  · show j.val + 1 * 0 = j.val; omega
  · show 0 + 1 * h.val = h.val; omega
  · show 0 + 1 * r.val = r.val; omega
  · show 0 + 1 * d.val = d.val; omega
/-- in the pool. -/
theorem src_emb (p : Fin 512) (h : Fin 2) (r : Fin 128) (d : Fin 256) :
    (srcP A p).view.emb (ix3 h r d) = A.view.emb (ix4 p h r d) := by
  show A.view.emb ((Rect.unit (s := S512x2x128x256) ![p.val, 0, 0, 0] S1x2x128x256.size (inbS p.isLt)).emb
    (Shape.reshapeEquiv _ (ix3 h r d))) = _
  congr 1
  rw [reshapeEquiv_ix3_1abc]
  funext a; apply Fin.ext; rw [Rect.emb_apply]
  fin_cases a
  · show p.val + 1 * 0 = p.val; omega
  · show 0 + 1 * h.val = h.val; omega
  · show 0 + 1 * r.val = r.val; omega
  · show 0 + 1 * d.val = d.val; omega

theorem ix3_eta (x : S2x128x256.Idx) : x = ix3 (x 0) (x 1) (x 2) := by
  funext a; fin_cases a <;> rfl
theorem ix5_eta (x : S4x8x2x128x256.Idx) : x = ix5 (x 0) (x 1) (x 2) (x 3) (x 4) := by
  funext a; fin_cases a <;> rfl

theorem mem_pageSet {s : Fin 4} {j : Fin 8} {i : Idx (M.view.loc (c : Thread nD τ))} :
    i ∈ pageSet c M s j ↔ ∃ h r d, M.view.emb (ix5 s j h r d) = i := by
  unfold pageSet View.set
  simp only [Finset.mem_map, Finset.mem_univ, true_and]
  constructor
  · rintro ⟨x, rfl⟩
    exact ⟨x 0, x 1, x 2, (dst_emb M s j (x 0) (x 1) (x 2)).symm.trans (congrArg _ (ix3_eta x).symm)⟩
  · rintro ⟨h, r, d, rfl⟩
    exact ⟨ix3 h r d, dst_emb M s j h r d⟩

theorem page_disjoint {s s' : Fin 4} {j j' : Fin 8} (h : s ≠ s' ∨ j ≠ j') : Disjoint (pageSet c M s j) (pageSet c M s' j') := by
  rw [Finset.disjoint_left]
  intro i hi hi'
  obtain ⟨h1, r, d, e⟩ := (mem_pageSet c M).1 hi
  obtain ⟨h2, r', d', e'⟩ := (mem_pageSet c M).1 hi'
  have := M.view.emb.injective (e.trans e'.symm)
  rcases h with h | h
  · exact h (congrFun this 0)
  · exact h (congrFun this 1)

theorem slot_disjoint {s s' : Fin 4} (h : s ≠ s') : Disjoint (slotSet c M s) (slotSet c M s') := by
  unfold slotSet
  simp only [Finset.disjoint_biUnion_left, Finset.disjoint_biUnion_right]
  intro j _ j' _; exact page_disjoint c M (.inl h)

theorem mem_slotSet {s : Fin 4} {i : Idx (M.view.loc (c : Thread nD τ))} :
    i ∈ slotSet c M s ↔ ∃ j h r d, M.view.emb (ix5 s j h r d) = i := by
  unfold slotSet; simp only [Finset.mem_biUnion, Finset.mem_univ, true_and, mem_pageSet]

/-- The four slots are the whole buffer. -/
theorem slots_univ : Finset.univ.biUnion (fun s => slotSet c M s) = M.view.set := by
  ext i
  rw [Finset.mem_biUnion]
  simp only [Finset.mem_univ, true_and, mem_slotSet, View.set, Finset.mem_map]
  constructor
  · rintro ⟨s, j, h, r, d, e⟩; exact ⟨_, e⟩
  · rintro ⟨x, e⟩; exact ⟨x 0, x 1, x 2, x 3, x 4, (congrArg M.view.emb (ix5_eta x).symm).trans e⟩

theorem srcSet_subset (p : Fin 512) : srcSet c A p ⊆ A.view.set := by
  unfold srcSet
  show ((A.view.slice (Rect.unit (s := S512x2x128x256) ![p.val, 0, 0, 0] S1x2x128x256.size (inbS p.isLt))).reshape S2x128x256
    squeezes_S1x2x128x256_S2x128x256.numel_eq).set ⊆ _
  rw [View.set_reshape]
  exact View.set_slice_subset _ _

/-- The units a page copy pays its cell. -/
def NP : ℕ := (dstP M 0 0).view.dmaCredit
theorem NP_pos : 0 < NP M := View.dmaCredit_pos _ (by decide)

variable (tk : Fin 4 → Fin 8 → PosShare TreeShare)

/-- What page `j`'s copy lands: the scratch page written with the pool's page, and the pool's page back. -/
def Dl (s : Fin 4) (f : Buf (Elt F) (M.view.loc (c : Thread nD τ))) (pg : Fin 8 → Fin 512) (j : Fin 8) : sProp 𝕄 :=
  iprop((M.view.loc (c : Thread nD τ) ↦[pageSet c M s j]{fullShare}
      View.write (Elt F) (dstP M s j).view f (ReadAs.same.apply ((srcP A (pg j)).view.read (Elt F) fA)) Finset.univ)
    ∗ (A.view.loc (c : Thread nD τ) ↦[srcSet c A (pg j)]{tk s j} fA))

instance Dl_storable (s : Fin 4) (f : Buf (Elt F) (M.view.loc (c : Thread nD τ))) (pg : Fin 8 → Fin 512) (j : Fin 8) :
    Storable (upEmb : UEmb _ 𝕄) (Dl c M A fA tk s f pg j) := by unfold Dl; infer_instance

/-- A free slot. -/
def Free (s : Fin 4) : sProp 𝕄 :=
  iprop((∃ f, M.view.loc (c : Thread nD τ) ↦[slotSet c M s]{fullShare} f)
    ∗ semVal ((c : Thread nD τ), SemLoc.dma (semP S s)) 0
    ∗ bigSep Finset.univ (fun j : Fin 8 => A.view.loc (c : Thread nD τ) ↦[A.view.set]{tk s j} fA))

/-- A slot in flight: `k` of its eight copies issued, `u` waits taken. -/
def Fl (s : Fin 4) (pg : Fin 8 → Fin 512) (k u : ℕ) : sProp 𝕄 :=
  iprop(∃ f, Batch (Lvl := ℕ) (countersEmb (U := Pipeline.UD sig nD τ)) (c : Thread nD τ) (SemLoc.dma (semP S s)) () (NP M)
      (Dl c M A fA tk s f pg) k (u * NP M)
    ∗ bigSep (pending k) (fun j => iprop((M.view.loc (c : Thread nD τ) ↦[pageSet c M s j]{fullShare} f)
        ∗ (A.view.loc (c : Thread nD τ) ↦[srcSet c A (pg j)]{tk s j} fA)))
    ∗ bigSep Finset.univ (fun j : Fin 8 => A.view.loc (c : Thread nD τ) ↦[A.view.set \ srcSet c A (pg j)]{tk s j} fA))

/-- A slot whose eight pages have landed. -/
def Landed (s : Fin 4) (pg : Fin 8 → Fin 512) : sProp 𝕄 :=
  iprop((∃ g, ⌜∀ j h r d, M.view.read (Elt F) g (ix5 s j h r d) = A.view.read (Elt F) fA (ix4 (pg j) h r d)⌝
      ∗ M.view.loc (c : Thread nD τ) ↦[slotSet c M s]{fullShare} g)
    ∗ semVal ((c : Thread nD τ), SemLoc.dma (semP S s)) 0
    ∗ bigSep Finset.univ (fun j : Fin 8 => A.view.loc (c : Thread nD τ) ↦[A.view.set]{tk s j} fA))

theorem landed_free (s : Fin 4) (pg : Fin 8 → Fin 512) : Landed c M A S fA tk s pg ⊢ Free c M A S fA tk s := by
  unfold Landed Free
  iintro ⟨⟨%g, -, Hg⟩, Hs, Ht⟩
  isplitl [Hg]; · iexists g; iexact Hg
  isplitl [Hs] <;> iassumption

/-- Opening a free slot for a block's copies. -/
theorem free_open (s : Fin 4) (pg : Fin 8 → Fin 512) : Free c M A S fA tk s ⊢ |={Set.univ}=> Fl c M A S fA tk s pg 0 0 := by
  unfold Free
  iintro ⟨⟨%f, Hf⟩, Hs, Ht⟩
  imod (Transfers.batch_alloc' (Lvl := ℕ) (countersEmb (U := Pipeline.UD sig nD τ)) (c : Thread nD τ) () (NP M)
    (Dl c M A fA tk s f pg) (sm := SemLoc.dma (semP S s)) (E := Set.univ)) $$ Hs with HB
  imodintro
  unfold Fl
  iexists f
  rw [Nat.zero_mul]
  isplitl [HB]; · iexact HB
  ihave Ht' := (show bigSep Finset.univ (fun j : Fin 8 => (A.view.loc (c : Thread nD τ) ↦[A.view.set]{tk s j} fA : sProp 𝕄))
      ⊢ iprop(bigSep Finset.univ (fun j : Fin 8 => A.view.loc (c : Thread nD τ) ↦[srcSet c A (pg j)]{tk s j} fA)
        ∗ bigSep Finset.univ (fun j : Fin 8 => A.view.loc (c : Thread nD τ) ↦[A.view.set \ srcSet c A (pg j)]{tk s j} fA)) from by
    rw [← bigSep_pair]
    exact bigSep_mono fun j _ => (pointsTo_split_subset (srcSet_subset c A (pg j))).1) $$ Ht
  icases Ht' with ⟨Hsrc, Hcmp⟩
  isplitr [Hcmp]; swap; · iexact Hcmp
  rw [Transfers.pending_zero]
  ihave Hf' := (show (M.view.loc (c : Thread nD τ) ↦[slotSet c M s]{fullShare} f : sProp 𝕄)
      ⊢ bigSep Finset.univ (fun j : Fin 8 => (M.view.loc (c : Thread nD τ) ↦[pageSet c M s j]{fullShare} f : sProp 𝕄)) from
    Entails.of_eq (pointsTo_biUnion Finset.univ (fun j => pageSet c M s j)
      (fun j _ j' _ hne => page_disjoint c M (.inr hne)))) $$ Hf
  iapply (show iprop(bigSep Finset.univ (fun j : Fin 8 => (M.view.loc (c : Thread nD τ) ↦[pageSet c M s j]{fullShare} f : sProp 𝕄))
      ∗ bigSep Finset.univ (fun j : Fin 8 => A.view.loc (c : Thread nD τ) ↦[srcSet c A (pg j)]{tk s j} fA))
      ⊢ bigSep Finset.univ (fun j : Fin 8 => iprop((M.view.loc (c : Thread nD τ) ↦[pageSet c M s j]{fullShare} f)
        ∗ (A.view.loc (c : Thread nD τ) ↦[srcSet c A (pg j)]{tk s j} fA))) from Entails.of_eq (bigSep_pair _ _ _).symm)
  isplitl [Hf'] <;> iassumption

/-- Closing a slot whose eight copies are issued and waited for. -/
theorem fl_close (s : Fin 4) (pg : Fin 8 → Fin 512) : Fl c M A S fA tk s pg 8 8 ⊢ |={Set.univ}=> Landed c M A S fA tk s pg := by
  unfold Fl
  rw [show 8 * NP M = NP M * 8 from Nat.mul_comm _ _]
  iintro ⟨%f, HB, -, Hc⟩
  imod (Transfers.batch_collect' (countersEmb (U := Pipeline.UD sig nD τ)) (c : Thread nD τ) (NP_pos M)) $$ HB with ⟨HD, Hs⟩
  imodintro
  unfold Landed Dl
  ihave HD' := (Entails.of_eq (bigSep_pair _ _ _)) $$ HD
  icases HD' with ⟨HM, HA⟩
  isplitl [HM]
  · ihave HJ := (pointsTo_biUnion_join (Ix := Unit) (Name := ℕ) (U := Pipeline.UD sig nD τ) (Lvl := ℕ) (q := fullShare) Finset.univ (fun j => pageSet c M s j)
      (fun j => View.write (Elt F) (dstP M s j).view f (ReadAs.same.apply ((srcP A (pg j)).view.read (Elt F) fA)) Finset.univ) f
      (fun j _ j' _ hne => page_disjoint c M (.inr hne))) $$ HM
    icases HJ with ⟨%g, %hg, HJ⟩
    iexists g
    isplitr
    · ipureintro
      intro j h r d
      have e := hg j (Finset.mem_univ j) (M.view.emb (ix5 s j h r d)) ((mem_pageSet c M).2 ⟨h, r, d, rfl⟩)
      have e2 : (dstP M s j).view.read (Elt F) g (ix3 h r d) = (dstP M s j).view.read (Elt F)
          (View.write (Elt F) (dstP M s j).view f (ReadAs.same.apply ((srcP A (pg j)).view.read (Elt F) fA)) Finset.univ) (ix3 h r d) := by
        rw [View.read_apply, View.read_apply, dst_emb]
        exact congrArg _ e
      rw [View.read_write_univ] at e2
      have e3 : (dstP M s j).view.read (Elt F) g (ix3 h r d) = M.view.read (Elt F) g (ix5 s j h r d) := by
        rw [View.read_apply, View.read_apply, dst_emb]
      have e4 : (srcP A (pg j)).view.read (Elt F) fA (ix3 h r d) = A.view.read (Elt F) fA (ix4 (pg j) h r d) := by
        rw [View.read_apply, View.read_apply, src_emb]
      rw [← e3, e2, ← e4]
    · iexact HJ
  isplitl [Hs]; · iexact Hs
  iapply (show iprop(bigSep Finset.univ (fun j : Fin 8 => (A.view.loc (c : Thread nD τ) ↦[srcSet c A (pg j)]{tk s j} fA : sProp 𝕄))
        ∗ bigSep Finset.univ (fun j : Fin 8 => A.view.loc (c : Thread nD τ) ↦[A.view.set \ srcSet c A (pg j)]{tk s j} fA))
      ⊢ bigSep Finset.univ (fun j : Fin 8 => (A.view.loc (c : Thread nD τ) ↦[A.view.set]{tk s j} fA : sProp 𝕄)) from by
    rw [← bigSep_pair]
    exact bigSep_mono fun j _ => (pointsTo_split_subset (srcSet_subset c A (pg j))).2)
  isplitl [HA] <;> iassumption

/-! ## The steps -/

/-- Starting the copy of page `j` of a block. -/
theorem start_page {α : Type} {Q : α → sProp 𝕄} {s : Fin 4} {pg : Fin 8 → Fin 512} (j : ℕ) (hj : j < 8) {u : ℕ} {rP : Fin 4 → ℕ} {hP} {rD : Fin 5 → ℕ} {hD} {rS : Fin 1 → ℕ} {hS}
    (eP : rP = ![(pg ⟨j, hj⟩).val, 0, 0, 0]) (eD : rD = ![s.val, j, 0, 0, 0]) (eS : rS = ![s.val]) (hu : u ≤ j)
    {hs : (srcAt A rP hP).view.WordExact} {hd : (dstAt M rD hD).view.WordExact}
    {ht : DmaTarget.Typed (nD := nD) (τ := τ) (p := .tc) .hbm (.dma (semAt S rS hS)) (.here (dstAt M rD hD))} {k : PUnit → Prog (TpuEff nD τ sig (Elt F) Λ₀ .tc) α} :
    Fl c M A S fA tk s pg j u ⊢ iprop((Fl c M A S fA tk s pg (j + 1) u -∗ wp frame (wpE (defs₀ (F := F)) Variants.none (c : Thread nD τ) none) Set.univ (k ⟨⟩) Q)
      -∗ wp frame (wpE (defs₀ (F := F)) Variants.none (c : Thread nD τ) none) Set.univ (Prog.lift (TpuEff.enqueueDma (srcAt A rP hP) (.here (dstAt M rD hD)) (.dma (semAt S rS hS)) hs hd ht : TpuEff nD τ sig (Elt F) Λ₀ .tc PUnit) >>= k) Q) := by
  subst eP eD eS
  unfold Fl
  iintro ⟨%f, HB, HP, Hc⟩ Hk
  ihave HP' := (Entails.of_eq (Transfers.bigSep_pending_step _ j hj)) $$ HP
  icases HP' with ⟨⟨Hd, Hs⟩, HP⟩
  have hN : (dstP M s ⟨j, hj⟩).view.amount (SemLoc.dma (semP S s)) = NP M := rfl
  have hDl : iprop(((dstP M s ⟨j, hj⟩).view.loc (c : Thread nD τ) ↦[pageSet c M s ⟨j, hj⟩]{fullShare}
        (dstP M s ⟨j, hj⟩).view.write (Elt F) f (ReadAs.same.apply ((srcP A (pg ⟨j, hj⟩)).view.read (Elt F) fA)) Finset.univ)
      ∗ ((srcP A (pg ⟨j, hj⟩)).view.loc (c : Thread nD τ) ↦[(srcP A (pg ⟨j, hj⟩)).view.set]{tk s ⟨j, hj⟩} fA))
      ⊢ Dl c M A fA tk s f pg ⟨j, hj⟩ := .rfl
  have key := Transfers.wp_dmaBatch (countersEmb (U := Pipeline.UD sig nD τ)) Variants.none (c : Thread nD τ) none (defs := defs₀ (F := F))
    (Q := Q) (k := k) (src := srcP A (pg ⟨j, hj⟩)) (dst := dstP M s ⟨j, hj⟩) (sm := SemLoc.dma (semP S s)) (hsrc := hs) (hdst := hd) (hsem := ht)
    (via := ReadAs.same) (j := j) (u := u * NP M) (Sd := pageSet c M s ⟨j, hj⟩) (fs := fA) (fd := f) (q := tk s ⟨j, hj⟩)
    () (NP M) hN (subset_refl _) hj (Nat.mul_le_mul_right _ hu) hDl
  iapply (show _ ⊢ iprop(_ -∗ wp frame (wpE (defs₀ (F := F)) Variants.none (c : Thread nD τ) none) Set.univ (Prog.lift (TpuEff.enqueueDma (srcAt A ![(pg ⟨j, hj⟩).val, 0, 0, 0] hP) (.here (dstAt M ![s.val, j, 0, 0, 0] hD)) (.dma (semAt S ![s.val] hS)) hs hd ht : TpuEff nD τ sig (Elt F) Λ₀ .tc PUnit) >>= k) Q) from key) $$ [Hs Hd HB]
  · isplitl [Hs]; · iexact Hs
    isplitl [Hd]; · iexact Hd
    iexact HB
  iintro HB
  iapply Hk
  iexists f
  isplitl [HB]; · iexact HB
  isplitl [HP]; · iexact HP
  iexact Hc

/-- Waiting for one page of a block whose copies are all issued. -/
theorem wait_page {α : Type} {Q : α → sProp 𝕄} {s : Fin 4} {pg : Fin 8 → Fin 512} {u : ℕ} (hu : u < 8) {rP : Fin 4 → ℕ} {hP} {rD : Fin 5 → ℕ} {hD} {rS : Fin 1 → ℕ} {hS}
    (eS : rS = ![s.val]) {A' : Memref sig .tc .hbm S512x2x128x256 .fp8e4m3}
    {hs : (srcAt A' rP hP).view.WordExact} {hd : (dstAt M rD hD).view.WordExact} {k : PUnit → Prog (TpuEff nD τ sig (Elt F) Λ₀ .tc) α} :
    iprop(Fl c M A S fA tk s pg 8 u ∗ ∃ W, owes (c : Thread nD τ) 0 W)
      ⊢ iprop((iprop(Fl c M A S fA tk s pg 8 (u + 1) ∗ ∃ W, owes (c : Thread nD τ) 0 W) -∗ wp frame (wpE (defs₀ (F := F)) Variants.none (c : Thread nD τ) none) Set.univ (k ⟨⟩) Q)
      -∗ wp frame (wpE (defs₀ (F := F)) Variants.none (c : Thread nD τ) none) Set.univ (Prog.lift (TpuEff.waitDma2 (semAt S rS hS) (srcAt A' rP hP) (dstAt M rD hD) hs hd : TpuEff nD τ sig (Elt F) Λ₀ .tc PUnit) >>= k) Q) := by
  subst eS
  unfold Fl
  iintro ⟨⟨%f, HB, HP, Hc⟩, %W, HW⟩ Hk
  iapply (show _ ⊢ iprop(_ -∗ wp frame (wpE (defs₀ (F := F)) Variants.none (c : Thread nD τ) none) Set.univ (.op (TpuEff.waitDma2 (semP S s) (srcAt A' rP hP) (dstAt M rD hD) hs hd) k) Q) from
    Transfers.wp_waitBatchMul (countersEmb (U := Pipeline.UD sig nD τ)) Variants.none (c : Thread nD τ) none () (N := NP M) 1
      (by rw [Nat.one_mul]; rfl) (D := Dl c M A fA tk s f pg) (j := 8) (u := u * NP M)
      (by rw [← Nat.add_mul, Nat.mul_comm (NP M)]; exact Nat.mul_le_mul_right _ hu)) $$ [HB HW]
  · isplitl [HB] <;> iassumption
  iintro ⟨HB, HW⟩
  iapply Hk
  rw [← Nat.add_mul]
  isplitr [HW]; swap; · iexists _; iexact HW
  iexists f
  isplitl [HB]; · iexact HB
  isplitl [HP]; · iexact HP
  iexact Hc

end Side

section Steps

variable (c : Dev nD)

/-- Reading one word of the page table. -/
theorem load_word {α : Type} {Q : α → sProp 𝕄} {m : Memref sig .tc .smem S512 .i32} {f : Buf (Elt F) (m.view.loc (c : Thread nD τ))} {r h h1 hp} (x : Fin 512)
    (e : r = ![x.val]) {k : Elt F .i32 → Prog (TpuEff nD τ sig (Elt F) Λ₀ .tc) α} :
    (m.view.loc (c : Thread nD τ) ↦[m.view.set]{fullShare} f : sProp 𝕄)
      ⊢ iprop(((m.view.loc (c : Thread nD τ) ↦[m.view.set]{fullShare} f) -∗ wp frame (wpE (defs₀ (F := F)) Variants.none (c : Thread nD τ) none) Set.univ (k (m.view.read (Elt F) f (ix1 x))) Q)
      -∗ wp frame (wpE (defs₀ (F := F)) Variants.none (c : Thread nD τ) none) Set.univ (smemLoad m (Rect.unit (s := S512) r S1.size h) h1 hp >>= k) Q) := by
  subst e
  iintro H Hk
  iapply (show _ ⊢ iprop(_ -∗ wp frame (wpE (defs₀ (F := F)) Variants.none (c : Thread nD τ) none) Set.univ (smemLoad m (Rect.unit (s := S512) ![x.val] S1.size h) h1 hp >>= k) Q) from
    wp_smemLoadElt Variants.none (c : Thread nD τ) none Set.univ (m := m) (hw := View.loads_smem_one hp h1) (S := m.view.set) (f := f) (q := fullShare) (k := k) (View.set_slice_subset _ _)) $$ H
  iintro H
  have e : (m.access (Rect.unit (s := S512) ![x.val] S1.size h)).read (Elt F) f (Shape.Idx.first (h1.symm ▸ Nat.one_pos))
      = m.view.read (Elt F) f (ix1 x) := by
    rw [View.read_apply, View.read_apply]
    congr 2
    show m.view.emb ((Rect.unit (s := S512) ![x.val] S1.size h).emb _) = m.view.emb (ix1 x)
    congr 1
    funext a; apply Fin.ext; rw [Rect.emb_apply]
    fin_cases a
    have := (Shape.Idx.first (s := S1) (h1.symm ▸ Nat.one_pos) 0).isLt
    show x.val + 1 * (Shape.Idx.first (s := S1) (h1.symm ▸ Nat.one_pos) 0).val = x.val
    have h2 : (Shape.Idx.first (s := S1) (h1.symm ▸ Nat.one_pos) 0).val < 1 := this
    omega
  rw [← e]
  iapply Hk $$ H

theorem assume_step {α : Type} {Q : α → sProp 𝕄} {P : Prop} {d : Decidable P} (h : P) {k : PLift P → Prog (TpuEff nD τ sig (Elt F) Λ₀ .tc) α} :
    wp frame (wpE (defs₀ (F := F)) Variants.none (c : Thread nD τ) none) Set.univ (k ⟨h⟩) Q ⊢ wp frame (wpE (defs₀ (F := F)) Variants.none (c : Thread nD τ) none) Set.univ (Prog.lift (TpuEff.assume P d) >>= k) Q :=
  wp_assume Variants.none (c : Thread nD τ) none Set.univ h

end Steps

end Cert.Kernel.Hand
-- ==== Proof.Steps.lean ====
/-
  The steps of a block's copies at the words the kernel computes: block `b` uses slot `b % 4`, its page `j` is the page
  table's word `8 b + j`, read, checked to be a page of the pool, copied (or waited for) in the keys' pool and in the
  values'.
-/
module

public import proofs.«01_k».proof.Proof.Pages

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-- The table's position of block `b`'s page `j`; the word there; the pool's page it names; the block's slot; the read
    share of the pool that slot `s`'s page `j` uses. -/
def tix (b j : ℕ) : Fin 512 := ⟨(8 * b + j) % 512, Nat.mod_lt _ (by decide)⟩
def wd (T : S512.Idx → BitVec 32) (b j : ℕ) : BitVec 32 := T (ix1 (tix b j))
def pgs (T : S512.Idx → BitVec 32) (b : ℕ) (j : Fin 8) : Fin 512 := ⟨(wd T b j.val).toNat % 512, Nat.mod_lt _ (by decide)⟩
def sl (b : ℕ) : Fin 4 := ⟨b % 4, Nat.mod_lt _ (by decide)⟩
def tk (s : Fin 4) (j : Fin 8) : PosShare TreeShare := Transfers.shareTokN fullShare (8 * s.val + j.val)

section

variable (c : Dev nD)

/-- A block in flight on one side, at block `b`. -/
abbrev FlB (M : Memref sig .tc .vmem S4x8x2x128x256 .fp8e4m3) (A : Memref sig .tc .hbm S512x2x128x256 .fp8e4m3)
    (S : DmaSems sig S4) (fA : Buf (Elt F) (A.view.loc (c : Thread nD τ))) (T : S512.Idx → BitVec 32) (b k u : ℕ) : sProp 𝕄 :=
  Fl c M A S fA tk (sl b) (pgs T b) k u

theorem ld_step {α : Type} {Q : α → sProp 𝕄} {m : Memref sig .tc .smem S512 .i32} {f : Buf (Elt F) (m.view.loc (c : Thread nD τ))}
    {r : Fin 1 → ℕ} {h h1 hp} (b j : ℕ) (e : r = ![8 * b + j]) (hb : b < 64) (hj : j < 8)
    {k : Elt F .i32 → Prog (TpuEff nD τ sig (Elt F) Λ₀ .tc) α} :
    (m.view.loc (c : Thread nD τ) ↦[m.view.set]{fullShare} f : sProp 𝕄)
      ⊢ iprop(((m.view.loc (c : Thread nD τ) ↦[m.view.set]{fullShare} f)
          -∗ wp frame (wpE (defs₀ (F := F)) Variants.none (c : Thread nD τ) none) Set.univ (k (wd (m.view.read (Elt F) f) b j)) Q)
      -∗ wp frame (wpE (defs₀ (F := F)) Variants.none (c : Thread nD τ) none) Set.univ (smemLoad m (Rect.unit (s := S512) r S1.size h) h1 hp >>= k) Q) :=
  load_word c (tix b j) (by
    rw [e]; exact congrArg (fun x => ![x]) (Nat.mod_eq_of_lt (show 8 * b + j < 512 by omega)).symm)

theorem pure_step {α : Type} {Q : α → sProp 𝕄} (a : α) :
    Q a ⊢ wp frame (wpE (defs₀ (F := F)) Variants.none (c : Thread nD τ) none) Set.univ (pure a) Q := le_wp_ret _ _ _ _ _

theorem start_step {α : Type} {Q : α → sProp 𝕄} {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} (hT : ∀ i, (T i).toNat < 512)
    {b : ℕ} (j : ℕ) (hj : j < 8) {u : ℕ} {rP : Fin 4 → ℕ} {hP} {rD : Fin 5 → ℕ} {hD} {rS : Fin 1 → ℕ} {hS}
    (eP : rP = ![(wd T b j).toNat, 0, 0, 0]) (eD : rD = ![b % 4, j, 0, 0, 0]) (eS : rS = ![b % 4]) (hu : u ≤ j)
    {hs : (srcAt A rP hP).view.WordExact} {hd : (dstAt M rD hD).view.WordExact}
    {ht : DmaTarget.Typed (nD := nD) (τ := τ) (p := .tc) .hbm (.dma (semAt S rS hS)) (.here (dstAt M rD hD))} {k : PUnit → Prog (TpuEff nD τ sig (Elt F) Λ₀ .tc) α} :
    FlB c M A S fA T b j u ⊢ iprop((FlB c M A S fA T b (j + 1) u -∗ wp frame (wpE (defs₀ (F := F)) Variants.none (c : Thread nD τ) none) Set.univ (k ⟨⟩) Q)
      -∗ wp frame (wpE (defs₀ (F := F)) Variants.none (c : Thread nD τ) none) Set.univ
        (Prog.lift (TpuEff.enqueueDma (srcAt A rP hP) (.here (dstAt M rD hD)) (.dma (semAt S rS hS)) hs hd ht : TpuEff nD τ sig (Elt F) Λ₀ .tc PUnit) >>= k) Q) :=
  start_page c M A S fA tk j hj (by
    rw [eP]; exact congrArg (fun x => ![x, 0, 0, 0]) (Nat.mod_eq_of_lt (hT _)).symm) eD eS hu

theorem wait_step {α : Type} {Q : α → sProp 𝕄} {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32}
    {b : ℕ} (u : ℕ) (hu : u < 8) {rP : Fin 4 → ℕ} {hP} {rD : Fin 5 → ℕ} {hD} {rS : Fin 1 → ℕ} {hS} (eS : rS = ![b % 4])
    {hs : (srcAt A rP hP).view.WordExact} {hd : (dstAt M rD hD).view.WordExact} {k : PUnit → Prog (TpuEff nD τ sig (Elt F) Λ₀ .tc) α} :
    iprop(FlB c M A S fA T b 8 u ∗ ∃ W, owes (c : Thread nD τ) 0 W)
      ⊢ iprop((iprop(FlB c M A S fA T b 8 (u + 1) ∗ ∃ W, owes (c : Thread nD τ) 0 W) -∗ wp frame (wpE (defs₀ (F := F)) Variants.none (c : Thread nD τ) none) Set.univ (k ⟨⟩) Q)
      -∗ wp frame (wpE (defs₀ (F := F)) Variants.none (c : Thread nD τ) none) Set.univ
        (Prog.lift (TpuEff.waitDma2 (semAt S rS hS) (srcAt A rP hP) (dstAt M rD hD) hs hd : TpuEff nD τ sig (Elt F) Λ₀ .tc PUnit) >>= k) Q) :=
  wait_page c M A S fA tk hu eS

end

end Cert.Kernel.Hand
-- ==== Proof.Waits.lean ====
/-
  The loop's waits for a block and its starts three blocks ahead, part by part.
-/
module

public import proofs.«01_k».proof.Proof.Steps

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part17_run {v0 : BitVec 32} (hv : v0.toNat ≤ 65532)
    (hT : ∀ i : S512.Idx, BitVec.toNat (w := 32) (arg1.view.read (Elt F) fT i) < 512) (t : Fin (k0_t1_loop v0).trips) (hb : t.val < 64) (k0_hw25 : k0_chk25 v0) (c0_i32_138 : BitVec 32) (c1_i32_140 : BitVec 32)
    {Q : (Σ' (arg19 : BitVec 32) (v639 : Elt F .i32), k0_chk27 v639) → sProp 𝕄} :
    iprop((arg1.view.loc (c : Thread nD τ) ↦[arg1.view.set]{fullShare} fT)
      ∗ FlB c arg12 arg7 arg17 fA7 (arg1.view.read (Elt F) fT) t.val 8 0
      ∗ FlB c arg13 arg8 arg18 fA8 (arg1.view.read (Elt F) fT) t.val 8 0
      ∗ (∃ W, owes (c : Thread nD τ) 0 W))
      ⊢ iprop((∀ x0 h, iprop((arg1.view.loc (c : Thread nD τ) ↦[arg1.view.set]{fullShare} fT)
      ∗ FlB c arg12 arg7 arg17 fA7 (arg1.view.read (Elt F) fT) t.val 8 2
      ∗ FlB c arg13 arg8 arg18 fA8 (arg1.view.read (Elt F) fT) t.val 8 1
      ∗ (∃ W, owes (c : Thread nD τ) 0 W)) -∗ Q ⟨x0, wd (arg1.view.read (Elt F) fT) t.val 1, h⟩)
      -∗ wp frame (wpE (defs₀ (F := F)) Variants.none (c : Thread nD τ) none) Set.univ (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 c0_i32_138 c1_i32_140 t) Q) := by
  rw [k0_part17_eq_skeleton]; unfold k0_part17_skel
  iintro ⟨HT, HK, HV, HW⟩ Hk
  iapply (ld_step c t.val 0 (off124_eq hv t) hb (by decide)) $$ HT; iintro HT
  iapply (assume_step c (chk26 _ (hT (ix1 (tix t.val 0)))))
  iapply (wait_step c (b := t.val) 0 (by decide) (off125_eq hv t)) $$ [HK HW]
  · isplitl [HK] <;> iassumption
  iintro ⟨HK, HW⟩
  iapply (wait_step c (b := t.val) 0 (by decide) (off128_eq hv t)) $$ [HV HW]
  · isplitl [HV] <;> iassumption
  iintro ⟨HV, HW⟩
  iapply (ld_step c t.val 1 (off130_eq hv t) hb (by decide)) $$ HT; iintro HT
  iapply (assume_step c (chk27 _ (hT (ix1 (tix t.val 1)))))
  iapply (wait_step c (b := t.val) 1 (by decide) (off128_eq hv t)) $$ [HK HW]
  · isplitl [HK] <;> iassumption
  iintro ⟨HK, HW⟩
  iapply (pure_step c _)
  iapply Hk
  isplitl [HT]; · iexact HT
  isplitl [HK]; · iexact HK
  isplitl [HV]; · iexact HV
  iexact HW

theorem part18_run {v0 : BitVec 32} (hv : v0.toNat ≤ 65532)
    (hT : ∀ i : S512.Idx, BitVec.toNat (w := 32) (arg1.view.read (Elt F) fT i) < 512) (t : Fin (k0_t1_loop v0).trips) (hb : t.val < 64) (k0_hw25 : k0_chk25 v0) (arg19 : BitVec 32) (k0_hw27 : k0_chk27 (wd (arg1.view.read (Elt F) fT) t.val 1))
    {Q : (Σ' (v671 : Elt F .i32), k0_chk29 v671) → sProp 𝕄} :
    iprop((arg1.view.loc (c : Thread nD τ) ↦[arg1.view.set]{fullShare} fT)
      ∗ FlB c arg12 arg7 arg17 fA7 (arg1.view.read (Elt F) fT) t.val 8 2
      ∗ FlB c arg13 arg8 arg18 fA8 (arg1.view.read (Elt F) fT) t.val 8 1
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) t.val 8 3
      ∗ FlB c arg13 arg8 arg18 fA8 (arg1.view.read (Elt F) fT) t.val 8 3
      ∗ (∃ W, owes (c : Thread nD τ) 0 W)) -∗ Q ⟨wd (arg1.view.read (Elt F) fT) t.val 3, h⟩)
      -∗ wp frame (wpE (defs₀ (F := F)) Variants.none (c : Thread nD τ) none) Set.univ (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t arg19 (wd (arg1.view.read (Elt F) fT) t.val 1) k0_hw27) Q) := by
  rw [k0_part18_eq_skeleton]; unfold k0_part18_skel
  iintro ⟨HT, HK, HV, HW⟩ Hk
  iapply (wait_step c (b := t.val) 1 (by decide) (off133_eq hv t)) $$ [HV HW]
  · isplitl [HV] <;> iassumption
  iintro ⟨HV, HW⟩
  iapply (ld_step c t.val 2 (off135_eq hv t) hb (by decide)) $$ HT; iintro HT
  iapply (assume_step c (chk28 _ (hT (ix1 (tix t.val 2)))))
  iapply (wait_step c (b := t.val) 2 (by decide) (off133_eq hv t)) $$ [HK HW]
  · isplitl [HK] <;> iassumption
  iintro ⟨HK, HW⟩
  iapply (wait_step c (b := t.val) 2 (by decide) (off138_eq hv t)) $$ [HV HW]
  · isplitl [HV] <;> iassumption
  iintro ⟨HV, HW⟩
  iapply (ld_step c t.val 3 (off140_eq hv t) hb (by decide)) $$ HT; iintro HT
  iapply (assume_step c (chk29 _ (hT (ix1 (tix t.val 3)))))
  iapply (pure_step c _)
  iapply Hk
  isplitl [HT]; · iexact HT
  isplitl [HK]; · iexact HK
  isplitl [HV]; · iexact HV
  iexact HW

theorem part19_run {v0 : BitVec 32} (hv : v0.toNat ≤ 65532)
    (hT : ∀ i : S512.Idx, BitVec.toNat (w := 32) (arg1.view.read (Elt F) fT i) < 512) (t : Fin (k0_t1_loop v0).trips) (hb : t.val < 64) (k0_hw25 : k0_chk25 v0) (arg19 : BitVec 32) (k0_hw29 : k0_chk29 (wd (arg1.view.read (Elt F) fT) t.val 3))
    {Q : (BitVec 32) → sProp 𝕄} :
    iprop((arg1.view.loc (c : Thread nD τ) ↦[arg1.view.set]{fullShare} fT)
      ∗ FlB c arg12 arg7 arg17 fA7 (arg1.view.read (Elt F) fT) t.val 8 3
      ∗ FlB c arg13 arg8 arg18 fA8 (arg1.view.read (Elt F) fT) t.val 8 3
      ∗ (∃ W, owes (c : Thread nD τ) 0 W))
      ⊢ iprop((∀ r, iprop((arg1.view.loc (c : Thread nD τ) ↦[arg1.view.set]{fullShare} fT)
      ∗ FlB c arg12 arg7 arg17 fA7 (arg1.view.read (Elt F) fT) t.val 8 5
      ∗ FlB c arg13 arg8 arg18 fA8 (arg1.view.read (Elt F) fT) t.val 8 5
      ∗ (∃ W, owes (c : Thread nD τ) 0 W)) -∗ Q r)
      -∗ wp frame (wpE (defs₀ (F := F)) Variants.none (c : Thread nD τ) none) Set.univ (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t arg19 (wd (arg1.view.read (Elt F) fT) t.val 3) k0_hw29) Q) := by
  rw [k0_part19_eq_skeleton]; unfold k0_part19_skel
  iintro ⟨HT, HK, HV, HW⟩ Hk
  iapply (wait_step c (b := t.val) 3 (by decide) (off138_eq hv t)) $$ [HK HW]
  · isplitl [HK] <;> iassumption
  iintro ⟨HK, HW⟩
  iapply (wait_step c (b := t.val) 3 (by decide) (off143_eq hv t)) $$ [HV HW]
  · isplitl [HV] <;> iassumption
  iintro ⟨HV, HW⟩
  iapply (ld_step c t.val 4 (off145_eq hv t) hb (by decide)) $$ HT; iintro HT
  iapply (assume_step c (chk30 _ (hT (ix1 (tix t.val 4)))))
  iapply (wait_step c (b := t.val) 4 (by decide) (off143_eq hv t)) $$ [HK HW]
  · isplitl [HK] <;> iassumption
  iintro ⟨HK, HW⟩
  iapply (wait_step c (b := t.val) 4 (by decide) (off148_eq hv t)) $$ [HV HW]
  · isplitl [HV] <;> iassumption
  iintro ⟨HV, HW⟩
  iapply (pure_step c _)
  iapply Hk
  isplitl [HT]; · iexact HT
  isplitl [HK]; · iexact HK
  isplitl [HV]; · iexact HV
  iexact HW

theorem part20_run {v0 : BitVec 32} (hv : v0.toNat ≤ 65532)
    (hT : ∀ i : S512.Idx, BitVec.toNat (w := 32) (arg1.view.read (Elt F) fT i) < 512) (t : Fin (k0_t1_loop v0).trips) (hb : t.val < 64) (k0_hw25 : k0_chk25 v0) (arg19 : BitVec 32) (v700 : BitVec 32)
    {Q : (Σ' (v719 : Elt F .i32), k0_chk32 v719) → sProp 𝕄} :
    iprop((arg1.view.loc (c : Thread nD τ) ↦[arg1.view.set]{fullShare} fT)
      ∗ FlB c arg12 arg7 arg17 fA7 (arg1.view.read (Elt F) fT) t.val 8 5
      ∗ FlB c arg13 arg8 arg18 fA8 (arg1.view.read (Elt F) fT) t.val 8 5
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) t.val 8 7
      ∗ FlB c arg13 arg8 arg18 fA8 (arg1.view.read (Elt F) fT) t.val 8 6
      ∗ (∃ W, owes (c : Thread nD τ) 0 W)) -∗ Q ⟨wd (arg1.view.read (Elt F) fT) t.val 6, h⟩)
      -∗ wp frame (wpE (defs₀ (F := F)) Variants.none (c : Thread nD τ) none) Set.univ (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t arg19 v700) Q) := by
  rw [k0_part20_eq_skeleton]; unfold k0_part20_skel
  iintro ⟨HT, HK, HV, HW⟩ Hk
  iapply (ld_step c t.val 5 (off150_eq hv t) hb (by decide)) $$ HT; iintro HT
  iapply (assume_step c (chk31 _ (hT (ix1 (tix t.val 5)))))
  iapply (wait_step c (b := t.val) 5 (by decide) (off148_eq hv t)) $$ [HK HW]
  · isplitl [HK] <;> iassumption
  iintro ⟨HK, HW⟩
  iapply (wait_step c (b := t.val) 5 (by decide) (off153_eq hv t)) $$ [HV HW]
  · isplitl [HV] <;> iassumption
  iintro ⟨HV, HW⟩
  iapply (ld_step c t.val 6 (off155_eq hv t) hb (by decide)) $$ HT; iintro HT
  iapply (assume_step c (chk32 _ (hT (ix1 (tix t.val 6)))))
  iapply (wait_step c (b := t.val) 6 (by decide) (off153_eq hv t)) $$ [HK HW]
  · isplitl [HK] <;> iassumption
  iintro ⟨HK, HW⟩
  iapply (pure_step c _)
  iapply Hk
  isplitl [HT]; · iexact HT
  isplitl [HK]; · iexact HK
  isplitl [HV]; · iexact HV
  iexact HW

theorem part13_run {v0 : BitVec 32} (hv : v0.toNat ≤ 65532)
    (hT : ∀ i : S512.Idx, BitVec.toNat (w := 32) (arg1.view.read (Elt F) fT i) < 512) (t : Fin (k0_t1_loop v0).trips) (hb : t.val + 3 < 64) (k0_hw25 : k0_chk25 v0) (v749 : BitVec 32) (k0_h4 : k0_cond4 v0 t = 1#1)
    {Q : (Σ' (v902 : Elt F .i32), k0_chk35 v0 t v902) → sProp 𝕄} :
    iprop((arg1.view.loc (c : Thread nD τ) ↦[arg1.view.set]{fullShare} fT)
      ∗ FlB c arg12 arg7 arg17 fA7 (arg1.view.read (Elt F) fT) (t.val + 3) 0 0
      ∗ FlB c arg13 arg8 arg18 fA8 (arg1.view.read (Elt F) fT) (t.val + 3) 0 0)
      ⊢ iprop((∀ h, iprop((arg1.view.loc (c : Thread nD τ) ↦[arg1.view.set]{fullShare} fT)
      ∗ FlB c arg12 arg7 arg17 fA7 (arg1.view.read (Elt F) fT) (t.val + 3) 2 0
      ∗ FlB c arg13 arg8 arg18 fA8 (arg1.view.read (Elt F) fT) (t.val + 3) 1 0) -∗ Q ⟨wd (arg1.view.read (Elt F) fT) (t.val + 3) 1, h⟩)
      -∗ wp frame (wpE (defs₀ (F := F)) Variants.none (c : Thread nD τ) none) Set.univ (k0_part13 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v749 k0_h4) Q) := by
  rw [k0_part13_eq_skeleton]; unfold k0_part13_skel
  iintro ⟨HT, HK, HV⟩ Hk
  iapply (ld_step c (t.val + 3) 0 (off165_eq hv t) hb (by decide)) $$ HT; iintro HT
  iapply (assume_step c (chk34 _ _ _ (hT (ix1 (tix (t.val + 3) 0)))))
  iapply (start_step c (b := (t.val + 3)) hT 0 (by decide) (off168_eq _) (off167_eq hv t) (off166_eq hv t) (Nat.zero_le _)) $$ HK; iintro HK
  iapply (start_step c (b := (t.val + 3)) hT 0 (by decide) (off168_eq _) (off170_eq hv t) (off169_eq hv t) (Nat.zero_le _)) $$ HV; iintro HV
  iapply (ld_step c (t.val + 3) 1 (off171_eq hv t) hb (by decide)) $$ HT; iintro HT
  iapply (assume_step c (chk35 _ _ _ (hT (ix1 (tix (t.val + 3) 1)))))
  iapply (start_step c (b := (t.val + 3)) hT 1 (by decide) (off173_eq _) (off172_eq hv t) (off169_eq hv t) (Nat.zero_le _)) $$ HK; iintro HK
  iapply (pure_step c _)
  iapply Hk
  isplitl [HT]; · iexact HT
  isplitl [HK]; · iexact HK
  iexact HV

theorem part14_run {v0 : BitVec 32} (hv : v0.toNat ≤ 65532)
    (hT : ∀ i : S512.Idx, BitVec.toNat (w := 32) (arg1.view.read (Elt F) fT i) < 512) (t : Fin (k0_t1_loop v0).trips) (hb : t.val + 3 < 64) (k0_hw25 : k0_chk25 v0) (v749 : BitVec 32) (k0_h4 : k0_cond4 v0 t = 1#1) (k0_hw35 : k0_chk35 v0 t (wd (arg1.view.read (Elt F) fT) (t.val + 3) 1))
    {Q : (Σ' (v934 : Elt F .i32), k0_chk37 v0 t v934) → sProp 𝕄} :
    iprop((arg1.view.loc (c : Thread nD τ) ↦[arg1.view.set]{fullShare} fT)
      ∗ FlB c arg12 arg7 arg17 fA7 (arg1.view.read (Elt F) fT) (t.val + 3) 2 0
      ∗ FlB c arg13 arg8 arg18 fA8 (arg1.view.read (Elt F) fT) (t.val + 3) 1 0)
      ⊢ iprop((∀ h, iprop((arg1.view.loc (c : Thread nD τ) ↦[arg1.view.set]{fullShare} fT)
      ∗ FlB c arg12 arg7 arg17 fA7 (arg1.view.read (Elt F) fT) (t.val + 3) 3 0
      ∗ FlB c arg13 arg8 arg18 fA8 (arg1.view.read (Elt F) fT) (t.val + 3) 3 0) -∗ Q ⟨wd (arg1.view.read (Elt F) fT) (t.val + 3) 3, h⟩)
      -∗ wp frame (wpE (defs₀ (F := F)) Variants.none (c : Thread nD τ) none) Set.univ (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v749 k0_h4 (wd (arg1.view.read (Elt F) fT) (t.val + 3) 1) k0_hw35) Q) := by
  rw [k0_part14_eq_skeleton]; unfold k0_part14_skel
  iintro ⟨HT, HK, HV⟩ Hk
  iapply (start_step c (b := (t.val + 3)) hT 1 (by decide) (off173_eq _) (off175_eq hv t) (off174_eq hv t) (Nat.zero_le _)) $$ HV; iintro HV
  iapply (ld_step c (t.val + 3) 2 (off176_eq hv t) hb (by decide)) $$ HT; iintro HT
  iapply (assume_step c (chk36 _ _ _ (hT (ix1 (tix (t.val + 3) 2)))))
  iapply (start_step c (b := (t.val + 3)) hT 2 (by decide) (off178_eq _) (off177_eq hv t) (off174_eq hv t) (Nat.zero_le _)) $$ HK; iintro HK
  iapply (start_step c (b := (t.val + 3)) hT 2 (by decide) (off178_eq _) (off180_eq hv t) (off179_eq hv t) (Nat.zero_le _)) $$ HV; iintro HV
  iapply (ld_step c (t.val + 3) 3 (off181_eq hv t) hb (by decide)) $$ HT; iintro HT
  iapply (assume_step c (chk37 _ _ _ (hT (ix1 (tix (t.val + 3) 3)))))
  iapply (pure_step c _)
  iapply Hk
  isplitl [HT]; · iexact HT
  isplitl [HK]; · iexact HK
  iexact HV

theorem part15_run {v0 : BitVec 32} (hv : v0.toNat ≤ 65532)
    (hT : ∀ i : S512.Idx, BitVec.toNat (w := 32) (arg1.view.read (Elt F) fT i) < 512) (t : Fin (k0_t1_loop v0).trips) (hb : t.val + 3 < 64) (k0_hw25 : k0_chk25 v0) (v749 : BitVec 32) (k0_h4 : k0_cond4 v0 t = 1#1) (k0_hw37 : k0_chk37 v0 t (wd (arg1.view.read (Elt F) fT) (t.val + 3) 3))
    {Q : (Σ' (v963 : BitVec 32), BitVec 32) → sProp 𝕄} :
    iprop((arg1.view.loc (c : Thread nD τ) ↦[arg1.view.set]{fullShare} fT)
      ∗ FlB c arg12 arg7 arg17 fA7 (arg1.view.read (Elt F) fT) (t.val + 3) 3 0
      ∗ FlB c arg13 arg8 arg18 fA8 (arg1.view.read (Elt F) fT) (t.val + 3) 3 0)
      ⊢ iprop((∀ r, iprop((arg1.view.loc (c : Thread nD τ) ↦[arg1.view.set]{fullShare} fT)
      ∗ FlB c arg12 arg7 arg17 fA7 (arg1.view.read (Elt F) fT) (t.val + 3) 5 0
      ∗ FlB c arg13 arg8 arg18 fA8 (arg1.view.read (Elt F) fT) (t.val + 3) 5 0) -∗ Q r)
      -∗ wp frame (wpE (defs₀ (F := F)) Variants.none (c : Thread nD τ) none) Set.univ (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v749 k0_h4 (wd (arg1.view.read (Elt F) fT) (t.val + 3) 3) k0_hw37) Q) := by
  rw [k0_part15_eq_skeleton]; unfold k0_part15_skel
  iintro ⟨HT, HK, HV⟩ Hk
  iapply (start_step c (b := (t.val + 3)) hT 3 (by decide) (off183_eq _) (off182_eq hv t) (off179_eq hv t) (Nat.zero_le _)) $$ HK; iintro HK
  iapply (start_step c (b := (t.val + 3)) hT 3 (by decide) (off183_eq _) (off185_eq hv t) (off184_eq hv t) (Nat.zero_le _)) $$ HV; iintro HV
  iapply (ld_step c (t.val + 3) 4 (off186_eq hv t) hb (by decide)) $$ HT; iintro HT
  iapply (assume_step c (chk38 _ _ _ (hT (ix1 (tix (t.val + 3) 4)))))
  iapply (start_step c (b := (t.val + 3)) hT 4 (by decide) (off188_eq _) (off187_eq hv t) (off184_eq hv t) (Nat.zero_le _)) $$ HK; iintro HK
  iapply (start_step c (b := (t.val + 3)) hT 4 (by decide) (off188_eq _) (off190_eq hv t) (off189_eq hv t) (Nat.zero_le _)) $$ HV; iintro HV
  iapply (pure_step c _)
  iapply Hk
  isplitl [HT]; · iexact HT
  isplitl [HK]; · iexact HK
  iexact HV

theorem part16_run {v0 : BitVec 32} (hv : v0.toNat ≤ 65532)
    (hT : ∀ i : S512.Idx, BitVec.toNat (w := 32) (arg1.view.read (Elt F) fT i) < 512) (t : Fin (k0_t1_loop v0).trips) (hb : t.val + 3 < 64) (k0_hw25 : k0_chk25 v0) (v749 : BitVec 32) (k0_h4 : k0_cond4 v0 t = 1#1) (v963 : BitVec 32) (c5_i32_677 : BitVec 32)
    {Q : (Σ' (v982 : Elt F .i32), k0_chk40 v0 t v982) → sProp 𝕄} :
    iprop((arg1.view.loc (c : Thread nD τ) ↦[arg1.view.set]{fullShare} fT)
      ∗ FlB c arg12 arg7 arg17 fA7 (arg1.view.read (Elt F) fT) (t.val + 3) 5 0
      ∗ FlB c arg13 arg8 arg18 fA8 (arg1.view.read (Elt F) fT) (t.val + 3) 5 0)
      ⊢ iprop((∀ h, iprop((arg1.view.loc (c : Thread nD τ) ↦[arg1.view.set]{fullShare} fT)
      ∗ FlB c arg12 arg7 arg17 fA7 (arg1.view.read (Elt F) fT) (t.val + 3) 7 0
      ∗ FlB c arg13 arg8 arg18 fA8 (arg1.view.read (Elt F) fT) (t.val + 3) 6 0) -∗ Q ⟨wd (arg1.view.read (Elt F) fT) (t.val + 3) 6, h⟩)
      -∗ wp frame (wpE (defs₀ (F := F)) Variants.none (c : Thread nD τ) none) Set.univ (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v749 k0_h4 v963 c5_i32_677) Q) := by
  rw [k0_part16_eq_skeleton]; unfold k0_part16_skel
  iintro ⟨HT, HK, HV⟩ Hk
  iapply (ld_step c (t.val + 3) 5 (off191_eq hv t) hb (by decide)) $$ HT; iintro HT
  iapply (assume_step c (chk39 _ _ _ (hT (ix1 (tix (t.val + 3) 5)))))
  iapply (start_step c (b := (t.val + 3)) hT 5 (by decide) (off193_eq _) (off192_eq hv t) (off189_eq hv t) (Nat.zero_le _)) $$ HK; iintro HK
  iapply (start_step c (b := (t.val + 3)) hT 5 (by decide) (off193_eq _) (off195_eq hv t) (off194_eq hv t) (Nat.zero_le _)) $$ HV; iintro HV
  iapply (ld_step c (t.val + 3) 6 (off196_eq hv t) hb (by decide)) $$ HT; iintro HT
  iapply (assume_step c (chk40 _ _ _ (hT (ix1 (tix (t.val + 3) 6)))))
  iapply (start_step c (b := (t.val + 3)) hT 6 (by decide) (off198_eq _) (off197_eq hv t) (off194_eq hv t) (Nat.zero_le _)) $$ HK; iintro HK
  iapply (pure_step c _)
  iapply Hk
  isplitl [HT]; · iexact HT
  isplitl [HK]; · iexact HK
  iexact HV

end

end Cert.Kernel.Hand
-- ==== Proof.Mem.lean ====
/-
  Loads and stores through views whose contents are known as functions of the position.
-/
module

public import proofs.«01_k».proof.Proof.Steps

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-- Holding a view whole, reading `g`. -/
def Own (c : Dev nD) {sp : CoreSpace} {s : Shape} {e : EltTy} (M : Memref sig .tc sp s e) (g : s.Idx → Elt F e) : sProp 𝕄 :=
  iprop(∃ f, ⌜M.view.read (Elt F) f = g⌝ ∗ M.view.loc (c : Thread nD τ) ↦[M.view.set]{fullShare} f)

/-- A rectangle of an array; -/
def ldr {s : Shape} {V : Type} (g : s.Idx → V) (r : Rect s) : r.shape.Idx → V := fun i => g (r.emb i)

open Classical in
/-- an array with a rectangle replaced. -/
noncomputable def upd {s : Shape} {V : Type} (r : Rect s) (w : r.shape.Idx → V) (g : s.Idx → V) : s.Idx → V :=
  fun j => if h : ∃ i, r.emb i = j then w h.choose else g j

theorem upd_at {s : Shape} {V : Type} (r : Rect s) (w : r.shape.Idx → V) (g : s.Idx → V) (i : r.shape.Idx) : upd r w g (r.emb i) = w i := by
  unfold upd
  rw [dif_pos ⟨i, rfl⟩]
  congr 1
  exact r.emb.injective (Exists.choose_spec (p := fun x => r.emb x = r.emb i) ⟨i, rfl⟩)

theorem upd_off {s : Shape} {V : Type} (r : Rect s) (w : r.shape.Idx → V) (g : s.Idx → V) (j : s.Idx) (h : ¬ ∃ i, r.emb i = j) :
    upd r w g j = g j := dif_neg h

section

variable (c : Dev nD)

theorem load_own {α : Type} {Q : α → sProp 𝕄} {sp : CoreSpace} {s : Shape} {e : EltTy} {M : Memref sig .tc sp s e} {g : s.Idx → Elt F e}
    {r : Rect s} {hl : M.view.LoadsAt r.toLoadRect} {k : (r.shape.Idx → Elt F e) → Prog (TpuEff nD τ sig (Elt F) Λ₀ .tc) α} :
    Own c M g ⊢ iprop((Own c M g -∗ wp frame (wpE (defs₀ (F := F)) Variants.none (c : Thread nD τ) none) Set.univ (k (ldr g r)) Q)
      -∗ wp frame (wpE (defs₀ (F := F)) Variants.none (c : Thread nD τ) none) Set.univ ((Prog.lift (.load M r.toLoadRect hl : TpuEff nD τ sig (Elt F) Λ₀ .tc _)) >>= k) Q) := by
  unfold Own
  iintro ⟨%f, %hf, H⟩ Hk
  iapply (show _ ⊢ iprop(_ -∗ wp frame (wpE (defs₀ (F := F)) Variants.none (c : Thread nD τ) none) Set.univ ((Prog.lift (.load M r.toLoadRect hl : TpuEff nD τ sig (Elt F) Λ₀ .tc _)) >>= k) Q) from
    wp_load_rect Variants.none (c : Thread nD τ) none Set.univ (m := M) (r := r) (hl := hl) (S := M.view.set) (f := f) (q := fullShare) (k := k) (View.set_slice_subset _ _)) $$ H
  iintro H
  have e : (M.access r).read (Elt F) f = ldr g r := by
    subst hf; rfl
  rw [← e]
  iapply Hk
  iexists f
  isplitr; · ipureintro; exact hf
  iexact H

theorem store_own {α : Type} {Q : α → sProp 𝕄} {sp : CoreSpace} {s : Shape} {e : EltTy} {M : Memref sig .tc sp s e} {g : s.Idx → Elt F e}
    {r : Rect s} {w : r.shape.Idx → Elt F e} {hx : (M.access r).Stores Finset.univ} {hm}
    {k : PUnit → Prog (TpuEff nD τ sig (Elt F) Λ₀ .tc) α} :
    Own c M g ⊢ iprop((Own c M (upd r w g) -∗ wp frame (wpE (defs₀ (F := F)) Variants.none (c : Thread nD τ) none) Set.univ (k ⟨⟩) Q)
      -∗ wp frame (wpE (defs₀ (F := F)) Variants.none (c : Thread nD τ) none) Set.univ ((Prog.lift (.store M r w Finset.univ hx hm : TpuEff nD τ sig (Elt F) Λ₀ .tc _)) >>= k) Q) := by
  unfold Own
  iintro ⟨%f, %hf, H⟩ Hk
  iapply (show _ ⊢ iprop(_ -∗ wp frame (wpE (defs₀ (F := F)) Variants.none (c : Thread nD τ) none) Set.univ ((Prog.lift (.store M r w Finset.univ hx hm : TpuEff nD τ sig (Elt F) Λ₀ .tc _)) >>= k) Q) from
    wp_store Variants.none (c : Thread nD τ) none Set.univ (m := M) (r := r) (w := w) (hx := hx) (hm := hm) (S := M.view.set) (f := f) (k := k)
      (by rw [View.setOn_univ]; exact View.set_slice_subset _ _)) $$ H
  iintro H
  iapply Hk
  iexists _
  isplitr; swap; · iexact H
  ipureintro
  subst hf
  funext j
  by_cases h : ∃ i, r.emb i = j
  · obtain ⟨i, rfl⟩ := h
    rw [upd_at]
    have e := congrFun (View.read_write_univ (v := M.access r) f w) i
    exact e
  · rw [upd_off _ _ _ _ h]
    show View.read (Elt F) M.view ((M.view.slice r).write (Elt F) f w Finset.univ) j = _
    exact View.read_slice_write_of_not_mem _ _ _ _ (by simpa [Finset.mem_map] using h)

theorem sm_own {α : Type} {Q : α → sProp 𝕄} {n : ℕ} {e : EltTy} {m : Memref sig .tc .smem (⟨1, ![n]⟩ : Shape) e} {g : (⟨1, ![n]⟩ : Shape).Idx → Elt F e}
    {r h h1 hp} (x : Fin n) (he : r = ![x.val]) {k : Elt F e → Prog (TpuEff nD τ sig (Elt F) Λ₀ .tc) α} :
    Own c m g ⊢ iprop((Own c m g -∗ wp frame (wpE (defs₀ (F := F)) Variants.none (c : Thread nD τ) none) Set.univ (k (g (ix1 x))) Q)
      -∗ wp frame (wpE (defs₀ (F := F)) Variants.none (c : Thread nD τ) none) Set.univ (smemLoad m (Rect.unit (s := (⟨1, ![n]⟩ : Shape)) r S1.size h) h1 hp >>= k) Q) := by
  subst he
  unfold Own
  iintro ⟨%f, %hf, H⟩ Hk
  iapply (show _ ⊢ iprop(_ -∗ wp frame (wpE (defs₀ (F := F)) Variants.none (c : Thread nD τ) none) Set.univ (smemLoad m (Rect.unit (s := (⟨1, ![n]⟩ : Shape)) ![x.val] S1.size h) h1 hp >>= k) Q) from
    wp_smemLoadElt Variants.none (c : Thread nD τ) none Set.univ (m := m) (hw := View.loads_smem_one hp h1) (S := m.view.set) (f := f) (q := fullShare) (k := k) (View.set_slice_subset _ _)) $$ H
  iintro H
  have e : (m.access (Rect.unit (s := (⟨1, ![n]⟩ : Shape)) ![x.val] S1.size h)).read (Elt F) f (Shape.Idx.first (h1.symm ▸ Nat.one_pos))
      = g (ix1 x) := by
    subst hf
    rw [View.read_apply, View.read_apply]
    congr 2
    show m.view.emb ((Rect.unit (s := (⟨1, ![n]⟩ : Shape)) ![x.val] S1.size h).emb _) = m.view.emb (ix1 x)
    congr 1
    funext a; apply Fin.ext; rw [Rect.emb_apply]
    fin_cases a
    have := (Shape.Idx.first (s := S1) (h1.symm ▸ Nat.one_pos) 0).isLt
    show x.val + 1 * (Shape.Idx.first (s := S1) (h1.symm ▸ Nat.one_pos) 0).val = x.val
    have h2 : (Shape.Idx.first (s := S1) (h1.symm ▸ Nat.one_pos) 0).val < 1 := this
    omega
  rw [← e]
  iapply Hk
  iexists f
  isplitr; · ipureintro; exact hf
  iexact H

/-- A head's 1024 rows of a block, as loaded: page `i 1`, row `i 3`, lane `i 4`. -/
def kv (A : S512x2x128x256.Idx → Elt F .fp8e4m3) (T : S512.Idx → BitVec 32) (b : ℕ) (h : Fin 2) : Vec F S1x8x1x128x256 .fp8e4m3 :=
  fun i => A (ix4 (pgs T b (i 1)) h (i 3) (i 4))

/-- Loading one head of a landed slot. -/
theorem load_slot {α : Type} {Q : α → sProp 𝕄} {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {b : ℕ} (h : Fin 2)
    {r : Fin 5 → ℕ} {hr} {hl} (e : r = ![b % 4, 0, h.val, 0, 0])
    {k : Vec F S1x8x1x128x256 .fp8e4m3 → Prog (TpuEff nD τ sig (Elt F) Λ₀ .tc) α} :
    Landed c M A S fA tk (sl b) (pgs T b) ⊢ iprop((Landed c M A S fA tk (sl b) (pgs T b) -∗ wp frame (wpE (defs₀ (F := F)) Variants.none (c : Thread nD τ) none) Set.univ (k (kv (A.view.read (Elt F) fA) T b h)) Q)
      -∗ wp frame (wpE (defs₀ (F := F)) Variants.none (c : Thread nD τ) none) Set.univ ((Prog.lift (.load M (Rect.unit (s := S4x8x2x128x256) r S1x8x1x128x256.size hr).toLoadRect hl : TpuEff nD τ sig (Elt F) Λ₀ .tc _)) >>= k) Q) := by
  subst e
  have ee : ∀ x : S1x8x1x128x256.Idx, (Rect.unit (s := S4x8x2x128x256) ![b % 4, 0, h.val, 0, 0] S1x8x1x128x256.size hr).emb x
      = ix5 (sl b) (x 1) h (x 3) (x 4) := by
    intro x
    funext a; apply Fin.ext; rw [Rect.emb_apply]
    have h0 : (x 0).val < 1 := (x 0).isLt
    have h2 : (x 2).val < 1 := (x 2).isLt
    fin_cases a
    · show b % 4 + 1 * (x 0).val = b % 4; omega
    · show 0 + 1 * (x 1).val = (x 1).val; omega
    · show h.val + 1 * (x 2).val = h.val; omega
    · show 0 + 1 * (x 3).val = (x 3).val; omega
    · show 0 + 1 * (x 4).val = (x 4).val; omega
  unfold Landed
  iintro ⟨⟨%g, %hg, H⟩, Hs, Ht⟩ Hk
  iapply (show _ ⊢ iprop(_ -∗ wp frame (wpE (defs₀ (F := F)) Variants.none (c : Thread nD τ) none) Set.univ ((Prog.lift (.load M (Rect.unit (s := S4x8x2x128x256) ![b % 4, 0, h.val, 0, 0] S1x8x1x128x256.size hr).toLoadRect hl : TpuEff nD τ sig (Elt F) Λ₀ .tc _)) >>= k) Q) from
    wp_load_rect Variants.none (c : Thread nD τ) none Set.univ (m := M) (r := Rect.unit (s := S4x8x2x128x256) ![b % 4, 0, h.val, 0, 0] S1x8x1x128x256.size hr) (hl := hl) (S := slotSet c M (sl b)) (f := g) (q := fullShare) (k := k) (by
      intro i hi
      unfold View.set at hi
      rw [Finset.mem_map] at hi
      obtain ⟨x, -, rfl⟩ := hi
      refine (mem_slotSet c M).2 ⟨x 1, h, x 3, x 4, ?_⟩
      exact congrArg M.view.emb (ee x).symm)) $$ H
  iintro H
  have e : (M.access (Rect.unit (s := S4x8x2x128x256) ![b % 4, 0, h.val, 0, 0] S1x8x1x128x256.size hr)).read (Elt F) g = kv (A.view.read (Elt F) fA) T b h := by
    funext x
    refine Eq.trans ?_ (hg (x 1) h (x 3) (x 4))
    exact congrArg (M.view.read (Elt F) g) (ee x)
  rw [← e]
  iapply Hk
  isplitl [H]
  · iexists g
    isplitr; · ipureintro; exact hg
    iexact H
  isplitl [Hs] <;> iassumption

theorem dite_step {α : Type} {Q : α → sProp 𝕄} {p : Prop} [Decidable p] {A : p → Prog (TpuEff nD τ sig (Elt F) Λ₀ .tc) α}
    {B : ¬ p → Prog (TpuEff nD τ sig (Elt F) Λ₀ .tc) α} {P : sProp 𝕄}
    (h1 : ∀ h, P ⊢ wp frame (wpE (defs₀ (F := F)) Variants.none (c : Thread nD τ) none) Set.univ (A h) Q) (h2 : ∀ h, P ⊢ wp frame (wpE (defs₀ (F := F)) Variants.none (c : Thread nD τ) none) Set.univ (B h) Q) : P ⊢ wp frame (wpE (defs₀ (F := F)) Variants.none (c : Thread nD τ) none) Set.univ (dite p A B) Q := by
  by_cases h : p
  · rw [dif_pos h]; exact h1 h
  · rw [dif_neg h]; exact h2 h

theorem bind_step {α β : Type} {Q : β → sProp 𝕄} {p : Prog (TpuEff nD τ sig (Elt F) Λ₀ .tc) α} {k : α → Prog (TpuEff nD τ sig (Elt F) Λ₀ .tc) β} :
    wp frame (wpE (defs₀ (F := F)) Variants.none (c : Thread nD τ) none) Set.univ p (fun a => wp frame (wpE (defs₀ (F := F)) Variants.none (c : Thread nD τ) none) Set.univ (k a) Q) ⊢ wp frame (wpE (defs₀ (F := F)) Variants.none (c : Thread nD τ) none) Set.univ (p >>= k) Q := by
  rw [wp_bind]

end

end Cert.Kernel.Hand
-- ==== Proof.Rects.lean ====
/-
  The rectangles the kernel reads and writes.
-/
module

public import proofs.«01_k».proof.Proof.Mem

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-! The heads of the running maximum, sum and accumulator; the query's row groups; the new tokens. -/
abbrev Ra0 : Rect S2x64x256 := Rect.unit (s := S2x64x256) ![0, 0, 0] S1x64x256.size inb_S2x64x256_S1x64x256_0_0_0
abbrev Ra1 : Rect S2x64x256 := Rect.unit (s := S2x64x256) ![1, 0, 0] S1x64x256.size inb_S2x64x256_S1x64x256_1_0_0
abbrev RaF : Rect S2x64x256 := Rect.unit (s := S2x64x256) ![0, 0, 0] S2x64x256.size inb_S2x64x256_S2x64x256_0_0_0
abbrev Rm0 : Rect S2x64x1 := Rect.unit (s := S2x64x1) ![0, 0, 0] S1x64x1.size inb_S2x64x1_S1x64x1_0_0_0
abbrev Rm1 : Rect S2x64x1 := Rect.unit (s := S2x64x1) ![1, 0, 0] S1x64x1.size inb_S2x64x1_S1x64x1_1_0_0
abbrev RmF : Rect S2x64x1 := Rect.unit (s := S2x64x1) ![0, 0, 0] S2x64x1.size inb_S2x64x1_S2x64x1_0_0_0
abbrev Rn : Rect S8x256 := Rect.unit (s := S8x256) ![0, 0] S8x256.size inb_S8x256_S8x256_0_0
abbrev Rq0 : Rect S128x256 := Rect.unit (s := S128x256) ![0, 0] S16x256.size inb_S128x256_S16x256_0_0
abbrev Rq112 : Rect S128x256 := Rect.unit (s := S128x256) ![112, 0] S16x256.size inb_S128x256_S16x256_112_0
abbrev Rq16 : Rect S128x256 := Rect.unit (s := S128x256) ![16, 0] S16x256.size inb_S128x256_S16x256_16_0
abbrev Rq32 : Rect S128x256 := Rect.unit (s := S128x256) ![32, 0] S16x256.size inb_S128x256_S16x256_32_0
abbrev Rq48 : Rect S128x256 := Rect.unit (s := S128x256) ![48, 0] S16x256.size inb_S128x256_S16x256_48_0
abbrev Rq64 : Rect S128x256 := Rect.unit (s := S128x256) ![64, 0] S16x256.size inb_S128x256_S16x256_64_0
abbrev Rq80 : Rect S128x256 := Rect.unit (s := S128x256) ![80, 0] S16x256.size inb_S128x256_S16x256_80_0
abbrev Rq96 : Rect S128x256 := Rect.unit (s := S128x256) ![96, 0] S16x256.size inb_S128x256_S16x256_96_0

theorem upd_RmF {V : Type} (w : S2x64x1.Idx → V) (g : S2x64x1.Idx → V) : upd RmF w g = w := by
  funext j
  have e : (RmF).emb j = j := by
    funext a; apply Fin.ext; rw [Rect.emb_apply]
    fin_cases a <;> first | exact (Nat.zero_add _).trans (Nat.one_mul _)
  exact (congrArg (upd RmF w g) e.symm).trans (upd_at RmF w g j)

theorem upd_RaF {V : Type} (w : S2x64x256.Idx → V) (g : S2x64x256.Idx → V) : upd RaF w g = w := by
  funext j
  have e : (RaF).emb j = j := by
    funext a; apply Fin.ext; rw [Rect.emb_apply]
    fin_cases a <;> first | exact (Nat.zero_add _).trans (Nat.one_mul _)
  exact (congrArg (upd RaF w g) e.symm).trans (upd_at RaF w g j)

theorem upd_Rn {V : Type} (w : S8x256.Idx → V) (g : S8x256.Idx → V) : upd Rn w g = w := by
  funext j
  have e : (Rn).emb j = j := by
    funext a; apply Fin.ext; rw [Rect.emb_apply]
    fin_cases a <;> first | exact (Nat.zero_add _).trans (Nat.one_mul _)
  exact (congrArg (upd Rn w g) e.symm).trans (upd_at Rn w g j)

end Cert.Kernel.Hand
-- ==== Proof.Compute.lean ====
/-
  The parts that compute, each from what it holds to what it leaves and returns.
-/
module

public import proofs.«01_k».proof.Proof.Mem
public import proofs.«01_k».proof.Proof.Rects

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part22_run {v0 : BitVec 32} (hv : v0.toNat ≤ 65532) (t : Fin (k0_t1_loop v0).trips) (k0_hw25 : k0_chk25 v0) (v753 : BitVec 32) (v755 : Vec F S1x8x1x128x256 .fp8e4m3)
    {g2 : S2.Idx → F .f32} {g3 : S2.Idx → F .f32} {g4 : S128x256.Idx → F .bf16} {g14 : S2x64x1.Idx → F .f32}
    {Q : (Σ' (v773 : FVec F S1024x256 .bf16) (v790 : FVec F S64x1 .f32) (v792 : FVec F S64x1 .f32), FVec F S64x1024 .f32) → sProp 𝕄} :
    iprop(Own c arg2 g2
      ∗ Own c arg3 g3
      ∗ Own c arg4 g4
      ∗ Own c arg14 g14
      ∗ Landed c arg13 arg8 arg18 fA8 tk (sl t.val) (pgs (arg1.view.read (Elt F) fT) t.val))
      ⊢ iprop((iprop(Own c arg2 g2
      ∗ Own c arg3 g3
      ∗ Own c arg4 g4
      ∗ Own c arg14 g14
      ∗ Landed c arg13 arg8 arg18 fA8 tk (sl t.val) (pgs (arg1.view.read (Elt F) fT) t.val))
          -∗ Q ⟨k0_pay3 (kv (arg8.view.read (Elt F) fA8) (arg1.view.read (Elt F) fT) t.val 0) (g3 (ix1 0)), k0_pay6 v755 (g2 (ix1 0)) (ldr g4 Rq0) (ldr g4 Rq32) (ldr g4 Rq64) (ldr g4 Rq96) (ldr g14 Rm0), k0_pay7 v755 (g2 (ix1 0)) (ldr g4 Rq0) (ldr g4 Rq32) (ldr g4 Rq64) (ldr g4 Rq96) (ldr g14 Rm0), k0_pay8 v755 (g2 (ix1 0)) (ldr g4 Rq0) (ldr g4 Rq32) (ldr g4 Rq64) (ldr g4 Rq96) (ldr g14 Rm0)⟩)
      -∗ wp frame (wpE (defs₀ (F := F)) Variants.none (c : Thread nD τ) none) Set.univ (k0_part22 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v753 v755) Q) := by
  rw [k0_part22_eq_skeleton]; unfold k0_part22_skel
  iintro ⟨H2, H3, H4, H14, HV⟩ Hk
  iapply (load_slot c 0 (off206_eq hv t)) $$ HV; iintro HV
  iapply (sm_own c 0 rfl) $$ H2; iintro H2
  iapply (sm_own c 0 rfl) $$ H3; iintro H3
  iapply (load_own c) $$ H4; iintro H4
  iapply (load_own c) $$ H4; iintro H4
  iapply (load_own c) $$ H4; iintro H4
  iapply (load_own c) $$ H4; iintro H4
  iapply (load_own c) $$ H14; iintro H14
  iapply (pure_step c _)
  iapply Hk
  isplitl [H2]; · iexact H2
  isplitl [H3]; · iexact H3
  isplitl [H4]; · iexact H4
  isplitl [H14]; · iexact H14
  iexact HV

theorem part23_run {v0 : BitVec 32} (hv : v0.toNat ≤ 65532) (t : Fin (k0_t1_loop v0).trips) (k0_hw25 : k0_chk25 v0) (v753 : BitVec 32) (v773 : FVec F S1024x256 .bf16) (v790 : FVec F S64x1 .f32) (v792 : FVec F S64x1 .f32) (v795 : FVec F S64x1024 .f32)
    {g14 : S2x64x1.Idx → F .f32} {g15 : S2x64x1.Idx → F .f32} {g16 : S2x64x256.Idx → F .f32}
    {Q : (Σ' (v825 : FVec F S1024x256 .fp8e4m3), FVec F S1024x256 .bf16) → sProp 𝕄} :
    iprop(Own c arg14 g14
      ∗ Own c arg15 g15
      ∗ Own c arg16 g16
      ∗ Landed c arg12 arg7 arg17 fA7 tk (sl t.val) (pgs (arg1.view.read (Elt F) fT) t.val)
      ∗ Landed c arg13 arg8 arg18 fA8 tk (sl t.val) (pgs (arg1.view.read (Elt F) fT) t.val))
      ⊢ iprop((iprop(Own c arg14 (upd Rm0 (k0_pay11 v790) g14)
      ∗ Own c arg15 (upd Rm0 (k0_pay9 v792 v795 (ldr g15 Rm0)) g15)
      ∗ Own c arg16 (upd Ra0 (k0_pay10 v773 v792 v795 (ldr g16 Ra0)) g16)
      ∗ Landed c arg12 arg7 arg17 fA7 tk (sl t.val) (pgs (arg1.view.read (Elt F) fT) t.val)
      ∗ Landed c arg13 arg8 arg18 fA8 tk (sl t.val) (pgs (arg1.view.read (Elt F) fT) t.val))
          -∗ Q ⟨k0_pay12 (kv (arg8.view.read (Elt F) fA8) (arg1.view.read (Elt F) fT) t.val 1), k0_pay13 (kv (arg7.view.read (Elt F) fA7) (arg1.view.read (Elt F) fT) t.val 1)⟩)
      -∗ wp frame (wpE (defs₀ (F := F)) Variants.none (c : Thread nD τ) none) Set.univ (k0_part23 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 t v753 v773 v790 v792 v795) Q) := by
  rw [k0_part23_eq_skeleton]; unfold k0_part23_skel
  iintro ⟨H14, H15, H16, HK, HV⟩ Hk
  iapply (load_own c) $$ H15; iintro H15
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (load_slot c 1 (off207_eq hv t)) $$ HK; iintro HK
  iapply (load_slot c 1 (off207_eq hv t)) $$ HV; iintro HV
  iapply (pure_step c _)
  iapply Hk
  isplitl [H14]; · iexact H14
  isplitl [H15]; · iexact H15
  isplitl [H16]; · iexact H16
  isplitl [HK]; · iexact HK
  iexact HV

theorem part24_run (v825 : FVec F S1024x256 .fp8e4m3) (v826 : FVec F S1024x256 .bf16)
    {g2 : S2.Idx → F .f32} {g3 : S2.Idx → F .f32} {g4 : S128x256.Idx → F .bf16} {g14 : S2x64x1.Idx → F .f32} {g15 : S2x64x1.Idx → F .f32}
    {Q : (Σ' (v837 : FVec F S1024x256 .bf16) (v854 : FVec F S64x1 .f32) (v856 : FVec F S64x1 .f32) (v859 : FVec F S64x1024 .f32), FVec F S64x1 .f32) → sProp 𝕄} :
    iprop(Own c arg2 g2
      ∗ Own c arg3 g3
      ∗ Own c arg4 g4
      ∗ Own c arg14 g14
      ∗ Own c arg15 g15)
      ⊢ iprop((iprop(Own c arg2 g2
      ∗ Own c arg3 g3
      ∗ Own c arg4 g4
      ∗ Own c arg14 g14
      ∗ Own c arg15 g15)
          -∗ Q ⟨k0_pay14 v825 (g3 (ix1 1)), k0_pay17 v826 (g2 (ix1 1)) (ldr g4 Rq16) (ldr g4 Rq48) (ldr g4 Rq80) (ldr g4 Rq112) (ldr g14 Rm1), k0_pay18 v826 (g2 (ix1 1)) (ldr g4 Rq16) (ldr g4 Rq48) (ldr g4 Rq80) (ldr g4 Rq112) (ldr g14 Rm1), k0_pay19 v826 (g2 (ix1 1)) (ldr g4 Rq16) (ldr g4 Rq48) (ldr g4 Rq80) (ldr g4 Rq112) (ldr g14 Rm1), k0_pay20 v826 (g2 (ix1 1)) (ldr g4 Rq16) (ldr g4 Rq48) (ldr g4 Rq80) (ldr g4 Rq112) (ldr g14 Rm1) (ldr g15 Rm1)⟩)
      -∗ wp frame (wpE (defs₀ (F := F)) Variants.none (c : Thread nD τ) none) Set.univ (k0_part24 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v825 v826) Q) := by
  rw [k0_part24_eq_skeleton]; unfold k0_part24_skel
  iintro ⟨H2, H3, H4, H14, H15⟩ Hk
  iapply (sm_own c 1 rfl) $$ H2; iintro H2
  iapply (sm_own c 1 rfl) $$ H3; iintro H3
  iapply (load_own c) $$ H4; iintro H4
  iapply (load_own c) $$ H4; iintro H4
  iapply (load_own c) $$ H4; iintro H4
  iapply (load_own c) $$ H4; iintro H4
  iapply (load_own c) $$ H14; iintro H14
  iapply (load_own c) $$ H15; iintro H15
  iapply (pure_step c _)
  iapply Hk
  isplitl [H2]; · iexact H2
  isplitl [H3]; · iexact H3
  isplitl [H4]; · iexact H4
  isplitl [H14]; · iexact H14
  iexact H15

theorem part38_run (v29 : BitVec 32) (v31 : IVec S8x1 32) (v33 : IVec S8x1 1) (c0_i32_16 : BitVec 32)
    {g2 : S2.Idx → F .f32} {g3 : S2.Idx → F .f32} {g5 : S8x256.Idx → F .bf16} {g6 : S8x256.Idx → F .bf16}
    {Q : (Σ' (v50 : FVec F S8x1 .f32) (v57 : FVec F S8x1 .f32) (v67 : FVec F S8x256 .fp8e4m3), FVec F S8x256 .fp8e4m3) → sProp 𝕄} :
    iprop(Own c arg2 g2
      ∗ Own c arg3 g3
      ∗ Own c arg5 g5
      ∗ Own c arg6 g6)
      ⊢ iprop((iprop(Own c arg2 g2
      ∗ Own c arg3 g3
      ∗ Own c arg5 g5
      ∗ Own c arg6 g6)
          -∗ Q ⟨k0_pay42 v29 v31 v33 c0_i32_16 (g2 (ix1 0)) (g2 (ix1 1)), k0_pay43 v29 v31 v33 c0_i32_16 (g3 (ix1 0)) (g3 (ix1 1)), k0_pay44 v29 v31 v33 c0_i32_16 (g2 (ix1 0)) (g2 (ix1 1)) (ldr g5 Rn), k0_pay45 v29 v31 v33 c0_i32_16 (g3 (ix1 0)) (g3 (ix1 1)) (ldr g6 Rn)⟩)
      -∗ wp frame (wpE (defs₀ (F := F)) Variants.none (c : Thread nD τ) none) Set.univ (k0_part38 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v29 v31 v33 c0_i32_16) Q) := by
  rw [k0_part38_eq_skeleton]; unfold k0_part38_skel
  iintro ⟨H2, H3, H5, H6⟩ Hk
  iapply (sm_own c 0 rfl) $$ H2; iintro H2
  iapply (sm_own c 1 rfl) $$ H2; iintro H2
  iapply (sm_own c 0 rfl) $$ H3; iintro H3
  iapply (sm_own c 1 rfl) $$ H3; iintro H3
  iapply (load_own c) $$ H5; iintro H5
  iapply (load_own c) $$ H6; iintro H6
  iapply (pure_step c _)
  iapply Hk
  isplitl [H2]; · iexact H2
  isplitl [H3]; · iexact H3
  isplitl [H5]; · iexact H5
  iexact H6

theorem part39_run (v50 : FVec F S8x1 .f32) (v57 : FVec F S8x1 .f32) (v67 : FVec F S8x256 .fp8e4m3) (v77 : FVec F S8x256 .fp8e4m3)
    {g10 : S8x256.Idx → F .fp8e4m3} {g11 : S8x256.Idx → F .fp8e4m3} {g14 : S2x64x1.Idx → F .f32}
    {Q : (Σ' (v83 : FVec F S8x256 .bf16) (v87 : FVec F S8x256 .bf16) (v112 : IVec S64x8 32) (v113 : IVec S64x8 32), FVec F S2x64x1 .f32) → sProp 𝕄} :
    iprop(Own c arg10 g10
      ∗ Own c arg11 g11
      ∗ Own c arg14 g14)
      ⊢ iprop((iprop(Own c arg10 v67
      ∗ Own c arg11 v77
      ∗ Own c arg14 (k0_pay49 (F := F)))
          -∗ Q ⟨k0_pay46 v50 v67, k0_pay47 v57 v77, k0_pay48, (iota .tc S64x8 32 [1] iota_S64x8_d1_w32), k0_pay50 (F := F)⟩)
      -∗ wp frame (wpE (defs₀ (F := F)) Variants.none (c : Thread nD τ) none) Set.univ (k0_part39 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v50 v57 v67 v77) Q) := by
  rw [k0_part39_eq_skeleton]; unfold k0_part39_skel
  iintro ⟨H10, H11, H14⟩ Hk
  iapply (load_own c) $$ H10; iintro H10
  iapply (store_own c) $$ H10; iintro H10
  ihave H10 := (Entails.of_eq (congrArg (Own c arg10) (upd_Rn _ _))) $$ H10
  iapply (load_own c) $$ H11; iintro H11
  iapply (store_own c) $$ H11; iintro H11
  ihave H11 := (Entails.of_eq (congrArg (Own c arg11) (upd_Rn _ _))) $$ H11
  iapply (load_own c) $$ H14; iintro H14
  iapply (store_own c) $$ H14; iintro H14
  ihave H14 := (Entails.of_eq (congrArg (Own c arg14) (upd_RmF _ _))) $$ H14
  iapply (pure_step c _)
  iapply Hk
  isplitl [H10]; · iexact H10
  isplitl [H11]; · iexact H11
  iexact H14

theorem part40_run (v83 : FVec F S8x256 .bf16) (v113 : IVec S64x8 32) (v118 : FVec F S2x64x1 .f32)
    {g4 : S128x256.Idx → F .bf16} {g15 : S2x64x1.Idx → F .f32} {g16 : S2x64x256.Idx → F .f32}
    {Q : (Σ' (v137 : FVec F S64x8 .f32) (v153 : IVec S64x8 32), BitVec 32) → sProp 𝕄} :
    iprop(Own c arg4 g4
      ∗ Own c arg15 g15
      ∗ Own c arg16 g16)
      ⊢ iprop((iprop(Own c arg4 g4
      ∗ Own c arg15 (k0_pay51 v118)
      ∗ Own c arg16 (k0_pay52 (F := F)))
          -∗ Q ⟨k0_pay53 v83 (ldr g4 Rq0) (ldr g4 Rq32) (ldr g4 Rq64) (ldr g4 Rq96), k0_pay54 v113, 0#32⟩)
      -∗ wp frame (wpE (defs₀ (F := F)) Variants.none (c : Thread nD τ) none) Set.univ (k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v83 v113 v118) Q) := by
  rw [k0_part40_eq_skeleton]; unfold k0_part40_skel
  iintro ⟨H4, H15, H16⟩ Hk
  iapply (load_own c) $$ H15; iintro H15
  iapply (store_own c) $$ H15; iintro H15
  ihave H15 := (Entails.of_eq (congrArg (Own c arg15) (upd_RmF _ _))) $$ H15
  iapply (load_own c) $$ H16; iintro H16
  iapply (store_own c) $$ H16; iintro H16
  ihave H16 := (Entails.of_eq (congrArg (Own c arg16) (upd_RaF _ _))) $$ H16
  iapply (load_own c) $$ H4; iintro H4
  iapply (load_own c) $$ H4; iintro H4
  iapply (load_own c) $$ H4; iintro H4
  iapply (load_own c) $$ H4; iintro H4
  iapply (pure_step c _)
  iapply Hk
  isplitl [H4]; · iexact H4
  isplitl [H15]; · iexact H15
  iexact H16

theorem part41_run (v112 : IVec S64x8 32) (v113 : IVec S64x8 32) (v137 : FVec F S64x8 .f32) (v153 : IVec S64x8 32) (c0_i32_65 : BitVec 32)
    {g14 : S2x64x1.Idx → F .f32} {g15 : S2x64x1.Idx → F .f32}
    {Q : (Σ' (v188 : FVec F S64x1 .f32) (v190 : FVec F S64x1 .f32) (v193 : FVec F S64x8 .f32) (v196 : FVec F S64x1 .f32), FVec F S64 .f32) → sProp 𝕄} :
    iprop(Own c arg14 g14
      ∗ Own c arg15 g15)
      ⊢ iprop((iprop(Own c arg14 g14
      ∗ Own c arg15 g15)
          -∗ Q ⟨k0_pay57 v112 v113 v137 v153 c0_i32_65 (ldr g14 Rm0), k0_pay58 v112 v113 v137 v153 c0_i32_65 (ldr g14 Rm0), k0_pay59 v112 v113 v137 v153 c0_i32_65 (ldr g14 Rm0), k0_pay60 v112 v113 v137 v153 c0_i32_65 (ldr g14 Rm0) (ldr g15 Rm0), k0_pay61 v112 v113 v137 v153 c0_i32_65 (ldr g14 Rm0)⟩)
      -∗ wp frame (wpE (defs₀ (F := F)) Variants.none (c : Thread nD τ) none) Set.univ (k0_part41 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v112 v113 v137 v153 c0_i32_65) Q) := by
  rw [k0_part41_eq_skeleton]; unfold k0_part41_skel
  iintro ⟨H14, H15⟩ Hk
  iapply (load_own c) $$ H14; iintro H14
  iapply (load_own c) $$ H15; iintro H15
  iapply (pure_step c _)
  iapply Hk
  isplitl [H14]; · iexact H14
  iexact H15

theorem part42_run (v83 : FVec F S8x256 .bf16) (v87 : FVec F S8x256 .bf16) (v188 : FVec F S64x1 .f32) (v190 : FVec F S64x1 .f32) (v193 : FVec F S64x8 .f32) (v196 : FVec F S64x1 .f32) (v197 : FVec F S64 .f32)
    {g4 : S128x256.Idx → F .bf16} {g14 : S2x64x1.Idx → F .f32} {g15 : S2x64x1.Idx → F .f32} {g16 : S2x64x256.Idx → F .f32}
    {Q : (Σ' (v227 : FVec F S64x8 .f32) (c2_i32_101 : BitVec 32) (v228 : BitVec 1), BitVec 32) → sProp 𝕄} :
    iprop(Own c arg4 g4
      ∗ Own c arg14 g14
      ∗ Own c arg15 g15
      ∗ Own c arg16 g16)
      ⊢ iprop((iprop(Own c arg4 g4
      ∗ Own c arg14 (upd Rm0 (k0_pay64 v188) g14)
      ∗ Own c arg15 (upd Rm0 (k0_pay62 v196 v197) g15)
      ∗ Own c arg16 (upd Ra0 (k0_pay63 v87 v190 v193 (ldr g16 Ra0)) g16))
          -∗ Q ⟨k0_pay65 v83 (ldr g4 Rq16) (ldr g4 Rq48) (ldr g4 Rq80) (ldr g4 Rq112), 2#32, (Scalar.cmpi .eq 2#32 0#32), 1#32⟩)
      -∗ wp frame (wpE (defs₀ (F := F)) Variants.none (c : Thread nD τ) none) Set.univ (k0_part42 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v83 v87 v188 v190 v193 v196 v197) Q) := by
  rw [k0_part42_eq_skeleton]; unfold k0_part42_skel
  iintro ⟨H4, H14, H15, H16⟩ Hk
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (load_own c) $$ H4; iintro H4
  iapply (load_own c) $$ H4; iintro H4
  iapply (load_own c) $$ H4; iintro H4
  iapply (load_own c) $$ H4; iintro H4
  iapply (pure_step c _)
  iapply Hk
  isplitl [H4]; · iexact H4
  isplitl [H14]; · iexact H14
  isplitl [H15]; · iexact H15
  iexact H16

theorem part43_run (v112 : IVec S64x8 32) (v113 : IVec S64x8 32) (v227 : FVec F S64x8 .f32) (c2_i32_101 : BitVec 32) (v228 : BitVec 1) (c1_i32_103 : BitVec 32)

    {Q : (FVec F S64x8 .f32) → sProp 𝕄} :
    Q (k0_pay66 v112 v113 v227 c2_i32_101 v228 c1_i32_103)
      ⊢ wp frame (wpE (defs₀ (F := F)) Variants.none (c : Thread nD τ) none) Set.univ (k0_part43 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v112 v113 v227 c2_i32_101 v228 c1_i32_103) Q := by
  rw [k0_part43_eq_skeleton]; unfold k0_part43_skel
  exact pure_step c _

theorem part44_run (v17 : BitVec 32) (v87 : FVec F S8x256 .bf16) (v273 : FVec F S64x8 .f32)
    {g14 : S2x64x1.Idx → F .f32} {g15 : S2x64x1.Idx → F .f32} {g16 : S2x64x256.Idx → F .f32}
    {Q : (Σ' (c0_i32_138 : BitVec 32), BitVec 32) → sProp 𝕄} :
    iprop(Own c arg14 g14
      ∗ Own c arg15 g15
      ∗ Own c arg16 g16)
      ⊢ iprop((iprop(Own c arg14 (upd Rm1 (k0_pay73 v273 (ldr g14 Rm1)) g14)
      ∗ Own c arg15 (upd Rm1 (k0_pay71 v273 (ldr g14 Rm1) (ldr g15 Rm1)) g15)
      ∗ Own c arg16 (upd Ra1 (k0_pay72 v87 v273 (ldr g14 Rm1) (ldr g16 Ra1)) g16))
          -∗ Q ⟨0#32, (Scalar.muli (Scalar.divsi (Scalar.subi v17 0#32) 1#32) 1#32)⟩)
      -∗ wp frame (wpE (defs₀ (F := F)) Variants.none (c : Thread nD τ) none) Set.univ (k0_part44 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v17 v87 v273) Q) := by
  rw [k0_part44_eq_skeleton]; unfold k0_part44_skel
  iintro ⟨H14, H15, H16⟩ Hk
  iapply (load_own c) $$ H14; iintro H14
  iapply (load_own c) $$ H15; iintro H15
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (pure_step c _)
  iapply Hk
  isplitl [H14]; · iexact H14
  isplitl [H15]; · iexact H15
  iexact H16

theorem part50_run {v0 : BitVec 32} (hv : v0.toNat ≤ 65532) (k0_hw25 : k0_chk25 v0) (v17 : BitVec 32) (v444 : FVec F S1024x256 .fp8e4m3)
    {g2 : S2.Idx → F .f32} {g3 : S2.Idx → F .f32} {g4 : S128x256.Idx → F .bf16} {g14 : S2x64x1.Idx → F .f32}
    {Q : (Σ' (v460 : FVec F S1024x256 .bf16) (v482 : FVec F S64x1024 .f32) (v484 : FVec F S64x1 .f32), FVec F S64 .f32) → sProp 𝕄} :
    iprop(Own c arg2 g2
      ∗ Own c arg3 g3
      ∗ Own c arg4 g4
      ∗ Own c arg14 g14
      ∗ Landed c arg13 arg8 arg18 fA8 tk (sl (NF v0)) (pgs (arg1.view.read (Elt F) fT) (NF v0)))
      ⊢ iprop((iprop(Own c arg2 g2
      ∗ Own c arg3 g3
      ∗ Own c arg4 g4
      ∗ Own c arg14 g14
      ∗ Landed c arg13 arg8 arg18 fA8 tk (sl (NF v0)) (pgs (arg1.view.read (Elt F) fT) (NF v0)))
          -∗ Q ⟨k0_pay81 (kv (arg8.view.read (Elt F) fA8) (arg1.view.read (Elt F) fT) (NF v0) 0) (g3 (ix1 0)), k0_pay82 v0 v17 v444 (g2 (ix1 0)) (ldr g4 Rq0) (ldr g4 Rq32) (ldr g4 Rq64) (ldr g4 Rq96), k0_pay83 (ldr g14 Rm0), k0_pay84 v0 v17 v444 (g2 (ix1 0)) (ldr g4 Rq0) (ldr g4 Rq32) (ldr g4 Rq64) (ldr g4 Rq96)⟩)
      -∗ wp frame (wpE (defs₀ (F := F)) Variants.none (c : Thread nD τ) none) Set.univ (k0_part50 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 v444) Q) := by
  rw [k0_part50_eq_skeleton]; unfold k0_part50_skel
  iintro ⟨H2, H3, H4, H14, HV⟩ Hk
  iapply (load_slot c 0 (off333_eq hv)) $$ HV; iintro HV
  iapply (sm_own c 0 rfl) $$ H2; iintro H2
  iapply (sm_own c 0 rfl) $$ H3; iintro H3
  iapply (load_own c) $$ H4; iintro H4
  iapply (load_own c) $$ H4; iintro H4
  iapply (load_own c) $$ H4; iintro H4
  iapply (load_own c) $$ H4; iintro H4
  iapply (load_own c) $$ H14; iintro H14
  iapply (pure_step c _)
  iapply Hk
  isplitl [H2]; · iexact H2
  isplitl [H3]; · iexact H3
  isplitl [H4]; · iexact H4
  isplitl [H14]; · iexact H14
  iexact HV

theorem part51_run {v0 : BitVec 32} (hv : v0.toNat ≤ 65532) (k0_hw25 : k0_chk25 v0) (v440 : BitVec 32) (v460 : FVec F S1024x256 .bf16) (v482 : FVec F S64x1024 .f32) (v484 : FVec F S64x1 .f32) (v485 : FVec F S64 .f32)
    {g14 : S2x64x1.Idx → F .f32} {g15 : S2x64x1.Idx → F .f32} {g16 : S2x64x256.Idx → F .f32}
    {Q : (FVec F S1024x256 .fp8e4m3) → sProp 𝕄} :
    iprop(Own c arg14 g14
      ∗ Own c arg15 g15
      ∗ Own c arg16 g16
      ∗ Landed c arg12 arg7 arg17 fA7 tk (sl (NF v0)) (pgs (arg1.view.read (Elt F) fT) (NF v0)))
      ⊢ iprop((iprop(Own c arg14 (upd Rm0 (k0_pay90 v484 v485) g14)
      ∗ Own c arg15 (upd Rm0 (k0_pay88 v482 v484 v485 (ldr g15 Rm0)) g15)
      ∗ Own c arg16 (upd Ra0 (k0_pay89 v460 v482 v484 v485 (ldr g16 Ra0)) g16)
      ∗ Landed c arg12 arg7 arg17 fA7 tk (sl (NF v0)) (pgs (arg1.view.read (Elt F) fT) (NF v0)))
          -∗ Q (k0_pay91 (kv (arg7.view.read (Elt F) fA7) (arg1.view.read (Elt F) fT) (NF v0) 1)))
      -∗ wp frame (wpE (defs₀ (F := F)) Variants.none (c : Thread nD τ) none) Set.univ (k0_part51 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v440 v460 v482 v484 v485) Q) := by
  rw [k0_part51_eq_skeleton]; unfold k0_part51_skel
  iintro ⟨H14, H15, H16, HK⟩ Hk
  iapply (load_own c) $$ H15; iintro H15
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (load_slot c 1 (off334_eq hv)) $$ HK; iintro HK
  iapply (pure_step c _)
  iapply Hk
  isplitl [H14]; · iexact H14
  isplitl [H15]; · iexact H15
  isplitl [H16]; · iexact H16
  iexact HK

theorem part52_run {v0 : BitVec 32} (hv : v0.toNat ≤ 65532) (k0_hw25 : k0_chk25 v0) (v17 : BitVec 32) (v518 : FVec F S1024x256 .fp8e4m3)
    {g2 : S2.Idx → F .f32} {g3 : S2.Idx → F .f32} {g4 : S128x256.Idx → F .bf16} {g14 : S2x64x1.Idx → F .f32}
    {Q : (Σ' (v534 : FVec F S1024x256 .bf16) (v556 : FVec F S64x1024 .f32) (v558 : FVec F S64x1 .f32), FVec F S64 .f32) → sProp 𝕄} :
    iprop(Own c arg2 g2
      ∗ Own c arg3 g3
      ∗ Own c arg4 g4
      ∗ Own c arg14 g14
      ∗ Landed c arg13 arg8 arg18 fA8 tk (sl (NF v0)) (pgs (arg1.view.read (Elt F) fT) (NF v0)))
      ⊢ iprop((iprop(Own c arg2 g2
      ∗ Own c arg3 g3
      ∗ Own c arg4 g4
      ∗ Own c arg14 g14
      ∗ Landed c arg13 arg8 arg18 fA8 tk (sl (NF v0)) (pgs (arg1.view.read (Elt F) fT) (NF v0)))
          -∗ Q ⟨k0_pay92 (kv (arg8.view.read (Elt F) fA8) (arg1.view.read (Elt F) fT) (NF v0) 1) (g3 (ix1 1)), k0_pay93 v0 v17 v518 (g2 (ix1 1)) (ldr g4 Rq16) (ldr g4 Rq48) (ldr g4 Rq80) (ldr g4 Rq112), k0_pay94 (ldr g14 Rm1), k0_pay95 v0 v17 v518 (g2 (ix1 1)) (ldr g4 Rq16) (ldr g4 Rq48) (ldr g4 Rq80) (ldr g4 Rq112)⟩)
      -∗ wp frame (wpE (defs₀ (F := F)) Variants.none (c : Thread nD τ) none) Set.univ (k0_part52 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 v518) Q) := by
  rw [k0_part52_eq_skeleton]; unfold k0_part52_skel
  iintro ⟨H2, H3, H4, H14, HV⟩ Hk
  iapply (load_slot c 1 (off334_eq hv)) $$ HV; iintro HV
  iapply (sm_own c 1 rfl) $$ H2; iintro H2
  iapply (sm_own c 1 rfl) $$ H3; iintro H3
  iapply (load_own c) $$ H4; iintro H4
  iapply (load_own c) $$ H4; iintro H4
  iapply (load_own c) $$ H4; iintro H4
  iapply (load_own c) $$ H4; iintro H4
  iapply (load_own c) $$ H14; iintro H14
  iapply (pure_step c _)
  iapply Hk
  isplitl [H2]; · iexact H2
  isplitl [H3]; · iexact H3
  isplitl [H4]; · iexact H4
  isplitl [H14]; · iexact H14
  iexact HV

theorem part53_run (v534 : FVec F S1024x256 .bf16) (v556 : FVec F S64x1024 .f32) (v558 : FVec F S64x1 .f32) (v559 : FVec F S64 .f32)
    {g14 : S2x64x1.Idx → F .f32} {g15 : S2x64x1.Idx → F .f32} {g16 : S2x64x256.Idx → F .f32}
    {Q : (Σ' (v590 : FVec F S64x256 .f32), FVec F S64x256 .f32) → sProp 𝕄} :
    iprop(Own c arg14 g14
      ∗ Own c arg15 g15
      ∗ Own c arg16 g16)
      ⊢ iprop((iprop(Own c arg14 (upd Rm1 (k0_pay101 v558 v559) g14)
      ∗ Own c arg15 (upd Rm1 (k0_pay99 v556 v558 v559 (ldr g15 Rm1)) g15)
      ∗ Own c arg16 (upd Ra1 (k0_pay100 v534 v556 v558 v559 (ldr g16 Ra1)) g16))
          -∗ Q ⟨k0_pay102 (ldr (upd Ra1 (k0_pay100 v534 v556 v558 v559 (ldr g16 Ra1)) g16) Ra0), k0_pay103 (ldr (upd Rm1 (k0_pay99 v556 v558 v559 (ldr g15 Rm1)) g15) Rm0)⟩)
      -∗ wp frame (wpE (defs₀ (F := F)) Variants.none (c : Thread nD τ) none) Set.univ (k0_part53 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v534 v556 v558 v559) Q) := by
  rw [k0_part53_eq_skeleton]; unfold k0_part53_skel
  iintro ⟨H14, H15, H16⟩ Hk
  iapply (load_own c) $$ H15; iintro H15
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (load_own c) $$ H16; iintro H16
  iapply (load_own c) $$ H15; iintro H15
  iapply (pure_step c _)
  iapply Hk
  isplitl [H14]; · iexact H14
  isplitl [H15]; · iexact H15
  iexact H16

end

end Cert.Kernel.Hand
-- ==== Proof.Vals.lean ====
/-
  What the kernel computes, as functions of the arrays it reads: the state (running maximum, sum, accumulator per head and query row) after the new tokens, after a full block, after the last block, and the results.
-/
module

public import proofs.«01_k».proof.Proof.Rects

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-- The running maximum, the running sum and the accumulator. -/
structure St (F : FTy → Type) where
  m : S2x64x1.Idx → F .f32
  l : S2x64x1.Idx → F .f32
  a : S2x64x256.Idx → F .f32

/-- The codes of the new tokens' keys -/
noncomputable def kCodes (g2 : S2.Idx → F .f32) (g5 : S8x256.Idx → F .bf16) : S8x256.Idx → F .fp8e4m3 := (k0_pay44 (Scalar.select (Scalar.cmpi .eq 2#32 0#32) 1#32 2#32) k0_pay39 k0_pay40 0#32 (g2 (ix1 0)) (g2 (ix1 1)) (ldr g5 Rn))
/-- and values. -/
noncomputable def vCodes (g3 : S2.Idx → F .f32) (g6 : S8x256.Idx → F .bf16) : S8x256.Idx → F .fp8e4m3 := (k0_pay45 (Scalar.select (Scalar.cmpi .eq 2#32 0#32) 1#32 2#32) k0_pay39 k0_pay40 0#32 (g3 (ix1 0)) (g3 (ix1 1)) (ldr g6 Rn))
/-- The state after the new tokens. -/
noncomputable def newSt (g2 g3 : S2.Idx → F .f32) (g4 : S128x256.Idx → F .bf16) (g5 g6 : S8x256.Idx → F .bf16) : St F where
  m := (upd Rm1 (k0_pay73 (k0_pay66 k0_pay48 ((iota .tc S64x8 32 [1] iota_S64x8_d1_w32)) (k0_pay65 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq16) (ldr g4 Rq48) (ldr g4 Rq80) (ldr g4 Rq112)) 2#32 ((Scalar.cmpi .eq 2#32 0#32)) 1#32) (ldr (upd Rm0 (k0_pay64 (k0_pay57 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay49 (F := F))) Rm1)) (upd Rm0 (k0_pay64 (k0_pay57 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay49 (F := F))))
  l := (upd Rm1 (k0_pay71 (k0_pay66 k0_pay48 ((iota .tc S64x8 32 [1] iota_S64x8_d1_w32)) (k0_pay65 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq16) (ldr g4 Rq48) (ldr g4 Rq80) (ldr g4 Rq112)) 2#32 ((Scalar.cmpi .eq 2#32 0#32)) 1#32) (ldr (upd Rm0 (k0_pay64 (k0_pay57 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay49 (F := F))) Rm1) (ldr (upd Rm0 (k0_pay62 (k0_pay60 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0) (ldr (k0_pay51 (k0_pay50 (F := F))) Rm0)) (k0_pay61 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay51 (k0_pay50 (F := F)))) Rm1)) (upd Rm0 (k0_pay62 (k0_pay60 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0) (ldr (k0_pay51 (k0_pay50 (F := F))) Rm0)) (k0_pay61 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay51 (k0_pay50 (F := F)))))
  a := (upd Ra1 (k0_pay72 (k0_pay47 (k0_pay43 (Scalar.select (Scalar.cmpi .eq 2#32 0#32) 1#32 2#32) k0_pay39 k0_pay40 0#32 (g3 (ix1 0)) (g3 (ix1 1))) (k0_pay45 (Scalar.select (Scalar.cmpi .eq 2#32 0#32) 1#32 2#32) k0_pay39 k0_pay40 0#32 (g3 (ix1 0)) (g3 (ix1 1)) (ldr g6 Rn))) (k0_pay66 k0_pay48 ((iota .tc S64x8 32 [1] iota_S64x8_d1_w32)) (k0_pay65 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq16) (ldr g4 Rq48) (ldr g4 Rq80) (ldr g4 Rq112)) 2#32 ((Scalar.cmpi .eq 2#32 0#32)) 1#32) (ldr (upd Rm0 (k0_pay64 (k0_pay57 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0))) (k0_pay49 (F := F))) Rm1) (ldr (upd Ra0 (k0_pay63 (k0_pay47 (k0_pay43 (Scalar.select (Scalar.cmpi .eq 2#32 0#32) 1#32 2#32) k0_pay39 k0_pay40 0#32 (g3 (ix1 0)) (g3 (ix1 1))) (k0_pay45 (Scalar.select (Scalar.cmpi .eq 2#32 0#32) 1#32 2#32) k0_pay39 k0_pay40 0#32 (g3 (ix1 0)) (g3 (ix1 1)) (ldr g6 Rn))) (k0_pay58 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0)) (k0_pay59 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0)) (ldr (k0_pay52 (F := F)) Ra0)) (k0_pay52 (F := F))) Ra1)) (upd Ra0 (k0_pay63 (k0_pay47 (k0_pay43 (Scalar.select (Scalar.cmpi .eq 2#32 0#32) 1#32 2#32) k0_pay39 k0_pay40 0#32 (g3 (ix1 0)) (g3 (ix1 1))) (k0_pay45 (Scalar.select (Scalar.cmpi .eq 2#32 0#32) 1#32 2#32) k0_pay39 k0_pay40 0#32 (g3 (ix1 0)) (g3 (ix1 1)) (ldr g6 Rn))) (k0_pay58 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0)) (k0_pay59 k0_pay48 ((iota .tc S64x8 32 [1] iota_S64x8_d1_w32)) (k0_pay53 (k0_pay46 (k0_pay42 (Scalar.select (Scalar.cmpi .eq 2#32 0#32) 1#32 2#32) k0_pay39 k0_pay40 0#32 (g2 (ix1 0)) (g2 (ix1 1))) (k0_pay44 (Scalar.select (Scalar.cmpi .eq 2#32 0#32) 1#32 2#32) k0_pay39 k0_pay40 0#32 (g2 (ix1 0)) (g2 (ix1 1)) (ldr g5 Rn))) (ldr g4 Rq0) (ldr g4 Rq32) (ldr g4 Rq64) (ldr g4 Rq96)) (k0_pay54 ((iota .tc S64x8 32 [1] iota_S64x8_d1_w32))) 0#32 (ldr (k0_pay49 (F := F)) Rm0)) (ldr (k0_pay52 (F := F)) Ra0)) (k0_pay52 (F := F))))
/-- The state after one full block. -/
noncomputable def tripSt (g2 g3 : S2.Idx → F .f32) (g4 : S128x256.Idx → F .bf16) (K V : Fin 2 → Vec F S1x8x1x128x256 .fp8e4m3) (s : St F) : St F where
  m := (upd Rm1 (k0_pay76 (k0_pay17 (k0_pay13 (K 1)) (g2 (ix1 1)) (ldr g4 Rq16) (ldr g4 Rq48) (ldr g4 Rq80) (ldr g4 Rq112) (ldr (upd Rm0 (k0_pay11 (k0_pay6 (K 0) (g2 (ix1 0)) (ldr g4 Rq0) (ldr g4 Rq32) (ldr g4 Rq64) (ldr g4 Rq96) (ldr s.m Rm0))) s.m) Rm1))) (upd Rm0 (k0_pay11 (k0_pay6 (K 0) (g2 (ix1 0)) (ldr g4 Rq0) (ldr g4 Rq32) (ldr g4 Rq64) (ldr g4 Rq96) (ldr s.m Rm0))) s.m))
  l := (upd Rm1 (k0_pay74 (k0_pay20 (k0_pay13 (K 1)) (g2 (ix1 1)) (ldr g4 Rq16) (ldr g4 Rq48) (ldr g4 Rq80) (ldr g4 Rq112) (ldr (upd Rm0 (k0_pay11 (k0_pay6 (K 0) (g2 (ix1 0)) (ldr g4 Rq0) (ldr g4 Rq32) (ldr g4 Rq64) (ldr g4 Rq96) (ldr s.m Rm0))) s.m) Rm1) (ldr (upd Rm0 (k0_pay9 (k0_pay7 (K 0) (g2 (ix1 0)) (ldr g4 Rq0) (ldr g4 Rq32) (ldr g4 Rq64) (ldr g4 Rq96) (ldr s.m Rm0)) (k0_pay8 (K 0) (g2 (ix1 0)) (ldr g4 Rq0) (ldr g4 Rq32) (ldr g4 Rq64) (ldr g4 Rq96) (ldr s.m Rm0)) (ldr s.l Rm0)) s.l) Rm1))) (upd Rm0 (k0_pay9 (k0_pay7 (K 0) (g2 (ix1 0)) (ldr g4 Rq0) (ldr g4 Rq32) (ldr g4 Rq64) (ldr g4 Rq96) (ldr s.m Rm0)) (k0_pay8 (K 0) (g2 (ix1 0)) (ldr g4 Rq0) (ldr g4 Rq32) (ldr g4 Rq64) (ldr g4 Rq96) (ldr s.m Rm0)) (ldr s.l Rm0)) s.l))
  a := (upd Ra1 (k0_pay75 (k0_pay14 (k0_pay12 (V 1)) (g3 (ix1 1))) (k0_pay18 (k0_pay13 (K 1)) (g2 (ix1 1)) (ldr g4 Rq16) (ldr g4 Rq48) (ldr g4 Rq80) (ldr g4 Rq112) (ldr (upd Rm0 (k0_pay11 (k0_pay6 (K 0) (g2 (ix1 0)) (ldr g4 Rq0) (ldr g4 Rq32) (ldr g4 Rq64) (ldr g4 Rq96) (ldr s.m Rm0))) s.m) Rm1)) (k0_pay19 (k0_pay13 (K 1)) (g2 (ix1 1)) (ldr g4 Rq16) (ldr g4 Rq48) (ldr g4 Rq80) (ldr g4 Rq112) (ldr (upd Rm0 (k0_pay11 (k0_pay6 (K 0) (g2 (ix1 0)) (ldr g4 Rq0) (ldr g4 Rq32) (ldr g4 Rq64) (ldr g4 Rq96) (ldr s.m Rm0))) s.m) Rm1)) (ldr (upd Ra0 (k0_pay10 (k0_pay3 (V 0) (g3 (ix1 0))) (k0_pay7 (K 0) (g2 (ix1 0)) (ldr g4 Rq0) (ldr g4 Rq32) (ldr g4 Rq64) (ldr g4 Rq96) (ldr s.m Rm0)) (k0_pay8 (K 0) (g2 (ix1 0)) (ldr g4 Rq0) (ldr g4 Rq32) (ldr g4 Rq64) (ldr g4 Rq96) (ldr s.m Rm0)) (ldr s.a Ra0)) s.a) Ra1)) (upd Ra0 (k0_pay10 (k0_pay3 (V 0) (g3 (ix1 0))) (k0_pay7 (K 0) (g2 (ix1 0)) (ldr g4 Rq0) (ldr g4 Rq32) (ldr g4 Rq64) (ldr g4 Rq96) (ldr s.m Rm0)) (k0_pay8 (K 0) (g2 (ix1 0)) (ldr g4 Rq0) (ldr g4 Rq32) (ldr g4 Rq64) (ldr g4 Rq96) (ldr s.m Rm0)) (ldr s.a Ra0)) s.a))
/-- The state after the last block, masked by the length. -/
noncomputable def finSt (v0 : BitVec 32) (g2 g3 : S2.Idx → F .f32) (g4 : S128x256.Idx → F .bf16) (K V : Fin 2 → Vec F S1x8x1x128x256 .fp8e4m3) (s : St F) : St F where
  m := (upd Rm1 (k0_pay101 (k0_pay94 (ldr (upd Rm0 (k0_pay90 (k0_pay83 (ldr s.m Rm0)) (k0_pay84 v0 (v17 v0) (k0_pay80 (K 0)) (g2 (ix1 0)) (ldr g4 Rq0) (ldr g4 Rq32) (ldr g4 Rq64) (ldr g4 Rq96))) s.m) Rm1)) (k0_pay95 v0 (v17 v0) (k0_pay91 (K 1)) (g2 (ix1 1)) (ldr g4 Rq16) (ldr g4 Rq48) (ldr g4 Rq80) (ldr g4 Rq112))) (upd Rm0 (k0_pay90 (k0_pay83 (ldr s.m Rm0)) (k0_pay84 v0 (v17 v0) (k0_pay80 (K 0)) (g2 (ix1 0)) (ldr g4 Rq0) (ldr g4 Rq32) (ldr g4 Rq64) (ldr g4 Rq96))) s.m))
  l := (upd Rm1 (k0_pay99 (k0_pay93 v0 (v17 v0) (k0_pay91 (K 1)) (g2 (ix1 1)) (ldr g4 Rq16) (ldr g4 Rq48) (ldr g4 Rq80) (ldr g4 Rq112)) (k0_pay94 (ldr (upd Rm0 (k0_pay90 (k0_pay83 (ldr s.m Rm0)) (k0_pay84 v0 (v17 v0) (k0_pay80 (K 0)) (g2 (ix1 0)) (ldr g4 Rq0) (ldr g4 Rq32) (ldr g4 Rq64) (ldr g4 Rq96))) s.m) Rm1)) (k0_pay95 v0 (v17 v0) (k0_pay91 (K 1)) (g2 (ix1 1)) (ldr g4 Rq16) (ldr g4 Rq48) (ldr g4 Rq80) (ldr g4 Rq112)) (ldr (upd Rm0 (k0_pay88 (k0_pay82 v0 (v17 v0) (k0_pay80 (K 0)) (g2 (ix1 0)) (ldr g4 Rq0) (ldr g4 Rq32) (ldr g4 Rq64) (ldr g4 Rq96)) (k0_pay83 (ldr s.m Rm0)) (k0_pay84 v0 (v17 v0) (k0_pay80 (K 0)) (g2 (ix1 0)) (ldr g4 Rq0) (ldr g4 Rq32) (ldr g4 Rq64) (ldr g4 Rq96)) (ldr s.l Rm0)) s.l) Rm1)) (upd Rm0 (k0_pay88 (k0_pay82 v0 (v17 v0) (k0_pay80 (K 0)) (g2 (ix1 0)) (ldr g4 Rq0) (ldr g4 Rq32) (ldr g4 Rq64) (ldr g4 Rq96)) (k0_pay83 (ldr s.m Rm0)) (k0_pay84 v0 (v17 v0) (k0_pay80 (K 0)) (g2 (ix1 0)) (ldr g4 Rq0) (ldr g4 Rq32) (ldr g4 Rq64) (ldr g4 Rq96)) (ldr s.l Rm0)) s.l))
  a := (upd Ra1 (k0_pay100 (k0_pay92 (V 1) (g3 (ix1 1))) (k0_pay93 v0 (v17 v0) (k0_pay91 (K 1)) (g2 (ix1 1)) (ldr g4 Rq16) (ldr g4 Rq48) (ldr g4 Rq80) (ldr g4 Rq112)) (k0_pay94 (ldr (upd Rm0 (k0_pay90 (k0_pay83 (ldr s.m Rm0)) (k0_pay84 v0 (v17 v0) (k0_pay80 (K 0)) (g2 (ix1 0)) (ldr g4 Rq0) (ldr g4 Rq32) (ldr g4 Rq64) (ldr g4 Rq96))) s.m) Rm1)) (k0_pay95 v0 (v17 v0) (k0_pay91 (K 1)) (g2 (ix1 1)) (ldr g4 Rq16) (ldr g4 Rq48) (ldr g4 Rq80) (ldr g4 Rq112)) (ldr (upd Ra0 (k0_pay89 (k0_pay81 (V 0) (g3 (ix1 0))) (k0_pay82 v0 (v17 v0) (k0_pay80 (K 0)) (g2 (ix1 0)) (ldr g4 Rq0) (ldr g4 Rq32) (ldr g4 Rq64) (ldr g4 Rq96)) (k0_pay83 (ldr s.m Rm0)) (k0_pay84 v0 (v17 v0) (k0_pay80 (K 0)) (g2 (ix1 0)) (ldr g4 Rq0) (ldr g4 Rq32) (ldr g4 Rq64) (ldr g4 Rq96)) (ldr s.a Ra0)) s.a) Ra1)) (upd Ra0 (k0_pay89 (k0_pay81 (V 0) (g3 (ix1 0))) (k0_pay82 v0 (v17 v0) (k0_pay80 (K 0)) (g2 (ix1 0)) (ldr g4 Rq0) (ldr g4 Rq32) (ldr g4 Rq64) (ldr g4 Rq96)) (k0_pay83 (ldr s.m Rm0)) (k0_pay84 v0 (v17 v0) (k0_pay80 (K 0)) (g2 (ix1 0)) (ldr g4 Rq0) (ldr g4 Rq32) (ldr g4 Rq64) (ldr g4 Rq96)) (ldr s.a Ra0)) s.a))
/-- The first result, over the buffer's former contents. -/
noncomputable def yOver (s : St F) (g9 : S128x256.Idx → F .bf16) : S128x256.Idx → F .bf16 :=
  (upd Rq112 (k0_pay2 (k0_pay109 (ldr s.a Ra1) (ldr s.l Rm1))) (upd Rq80 (k0_pay1 (k0_pay109 (ldr s.a Ra1) (ldr s.l Rm1))) (upd Rq48 (k0_pay111 (ldr s.a Ra1) (ldr s.l Rm1)) (upd Rq16 (k0_pay110 (ldr s.a Ra1) (ldr s.l Rm1)) (upd Rq96 (k0_pay108 (k0_pay102 (ldr s.a Ra0)) (k0_pay103 (ldr s.l Rm0))) (upd Rq64 (k0_pay107 (k0_pay102 (ldr s.a Ra0)) (k0_pay103 (ldr s.l Rm0))) (upd Rq32 (k0_pay106 (k0_pay102 (ldr s.a Ra0)) (k0_pay103 (ldr s.l Rm0))) (upd Rq0 (k0_pay105 (k0_pay102 (ldr s.a Ra0)) (k0_pay103 (ldr s.l Rm0))) g9))))))))

end Cert.Kernel.Hand
-- ==== Proof.Loop.lean ====
/-
  One trip of the loop over the full blocks.
-/
module

public import proofs.«01_k».proof.Proof.Waits
public import proofs.«01_k».proof.Proof.Compute
public import proofs.«01_k».proof.Proof.Vals

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

/-- A slot that block `b`'s copies occupy when there is such a block (`b ≤ n`), and that is free when there is none. -/
def Pd (c : Dev nD) (M : Memref sig .tc .vmem S4x8x2x128x256 .fp8e4m3) (A : Memref sig .tc .hbm S512x2x128x256 .fp8e4m3)
    (S : DmaSems sig S4) (fA : Buf (Elt F) (A.view.loc (c : Thread nD τ))) (T : S512.Idx → BitVec 32) (n b : ℕ) : sProp 𝕄 :=
  if b ≤ n then FlB c M A S fA T b 8 0 else Free c M A S fA tk (sl b)

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part21_run {v0 : BitVec 32} (hv : v0.toNat ≤ 65532)
    (hT : ∀ i : S512.Idx, BitVec.toNat (w := 32) (arg1.view.read (Elt F) fT i) < 512) (t : Fin (k0_t1_loop v0).trips)
    (k0_hw25 : k0_chk25 v0) (v17 arg19 : BitVec 32) (k0_hw32 : k0_chk32 (wd (arg1.view.read (Elt F) fT) t.val 6))
    {Q : (Σ' (v753 : BitVec 32), Vec F S1x8x1x128x256 .fp8e4m3) → sProp 𝕄} :
    iprop((arg1.view.loc (c : Thread nD τ) ↦[arg1.view.set]{fullShare} fT) ∗ FlB c arg12 arg7 arg17 fA7 (arg1.view.read (Elt F) fT) t.val 8 7 ∗ FlB c arg13 arg8 arg18 fA8 (arg1.view.read (Elt F) fT) t.val 8 6 ∗ (∃ W, owes (c : Thread nD τ) 0 W)
      ∗ Free c arg12 arg7 arg17 fA7 tk (sl (t.val + 3)) ∗ Free c arg13 arg8 arg18 fA8 tk (sl (t.val + 3)))
      ⊢ iprop((∀ r, iprop((arg1.view.loc (c : Thread nD τ) ↦[arg1.view.set]{fullShare} fT) ∗ Landed c arg12 arg7 arg17 fA7 tk (sl t.val) (pgs (arg1.view.read (Elt F) fT) t.val) ∗ Landed c arg13 arg8 arg18 fA8 tk (sl t.val) (pgs (arg1.view.read (Elt F) fT) t.val) ∗ (∃ W, owes (c : Thread nD τ) 0 W)
      ∗ Pd c arg12 arg7 arg17 fA7 (arg1.view.read (Elt F) fT) (NF v0) (t.val + 3) ∗ Pd c arg13 arg8 arg18 fA8 (arg1.view.read (Elt F) fT) (NF v0) (t.val + 3)) -∗ Q ⟨r, kv (arg7.view.read (Elt F) fA7) (arg1.view.read (Elt F) fT) t.val 0⟩)
      -∗ wp frame (wpE (defs₀ (F := F)) Variants.none (c : Thread nD τ) none) Set.univ (k0_part21 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 t arg19 (wd (arg1.view.read (Elt F) fT) t.val 6) k0_hw32) Q) := by
  have hb : t.val < 64 := trip_lt64 hv t
  rw [k0_part21_eq_skeleton]; unfold k0_part21_skel
  iintro ⟨HT, HK, HV, HW, FK, FV⟩ Hk
  iapply (wait_step c (b := t.val) 6 (by decide) (off158_eq hv t)) $$ [HV HW]
  · isplitl [HV] <;> iassumption
  iintro ⟨HV, HW⟩
  iapply (ld_step c t.val 7 (off160_eq hv t) hb (by decide)) $$ HT; iintro HT
  iapply (assume_step c (chk33 _ (hT (ix1 (tix t.val 7)))))
  iapply (wait_step c (b := t.val) 7 (by decide) (off158_eq hv t)) $$ [HK HW]
  · isplitl [HK] <;> iassumption
  iintro ⟨HK, HW⟩
  iapply (wait_step c (b := t.val) 7 (by decide) (off163_eq hv t)) $$ [HV HW]
  · isplitl [HV] <;> iassumption
  iintro ⟨HV, HW⟩
  imod (fl_close c arg12 arg7 arg17 fA7 tk (sl t.val) (pgs (arg1.view.read (Elt F) fT) t.val)) $$ HK with HK
  imod (fl_close c arg13 arg8 arg18 fA8 tk (sl t.val) (pgs (arg1.view.read (Elt F) fT) t.val)) $$ HV with HV
  refine dite_step c (fun k0_h4 => ?_) (fun k0_h4 => ?_)
  · iintro ⟨⟨⟨⟨⟨⟨FK, FV⟩, Hk⟩, HT⟩, HW⟩, HK⟩, HV⟩
    have h3 : t.val + 3 ≤ NF v0 := (cond4_eq hv t).1 k0_h4
    have hb3 : t.val + 3 < 64 := lt_of_le_of_lt h3 (NF_lt hv)
    imod (free_open c arg12 arg7 arg17 fA7 tk (sl (t.val + 3)) (pgs (arg1.view.read (Elt F) fT) (t.val + 3))) $$ FK with FK
    imod (free_open c arg13 arg8 arg18 fA8 tk (sl (t.val + 3)) (pgs (arg1.view.read (Elt F) fT) (t.val + 3))) $$ FV with FV
    iapply (bind_step c)
    iapply (part13_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb3 _ _ _) $$ [HT FK FV]
    · isplitl [HT]; · iexact HT
      isplitl [FK]; · iexact FK
      iexact FV
    iintro %x ⟨HT, FK, FV⟩
    iapply (bind_step c)
    iapply (part14_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb3 _ _ _ _) $$ [HT FK FV]
    · isplitl [HT]; · iexact HT
      isplitl [FK]; · iexact FK
      iexact FV
    iintro %x ⟨HT, FK, FV⟩
    iapply (bind_step c)
    iapply (part15_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb3 _ _ _ _) $$ [HT FK FV]
    · isplitl [HT]; · iexact HT
      isplitl [FK]; · iexact FK
      iexact FV
    iintro %x ⟨HT, FK, FV⟩
    iapply (bind_step c)
    iapply (part16_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb3 _ _ _ _ _) $$ [HT FK FV]
    · isplitl [HT]; · iexact HT
      isplitl [FK]; · iexact FK
      iexact FV
    iintro %x ⟨HT, FK, FV⟩
    iapply (start_step c (b := (t.val + 3)) hT 6 (by decide) (off198_eq _) (off200_eq hv t) (off199_eq hv t) (Nat.zero_le _)) $$ FV; iintro FV
    iapply (ld_step c (t.val + 3) 7 (off201_eq hv t) hb3 (by decide)) $$ HT; iintro HT
    iapply (assume_step c (chk41 _ _ _ (hT (ix1 (tix (t.val + 3) 7)))))
    iapply (start_step c (b := (t.val + 3)) hT 7 (by decide) (off203_eq _) (off202_eq hv t) (off199_eq hv t) (Nat.zero_le _)) $$ FK; iintro FK
    iapply (start_step c (b := (t.val + 3)) hT 7 (by decide) (off203_eq _) (off205_eq hv t) (off204_eq hv t) (Nat.zero_le _)) $$ FV; iintro FV
    iapply (load_slot c 0 (off206_eq hv t)) $$ HK; iintro HK
    iapply (pure_step c _)
    iapply Hk
    isplitl [HT]; · iexact HT
    isplitl [HK]; · iexact HK
    isplitl [HV]; · iexact HV
    isplitl [HW]; · iexact HW
    unfold Pd; rw [if_pos h3, if_pos h3]
    isplitl [FK]; · iexact FK
    iexact FV
  · iintro ⟨⟨⟨⟨⟨⟨FK, FV⟩, Hk⟩, HT⟩, HW⟩, HK⟩, HV⟩
    have h3 : ¬ t.val + 3 ≤ NF v0 := fun h => k0_h4 ((cond4_eq hv t).2 h)
    iapply (load_slot c 0 (off206_eq hv t)) $$ HK; iintro HK
    iapply (pure_step c _)
    iapply Hk
    isplitl [HT]; · iexact HT
    isplitl [HK]; · iexact HK
    isplitl [HV]; · iexact HV
    isplitl [HW]; · iexact HW
    unfold Pd; rw [if_neg h3, if_neg h3]
    isplitl [FK]; · iexact FK
    iexact FV

end

end Cert.Kernel.Hand
-- ==== Proof.Trip.lean ====
/-
  One trip of the loop, whole.
-/
module

public import proofs.«01_k».proof.Proof.Loop

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem trip_run {v0 : BitVec 32} (hv : v0.toNat ≤ 65532)
    (hT : ∀ i : S512.Idx, BitVec.toNat (w := 32) (arg1.view.read (Elt F) fT i) < 512) (t : Fin (k0_t1_loop v0).trips)
    (k0_hw25 : k0_chk25 v0) (v17' c0 v309 : BitVec 32) (u : Unit) {g2 : S2.Idx → F .f32} {g3 : S2.Idx → F .f32} {g4 : S128x256.Idx → F .bf16} {s : St F} {Q : Unit → sProp 𝕄} :
    iprop((arg1.view.loc (c : Thread nD τ) ↦[arg1.view.set]{fullShare} fT)
      ∗ Own c arg2 g2
      ∗ Own c arg3 g3
      ∗ Own c arg4 g4
      ∗ Own c arg14 s.m
      ∗ Own c arg15 s.l
      ∗ Own c arg16 s.a
      ∗ (∃ W, owes (c : Thread nD τ) 0 W)
      ∗ FlB c arg12 arg7 arg17 fA7 (arg1.view.read (Elt F) fT) t.val 8 0
      ∗ FlB c arg13 arg8 arg18 fA8 (arg1.view.read (Elt F) fT) t.val 8 0
      ∗ Free c arg12 arg7 arg17 fA7 tk (sl (t.val + 3))
      ∗ Free c arg13 arg8 arg18 fA8 tk (sl (t.val + 3)))
      ⊢ iprop((iprop((arg1.view.loc (c : Thread nD τ) ↦[arg1.view.set]{fullShare} fT)
      ∗ Own c arg2 g2
      ∗ Own c arg3 g3
      ∗ Own c arg4 g4
      ∗ Own c arg14 (tripSt g2 g3 g4 (fun h => kv (arg7.view.read (Elt F) fA7) (arg1.view.read (Elt F) fT) t.val h) (fun h => kv (arg8.view.read (Elt F) fA8) (arg1.view.read (Elt F) fT) t.val h) s).m
      ∗ Own c arg15 (tripSt g2 g3 g4 (fun h => kv (arg7.view.read (Elt F) fA7) (arg1.view.read (Elt F) fT) t.val h) (fun h => kv (arg8.view.read (Elt F) fA8) (arg1.view.read (Elt F) fT) t.val h) s).l
      ∗ Own c arg16 (tripSt g2 g3 g4 (fun h => kv (arg7.view.read (Elt F) fA7) (arg1.view.read (Elt F) fT) t.val h) (fun h => kv (arg8.view.read (Elt F) fA8) (arg1.view.read (Elt F) fT) t.val h) s).a
      ∗ (∃ W, owes (c : Thread nD τ) 0 W)
      ∗ Landed c arg12 arg7 arg17 fA7 tk (sl t.val) (pgs (arg1.view.read (Elt F) fT) t.val)
      ∗ Landed c arg13 arg8 arg18 fA8 tk (sl t.val) (pgs (arg1.view.read (Elt F) fT) t.val)
      ∗ Pd c arg12 arg7 arg17 fA7 (arg1.view.read (Elt F) fT) (NF v0) (t.val + 3)
      ∗ Pd c arg13 arg8 arg18 fA8 (arg1.view.read (Elt F) fT) (NF v0) (t.val + 3)) -∗ Q ⟨⟩)
      -∗ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17' c0 v309 t u) Q) := by
  have hb : t.val < 64 := trip_lt64 hv t
  unfold k0_t1_body
  iintro ⟨HT, H2, H3, H4, H14, H15, H16, HW, HK, HV, FK, FV⟩ Hk
  iapply (bind_step c)
  iapply (part17_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb _ _ _) $$ [HT HK HV HW]
  · isplitl [HT]; · iexact HT
    isplitl [HK]; · iexact HK
    isplitl [HV]; · iexact HV
    iexact HW
  iintro %x %h ⟨HT, HK, HV, HW⟩
  iapply (bind_step c)
  iapply (part18_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb _ _ _) $$ [HT HK HV HW]
  · isplitl [HT]; · iexact HT
    isplitl [HK]; · iexact HK
    isplitl [HV]; · iexact HV
    iexact HW
  iintro %h ⟨HT, HK, HV, HW⟩
  iapply (bind_step c)
  iapply (part19_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb _ _ _) $$ [HT HK HV HW]
  · isplitl [HT]; · iexact HT
    isplitl [HK]; · iexact HK
    isplitl [HV]; · iexact HV
    iexact HW
  iintro %r ⟨HT, HK, HV, HW⟩
  iapply (bind_step c)
  iapply (part20_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t hb _ _ _) $$ [HT HK HV HW]
  · isplitl [HT]; · iexact HT
    isplitl [HK]; · iexact HK
    isplitl [HV]; · iexact HV
    iexact HW
  iintro %h ⟨HT, HK, HV, HW⟩
  iapply (bind_step c)
  iapply (part21_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t _ _ _ _) $$ [HT HK HV HW FK FV]
  · isplitl [HT]; · iexact HT
    isplitl [HK]; · iexact HK
    isplitl [HV]; · iexact HV
    isplitl [HW]; · iexact HW
    isplitl [FK]; · iexact FK
    iexact FV
  iintro %r ⟨HT, HK, HV, HW, FK, FV⟩
  iapply (bind_step c)
  iapply (part22_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv t _ _ _) $$ [H2 H3 H4 H14 HV]
  · isplitl [H2]; · iexact H2
    isplitl [H3]; · iexact H3
    isplitl [H4]; · iexact H4
    isplitl [H14]; · iexact H14
    iexact HV
  iintro ⟨H2, H3, H4, H14, HV⟩
  iapply (bind_step c)
  iapply (part23_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv t _ _ _ _ _ _) $$ [H14 H15 H16 HK HV]
  · isplitl [H14]; · iexact H14
    isplitl [H15]; · iexact H15
    isplitl [H16]; · iexact H16
    isplitl [HK]; · iexact HK
    iexact HV
  iintro ⟨H14, H15, H16, HK, HV⟩
  iapply (bind_step c)
  iapply (part24_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _) $$ [H2 H3 H4 H14 H15]
  · isplitl [H2]; · iexact H2
    isplitl [H3]; · iexact H3
    isplitl [H4]; · iexact H4
    isplitl [H14]; · iexact H14
    iexact H15
  iintro ⟨H2, H3, H4, H14, H15⟩
  iapply (load_own c) $$ H15; iintro H15
  iapply (store_own c) $$ H15; iintro H15
  iapply (load_own c) $$ H16; iintro H16
  iapply (load_own c) $$ H16; iintro H16
  iapply (store_own c) $$ H16; iintro H16
  iapply (load_own c) $$ H14; iintro H14
  iapply (store_own c) $$ H14; iintro H14
  iapply (pure_step c _)
  iapply Hk
  isplitl [HT]; · iexact HT
  isplitl [H2]; · iexact H2
  isplitl [H3]; · iexact H3
  isplitl [H4]; · iexact H4
  isplitl [H14]; · iexact H14
  isplitl [H15]; · iexact H15
  isplitl [H16]; · iexact H16
  isplitl [HW]; · iexact HW
  isplitl [HK]; · iexact HK
  isplitl [HV]; · iexact HV
  isplitl [FK]; · iexact FK
  iexact FV

end

end Cert.Kernel.Hand
-- ==== Proof.Tail.lean ====
/-
  The loop over the full blocks, the waits for the last block, the first starts, and the whole body.
-/
module

public import proofs.«01_k».proof.Proof.Trip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD)

theorem pd_fl {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {n b : ℕ} (h : b ≤ n) :
    Pd c M A S fA T n b ⊢ FlB c M A S fA T b 8 0 := by unfold Pd; rw [if_pos h]

theorem pd_of_fl {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {n b : ℕ} (h : b ≤ n) :
    FlB c M A S fA T b 8 0 ⊢ Pd c M A S fA T n b := by unfold Pd; rw [if_pos h]

theorem pd_free {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {n b : ℕ} (h : ¬ b ≤ n) :
    Pd c M A S fA T n b ⊢ Free c M A S fA tk (sl b) := by unfold Pd; rw [if_neg h]

theorem pd_of_free {M : Memref sig .tc .vmem S4x8x2x128x256 .fp8e4m3} {A : Memref sig .tc .hbm S512x2x128x256 .fp8e4m3}
    {S : DmaSems sig S4} {fA : Buf (Elt F) (A.view.loc (c : Thread nD τ))} {T : S512.Idx → BitVec 32} {n b : ℕ} (h : ¬ b ≤ n) :
    Free c M A S fA tk (sl b) ⊢ Pd c M A S fA T n b := by unfold Pd; rw [if_neg h]

theorem sl_add4 (b : ℕ) : sl (b + 4) = sl b := by unfold sl; simp

/-- Four consecutive blocks use the four slots. -/
theorem frees_rot {M : Memref sig .tc .vmem S4x8x2x128x256 .fp8e4m3} {A : Memref sig .tc .hbm S512x2x128x256 .fp8e4m3}
    {S : DmaSems sig S4} {fA : Buf (Elt F) (A.view.loc (c : Thread nD τ))} (n : ℕ) :
    iprop(Free c M A S fA tk (sl n) ∗ Free c M A S fA tk (sl (n + 1)) ∗ Free c M A S fA tk (sl (n + 2)) ∗ Free c M A S fA tk (sl (n + 3)))
      ⊢ iprop(Free c M A S fA tk 0 ∗ Free c M A S fA tk 1 ∗ Free c M A S fA tk 2 ∗ Free c M A S fA tk 3) := by
  have h : n % 4 = 0 ∨ n % 4 = 1 ∨ n % 4 = 2 ∨ n % 4 = 3 := by omega
  have e : ∀ b k, b % 4 = k % 4 → sl b = sl k := fun b k h => Fin.ext h
  rcases h with h | h | h | h
  · rw [show sl n = 0 from e n 0 h, show sl (n + 1) = 1 from e _ 1 (by omega), show sl (n + 2) = 2 from e _ 2 (by omega), show sl (n + 3) = 3 from e _ 3 (by omega)]
  · rw [show sl n = 1 from e n 1 h, show sl (n + 1) = 2 from e _ 2 (by omega), show sl (n + 2) = 3 from e _ 3 (by omega), show sl (n + 3) = 0 from e _ 0 (by omega)]
    iintro ⟨H1, H2, H3, H0⟩
    isplitl [H0]; · iexact H0
    isplitl [H1]; · iexact H1
    isplitl [H2] <;> iassumption
  · rw [show sl n = 2 from e n 2 h, show sl (n + 1) = 3 from e _ 3 (by omega), show sl (n + 2) = 0 from e _ 0 (by omega), show sl (n + 3) = 1 from e _ 1 (by omega)]
    iintro ⟨H2, H3, H0, H1⟩
    isplitl [H0]; · iexact H0
    isplitl [H1]; · iexact H1
    isplitl [H2] <;> iassumption
  · rw [show sl n = 3 from e n 3 h, show sl (n + 1) = 0 from e _ 0 (by omega), show sl (n + 2) = 1 from e _ 1 (by omega), show sl (n + 3) = 2 from e _ 2 (by omega)]
    iintro ⟨H3, H0, H1, H2⟩
    isplitl [H0]; · iexact H0
    isplitl [H1]; · iexact H1
    isplitl [H2] <;> iassumption

theorem dite_yes {α : Type} {Q : α → sProp 𝕄} {p : Prop} [Decidable p] {X : p → Prog (TpuEff nD τ sig (Elt F) Λ₀ .tc) α}
    {Y : ¬ p → Prog (TpuEff nD τ sig (Elt F) Λ₀ .tc) α} (h : p) :
    wp frame (wpE (defs₀ (F := F)) Variants.none (c : Thread nD τ) none) Set.univ (X h) Q ⊢ wp frame (wpE (defs₀ (F := F)) Variants.none (c : Thread nD τ) none) Set.univ (dite p X Y) Q := by rw [dif_pos h]

theorem dite_no {α : Type} {Q : α → sProp 𝕄} {p : Prop} [Decidable p] {X : p → Prog (TpuEff nD τ sig (Elt F) Λ₀ .tc) α}
    {Y : ¬ p → Prog (TpuEff nD τ sig (Elt F) Λ₀ .tc) α} (h : ¬ p) :
    wp frame (wpE (defs₀ (F := F)) Variants.none (c : Thread nD τ) none) Set.univ (Y h) Q ⊢ wp frame (wpE (defs₀ (F := F)) Variants.none (c : Thread nD τ) none) Set.univ (dite p X Y) Q := by rw [dif_neg h]

/-- A loop of no trips. -/
theorem for_none {β : Type} {Q : β → sProp 𝕄} {lb ub st : BitVec 32} {hok} {body : Fin (Scf.trips lb ub st) → PUnit → Prog (TpuEff nD τ sig (Elt F) Λ₀ .tc) PUnit}
    (h : Scf.trips lb ub st = 0) {kk : PUnit → Prog (TpuEff nD τ sig (Elt F) Λ₀ .tc) β} :
    wp frame (wpE (defs₀ (F := F)) Variants.none (c : Thread nD τ) none) Set.univ (kk PUnit.unit) Q ⊢ wp frame (wpE (defs₀ (F := F)) Variants.none (c : Thread nD τ) none) Set.univ (Scf.for lb ub st hok PUnit.unit body >>= kk) Q :=
  Scf.wp_for0_bind _ _ _ lb ub st hok body h kk Q _ .rfl

/-- The state before trip `k`. -/
noncomputable def stK (g2 g3 : S2.Idx → F .f32) (g4 : S128x256.Idx → F .bf16) (K V : ℕ → Fin 2 → Vec F S1x8x1x128x256 .fp8e4m3) (s : St F) : ℕ → St F
  | 0 => s
  | k + 1 => tripSt g2 g3 g4 (K k) (V k) (stK g2 g3 g4 K V s k)

end

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)

/-- What holds before trip `k`. -/
def LI (v0 : BitVec 32) (fT : Buf (Elt F) (arg1.view.loc (c : Thread nD τ))) (fA7 : Buf (Elt F) (arg7.view.loc (c : Thread nD τ)))
    (fA8 : Buf (Elt F) (arg8.view.loc (c : Thread nD τ))) (g2 g3 : S2.Idx → F .f32) (g4 : S128x256.Idx → F .bf16) (s : St F) (k : ℕ) : sProp 𝕄 :=
  iprop((arg1.view.loc (c : Thread nD τ) ↦[arg1.view.set]{fullShare} fT)
      ∗ Own c arg2 g2
      ∗ Own c arg3 g3
      ∗ Own c arg4 g4
      ∗ Own c arg14 (stK g2 g3 g4 (fun b h => kv (arg7.view.read (Elt F) fA7) (arg1.view.read (Elt F) fT) b h) (fun b h => kv (arg8.view.read (Elt F) fA8) (arg1.view.read (Elt F) fT) b h) s k).m
      ∗ Own c arg15 (stK g2 g3 g4 (fun b h => kv (arg7.view.read (Elt F) fA7) (arg1.view.read (Elt F) fT) b h) (fun b h => kv (arg8.view.read (Elt F) fA8) (arg1.view.read (Elt F) fT) b h) s k).l
      ∗ Own c arg16 (stK g2 g3 g4 (fun b h => kv (arg7.view.read (Elt F) fA7) (arg1.view.read (Elt F) fT) b h) (fun b h => kv (arg8.view.read (Elt F) fA8) (arg1.view.read (Elt F) fT) b h) s k).a
      ∗ (∃ W, owes (c : Thread nD τ) 0 W)
      ∗ Pd c arg12 arg7 arg17 fA7 (arg1.view.read (Elt F) fT) (NF v0) (k)
      ∗ Pd c arg13 arg8 arg18 fA8 (arg1.view.read (Elt F) fT) (NF v0) (k)
      ∗ Pd c arg12 arg7 arg17 fA7 (arg1.view.read (Elt F) fT) (NF v0) (k + 1)
      ∗ Pd c arg13 arg8 arg18 fA8 (arg1.view.read (Elt F) fT) (NF v0) (k + 1)
      ∗ Pd c arg12 arg7 arg17 fA7 (arg1.view.read (Elt F) fT) (NF v0) (k + 2)
      ∗ Pd c arg13 arg8 arg18 fA8 (arg1.view.read (Elt F) fT) (NF v0) (k + 2)
      ∗ Free c arg12 arg7 arg17 fA7 tk (sl (k + 3))
      ∗ Free c arg13 arg8 arg18 fA8 tk (sl (k + 3)))

variable {fT : Buf (Elt F) (arg1.view.loc (c : Thread nD τ))}
  {fA7 : Buf (Elt F) (arg7.view.loc (c : Thread nD τ))} {fA8 : Buf (Elt F) (arg8.view.loc (c : Thread nD τ))}

theorem trip_step {v0 : BitVec 32} (hv : v0.toNat ≤ 65532)
    (hT : ∀ i : S512.Idx, BitVec.toNat (w := 32) (arg1.view.read (Elt F) fT i) < 512) (t : Fin (k0_t1_loop v0).trips)
    (k0_hw25 : k0_chk25 v0) (v17' c0 v309 : BitVec 32) (u : Unit) {g2 : S2.Idx → F .f32} {g3 : S2.Idx → F .f32} {g4 : S128x256.Idx → F .bf16} {s : St F} :
    LI c arg1 arg2 arg3 arg4 arg7 arg8 arg12 arg13 arg14 arg15 arg16 arg17 arg18 v0 fT fA7 fA8 g2 g3 g4 s t.val
      ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17' c0 v309 t u) (fun _ => LI c arg1 arg2 arg3 arg4 arg7 arg8 arg12 arg13 arg14 arg15 arg16 arg17 arg18 v0 fT fA7 fA8 g2 g3 g4 s (t.val + 1)) := by
  have ht : t.val < NF v0 := trip_lt hv t
  unfold LI
  iintro ⟨HT, H2, H3, H4, H14, H15, H16, HW, HK0, HV0, HK1, HV1, HK2, HV2, FK, FV⟩
  ihave HK0 := (pd_fl c (le_of_lt ht)) $$ HK0
  ihave HV0 := (pd_fl c (le_of_lt ht)) $$ HV0
  iapply (trip_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t k0_hw25 v17' c0 v309 u) $$ [HT H2 H3 H4 H14 H15 H16 HW HK0 HV0 FK FV]
  · isplitl [HT]; · iexact HT
    isplitl [H2]; · iexact H2
    isplitl [H3]; · iexact H3
    isplitl [H4]; · iexact H4
    isplitl [H14]; · iexact H14
    isplitl [H15]; · iexact H15
    isplitl [H16]; · iexact H16
    isplitl [HW]; · iexact HW
    isplitl [HK0]; · iexact HK0
    isplitl [HV0]; · iexact HV0
    isplitl [FK]; · iexact FK
    iexact FV
  iintro ⟨HT, H2, H3, H4, H14, H15, H16, HW, HK0, HV0, FK, FV⟩
  ihave HK0 := (landed_free c arg12 arg7 arg17 fA7 tk (sl t.val) _) $$ HK0
  ihave HV0 := (landed_free c arg13 arg8 arg18 fA8 tk (sl t.val) _) $$ HV0
  rw [show t.val + 1 + 3 = t.val + 4 from rfl, sl_add4]
  isplitl [HT]; · iexact HT
  isplitl [H2]; · iexact H2
  isplitl [H3]; · iexact H3
  isplitl [H4]; · iexact H4
  isplitl [H14]; · iexact H14
  isplitl [H15]; · iexact H15
  isplitl [H16]; · iexact H16
  isplitl [HW]; · iexact HW
  isplitl [HK1]; · iexact HK1
  isplitl [HV1]; · iexact HV1
  isplitl [HK2]; · iexact HK2
  isplitl [HV2]; · iexact HV2
  isplitl [FK]; · iexact FK
  isplitl [FV]; · iexact FV
  isplitl [HK0]; · iexact HK0
  iexact HV0

theorem part45_run {v0 : BitVec 32} (hv : v0.toNat ≤ 65532)
    (hT : ∀ i : S512.Idx, BitVec.toNat (w := 32) (arg1.view.read (Elt F) fT i) < 512)
    (k0_hw25 : k0_chk25 v0) (v17' c0 v309 : BitVec 32) {g2 : S2.Idx → F .f32} {g3 : S2.Idx → F .f32} {g4 : S128x256.Idx → F .bf16} {s : St F}
    {Q : (Σ' (v331 : Elt F .i32), k0_chk59 v331) → sProp 𝕄} :
    LI c arg1 arg2 arg3 arg4 arg7 arg8 arg12 arg13 arg14 arg15 arg16 arg17 arg18 v0 fT fA7 fA8 g2 g3 g4 s 0
      ⊢ iprop((∀ h, iprop((arg1.view.loc (c : Thread nD τ) ↦[arg1.view.set]{fullShare} fT)
      ∗ Own c arg2 g2
      ∗ Own c arg3 g3
      ∗ Own c arg4 g4
      ∗ Own c arg14 (stK g2 g3 g4 (fun b h => kv (arg7.view.read (Elt F) fA7) (arg1.view.read (Elt F) fT) b h) (fun b h => kv (arg8.view.read (Elt F) fA8) (arg1.view.read (Elt F) fT) b h) s (NF v0)).m
      ∗ Own c arg15 (stK g2 g3 g4 (fun b h => kv (arg7.view.read (Elt F) fA7) (arg1.view.read (Elt F) fT) b h) (fun b h => kv (arg8.view.read (Elt F) fA8) (arg1.view.read (Elt F) fT) b h) s (NF v0)).l
      ∗ Own c arg16 (stK g2 g3 g4 (fun b h => kv (arg7.view.read (Elt F) fA7) (arg1.view.read (Elt F) fT) b h) (fun b h => kv (arg8.view.read (Elt F) fA8) (arg1.view.read (Elt F) fT) b h) s (NF v0)).a
      ∗ (∃ W, owes (c : Thread nD τ) 0 W)
      ∗ FlB c arg12 arg7 arg17 fA7 (arg1.view.read (Elt F) fT) (NF v0) 8 1
      ∗ FlB c arg13 arg8 arg18 fA8 (arg1.view.read (Elt F) fT) (NF v0) 8 1
      ∗ Free c arg12 arg7 arg17 fA7 tk (sl (NF v0 + 1))
      ∗ Free c arg13 arg8 arg18 fA8 tk (sl (NF v0 + 1))
      ∗ Free c arg12 arg7 arg17 fA7 tk (sl (NF v0 + 2))
      ∗ Free c arg13 arg8 arg18 fA8 tk (sl (NF v0 + 2))
      ∗ Free c arg12 arg7 arg17 fA7 tk (sl (NF v0 + 3))
      ∗ Free c arg13 arg8 arg18 fA8 tk (sl (NF v0 + 3))) -∗ Q ⟨wd (arg1.view.read (Elt F) fT) (NF v0) 1, h⟩)
      -∗ wp frame (wpE (defs₀ (F := F)) Variants.none (c : Thread nD τ) none) Set.univ (k0_part45 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17' c0 v309) Q) := by
  rw [k0_part45_eq_skeleton]; unfold k0_part45_skel
  have hn : NF v0 ≤ NF v0 := le_refl _
  have hn1 : ¬ NF v0 + 1 ≤ NF v0 := by omega
  have hn2 : ¬ NF v0 + 2 ≤ NF v0 := by omega
  iintro H Hk
  iapply (Scf.wp_for_bind frame (wpE (defs₀ (F := F)) Variants.none (c : Thread nD τ) none) Set.univ _ _ _ _ _ _
    (fun k _ => LI c arg1 arg2 arg3 arg4 arg7 arg8 arg12 arg13 arg14 arg15 arg16 arg17 arg18 v0 fT fA7 fA8 g2 g3 g4 s k)
    (fun t u => trip_step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT t k0_hw25 _ _ _ u)) $$ H
  iintro %acc H
  iapply (for_none c (trips2_eq hv))
  ihave H := (Entails.of_eq (congrArg (LI c arg1 arg2 arg3 arg4 arg7 arg8 arg12 arg13 arg14 arg15 arg16 arg17 arg18 v0 fT fA7 fA8 g2 g3 g4 s) (trips_eq hv))) $$ H
  unfold LI
  icases H with ⟨HT, H2, H3, H4, H14, H15, H16, HW, HK, HV, HK1, HV1, HK2, HV2, FK, FV⟩
  ihave HK := (pd_fl c hn) $$ HK
  ihave HV := (pd_fl c hn) $$ HV
  ihave HK1 := (pd_free c hn1) $$ HK1
  ihave HV1 := (pd_free c hn1) $$ HV1
  ihave HK2 := (pd_free c hn2) $$ HK2
  ihave HV2 := (pd_free c hn2) $$ HV2
  iapply (ld_step c (NF v0) 0 (off292_eq hv) (NF_lt hv) (by decide)) $$ HT; iintro HT
  iapply (assume_step c (chk58 _ (hT (ix1 (tix (NF v0) 0)))))
  iapply (wait_step c (b := (NF v0)) 0 (by decide) (off293_eq hv)) $$ [HK HW]
  · isplitl [HK] <;> iassumption
  iintro ⟨HK, HW⟩
  iapply (wait_step c (b := (NF v0)) 0 (by decide) (off296_eq hv)) $$ [HV HW]
  · isplitl [HV] <;> iassumption
  iintro ⟨HV, HW⟩
  iapply (ld_step c (NF v0) 1 (off298_eq hv) (NF_lt hv) (by decide)) $$ HT; iintro HT
  iapply (assume_step c (chk59 _ (hT (ix1 (tix (NF v0) 1)))))
  iapply (pure_step c _)
  iapply Hk
  isplitl [HT]; · iexact HT
  isplitl [H2]; · iexact H2
  isplitl [H3]; · iexact H3
  isplitl [H4]; · iexact H4
  isplitl [H14]; · iexact H14
  isplitl [H15]; · iexact H15
  isplitl [H16]; · iexact H16
  isplitl [HW]; · iexact HW
  isplitl [HK]; · iexact HK
  isplitl [HV]; · iexact HV
  isplitl [HK1]; · iexact HK1
  isplitl [HV1]; · iexact HV1
  isplitl [HK2]; · iexact HK2
  isplitl [HV2]; · iexact HV2
  isplitl [FK]; · iexact FK
  iexact FV

theorem part46_run {v0 : BitVec 32} (hv : v0.toNat ≤ 65532)
    (hT : ∀ i : S512.Idx, BitVec.toNat (w := 32) (arg1.view.read (Elt F) fT i) < 512) (k0_hw25 : k0_chk25 v0) (v17 : BitVec 32) (k0_hw59 : k0_chk59 (wd (arg1.view.read (Elt F) fT) (NF v0) 1))
    {Q : (Σ' (v363 : Elt F .i32), k0_chk61 v363) → sProp 𝕄} :
    iprop((arg1.view.loc (c : Thread nD τ) ↦[arg1.view.set]{fullShare} fT)
      ∗ FlB c arg12 arg7 arg17 fA7 (arg1.view.read (Elt F) fT) (NF v0) 8 1
      ∗ FlB c arg13 arg8 arg18 fA8 (arg1.view.read (Elt F) fT) (NF v0) 8 1
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) (NF v0) 8 3
      ∗ FlB c arg13 arg8 arg18 fA8 (arg1.view.read (Elt F) fT) (NF v0) 8 3
      ∗ (∃ W, owes (c : Thread nD τ) 0 W)) -∗ Q ⟨wd (arg1.view.read (Elt F) fT) (NF v0) 3, h⟩)
      -∗ wp frame (wpE (defs₀ (F := F)) Variants.none (c : Thread nD τ) none) Set.univ (k0_part46 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 (wd (arg1.view.read (Elt F) fT) (NF v0) 1) k0_hw59) Q) := by
  rw [k0_part46_eq_skeleton]; unfold k0_part46_skel
  iintro ⟨HT, HK, HV, HW⟩ Hk
  iapply (wait_step c (b := (NF v0)) 1 (by decide) (off296_eq hv)) $$ [HK HW]
  · isplitl [HK] <;> iassumption
  iintro ⟨HK, HW⟩
  iapply (wait_step c (b := (NF v0)) 1 (by decide) (off301_eq hv)) $$ [HV HW]
  · isplitl [HV] <;> iassumption
  iintro ⟨HV, HW⟩
  iapply (ld_step c (NF v0) 2 (off303_eq hv) (NF_lt hv) (by decide)) $$ HT; iintro HT
  iapply (assume_step c (chk60 _ (hT (ix1 (tix (NF v0) 2)))))
  iapply (wait_step c (b := (NF v0)) 2 (by decide) (off301_eq hv)) $$ [HK HW]
  · isplitl [HK] <;> iassumption
  iintro ⟨HK, HW⟩
  iapply (wait_step c (b := (NF v0)) 2 (by decide) (off306_eq hv)) $$ [HV HW]
  · isplitl [HV] <;> iassumption
  iintro ⟨HV, HW⟩
  iapply (ld_step c (NF v0) 3 (off308_eq hv) (NF_lt hv) (by decide)) $$ HT; iintro HT
  iapply (assume_step c (chk61 _ (hT (ix1 (tix (NF v0) 3)))))
  iapply (pure_step c _)
  iapply Hk
  isplitl [HT]; · iexact HT
  isplitl [HK]; · iexact HK
  isplitl [HV]; · iexact HV
  iexact HW

theorem part47_run {v0 : BitVec 32} (hv : v0.toNat ≤ 65532)
    (hT : ∀ i : S512.Idx, BitVec.toNat (w := 32) (arg1.view.read (Elt F) fT i) < 512) (k0_hw25 : k0_chk25 v0) (v17 : BitVec 32) (k0_hw61 : k0_chk61 (wd (arg1.view.read (Elt F) fT) (NF v0) 3))
    {Q : (Σ' (v379 : Elt F .i32), k0_chk62 v379) → sProp 𝕄} :
    iprop((arg1.view.loc (c : Thread nD τ) ↦[arg1.view.set]{fullShare} fT)
      ∗ FlB c arg12 arg7 arg17 fA7 (arg1.view.read (Elt F) fT) (NF v0) 8 3
      ∗ FlB c arg13 arg8 arg18 fA8 (arg1.view.read (Elt F) fT) (NF v0) 8 3
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) (NF v0) 8 5
      ∗ FlB c arg13 arg8 arg18 fA8 (arg1.view.read (Elt F) fT) (NF v0) 8 4
      ∗ (∃ W, owes (c : Thread nD τ) 0 W)) -∗ Q ⟨wd (arg1.view.read (Elt F) fT) (NF v0) 4, h⟩)
      -∗ wp frame (wpE (defs₀ (F := F)) Variants.none (c : Thread nD τ) none) Set.univ (k0_part47 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 (wd (arg1.view.read (Elt F) fT) (NF v0) 3) k0_hw61) Q) := by
  rw [k0_part47_eq_skeleton]; unfold k0_part47_skel
  iintro ⟨HT, HK, HV, HW⟩ Hk
  iapply (wait_step c (b := (NF v0)) 3 (by decide) (off306_eq hv)) $$ [HK HW]
  · isplitl [HK] <;> iassumption
  iintro ⟨HK, HW⟩
  iapply (wait_step c (b := (NF v0)) 3 (by decide) (off311_eq hv)) $$ [HV HW]
  · isplitl [HV] <;> iassumption
  iintro ⟨HV, HW⟩
  iapply (ld_step c (NF v0) 4 (off313_eq hv) (NF_lt hv) (by decide)) $$ HT; iintro HT
  iapply (assume_step c (chk62 _ (hT (ix1 (tix (NF v0) 4)))))
  iapply (wait_step c (b := (NF v0)) 4 (by decide) (off311_eq hv)) $$ [HK HW]
  · isplitl [HK] <;> iassumption
  iintro ⟨HK, HW⟩
  iapply (pure_step c _)
  iapply Hk
  isplitl [HT]; · iexact HT
  isplitl [HK]; · iexact HK
  isplitl [HV]; · iexact HV
  iexact HW

theorem part48_run {v0 : BitVec 32} (hv : v0.toNat ≤ 65532)
    (hT : ∀ i : S512.Idx, BitVec.toNat (w := 32) (arg1.view.read (Elt F) fT i) < 512) (k0_hw25 : k0_chk25 v0) (v17 : BitVec 32) (k0_hw62 : k0_chk62 (wd (arg1.view.read (Elt F) fT) (NF v0) 4))
    {Q : (Σ' (v411 : Elt F .i32), k0_chk64 v411) → sProp 𝕄} :
    iprop((arg1.view.loc (c : Thread nD τ) ↦[arg1.view.set]{fullShare} fT)
      ∗ FlB c arg12 arg7 arg17 fA7 (arg1.view.read (Elt F) fT) (NF v0) 8 5
      ∗ FlB c arg13 arg8 arg18 fA8 (arg1.view.read (Elt F) fT) (NF v0) 8 4
      ∗ (∃ W, owes (c : Thread nD τ) 0 W))
      ⊢ iprop((∀ h, iprop((arg1.view.loc (c : Thread nD τ) ↦[arg1.view.set]{fullShare} fT)
      ∗ FlB c arg12 arg7 arg17 fA7 (arg1.view.read (Elt F) fT) (NF v0) 8 7
      ∗ FlB c arg13 arg8 arg18 fA8 (arg1.view.read (Elt F) fT) (NF v0) 8 6
      ∗ (∃ W, owes (c : Thread nD τ) 0 W)) -∗ Q ⟨wd (arg1.view.read (Elt F) fT) (NF v0) 6, h⟩)
      -∗ wp frame (wpE (defs₀ (F := F)) Variants.none (c : Thread nD τ) none) Set.univ (k0_part48 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17 (wd (arg1.view.read (Elt F) fT) (NF v0) 4) k0_hw62) Q) := by
  rw [k0_part48_eq_skeleton]; unfold k0_part48_skel
  iintro ⟨HT, HK, HV, HW⟩ Hk
  iapply (wait_step c (b := (NF v0)) 4 (by decide) (off316_eq hv)) $$ [HV HW]
  · isplitl [HV] <;> iassumption
  iintro ⟨HV, HW⟩
  iapply (ld_step c (NF v0) 5 (off318_eq hv) (NF_lt hv) (by decide)) $$ HT; iintro HT
  iapply (assume_step c (chk63 _ (hT (ix1 (tix (NF v0) 5)))))
  iapply (wait_step c (b := (NF v0)) 5 (by decide) (off316_eq hv)) $$ [HK HW]
  · isplitl [HK] <;> iassumption
  iintro ⟨HK, HW⟩
  iapply (wait_step c (b := (NF v0)) 5 (by decide) (off321_eq hv)) $$ [HV HW]
  · isplitl [HV] <;> iassumption
  iintro ⟨HV, HW⟩
  iapply (ld_step c (NF v0) 6 (off323_eq hv) (NF_lt hv) (by decide)) $$ HT; iintro HT
  iapply (assume_step c (chk64 _ (hT (ix1 (tix (NF v0) 6)))))
  iapply (wait_step c (b := (NF v0)) 6 (by decide) (off321_eq hv)) $$ [HK HW]
  · isplitl [HK] <;> iassumption
  iintro ⟨HK, HW⟩
  iapply (pure_step c _)
  iapply Hk
  isplitl [HT]; · iexact HT
  isplitl [HK]; · iexact HK
  isplitl [HV]; · iexact HV
  iexact HW

theorem part49_run {v0 : BitVec 32} (hv : v0.toNat ≤ 65532)
    (hT : ∀ i : S512.Idx, BitVec.toNat (w := 32) (arg1.view.read (Elt F) fT i) < 512)
    (k0_hw25 : k0_chk25 v0) (v17' : BitVec 32) (k0_hw64 : k0_chk64 (wd (arg1.view.read (Elt F) fT) (NF v0) 6))
    {Q : (Σ' (v440 : BitVec 32), FVec F S1024x256 .fp8e4m3) → sProp 𝕄} :
    iprop((arg1.view.loc (c : Thread nD τ) ↦[arg1.view.set]{fullShare} fT)
      ∗ FlB c arg12 arg7 arg17 fA7 (arg1.view.read (Elt F) fT) (NF v0) 8 7
      ∗ FlB c arg13 arg8 arg18 fA8 (arg1.view.read (Elt F) fT) (NF v0) 8 6
      ∗ (∃ W, owes (c : Thread nD τ) 0 W))
      ⊢ iprop((∀ r, iprop((arg1.view.loc (c : Thread nD τ) ↦[arg1.view.set]{fullShare} fT)
      ∗ Landed c arg12 arg7 arg17 fA7 tk (sl (NF v0)) (pgs (arg1.view.read (Elt F) fT) (NF v0))
      ∗ Landed c arg13 arg8 arg18 fA8 tk (sl (NF v0)) (pgs (arg1.view.read (Elt F) fT) (NF v0))
      ∗ (∃ W, owes (c : Thread nD τ) 0 W)) -∗ Q ⟨r, k0_pay80 (kv (arg7.view.read (Elt F) fA7) (arg1.view.read (Elt F) fT) (NF v0) 0)⟩)
      -∗ wp frame (wpE (defs₀ (F := F)) Variants.none (c : Thread nD τ) none) Set.univ (k0_part49 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 k0_hw25 v17' (wd (arg1.view.read (Elt F) fT) (NF v0) 6) k0_hw64) Q) := by
  rw [k0_part49_eq_skeleton]; unfold k0_part49_skel
  iintro ⟨HT, HK, HV, HW⟩ Hk
  iapply (wait_step c (b := (NF v0)) 6 (by decide) (off326_eq hv)) $$ [HV HW]
  · isplitl [HV] <;> iassumption
  iintro ⟨HV, HW⟩
  iapply (ld_step c (NF v0) 7 (off328_eq hv) (NF_lt hv) (by decide)) $$ HT; iintro HT
  iapply (assume_step c (chk65 _ (hT (ix1 (tix (NF v0) 7)))))
  iapply (wait_step c (b := (NF v0)) 7 (by decide) (off326_eq hv)) $$ [HK HW]
  · isplitl [HK] <;> iassumption
  iintro ⟨HK, HW⟩
  iapply (wait_step c (b := (NF v0)) 7 (by decide) (off331_eq hv)) $$ [HV HW]
  · isplitl [HV] <;> iassumption
  iintro ⟨HV, HW⟩
  imod (fl_close c arg12 arg7 arg17 fA7 tk (sl (NF v0)) (pgs (arg1.view.read (Elt F) fT) (NF v0))) $$ HK with HK
  imod (fl_close c arg13 arg8 arg18 fA8 tk (sl (NF v0)) (pgs (arg1.view.read (Elt F) fT) (NF v0))) $$ HV with HV
  iapply (load_slot c 0 (off333_eq hv)) $$ HK; iintro HK
  iapply (pure_step c _)
  iapply Hk
  isplitl [HT]; · iexact HT
  isplitl [HK]; · iexact HK
  isplitl [HV]; · iexact HV
  iexact HW

end

end Cert.Kernel.Hand
-- ==== Proof.Starts.lean ====
/-
  The copies of the first three blocks, part by part: from a slot just opened to its eight copies issued.
-/
module

public import proofs.«01_k».proof.Proof.Steps

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part1_run {v0 : BitVec 32} (hv : v0.toNat ≤ 65532)
    (hT : ∀ i : S512.Idx, BitVec.toNat (w := 32) (arg1.view.read (Elt F) fT i) < 512) (c0_i32_5 : BitVec 32) (k0_h1 : k0_cond1 v0 = 1#1)
    {Q : (Σ' (v639 : Elt F .i32), k0_chk2 v0 v639) → sProp 𝕄} :
    iprop((arg1.view.loc (c : Thread nD τ) ↦[arg1.view.set]{fullShare} fT)
      ∗ FlB c arg12 arg7 arg17 fA7 (arg1.view.read (Elt F) fT) 0 0 0
      ∗ FlB c arg13 arg8 arg18 fA8 (arg1.view.read (Elt F) fT) 0 0 0)
      ⊢ iprop((∀ h, iprop((arg1.view.loc (c : Thread nD τ) ↦[arg1.view.set]{fullShare} fT)
      ∗ FlB c arg12 arg7 arg17 fA7 (arg1.view.read (Elt F) fT) 0 2 0
      ∗ FlB c arg13 arg8 arg18 fA8 (arg1.view.read (Elt F) fT) 0 1 0) -∗ Q ⟨wd (arg1.view.read (Elt F) fT) 0 1, h⟩)
      -∗ wp frame (wpE (defs₀ (F := F)) Variants.none (c : Thread nD τ) none) Set.univ (k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c0_i32_5 k0_h1) Q) := by
  rw [k0_part1_eq_skeleton]; unfold k0_part1_skel
  iintro ⟨HT, HK, HV⟩ Hk
  iapply (ld_step c 0 0 off1_eq (by decide) (by decide)) $$ HT; iintro HT
  iapply (assume_step c (chk1 _ _ (hT (ix1 (tix 0 0)))))
  iapply (start_step c (b := 0) hT 0 (by decide) (off4_eq _) off3_eq off2_eq (Nat.zero_le _)) $$ HK; iintro HK
  iapply (start_step c (b := 0) hT 0 (by decide) (off4_eq _) off6_eq off5_eq (Nat.zero_le _)) $$ HV; iintro HV
  iapply (ld_step c 0 1 off7_eq (by decide) (by decide)) $$ HT; iintro HT
  iapply (assume_step c (chk2 _ _ (hT (ix1 (tix 0 1)))))
  iapply (start_step c (b := 0) hT 1 (by decide) (off9_eq _) off8_eq off5_eq (Nat.zero_le _)) $$ HK; iintro HK
  iapply (pure_step c _)
  iapply Hk
  isplitl [HT]; · iexact HT
  isplitl [HK]; · iexact HK
  iexact HV

theorem part2_run {v0 : BitVec 32} (hv : v0.toNat ≤ 65532)
    (hT : ∀ i : S512.Idx, BitVec.toNat (w := 32) (arg1.view.read (Elt F) fT i) < 512) (c0_i32_5 : BitVec 32) (k0_h1 : k0_cond1 v0 = 1#1) (k0_hw2 : k0_chk2 v0 (wd (arg1.view.read (Elt F) fT) 0 1))
    {Q : (Σ' (v671 : Elt F .i32), k0_chk4 v0 v671) → sProp 𝕄} :
    iprop((arg1.view.loc (c : Thread nD τ) ↦[arg1.view.set]{fullShare} fT)
      ∗ FlB c arg12 arg7 arg17 fA7 (arg1.view.read (Elt F) fT) 0 2 0
      ∗ FlB c arg13 arg8 arg18 fA8 (arg1.view.read (Elt F) fT) 0 1 0)
      ⊢ iprop((∀ h, iprop((arg1.view.loc (c : Thread nD τ) ↦[arg1.view.set]{fullShare} fT)
      ∗ FlB c arg12 arg7 arg17 fA7 (arg1.view.read (Elt F) fT) 0 3 0
      ∗ FlB c arg13 arg8 arg18 fA8 (arg1.view.read (Elt F) fT) 0 3 0) -∗ Q ⟨wd (arg1.view.read (Elt F) fT) 0 3, h⟩)
      -∗ wp frame (wpE (defs₀ (F := F)) Variants.none (c : Thread nD τ) none) Set.univ (k0_part2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c0_i32_5 k0_h1 (wd (arg1.view.read (Elt F) fT) 0 1) k0_hw2) Q) := by
  rw [k0_part2_eq_skeleton]; unfold k0_part2_skel
  iintro ⟨HT, HK, HV⟩ Hk
  iapply (start_step c (b := 0) hT 1 (by decide) (off9_eq _) off11_eq off10_eq (Nat.zero_le _)) $$ HV; iintro HV
  iapply (ld_step c 0 2 off12_eq (by decide) (by decide)) $$ HT; iintro HT
  iapply (assume_step c (chk3 _ _ (hT (ix1 (tix 0 2)))))
  iapply (start_step c (b := 0) hT 2 (by decide) (off14_eq _) off13_eq off10_eq (Nat.zero_le _)) $$ HK; iintro HK
  iapply (start_step c (b := 0) hT 2 (by decide) (off14_eq _) off16_eq off15_eq (Nat.zero_le _)) $$ HV; iintro HV
  iapply (ld_step c 0 3 off17_eq (by decide) (by decide)) $$ HT; iintro HT
  iapply (assume_step c (chk4 _ _ (hT (ix1 (tix 0 3)))))
  iapply (pure_step c _)
  iapply Hk
  isplitl [HT]; · iexact HT
  isplitl [HK]; · iexact HK
  iexact HV

theorem part3_run {v0 : BitVec 32} (hv : v0.toNat ≤ 65532)
    (hT : ∀ i : S512.Idx, BitVec.toNat (w := 32) (arg1.view.read (Elt F) fT i) < 512) (c0_i32_5 : BitVec 32) (k0_h1 : k0_cond1 v0 = 1#1) (k0_hw4 : k0_chk4 v0 (wd (arg1.view.read (Elt F) fT) 0 3))
    {Q : (Σ' (v700 : BitVec 32), BitVec 32) → sProp 𝕄} :
    iprop((arg1.view.loc (c : Thread nD τ) ↦[arg1.view.set]{fullShare} fT)
      ∗ FlB c arg12 arg7 arg17 fA7 (arg1.view.read (Elt F) fT) 0 3 0
      ∗ FlB c arg13 arg8 arg18 fA8 (arg1.view.read (Elt F) fT) 0 3 0)
      ⊢ iprop((∀ r, iprop((arg1.view.loc (c : Thread nD τ) ↦[arg1.view.set]{fullShare} fT)
      ∗ FlB c arg12 arg7 arg17 fA7 (arg1.view.read (Elt F) fT) 0 5 0
      ∗ FlB c arg13 arg8 arg18 fA8 (arg1.view.read (Elt F) fT) 0 5 0) -∗ Q r)
      -∗ wp frame (wpE (defs₀ (F := F)) Variants.none (c : Thread nD τ) none) Set.univ (k0_part3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c0_i32_5 k0_h1 (wd (arg1.view.read (Elt F) fT) 0 3) k0_hw4) Q) := by
  rw [k0_part3_eq_skeleton]; unfold k0_part3_skel
  iintro ⟨HT, HK, HV⟩ Hk
  iapply (start_step c (b := 0) hT 3 (by decide) (off19_eq _) off18_eq off15_eq (Nat.zero_le _)) $$ HK; iintro HK
  iapply (start_step c (b := 0) hT 3 (by decide) (off19_eq _) off21_eq off20_eq (Nat.zero_le _)) $$ HV; iintro HV
  iapply (ld_step c 0 4 off22_eq (by decide) (by decide)) $$ HT; iintro HT
  iapply (assume_step c (chk5 _ _ (hT (ix1 (tix 0 4)))))
  iapply (start_step c (b := 0) hT 4 (by decide) (off24_eq _) off23_eq off20_eq (Nat.zero_le _)) $$ HK; iintro HK
  iapply (start_step c (b := 0) hT 4 (by decide) (off24_eq _) off26_eq off25_eq (Nat.zero_le _)) $$ HV; iintro HV
  iapply (pure_step c _)
  iapply Hk
  isplitl [HT]; · iexact HT
  isplitl [HK]; · iexact HK
  iexact HV

theorem part4_run {v0 : BitVec 32} (hv : v0.toNat ≤ 65532)
    (hT : ∀ i : S512.Idx, BitVec.toNat (w := 32) (arg1.view.read (Elt F) fT i) < 512) (c0_i32_5 : BitVec 32) (k0_h1 : k0_cond1 v0 = 1#1) (v700 : BitVec 32) (c5_i32_462 : BitVec 32)
    {Q : (Σ' (v719 : Elt F .i32), k0_chk7 v0 v719) → sProp 𝕄} :
    iprop((arg1.view.loc (c : Thread nD τ) ↦[arg1.view.set]{fullShare} fT)
      ∗ FlB c arg12 arg7 arg17 fA7 (arg1.view.read (Elt F) fT) 0 5 0
      ∗ FlB c arg13 arg8 arg18 fA8 (arg1.view.read (Elt F) fT) 0 5 0)
      ⊢ iprop((∀ h, iprop((arg1.view.loc (c : Thread nD τ) ↦[arg1.view.set]{fullShare} fT)
      ∗ FlB c arg12 arg7 arg17 fA7 (arg1.view.read (Elt F) fT) 0 7 0
      ∗ FlB c arg13 arg8 arg18 fA8 (arg1.view.read (Elt F) fT) 0 6 0) -∗ Q ⟨wd (arg1.view.read (Elt F) fT) 0 6, h⟩)
      -∗ wp frame (wpE (defs₀ (F := F)) Variants.none (c : Thread nD τ) none) Set.univ (k0_part4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c0_i32_5 k0_h1 v700 c5_i32_462) Q) := by
  rw [k0_part4_eq_skeleton]; unfold k0_part4_skel
  iintro ⟨HT, HK, HV⟩ Hk
  iapply (ld_step c 0 5 off27_eq (by decide) (by decide)) $$ HT; iintro HT
  iapply (assume_step c (chk6 _ _ (hT (ix1 (tix 0 5)))))
  iapply (start_step c (b := 0) hT 5 (by decide) (off29_eq _) off28_eq off25_eq (Nat.zero_le _)) $$ HK; iintro HK
  iapply (start_step c (b := 0) hT 5 (by decide) (off29_eq _) off31_eq off30_eq (Nat.zero_le _)) $$ HV; iintro HV
  iapply (ld_step c 0 6 off32_eq (by decide) (by decide)) $$ HT; iintro HT
  iapply (assume_step c (chk7 _ _ (hT (ix1 (tix 0 6)))))
  iapply (start_step c (b := 0) hT 6 (by decide) (off34_eq _) off33_eq off30_eq (Nat.zero_le _)) $$ HK; iintro HK
  iapply (pure_step c _)
  iapply Hk
  isplitl [HT]; · iexact HT
  isplitl [HK]; · iexact HK
  iexact HV

theorem part5_run {v0 : BitVec 32} (hv : v0.toNat ≤ 65532)
    (hT : ∀ i : S512.Idx, BitVec.toNat (w := 32) (arg1.view.read (Elt F) fT i) < 512) (c1_i32_8 : BitVec 32) (k0_h2 : k0_cond2 v0 = 1#1)
    {Q : (Σ' (v639 : Elt F .i32), k0_chk10 v0 v639) → sProp 𝕄} :
    iprop((arg1.view.loc (c : Thread nD τ) ↦[arg1.view.set]{fullShare} fT)
      ∗ FlB c arg12 arg7 arg17 fA7 (arg1.view.read (Elt F) fT) 1 0 0
      ∗ FlB c arg13 arg8 arg18 fA8 (arg1.view.read (Elt F) fT) 1 0 0)
      ⊢ iprop((∀ h, iprop((arg1.view.loc (c : Thread nD τ) ↦[arg1.view.set]{fullShare} fT)
      ∗ FlB c arg12 arg7 arg17 fA7 (arg1.view.read (Elt F) fT) 1 2 0
      ∗ FlB c arg13 arg8 arg18 fA8 (arg1.view.read (Elt F) fT) 1 1 0) -∗ Q ⟨wd (arg1.view.read (Elt F) fT) 1 1, h⟩)
      -∗ wp frame (wpE (defs₀ (F := F)) Variants.none (c : Thread nD τ) none) Set.univ (k0_part5 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c1_i32_8 k0_h2) Q) := by
  rw [k0_part5_eq_skeleton]; unfold k0_part5_skel
  iintro ⟨HT, HK, HV⟩ Hk
  iapply (ld_step c 1 0 off42_eq (by decide) (by decide)) $$ HT; iintro HT
  iapply (assume_step c (chk9 _ _ (hT (ix1 (tix 1 0)))))
  iapply (start_step c (b := 1) hT 0 (by decide) (off45_eq _) off44_eq off43_eq (Nat.zero_le _)) $$ HK; iintro HK
  iapply (start_step c (b := 1) hT 0 (by decide) (off45_eq _) off47_eq off46_eq (Nat.zero_le _)) $$ HV; iintro HV
  iapply (ld_step c 1 1 off48_eq (by decide) (by decide)) $$ HT; iintro HT
  iapply (assume_step c (chk10 _ _ (hT (ix1 (tix 1 1)))))
  iapply (start_step c (b := 1) hT 1 (by decide) (off50_eq _) off49_eq off46_eq (Nat.zero_le _)) $$ HK; iintro HK
  iapply (pure_step c _)
  iapply Hk
  isplitl [HT]; · iexact HT
  isplitl [HK]; · iexact HK
  iexact HV

theorem part6_run {v0 : BitVec 32} (hv : v0.toNat ≤ 65532)
    (hT : ∀ i : S512.Idx, BitVec.toNat (w := 32) (arg1.view.read (Elt F) fT i) < 512) (c1_i32_8 : BitVec 32) (k0_h2 : k0_cond2 v0 = 1#1) (k0_hw10 : k0_chk10 v0 (wd (arg1.view.read (Elt F) fT) 1 1))
    {Q : (Σ' (v671 : Elt F .i32), k0_chk12 v0 v671) → sProp 𝕄} :
    iprop((arg1.view.loc (c : Thread nD τ) ↦[arg1.view.set]{fullShare} fT)
      ∗ FlB c arg12 arg7 arg17 fA7 (arg1.view.read (Elt F) fT) 1 2 0
      ∗ FlB c arg13 arg8 arg18 fA8 (arg1.view.read (Elt F) fT) 1 1 0)
      ⊢ iprop((∀ h, iprop((arg1.view.loc (c : Thread nD τ) ↦[arg1.view.set]{fullShare} fT)
      ∗ FlB c arg12 arg7 arg17 fA7 (arg1.view.read (Elt F) fT) 1 3 0
      ∗ FlB c arg13 arg8 arg18 fA8 (arg1.view.read (Elt F) fT) 1 3 0) -∗ Q ⟨wd (arg1.view.read (Elt F) fT) 1 3, h⟩)
      -∗ wp frame (wpE (defs₀ (F := F)) Variants.none (c : Thread nD τ) none) Set.univ (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c1_i32_8 k0_h2 (wd (arg1.view.read (Elt F) fT) 1 1) k0_hw10) Q) := by
  rw [k0_part6_eq_skeleton]; unfold k0_part6_skel
  iintro ⟨HT, HK, HV⟩ Hk
  iapply (start_step c (b := 1) hT 1 (by decide) (off50_eq _) off52_eq off51_eq (Nat.zero_le _)) $$ HV; iintro HV
  iapply (ld_step c 1 2 off53_eq (by decide) (by decide)) $$ HT; iintro HT
  iapply (assume_step c (chk11 _ _ (hT (ix1 (tix 1 2)))))
  iapply (start_step c (b := 1) hT 2 (by decide) (off55_eq _) off54_eq off51_eq (Nat.zero_le _)) $$ HK; iintro HK
  iapply (start_step c (b := 1) hT 2 (by decide) (off55_eq _) off57_eq off56_eq (Nat.zero_le _)) $$ HV; iintro HV
  iapply (ld_step c 1 3 off58_eq (by decide) (by decide)) $$ HT; iintro HT
  iapply (assume_step c (chk12 _ _ (hT (ix1 (tix 1 3)))))
  iapply (pure_step c _)
  iapply Hk
  isplitl [HT]; · iexact HT
  isplitl [HK]; · iexact HK
  iexact HV

theorem part7_run {v0 : BitVec 32} (hv : v0.toNat ≤ 65532)
    (hT : ∀ i : S512.Idx, BitVec.toNat (w := 32) (arg1.view.read (Elt F) fT i) < 512) (c1_i32_8 : BitVec 32) (k0_h2 : k0_cond2 v0 = 1#1) (k0_hw12 : k0_chk12 v0 (wd (arg1.view.read (Elt F) fT) 1 3))
    {Q : (Σ' (v700 : BitVec 32), BitVec 32) → sProp 𝕄} :
    iprop((arg1.view.loc (c : Thread nD τ) ↦[arg1.view.set]{fullShare} fT)
      ∗ FlB c arg12 arg7 arg17 fA7 (arg1.view.read (Elt F) fT) 1 3 0
      ∗ FlB c arg13 arg8 arg18 fA8 (arg1.view.read (Elt F) fT) 1 3 0)
      ⊢ iprop((∀ r, iprop((arg1.view.loc (c : Thread nD τ) ↦[arg1.view.set]{fullShare} fT)
      ∗ FlB c arg12 arg7 arg17 fA7 (arg1.view.read (Elt F) fT) 1 5 0
      ∗ FlB c arg13 arg8 arg18 fA8 (arg1.view.read (Elt F) fT) 1 5 0) -∗ Q r)
      -∗ wp frame (wpE (defs₀ (F := F)) Variants.none (c : Thread nD τ) none) Set.univ (k0_part7 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c1_i32_8 k0_h2 (wd (arg1.view.read (Elt F) fT) 1 3) k0_hw12) Q) := by
  rw [k0_part7_eq_skeleton]; unfold k0_part7_skel
  iintro ⟨HT, HK, HV⟩ Hk
  iapply (start_step c (b := 1) hT 3 (by decide) (off60_eq _) off59_eq off56_eq (Nat.zero_le _)) $$ HK; iintro HK
  iapply (start_step c (b := 1) hT 3 (by decide) (off60_eq _) off62_eq off61_eq (Nat.zero_le _)) $$ HV; iintro HV
  iapply (ld_step c 1 4 off63_eq (by decide) (by decide)) $$ HT; iintro HT
  iapply (assume_step c (chk13 _ _ (hT (ix1 (tix 1 4)))))
  iapply (start_step c (b := 1) hT 4 (by decide) (off65_eq _) off64_eq off61_eq (Nat.zero_le _)) $$ HK; iintro HK
  iapply (start_step c (b := 1) hT 4 (by decide) (off65_eq _) off67_eq off66_eq (Nat.zero_le _)) $$ HV; iintro HV
  iapply (pure_step c _)
  iapply Hk
  isplitl [HT]; · iexact HT
  isplitl [HK]; · iexact HK
  iexact HV

theorem part8_run {v0 : BitVec 32} (hv : v0.toNat ≤ 65532)
    (hT : ∀ i : S512.Idx, BitVec.toNat (w := 32) (arg1.view.read (Elt F) fT i) < 512) (c1_i32_8 : BitVec 32) (k0_h2 : k0_cond2 v0 = 1#1) (v700 : BitVec 32) (c5_i32_462 : BitVec 32)
    {Q : (Σ' (v719 : Elt F .i32), k0_chk15 v0 v719) → sProp 𝕄} :
    iprop((arg1.view.loc (c : Thread nD τ) ↦[arg1.view.set]{fullShare} fT)
      ∗ FlB c arg12 arg7 arg17 fA7 (arg1.view.read (Elt F) fT) 1 5 0
      ∗ FlB c arg13 arg8 arg18 fA8 (arg1.view.read (Elt F) fT) 1 5 0)
      ⊢ iprop((∀ h, iprop((arg1.view.loc (c : Thread nD τ) ↦[arg1.view.set]{fullShare} fT)
      ∗ FlB c arg12 arg7 arg17 fA7 (arg1.view.read (Elt F) fT) 1 7 0
      ∗ FlB c arg13 arg8 arg18 fA8 (arg1.view.read (Elt F) fT) 1 6 0) -∗ Q ⟨wd (arg1.view.read (Elt F) fT) 1 6, h⟩)
      -∗ wp frame (wpE (defs₀ (F := F)) Variants.none (c : Thread nD τ) none) Set.univ (k0_part8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c1_i32_8 k0_h2 v700 c5_i32_462) Q) := by
  rw [k0_part8_eq_skeleton]; unfold k0_part8_skel
  iintro ⟨HT, HK, HV⟩ Hk
  iapply (ld_step c 1 5 off68_eq (by decide) (by decide)) $$ HT; iintro HT
  iapply (assume_step c (chk14 _ _ (hT (ix1 (tix 1 5)))))
  iapply (start_step c (b := 1) hT 5 (by decide) (off70_eq _) off69_eq off66_eq (Nat.zero_le _)) $$ HK; iintro HK
  iapply (start_step c (b := 1) hT 5 (by decide) (off70_eq _) off72_eq off71_eq (Nat.zero_le _)) $$ HV; iintro HV
  iapply (ld_step c 1 6 off73_eq (by decide) (by decide)) $$ HT; iintro HT
  iapply (assume_step c (chk15 _ _ (hT (ix1 (tix 1 6)))))
  iapply (start_step c (b := 1) hT 6 (by decide) (off75_eq _) off74_eq off71_eq (Nat.zero_le _)) $$ HK; iintro HK
  iapply (pure_step c _)
  iapply Hk
  isplitl [HT]; · iexact HT
  isplitl [HK]; · iexact HK
  iexact HV

theorem part9_run {v0 : BitVec 32} (hv : v0.toNat ≤ 65532)
    (hT : ∀ i : S512.Idx, BitVec.toNat (w := 32) (arg1.view.read (Elt F) fT i) < 512) (c2_i32_10 : BitVec 32) (k0_h3 : k0_cond3 v0 = 1#1)
    {Q : (Σ' (v639 : Elt F .i32), k0_chk18 v0 v639) → sProp 𝕄} :
    iprop((arg1.view.loc (c : Thread nD τ) ↦[arg1.view.set]{fullShare} fT)
      ∗ FlB c arg12 arg7 arg17 fA7 (arg1.view.read (Elt F) fT) 2 0 0
      ∗ FlB c arg13 arg8 arg18 fA8 (arg1.view.read (Elt F) fT) 2 0 0)
      ⊢ iprop((∀ h, iprop((arg1.view.loc (c : Thread nD τ) ↦[arg1.view.set]{fullShare} fT)
      ∗ FlB c arg12 arg7 arg17 fA7 (arg1.view.read (Elt F) fT) 2 2 0
      ∗ FlB c arg13 arg8 arg18 fA8 (arg1.view.read (Elt F) fT) 2 1 0) -∗ Q ⟨wd (arg1.view.read (Elt F) fT) 2 1, h⟩)
      -∗ wp frame (wpE (defs₀ (F := F)) Variants.none (c : Thread nD τ) none) Set.univ (k0_part9 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c2_i32_10 k0_h3) Q) := by
  rw [k0_part9_eq_skeleton]; unfold k0_part9_skel
  iintro ⟨HT, HK, HV⟩ Hk
  iapply (ld_step c 2 0 off83_eq (by decide) (by decide)) $$ HT; iintro HT
  iapply (assume_step c (chk17 _ _ (hT (ix1 (tix 2 0)))))
  iapply (start_step c (b := 2) hT 0 (by decide) (off86_eq _) off85_eq off84_eq (Nat.zero_le _)) $$ HK; iintro HK
  iapply (start_step c (b := 2) hT 0 (by decide) (off86_eq _) off88_eq off87_eq (Nat.zero_le _)) $$ HV; iintro HV
  iapply (ld_step c 2 1 off89_eq (by decide) (by decide)) $$ HT; iintro HT
  iapply (assume_step c (chk18 _ _ (hT (ix1 (tix 2 1)))))
  iapply (start_step c (b := 2) hT 1 (by decide) (off91_eq _) off90_eq off87_eq (Nat.zero_le _)) $$ HK; iintro HK
  iapply (pure_step c _)
  iapply Hk
  isplitl [HT]; · iexact HT
  isplitl [HK]; · iexact HK
  iexact HV

theorem part10_run {v0 : BitVec 32} (hv : v0.toNat ≤ 65532)
    (hT : ∀ i : S512.Idx, BitVec.toNat (w := 32) (arg1.view.read (Elt F) fT i) < 512) (c2_i32_10 : BitVec 32) (k0_h3 : k0_cond3 v0 = 1#1) (k0_hw18 : k0_chk18 v0 (wd (arg1.view.read (Elt F) fT) 2 1))
    {Q : (Σ' (v671 : Elt F .i32), k0_chk20 v0 v671) → sProp 𝕄} :
    iprop((arg1.view.loc (c : Thread nD τ) ↦[arg1.view.set]{fullShare} fT)
      ∗ FlB c arg12 arg7 arg17 fA7 (arg1.view.read (Elt F) fT) 2 2 0
      ∗ FlB c arg13 arg8 arg18 fA8 (arg1.view.read (Elt F) fT) 2 1 0)
      ⊢ iprop((∀ h, iprop((arg1.view.loc (c : Thread nD τ) ↦[arg1.view.set]{fullShare} fT)
      ∗ FlB c arg12 arg7 arg17 fA7 (arg1.view.read (Elt F) fT) 2 3 0
      ∗ FlB c arg13 arg8 arg18 fA8 (arg1.view.read (Elt F) fT) 2 3 0) -∗ Q ⟨wd (arg1.view.read (Elt F) fT) 2 3, h⟩)
      -∗ wp frame (wpE (defs₀ (F := F)) Variants.none (c : Thread nD τ) none) Set.univ (k0_part10 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c2_i32_10 k0_h3 (wd (arg1.view.read (Elt F) fT) 2 1) k0_hw18) Q) := by
  rw [k0_part10_eq_skeleton]; unfold k0_part10_skel
  iintro ⟨HT, HK, HV⟩ Hk
  iapply (start_step c (b := 2) hT 1 (by decide) (off91_eq _) off93_eq off92_eq (Nat.zero_le _)) $$ HV; iintro HV
  iapply (ld_step c 2 2 off94_eq (by decide) (by decide)) $$ HT; iintro HT
  iapply (assume_step c (chk19 _ _ (hT (ix1 (tix 2 2)))))
  iapply (start_step c (b := 2) hT 2 (by decide) (off96_eq _) off95_eq off92_eq (Nat.zero_le _)) $$ HK; iintro HK
  iapply (start_step c (b := 2) hT 2 (by decide) (off96_eq _) off98_eq off97_eq (Nat.zero_le _)) $$ HV; iintro HV
  iapply (ld_step c 2 3 off99_eq (by decide) (by decide)) $$ HT; iintro HT
  iapply (assume_step c (chk20 _ _ (hT (ix1 (tix 2 3)))))
  iapply (pure_step c _)
  iapply Hk
  isplitl [HT]; · iexact HT
  isplitl [HK]; · iexact HK
  iexact HV

theorem part11_run {v0 : BitVec 32} (hv : v0.toNat ≤ 65532)
    (hT : ∀ i : S512.Idx, BitVec.toNat (w := 32) (arg1.view.read (Elt F) fT i) < 512) (c2_i32_10 : BitVec 32) (k0_h3 : k0_cond3 v0 = 1#1) (k0_hw20 : k0_chk20 v0 (wd (arg1.view.read (Elt F) fT) 2 3))
    {Q : (Σ' (v700 : BitVec 32), BitVec 32) → sProp 𝕄} :
    iprop((arg1.view.loc (c : Thread nD τ) ↦[arg1.view.set]{fullShare} fT)
      ∗ FlB c arg12 arg7 arg17 fA7 (arg1.view.read (Elt F) fT) 2 3 0
      ∗ FlB c arg13 arg8 arg18 fA8 (arg1.view.read (Elt F) fT) 2 3 0)
      ⊢ iprop((∀ r, iprop((arg1.view.loc (c : Thread nD τ) ↦[arg1.view.set]{fullShare} fT)
      ∗ FlB c arg12 arg7 arg17 fA7 (arg1.view.read (Elt F) fT) 2 5 0
      ∗ FlB c arg13 arg8 arg18 fA8 (arg1.view.read (Elt F) fT) 2 5 0) -∗ Q r)
      -∗ wp frame (wpE (defs₀ (F := F)) Variants.none (c : Thread nD τ) none) Set.univ (k0_part11 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c2_i32_10 k0_h3 (wd (arg1.view.read (Elt F) fT) 2 3) k0_hw20) Q) := by
  rw [k0_part11_eq_skeleton]; unfold k0_part11_skel
  iintro ⟨HT, HK, HV⟩ Hk
  iapply (start_step c (b := 2) hT 3 (by decide) (off101_eq _) off100_eq off97_eq (Nat.zero_le _)) $$ HK; iintro HK
  iapply (start_step c (b := 2) hT 3 (by decide) (off101_eq _) off103_eq off102_eq (Nat.zero_le _)) $$ HV; iintro HV
  iapply (ld_step c 2 4 off104_eq (by decide) (by decide)) $$ HT; iintro HT
  iapply (assume_step c (chk21 _ _ (hT (ix1 (tix 2 4)))))
  iapply (start_step c (b := 2) hT 4 (by decide) (off106_eq _) off105_eq off102_eq (Nat.zero_le _)) $$ HK; iintro HK
  iapply (start_step c (b := 2) hT 4 (by decide) (off106_eq _) off108_eq off107_eq (Nat.zero_le _)) $$ HV; iintro HV
  iapply (pure_step c _)
  iapply Hk
  isplitl [HT]; · iexact HT
  isplitl [HK]; · iexact HK
  iexact HV

theorem part12_run {v0 : BitVec 32} (hv : v0.toNat ≤ 65532)
    (hT : ∀ i : S512.Idx, BitVec.toNat (w := 32) (arg1.view.read (Elt F) fT i) < 512) (c2_i32_10 : BitVec 32) (k0_h3 : k0_cond3 v0 = 1#1) (v700 : BitVec 32) (c5_i32_462 : BitVec 32)
    {Q : (Σ' (v719 : Elt F .i32), k0_chk23 v0 v719) → sProp 𝕄} :
    iprop((arg1.view.loc (c : Thread nD τ) ↦[arg1.view.set]{fullShare} fT)
      ∗ FlB c arg12 arg7 arg17 fA7 (arg1.view.read (Elt F) fT) 2 5 0
      ∗ FlB c arg13 arg8 arg18 fA8 (arg1.view.read (Elt F) fT) 2 5 0)
      ⊢ iprop((∀ h, iprop((arg1.view.loc (c : Thread nD τ) ↦[arg1.view.set]{fullShare} fT)
      ∗ FlB c arg12 arg7 arg17 fA7 (arg1.view.read (Elt F) fT) 2 7 0
      ∗ FlB c arg13 arg8 arg18 fA8 (arg1.view.read (Elt F) fT) 2 6 0) -∗ Q ⟨wd (arg1.view.read (Elt F) fT) 2 6, h⟩)
      -∗ wp frame (wpE (defs₀ (F := F)) Variants.none (c : Thread nD τ) none) Set.univ (k0_part12 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v0 c2_i32_10 k0_h3 v700 c5_i32_462) Q) := by
  rw [k0_part12_eq_skeleton]; unfold k0_part12_skel
  iintro ⟨HT, HK, HV⟩ Hk
  iapply (ld_step c 2 5 off109_eq (by decide) (by decide)) $$ HT; iintro HT
  iapply (assume_step c (chk22 _ _ (hT (ix1 (tix 2 5)))))
  iapply (start_step c (b := 2) hT 5 (by decide) (off111_eq _) off110_eq off107_eq (Nat.zero_le _)) $$ HK; iintro HK
  iapply (start_step c (b := 2) hT 5 (by decide) (off111_eq _) off113_eq off112_eq (Nat.zero_le _)) $$ HV; iintro HV
  iapply (ld_step c 2 6 off114_eq (by decide) (by decide)) $$ HT; iintro HT
  iapply (assume_step c (chk23 _ _ (hT (ix1 (tix 2 6)))))
  iapply (start_step c (b := 2) hT 6 (by decide) (off116_eq _) off115_eq off112_eq (Nat.zero_le _)) $$ HK; iintro HK
  iapply (pure_step c _)
  iapply Hk
  isplitl [HT]; · iexact HT
  isplitl [HK]; · iexact HK
  iexact HV

end

end Cert.Kernel.Hand
-- ==== Proof.Body.lean ====
/-
  The first starts, and the whole body.
-/
module

public import proofs.«01_k».proof.Proof.Tail
public import proofs.«01_k».proof.Proof.Starts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx

variable {F : FTy → Type} [FloatOps F]

local notation "𝕄" => MT nD τ sig Unit (Elt F) ℕ (Pipeline.UD sig nD τ) ℕ

section

variable (c : Dev nD) (arg0 : Memref sig .tc .smem S1 .i32) (harg0 : arg0.IsWhole) (arg1 : Memref sig .tc .smem S512 .i32) (harg1 : arg1.IsWhole) (arg2 : Memref sig .tc .smem S2 .f32) (harg2 : arg2.IsWhole) (arg3 : Memref sig .tc .smem S2 .f32) (harg3 : arg3.IsWhole) (arg4 : Memref sig .tc .vmem S128x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .hbm S512x2x128x256 .fp8e4m3) (harg7 : arg7.IsWhole) (arg8 : Memref sig .tc .hbm S512x2x128x256 .fp8e4m3) (harg8 : arg8.IsWhole) (arg9 : Memref sig .tc .vmem S128x256 .bf16) (harg9 : arg9.IsWhole) (arg10 : Memref sig .tc .vmem S8x256 .fp8e4m3) (harg10 : arg10.IsWhole) (arg11 : Memref sig .tc .vmem S8x256 .fp8e4m3) (harg11 : arg11.IsWhole) (arg12 : Memref sig .tc .vmem S4x8x2x128x256 .fp8e4m3) (harg12 : arg12.IsWhole) (arg13 : Memref sig .tc .vmem S4x8x2x128x256 .fp8e4m3) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x256 .f32) (harg16 : arg16.IsWhole) (arg17 : DmaSems sig S4) (arg18 : DmaSems sig S4)
  {fT : Buf (Elt F) (arg1.view.loc (c : Thread nD τ))}
  {fA7 : Buf (Elt F) (arg7.view.loc (c : Thread nD τ))} {fA8 : Buf (Elt F) (arg8.view.loc (c : Thread nD τ))}

theorem part37_run {g0 : S1.Idx → BitVec 32} (hv : (g0 (ix1 0)).toNat ≤ 65532)
    (hT : ∀ i : S512.Idx, BitVec.toNat (w := 32) (arg1.view.read (Elt F) fT i) < 512)
    {Q : (Σ' (v0 : Elt F .i32) (k0_hw25 : k0_chk25 v0) (v17 : BitVec 32) (v29 : BitVec 32) (v31 : IVec S8x1 32) (v33 : IVec S8x1 1), BitVec 32) → sProp 𝕄} :
    iprop(Own c arg0 g0
      ∗ (arg1.view.loc (c : Thread nD τ) ↦[arg1.view.set]{fullShare} fT)
      ∗ Free c arg12 arg7 arg17 fA7 tk (sl 0)
      ∗ Free c arg13 arg8 arg18 fA8 tk (sl 0)
      ∗ Free c arg12 arg7 arg17 fA7 tk (sl 1)
      ∗ Free c arg13 arg8 arg18 fA8 tk (sl 1)
      ∗ Free c arg12 arg7 arg17 fA7 tk (sl 2)
      ∗ Free c arg13 arg8 arg18 fA8 tk (sl 2))
      ⊢ iprop((∀ h, iprop(Own c arg0 g0
      ∗ (arg1.view.loc (c : Thread nD τ) ↦[arg1.view.set]{fullShare} fT)
      ∗ Pd c arg12 arg7 arg17 fA7 (arg1.view.read (Elt F) fT) (NF (g0 (ix1 0))) 0
      ∗ Pd c arg13 arg8 arg18 fA8 (arg1.view.read (Elt F) fT) (NF (g0 (ix1 0))) 0
      ∗ Pd c arg12 arg7 arg17 fA7 (arg1.view.read (Elt F) fT) (NF (g0 (ix1 0))) 1
      ∗ Pd c arg13 arg8 arg18 fA8 (arg1.view.read (Elt F) fT) (NF (g0 (ix1 0))) 1
      ∗ Pd c arg12 arg7 arg17 fA7 (arg1.view.read (Elt F) fT) (NF (g0 (ix1 0))) 2
      ∗ Pd c arg13 arg8 arg18 fA8 (arg1.view.read (Elt F) fT) (NF (g0 (ix1 0))) 2) -∗ Q ⟨(g0 (ix1 0)), h, v17 (g0 (ix1 0)), Scalar.select (Scalar.cmpi .eq 2#32 0#32) 1#32 2#32, k0_pay39, k0_pay40, 0#32⟩)
      -∗ wp frame (wpE (defs₀ (F := F)) Variants.none (c : Thread nD τ) none) Set.univ (k0_part37 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) Q) := by
  rw [k0_part37_eq_skeleton]; unfold k0_part37_skel v17
  iintro ⟨H0, HT, FK0, FV0, FK1, FV1, FK2, FV2⟩ Hk
  iapply (sm_own c 0 rfl) $$ H0; iintro H0
  iapply (assume_step c (chk25 hv))
  have h0 : k0_cond1 (g0 (ix1 0)) = 1#1 := (cond1_eq hv).2 (Nat.zero_le _)
  iapply (dite_yes c h0)
  imod (free_open c arg12 arg7 arg17 fA7 tk (sl 0) (pgs (arg1.view.read (Elt F) fT) 0)) $$ FK0 with HK
  imod (free_open c arg13 arg8 arg18 fA8 tk (sl 0) (pgs (arg1.view.read (Elt F) fT) 0)) $$ FV0 with HV
  iapply (bind_step c)
  iapply (part1_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _) $$ [HT HK HV]
  · isplitl [HT]; · iexact HT
    isplitl [HK]; · iexact HK
    iexact HV
  iintro %h ⟨HT, HK, HV⟩
  iapply (bind_step c)
  iapply (part2_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
  · isplitl [HT]; · iexact HT
    isplitl [HK]; · iexact HK
    iexact HV
  iintro %h ⟨HT, HK, HV⟩
  iapply (bind_step c)
  iapply (part3_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
  · isplitl [HT]; · iexact HT
    isplitl [HK]; · iexact HK
    iexact HV
  iintro %r ⟨HT, HK, HV⟩
  iapply (bind_step c)
  iapply (part4_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _ _) $$ [HT HK HV]
  · isplitl [HT]; · iexact HT
    isplitl [HK]; · iexact HK
    iexact HV
  iintro %h ⟨HT, HK, HV⟩
  iapply (start_step c (b := 0) hT 6 (by decide) (off34_eq _) off36_eq off35_eq (Nat.zero_le _)) $$ HV; iintro HV
  iapply (ld_step c 0 7 off37_eq (by decide) (by decide)) $$ HT; iintro HT
  iapply (assume_step c (chk8 _ _ (hT (ix1 (tix 0 7)))))
  iapply (start_step c (b := 0) hT 7 (by decide) (off39_eq _) off38_eq off35_eq (Nat.zero_le _)) $$ HK; iintro HK
  iapply (start_step c (b := 0) hT 7 (by decide) (off39_eq _) off41_eq off40_eq (Nat.zero_le _)) $$ HV; iintro HV
  ihave FK0 := (pd_of_fl (n := NF (g0 (ix1 0))) c ((cond1_eq hv).1 h0)) $$ HK
  ihave FV0 := (pd_of_fl (n := NF (g0 (ix1 0))) c ((cond1_eq hv).1 h0)) $$ HV
  by_cases h1 : k0_cond2 (g0 (ix1 0)) = 1#1
  · iapply (dite_yes c h1)
    imod (free_open c arg12 arg7 arg17 fA7 tk (sl 1) (pgs (arg1.view.read (Elt F) fT) 1)) $$ FK1 with HK
    imod (free_open c arg13 arg8 arg18 fA8 tk (sl 1) (pgs (arg1.view.read (Elt F) fT) 1)) $$ FV1 with HV
    iapply (bind_step c)
    iapply (part5_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _) $$ [HT HK HV]
    · isplitl [HT]; · iexact HT
      isplitl [HK]; · iexact HK
      iexact HV
    iintro %h ⟨HT, HK, HV⟩
    iapply (bind_step c)
    iapply (part6_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
    · isplitl [HT]; · iexact HT
      isplitl [HK]; · iexact HK
      iexact HV
    iintro %h ⟨HT, HK, HV⟩
    iapply (bind_step c)
    iapply (part7_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
    · isplitl [HT]; · iexact HT
      isplitl [HK]; · iexact HK
      iexact HV
    iintro %r ⟨HT, HK, HV⟩
    iapply (bind_step c)
    iapply (part8_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _ _) $$ [HT HK HV]
    · isplitl [HT]; · iexact HT
      isplitl [HK]; · iexact HK
      iexact HV
    iintro %h ⟨HT, HK, HV⟩
    iapply (start_step c (b := 1) hT 6 (by decide) (off75_eq _) off77_eq off76_eq (Nat.zero_le _)) $$ HV; iintro HV
    iapply (ld_step c 1 7 off78_eq (by decide) (by decide)) $$ HT; iintro HT
    iapply (assume_step c (chk16 _ _ (hT (ix1 (tix 1 7)))))
    iapply (start_step c (b := 1) hT 7 (by decide) (off80_eq _) off79_eq off76_eq (Nat.zero_le _)) $$ HK; iintro HK
    iapply (start_step c (b := 1) hT 7 (by decide) (off80_eq _) off82_eq off81_eq (Nat.zero_le _)) $$ HV; iintro HV
    ihave FK1 := (pd_of_fl (n := NF (g0 (ix1 0))) c ((cond2_eq hv).1 h1)) $$ HK
    ihave FV1 := (pd_of_fl (n := NF (g0 (ix1 0))) c ((cond2_eq hv).1 h1)) $$ HV
    by_cases h2 : k0_cond3 (g0 (ix1 0)) = 1#1
    · iapply (dite_yes c h2)
      imod (free_open c arg12 arg7 arg17 fA7 tk (sl 2) (pgs (arg1.view.read (Elt F) fT) 2)) $$ FK2 with HK
      imod (free_open c arg13 arg8 arg18 fA8 tk (sl 2) (pgs (arg1.view.read (Elt F) fT) 2)) $$ FV2 with HV
      iapply (bind_step c)
      iapply (part9_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _) $$ [HT HK HV]
      · isplitl [HT]; · iexact HT
        isplitl [HK]; · iexact HK
        iexact HV
      iintro %h ⟨HT, HK, HV⟩
      iapply (bind_step c)
      iapply (part10_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
      · isplitl [HT]; · iexact HT
        isplitl [HK]; · iexact HK
        iexact HV
      iintro %h ⟨HT, HK, HV⟩
      iapply (bind_step c)
      iapply (part11_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV]
      · isplitl [HT]; · iexact HT
        isplitl [HK]; · iexact HK
        iexact HV
      iintro %r ⟨HT, HK, HV⟩
      iapply (bind_step c)
      iapply (part12_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _ _) $$ [HT HK HV]
      · isplitl [HT]; · iexact HT
        isplitl [HK]; · iexact HK
        iexact HV
      iintro %h ⟨HT, HK, HV⟩
      iapply (start_step c (b := 2) hT 6 (by decide) (off116_eq _) off118_eq off117_eq (Nat.zero_le _)) $$ HV; iintro HV
      iapply (ld_step c 2 7 off119_eq (by decide) (by decide)) $$ HT; iintro HT
      iapply (assume_step c (chk24 _ _ (hT (ix1 (tix 2 7)))))
      iapply (start_step c (b := 2) hT 7 (by decide) (off121_eq _) off120_eq off117_eq (Nat.zero_le _)) $$ HK; iintro HK
      iapply (start_step c (b := 2) hT 7 (by decide) (off121_eq _) off123_eq off122_eq (Nat.zero_le _)) $$ HV; iintro HV
      ihave FK2 := (pd_of_fl (n := NF (g0 (ix1 0))) c ((cond3_eq hv).1 h2)) $$ HK
      ihave FV2 := (pd_of_fl (n := NF (g0 (ix1 0))) c ((cond3_eq hv).1 h2)) $$ HV
      iapply (pure_step c _)
      iapply Hk
      isplitl [H0]; · iexact H0
      isplitl [HT]; · iexact HT
      isplitl [FK0]; · iexact FK0
      isplitl [FV0]; · iexact FV0
      isplitl [FK1]; · iexact FK1
      isplitl [FV1]; · iexact FV1
      isplitl [FK2]; · iexact FK2
      iexact FV2
    · iapply (dite_no c h2)
      ihave FK2 := (pd_of_free (n := NF (g0 (ix1 0))) c (fun h => h2 ((cond3_eq hv).2 h))) $$ FK2
      ihave FV2 := (pd_of_free (n := NF (g0 (ix1 0))) c (fun h => h2 ((cond3_eq hv).2 h))) $$ FV2
      iapply (pure_step c _)
      iapply Hk
      isplitl [H0]; · iexact H0
      isplitl [HT]; · iexact HT
      isplitl [FK0]; · iexact FK0
      isplitl [FV0]; · iexact FV0
      isplitl [FK1]; · iexact FK1
      isplitl [FV1]; · iexact FV1
      isplitl [FK2]; · iexact FK2
      iexact FV2
  · have h2 : ¬ k0_cond3 (g0 (ix1 0)) = 1#1 := fun h => h1 ((cond2_eq hv).2 (le_trans (by decide) ((cond3_eq hv).1 h)))
    iapply (dite_no c h1)
    ihave FK1 := (pd_of_free (n := NF (g0 (ix1 0))) c (fun h => h1 ((cond2_eq hv).2 h))) $$ FK1
    ihave FV1 := (pd_of_free (n := NF (g0 (ix1 0))) c (fun h => h1 ((cond2_eq hv).2 h))) $$ FV1
    iapply (dite_no c h2)
    ihave FK2 := (pd_of_free (n := NF (g0 (ix1 0))) c (fun h => h2 ((cond3_eq hv).2 h))) $$ FK2
    ihave FV2 := (pd_of_free (n := NF (g0 (ix1 0))) c (fun h => h2 ((cond3_eq hv).2 h))) $$ FV2
    iapply (pure_step c _)
    iapply Hk
    isplitl [H0]; · iexact H0
    isplitl [HT]; · iexact HT
    isplitl [FK0]; · iexact FK0
    isplitl [FV0]; · iexact FV0
    isplitl [FK1]; · iexact FK1
    isplitl [FV1]; · iexact FV1
    isplitl [FK2]; · iexact FK2
    iexact FV2

/-- The state the kernel ends with: the new tokens, then the full blocks, then the last block. -/
noncomputable def resSt (v0 : BitVec 32) (g2 g3 : S2.Idx → F .f32) (g4 : S128x256.Idx → F .bf16) (g5 g6 : S8x256.Idx → F .bf16)
    (K V : ℕ → Fin 2 → Vec F S1x8x1x128x256 .fp8e4m3) : St F :=
  finSt v0 g2 g3 g4 (K (NF v0)) (V (NF v0)) (stK g2 g3 g4 K V (newSt g2 g3 g4 g5 g6) (NF v0))

theorem body_run {g0 : S1.Idx → BitVec 32} {g2 g3 : S2.Idx → F .f32} {g4 : S128x256.Idx → F .bf16} {g5 g6 : S8x256.Idx → F .bf16} {g9 : S128x256.Idx → F .bf16} {g10 g11 : S8x256.Idx → F .fp8e4m3} {g14 g15 : S2x64x1.Idx → F .f32} {g16 : S2x64x256.Idx → F .f32} (hv : (g0 (ix1 0)).toNat ≤ 65532)
    (hT : ∀ i : S512.Idx, BitVec.toNat (w := 32) (arg1.view.read (Elt F) fT i) < 512)
    {Q : PUnit → sProp 𝕄} :
    iprop(Own c arg0 g0
      ∗ (arg1.view.loc (c : Thread nD τ) ↦[arg1.view.set]{fullShare} fT)
      ∗ Own c arg2 g2
      ∗ Own c arg3 g3
      ∗ Own c arg4 g4
      ∗ Own c arg5 g5
      ∗ Own c arg6 g6
      ∗ Own c arg9 g9
      ∗ Own c arg10 g10
      ∗ Own c arg11 g11
      ∗ Own c arg14 g14
      ∗ Own c arg15 g15
      ∗ Own c arg16 g16
      ∗ (∃ W, owes (c : Thread nD τ) 0 W)
      ∗ Free c arg12 arg7 arg17 fA7 tk 0
      ∗ Free c arg13 arg8 arg18 fA8 tk 0
      ∗ Free c arg12 arg7 arg17 fA7 tk 1
      ∗ Free c arg13 arg8 arg18 fA8 tk 1
      ∗ Free c arg12 arg7 arg17 fA7 tk 2
      ∗ Free c arg13 arg8 arg18 fA8 tk 2
      ∗ Free c arg12 arg7 arg17 fA7 tk 3
      ∗ Free c arg13 arg8 arg18 fA8 tk 3)
      ⊢ iprop((iprop(Own c arg0 g0
      ∗ (arg1.view.loc (c : Thread nD τ) ↦[arg1.view.set]{fullShare} fT)
      ∗ Own c arg2 g2
      ∗ Own c arg3 g3
      ∗ Own c arg4 g4
      ∗ Own c arg5 g5
      ∗ Own c arg6 g6
      ∗ Own c arg9 (yOver (resSt (g0 (ix1 0)) g2 g3 g4 g5 g6 (fun b h => kv (arg7.view.read (Elt F) fA7) (arg1.view.read (Elt F) fT) b h) (fun b h => kv (arg8.view.read (Elt F) fA8) (arg1.view.read (Elt F) fT) b h)) g9)
      ∗ Own c arg10 (kCodes g2 g5)
      ∗ Own c arg11 (vCodes g3 g6)
      ∗ Own c arg14 (resSt (g0 (ix1 0)) g2 g3 g4 g5 g6 (fun b h => kv (arg7.view.read (Elt F) fA7) (arg1.view.read (Elt F) fT) b h) (fun b h => kv (arg8.view.read (Elt F) fA8) (arg1.view.read (Elt F) fT) b h)).m
      ∗ Own c arg15 (resSt (g0 (ix1 0)) g2 g3 g4 g5 g6 (fun b h => kv (arg7.view.read (Elt F) fA7) (arg1.view.read (Elt F) fT) b h) (fun b h => kv (arg8.view.read (Elt F) fA8) (arg1.view.read (Elt F) fT) b h)).l
      ∗ Own c arg16 (resSt (g0 (ix1 0)) g2 g3 g4 g5 g6 (fun b h => kv (arg7.view.read (Elt F) fA7) (arg1.view.read (Elt F) fT) b h) (fun b h => kv (arg8.view.read (Elt F) fA8) (arg1.view.read (Elt F) fT) b h)).a
      ∗ (∃ W, owes (c : Thread nD τ) 0 W)
      ∗ Free c arg12 arg7 arg17 fA7 tk 0
      ∗ Free c arg13 arg8 arg18 fA8 tk 0
      ∗ Free c arg12 arg7 arg17 fA7 tk 1
      ∗ Free c arg13 arg8 arg18 fA8 tk 1
      ∗ Free c arg12 arg7 arg17 fA7 tk 2
      ∗ Free c arg13 arg8 arg18 fA8 tk 2
      ∗ Free c arg12 arg7 arg17 fA7 tk 3
      ∗ Free c arg13 arg8 arg18 fA8 tk 3) -∗ Q ⟨⟩)
      -∗ wp frame (wpE (defs₀ (F := F)) Variants.none (c : Thread nD τ) none) Set.univ (cc0_paged_fp8_gqa_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) Q) := by
  rw [cc0_paged_fp8_gqa_decode_eq_skeleton]; unfold cc0_paged_fp8_gqa_decode_skel
  iintro ⟨H0, HT, H2, H3, H4, H5, H6, H9, H10, H11, H14, H15, H16, HW, FK0, FV0, FK1, FV1, FK2, FV2, FK3, FV3⟩ Hk
  iapply (bind_step c)
  rw [k0_part54_eq_skeleton]; unfold k0_part54_skel
  iapply (bind_step c)
  iapply (part37_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT) $$ [H0 HT FK0 FV0 FK1 FV1 FK2 FV2]
  · isplitl [H0]; · iexact H0
    isplitl [HT]; · iexact HT
    isplitl [FK0]; · iexact FK0
    isplitl [FV0]; · iexact FV0
    isplitl [FK1]; · iexact FK1
    isplitl [FV1]; · iexact FV1
    isplitl [FK2]; · iexact FK2
    iexact FV2
  iintro %h25 ⟨H0, HT, FK0, FV0, FK1, FV1, FK2, FV2⟩
  iapply (bind_step c)
  iapply (part38_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _) $$ [H2 H3 H5 H6]
  · isplitl [H2]; · iexact H2
    isplitl [H3]; · iexact H3
    isplitl [H5]; · iexact H5
    iexact H6
  iintro ⟨H2, H3, H5, H6⟩
  iapply (bind_step c)
  iapply (part39_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _) $$ [H10 H11 H14]
  · isplitl [H10]; · iexact H10
    isplitl [H11]; · iexact H11
    iexact H14
  iintro ⟨H10, H11, H14⟩
  iapply (bind_step c)
  iapply (part40_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _) $$ [H4 H15 H16]
  · isplitl [H4]; · iexact H4
    isplitl [H15]; · iexact H15
    iexact H16
  iintro ⟨H4, H15, H16⟩
  iapply (bind_step c)
  iapply (part41_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _ _) $$ [H14 H15]
  · isplitl [H14]; · iexact H14
    iexact H15
  iintro ⟨H14, H15⟩
  iapply (bind_step c)
  iapply (part42_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _ _ _ _) $$ [H4 H14 H15 H16]
  · isplitl [H4]; · iexact H4
    isplitl [H14]; · iexact H14
    isplitl [H15]; · iexact H15
    iexact H16
  iintro ⟨H4, H14, H15, H16⟩
  iapply (bind_step c)
  iapply (part43_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 _ _ _ _ _ _)
  iapply (bind_step c)
  iapply (part44_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _) $$ [H14 H15 H16]
  · isplitl [H14]; · iexact H14
    isplitl [H15]; · iexact H15
    iexact H16
  iintro ⟨H14, H15, H16⟩
  iapply (bind_step c)
  iapply (part45_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 (s := (newSt g2 g3 g4 g5 g6)) hv hT _ _ _ _) $$ [HT H2 H3 H4 H14 H15 H16 HW FK0 FV0 FK1 FV1 FK2 FV2 FK3 FV3]
  · unfold LI; isplitl [HT]; · iexact HT
    isplitl [H2]; · iexact H2
    isplitl [H3]; · iexact H3
    isplitl [H4]; · iexact H4
    isplitl [H14]; · iexact H14
    isplitl [H15]; · iexact H15
    isplitl [H16]; · iexact H16
    isplitl [HW]; · iexact HW
    isplitl [FK0]; · iexact FK0
    isplitl [FV0]; · iexact FV0
    isplitl [FK1]; · iexact FK1
    isplitl [FV1]; · iexact FV1
    isplitl [FK2]; · iexact FK2
    isplitl [FV2]; · iexact FV2
    isplitl [FK3]; · iexact FK3
    iexact FV3
  iintro %h ⟨HT, H2, H3, H4, H14, H15, H16, HW, HK, HV, FK1, FV1, FK2, FV2, FK3, FV3⟩
  iapply (bind_step c)
  iapply (part46_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV HW]
  · isplitl [HT]; · iexact HT
    isplitl [HK]; · iexact HK
    isplitl [HV]; · iexact HV
    iexact HW
  iintro %h ⟨HT, HK, HV, HW⟩
  iapply (bind_step c)
  iapply (part47_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV HW]
  · isplitl [HT]; · iexact HT
    isplitl [HK]; · iexact HK
    isplitl [HV]; · iexact HV
    iexact HW
  iintro %h ⟨HT, HK, HV, HW⟩
  iapply (bind_step c)
  iapply (part48_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV HW]
  · isplitl [HT]; · iexact HT
    isplitl [HK]; · iexact HK
    isplitl [HV]; · iexact HV
    iexact HW
  iintro %h ⟨HT, HK, HV, HW⟩
  iapply (bind_step c)
  iapply (part49_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv hT _ _ _) $$ [HT HK HV HW]
  · isplitl [HT]; · iexact HT
    isplitl [HK]; · iexact HK
    isplitl [HV]; · iexact HV
    iexact HW
  iintro %r ⟨HT, HK, HV, HW⟩
  iapply (bind_step c)
  iapply (part50_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv _ _ _) $$ [H2 H3 H4 H14 HV]
  · isplitl [H2]; · iexact H2
    isplitl [H3]; · iexact H3
    isplitl [H4]; · iexact H4
    isplitl [H14]; · iexact H14
    iexact HV
  iintro ⟨H2, H3, H4, H14, HV⟩
  iapply (bind_step c)
  iapply (part51_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv _ _ _ _ _ _) $$ [H14 H15 H16 HK]
  · isplitl [H14]; · iexact H14
    isplitl [H15]; · iexact H15
    isplitl [H16]; · iexact H16
    iexact HK
  iintro ⟨H14, H15, H16, HK⟩
  iapply (bind_step c)
  iapply (part52_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 hv _ _ _) $$ [H2 H3 H4 H14 HV]
  · isplitl [H2]; · iexact H2
    isplitl [H3]; · iexact H3
    isplitl [H4]; · iexact H4
    isplitl [H14]; · iexact H14
    iexact HV
  iintro ⟨H2, H3, H4, H14, HV⟩
  iapply (bind_step c)
  iapply (part53_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18  _ _ _ _) $$ [H14 H15 H16]
  · isplitl [H14]; · iexact H14
    isplitl [H15]; · iexact H15
    iexact H16
  iintro ⟨H14, H15, H16⟩
  iapply (load_own c) $$ H9; iintro H9
  iapply (store_own c) $$ H9; iintro H9
  iapply (load_own c) $$ H9; iintro H9
  iapply (store_own c) $$ H9; iintro H9
  iapply (load_own c) $$ H9; iintro H9
  iapply (store_own c) $$ H9; iintro H9
  iapply (load_own c) $$ H9; iintro H9
  iapply (store_own c) $$ H9; iintro H9
  iapply (load_own c) $$ H16; iintro H16
  iapply (load_own c) $$ H15; iintro H15
  iapply (load_own c) $$ H9; iintro H9
  iapply (store_own c) $$ H9; iintro H9
  iapply (pure_step c _)
  iapply (load_own c) $$ H9; iintro H9
  iapply (store_own c) $$ H9; iintro H9
  iapply (load_own c) $$ H9; iintro H9
  iapply (store_own c) $$ H9; iintro H9
  iapply (load_own c) $$ H9; iintro H9
  iapply (store_own c) $$ H9; iintro H9
  iapply (pure_step c _)
  ihave HK := (landed_free c arg12 arg7 arg17 fA7 tk (sl (NF (g0 (ix1 0)))) _) $$ HK
  ihave HK := (frees_rot c (NF (g0 (ix1 0)))) $$ [HK FK1 FK2 FK3]
  · isplitl [HK]; · iexact HK
    isplitl [FK1]; · iexact FK1
    isplitl [FK2]; · iexact FK2
    iexact FK3
  icases HK with ⟨FK0, FK1, FK2, FK3⟩
  ihave HV := (landed_free c arg13 arg8 arg18 fA8 tk (sl (NF (g0 (ix1 0)))) _) $$ HV
  ihave HV := (frees_rot c (NF (g0 (ix1 0)))) $$ [HV FV1 FV2 FV3]
  · isplitl [HV]; · iexact HV
    isplitl [FV1]; · iexact FV1
    isplitl [FV2]; · iexact FV2
    iexact FV3
  icases HV with ⟨FV0, FV1, FV2, FV3⟩
  iapply Hk
  isplitl [H0]; · iexact H0
  isplitl [HT]; · iexact HT
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H14]; · iexact H14
  isplitl [H15]; · iexact H15
  isplitl [H16]; · iexact H16
  isplitl [HW]; · iexact HW
  isplitl [FK0]; · iexact FK0
  isplitl [FV0]; · iexact FV0
  isplitl [FK1]; · iexact FK1
  isplitl [FV1]; · iexact FV1
  isplitl [FK2]; · iexact FK2
  isplitl [FV2]; · iexact FV2
  isplitl [FK3]; · iexact FK3
  iexact FV3

end

end Cert.Kernel.Hand
-- ==== Proof.Frame.lean ====
/-
  The region's launch: what it holds on entry dealt out to the body, the body's run, and what the run leaves.
-/
module

public import proofs.«01_k».proof.Proof.Body
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Idealize.ShloMosaic.ValueIdx
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A pool's shares and a buffer's slots dealt out, and back -/

section Deal

variable (c : Dev nD) (M : Memref sig .tc .vmem S4x8x2x128x256 .fp8e4m3) (A : Memref sig .tc .hbm S512x2x128x256 .fp8e4m3)
  (S : DmaSems sig S4) (fA : Buf (Elt F) (A.view.loc (c : Thread nD τ)))

theorem drop_add (q : PosShare TreeShare) (m : ℕ) : ∀ n, Transfers.shareDrop (Transfers.shareDrop q m) n = Transfers.shareDrop q (m + n)
  | 0 => rfl
  | n + 1 => congrArg PosShare.left (drop_add q m n)

theorem toks_split (s : Fin 4) :
    (A.view.loc (c : Thread nD τ) ↦[A.view.set]{Transfers.shareDrop fullShare (8 * s.val)} fA : sProp 𝕄)
      ⊢ iprop((A.view.loc (c : Thread nD τ) ↦[A.view.set]{Transfers.shareDrop fullShare (8 * s.val + 8)} fA)
        ∗ bigSep Finset.univ (fun j : Fin 8 => A.view.loc (c : Thread nD τ) ↦[A.view.set]{tk s j} fA)) := by
  have h := Transfers.pointsTo_toks_split (Ix := Unit) (Name := ℕ) (U := Pipeline.UD sig nD τ) (Lvl := ℕ)
    (ℓ := A.view.loc (c : Thread nD τ)) (S := A.view.set) (f := fA) (Transfers.shareDrop fullShare (8 * s.val)) 8
  rw [drop_add] at h
  refine h.trans (Entails.of_eq ?_)
  congr 2
  funext j
  show _ = (A.view.loc (c : Thread nD τ) ↦[A.view.set]{Transfers.shareTokN fullShare (8 * s.val + j.val)} fA : sProp 𝕄)
  rw [show Transfers.shareTok (Transfers.shareDrop fullShare (8 * s.val)) 8 j = Transfers.shareTokN fullShare (8 * s.val + j.val) from
    congrArg PosShare.right (drop_add _ _ _)]

theorem toks_join (s : Fin 4) :
    iprop((A.view.loc (c : Thread nD τ) ↦[A.view.set]{Transfers.shareDrop fullShare (8 * s.val + 8)} fA)
        ∗ bigSep Finset.univ (fun j : Fin 8 => A.view.loc (c : Thread nD τ) ↦[A.view.set]{tk s j} fA))
      ⊢ (A.view.loc (c : Thread nD τ) ↦[A.view.set]{Transfers.shareDrop fullShare (8 * s.val)} fA : sProp 𝕄) := by
  have h := Transfers.pointsTo_toks_join (Ix := Unit) (Name := ℕ) (U := Pipeline.UD sig nD τ) (Lvl := ℕ)
    (ℓ := A.view.loc (c : Thread nD τ)) (S := A.view.set) (f := fA) (Transfers.shareDrop fullShare (8 * s.val)) 8
  rw [drop_add] at h
  refine (Entails.of_eq ?_).trans h
  congr 2
  funext j
  show (A.view.loc (c : Thread nD τ) ↦[A.view.set]{Transfers.shareTokN fullShare (8 * s.val + j.val)} fA : sProp 𝕄) = _
  rw [show Transfers.shareTok (Transfers.shareDrop fullShare (8 * s.val)) 8 j = Transfers.shareTokN fullShare (8 * s.val + j.val) from
    congrArg PosShare.right (drop_add _ _ _)]

theorem slots_split (f : Buf (Elt F) (M.view.loc (c : Thread nD τ))) :
    (M.view.loc (c : Thread nD τ) ↦[M.view.set]{fullShare} f : sProp 𝕄)
      = iprop((M.view.loc (c : Thread nD τ) ↦[slotSet c M 0]{fullShare} f) ∗ (M.view.loc (c : Thread nD τ) ↦[slotSet c M 1]{fullShare} f)
        ∗ (M.view.loc (c : Thread nD τ) ↦[slotSet c M 2]{fullShare} f) ∗ (M.view.loc (c : Thread nD τ) ↦[slotSet c M 3]{fullShare} f)) := by
  have e := (slots_univ c M).symm
  rw [e, pointsTo_biUnion Finset.univ (fun s => slotSet c M s) (fun s _ s' _ h => slot_disjoint c M h),
    bigSep_univ_eq_bigSepL [(0 : Fin 4), 1, 2, 3] (by decide) (by decide)]
  rfl

theorem slots_join :
    iprop((∃ f, M.view.loc (c : Thread nD τ) ↦[slotSet c M 0]{fullShare} f) ∗ (∃ f, M.view.loc (c : Thread nD τ) ↦[slotSet c M 1]{fullShare} f)
        ∗ (∃ f, M.view.loc (c : Thread nD τ) ↦[slotSet c M 2]{fullShare} f) ∗ (∃ f, M.view.loc (c : Thread nD τ) ↦[slotSet c M 3]{fullShare} f))
      ⊢ (iprop(∃ f, M.view.loc (c : Thread nD τ) ↦[M.view.set]{fullShare} f) : sProp 𝕄) := by
  iintro ⟨⟨%f0, H0⟩, ⟨%f1, H1⟩, ⟨%f2, H2⟩, ⟨%f3, H3⟩⟩
  have h := pointsTo_biUnion_join (Ix := Unit) (Val := Elt F) (Name := ℕ) (U := Pipeline.UD sig nD τ) (Lvl := ℕ) (q := fullShare)
    (ℓ := M.view.loc (c : Thread nD τ)) Finset.univ (fun s => slotSet c M s)
    (![f0, f1, f2, f3] : Fin 4 → Buf (Elt F) (M.view.loc (c : Thread nD τ))) f0 (fun s _ s' _ h => slot_disjoint c M h)
  rw [bigSep_univ_eq_bigSepL [(0 : Fin 4), 1, 2, 3] (by decide) (by decide), slots_univ] at h
  have h' : iprop((M.view.loc (c : Thread nD τ) ↦[slotSet c M 0]{fullShare} f0) ∗ (M.view.loc (c : Thread nD τ) ↦[slotSet c M 1]{fullShare} f1)
        ∗ (M.view.loc (c : Thread nD τ) ↦[slotSet c M 2]{fullShare} f2) ∗ (M.view.loc (c : Thread nD τ) ↦[slotSet c M 3]{fullShare} f3)) ⊢ _ := h
  ihave H := h' $$ [H0 H1 H2 H3]
  · isplitl [H0]; · iexact H0
    isplitl [H1]; · iexact H1
    isplitl [H2]; · iexact H2
    iexact H3
  icases H with ⟨%g, -, H⟩
  iexists g; iexact H

theorem frees_split :
    iprop((∃ f, M.view.loc (c : Thread nD τ) ↦[M.view.set]{fullShare} f)
      ∗ semVal ((c : Thread nD τ), SemLoc.dma (semP S 0)) 0 ∗ semVal ((c : Thread nD τ), SemLoc.dma (semP S 1)) 0
      ∗ semVal ((c : Thread nD τ), SemLoc.dma (semP S 2)) 0 ∗ semVal ((c : Thread nD τ), SemLoc.dma (semP S 3)) 0
      ∗ (A.view.loc (c : Thread nD τ) ↦[A.view.set]{fullShare} fA))
      ⊢ iprop(Free c M A S fA tk 0 ∗ Free c M A S fA tk 1 ∗ Free c M A S fA tk 2 ∗ Free c M A S fA tk 3
        ∗ (A.view.loc (c : Thread nD τ) ↦[A.view.set]{Transfers.shareDrop fullShare 32} fA) : sProp 𝕄) := by
  unfold Free
  iintro ⟨⟨%f, HM⟩, Hs0, Hs1, Hs2, Hs3, HA⟩
  ihave HM := (Entails.of_eq (slots_split c M f)) $$ HM
  icases HM with ⟨H0, H1, H2, H3⟩
  ihave HA := (show (A.view.loc (c : Thread nD τ) ↦[A.view.set]{fullShare} fA : sProp 𝕄) ⊢ _ from toks_split c A fA 0) $$ HA
  icases HA with ⟨HA, T0⟩
  ihave HA := (toks_split c A fA 1) $$ HA
  icases HA with ⟨HA, T1⟩
  ihave HA := (toks_split c A fA 2) $$ HA
  icases HA with ⟨HA, T2⟩
  ihave HA := (toks_split c A fA 3) $$ HA
  icases HA with ⟨HA, T3⟩
  isplitl [H0 Hs0 T0]
  · isplitl [H0]; · iexists f; iexact H0
    isplitl [Hs0] <;> iassumption
  isplitl [H1 Hs1 T1]
  · isplitl [H1]; · iexists f; iexact H1
    isplitl [Hs1] <;> iassumption
  isplitl [H2 Hs2 T2]
  · isplitl [H2]; · iexists f; iexact H2
    isplitl [Hs2] <;> iassumption
  isplitl [H3 Hs3 T3]
  · isplitl [H3]; · iexists f; iexact H3
    isplitl [Hs3] <;> iassumption
  iexact HA

theorem frees_join :
    iprop(Free c M A S fA tk 0 ∗ Free c M A S fA tk 1 ∗ Free c M A S fA tk 2 ∗ Free c M A S fA tk 3
        ∗ (A.view.loc (c : Thread nD τ) ↦[A.view.set]{Transfers.shareDrop fullShare 32} fA))
      ⊢ iprop((∃ f, M.view.loc (c : Thread nD τ) ↦[M.view.set]{fullShare} f)
      ∗ semVal ((c : Thread nD τ), SemLoc.dma (semP S 0)) 0 ∗ semVal ((c : Thread nD τ), SemLoc.dma (semP S 1)) 0
      ∗ semVal ((c : Thread nD τ), SemLoc.dma (semP S 2)) 0 ∗ semVal ((c : Thread nD τ), SemLoc.dma (semP S 3)) 0
      ∗ (A.view.loc (c : Thread nD τ) ↦[A.view.set]{fullShare} fA) : sProp 𝕄) := by
  unfold Free
  iintro ⟨⟨H0, Hs0, T0⟩, ⟨H1, Hs1, T1⟩, ⟨H2, Hs2, T2⟩, ⟨H3, Hs3, T3⟩, HA⟩
  isplitl [H0 H1 H2 H3]
  · iapply (slots_join c M)
    isplitl [H0]; · iexact H0
    isplitl [H1]; · iexact H1
    isplitl [H2]; · iexact H2
    iexact H3
  isplitl [Hs0]; · iexact Hs0
  isplitl [Hs1]; · iexact Hs1
  isplitl [Hs2]; · iexact Hs2
  isplitl [Hs3]; · iexact Hs3
  ihave HA := (toks_join c A fA 3) $$ [HA T3]
  · isplitl [HA] <;> iassumption
  ihave HA := (toks_join c A fA 2) $$ [HA T2]
  · isplitl [HA] <;> iassumption
  ihave HA := (toks_join c A fA 1) $$ [HA T1]
  · isplitl [HA] <;> iassumption
  iapply (toks_join c A fA 0)
  isplitl [HA] <;> iassumption

end Deal

theorem owns_own {sp : CoreSpace} {s : Shape} {e : EltTy} (c : Dev nD) (M : Memref sig .tc sp s e) (g : s.Idx → Elt F e) :
    (owns (c : Thread nD τ) M fullShare g : sProp 𝕄) = Own c M g := rfl

theorem own_open {sp : CoreSpace} {s : Shape} {e : EltTy} (c : Dev nD) (M : Memref sig .tc sp s e) (g : s.Idx → Elt F e) :
    (Own c M g : sProp 𝕄) ⊢ iprop(∃ f, ⌜M.view.read (Elt F) f = g⌝ ∗ M.view.loc (c : Thread nD τ) ↦[M.view.set]{fullShare} f) := .rfl

theorem own_close {sp : CoreSpace} {s : Shape} {e : EltTy} (c : Dev nD) (M : Memref sig .tc sp s e) {g : s.Idx → Elt F e}
    (f : Buf (Elt F) (M.view.loc (c : Thread nD τ))) (h : M.view.read (Elt F) f = g) :
    (M.view.loc (c : Thread nD τ) ↦[M.view.set]{fullShare} f : sProp 𝕄) ⊢ Own c M g := by
  unfold Own
  iintro H; iexists f; isplitr; · ipureintro; exact h
  iexact H

/-! ## The first result does not depend on what the buffer held -/

theorem upd_hit {s : Shape} {V : Type} (r : Rect s) (w : r.shape.Idx → V) (g g' : s.Idx → V) (j : s.Idx) (h : ∃ i, r.emb i = j) :
    upd r w g j = upd r w g' j := by
  unfold upd; rw [dif_pos h, dif_pos h]
theorem upd_next {s : Shape} {V : Type} (r : Rect s) (w : r.shape.Idx → V) (g g' : s.Idx → V) (j : s.Idx) (h : g j = g' j) :
    upd r w g j = upd r w g' j := by
  unfold upd; rw [h]

theorem row_hit (o : ℕ) (inb : ∀ a, (![o, 0] : Fin 2 → ℕ) a + S16x256.size a ≤ S128x256.size a) (j : S128x256.Idx)
    (h : o ≤ (j 0).val) (h' : (j 0).val < o + 16) :
    ∃ i, (Rect.unit (s := S128x256) ![o, 0] S16x256.size inb).emb i = j := by
  refine ⟨ix2 ⟨(j 0).val - o, by omega⟩ ⟨(j 1).val, (j 1).isLt⟩, ?_⟩
  funext a
  match a with
  | ⟨0, _⟩ => exact Fin.ext (by show o + 1 * ((j 0).val - o) = (j 0).val; omega)
  | ⟨1, _⟩ => exact Fin.ext (by show 0 + 1 * (j 1).val = (j 1).val; omega)

theorem yOver_indep (s : St F) (g g' : S128x256.Idx → F .bf16) : yOver s g = yOver s g' := by
  funext j
  unfold yOver
  have hj : (j 0).val < 128 := (j 0).isLt
  by_cases h7 : 112 ≤ (j 0).val
  · exact upd_hit _ _ _ _ _ (row_hit 112 _ j h7 (by omega))
  apply upd_next
  by_cases h5 : 80 ≤ (j 0).val ∧ (j 0).val < 96
  · exact upd_hit _ _ _ _ _ (row_hit 80 _ j h5.1 h5.2)
  apply upd_next
  by_cases h3 : 48 ≤ (j 0).val ∧ (j 0).val < 64
  · exact upd_hit _ _ _ _ _ (row_hit 48 _ j h3.1 h3.2)
  apply upd_next
  by_cases h1 : 16 ≤ (j 0).val ∧ (j 0).val < 32
  · exact upd_hit _ _ _ _ _ (row_hit 16 _ j h1.1 h1.2)
  apply upd_next
  by_cases h6 : 96 ≤ (j 0).val
  · exact upd_hit _ _ _ _ _ (row_hit 96 _ j h6 (by omega))
  apply upd_next
  by_cases h4 : 64 ≤ (j 0).val
  · exact upd_hit _ _ _ _ _ (row_hit 64 _ j h4 (by omega))
  apply upd_next
  by_cases h2 : 32 ≤ (j 0).val
  · exact upd_hit _ _ _ _ _ (row_hit 32 _ j h2 (by omega))
  apply upd_next
  exact upd_hit _ _ _ _ _ (row_hit 0 _ j (by omega) (by omega))

/-! ## The region's proof data -/

variable (m : (ℓ : Loc nD τ sig) → Buf (Elt F) ℓ) (ρ : Dev nD → PrngReg)

/-- The eight cells of the two rings. -/
abbrev osem0 : Fin 8 → SemLoc sig := fun j => (![SemLoc.dma 10, SemLoc.dma 11, SemLoc.dma 12, SemLoc.dma 13, SemLoc.dma 14, SemLoc.dma 15, SemLoc.dma 16, SemLoc.dma 17] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semP cc0_scratch5 0)) 0 ∗ semVal ((c : Thread nD τ), SemLoc.dma (semP cc0_scratch5 1)) 0
          ∗ semVal ((c : Thread nD τ), SemLoc.dma (semP cc0_scratch5 2)) 0 ∗ semVal ((c : Thread nD τ), SemLoc.dma (semP cc0_scratch5 3)) 0
          ∗ semVal ((c : Thread nD τ), SemLoc.dma (semP cc0_scratch6 0)) 0 ∗ semVal ((c : Thread nD τ), SemLoc.dma (semP cc0_scratch6 1)) 0
          ∗ semVal ((c : Thread nD τ), SemLoc.dma (semP cc0_scratch6 2)) 0 ∗ semVal ((c : Thread nD τ), SemLoc.dma (semP cc0_scratch6 3)) 0) := by
  rw [Pipeline.ownSems0_eq_of_list c osem0 [0, 1, 2, 3, 4, 5, 6, 7] (by decide) (by decide)]; rfl

/-- The two pools the body's transfers read. -/
def H0 : Finset (Ref sig .tc) := {main_v4, main_v5}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v4) ↦{fullShare} V m c main_v4) ∗ (((c : Thread nD τ).loc main_v5) ↦{fullShare} V m c main_v5)) := by
  rw [BI.bigSep_eq_bigSepL_of_eq [main_v4, main_v5] (by decide) (by decide)]; rfl

abbrev A7 : Memref sig .tc .hbm S512x2x128x256 .fp8e4m3 := Memref.whole main_v4
abbrev A8 : Memref sig .tc .hbm S512x2x128x256 .fp8e4m3 := Memref.whole main_v5
abbrev M12 : Memref sig .tc .vmem S4x8x2x128x256 .fp8e4m3 := Memref.whole cc0_scratch0
abbrev M13 : Memref sig .tc .vmem S4x8x2x128x256 .fp8e4m3 := Memref.whole cc0_scratch1

theorem whole_pt {sp : CoreSpace} {s : Shape} {e : EltTy} (c : Dev nD) (b : Ref sig .tc) (q : PosShare TreeShare) (f : Buf (Elt F) ((c : Thread nD τ).loc b)) :
    ((c : Thread nD τ).loc b ↦{q} f : sProp 𝕄)
      = ((Memref.whole b).view.loc (c : Thread nD τ) ↦[(Memref.whole b).view.set]{q} f) := by
  rw [show (Memref.whole b).view.set = Finset.univ from View.set_whole b]

/-- The state the body ends in, from the arrays the region finds. -/
noncomputable def resAt (c : Dev nD) (t : Fin cfg0.N) : St F :=
  resSt (iblk m c 0 t (ix1 0)) (iblk m c 2 t) (iblk m c 3 t) (iblk m c 4 t) (iblk m c 5 t) (iblk m c 6 t)
    (fun b h => kv (A7.view.read (Elt F) (V m c main_v4)) (iblk m c 1 t) b h)
    (fun b h => kv (A8.view.read (Elt F) (V m c main_v5)) (iblk m c 1 t) b h)

noncomputable def yAt (c : Dev nD) (t : Fin cfg0.N) : S128x256.Idx → F .bf16 := yOver (resAt m c t) (fun _ => FloatOps.ofBits (F := F) .bf16 0#16)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => kCodes (iblk m c 2 t) (iblk m c 5 t)
    | ⟨9, _⟩ => vCodes (iblk m c 3 t) (iblk m c 6 t)
    | ⟨_ + 10, h⟩ => absurd h (Nat.not_lt.2 (Nat.le_add_left 10 _))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = yAt m c t := by dsimp only [dats]
theorem after0_8 (c : Dev nD) (t : Fin cfg0.N) : (dats m 0 c).after 8 t = kCodes (iblk m c 2 t) (iblk m c 5 t) := by dsimp only [dats]
theorem after0_9 (c : Dev nD) (t : Fin cfg0.N) : (dats m 0 c).after 9 t = vCodes (iblk m c 3 t) (iblk m c 6 t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem PhiD0_eq (c : Dev nD) :
    (Pipeline.ΦD osem0 spec0 H0 (V m) c : sProp 𝕄)
      = iprop(iprop((∃ f, M12.view.loc (c : Thread nD τ) ↦[M12.view.set]{fullShare} f) ∗ (∃ f, M13.view.loc (c : Thread nD τ) ↦[M13.view.set]{fullShare} f)
                ∗ (∃ d, owns (c : Thread nD τ) (Memref.whole cc0_scratch2) fullShare d) ∗ (∃ d, owns (c : Thread nD τ) (Memref.whole cc0_scratch3) fullShare d)
                ∗ (∃ d, owns (c : Thread nD τ) (Memref.whole cc0_scratch4) fullShare d))
          ∗ (∃ r, prngReg c r)
          ∗ iprop(semVal ((c : Thread nD τ), SemLoc.dma (semP cc0_scratch5 0)) 0 ∗ semVal ((c : Thread nD τ), SemLoc.dma (semP cc0_scratch5 1)) 0
          ∗ semVal ((c : Thread nD τ), SemLoc.dma (semP cc0_scratch5 2)) 0 ∗ semVal ((c : Thread nD τ), SemLoc.dma (semP cc0_scratch5 3)) 0
          ∗ semVal ((c : Thread nD τ), SemLoc.dma (semP cc0_scratch6 0)) 0 ∗ semVal ((c : Thread nD τ), SemLoc.dma (semP cc0_scratch6 1)) 0
          ∗ semVal ((c : Thread nD τ), SemLoc.dma (semP cc0_scratch6 2)) 0 ∗ semVal ((c : Thread nD τ), SemLoc.dma (semP cc0_scratch6 3)) 0)
          ∗ iprop((A7.view.loc (c : Thread nD τ) ↦[A7.view.set]{fullShare} V m c main_v4) ∗ (A8.view.loc (c : Thread nD τ) ↦[A8.view.set]{fullShare} V m c main_v5))) := by
  rw [Pipeline.ΦD_eq, scopedRest0_eq, ownSems00_eq, hbmPts0_eq]
  simp only [owns_whole]
  rw [show M12.view.set = Finset.univ from View.set_whole _, show M13.view.set = Finset.univ from View.set_whole _,
    show A7.view.set = Finset.univ from View.set_whole _, show A8.view.set = Finset.univ from View.set_whole _]
  try rfl

set_option maxHeartbeats 1600000 in
theorem sound_body (c : Dev nD) (t : Fin cfg0.N) (hv : (iblk m c 0 t (ix1 0) : BitVec 32).toNat ≤ 65532)
    (hT : ∀ i : S512.Idx, (iblk m c 1 t i : BitVec 32).toNat < 512) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [before0_0, before0_1, before0_2, before0_3, before0_4, before0_5, before0_6]
  rw [after0_0, after0_1, after0_2, after0_3, after0_4, after0_5, after0_6, after0_7, after0_8, after0_9]
  simp only [owns_own]
  iintro ⟨⟨⟨HM0, HM1, ⟨%g14, HS2⟩, ⟨%g15, HS3⟩, ⟨%g16, HS4⟩⟩, Hg, ⟨Hq0, Hq1, Hq2, Hq3, Hr0, Hr1, Hr2, Hr3⟩, ⟨HA7, HA8⟩⟩, ⟨%W, -, HW⟩,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HFK := (frees_split c M12 A7 cc0_scratch5 (V m c main_v4)) $$ [HM0 Hq0 Hq1 Hq2 Hq3 HA7]
  · isplitl [HM0]; · iexact HM0
    isplitl [Hq0]; · iexact Hq0
    isplitl [Hq1]; · iexact Hq1
    isplitl [Hq2]; · iexact Hq2
    isplitl [Hq3]; · iexact Hq3
    iexact HA7
  ihave HFV := (frees_split c M13 A8 cc0_scratch6 (V m c main_v5)) $$ [HM1 Hr0 Hr1 Hr2 Hr3 HA8]
  · isplitl [HM1]; · iexact HM1
    isplitl [Hr0]; · iexact Hr0
    isplitl [Hr1]; · iexact Hr1
    isplitl [Hr2]; · iexact Hr2
    isplitl [Hr3]; · iexact Hr3
    iexact HA8
  icases HFK with ⟨FK0, FK1, FK2, FK3, HA7⟩
  icases HFV with ⟨FV0, FV1, FV2, FV3, HA8⟩
  ihave H1 := (own_open c (st0_1 t) (iblk m c 1 t)) $$ H1
  icases H1 with ⟨%fT, %eT, H1⟩
  have hT' : ∀ i : S512.Idx, BitVec.toNat (w := 32) ((st0_1 t).view.read (Elt F) fT i) < 512 := fun i => by rw [eT]; exact hT i
  iapply (body_run (F := F) c (st0_0 t) _ (st0_1 t) _ (st0_2 t) _ (st0_3 t) _ (st0_4 t) _ (st0_5 t) _ (st0_6 t) _
      A7 _ A8 _ (st0_7 t) _ (st0_8 t) _ (st0_9 t) _ M12 _ M13 _ (Memref.whole cc0_scratch2) _ (Memref.whole cc0_scratch3) _ (Memref.whole cc0_scratch4) _
      cc0_scratch5 cc0_scratch6 (fT := fT) (fA7 := V m c main_v4) (fA8 := V m c main_v5)
      (g0 := iblk m c 0 t) (g2 := iblk m c 2 t) (g3 := iblk m c 3 t) (g4 := iblk m c 4 t) (g5 := iblk m c 5 t) (g6 := iblk m c 6 t)
      (g9 := (dats m 0 c).before 7 t d7) (g10 := (dats m 0 c).before 8 t d8) (g11 := (dats m 0 c).before 9 t d9) (g14 := g14) (g15 := g15) (g16 := g16) hv hT') $$ [H0 H1 H2 H3 H4 H5 H6 H7 H8 H9 HS2 HS3 HS4 HW FK0 FK1 FK2 FK3 FV0 FV1 FV2 FV3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS2]; · iexact HS2
    isplitl [HS3]; · iexact HS3
    isplitl [HS4]; · iexact HS4
    isplitl [HW]; · iexists W; iexact HW
    isplitl [FK0]; · iexact FK0
    isplitl [FV0]; · iexact FV0
    isplitl [FK1]; · iexact FK1
    isplitl [FV1]; · iexact FV1
    isplitl [FK2]; · iexact FK2
    isplitl [FV2]; · iexact FV2
    isplitl [FK3]; · iexact FK3
    iexact FV3
  rw [eT, yOver_indep _ _ (fun _ => FloatOps.ofBits (F := F) .bf16 0#16)]
  iintro ⟨H0, H1, H2, H3, H4, H5, H6, H7, H8, H9, HS2, HS3, HS4, ⟨%W', HW⟩, FK0, FV0, FK1, FV1, FK2, FV2, FK3, FV3⟩
  ihave HK := (frees_join c M12 A7 cc0_scratch5 (V m c main_v4)) $$ [FK0 FK1 FK2 FK3 HA7]
  · isplitl [FK0]; · iexact FK0
    isplitl [FK1]; · iexact FK1
    isplitl [FK2]; · iexact FK2
    isplitl [FK3]; · iexact FK3
    iexact HA7
  ihave HV := (frees_join c M13 A8 cc0_scratch6 (V m c main_v5)) $$ [FV0 FV1 FV2 FV3 HA8]
  · isplitl [FV0]; · iexact FV0
    isplitl [FV1]; · iexact FV1
    isplitl [FV2]; · iexact FV2
    isplitl [FV3]; · iexact FV3
    iexact HA8
  icases HK with ⟨HM0, Hq0, Hq1, Hq2, Hq3, HA7⟩
  icases HV with ⟨HM1, Hr0, Hr1, Hr2, Hr3, HA8⟩
  isplitl [HM0 HM1 HS2 HS3 HS4 Hg Hq0 Hq1 Hq2 Hq3 Hr0 Hr1 Hr2 Hr3 HA7 HA8]
  · isplitl [HM0 HM1 HS2 HS3 HS4]
    · isplitl [HM0]; · iexact HM0
      isplitl [HM1]; · iexact HM1
      isplitl [HS2]; · iexists _; iexact HS2
      isplitl [HS3]; · iexists _; iexact HS3
      iexists _; iexact HS4
    isplitl [Hg]; · iexact Hg
    isplitl [Hq0 Hq1 Hq2 Hq3 Hr0 Hr1 Hr2 Hr3]
    · isplitl [Hq0]; · iexact Hq0
      isplitl [Hq1]; · iexact Hq1
      isplitl [Hq2]; · iexact Hq2
      isplitl [Hq3]; · iexact Hq3
      isplitl [Hr0]; · iexact Hr0
      isplitl [Hr1]; · iexact Hr1
      isplitl [Hr2]; · iexact Hr2
      iexact Hr3
    isplitl [HA7]; · iexact HA7
    iexact HA8
  isplitl [HW]
  · iexists W'; isplitr; · ipureintro; exact fun _ _ => Or.inl trivial
    iexact HW
  isplitl [H0]; · iexact H0
  isplitl [H1]; · iapply (own_close c (st0_1 t) fT eT); iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- What the region's arrays must hold: a length and page numbers the body's checks pass. -/
def Good : Prop := ∀ (c : Dev nD) (t : Fin cfg0.N), (iblk m c 0 t (ix1 0) : BitVec 32).toNat ≤ 65532
  ∧ ∀ i : S512.Idx, (iblk m c 1 t i : BitVec 32).toNat < 512

theorem body_obligation (hg : Good m) (c : Dev nD) : BodyObligation (dats (F := F) m 0 c) (defs₀ (F := F)) Variants.none () Set.univ := fun t => by
  rw [bigSep_W0, bigSep_W0, defs₀_row]
  exact triple_restated (sound_body m c t (hg c t).1 (hg c t).2) rfl .rfl fun _ => .rfl

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main (hg : Good m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hg c).loose) (hshare := fun c => (dats m 0 c).share_full fun _ => rfl)
    (howed := fun _ _ => rfl) (V := V m) (hmain := hmainD m Variants.none) (hA := A_eq m)
    (hin := fun _ => .rfl) (hout := fun _ => .rfl)

theorem args_of {r} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).2 main_arg7 (Pipeline.mem_restRefs_of main_arg7 (by decide) (by decide))).trans (V_main_arg7 m c),
      ((h c).1 0).trans (((dats m 0 c).arrAt_in 0 rfl _).trans ((A_eq m c 0).trans (V_main_arg8 m c)))⟩

/-- The run leaves every argument as it was. -/
theorem frame (hg : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => args_of m h.1 c, h.2⟩) (run_main m ρ hg)

end Cert.Kernel.Hand

end
-- ==== Proof.Blocks.lean ====
/-
  The arrays the region finds: each window's block is its whole array, and the host's reshapes and transposes.
-/
module

public import proofs.«01_k».proof.Proof.Frame
public import proofs.«01_k».proof.Proof.Pre
public import Idealize.ShloMosaic.Lib.Pipeline.ValueKit

@[expose] public section

noncomputable section

namespace Cert.Kernel.Hand

open Cert.Kernel Cert.Kernel.Gen
open Idealize.ShloMosaic Idealize.ShloMosaic.TcCoe Idealize.ShloMosaic.Tactic
open Idealize.ShloMosaic.ValueIdx
open Idealize.ShloMosaic.StableHlo

variable {F : FTy → Type} [FloatOps F]
variable (m : (ℓ : Loc nD τ sig) → Buf (Elt F) ℓ) (c : Dev nD) (t : Fin cfg0.N)

theorem idx : ∀ t : Fin cfg0.N, win0_0.index t = ![0] ∧ win0_1.index t = ![0] ∧ win0_2.index t = ![0] ∧ win0_3.index t = ![0]
    ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem blk0 : iblk m c 0 t = m ((c : Thread nD τ).loc main_arg8) := by
  rw [fin_N0 t, ← V_main_arg8 m c]; blk_ext! [iblk, idx t0_0]
theorem V_v0 : V m c main_v0 = shapeCast S512 (m ((c : Thread nD τ).loc main_arg7)) shapeCasts_S1x512_S512 := by
  unfold_abbrev_sides; after_results; rfl
theorem V_v1 : V m c main_v1 = shapeCast S128x256 (m ((c : Thread nD τ).loc main_arg0)) shapeCasts_S1x4x8192_S128x256 := by
  unfold_abbrev_sides; after_results; rfl
theorem V_v2 : V m c main_v2 = shapeCast S8x256 (m ((c : Thread nD τ).loc main_arg1)) shapeCasts_S1x4x2x256_S8x256 := by
  unfold_abbrev_sides; after_results; rfl
theorem V_v3 : V m c main_v3 = shapeCast S8x256 (m ((c : Thread nD τ).loc main_arg2)) shapeCasts_S1x4x2x256_S8x256 := by
  unfold_abbrev_sides; after_results; rfl
theorem V_v4 : V m c main_v4 = transpose S512x2x128x256 [0, 2, 1, 3] (m ((c : Thread nD τ).loc main_arg3)) transposes_S512x128x2x256_S512x2x128x256_0_2_1_3 := by
  unfold_abbrev_sides; after_results
theorem V_v5 : V m c main_v5 = transpose S512x2x128x256 [0, 2, 1, 3] (m ((c : Thread nD τ).loc main_arg4)) transposes_S512x128x2x256_S512x2x128x256_0_2_1_3 := by
  unfold_abbrev_sides; after_results
theorem blk1 : iblk m c 1 t = V m c main_v0 := by rw [fin_N0 t]; blk_ext! [iblk, idx t0_0]
theorem blk2 : iblk m c 2 t = m ((c : Thread nD τ).loc main_arg5) := by
  rw [fin_N0 t, ← V_main_arg5 m c]; blk_ext! [iblk, idx t0_0]
theorem blk3 : iblk m c 3 t = m ((c : Thread nD τ).loc main_arg6) := by
  rw [fin_N0 t, ← V_main_arg6 m c]; blk_ext! [iblk, idx t0_0]
theorem blk4 : iblk m c 4 t = V m c main_v1 := by rw [fin_N0 t]; blk_ext! [iblk, idx t0_0]
theorem blk5 : iblk m c 5 t = V m c main_v2 := by rw [fin_N0 t]; blk_ext! [iblk, idx t0_0]
theorem blk6 : iblk m c 6 t = V m c main_v3 := by rw [fin_N0 t]; blk_ext! [iblk, idx t0_0]

theorem good_of (h7 : ∀ c : Dev nD, ∀ i : S1x512.Idx, BitVec.toNat (w := 32) (m ((c : Thread nD τ).loc main_arg7) i) < 512)
    (h8 : ∀ c : Dev nD, ∀ i : S1.Idx, BitVec.toNat (w := 32) (m ((c : Thread nD τ).loc main_arg8) i) ≤ 65532) : Good m := by
  intro c t
  rw [blk0, blk1, V_v0]
  exact ⟨h8 c _, fun i => h7 c _⟩

end Cert.Kernel.Hand

end
-- ==== Proof.lean ====
/- The claims of `Cert.Claim`: the kernel and the reference run to an end and leave their arguments as they were; the
   kernel read at the extended reals is the kernel as printed; and, its table's pages being distinct, it leaves in every
   result what the reference leaves. -/
module

public import proofs.«01_k».proof.Proof.Distinct
public import proofs.«01_k».proof.Proof.Tie
public import proofs.«01_k».proof.Proof.Gen.Pre_distinct_pages
public import proofs.«01_k».proof.Defs
public import proofs.«01_k».proof.Proof.Blocks
public import proofs.«01_k».proof.Proof.Ideal.Blocks
public import proofs.«01_k».proof.Proof.Gen.ReferenceIdeal.Frame

@[expose] public section

noncomputable section

namespace Cert.Proof

open Idealize.ShloMosaic Idealize.ShloMosaic.TcCoe

section

variable (m : (ℓ : Loc Cert.KernelIdeal.nD Cert.KernelIdeal.τ Cert.KernelIdeal.sig) → Buf (Elt Ideal) ℓ)

/-- What the kernel asks of its page table and sequence length. -/
theorem good (h : Pre_KernelIdeal_distinct_pages (hPre_distinct_pages := Cert.Pre_distinct_pages.Gen.facts) m) : Cert.KernelIdeal.Hand.Good m :=
  Cert.KernelIdeal.Hand.good_of m (fun c => (Cert.Hand.distinct_good (h c)).1.1) fun c => (Cert.Hand.distinct_good (h c)).1.2

/-- The kernel's results are the reference's. -/
theorem results : algebraic_KernelIdeal_ReferenceIdeal_pre_distinct_pages (hKernelIdeal := Cert.KernelIdeal.Gen.facts) (hReferenceIdeal := Cert.ReferenceIdeal.Gen.facts)
    (hPre_distinct_pages := Cert.Pre_distinct_pages.Gen.facts) := by
  intro m g m' g' h e
  refine ⟨fun c => Cert.KernelIdeal.Hand.yAt m c Cert.KernelIdeal.Gen.t0_0,
    fun c => Cert.KernelIdeal.Hand.kCodes (F := Ideal) (m ((c.tc : Thread Cert.KernelIdeal.nD Cert.KernelIdeal.τ).loc Cert.KernelIdeal.main_arg5)) (Cert.KernelIdeal.Hand.aK m c),
    fun c => m ((c.tc : Thread Cert.KernelIdeal.nD Cert.KernelIdeal.τ).loc Cert.KernelIdeal.main_arg5),
    fun c => Cert.KernelIdeal.Hand.vCodes (F := Ideal) (m ((c.tc : Thread Cert.KernelIdeal.nD Cert.KernelIdeal.τ).loc Cert.KernelIdeal.main_arg6)) (Cert.KernelIdeal.Hand.aV m c),
    fun c => m ((c.tc : Thread Cert.KernelIdeal.nD Cert.KernelIdeal.τ).loc Cert.KernelIdeal.main_arg6), ?_, ?_⟩
  · refine (θ_run _ _ _).mono (fun r hr c => ?_) (Cert.KernelIdeal.Hand.run_main m g (good m h))
    have a := Cert.KernelIdeal.Hand.args_of m hr.1 c
    exact ⟨(((hr.1 c).1 7).trans (Cert.KernelIdeal.Hand.arr7 m c)), (((hr.1 c).1 8).trans (Cert.KernelIdeal.Hand.arr8 m c)), a.2.2.2.2.2.1,
      (((hr.1 c).1 9).trans (Cert.KernelIdeal.Hand.arr9 m c)), a.2.2.2.2.2.2.1, a⟩
  · refine (θ_run _ _ _).mono (fun r hr c => ?_) (Cert.ReferenceIdeal.Value.run m' g')
    obtain ⟨r1, r2, r3, r4, r5, a⟩ := hr c
    obtain ⟨e0, e1, e2, e3, e4, e5, e6, e7, e8⟩ := e c
    have k := Cert.Hand.distinct_good (h c)
    refine ⟨?_, ?_, r3.trans e5, ?_, r5.trans e6, a⟩
    · refine r1.trans ((Cert.ReferenceIdeal.Read.val_main_v81_eq (Cert.ReferenceIdeal.Value.exitV m' c)).trans ?_)
      rw [Cert.ReferenceIdeal.Value.exit_main_arg0, Cert.ReferenceIdeal.Value.exit_main_arg7, Cert.ReferenceIdeal.Value.exit_main_arg8,
        Cert.ReferenceIdeal.Value.exit_main_v0_2, Cert.ReferenceIdeal.Value.exit_main_v0_3, Cert.ReferenceIdeal.Value.exit_main_v0_4, Cert.ReferenceIdeal.Value.exit_main_v0_5,
        e0, e7, e8]
      exact Cert.Hand.y_tie m m' c _ _ _ rfl rfl rfl e1 e2 e3 e4 e5 e6 k.1.1 (k.1.2 _) k.2
    · refine r2.trans ?_
      rw [Cert.ReferenceIdeal.Value.exit_main_v0_0]
      exact Cert.Hand.k_tie m m' c e1 e5
    · refine r4.trans ?_
      rw [Cert.ReferenceIdeal.Value.exit_main_v0_1]
      exact Cert.Hand.v_tie m m' c e2 e6

end

theorem claim : Cert.Claim :=
  ⟨Cert.Kernel.Gen.facts, Cert.KernelIdeal.Gen.facts, Cert.ReferenceIdeal.Gen.facts, Cert.Pre_in_range.Gen.facts, Cert.Pre_distinct_pages.Gen.facts,
    fun m g h => Cert.Kernel.Hand.frame m g (Cert.Kernel.Hand.good_of m (fun c => (Cert.Hand.in_range_good (h c)).1) fun c => (Cert.Hand.in_range_good (h c)).2),
    fun m g h => Cert.KernelIdeal.Hand.frame m g (Cert.KernelIdeal.Hand.good_of m (fun c => (Cert.Hand.in_range_good (h c)).1) fun c => (Cert.Hand.in_range_good (h c)).2),
    fun m g h => Cert.KernelIdeal.Hand.frame m g (good m h),
    fun m g _ => Cert.ReferenceIdeal.Gen.frame m g,
    fun m g _ => Cert.ReferenceIdeal.Gen.frame m g,
    trivial,
    results⟩

end Cert.Proof

end
